-- ==== Defs.lean ====
def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Moe (m : (ℓ : Loc Cert.Moe.nD Cert.Moe.τ Cert.Moe.sig) → Buf (Elt Bits) ℓ) : Prop :=
  True

def Pre_MoeIdeal (m : (ℓ : Loc Cert.MoeIdeal.nD Cert.MoeIdeal.τ Cert.MoeIdeal.sig) → Buf (Elt Ideal) ℓ) : Prop :=
  True

def Pre_MoeRefIdeal (m : (ℓ : Loc Cert.MoeRefIdeal.nD Cert.MoeRefIdeal.τ Cert.MoeRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Route (m : (ℓ : Loc Cert.Route.nD Cert.Route.τ Cert.Route.sig) → Buf (Elt Bits) ℓ) : Prop :=
  True

def Pre_RouteIdeal (m : (ℓ : Loc Cert.RouteIdeal.nD Cert.RouteIdeal.τ Cert.RouteIdeal.sig) → Buf (Elt Ideal) ℓ) : Prop :=
  True

def Pre_RouteRefIdeal (m : (ℓ : Loc Cert.RouteRefIdeal.nD Cert.RouteRefIdeal.τ Cert.RouteRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0)

def quiescent_Moe [hMoe : Cert.Moe.Facts] : Prop :=
  ∀ (m : (ℓ : Loc Cert.Moe.nD Cert.Moe.τ Cert.Moe.sig) → Buf (Elt Bits) ℓ) (g : Dev Cert.Moe.nD → PrngReg), Pre_Moe m →
    θ_run (Cert.Moe.defs (F := Bits)) (onTc (τ := Cert.Moe.τ) (Cert.Moe.main (F := Bits))) ⟨m, fun _ => 0, g⟩ (fun r => (∀ c : Dev Cert.Moe.nD,
      r.2.mem ((c.tc : Thread Cert.Moe.nD Cert.Moe.τ).loc Cert.Moe.main_arg0) = m ((c.tc : Thread Cert.Moe.nD Cert.Moe.τ).loc Cert.Moe.main_arg0)
      ∧ r.2.mem ((c.tc : Thread Cert.Moe.nD Cert.Moe.τ).loc Cert.Moe.main_arg1) = m ((c.tc : Thread Cert.Moe.nD Cert.Moe.τ).loc Cert.Moe.main_arg1)
      ∧ r.2.mem ((c.tc : Thread Cert.Moe.nD Cert.Moe.τ).loc Cert.Moe.main_arg2) = m ((c.tc : Thread Cert.Moe.nD Cert.Moe.τ).loc Cert.Moe.main_arg2)
      ∧ r.2.mem ((c.tc : Thread Cert.Moe.nD Cert.Moe.τ).loc Cert.Moe.main_arg3) = m ((c.tc : Thread Cert.Moe.nD Cert.Moe.τ).loc Cert.Moe.main_arg3))
      ∧ r.2.sem = fun _ => 0)

def quiescent_MoeIdeal [hMoeIdeal : Cert.MoeIdeal.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3))
      ∧ r.2.sem = fun _ => 0)

def quiescent_MoeRefIdeal [hMoeRefIdeal : Cert.MoeRefIdeal.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5)
      ∧ r.2.mem ((c.tc : Thread Cert.Out.nD Cert.Out.τ).loc Cert.Out.main_arg6) = m ((c.tc : Thread Cert.Out.nD Cert.Out.τ).loc Cert.Out.main_arg6))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
      ∧ r.2.mem ((c.tc : Thread Cert.OutIdeal.nD Cert.OutIdeal.τ).loc Cert.OutIdeal.main_arg6) = m ((c.tc : Thread Cert.OutIdeal.nD Cert.OutIdeal.τ).loc Cert.OutIdeal.main_arg6))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5)
      ∧ r.2.mem ((c.tc : Thread Cert.OutRefIdeal.nD Cert.OutRefIdeal.τ).loc Cert.OutRefIdeal.main_arg6) = m ((c.tc : Thread Cert.OutRefIdeal.nD Cert.OutRefIdeal.τ).loc Cert.OutRefIdeal.main_arg6))
      ∧ r.2.sem = fun _ => 0)

def quiescent_Route [hRoute : Cert.Route.Facts] : Prop :=
  ∀ (m : (ℓ : Loc Cert.Route.nD Cert.Route.τ Cert.Route.sig) → Buf (Elt Bits) ℓ) (g : Dev Cert.Route.nD → PrngReg), Pre_Route m →
    θ_run (Cert.Route.defs (F := Bits)) (onTc (τ := Cert.Route.τ) (Cert.Route.main (F := Bits))) ⟨m, fun _ => 0, g⟩ (fun r => (∀ c : Dev Cert.Route.nD,
      r.2.mem ((c.tc : Thread Cert.Route.nD Cert.Route.τ).loc Cert.Route.main_arg0) = m ((c.tc : Thread Cert.Route.nD Cert.Route.τ).loc Cert.Route.main_arg0)
      ∧ r.2.mem ((c.tc : Thread Cert.Route.nD Cert.Route.τ).loc Cert.Route.main_arg1) = m ((c.tc : Thread Cert.Route.nD Cert.Route.τ).loc Cert.Route.main_arg1)
      ∧ r.2.mem ((c.tc : Thread Cert.Route.nD Cert.Route.τ).loc Cert.Route.main_arg2) = m ((c.tc : Thread Cert.Route.nD Cert.Route.τ).loc Cert.Route.main_arg2)
      ∧ r.2.mem ((c.tc : Thread Cert.Route.nD Cert.Route.τ).loc Cert.Route.main_arg3) = m ((c.tc : Thread Cert.Route.nD Cert.Route.τ).loc Cert.Route.main_arg3)
      ∧ r.2.mem ((c.tc : Thread Cert.Route.nD Cert.Route.τ).loc Cert.Route.main_arg4) = m ((c.tc : Thread Cert.Route.nD Cert.Route.τ).loc Cert.Route.main_arg4)
      ∧ r.2.mem ((c.tc : Thread Cert.Route.nD Cert.Route.τ).loc Cert.Route.main_arg5) = m ((c.tc : Thread Cert.Route.nD Cert.Route.τ).loc Cert.Route.main_arg5))
      ∧ r.2.sem = fun _ => 0)

def quiescent_RouteIdeal [hRouteIdeal : Cert.RouteIdeal.Facts] : Prop :=
  ∀ (m : (ℓ : Loc Cert.RouteIdeal.nD Cert.RouteIdeal.τ Cert.RouteIdeal.sig) → Buf (Elt Ideal) ℓ) (g : Dev Cert.RouteIdeal.nD → PrngReg), Pre_RouteIdeal m →
    θ_run (Cert.RouteIdeal.defs (F := Ideal)) (onTc (τ := Cert.RouteIdeal.τ) (Cert.RouteIdeal.main (F := Ideal))) ⟨m, fun _ => 0, g⟩ (fun r => (∀ c : Dev Cert.RouteIdeal.nD,
      r.2.mem ((c.tc : Thread Cert.RouteIdeal.nD Cert.RouteIdeal.τ).loc Cert.RouteIdeal.main_arg0) = m ((c.tc : Thread Cert.RouteIdeal.nD Cert.RouteIdeal.τ).loc Cert.RouteIdeal.main_arg0)
      ∧ r.2.mem ((c.tc : Thread Cert.RouteIdeal.nD Cert.RouteIdeal.τ).loc Cert.RouteIdeal.main_arg1) = m ((c.tc : Thread Cert.RouteIdeal.nD Cert.RouteIdeal.τ).loc Cert.RouteIdeal.main_arg1)
      ∧ r.2.mem ((c.tc : Thread Cert.RouteIdeal.nD Cert.RouteIdeal.τ).loc Cert.RouteIdeal.main_arg2) = m ((c.tc : Thread Cert.RouteIdeal.nD Cert.RouteIdeal.τ).loc Cert.RouteIdeal.main_arg2)
      ∧ r.2.mem ((c.tc : Thread Cert.RouteIdeal.nD Cert.RouteIdeal.τ).loc Cert.RouteIdeal.main_arg3) = m ((c.tc : Thread Cert.RouteIdeal.nD Cert.RouteIdeal.τ).loc Cert.RouteIdeal.main_arg3)
      ∧ r.2.mem ((c.tc : Thread Cert.RouteIdeal.nD Cert.RouteIdeal.τ).loc Cert.RouteIdeal.main_arg4) = m ((c.tc : Thread Cert.RouteIdeal.nD Cert.RouteIdeal.τ).loc Cert.RouteIdeal.main_arg4)
      ∧ r.2.mem ((c.tc : Thread Cert.RouteIdeal.nD Cert.RouteIdeal.τ).loc Cert.RouteIdeal.main_arg5) = m ((c.tc : Thread Cert.RouteIdeal.nD Cert.RouteIdeal.τ).loc Cert.RouteIdeal.main_arg5))
      ∧ r.2.sem = fun _ => 0)

def quiescent_RouteRefIdeal [hRouteRefIdeal : Cert.RouteRefIdeal.Facts] : Prop :=
  ∀ (m : (ℓ : Loc Cert.RouteRefIdeal.nD Cert.RouteRefIdeal.τ Cert.RouteRefIdeal.sig) → Buf (Elt Ideal) ℓ) (g : Dev Cert.RouteRefIdeal.nD → PrngReg), Pre_RouteRefIdeal m →
    θ_run (Cert.RouteRefIdeal.defs (F := Ideal)) (onTc (τ := Cert.RouteRefIdeal.τ) (Cert.RouteRefIdeal.main (F := Ideal))) ⟨m, fun _ => 0, g⟩ (fun r => (∀ c : Dev Cert.RouteRefIdeal.nD,
      r.2.mem ((c.tc : Thread Cert.RouteRefIdeal.nD Cert.RouteRefIdeal.τ).loc Cert.RouteRefIdeal.main_arg0) = m ((c.tc : Thread Cert.RouteRefIdeal.nD Cert.RouteRefIdeal.τ).loc Cert.RouteRefIdeal.main_arg0)
      ∧ r.2.mem ((c.tc : Thread Cert.RouteRefIdeal.nD Cert.RouteRefIdeal.τ).loc Cert.RouteRefIdeal.main_arg1) = m ((c.tc : Thread Cert.RouteRefIdeal.nD Cert.RouteRefIdeal.τ).loc Cert.RouteRefIdeal.main_arg1)
      ∧ r.2.mem ((c.tc : Thread Cert.RouteRefIdeal.nD Cert.RouteRefIdeal.τ).loc Cert.RouteRefIdeal.main_arg2) = m ((c.tc : Thread Cert.RouteRefIdeal.nD Cert.RouteRefIdeal.τ).loc Cert.RouteRefIdeal.main_arg2)
      ∧ r.2.mem ((c.tc : Thread Cert.RouteRefIdeal.nD Cert.RouteRefIdeal.τ).loc Cert.RouteRefIdeal.main_arg3) = m ((c.tc : Thread Cert.RouteRefIdeal.nD Cert.RouteRefIdeal.τ).loc Cert.RouteRefIdeal.main_arg3)
      ∧ r.2.mem ((c.tc : Thread Cert.RouteRefIdeal.nD Cert.RouteRefIdeal.τ).loc Cert.RouteRefIdeal.main_arg4) = m ((c.tc : Thread Cert.RouteRefIdeal.nD Cert.RouteRefIdeal.τ).loc Cert.RouteRefIdeal.main_arg4)
      ∧ r.2.mem ((c.tc : Thread Cert.RouteRefIdeal.nD Cert.RouteRefIdeal.τ).loc Cert.RouteRefIdeal.main_arg5) = m ((c.tc : Thread Cert.RouteRefIdeal.nD Cert.RouteRefIdeal.τ).loc Cert.RouteRefIdeal.main_arg5))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3)
      ∧ r.2.mem ((c.tc : Thread Cert.Conv.nD Cert.Conv.τ).loc Cert.Conv.main_arg4) = m ((c.tc : Thread Cert.Conv.nD Cert.Conv.τ).loc Cert.Conv.main_arg4)
      ∧ r.2.mem ((c.tc : Thread Cert.Conv.nD Cert.Conv.τ).loc Cert.Conv.main_arg5) = m ((c.tc : Thread Cert.Conv.nD Cert.Conv.τ).loc Cert.Conv.main_arg5)
      ∧ r.2.mem ((c.tc : Thread Cert.Conv.nD Cert.Conv.τ).loc Cert.Conv.main_arg6) = m ((c.tc : Thread Cert.Conv.nD Cert.Conv.τ).loc Cert.Conv.main_arg6)
      ∧ r.2.mem ((c.tc : Thread Cert.Conv.nD Cert.Conv.τ).loc Cert.Conv.main_arg7) = m ((c.tc : Thread Cert.Conv.nD Cert.Conv.τ).loc Cert.Conv.main_arg7)
      ∧ r.2.mem ((c.tc : Thread Cert.Conv.nD Cert.Conv.τ).loc Cert.Conv.main_arg8) = m ((c.tc : Thread Cert.Conv.nD Cert.Conv.τ).loc Cert.Conv.main_arg8))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
      ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
      ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5)
      ∧ r.2.mem ((c.tc : Thread Cert.ConvIdeal.nD Cert.ConvIdeal.τ).loc Cert.ConvIdeal.main_arg6) = m ((c.tc : Thread Cert.ConvIdeal.nD Cert.ConvIdeal.τ).loc Cert.ConvIdeal.main_arg6)
      ∧ r.2.mem ((c.tc : Thread Cert.ConvIdeal.nD Cert.ConvIdeal.τ).loc Cert.ConvIdeal.main_arg7) = m ((c.tc : Thread Cert.ConvIdeal.nD Cert.ConvIdeal.τ).loc Cert.ConvIdeal.main_arg7)
      ∧ r.2.mem ((c.tc : Thread Cert.ConvIdeal.nD Cert.ConvIdeal.τ).loc Cert.ConvIdeal.main_arg8) = m ((c.tc : Thread Cert.ConvIdeal.nD Cert.ConvIdeal.τ).loc Cert.ConvIdeal.main_arg8))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3)
      ∧ r.2.mem ((c.tc : Thread Cert.ConvRefIdeal.nD Cert.ConvRefIdeal.τ).loc Cert.ConvRefIdeal.main_arg4) = m ((c.tc : Thread Cert.ConvRefIdeal.nD Cert.ConvRefIdeal.τ).loc Cert.ConvRefIdeal.main_arg4)
      ∧ r.2.mem ((c.tc : Thread Cert.ConvRefIdeal.nD Cert.ConvRefIdeal.τ).loc Cert.ConvRefIdeal.main_arg5) = m ((c.tc : Thread Cert.ConvRefIdeal.nD Cert.ConvRefIdeal.τ).loc Cert.ConvRefIdeal.main_arg5)
      ∧ r.2.mem ((c.tc : Thread Cert.ConvRefIdeal.nD Cert.ConvRefIdeal.τ).loc Cert.ConvRefIdeal.main_arg6) = m ((c.tc : Thread Cert.ConvRefIdeal.nD Cert.ConvRefIdeal.τ).loc Cert.ConvRefIdeal.main_arg6)
      ∧ r.2.mem ((c.tc : Thread Cert.ConvRefIdeal.nD Cert.ConvRefIdeal.τ).loc Cert.ConvRefIdeal.main_arg7) = m ((c.tc : Thread Cert.ConvRefIdeal.nD Cert.ConvRefIdeal.τ).loc Cert.ConvRefIdeal.main_arg7)
      ∧ r.2.mem ((c.tc : Thread Cert.ConvRefIdeal.nD Cert.ConvRefIdeal.τ).loc Cert.ConvRefIdeal.main_arg8) = m ((c.tc : Thread Cert.ConvRefIdeal.nD Cert.ConvRefIdeal.τ).loc Cert.ConvRefIdeal.main_arg8))
      ∧ r.2.sem = fun _ => 0)

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v20)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v20) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v27) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6))

def preserves_Moe_MoeIdeal : Prop :=
  True

def algebraic_MoeIdeal_MoeRefIdeal [hMoeIdeal : Cert.MoeIdeal.Facts] [hMoeRefIdeal : Cert.MoeRefIdeal.Facts] : Prop :=
  ∀ (m : (ℓ : Loc Cert.MoeIdeal.nD Cert.MoeIdeal.τ Cert.MoeIdeal.sig) → Buf (Elt Ideal) ℓ) (g : Dev Cert.MoeIdeal.nD → PrngReg)
    (m' : (ℓ : Loc Cert.MoeRefIdeal.nD Cert.MoeRefIdeal.τ Cert.MoeRefIdeal.sig) → Buf (Elt Ideal) ℓ) (g' : Dev Cert.MoeRefIdeal.nD → PrngReg), Pre_MoeIdeal m →
    (∀ c : Dev Cert.MoeIdeal.nD,
      m' ((c.tc : Thread Cert.MoeRefIdeal.nD Cert.MoeRefIdeal.τ).loc Cert.MoeRefIdeal.main_arg0) = m ((c.tc : Thread Cert.MoeIdeal.nD Cert.MoeIdeal.τ).loc Cert.MoeIdeal.main_arg0)
      ∧ m' ((c.tc : Thread Cert.MoeRefIdeal.nD Cert.MoeRefIdeal.τ).loc Cert.MoeRefIdeal.main_arg1) = m ((c.tc : Thread Cert.MoeIdeal.nD Cert.MoeIdeal.τ).loc Cert.MoeIdeal.main_arg1)
      ∧ m' ((c.tc : Thread Cert.MoeRefIdeal.nD Cert.MoeRefIdeal.τ).loc Cert.MoeRefIdeal.main_arg2) = m ((c.tc : Thread Cert.MoeIdeal.nD Cert.MoeIdeal.τ).loc Cert.MoeIdeal.main_arg2)
      ∧ m' ((c.tc : Thread Cert.MoeRefIdeal.nD Cert.MoeRefIdeal.τ).loc Cert.MoeRefIdeal.main_arg3) = m ((c.tc : Thread Cert.MoeIdeal.nD Cert.MoeIdeal.τ).loc Cert.MoeIdeal.main_arg3)) →
    ∃ (v0 : (c : Dev Cert.MoeIdeal.nD) → Buf (Elt Ideal) ((c.tc : Thread Cert.MoeIdeal.nD Cert.MoeIdeal.τ).loc Cert.MoeIdeal.main_v38)),
      θ_run (Cert.MoeIdeal.defs (F := Ideal)) (onTc (τ := Cert.MoeIdeal.τ) (Cert.MoeIdeal.main (F := Ideal))) ⟨m, fun _ => 0, g⟩ (fun r => ∀ c : Dev Cert.MoeIdeal.nD,
          r.2.mem ((c.tc : Thread Cert.MoeIdeal.nD Cert.MoeIdeal.τ).loc Cert.MoeIdeal.main_v38) = v0 c
          ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3))
      ∧ θ_run (Cert.MoeRefIdeal.defs (F := Ideal)) (onTc (τ := Cert.MoeRefIdeal.τ) (Cert.MoeRefIdeal.main (F := Ideal))) ⟨m', fun _ => 0, g'⟩ (fun r => ∀ c : Dev Cert.MoeRefIdeal.nD,
          r.2.mem ((c.tc : Thread Cert.MoeRefIdeal.nD Cert.MoeRefIdeal.τ).loc Cert.MoeRefIdeal.main_v32) = v0 c
          ∧ r.2.mem ((c.tc : Thread Cert.MoeRefIdeal.nD Cert.MoeRefIdeal.τ).loc Cert.MoeRefIdeal.main_arg0) = m' ((c.tc : Thread Cert.MoeRefIdeal.nD Cert.MoeRefIdeal.τ).loc Cert.MoeRefIdeal.main_arg0)
          ∧ r.2.mem ((c.tc : Thread Cert.MoeRefIdeal.nD Cert.MoeRefIdeal.τ).loc Cert.MoeRefIdeal.main_arg1) = m' ((c.tc : Thread Cert.MoeRefIdeal.nD Cert.MoeRefIdeal.τ).loc Cert.MoeRefIdeal.main_arg1)
          ∧ r.2.mem ((c.tc : Thread Cert.MoeRefIdeal.nD Cert.MoeRefIdeal.τ).loc Cert.MoeRefIdeal.main_arg2) = m' ((c.tc : Thread Cert.MoeRefIdeal.nD Cert.MoeRefIdeal.τ).loc Cert.MoeRefIdeal.main_arg2)
          ∧ r.2.mem ((c.tc : Thread Cert.MoeRefIdeal.nD Cert.MoeRefIdeal.τ).loc Cert.MoeRefIdeal.main_arg3) = m' ((c.tc : Thread Cert.MoeRefIdeal.nD Cert.MoeRefIdeal.τ).loc Cert.MoeRefIdeal.main_arg3))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)
      ∧ m' ((c.tc : Thread Cert.OutRefIdeal.nD Cert.OutRefIdeal.τ).loc Cert.OutRefIdeal.main_arg5) = m ((c.tc : Thread Cert.OutIdeal.nD Cert.OutIdeal.τ).loc Cert.OutIdeal.main_arg5)
      ∧ m' ((c.tc : Thread Cert.OutRefIdeal.nD Cert.OutRefIdeal.τ).loc Cert.OutRefIdeal.main_arg6) = m ((c.tc : Thread Cert.OutIdeal.nD Cert.OutIdeal.τ).loc Cert.OutIdeal.main_arg6)) →
    ∃ (v0 : (c : Dev Cert.OutIdeal.nD) → Buf (Elt Ideal) ((c.tc : Thread Cert.OutIdeal.nD Cert.OutIdeal.τ).loc Cert.OutIdeal.main_v20)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v20) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
          ∧ r.2.mem ((c.tc : Thread Cert.OutIdeal.nD Cert.OutIdeal.τ).loc Cert.OutIdeal.main_arg6) = m ((c.tc : Thread Cert.OutIdeal.nD Cert.OutIdeal.τ).loc Cert.OutIdeal.main_arg6))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v16) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4)
          ∧ r.2.mem ((c.tc : Thread Cert.OutRefIdeal.nD Cert.OutRefIdeal.τ).loc Cert.OutRefIdeal.main_arg5) = m' ((c.tc : Thread Cert.OutRefIdeal.nD Cert.OutRefIdeal.τ).loc Cert.OutRefIdeal.main_arg5)
          ∧ r.2.mem ((c.tc : Thread Cert.OutRefIdeal.nD Cert.OutRefIdeal.τ).loc Cert.OutRefIdeal.main_arg6) = m' ((c.tc : Thread Cert.OutRefIdeal.nD Cert.OutRefIdeal.τ).loc Cert.OutRefIdeal.main_arg6))

def preserves_Route_RouteIdeal : Prop :=
  True

def algebraic_RouteIdeal_RouteRefIdeal [hRouteIdeal : Cert.RouteIdeal.Facts] [hRouteRefIdeal : Cert.RouteRefIdeal.Facts] : Prop :=
  ∀ (m : (ℓ : Loc Cert.RouteIdeal.nD Cert.RouteIdeal.τ Cert.RouteIdeal.sig) → Buf (Elt Ideal) ℓ) (g : Dev Cert.RouteIdeal.nD → PrngReg)
    (m' : (ℓ : Loc Cert.RouteRefIdeal.nD Cert.RouteRefIdeal.τ Cert.RouteRefIdeal.sig) → Buf (Elt Ideal) ℓ) (g' : Dev Cert.RouteRefIdeal.nD → PrngReg), Pre_RouteIdeal m →
    (∀ c : Dev Cert.RouteIdeal.nD,
      m' ((c.tc : Thread Cert.RouteRefIdeal.nD Cert.RouteRefIdeal.τ).loc Cert.RouteRefIdeal.main_arg0) = m ((c.tc : Thread Cert.RouteIdeal.nD Cert.RouteIdeal.τ).loc Cert.RouteIdeal.main_arg0)
      ∧ m' ((c.tc : Thread Cert.RouteRefIdeal.nD Cert.RouteRefIdeal.τ).loc Cert.RouteRefIdeal.main_arg1) = m ((c.tc : Thread Cert.RouteIdeal.nD Cert.RouteIdeal.τ).loc Cert.RouteIdeal.main_arg1)
      ∧ m' ((c.tc : Thread Cert.RouteRefIdeal.nD Cert.RouteRefIdeal.τ).loc Cert.RouteRefIdeal.main_arg2) = m ((c.tc : Thread Cert.RouteIdeal.nD Cert.RouteIdeal.τ).loc Cert.RouteIdeal.main_arg2)
      ∧ m' ((c.tc : Thread Cert.RouteRefIdeal.nD Cert.RouteRefIdeal.τ).loc Cert.RouteRefIdeal.main_arg3) = m ((c.tc : Thread Cert.RouteIdeal.nD Cert.RouteIdeal.τ).loc Cert.RouteIdeal.main_arg3)
      ∧ m' ((c.tc : Thread Cert.RouteRefIdeal.nD Cert.RouteRefIdeal.τ).loc Cert.RouteRefIdeal.main_arg4) = m ((c.tc : Thread Cert.RouteIdeal.nD Cert.RouteIdeal.τ).loc Cert.RouteIdeal.main_arg4)
      ∧ m' ((c.tc : Thread Cert.RouteRefIdeal.nD Cert.RouteRefIdeal.τ).loc Cert.RouteRefIdeal.main_arg5) = m ((c.tc : Thread Cert.RouteIdeal.nD Cert.RouteIdeal.τ).loc Cert.RouteIdeal.main_arg5)) →
    ∃ (v0 : (c : Dev Cert.RouteIdeal.nD) → Buf (Elt Ideal) ((c.tc : Thread Cert.RouteIdeal.nD Cert.RouteIdeal.τ).loc Cert.RouteIdeal.main_v18_0)) (v1 : (c : Dev Cert.RouteIdeal.nD) → Buf (Elt Ideal) ((c.tc : Thread Cert.RouteIdeal.nD Cert.RouteIdeal.τ).loc Cert.RouteIdeal.main_v18_1)),
      θ_run (Cert.RouteIdeal.defs (F := Ideal)) (onTc (τ := Cert.RouteIdeal.τ) (Cert.RouteIdeal.main (F := Ideal))) ⟨m, fun _ => 0, g⟩ (fun r => ∀ c : Dev Cert.RouteIdeal.nD,
          r.2.mem ((c.tc : Thread Cert.RouteIdeal.nD Cert.RouteIdeal.τ).loc Cert.RouteIdeal.main_v18_0) = v0 c
          ∧ r.2.mem ((c.tc : Thread Cert.RouteIdeal.nD Cert.RouteIdeal.τ).loc Cert.RouteIdeal.main_v18_1) = v1 c
          ∧ r.2.mem ((c.tc : Thread Cert.RouteIdeal.nD Cert.RouteIdeal.τ).loc Cert.RouteIdeal.main_arg0) = m ((c.tc : Thread Cert.RouteIdeal.nD Cert.RouteIdeal.τ).loc Cert.RouteIdeal.main_arg0)
          ∧ r.2.mem ((c.tc : Thread Cert.RouteIdeal.nD Cert.RouteIdeal.τ).loc Cert.RouteIdeal.main_arg1) = m ((c.tc : Thread Cert.RouteIdeal.nD Cert.RouteIdeal.τ).loc Cert.RouteIdeal.main_arg1)
          ∧ r.2.mem ((c.tc : Thread Cert.RouteIdeal.nD Cert.RouteIdeal.τ).loc Cert.RouteIdeal.main_arg2) = m ((c.tc : Thread Cert.RouteIdeal.nD Cert.RouteIdeal.τ).loc Cert.RouteIdeal.main_arg2)
          ∧ r.2.mem ((c.tc : Thread Cert.RouteIdeal.nD Cert.RouteIdeal.τ).loc Cert.RouteIdeal.main_arg3) = m ((c.tc : Thread Cert.RouteIdeal.nD Cert.RouteIdeal.τ).loc Cert.RouteIdeal.main_arg3)
          ∧ r.2.mem ((c.tc : Thread Cert.RouteIdeal.nD Cert.RouteIdeal.τ).loc Cert.RouteIdeal.main_arg4) = m ((c.tc : Thread Cert.RouteIdeal.nD Cert.RouteIdeal.τ).loc Cert.RouteIdeal.main_arg4)
          ∧ r.2.mem ((c.tc : Thread Cert.RouteIdeal.nD Cert.RouteIdeal.τ).loc Cert.RouteIdeal.main_arg5) = m ((c.tc : Thread Cert.RouteIdeal.nD Cert.RouteIdeal.τ).loc Cert.RouteIdeal.main_arg5))
      ∧ θ_run (Cert.RouteRefIdeal.defs (F := Ideal)) (onTc (τ := Cert.RouteRefIdeal.τ) (Cert.RouteRefIdeal.main (F := Ideal))) ⟨m', fun _ => 0, g'⟩ (fun r => ∀ c : Dev Cert.RouteRefIdeal.nD,
          r.2.mem ((c.tc : Thread Cert.RouteRefIdeal.nD Cert.RouteRefIdeal.τ).loc Cert.RouteRefIdeal.main_v19) = v0 c
          ∧ r.2.mem ((c.tc : Thread Cert.RouteRefIdeal.nD Cert.RouteRefIdeal.τ).loc Cert.RouteRefIdeal.main_v20) = v1 c
          ∧ r.2.mem ((c.tc : Thread Cert.RouteRefIdeal.nD Cert.RouteRefIdeal.τ).loc Cert.RouteRefIdeal.main_arg0) = m' ((c.tc : Thread Cert.RouteRefIdeal.nD Cert.RouteRefIdeal.τ).loc Cert.RouteRefIdeal.main_arg0)
          ∧ r.2.mem ((c.tc : Thread Cert.RouteRefIdeal.nD Cert.RouteRefIdeal.τ).loc Cert.RouteRefIdeal.main_arg1) = m' ((c.tc : Thread Cert.RouteRefIdeal.nD Cert.RouteRefIdeal.τ).loc Cert.RouteRefIdeal.main_arg1)
          ∧ r.2.mem ((c.tc : Thread Cert.RouteRefIdeal.nD Cert.RouteRefIdeal.τ).loc Cert.RouteRefIdeal.main_arg2) = m' ((c.tc : Thread Cert.RouteRefIdeal.nD Cert.RouteRefIdeal.τ).loc Cert.RouteRefIdeal.main_arg2)
          ∧ r.2.mem ((c.tc : Thread Cert.RouteRefIdeal.nD Cert.RouteRefIdeal.τ).loc Cert.RouteRefIdeal.main_arg3) = m' ((c.tc : Thread Cert.RouteRefIdeal.nD Cert.RouteRefIdeal.τ).loc Cert.RouteRefIdeal.main_arg3)
          ∧ r.2.mem ((c.tc : Thread Cert.RouteRefIdeal.nD Cert.RouteRefIdeal.τ).loc Cert.RouteRefIdeal.main_arg4) = m' ((c.tc : Thread Cert.RouteRefIdeal.nD Cert.RouteRefIdeal.τ).loc Cert.RouteRefIdeal.main_arg4)
          ∧ r.2.mem ((c.tc : Thread Cert.RouteRefIdeal.nD Cert.RouteRefIdeal.τ).loc Cert.RouteRefIdeal.main_arg5) = m' ((c.tc : Thread Cert.RouteRefIdeal.nD Cert.RouteRefIdeal.τ).loc Cert.RouteRefIdeal.main_arg5))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)
      ∧ m' ((c.tc : Thread Cert.ProjRefIdeal.nD Cert.ProjRefIdeal.τ).loc Cert.ProjRefIdeal.main_arg5) = m ((c.tc : Thread Cert.ProjIdeal.nD Cert.ProjIdeal.τ).loc Cert.ProjIdeal.main_arg5)) →
    ∃ (v0 : (c : Dev Cert.ProjIdeal.nD) → Buf (Elt Ideal) ((c.tc : Thread Cert.ProjIdeal.nD Cert.ProjIdeal.τ).loc Cert.ProjIdeal.main_v19)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v19) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v19) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4)
          ∧ r.2.mem ((c.tc : Thread Cert.ProjRefIdeal.nD Cert.ProjRefIdeal.τ).loc Cert.ProjRefIdeal.main_arg5) = m' ((c.tc : Thread Cert.ProjRefIdeal.nD Cert.ProjRefIdeal.τ).loc Cert.ProjRefIdeal.main_arg5))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)) →
    ∃ (v0 : (c : Dev Cert.MixIdeal.nD) → Buf (Elt Ideal) ((c.tc : Thread Cert.MixIdeal.nD Cert.MixIdeal.τ).loc Cert.MixIdeal.main_v20)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v20) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v6) = v0 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)
      ∧ m' ((c.tc : Thread Cert.ConvRefIdeal.nD Cert.ConvRefIdeal.τ).loc Cert.ConvRefIdeal.main_arg3) = m ((c.tc : Thread Cert.ConvIdeal.nD Cert.ConvIdeal.τ).loc Cert.ConvIdeal.main_arg3)
      ∧ m' ((c.tc : Thread Cert.ConvRefIdeal.nD Cert.ConvRefIdeal.τ).loc Cert.ConvRefIdeal.main_arg4) = m ((c.tc : Thread Cert.ConvIdeal.nD Cert.ConvIdeal.τ).loc Cert.ConvIdeal.main_arg4)
      ∧ m' ((c.tc : Thread Cert.ConvRefIdeal.nD Cert.ConvRefIdeal.τ).loc Cert.ConvRefIdeal.main_arg5) = m ((c.tc : Thread Cert.ConvIdeal.nD Cert.ConvIdeal.τ).loc Cert.ConvIdeal.main_arg5)
      ∧ m' ((c.tc : Thread Cert.ConvRefIdeal.nD Cert.ConvRefIdeal.τ).loc Cert.ConvRefIdeal.main_arg6) = m ((c.tc : Thread Cert.ConvIdeal.nD Cert.ConvIdeal.τ).loc Cert.ConvIdeal.main_arg6)
      ∧ m' ((c.tc : Thread Cert.ConvRefIdeal.nD Cert.ConvRefIdeal.τ).loc Cert.ConvRefIdeal.main_arg7) = m ((c.tc : Thread Cert.ConvIdeal.nD Cert.ConvIdeal.τ).loc Cert.ConvIdeal.main_arg7)
      ∧ m' ((c.tc : Thread Cert.ConvRefIdeal.nD Cert.ConvRefIdeal.τ).loc Cert.ConvRefIdeal.main_arg8) = m ((c.tc : Thread Cert.ConvIdeal.nD Cert.ConvIdeal.τ).loc Cert.ConvIdeal.main_arg8)) →
    ∃ (v0 : (c : Dev Cert.ConvIdeal.nD) → Buf (Elt Ideal) ((c.tc : Thread Cert.ConvIdeal.nD Cert.ConvIdeal.τ).loc Cert.ConvIdeal.main_v23)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v23) = v0 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
          ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
          ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5)
          ∧ r.2.mem ((c.tc : Thread Cert.ConvIdeal.nD Cert.ConvIdeal.τ).loc Cert.ConvIdeal.main_arg6) = m ((c.tc : Thread Cert.ConvIdeal.nD Cert.ConvIdeal.τ).loc Cert.ConvIdeal.main_arg6)
          ∧ r.2.mem ((c.tc : Thread Cert.ConvIdeal.nD Cert.ConvIdeal.τ).loc Cert.ConvIdeal.main_arg7) = m ((c.tc : Thread Cert.ConvIdeal.nD Cert.ConvIdeal.τ).loc Cert.ConvIdeal.main_arg7)
          ∧ r.2.mem ((c.tc : Thread Cert.ConvIdeal.nD Cert.ConvIdeal.τ).loc Cert.ConvIdeal.main_arg8) = m ((c.tc : Thread Cert.ConvIdeal.nD Cert.ConvIdeal.τ).loc Cert.ConvIdeal.main_arg8))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v46) = v0 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2)
          ∧ r.2.mem ((c.tc : Thread Cert.ConvRefIdeal.nD Cert.ConvRefIdeal.τ).loc Cert.ConvRefIdeal.main_arg3) = m' ((c.tc : Thread Cert.ConvRefIdeal.nD Cert.ConvRefIdeal.τ).loc Cert.ConvRefIdeal.main_arg3)
          ∧ r.2.mem ((c.tc : Thread Cert.ConvRefIdeal.nD Cert.ConvRefIdeal.τ).loc Cert.ConvRefIdeal.main_arg4) = m' ((c.tc : Thread Cert.ConvRefIdeal.nD Cert.ConvRefIdeal.τ).loc Cert.ConvRefIdeal.main_arg4)
          ∧ r.2.mem ((c.tc : Thread Cert.ConvRefIdeal.nD Cert.ConvRefIdeal.τ).loc Cert.ConvRefIdeal.main_arg5) = m' ((c.tc : Thread Cert.ConvRefIdeal.nD Cert.ConvRefIdeal.τ).loc Cert.ConvRefIdeal.main_arg5)
          ∧ r.2.mem ((c.tc : Thread Cert.ConvRefIdeal.nD Cert.ConvRefIdeal.τ).loc Cert.ConvRefIdeal.main_arg6) = m' ((c.tc : Thread Cert.ConvRefIdeal.nD Cert.ConvRefIdeal.τ).loc Cert.ConvRefIdeal.main_arg6)
          ∧ r.2.mem ((c.tc : Thread Cert.ConvRefIdeal.nD Cert.ConvRefIdeal.τ).loc Cert.ConvRefIdeal.main_arg7) = m' ((c.tc : Thread Cert.ConvRefIdeal.nD Cert.ConvRefIdeal.τ).loc Cert.ConvRefIdeal.main_arg7)
          ∧ r.2.mem ((c.tc : Thread Cert.ConvRefIdeal.nD Cert.ConvRefIdeal.τ).loc Cert.ConvRefIdeal.main_arg8) = m' ((c.tc : Thread Cert.ConvRefIdeal.nD Cert.ConvRefIdeal.τ).loc Cert.ConvRefIdeal.main_arg8))

def Claim : Prop :=
  ∃ (hFfn : Cert.Ffn.Facts) (hFfnIdeal : Cert.FfnIdeal.Facts) (hFfnRefIdeal : Cert.FfnRefIdeal.Facts) (hMoe : Cert.Moe.Facts) (hMoeIdeal : Cert.MoeIdeal.Facts) (hMoeRefIdeal : Cert.MoeRefIdeal.Facts) (hOut : Cert.Out.Facts) (hOutIdeal : Cert.OutIdeal.Facts) (hOutRefIdeal : Cert.OutRefIdeal.Facts) (hRoute : Cert.Route.Facts) (hRouteIdeal : Cert.RouteIdeal.Facts) (hRouteRefIdeal : Cert.RouteRefIdeal.Facts) (hProj : Cert.Proj.Facts) (hProjIdeal : Cert.ProjIdeal.Facts) (hProjRefIdeal : Cert.ProjRefIdeal.Facts) (hMix : Cert.Mix.Facts) (hMixIdeal : Cert.MixIdeal.Facts) (hMixRefIdeal : Cert.MixRefIdeal.Facts) (hConv : Cert.Conv.Facts) (hConvIdeal : Cert.ConvIdeal.Facts) (hConvRefIdeal : Cert.ConvRefIdeal.Facts),
    quiescent_Ffn (hFfn := hFfn)
    ∧ quiescent_FfnIdeal (hFfnIdeal := hFfnIdeal)
    ∧ quiescent_FfnRefIdeal (hFfnRefIdeal := hFfnRefIdeal)
    ∧ quiescent_Moe (hMoe := hMoe)
    ∧ quiescent_MoeIdeal (hMoeIdeal := hMoeIdeal)
    ∧ quiescent_MoeRefIdeal (hMoeRefIdeal := hMoeRefIdeal)
    ∧ quiescent_Out (hOut := hOut)
    ∧ quiescent_OutIdeal (hOutIdeal := hOutIdeal)
    ∧ quiescent_OutRefIdeal (hOutRefIdeal := hOutRefIdeal)
    ∧ quiescent_Route (hRoute := hRoute)
    ∧ quiescent_RouteIdeal (hRouteIdeal := hRouteIdeal)
    ∧ quiescent_RouteRefIdeal (hRouteRefIdeal := hRouteRefIdeal)
    ∧ quiescent_Proj (hProj := hProj)
    ∧ quiescent_ProjIdeal (hProjIdeal := hProjIdeal)
    ∧ quiescent_ProjRefIdeal (hProjRefIdeal := hProjRefIdeal)
    ∧ quiescent_Mix (hMix := hMix)
    ∧ quiescent_MixIdeal (hMixIdeal := hMixIdeal)
    ∧ quiescent_MixRefIdeal (hMixRefIdeal := hMixRefIdeal)
    ∧ quiescent_Conv (hConv := hConv)
    ∧ quiescent_ConvIdeal (hConvIdeal := hConvIdeal)
    ∧ quiescent_ConvRefIdeal (hConvRefIdeal := hConvRefIdeal)
    ∧ preserves_Ffn_FfnIdeal
    ∧ algebraic_FfnIdeal_FfnRefIdeal (hFfnIdeal := hFfnIdeal) (hFfnRefIdeal := hFfnRefIdeal)
    ∧ preserves_Moe_MoeIdeal
    ∧ algebraic_MoeIdeal_MoeRefIdeal (hMoeIdeal := hMoeIdeal) (hMoeRefIdeal := hMoeRefIdeal)
    ∧ preserves_Out_OutIdeal
    ∧ algebraic_OutIdeal_OutRefIdeal (hOutIdeal := hOutIdeal) (hOutRefIdeal := hOutRefIdeal)
    ∧ preserves_Route_RouteIdeal
    ∧ algebraic_RouteIdeal_RouteRefIdeal (hRouteIdeal := hRouteIdeal) (hRouteRefIdeal := hRouteRefIdeal)
    ∧ preserves_Proj_ProjIdeal
    ∧ algebraic_ProjIdeal_ProjRefIdeal (hProjIdeal := hProjIdeal) (hProjRefIdeal := hProjRefIdeal)
    ∧ preserves_Mix_MixIdeal
    ∧ algebraic_MixIdeal_MixRefIdeal (hMixIdeal := hMixIdeal) (hMixRefIdeal := hMixRefIdeal)
    ∧ preserves_Conv_ConvIdeal
    ∧ algebraic_ConvIdeal_ConvRefIdeal (hConvIdeal := hConvIdeal) (hConvRefIdeal := hConvRefIdeal)
-- ==== Ffn.lean ====
abbrev S2x16384x1024 : Shape := ⟨3, ![2, 16384, 1024]⟩
abbrev S1024 : Shape := ⟨1, ![1024]⟩
abbrev S2x1x1024 : Shape := ⟨3, ![2, 1, 1024]⟩
abbrev S1024x5632 : Shape := ⟨2, ![1024, 5632]⟩
abbrev S2816x1024 : Shape := ⟨2, ![2816, 1024]⟩
abbrev S2x1024 : Shape := ⟨2, ![2, 1024]⟩
abbrev S_ : Shape := ⟨0, ![]⟩
abbrev S1x1024 : Shape := ⟨2, ![1, 1024]⟩
abbrev S2x8x1024 : Shape := ⟨3, ![2, 8, 1024]⟩
abbrev S1x1024x1024 : Shape := ⟨3, ![1, 1024, 1024]⟩
abbrev S1x8x1024 : Shape := ⟨3, ![1, 8, 1024]⟩
abbrev S1024x256 : Shape := ⟨2, ![1024, 256]⟩
abbrev S256x1024 : Shape := ⟨2, ![256, 1024]⟩
abbrev S1024x1024 : Shape := ⟨2, ![1024, 1024]⟩
abbrev S1024x1 : Shape := ⟨2, ![1024, 1]⟩
abbrev S1x1x1024 : Shape := ⟨3, ![1, 1, 1024]⟩

abbrev nBuf : Space → Nat
  | .hbm => 30
  | .vmem => 14
  | .smem => 0
  | _ => 0

abbrev bufTy : (tb : Table) → Fin (tcTables nBuf tb) → BufTy
  | .hbm, ⟨0, _⟩ => ⟨S2x16384x1024, .f32⟩
  | .hbm, ⟨1, _⟩ => ⟨S1024, .f32⟩
  | .hbm, ⟨2, _⟩ => ⟨S2x1x1024, .f32⟩
  | .hbm, ⟨3, _⟩ => ⟨S2x1x1024, .f32⟩
  | .hbm, ⟨4, _⟩ => ⟨S2x1x1024, .f32⟩
  | .hbm, ⟨5, _⟩ => ⟨S1024x5632, .f32⟩
  | .hbm, ⟨6, _⟩ => ⟨S2816x1024, .f32⟩
  | .hbm, ⟨7, _⟩ => ⟨S2x1024, .f32⟩
  | .hbm, ⟨8, _⟩ => ⟨S_, .f32⟩
  | .hbm, ⟨9, _⟩ => ⟨S2x1024, .f32⟩
  | .hbm, ⟨10, _⟩ => ⟨S2x1024, .f32⟩
  | .hbm, ⟨11, _⟩ => ⟨S1x1024, .f32⟩
  | .hbm, ⟨12, _⟩ => ⟨S2x1024, .f32⟩
  | .hbm, ⟨13, _⟩ => ⟨S2x1024, .f32⟩
  | .hbm, ⟨14, _⟩ => ⟨S2x1024, .f32⟩
  | .hbm, ⟨15, _⟩ => ⟨S2x1024, .f32⟩
  | .hbm, ⟨16, _⟩ => ⟨S_, .f32⟩
  | .hbm, ⟨17, _⟩ => ⟨S2x1024, .f32⟩
  | .hbm, ⟨18, _⟩ => ⟨S2x1x1024, .f32⟩
  | .hbm, ⟨19, _⟩ => ⟨S2x1x1024, .f32⟩
  | .hbm, ⟨20, _⟩ => ⟨S2x1x1024, .f32⟩
  | .hbm, ⟨21, _⟩ => ⟨S2x1x1024, .f32⟩
  | .hbm, ⟨22, _⟩ => ⟨S2x1x1024, .f32⟩
  | .hbm, ⟨23, _⟩ => ⟨S2x1x1024, .f32⟩
  | .hbm, ⟨24, _⟩ => ⟨S2x1x1024, .f32⟩
  | .hbm, ⟨25, _⟩ => ⟨S2x1x1024, .f32⟩
  | .hbm, ⟨26, _⟩ => ⟨S2x8x1024, .f32⟩
  | .hbm, ⟨27, _⟩ => ⟨S1024x5632, .bf16⟩
  | .hbm, ⟨28, _⟩ => ⟨S2816x1024, .bf16⟩
  | .hbm, ⟨29, _⟩ => ⟨S2x16384x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x8x1024, .f32⟩
  | .local _ .vmem, ⟨3, _⟩ => ⟨S1x8x1024, .f32⟩
  | .local _ .vmem, ⟨4, _⟩ => ⟨S1024x256, .bf16⟩
  | .local _ .vmem, ⟨5, _⟩ => ⟨S1024x256, .bf16⟩
  | .local _ .vmem, ⟨6, _⟩ => ⟨S1024x256, .bf16⟩
  | .local _ .vmem, ⟨7, _⟩ => ⟨S1024x256, .bf16⟩
  | .local _ .vmem, ⟨8, _⟩ => ⟨S256x1024, .bf16⟩
  | .local _ .vmem, ⟨9, _⟩ => ⟨S256x1024, .bf16⟩
  | .local _ .vmem, ⟨10, _⟩ => ⟨S1x1024x1024, .f32⟩
  | .local _ .vmem, ⟨11, _⟩ => ⟨S1x1024x1024, .f32⟩
  | .local _ .vmem, ⟨12, _⟩ => ⟨S1024x1024, .bf16⟩
  | .local _ .vmem, ⟨13, _⟩ => ⟨S1024x1024, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 16, 11], ![false, false, false]⟩

def k0_cond2 (i : grid0.Coords) : BitVec 1 :=
  let arg2 : BitVec 32 := BitVec.ofNat 32 (i 2).val
  let c10_i32 : BitVec 32 := 10#32
  let v22 : BitVec 1 := Scalar.cmpi .eq arg2 c10_i32
  let v23 : BitVec 32 := Scalar.extui v22
  let c0_i32_14 : BitVec 32 := 0#32
  let v24 : BitVec 1 := Scalar.cmpi .ne v23 c0_i32_14
  v24

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.addi arg2 c11_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== FfnRefIdeal.lean ====
abbrev S2x16384x1024 : Shape := ⟨3, ![2, 16384, 1024]⟩
abbrev S1024 : Shape := ⟨1, ![1024]⟩
abbrev S2x1x1024 : Shape := ⟨3, ![2, 1, 1024]⟩
abbrev S1024x5632 : Shape := ⟨2, ![1024, 5632]⟩
abbrev S2816x1024 : Shape := ⟨2, ![2816, 1024]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S2x16384x5632 : Shape := ⟨3, ![2, 16384, 5632]⟩
abbrev S2x16384x2816 : Shape := ⟨3, ![2, 16384, 2816]⟩

abbrev nBuf : Space → Nat
  | .hbm => 47
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S1024, .f32⟩
  | .hbm, ⟨2, _⟩ => ⟨S2x1x1024, .f32⟩
  | .hbm, ⟨3, _⟩ => ⟨S2x1x1024, .f32⟩
  | .hbm, ⟨4, _⟩ => ⟨S2x1x1024, .f32⟩
  | .hbm, ⟨5, _⟩ => ⟨S1024x5632, .f32⟩
  | .hbm, ⟨6, _⟩ => ⟨S2816x1024, .f32⟩
  | .hbm, ⟨7, _⟩ => ⟨S2x16384x1024, .f32⟩
  | .hbm, ⟨8, _⟩ => ⟨S_, .f32⟩
  | .hbm, ⟨9, _⟩ => ⟨S2x16384, .f32⟩
  | .hbm, ⟨10, _⟩ => ⟨S2x16384x1, .f32⟩
  | .hbm, ⟨11, _⟩ => ⟨S_, .f32⟩
  | .hbm, ⟨12, _⟩ => ⟨S2x16384x1, .f32⟩
  | .hbm, ⟨13, _⟩ => ⟨S2x16384x1, .f32⟩
  | .hbm, ⟨14, _⟩ => ⟨S_, .f32⟩
  | .hbm, ⟨15, _⟩ => ⟨S2x16384x1, .f32⟩
  | .hbm, ⟨16, _⟩ => ⟨S2x16384x1, .f32⟩
  | .hbm, ⟨17, _⟩ => ⟨S2x16384x1, .f32⟩
  | .hbm, ⟨18, _⟩ => ⟨S2x16384x1024, .f32⟩
  | .hbm, ⟨19, _⟩ => ⟨S2x16384x1024, .f32⟩
  | .hbm, ⟨20, _⟩ => ⟨S1x1x1024, .f32⟩
  | .hbm, ⟨21, _⟩ => ⟨S2x16384x1024, .f32⟩
  | .hbm, ⟨22, _⟩ => ⟨S2x16384x1024, .f32⟩
  | .hbm, ⟨23, _⟩ => ⟨S_, .f32⟩
  | .hbm, ⟨24, _⟩ => ⟨S2x1x1024, .f32⟩
  | .hbm, ⟨25, _⟩ => ⟨S2x1x1024, .f32⟩
  | .hbm, ⟨26, _⟩ => ⟨S2x16384x1024, .f32⟩
  | .hbm, ⟨27, _⟩ => ⟨S2x16384x1024, .f32⟩
  | .hbm, ⟨28, _⟩ => ⟨S2x16384x1024, .f32⟩
  | .hbm, ⟨29, _⟩ => ⟨S2x16384x1024, .f32⟩
  | .hbm, ⟨30, _⟩ => ⟨S2x16384x5632, .f32⟩
  | .hbm, ⟨31, _⟩ => ⟨S2x16384x2816, .f32⟩
  | .hbm, ⟨32, _⟩ => ⟨S2x16384x2816, .f32⟩
  | .hbm, ⟨33, _⟩ => ⟨S2x16384x2816, .f32⟩
  | .hbm, ⟨34, _⟩ => ⟨S2x16384x2816, .f32⟩
  | .hbm, ⟨35, _⟩ => ⟨S_, .f32⟩
  | .hbm, ⟨36, _⟩ => ⟨S2x16384x2816, .f32⟩
  | .hbm, ⟨37, _⟩ => ⟨S2x16384x2816, .f32⟩
  | .hbm, ⟨38, _⟩ => ⟨S_, .f32⟩
  | .hbm, ⟨39, _⟩ => ⟨S2x16384x2816, .f32⟩
  | .hbm, ⟨40, _⟩ => ⟨S2x16384x2816, .f32⟩
  | .hbm, ⟨41, _⟩ => ⟨S2x16384x2816, .f32⟩
  | .hbm, ⟨42, _⟩ => ⟨S2x16384x2816, .f32⟩
  | .hbm, ⟨43, _⟩ => ⟨S2x16384x1024, .f32⟩
  | .hbm, ⟨44, _⟩ => ⟨S2x16384x1024, .f32⟩
  | .hbm, ⟨45, _⟩ => ⟨S2x16384x1024, .f32⟩
  | .hbm, ⟨46, _⟩ => ⟨S2x16384x1024, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩

abbrev nD : Nat := 1
abbrev τ : Topo := Topo.v7x

variable {F : FTy → Type} [FloatOps F]
-- ==== Moe.lean ====
abbrev S32768x1024 : Shape := ⟨2, ![32768, 1024]⟩
abbrev S32768x8 : Shape := ⟨2, ![32768, 8]⟩
abbrev S8x1024x7168 : Shape := ⟨3, ![8, 1024, 7168]⟩
abbrev S8x3584x1024 : Shape := ⟨3, ![8, 3584, 1024]⟩
abbrev S32768x2 : Shape := ⟨2, ![32768, 2]⟩
abbrev S_ : Shape := ⟨0, ![]⟩
abbrev S32768 : Shape := ⟨1, ![32768]⟩
abbrev S32768x1 : Shape := ⟨2, ![32768, 1]⟩
abbrev S32768x2x1 : Shape := ⟨3, ![32768, 2, 1]⟩
abbrev S1x1x8 : Shape := ⟨3, ![1, 1, 8]⟩
abbrev S32768x2x8 : Shape := ⟨3, ![32768, 2, 8]⟩
abbrev S16x2048x8 : Shape := ⟨3, ![16, 2048, 8]⟩
abbrev S16x8x2048 : Shape := ⟨3, ![16, 8, 2048]⟩
abbrev S16x4x512x8 : Shape := ⟨4, ![16, 4, 512, 8]⟩
abbrev S16x4x8 : Shape := ⟨3, ![16, 4, 8]⟩
abbrev S16x1x8 : Shape := ⟨3, ![16, 1, 8]⟩
abbrev S16x5x8 : Shape := ⟨3, ![16, 5, 8]⟩
abbrev S16x8x5 : Shape := ⟨3, ![16, 8, 5]⟩
abbrev S16x8x2048x1 : Shape := ⟨4, ![16, 8, 2048, 1]⟩
abbrev S16x8x1x2048 : Shape := ⟨4, ![16, 8, 1, 2048]⟩
abbrev S2048x1024 : Shape := ⟨2, ![2048, 1024]⟩
abbrev S1x1x1x2048 : Shape := ⟨4, ![1, 1, 1, 2048]⟩
abbrev S1x1x2048x1 : Shape := ⟨4, ![1, 1, 2048, 1]⟩
abbrev S1x1024x512 : Shape := ⟨3, ![1, 1024, 512]⟩
abbrev S1x512x1024 : Shape := ⟨3, ![1, 512, 1024]⟩
abbrev S1x1x1 : Shape := ⟨3, ![1, 1, 1]⟩
abbrev S256x1024 : Shape := ⟨2, ![256, 1024]⟩
abbrev S256x512 : Shape := ⟨2, ![256, 512]⟩
abbrev S1x1x1x512 : Shape := ⟨4, ![1, 1, 1, 512]⟩
abbrev S1x512 : Shape := ⟨2, ![1, 512]⟩
abbrev S512x1024 : Shape := ⟨2, ![512, 1024]⟩
abbrev S1024x512 : Shape := ⟨2, ![1024, 512]⟩
abbrev S512x256 : Shape := ⟨2, ![512, 256]⟩
abbrev S1x1x512x1 : Shape := ⟨4, ![1, 1, 512, 1]⟩
abbrev S512x1 : Shape := ⟨2, ![512, 1]⟩

abbrev nBuf : Space → Nat
  | .hbm => 64
  | .vmem => 18
  | .smem => 1
  | _ => 0

abbrev bufTy : (tb : Table) → Fin (tcTables nBuf tb) → BufTy
  | .hbm, ⟨0, _⟩ => ⟨S32768x1024, .bf16⟩
  | .hbm, ⟨1, _⟩ => ⟨S32768x8, .f32⟩
  | .hbm, ⟨2, _⟩ => ⟨S8x1024x7168, .f32⟩
  | .hbm, ⟨3, _⟩ => ⟨S8x3584x1024, .f32⟩
  | .hbm, ⟨4, _⟩ => ⟨S8x1024x7168, .bf16⟩
  | .hbm, ⟨5, _⟩ => ⟨S8x3584x1024, .bf16⟩
  | .hbm, ⟨6, _⟩ => ⟨S32768x2, .f32⟩
  | .hbm, ⟨7, _⟩ => ⟨S32768x2, .i32⟩
  | .hbm, ⟨8, _⟩ => ⟨S_, .f32⟩
  | .hbm, ⟨9, _⟩ => ⟨S32768, .f32⟩
  | .hbm, ⟨10, _⟩ => ⟨S_, .f32⟩
  | .hbm, ⟨11, _⟩ => ⟨S32768, .f32⟩
  | .hbm, ⟨12, _⟩ => ⟨S32768, .f32⟩
  | .hbm, ⟨13, _⟩ => ⟨S32768x1, .f32⟩
  | .hbm, ⟨14, _⟩ => ⟨S32768x2, .f32⟩
  | .hbm, ⟨15, _⟩ => ⟨S32768x2, .f32⟩
  | .hbm, ⟨16, _⟩ => ⟨S32768x2, .f32⟩
  | .hbm, ⟨17, _⟩ => ⟨S_, .f32⟩
  | .hbm, ⟨18, _⟩ => ⟨S32768, .f32⟩
  | .hbm, ⟨19, _⟩ => ⟨S32768x1, .f32⟩
  | .hbm, ⟨20, _⟩ => ⟨S32768x2, .f32⟩
  | .hbm, ⟨21, _⟩ => ⟨S32768x2, .f32⟩
  | .hbm, ⟨22, _⟩ => ⟨S32768x2x1, .i32⟩
  | .hbm, ⟨23, _⟩ => ⟨S1x1x8, .i32⟩
  | .hbm, ⟨24, _⟩ => ⟨S32768x2x8, .i32⟩
  | .hbm, ⟨25, _⟩ => ⟨S32768x2x8, .i32⟩
  | .hbm, ⟨26, _⟩ => ⟨S32768x2x8, .i1⟩
  | .hbm, ⟨27, _⟩ => ⟨S32768x2x8, .f32⟩
  | .hbm, ⟨28, _⟩ => ⟨S32768x2x8, .i32⟩
  | .hbm, ⟨29, _⟩ => ⟨S_, .i32⟩
  | .hbm, ⟨30, _⟩ => ⟨S32768x8, .i32⟩
  | .hbm, ⟨31, _⟩ => ⟨S16x2048x8, .i32⟩
  | .hbm, ⟨32, _⟩ => ⟨S32768x2x1, .f32⟩
  | .hbm, ⟨33, _⟩ => ⟨S32768x2x8, .f32⟩
  | .hbm, ⟨34, _⟩ => ⟨S32768x2x8, .f32⟩
  | .hbm, ⟨35, _⟩ => ⟨S_, .f32⟩
  | .hbm, ⟨36, _⟩ => ⟨S32768x8, .f32⟩
  | .hbm, ⟨37, _⟩ => ⟨S16x2048x8, .f32⟩
  | .hbm, ⟨38, _⟩ => ⟨S_, .i32⟩
  | .hbm, ⟨39, _⟩ => ⟨S16x2048x8, .i32⟩
  | .hbm, ⟨40, _⟩ => ⟨S16x2048x8, .i1⟩
  | .hbm, ⟨41, _⟩ => ⟨S_, .i32⟩
  | .hbm, ⟨42, _⟩ => ⟨S_, .i32⟩
  | .hbm, ⟨43, _⟩ => ⟨S16x2048x8, .i32⟩
  | .hbm, ⟨44, _⟩ => ⟨S16x2048x8, .i32⟩
  | .hbm, ⟨45, _⟩ => ⟨S_, .i32⟩
  | .hbm, ⟨46, _⟩ => ⟨S_, .i32⟩
  | .hbm, ⟨47, _⟩ => ⟨S16x2048x8, .i32⟩
  | .hbm, ⟨48, _⟩ => ⟨S16x2048x8, .i32⟩
  | .hbm, ⟨49, _⟩ => ⟨S16x8x2048, .i32⟩
  | .hbm, ⟨50, _⟩ => ⟨S16x4x512x8, .i32⟩
  | .hbm, ⟨51, _⟩ => ⟨S_, .i32⟩
  | .hbm, ⟨52, _⟩ => ⟨S16x4x8, .i32⟩
  | .hbm, ⟨53, _⟩ => ⟨S_, .i32⟩
  | .hbm, ⟨54, _⟩ => ⟨S16x1x8, .i32⟩
  | .hbm, ⟨55, _⟩ => ⟨S_, .i32⟩
  | .hbm, ⟨56, _⟩ => ⟨S_, .i32⟩
  | .hbm, ⟨57, _⟩ => ⟨S16x4x8, .i32⟩
  | .hbm, ⟨58, _⟩ => ⟨S16x5x8, .i32⟩
  | .hbm, ⟨59, _⟩ => ⟨S16x8x2048, .f32⟩
  | .hbm, ⟨60, _⟩ => ⟨S16x8x2048x1, .f32⟩
  | .hbm, ⟨61, _⟩ => ⟨S16x8x1x2048, .i32⟩
  | .hbm, ⟨62, _⟩ => ⟨S16x8x2048x1, .i32⟩
  | .hbm, ⟨63, _⟩ => ⟨S32768x1024, .f32⟩
  | .local _ .vmem, ⟨0, _⟩ => ⟨S2048x1024, .bf16⟩
  | .local _ .vmem, ⟨1, _⟩ => ⟨S2048x1024, .bf16⟩
  | .local _ .vmem, ⟨2, _⟩ => ⟨S1x1x1x2048, .i32⟩
  | .local _ .vmem, ⟨3, _⟩ => ⟨S1x1x1x2048, .i32⟩
  | .local _ .vmem, ⟨4, _⟩ => ⟨S1x1x2048x1, .i32⟩
  | .local _ .vmem, ⟨5, _⟩ => ⟨S1x1x2048x1, .i32⟩
  | .local _ .vmem, ⟨6, _⟩ => ⟨S1x1x2048x1, .f32⟩
  | .local _ .vmem, ⟨7, _⟩ => ⟨S1x1x2048x1, .f32⟩
  | .local _ .vmem, ⟨8, _⟩ => ⟨S1x1024x512, .bf16⟩
  | .local _ .vmem, ⟨9, _⟩ => ⟨S1x1024x512, .bf16⟩
  | .local _ .vmem, ⟨10, _⟩ => ⟨S1x1024x512, .bf16⟩
  | .local _ .vmem, ⟨11, _⟩ => ⟨S1x1024x512, .bf16⟩
  | .local _ .vmem, ⟨12, _⟩ => ⟨S1x512x1024, .bf16⟩
  | .local _ .vmem, ⟨13, _⟩ => ⟨S1x512x1024, .bf16⟩
  | .local _ .vmem, ⟨14, _⟩ => ⟨S2048x1024, .f32⟩
  | .local _ .vmem, ⟨15, _⟩ => ⟨S2048x1024, .f32⟩
  | .local _ .vmem, ⟨16, _⟩ => ⟨S2048x1024, .bf16⟩
  | .local _ .vmem, ⟨17, _⟩ => ⟨S2048x1024, .f32⟩
  | .local _ .smem, ⟨0, _⟩ => ⟨S16x8x5, .i32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_values : Ref sig .tc := ⟨.hbm, 6, rfl⟩
abbrev main_indices : Ref sig .tc := ⟨.hbm, 7, rfl⟩
abbrev main_cst : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_v13 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_2 : Ref sig .tc := ⟨.hbm, 35, rfl⟩
abbrev main_v20 : Ref sig .tc := ⟨.hbm, 36, rfl⟩
abbrev main_v21 : Ref sig .tc := ⟨.hbm, 37, rfl⟩
abbrev main_c_3 : Ref sig .tc := ⟨.hbm, 38, rfl⟩
abbrev main_v22 : Ref sig .tc := ⟨.hbm, 39, rfl⟩
abbrev main_v23 : Ref sig .tc := ⟨.hbm, 40, rfl⟩
abbrev main_call1_call0_c : Ref sig .tc := ⟨.hbm, 41, rfl⟩
abbrev main_call1_call0_v0 : Ref sig .tc := ⟨.hbm, 42, rfl⟩
abbrev main_v24 : Ref sig .tc := ⟨.hbm, 43, rfl⟩
abbrev main_v25 : Ref sig .tc := ⟨.hbm, 44, rfl⟩
abbrev main_c_4 : Ref sig .tc := ⟨.hbm, 45, rfl⟩
abbrev main_call2_v0 : Ref sig .tc := ⟨.hbm, 46, rfl⟩
abbrev main_call2_v1 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_c_5 : Ref sig .tc := ⟨.hbm, 51, rfl⟩
abbrev main_v29 : Ref sig .tc := ⟨.hbm, 52, rfl⟩
abbrev main_c_6 : Ref sig .tc := ⟨.hbm, 53, rfl⟩
abbrev main_v30 : Ref sig .tc := ⟨.hbm, 54, rfl⟩
abbrev main_call3_call0_c : Ref sig .tc := ⟨.hbm, 55, rfl⟩
abbrev main_call3_call0_v0 : Ref sig .tc := ⟨.hbm, 56, rfl⟩
abbrev main_v31 : Ref sig .tc := ⟨.hbm, 57, rfl⟩
abbrev main_v32 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v33 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![16, 8, 7], ![false, false, false]⟩

abbrev pre0 : Pipeline.Prefetch sig := ⟨1, ![main_v33.idx], fun | 0 => main_v33.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 3 → Nat :=
  let arg0 : BitVec 32 := BitVec.ofNat 32 (i 0).val
  let v0 : Index := Scalar.indexCast arg0
  let arg1 : BitVec 32 := BitVec.ofNat 32 (i 1).val
  let v1 : Index := Scalar.indexCast arg1
  let c4 : Index := 4#32
  ![v0.toNat, v1.toNat, 4]
def k0_cond2 (i : grid0.Coords) : BitVec 1 :=
  let arg2 : BitVec 32 := BitVec.ofNat 32 (i 2).val
  let c0_i32_7 : BitVec 32 := 0#32
  let v26 : BitVec 1 := Scalar.cmpi .eq arg2 c0_i32_7
  let v27 : BitVec 32 := Scalar.extui v26
  let c0_i32_8 : BitVec 32 := 0#32
  let v28 : BitVec 1 := Scalar.cmpi .ne v27 c0_i32_8
  v28

@[reducible] def k0_t1_loop (v2 : BitVec 32) : Scf.Loop 32 :=
  let c0_i32_15 : BitVec 32 := 0#32
  let c255_i32 : BitVec 32 := 255#32
  let v3 : BitVec 32 := Scalar.addi v2 c255_i32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c256_i32 : BitVec 32 := 256#32
  let c0_i32_1 : BitVec 32 := 0#32
  let v10 : BitVec 1 := Scalar.cmpi .sgt c256_i32 c0_i32_1
  let v11 : BitVec 32 := Scalar.extui v10
  let c0_i32_2 : BitVec 32 := 0#32
  let v12 : BitVec 1 := Scalar.cmpi .slt c256_i32 c0_i32_2
  let v13 : BitVec 32 := Scalar.extui v12
  let v14 : BitVec 32 := Scalar.subi v11 v13
  let v15 : BitVec 1 := Scalar.cmpi .ne v9 v14
  let v16 : BitVec 32 := Scalar.remsi v3 c256_i32
  let c0_i32_3 : BitVec 32 := 0#32
  let v17 : BitVec 1 := Scalar.cmpi .ne v16 c0_i32_3
  let v18 : BitVec 1 := Scalar.andi v15 v17
  let v4 : BitVec 32 := Scalar.divsi v3 c256_i32
  let c1_i32 : BitVec 32 := 1#32
  let v19 : BitVec 32 := Scalar.subi v4 c1_i32
  let v20 : BitVec 32 := Scalar.select v18 v19 v4
  let v38 : BitVec 32 := Scalar.subi v20 c0_i32_15
  let c1_i32_16 : BitVec 32 := 1#32
  let v40 : BitVec 32 := Scalar.divsi v38 c1_i32_16
  let v41 : BitVec 32 := Scalar.muli v40 c1_i32_16
  let v42 : BitVec 32 := Scalar.addi c0_i32_15 v41
  let c1_i32_17 : BitVec 32 := 1#32
  ⟨c0_i32_15, v42, c1_i32_17⟩

def k0_mult1 (v2 : BitVec 32) (k0_t1 : Fin (k0_t1_loop v2).trips) : BitVec 32 :=
  let c0_i32_15 : BitVec 32 := 0#32
  let c1_i32_17 : BitVec 32 := 1#32
  let arg14 : BitVec 32 := Scf.iv c0_i32_15 c1_i32_17 k0_t1
  let c256_i32_19 : BitVec 32 := 256#32
  let v43 : BitVec 32 := Scalar.muli arg14 c256_i32_19
  v43
def k0_off2 (v2 : BitVec 32) (k0_t1 : Fin (k0_t1_loop v2).trips) : Fin 2 → Nat :=
  let c0_i32_15 : BitVec 32 := 0#32
  let c1_i32_17 : BitVec 32 := 1#32
  let arg14 : BitVec 32 := Scf.iv c0_i32_15 c1_i32_17 k0_t1
  let c256_i32_19 : BitVec 32 := 256#32
  let v43 : BitVec 32 := Scalar.muli arg14 c256_i32_19
  let v44 : BitVec 32 := v43
  let v46 : Index := Scalar.indexCast v44
  let c0 : Index := 0#32
  ![v46.toNat, 0]
def k0_off3 (i : grid0.Coords) : Fin 3 → Nat :=
  let arg0 : BitVec 32 := BitVec.ofNat 32 (i 0).val
  let v50 : Index := Scalar.indexCast arg0
  let arg1 : BitVec 32 := BitVec.ofNat 32 (i 1).val
  let v51 : Index := Scalar.indexCast arg1
  let c0_20 : Index := 0#32
  ![v50.toNat, v51.toNat, 0]
def k0_off4 (i : grid0.Coords) : Fin 3 → Nat :=
  let arg0 : BitVec 32 := BitVec.ofNat 32 (i 0).val
  let v56 : Index := Scalar.indexCast arg0
  let arg1 : BitVec 32 := BitVec.ofNat 32 (i 1).val
  let v57 : Index := Scalar.indexCast arg1
  let c1 : Index := 1#32
  ![v56.toNat, v57.toNat, 1]
def k0_off5 (v2 : BitVec 32) (k0_t1 : Fin (k0_t1_loop v2).trips) : Fin 2 → Nat :=
  let c0_i32_15 : BitVec 32 := 0#32
  let c1_i32_17 : BitVec 32 := 1#32
  let arg14 : BitVec 32 := Scf.iv c0_i32_15 c1_i32_17 k0_t1
  let c256_i32_19 : BitVec 32 := 256#32
  let v43 : BitVec 32 := Scalar.muli arg14 c256_i32_19
  let v44 : BitVec 32 := v43
  let v125 : Index := Scalar.indexCast v44
  let c0_50 : Index := 0#32
  ![v125.toNat, 0]
def k0_cond3 (v2 : BitVec 32) (k0_t1 : Fin (k0_t1_loop v2).trips) (v52 : BitVec 32) (v58 : BitVec 32) : BitVec 1 :=
  let c0_i32_15 : BitVec 32 := 0#32
  let c1_i32_17 : BitVec 32 := 1#32
  let arg14 : BitVec 32 := Scf.iv c0_i32_15 c1_i32_17 k0_t1
  let c1_i32_21 : BitVec 32 := 1#32
  let v53 : BitVec 32 := Scalar.addi arg14 c1_i32_21
  let c256_i32_22 : BitVec 32 := 256#32
  let v54 : BitVec 32 := Scalar.muli v53 c256_i32_22
  let v55 : BitVec 1 := Scalar.cmpi .slt v52 v54
  let c256_i32_23 : BitVec 32 := 256#32
  let v59 : BitVec 32 := Scalar.muli arg14 c256_i32_23
  let v60 : BitVec 1 := Scalar.cmpi .sgt v58 v59
  let v61 : BitVec 1 := Scalar.andi v55 v60
  let v62 : BitVec 32 := Scalar.extui v61
  let c0_i32_24 : BitVec 32 := 0#32
  let v63 : BitVec 1 := Scalar.cmpi .ne v62 c0_i32_24
  v63

def k0_chk2 (i : grid0.Coords) (v2 : BitVec 32) (k0_t1 : Fin (k0_t1_loop v2).trips) (v52 : BitVec 32) (v58 : BitVec 32) : Prop :=
  (∀ (k0_h2 : k0_cond2 i = 1#1), ∀ (k0_h3 : k0_cond3 v2 k0_t1 v52 v58 = 1#1), ∀ a, (k0_off5 v2 k0_t1) a + S256x1024.size a ≤ S2048x1024.size a)
theorem k0_off5_inb : ∀ (i : grid0.Coords) (v2 : BitVec 32) (k0_t1 : Fin (k0_t1_loop v2).trips) (v52 : BitVec 32) (v58 : BitVec 32) (k0_hw2 : k0_chk2 i v2 k0_t1 v52 v58), ∀ (k0_h2 : k0_cond2 i = 1#1), ∀ (k0_h3 : k0_cond3 v2 k0_t1 v52 v58 = 1#1), ∀ a, (k0_off5 v2 k0_t1) a + S256x1024.size a ≤ S2048x1024.size a := fun i v2 k0_t1 v52 v58 k0_hw2 k0_h2 k0_h3 => k0_hw2 k0_h2 k0_h3

def k0_off6 (i : grid0.Coords) : Fin 3 → Nat :=
  let arg0 : BitVec 32 := BitVec.ofNat 32 (i 0).val
  let v64 : Index := Scalar.indexCast arg0
  let arg1 : BitVec 32 := BitVec.ofNat 32 (i 1).val
  let v65 : Index := Scalar.indexCast arg1
  let c1_25 : Index := 1#32
  ![v64.toNat, v65.toNat, 1]
def k0_off7 (i : grid0.Coords) : Fin 3 → Nat :=
  let arg0 : BitVec 32 := BitVec.ofNat 32 (i 0).val
  let v70 : Index := Scalar.indexCast arg0
  let arg1 : BitVec 32 := BitVec.ofNat 32 (i 1).val
  let v71 : Index := Scalar.indexCast arg1
  let c2 : Index := 2#32
  ![v70.toNat, v71.toNat, 2]
def k0_off8 (v2 : BitVec 32) (k0_t1 : Fin (k0_t1_loop v2).trips) : Fin 2 → Nat :=
  let c0_i32_15 : BitVec 32 := 0#32
  let c1_i32_17 : BitVec 32 := 1#32
  let arg14 : BitVec 32 := Scf.iv c0_i32_15 c1_i32_17 k0_t1
  let c256_i32_19 : BitVec 32 := 256#32
  let v43 : BitVec 32 := Scalar.muli arg14 c256_i32_19
  let v44 : BitVec 32 := v43
  let v125 : Index := Scalar.indexCast v44
  let c0_49 : Index := 0#32
  ![v125.toNat, 0]
def k0_cond4 (v2 : BitVec 32) (k0_t1 : Fin (k0_t1_loop v2).trips) (v66 : BitVec 32) (v72 : BitVec 32) : BitVec 1 :=
  let c0_i32_15 : BitVec 32 := 0#32
  let c1_i32_17 : BitVec 32 := 1#32
  let arg14 : BitVec 32 := Scf.iv c0_i32_15 c1_i32_17 k0_t1
  let c1_i32_26 : BitVec 32 := 1#32
  let v67 : BitVec 32 := Scalar.addi arg14 c1_i32_26
  let c256_i32_27 : BitVec 32 := 256#32
  let v68 : BitVec 32 := Scalar.muli v67 c256_i32_27
  let v69 : BitVec 1 := Scalar.cmpi .slt v66 v68
  let c256_i32_28 : BitVec 32 := 256#32
  let v73 : BitVec 32 := Scalar.muli arg14 c256_i32_28
  let v74 : BitVec 1 := Scalar.cmpi .sgt v72 v73
  let v75 : BitVec 1 := Scalar.andi v69 v74
  let v76 : BitVec 32 := Scalar.extui v75
  let c0_i32_29 : BitVec 32 := 0#32
  let v77 : BitVec 1 := Scalar.cmpi .ne v76 c0_i32_29
  v77

def k0_chk3 (i : grid0.Coords) (v2 : BitVec 32) (k0_t1 : Fin (k0_t1_loop v2).trips) (v66 : BitVec 32) (v72 : BitVec 32) : Prop :=
  (∀ (k0_h2 : k0_cond2 i = 1#1), ∀ (k0_h4 : k0_cond4 v2 k0_t1 v66 v72 = 1#1), ∀ a, (k0_off8 v2 k0_t1) a + S256x1024.size a ≤ S2048x1024.size a)
theorem k0_off8_inb : ∀ (i : grid0.Coords) (v2 : BitVec 32) (k0_t1 : Fin (k0_t1_loop v2).trips) (v66 : BitVec 32) (v72 : BitVec 32) (k0_hw3 : k0_chk3 i v2 k0_t1 v66 v72), ∀ (k0_h2 : k0_cond2 i = 1#1), ∀ (k0_h4 : k0_cond4 v2 k0_t1 v66 v72 = 1#1), ∀ a, (k0_off8 v2 k0_t1) a + S256x1024.size a ≤ S2048x1024.size a := fun i v2 k0_t1 v66 v72 k0_hw3 k0_h2 k0_h4 => k0_hw3 k0_h2 k0_h4

def k0_off9 (i : grid0.Coords) : Fin 3 → Nat :=
  let arg0 : BitVec 32 := BitVec.ofNat 32 (i 0).val
  let v78 : Index := Scalar.indexCast arg0
  let arg1 : BitVec 32 := BitVec.ofNat 32 (i 1).val
  let v79 : Index := Scalar.indexCast arg1
  let c2_30 : Index := 2#32
  ![v78.toNat, v79.toNat, 2]
def k0_off10 (i : grid0.Coords) : Fin 3 → Nat :=
  let arg0 : BitVec 32 := BitVec.ofNat 32 (i 0).val
  let v84 : Index := Scalar.indexCast arg0
  let arg1 : BitVec 32 := BitVec.ofNat 32 (i 1).val
  let v85 : Index := Scalar.indexCast arg1
  let c3 : Index := 3#32
  ![v84.toNat, v85.toNat, 3]
def k0_off11 (v2 : BitVec 32) (k0_t1 : Fin (k0_t1_loop v2).trips) : Fin 2 → Nat :=
  let c0_i32_15 : BitVec 32 := 0#32
  let c1_i32_17 : BitVec 32 := 1#32
  let arg14 : BitVec 32 := Scf.iv c0_i32_15 c1_i32_17 k0_t1
  let c256_i32_19 : BitVec 32 := 256#32
  let v43 : BitVec 32 := Scalar.muli arg14 c256_i32_19
  let v44 : BitVec 32 := v43
  let v125 : Index := Scalar.indexCast v44
  let c0_49 : Index := 0#32
  ![v125.toNat, 0]
def k0_cond5 (v2 : BitVec 32) (k0_t1 : Fin (k0_t1_loop v2).trips) (v80 : BitVec 32) (v86 : BitVec 32) : BitVec 1 :=
  let c0_i32_15 : BitVec 32 := 0#32
  let c1_i32_17 : BitVec 32 := 1#32
  let arg14 : BitVec 32 := Scf.iv c0_i32_15 c1_i32_17 k0_t1
  let c1_i32_31 : BitVec 32 := 1#32
  let v81 : BitVec 32 := Scalar.addi arg14 c1_i32_31
  let c256_i32_32 : BitVec 32 := 256#32
  let v82 : BitVec 32 := Scalar.muli v81 c256_i32_32
  let v83 : BitVec 1 := Scalar.cmpi .slt v80 v82
  let c256_i32_33 : BitVec 32 := 256#32
  let v87 : BitVec 32 := Scalar.muli arg14 c256_i32_33
  let v88 : BitVec 1 := Scalar.cmpi .sgt v86 v87
  let v89 : BitVec 1 := Scalar.andi v83 v88
  let v90 : BitVec 32 := Scalar.extui v89
  let c0_i32_34 : BitVec 32 := 0#32
  let v91 : BitVec 1 := Scalar.cmpi .ne v90 c0_i32_34
  v91

def k0_chk4 (i : grid0.Coords) (v2 : BitVec 32) (k0_t1 : Fin (k0_t1_loop v2).trips) (v80 : BitVec 32) (v86 : BitVec 32) : Prop :=
  (∀ (k0_h2 : k0_cond2 i = 1#1), ∀ (k0_h5 : k0_cond5 v2 k0_t1 v80 v86 = 1#1), ∀ a, (k0_off11 v2 k0_t1) a + S256x1024.size a ≤ S2048x1024.size a)
theorem k0_off11_inb : ∀ (i : grid0.Coords) (v2 : BitVec 32) (k0_t1 : Fin (k0_t1_loop v2).trips) (v80 : BitVec 32) (v86 : BitVec 32) (k0_hw4 : k0_chk4 i v2 k0_t1 v80 v86), ∀ (k0_h2 : k0_cond2 i = 1#1), ∀ (k0_h5 : k0_cond5 v2 k0_t1 v80 v86 = 1#1), ∀ a, (k0_off11 v2 k0_t1) a + S256x1024.size a ≤ S2048x1024.size a := fun i v2 k0_t1 v80 v86 k0_hw4 k0_h2 k0_h5 => k0_hw4 k0_h2 k0_h5

def k0_off12 (i : grid0.Coords) : Fin 3 → Nat :=
  let arg0 : BitVec 32 := BitVec.ofNat 32 (i 0).val
  let v92 : Index := Scalar.indexCast arg0
  let arg1 : BitVec 32 := BitVec.ofNat 32 (i 1).val
  let v93 : Index := Scalar.indexCast arg1
  let c3_35 : Index := 3#32
  ![v92.toNat, v93.toNat, 3]
def k0_off13 (i : grid0.Coords) : Fin 3 → Nat :=
  let arg0 : BitVec 32 := BitVec.ofNat 32 (i 0).val
  let v98 : Index := Scalar.indexCast arg0
  let arg1 : BitVec 32 := BitVec.ofNat 32 (i 1).val
  let v99 : Index := Scalar.indexCast arg1
  let c4_38 : Index := 4#32
  ![v98.toNat, v99.toNat, 4]
def k0_off14 (v2 : BitVec 32) (k0_t1 : Fin (k0_t1_loop v2).trips) : Fin 2 → Nat :=
  let c0_i32_15 : BitVec 32 := 0#32
  let c1_i32_17 : BitVec 32 := 1#32
  let arg14 : BitVec 32 := Scf.iv c0_i32_15 c1_i32_17 k0_t1
  let c256_i32_19 : BitVec 32 := 256#32
  let v43 : BitVec 32 := Scalar.muli arg14 c256_i32_19
  let v44 : BitVec 32 := v43
  let v125 : Index := Scalar.indexCast v44
  let c0_49 : Index := 0#32
  ![v125.toNat, 0]
def k0_cond6 (v2 : BitVec 32) (k0_t1 : Fin (k0_t1_loop v2).trips) (v94 : BitVec 32) (v100 : BitVec 32) : BitVec 1 :=
  let c0_i32_15 : BitVec 32 := 0#32
  let c1_i32_17 : BitVec 32 := 1#32
  let arg14 : BitVec 32 := Scf.iv c0_i32_15 c1_i32_17 k0_t1
  let c1_i32_36 : BitVec 32 := 1#32
  let v95 : BitVec 32 := Scalar.addi arg14 c1_i32_36
  let c256_i32_37 : BitVec 32 := 256#32
  let v96 : BitVec 32 := Scalar.muli v95 c256_i32_37
  let v97 : BitVec 1 := Scalar.cmpi .slt v94 v96
  let c256_i32_39 : BitVec 32 := 256#32
  let v101 : BitVec 32 := Scalar.muli arg14 c256_i32_39
  let v102 : BitVec 1 := Scalar.cmpi .sgt v100 v101
  let v103 : BitVec 1 := Scalar.andi v97 v102
  let v104 : BitVec 32 := Scalar.extui v103
  let c0_i32_40 : BitVec 32 := 0#32
  let v105 : BitVec 1 := Scalar.cmpi .ne v104 c0_i32_40
  v105

def k0_chk5 (i : grid0.Coords) (v2 : BitVec 32) (k0_t1 : Fin (k0_t1_loop v2).trips) (v94 : BitVec 32) (v100 : BitVec 32) : Prop :=
  (∀ (k0_h2 : k0_cond2 i = 1#1), ∀ (k0_h6 : k0_cond6 v2 k0_t1 v94 v100 = 1#1), ∀ a, (k0_off14 v2 k0_t1) a + S256x1024.size a ≤ S2048x1024.size a)
theorem k0_off14_inb : ∀ (i : grid0.Coords) (v2 : BitVec 32) (k0_t1 : Fin (k0_t1_loop v2).trips) (v94 : BitVec 32) (v100 : BitVec 32) (k0_hw5 : k0_chk5 i v2 k0_t1 v94 v100), ∀ (k0_h2 : k0_cond2 i = 1#1), ∀ (k0_h6 : k0_cond6 v2 k0_t1 v94 v100 = 1#1), ∀ a, (k0_off14 v2 k0_t1) a + S256x1024.size a ≤ S2048x1024.size a := fun i v2 k0_t1 v94 v100 k0_hw5 k0_h2 k0_h6 => k0_hw5 k0_h2 k0_h6

def k0_off15 (v2 : BitVec 32) (k0_t1 : Fin (k0_t1_loop v2).trips) : Fin 2 → Nat :=
  let c0_i32_15 : BitVec 32 := 0#32
  let c1_i32_17 : BitVec 32 := 1#32
  let arg14 : BitVec 32 := Scf.iv c0_i32_15 c1_i32_17 k0_t1
  let c256_i32_19 : BitVec 32 := 256#32
  let v43 : BitVec 32 := Scalar.muli arg14 c256_i32_19
  let v44 : BitVec 32 := v43
  let v106 : Index := Scalar.indexCast v44
  let c0_41 : Index := 0#32
  ![v106.toNat, 0]
@[reducible] def k0_t2_loop (v2 : BitVec 32) : Scf.Loop 32 :=
  let c0_i32_15 : BitVec 32 := 0#32
  let c255_i32 : BitVec 32 := 255#32
  let v3 : BitVec 32 := Scalar.addi v2 c255_i32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c256_i32 : BitVec 32 := 256#32
  let c0_i32_1 : BitVec 32 := 0#32
  let v10 : BitVec 1 := Scalar.cmpi .sgt c256_i32 c0_i32_1
  let v11 : BitVec 32 := Scalar.extui v10
  let c0_i32_2 : BitVec 32 := 0#32
  let v12 : BitVec 1 := Scalar.cmpi .slt c256_i32 c0_i32_2
  let v13 : BitVec 32 := Scalar.extui v12
  let v14 : BitVec 32 := Scalar.subi v11 v13
  let v15 : BitVec 1 := Scalar.cmpi .ne v9 v14
  let v16 : BitVec 32 := Scalar.remsi v3 c256_i32
  let c0_i32_3 : BitVec 32 := 0#32
  let v17 : BitVec 1 := Scalar.cmpi .ne v16 c0_i32_3
  let v18 : BitVec 1 := Scalar.andi v15 v17
  let v4 : BitVec 32 := Scalar.divsi v3 c256_i32
  let c1_i32 : BitVec 32 := 1#32
  let v19 : BitVec 32 := Scalar.subi v4 c1_i32
  let v20 : BitVec 32 := Scalar.select v18 v19 v4
  let v38 : BitVec 32 := Scalar.subi v20 c0_i32_15
  let c1_i32_16 : BitVec 32 := 1#32
  let v40 : BitVec 32 := Scalar.divsi v38 c1_i32_16
  let v41 : BitVec 32 := Scalar.muli v40 c1_i32_16
  let v42 : BitVec 32 := Scalar.addi c0_i32_15 v41
  let v39 : BitVec 32 := Scalar.addi c0_i32_15 v38
  let c1_i32_18 : BitVec 32 := 1#32
  ⟨v42, v39, c1_i32_18⟩
def k0_mult2 (v2 : BitVec 32) (k0_t2 : Fin (k0_t2_loop v2).trips) : BitVec 32 :=
  let c0_i32_15 : BitVec 32 := 0#32
  let c255_i32 : BitVec 32 := 255#32
  let v3 : BitVec 32 := Scalar.addi v2 c255_i32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c256_i32 : BitVec 32 := 256#32
  let c0_i32_1 : BitVec 32 := 0#32
  let v10 : BitVec 1 := Scalar.cmpi .sgt c256_i32 c0_i32_1
  let v11 : BitVec 32 := Scalar.extui v10
  let c0_i32_2 : BitVec 32 := 0#32
  let v12 : BitVec 1 := Scalar.cmpi .slt c256_i32 c0_i32_2
  let v13 : BitVec 32 := Scalar.extui v12
  let v14 : BitVec 32 := Scalar.subi v11 v13
  let v15 : BitVec 1 := Scalar.cmpi .ne v9 v14
  let v16 : BitVec 32 := Scalar.remsi v3 c256_i32
  let c0_i32_3 : BitVec 32 := 0#32
  let v17 : BitVec 1 := Scalar.cmpi .ne v16 c0_i32_3
  let v18 : BitVec 1 := Scalar.andi v15 v17
  let v4 : BitVec 32 := Scalar.divsi v3 c256_i32
  let c1_i32 : BitVec 32 := 1#32
  let v19 : BitVec 32 := Scalar.subi v4 c1_i32
  let v20 : BitVec 32 := Scalar.select v18 v19 v4
  let v38 : BitVec 32 := Scalar.subi v20 c0_i32_15
  let c1_i32_16 : BitVec 32 := 1#32
  let v40 : BitVec 32 := Scalar.divsi v38 c1_i32_16
  let v41 : BitVec 32 := Scalar.muli v40 c1_i32_16
  let v42 : BitVec 32 := Scalar.addi c0_i32_15 v41
  let c1_i32_18 : BitVec 32 := 1#32
  let arg14 : BitVec 32 := Scf.iv v42 c1_i32_18 k0_t2
  let c256_i32_19 : BitVec 32 := 256#32
  let v43 : BitVec 32 := Scalar.muli arg14 c256_i32_19
  v43
def k0_off16 (v2 : BitVec 32) (k0_t2 : Fin (k0_t2_loop v2).trips) : Fin 2 → Nat :=
  let c0_i32_15 : BitVec 32 := 0#32
  let c255_i32 : BitVec 32 := 255#32
  let v3 : BitVec 32 := Scalar.addi v2 c255_i32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c256_i32 : BitVec 32 := 256#32
  let c0_i32_1 : BitVec 32 := 0#32
  let v10 : BitVec 1 := Scalar.cmpi .sgt c256_i32 c0_i32_1
  let v11 : BitVec 32 := Scalar.extui v10
  let c0_i32_2 : BitVec 32 := 0#32
  let v12 : BitVec 1 := Scalar.cmpi .slt c256_i32 c0_i32_2
  let v13 : BitVec 32 := Scalar.extui v12
  let v14 : BitVec 32 := Scalar.subi v11 v13
  let v15 : BitVec 1 := Scalar.cmpi .ne v9 v14
  let v16 : BitVec 32 := Scalar.remsi v3 c256_i32
  let c0_i32_3 : BitVec 32 := 0#32
  let v17 : BitVec 1 := Scalar.cmpi .ne v16 c0_i32_3
  let v18 : BitVec 1 := Scalar.andi v15 v17
  let v4 : BitVec 32 := Scalar.divsi v3 c256_i32
  let c1_i32 : BitVec 32 := 1#32
  let v19 : BitVec 32 := Scalar.subi v4 c1_i32
  let v20 : BitVec 32 := Scalar.select v18 v19 v4
  let v38 : BitVec 32 := Scalar.subi v20 c0_i32_15
  let c1_i32_16 : BitVec 32 := 1#32
  let v40 : BitVec 32 := Scalar.divsi v38 c1_i32_16
  let v41 : BitVec 32 := Scalar.muli v40 c1_i32_16
  let v42 : BitVec 32 := Scalar.addi c0_i32_15 v41
  let c1_i32_18 : BitVec 32 := 1#32
  let arg14 : BitVec 32 := Scf.iv v42 c1_i32_18 k0_t2
  let c256_i32_19 : BitVec 32 := 256#32
  let v43 : BitVec 32 := Scalar.muli arg14 c256_i32_19
  let v44 : BitVec 32 := v43
  let v46 : Index := Scalar.indexCast v44
  let c0 : Index := 0#32
  ![v46.toNat, 0]
def k0_off17 (i : grid0.Coords) : Fin 3 → Nat :=
  let arg0 : BitVec 32 := BitVec.ofNat 32 (i 0).val
  let v50 : Index := Scalar.indexCast arg0
  let arg1 : BitVec 32 := BitVec.ofNat 32 (i 1).val
  let v51 : Index := Scalar.indexCast arg1
  let c0_20 : Index := 0#32
  ![v50.toNat, v51.toNat, 0]
def k0_off18 (i : grid0.Coords) : Fin 3 → Nat :=
  let arg0 : BitVec 32 := BitVec.ofNat 32 (i 0).val
  let v56 : Index := Scalar.indexCast arg0
  let arg1 : BitVec 32 := BitVec.ofNat 32 (i 1).val
  let v57 : Index := Scalar.indexCast arg1
  let c1 : Index := 1#32
  ![v56.toNat, v57.toNat, 1]
def k0_off19 (v2 : BitVec 32) (k0_t2 : Fin (k0_t2_loop v2).trips) : Fin 2 → Nat :=
  let c0_i32_15 : BitVec 32 := 0#32
  let c255_i32 : BitVec 32 := 255#32
  let v3 : BitVec 32 := Scalar.addi v2 c255_i32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c256_i32 : BitVec 32 := 256#32
  let c0_i32_1 : BitVec 32 := 0#32
  let v10 : BitVec 1 := Scalar.cmpi .sgt c256_i32 c0_i32_1
  let v11 : BitVec 32 := Scalar.extui v10
  let c0_i32_2 : BitVec 32 := 0#32
  let v12 : BitVec 1 := Scalar.cmpi .slt c256_i32 c0_i32_2
  let v13 : BitVec 32 := Scalar.extui v12
  let v14 : BitVec 32 := Scalar.subi v11 v13
  let v15 : BitVec 1 := Scalar.cmpi .ne v9 v14
  let v16 : BitVec 32 := Scalar.remsi v3 c256_i32
  let c0_i32_3 : BitVec 32 := 0#32
  let v17 : BitVec 1 := Scalar.cmpi .ne v16 c0_i32_3
  let v18 : BitVec 1 := Scalar.andi v15 v17
  let v4 : BitVec 32 := Scalar.divsi v3 c256_i32
  let c1_i32 : BitVec 32 := 1#32
  let v19 : BitVec 32 := Scalar.subi v4 c1_i32
  let v20 : BitVec 32 := Scalar.select v18 v19 v4
  let v38 : BitVec 32 := Scalar.subi v20 c0_i32_15
  let c1_i32_16 : BitVec 32 := 1#32
  let v40 : BitVec 32 := Scalar.divsi v38 c1_i32_16
  let v41 : BitVec 32 := Scalar.muli v40 c1_i32_16
  let v42 : BitVec 32 := Scalar.addi c0_i32_15 v41
  let c1_i32_18 : BitVec 32 := 1#32
  let arg14 : BitVec 32 := Scf.iv v42 c1_i32_18 k0_t2
  let c256_i32_19 : BitVec 32 := 256#32
  let v43 : BitVec 32 := Scalar.muli arg14 c256_i32_19
  let v44 : BitVec 32 := v43
  let v125 : Index := Scalar.indexCast v44
  let c0_50 : Index := 0#32
  ![v125.toNat, 0]
def k0_cond7 (v2 : BitVec 32) (k0_t2 : Fin (k0_t2_loop v2).trips) (v52 : BitVec 32) (v58 : BitVec 32) : BitVec 1 :=
  let c0_i32_15 : BitVec 32 := 0#32
  let c255_i32 : BitVec 32 := 255#32
  let v3 : BitVec 32 := Scalar.addi v2 c255_i32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c256_i32 : BitVec 32 := 256#32
  let c0_i32_1 : BitVec 32 := 0#32
  let v10 : BitVec 1 := Scalar.cmpi .sgt c256_i32 c0_i32_1
  let v11 : BitVec 32 := Scalar.extui v10
  let c0_i32_2 : BitVec 32 := 0#32
  let v12 : BitVec 1 := Scalar.cmpi .slt c256_i32 c0_i32_2
  let v13 : BitVec 32 := Scalar.extui v12
  let v14 : BitVec 32 := Scalar.subi v11 v13
  let v15 : BitVec 1 := Scalar.cmpi .ne v9 v14
  let v16 : BitVec 32 := Scalar.remsi v3 c256_i32
  let c0_i32_3 : BitVec 32 := 0#32
  let v17 : BitVec 1 := Scalar.cmpi .ne v16 c0_i32_3
  let v18 : BitVec 1 := Scalar.andi v15 v17
  let v4 : BitVec 32 := Scalar.divsi v3 c256_i32
  let c1_i32 : BitVec 32 := 1#32
  let v19 : BitVec 32 := Scalar.subi v4 c1_i32
  let v20 : BitVec 32 := Scalar.select v18 v19 v4
  let v38 : BitVec 32 := Scalar.subi v20 c0_i32_15
  let c1_i32_16 : BitVec 32 := 1#32
  let v40 : BitVec 32 := Scalar.divsi v38 c1_i32_16
  let v41 : BitVec 32 := Scalar.muli v40 c1_i32_16
  let v42 : BitVec 32 := Scalar.addi c0_i32_15 v41
  let c1_i32_18 : BitVec 32 := 1#32
  let arg14 : BitVec 32 := Scf.iv v42 c1_i32_18 k0_t2
  let c1_i32_21 : BitVec 32 := 1#32
  let v53 : BitVec 32 := Scalar.addi arg14 c1_i32_21
  let c256_i32_22 : BitVec 32 := 256#32
  let v54 : BitVec 32 := Scalar.muli v53 c256_i32_22
  let v55 : BitVec 1 := Scalar.cmpi .slt v52 v54
  let c256_i32_23 : BitVec 32 := 256#32
  let v59 : BitVec 32 := Scalar.muli arg14 c256_i32_23
  let v60 : BitVec 1 := Scalar.cmpi .sgt v58 v59
  let v61 : BitVec 1 := Scalar.andi v55 v60
  let v62 : BitVec 32 := Scalar.extui v61
  let c0_i32_24 : BitVec 32 := 0#32
  let v63 : BitVec 1 := Scalar.cmpi .ne v62 c0_i32_24
  v63

def k0_chk6 (i : grid0.Coords) (v2 : BitVec 32) (k0_t2 : Fin (k0_t2_loop v2).trips) (v52 : BitVec 32) (v58 : BitVec 32) : Prop :=
  (∀ (k0_h2 : k0_cond2 i = 1#1), ∀ (k0_h7 : k0_cond7 v2 k0_t2 v52 v58 = 1#1), ∀ a, (k0_off19 v2 k0_t2) a + S256x1024.size a ≤ S2048x1024.size a)
theorem k0_off19_inb : ∀ (i : grid0.Coords) (v2 : BitVec 32) (k0_t2 : Fin (k0_t2_loop v2).trips) (v52 : BitVec 32) (v58 : BitVec 32) (k0_hw6 : k0_chk6 i v2 k0_t2 v52 v58), ∀ (k0_h2 : k0_cond2 i = 1#1), ∀ (k0_h7 : k0_cond7 v2 k0_t2 v52 v58 = 1#1), ∀ a, (k0_off19 v2 k0_t2) a + S256x1024.size a ≤ S2048x1024.size a := fun i v2 k0_t2 v52 v58 k0_hw6 k0_h2 k0_h7 => k0_hw6 k0_h2 k0_h7

def k0_off20 (i : grid0.Coords) : Fin 3 → Nat :=
  let arg0 : BitVec 32 := BitVec.ofNat 32 (i 0).val
  let v64 : Index := Scalar.indexCast arg0
  let arg1 : BitVec 32 := BitVec.ofNat 32 (i 1).val
  let v65 : Index := Scalar.indexCast arg1
  let c1_25 : Index := 1#32
  ![v64.toNat, v65.toNat, 1]
def k0_off21 (i : grid0.Coords) : Fin 3 → Nat :=
  let arg0 : BitVec 32 := BitVec.ofNat 32 (i 0).val
  let v70 : Index := Scalar.indexCast arg0
  let arg1 : BitVec 32 := BitVec.ofNat 32 (i 1).val
  let v71 : Index := Scalar.indexCast arg1
  let c2 : Index := 2#32
  ![v70.toNat, v71.toNat, 2]
def k0_off22 (v2 : BitVec 32) (k0_t2 : Fin (k0_t2_loop v2).trips) : Fin 2 → Nat :=
  let c0_i32_15 : BitVec 32 := 0#32
  let c255_i32 : BitVec 32 := 255#32
  let v3 : BitVec 32 := Scalar.addi v2 c255_i32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c256_i32 : BitVec 32 := 256#32
  let c0_i32_1 : BitVec 32 := 0#32
  let v10 : BitVec 1 := Scalar.cmpi .sgt c256_i32 c0_i32_1
  let v11 : BitVec 32 := Scalar.extui v10
  let c0_i32_2 : BitVec 32 := 0#32
  let v12 : BitVec 1 := Scalar.cmpi .slt c256_i32 c0_i32_2
  let v13 : BitVec 32 := Scalar.extui v12
  let v14 : BitVec 32 := Scalar.subi v11 v13
  let v15 : BitVec 1 := Scalar.cmpi .ne v9 v14
  let v16 : BitVec 32 := Scalar.remsi v3 c256_i32
  let c0_i32_3 : BitVec 32 := 0#32
  let v17 : BitVec 1 := Scalar.cmpi .ne v16 c0_i32_3
  let v18 : BitVec 1 := Scalar.andi v15 v17
  let v4 : BitVec 32 := Scalar.divsi v3 c256_i32
  let c1_i32 : BitVec 32 := 1#32
  let v19 : BitVec 32 := Scalar.subi v4 c1_i32
  let v20 : BitVec 32 := Scalar.select v18 v19 v4
  let v38 : BitVec 32 := Scalar.subi v20 c0_i32_15
  let c1_i32_16 : BitVec 32 := 1#32
  let v40 : BitVec 32 := Scalar.divsi v38 c1_i32_16
  let v41 : BitVec 32 := Scalar.muli v40 c1_i32_16
  let v42 : BitVec 32 := Scalar.addi c0_i32_15 v41
  let c1_i32_18 : BitVec 32 := 1#32
  let arg14 : BitVec 32 := Scf.iv v42 c1_i32_18 k0_t2
  let c256_i32_19 : BitVec 32 := 256#32
  let v43 : BitVec 32 := Scalar.muli arg14 c256_i32_19
  let v44 : BitVec 32 := v43
  let v125 : Index := Scalar.indexCast v44
  let c0_49 : Index := 0#32
  ![v125.toNat, 0]
def k0_cond8 (v2 : BitVec 32) (k0_t2 : Fin (k0_t2_loop v2).trips) (v66 : BitVec 32) (v72 : BitVec 32) : BitVec 1 :=
  let c0_i32_15 : BitVec 32 := 0#32
  let c255_i32 : BitVec 32 := 255#32
  let v3 : BitVec 32 := Scalar.addi v2 c255_i32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c256_i32 : BitVec 32 := 256#32
  let c0_i32_1 : BitVec 32 := 0#32
  let v10 : BitVec 1 := Scalar.cmpi .sgt c256_i32 c0_i32_1
  let v11 : BitVec 32 := Scalar.extui v10
  let c0_i32_2 : BitVec 32 := 0#32
  let v12 : BitVec 1 := Scalar.cmpi .slt c256_i32 c0_i32_2
  let v13 : BitVec 32 := Scalar.extui v12
  let v14 : BitVec 32 := Scalar.subi v11 v13
  let v15 : BitVec 1 := Scalar.cmpi .ne v9 v14
  let v16 : BitVec 32 := Scalar.remsi v3 c256_i32
  let c0_i32_3 : BitVec 32 := 0#32
  let v17 : BitVec 1 := Scalar.cmpi .ne v16 c0_i32_3
  let v18 : BitVec 1 := Scalar.andi v15 v17
  let v4 : BitVec 32 := Scalar.divsi v3 c256_i32
  let c1_i32 : BitVec 32 := 1#32
  let v19 : BitVec 32 := Scalar.subi v4 c1_i32
  let v20 : BitVec 32 := Scalar.select v18 v19 v4
  let v38 : BitVec 32 := Scalar.subi v20 c0_i32_15
  let c1_i32_16 : BitVec 32 := 1#32
  let v40 : BitVec 32 := Scalar.divsi v38 c1_i32_16
  let v41 : BitVec 32 := Scalar.muli v40 c1_i32_16
  let v42 : BitVec 32 := Scalar.addi c0_i32_15 v41
  let c1_i32_18 : BitVec 32 := 1#32
  let arg14 : BitVec 32 := Scf.iv v42 c1_i32_18 k0_t2
  let c1_i32_26 : BitVec 32 := 1#32
  let v67 : BitVec 32 := Scalar.addi arg14 c1_i32_26
  let c256_i32_27 : BitVec 32 := 256#32
  let v68 : BitVec 32 := Scalar.muli v67 c256_i32_27
  let v69 : BitVec 1 := Scalar.cmpi .slt v66 v68
  let c256_i32_28 : BitVec 32 := 256#32
  let v73 : BitVec 32 := Scalar.muli arg14 c256_i32_28
  let v74 : BitVec 1 := Scalar.cmpi .sgt v72 v73
  let v75 : BitVec 1 := Scalar.andi v69 v74
  let v76 : BitVec 32 := Scalar.extui v75
  let c0_i32_29 : BitVec 32 := 0#32
  let v77 : BitVec 1 := Scalar.cmpi .ne v76 c0_i32_29
  v77

def k0_chk7 (i : grid0.Coords) (v2 : BitVec 32) (k0_t2 : Fin (k0_t2_loop v2).trips) (v66 : BitVec 32) (v72 : BitVec 32) : Prop :=
  (∀ (k0_h2 : k0_cond2 i = 1#1), ∀ (k0_h8 : k0_cond8 v2 k0_t2 v66 v72 = 1#1), ∀ a, (k0_off22 v2 k0_t2) a + S256x1024.size a ≤ S2048x1024.size a)
theorem k0_off22_inb : ∀ (i : grid0.Coords) (v2 : BitVec 32) (k0_t2 : Fin (k0_t2_loop v2).trips) (v66 : BitVec 32) (v72 : BitVec 32) (k0_hw7 : k0_chk7 i v2 k0_t2 v66 v72), ∀ (k0_h2 : k0_cond2 i = 1#1), ∀ (k0_h8 : k0_cond8 v2 k0_t2 v66 v72 = 1#1), ∀ a, (k0_off22 v2 k0_t2) a + S256x1024.size a ≤ S2048x1024.size a := fun i v2 k0_t2 v66 v72 k0_hw7 k0_h2 k0_h8 => k0_hw7 k0_h2 k0_h8

def k0_off23 (i : grid0.Coords) : Fin 3 → Nat :=
  let arg0 : BitVec 32 := BitVec.ofNat 32 (i 0).val
  let v78 : Index := Scalar.indexCast arg0
  let arg1 : BitVec 32 := BitVec.ofNat 32 (i 1).val
  let v79 : Index := Scalar.indexCast arg1
  let c2_30 : Index := 2#32
  ![v78.toNat, v79.toNat, 2]
def k0_off24 (i : grid0.Coords) : Fin 3 → Nat :=
  let arg0 : BitVec 32 := BitVec.ofNat 32 (i 0).val
  let v84 : Index := Scalar.indexCast arg0
  let arg1 : BitVec 32 := BitVec.ofNat 32 (i 1).val
  let v85 : Index := Scalar.indexCast arg1
  let c3 : Index := 3#32
  ![v84.toNat, v85.toNat, 3]
def k0_off25 (v2 : BitVec 32) (k0_t2 : Fin (k0_t2_loop v2).trips) : Fin 2 → Nat :=
  let c0_i32_15 : BitVec 32 := 0#32
  let c255_i32 : BitVec 32 := 255#32
  let v3 : BitVec 32 := Scalar.addi v2 c255_i32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c256_i32 : BitVec 32 := 256#32
  let c0_i32_1 : BitVec 32 := 0#32
  let v10 : BitVec 1 := Scalar.cmpi .sgt c256_i32 c0_i32_1
  let v11 : BitVec 32 := Scalar.extui v10
  let c0_i32_2 : BitVec 32 := 0#32
  let v12 : BitVec 1 := Scalar.cmpi .slt c256_i32 c0_i32_2
  let v13 : BitVec 32 := Scalar.extui v12
  let v14 : BitVec 32 := Scalar.subi v11 v13
  let v15 : BitVec 1 := Scalar.cmpi .ne v9 v14
  let v16 : BitVec 32 := Scalar.remsi v3 c256_i32
  let c0_i32_3 : BitVec 32 := 0#32
  let v17 : BitVec 1 := Scalar.cmpi .ne v16 c0_i32_3
  let v18 : BitVec 1 := Scalar.andi v15 v17
  let v4 : BitVec 32 := Scalar.divsi v3 c256_i32
  let c1_i32 : BitVec 32 := 1#32
  let v19 : BitVec 32 := Scalar.subi v4 c1_i32
  let v20 : BitVec 32 := Scalar.select v18 v19 v4
  let v38 : BitVec 32 := Scalar.subi v20 c0_i32_15
  let c1_i32_16 : BitVec 32 := 1#32
  let v40 : BitVec 32 := Scalar.divsi v38 c1_i32_16
  let v41 : BitVec 32 := Scalar.muli v40 c1_i32_16
  let v42 : BitVec 32 := Scalar.addi c0_i32_15 v41
  let c1_i32_18 : BitVec 32 := 1#32
  let arg14 : BitVec 32 := Scf.iv v42 c1_i32_18 k0_t2
  let c256_i32_19 : BitVec 32 := 256#32
  let v43 : BitVec 32 := Scalar.muli arg14 c256_i32_19
  let v44 : BitVec 32 := v43
  let v125 : Index := Scalar.indexCast v44
  let c0_49 : Index := 0#32
  ![v125.toNat, 0]
def k0_cond9 (v2 : BitVec 32) (k0_t2 : Fin (k0_t2_loop v2).trips) (v80 : BitVec 32) (v86 : BitVec 32) : BitVec 1 :=
  let c0_i32_15 : BitVec 32 := 0#32
  let c255_i32 : BitVec 32 := 255#32
  let v3 : BitVec 32 := Scalar.addi v2 c255_i32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c256_i32 : BitVec 32 := 256#32
  let c0_i32_1 : BitVec 32 := 0#32
  let v10 : BitVec 1 := Scalar.cmpi .sgt c256_i32 c0_i32_1
  let v11 : BitVec 32 := Scalar.extui v10
  let c0_i32_2 : BitVec 32 := 0#32
  let v12 : BitVec 1 := Scalar.cmpi .slt c256_i32 c0_i32_2
  let v13 : BitVec 32 := Scalar.extui v12
  let v14 : BitVec 32 := Scalar.subi v11 v13
  let v15 : BitVec 1 := Scalar.cmpi .ne v9 v14
  let v16 : BitVec 32 := Scalar.remsi v3 c256_i32
  let c0_i32_3 : BitVec 32 := 0#32
  let v17 : BitVec 1 := Scalar.cmpi .ne v16 c0_i32_3
  let v18 : BitVec 1 := Scalar.andi v15 v17
  let v4 : BitVec 32 := Scalar.divsi v3 c256_i32
  let c1_i32 : BitVec 32 := 1#32
  let v19 : BitVec 32 := Scalar.subi v4 c1_i32
  let v20 : BitVec 32 := Scalar.select v18 v19 v4
  let v38 : BitVec 32 := Scalar.subi v20 c0_i32_15
  let c1_i32_16 : BitVec 32 := 1#32
  let v40 : BitVec 32 := Scalar.divsi v38 c1_i32_16
  let v41 : BitVec 32 := Scalar.muli v40 c1_i32_16
  let v42 : BitVec 32 := Scalar.addi c0_i32_15 v41
  let c1_i32_18 : BitVec 32 := 1#32
  let arg14 : BitVec 32 := Scf.iv v42 c1_i32_18 k0_t2
  let c1_i32_31 : BitVec 32 := 1#32
  let v81 : BitVec 32 := Scalar.addi arg14 c1_i32_31
  let c256_i32_32 : BitVec 32 := 256#32
  let v82 : BitVec 32 := Scalar.muli v81 c256_i32_32
  let v83 : BitVec 1 := Scalar.cmpi .slt v80 v82
  let c256_i32_33 : BitVec 32 := 256#32
  let v87 : BitVec 32 := Scalar.muli arg14 c256_i32_33
  let v88 : BitVec 1 := Scalar.cmpi .sgt v86 v87
  let v89 : BitVec 1 := Scalar.andi v83 v88
  let v90 : BitVec 32 := Scalar.extui v89
  let c0_i32_34 : BitVec 32 := 0#32
  let v91 : BitVec 1 := Scalar.cmpi .ne v90 c0_i32_34
  v91

def k0_chk8 (i : grid0.Coords) (v2 : BitVec 32) (k0_t2 : Fin (k0_t2_loop v2).trips) (v80 : BitVec 32) (v86 : BitVec 32) : Prop :=
  (∀ (k0_h2 : k0_cond2 i = 1#1), ∀ (k0_h9 : k0_cond9 v2 k0_t2 v80 v86 = 1#1), ∀ a, (k0_off25 v2 k0_t2) a + S256x1024.size a ≤ S2048x1024.size a)
theorem k0_off25_inb : ∀ (i : grid0.Coords) (v2 : BitVec 32) (k0_t2 : Fin (k0_t2_loop v2).trips) (v80 : BitVec 32) (v86 : BitVec 32) (k0_hw8 : k0_chk8 i v2 k0_t2 v80 v86), ∀ (k0_h2 : k0_cond2 i = 1#1), ∀ (k0_h9 : k0_cond9 v2 k0_t2 v80 v86 = 1#1), ∀ a, (k0_off25 v2 k0_t2) a + S256x1024.size a ≤ S2048x1024.size a := fun i v2 k0_t2 v80 v86 k0_hw8 k0_h2 k0_h9 => k0_hw8 k0_h2 k0_h9

def k0_off26 (i : grid0.Coords) : Fin 3 → Nat :=
  let arg0 : BitVec 32 := BitVec.ofNat 32 (i 0).val
  let v92 : Index := Scalar.indexCast arg0
  let arg1 : BitVec 32 := BitVec.ofNat 32 (i 1).val
  let v93 : Index := Scalar.indexCast arg1
  let c3_35 : Index := 3#32
  ![v92.toNat, v93.toNat, 3]
def k0_off27 (i : grid0.Coords) : Fin 3 → Nat :=
  let arg0 : BitVec 32 := BitVec.ofNat 32 (i 0).val
  let v98 : Index := Scalar.indexCast arg0
  let arg1 : BitVec 32 := BitVec.ofNat 32 (i 1).val
  let v99 : Index := Scalar.indexCast arg1
  let c4_38 : Index := 4#32
  ![v98.toNat, v99.toNat, 4]
def k0_off28 (v2 : BitVec 32) (k0_t2 : Fin (k0_t2_loop v2).trips) : Fin 2 → Nat :=
  let c0_i32_15 : BitVec 32 := 0#32
  let c255_i32 : BitVec 32 := 255#32
  let v3 : BitVec 32 := Scalar.addi v2 c255_i32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c256_i32 : BitVec 32 := 256#32
  let c0_i32_1 : BitVec 32 := 0#32
  let v10 : BitVec 1 := Scalar.cmpi .sgt c256_i32 c0_i32_1
  let v11 : BitVec 32 := Scalar.extui v10
  let c0_i32_2 : BitVec 32 := 0#32
  let v12 : BitVec 1 := Scalar.cmpi .slt c256_i32 c0_i32_2
  let v13 : BitVec 32 := Scalar.extui v12
  let v14 : BitVec 32 := Scalar.subi v11 v13
  let v15 : BitVec 1 := Scalar.cmpi .ne v9 v14
  let v16 : BitVec 32 := Scalar.remsi v3 c256_i32
  let c0_i32_3 : BitVec 32 := 0#32
  let v17 : BitVec 1 := Scalar.cmpi .ne v16 c0_i32_3
  let v18 : BitVec 1 := Scalar.andi v15 v17
  let v4 : BitVec 32 := Scalar.divsi v3 c256_i32
  let c1_i32 : BitVec 32 := 1#32
  let v19 : BitVec 32 := Scalar.subi v4 c1_i32
  let v20 : BitVec 32 := Scalar.select v18 v19 v4
  let v38 : BitVec 32 := Scalar.subi v20 c0_i32_15
  let c1_i32_16 : BitVec 32 := 1#32
  let v40 : BitVec 32 := Scalar.divsi v38 c1_i32_16
  let v41 : BitVec 32 := Scalar.muli v40 c1_i32_16
  let v42 : BitVec 32 := Scalar.addi c0_i32_15 v41
  let c1_i32_18 : BitVec 32 := 1#32
  let arg14 : BitVec 32 := Scf.iv v42 c1_i32_18 k0_t2
  let c256_i32_19 : BitVec 32 := 256#32
  let v43 : BitVec 32 := Scalar.muli arg14 c256_i32_19
  let v44 : BitVec 32 := v43
  let v125 : Index := Scalar.indexCast v44
  let c0_49 : Index := 0#32
  ![v125.toNat, 0]
def k0_cond10 (v2 : BitVec 32) (k0_t2 : Fin (k0_t2_loop v2).trips) (v94 : BitVec 32) (v100 : BitVec 32) : BitVec 1 :=
  let c0_i32_15 : BitVec 32 := 0#32
  let c255_i32 : BitVec 32 := 255#32
  let v3 : BitVec 32 := Scalar.addi v2 c255_i32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c256_i32 : BitVec 32 := 256#32
  let c0_i32_1 : BitVec 32 := 0#32
  let v10 : BitVec 1 := Scalar.cmpi .sgt c256_i32 c0_i32_1
  let v11 : BitVec 32 := Scalar.extui v10
  let c0_i32_2 : BitVec 32 := 0#32
  let v12 : BitVec 1 := Scalar.cmpi .slt c256_i32 c0_i32_2
  let v13 : BitVec 32 := Scalar.extui v12
  let v14 : BitVec 32 := Scalar.subi v11 v13
  let v15 : BitVec 1 := Scalar.cmpi .ne v9 v14
  let v16 : BitVec 32 := Scalar.remsi v3 c256_i32
  let c0_i32_3 : BitVec 32 := 0#32
  let v17 : BitVec 1 := Scalar.cmpi .ne v16 c0_i32_3
  let v18 : BitVec 1 := Scalar.andi v15 v17
  let v4 : BitVec 32 := Scalar.divsi v3 c256_i32
  let c1_i32 : BitVec 32 := 1#32
  let v19 : BitVec 32 := Scalar.subi v4 c1_i32
  let v20 : BitVec 32 := Scalar.select v18 v19 v4
  let v38 : BitVec 32 := Scalar.subi v20 c0_i32_15
  let c1_i32_16 : BitVec 32 := 1#32
  let v40 : BitVec 32 := Scalar.divsi v38 c1_i32_16
  let v41 : BitVec 32 := Scalar.muli v40 c1_i32_16
  let v42 : BitVec 32 := Scalar.addi c0_i32_15 v41
  let c1_i32_18 : BitVec 32 := 1#32
  let arg14 : BitVec 32 := Scf.iv v42 c1_i32_18 k0_t2
  let c1_i32_36 : BitVec 32 := 1#32
  let v95 : BitVec 32 := Scalar.addi arg14 c1_i32_36
  let c256_i32_37 : BitVec 32 := 256#32
  let v96 : BitVec 32 := Scalar.muli v95 c256_i32_37
  let v97 : BitVec 1 := Scalar.cmpi .slt v94 v96
  let c256_i32_39 : BitVec 32 := 256#32
  let v101 : BitVec 32 := Scalar.muli arg14 c256_i32_39
  let v102 : BitVec 1 := Scalar.cmpi .sgt v100 v101
  let v103 : BitVec 1 := Scalar.andi v97 v102
  let v104 : BitVec 32 := Scalar.extui v103
  let c0_i32_40 : BitVec 32 := 0#32
  let v105 : BitVec 1 := Scalar.cmpi .ne v104 c0_i32_40
  v105

def k0_chk9 (i : grid0.Coords) (v2 : BitVec 32) (k0_t2 : Fin (k0_t2_loop v2).trips) (v94 : BitVec 32) (v100 : BitVec 32) : Prop :=
  (∀ (k0_h2 : k0_cond2 i = 1#1), ∀ (k0_h10 : k0_cond10 v2 k0_t2 v94 v100 = 1#1), ∀ a, (k0_off28 v2 k0_t2) a + S256x1024.size a ≤ S2048x1024.size a)
theorem k0_off28_inb : ∀ (i : grid0.Coords) (v2 : BitVec 32) (k0_t2 : Fin (k0_t2_loop v2).trips) (v94 : BitVec 32) (v100 : BitVec 32) (k0_hw9 : k0_chk9 i v2 k0_t2 v94 v100), ∀ (k0_h2 : k0_cond2 i = 1#1), ∀ (k0_h10 : k0_cond10 v2 k0_t2 v94 v100 = 1#1), ∀ a, (k0_off28 v2 k0_t2) a + S256x1024.size a ≤ S2048x1024.size a := fun i v2 k0_t2 v94 v100 k0_hw9 k0_h2 k0_h10 => k0_hw9 k0_h2 k0_h10

def k0_off29 (v2 : BitVec 32) (k0_t2 : Fin (k0_t2_loop v2).trips) : Fin 2 → Nat :=
  let c0_i32_15 : BitVec 32 := 0#32
  let c255_i32 : BitVec 32 := 255#32
  let v3 : BitVec 32 := Scalar.addi v2 c255_i32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c256_i32 : BitVec 32 := 256#32
  let c0_i32_1 : BitVec 32 := 0#32
  let v10 : BitVec 1 := Scalar.cmpi .sgt c256_i32 c0_i32_1
  let v11 : BitVec 32 := Scalar.extui v10
  let c0_i32_2 : BitVec 32 := 0#32
  let v12 : BitVec 1 := Scalar.cmpi .slt c256_i32 c0_i32_2
  let v13 : BitVec 32 := Scalar.extui v12
  let v14 : BitVec 32 := Scalar.subi v11 v13
  let v15 : BitVec 1 := Scalar.cmpi .ne v9 v14
  let v16 : BitVec 32 := Scalar.remsi v3 c256_i32
  let c0_i32_3 : BitVec 32 := 0#32
  let v17 : BitVec 1 := Scalar.cmpi .ne v16 c0_i32_3
  let v18 : BitVec 1 := Scalar.andi v15 v17
  let v4 : BitVec 32 := Scalar.divsi v3 c256_i32
  let c1_i32 : BitVec 32 := 1#32
  let v19 : BitVec 32 := Scalar.subi v4 c1_i32
  let v20 : BitVec 32 := Scalar.select v18 v19 v4
  let v38 : BitVec 32 := Scalar.subi v20 c0_i32_15
  let c1_i32_16 : BitVec 32 := 1#32
  let v40 : BitVec 32 := Scalar.divsi v38 c1_i32_16
  let v41 : BitVec 32 := Scalar.muli v40 c1_i32_16
  let v42 : BitVec 32 := Scalar.addi c0_i32_15 v41
  let c1_i32_18 : BitVec 32 := 1#32
  let arg14 : BitVec 32 := Scf.iv v42 c1_i32_18 k0_t2
  let c256_i32_19 : BitVec 32 := 256#32
  let v43 : BitVec 32 := Scalar.muli arg14 c256_i32_19
  let v44 : BitVec 32 := v43
  let v106 : Index := Scalar.indexCast v44
  let c0_41 : Index := 0#32
  ![v106.toNat, 0]
def k0_cond11 (i : grid0.Coords) : BitVec 1 :=
  let arg2 : BitVec 32 := BitVec.ofNat 32 (i 2).val
  let c0_i32_9 : BitVec 32 := 0#32
  let v29 : BitVec 1 := Scalar.cmpi .eq arg2 c0_i32_9
  let v30 : BitVec 32 := Scalar.extui v29
  let c0_i32_10 : BitVec 32 := 0#32
  let v31 : BitVec 1 := Scalar.cmpi .ne v30 c0_i32_10
  v31

@[reducible] def k0_t3_loop (v2 : BitVec 32) : Scf.Loop 32 :=
  let c0_i32_21 : BitVec 32 := 0#32
  let c255_i32 : BitVec 32 := 255#32
  let v3 : BitVec 32 := Scalar.addi v2 c255_i32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c256_i32 : BitVec 32 := 256#32
  let c0_i32_1 : BitVec 32 := 0#32
  let v10 : BitVec 1 := Scalar.cmpi .sgt c256_i32 c0_i32_1
  let v11 : BitVec 32 := Scalar.extui v10
  let c0_i32_2 : BitVec 32 := 0#32
  let v12 : BitVec 1 := Scalar.cmpi .slt c256_i32 c0_i32_2
  let v13 : BitVec 32 := Scalar.extui v12
  let v14 : BitVec 32 := Scalar.subi v11 v13
  let v15 : BitVec 1 := Scalar.cmpi .ne v9 v14
  let v16 : BitVec 32 := Scalar.remsi v3 c256_i32
  let c0_i32_3 : BitVec 32 := 0#32
  let v17 : BitVec 1 := Scalar.cmpi .ne v16 c0_i32_3
  let v18 : BitVec 1 := Scalar.andi v15 v17
  let v4 : BitVec 32 := Scalar.divsi v3 c256_i32
  let c1_i32 : BitVec 32 := 1#32
  let v19 : BitVec 32 := Scalar.subi v4 c1_i32
  let v20 : BitVec 32 := Scalar.select v18 v19 v4
  let c0_i32_14 : BitVec 32 := 0#32
  let v39 : BitVec 1 := Scalar.cmpi .sgt v20 c0_i32_14
  let v40 : BitVec 32 := Scalar.extui v39
  let c0_i32_15 : BitVec 32 := 0#32
  let v41 : BitVec 1 := Scalar.cmpi .slt v20 c0_i32_15
  let v42 : BitVec 32 := Scalar.extui v41
  let v43 : BitVec 32 := Scalar.subi v40 v42
  let c2_i32 : BitVec 32 := 2#32
  let c0_i32_16 : BitVec 32 := 0#32
  let v44 : BitVec 1 := Scalar.cmpi .sgt c2_i32 c0_i32_16
  let v45 : BitVec 32 := Scalar.extui v44
  let c0_i32_17 : BitVec 32 := 0#32
  let v46 : BitVec 1 := Scalar.cmpi .slt c2_i32 c0_i32_17
  let v47 : BitVec 32 := Scalar.extui v46
  let v48 : BitVec 32 := Scalar.subi v45 v47
  let v49 : BitVec 1 := Scalar.cmpi .ne v43 v48
  let v50 : BitVec 32 := Scalar.remsi v20 c2_i32
  let c0_i32_18 : BitVec 32 := 0#32
  let v51 : BitVec 1 := Scalar.cmpi .ne v50 c0_i32_18
  let v52 : BitVec 1 := Scalar.andi v49 v51
  let v38 : BitVec 32 := Scalar.divsi v20 c2_i32
  let c1_i32_19 : BitVec 32 := 1#32
  let v53 : BitVec 32 := Scalar.subi v38 c1_i32_19
  let v54 : BitVec 32 := Scalar.select v52 v53 v38
  let v55 : BitVec 32 := Scalar.subi v54 c0_i32_21
  let c1_i32_22 : BitVec 32 := 1#32
  let v57 : BitVec 32 := Scalar.divsi v55 c1_i32_22
  let v58 : BitVec 32 := Scalar.muli v57 c1_i32_22
  let v59 : BitVec 32 := Scalar.addi c0_i32_21 v58
  let c1_i32_23 : BitVec 32 := 1#32
  ⟨c0_i32_21, v59, c1_i32_23⟩
def k0_mult3 (v2 : BitVec 32) (k0_t3 : Fin (k0_t3_loop v2).trips) : BitVec 32 :=
  let c2_i32_33 : BitVec 32 := 2#32
  let c0_i32_21 : BitVec 32 := 0#32
  let c1_i32_23 : BitVec 32 := 1#32
  let arg14 : BitVec 32 := Scf.iv c0_i32_21 c1_i32_23 k0_t3
  let v73 : BitVec 32 := Scalar.muli c2_i32_33 arg14
  let c256_i32_34 : BitVec 32 := 256#32
  let v74 : BitVec 32 := Scalar.muli v73 c256_i32_34
  v74
def k0_off30 (v2 : BitVec 32) (k0_t3 : Fin (k0_t3_loop v2).trips) : Fin 2 → Nat :=
  let c2_i32_33 : BitVec 32 := 2#32
  let c0_i32_21 : BitVec 32 := 0#32
  let c1_i32_23 : BitVec 32 := 1#32
  let arg14 : BitVec 32 := Scf.iv c0_i32_21 c1_i32_23 k0_t3
  let v73 : BitVec 32 := Scalar.muli c2_i32_33 arg14
  let c256_i32_34 : BitVec 32 := 256#32
  let v74 : BitVec 32 := Scalar.muli v73 c256_i32_34
  let v75 : BitVec 32 := v74
  let v76 : Index := Scalar.indexCast v75
  let c0 : Index := 0#32
  ![v76.toNat, 0]
def k0_mult4 (v2 : BitVec 32) (k0_t3 : Fin (k0_t3_loop v2).trips) : BitVec 32 :=
  let c2_i32_47 : BitVec 32 := 2#32
  let c0_i32_21 : BitVec 32 := 0#32
  let c1_i32_23 : BitVec 32 := 1#32
  let arg14 : BitVec 32 := Scf.iv c0_i32_21 c1_i32_23 k0_t3
  let v95 : BitVec 32 := Scalar.muli c2_i32_47 arg14
  let c1_i32_48 : BitVec 32 := 1#32
  let v96 : BitVec 32 := Scalar.addi v95 c1_i32_48
  let c256_i32_49 : BitVec 32 := 256#32
  let v97 : BitVec 32 := Scalar.muli v96 c256_i32_49
  v97
def k0_off31 (v2 : BitVec 32) (k0_t3 : Fin (k0_t3_loop v2).trips) : Fin 2 → Nat :=
  let c2_i32_47 : BitVec 32 := 2#32
  let c0_i32_21 : BitVec 32 := 0#32
  let c1_i32_23 : BitVec 32 := 1#32
  let arg14 : BitVec 32 := Scf.iv c0_i32_21 c1_i32_23 k0_t3
  let v95 : BitVec 32 := Scalar.muli c2_i32_47 arg14
  let c1_i32_48 : BitVec 32 := 1#32
  let v96 : BitVec 32 := Scalar.addi v95 c1_i32_48
  let c256_i32_49 : BitVec 32 := 256#32
  let v97 : BitVec 32 := Scalar.muli v96 c256_i32_49
  let v98 : BitVec 32 := v97
  let v99 : Index := Scalar.indexCast v98
  let c0_50 : Index := 0#32
  ![v99.toNat, 0]
@[reducible] def k0_t4_loop (v2 : BitVec 32) : Scf.Loop 32 :=
  let c0_i32_21 : BitVec 32 := 0#32
  let c255_i32 : BitVec 32 := 255#32
  let v3 : BitVec 32 := Scalar.addi v2 c255_i32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c256_i32 : BitVec 32 := 256#32
  let c0_i32_1 : BitVec 32 := 0#32
  let v10 : BitVec 1 := Scalar.cmpi .sgt c256_i32 c0_i32_1
  let v11 : BitVec 32 := Scalar.extui v10
  let c0_i32_2 : BitVec 32 := 0#32
  let v12 : BitVec 1 := Scalar.cmpi .slt c256_i32 c0_i32_2
  let v13 : BitVec 32 := Scalar.extui v12
  let v14 : BitVec 32 := Scalar.subi v11 v13
  let v15 : BitVec 1 := Scalar.cmpi .ne v9 v14
  let v16 : BitVec 32 := Scalar.remsi v3 c256_i32
  let c0_i32_3 : BitVec 32 := 0#32
  let v17 : BitVec 1 := Scalar.cmpi .ne v16 c0_i32_3
  let v18 : BitVec 1 := Scalar.andi v15 v17
  let v4 : BitVec 32 := Scalar.divsi v3 c256_i32
  let c1_i32 : BitVec 32 := 1#32
  let v19 : BitVec 32 := Scalar.subi v4 c1_i32
  let v20 : BitVec 32 := Scalar.select v18 v19 v4
  let c0_i32_14 : BitVec 32 := 0#32
  let v39 : BitVec 1 := Scalar.cmpi .sgt v20 c0_i32_14
  let v40 : BitVec 32 := Scalar.extui v39
  let c0_i32_15 : BitVec 32 := 0#32
  let v41 : BitVec 1 := Scalar.cmpi .slt v20 c0_i32_15
  let v42 : BitVec 32 := Scalar.extui v41
  let v43 : BitVec 32 := Scalar.subi v40 v42
  let c2_i32 : BitVec 32 := 2#32
  let c0_i32_16 : BitVec 32 := 0#32
  let v44 : BitVec 1 := Scalar.cmpi .sgt c2_i32 c0_i32_16
  let v45 : BitVec 32 := Scalar.extui v44
  let c0_i32_17 : BitVec 32 := 0#32
  let v46 : BitVec 1 := Scalar.cmpi .slt c2_i32 c0_i32_17
  let v47 : BitVec 32 := Scalar.extui v46
  let v48 : BitVec 32 := Scalar.subi v45 v47
  let v49 : BitVec 1 := Scalar.cmpi .ne v43 v48
  let v50 : BitVec 32 := Scalar.remsi v20 c2_i32
  let c0_i32_18 : BitVec 32 := 0#32
  let v51 : BitVec 1 := Scalar.cmpi .ne v50 c0_i32_18
  let v52 : BitVec 1 := Scalar.andi v49 v51
  let v38 : BitVec 32 := Scalar.divsi v20 c2_i32
  let c1_i32_19 : BitVec 32 := 1#32
  let v53 : BitVec 32 := Scalar.subi v38 c1_i32_19
  let v54 : BitVec 32 := Scalar.select v52 v53 v38
  let v55 : BitVec 32 := Scalar.subi v54 c0_i32_21
  let c1_i32_22 : BitVec 32 := 1#32
  let v57 : BitVec 32 := Scalar.divsi v55 c1_i32_22
  let v58 : BitVec 32 := Scalar.muli v57 c1_i32_22
  let v59 : BitVec 32 := Scalar.addi c0_i32_21 v58
  let v56 : BitVec 32 := Scalar.addi c0_i32_21 v55
  let c1_i32_24 : BitVec 32 := 1#32
  ⟨v59, v56, c1_i32_24⟩
def k0_mult5 (v2 : BitVec 32) (k0_t4 : Fin (k0_t4_loop v2).trips) : BitVec 32 :=
  let c2_i32_33 : BitVec 32 := 2#32
  let c0_i32_21 : BitVec 32 := 0#32
  let c255_i32 : BitVec 32 := 255#32
  let v3 : BitVec 32 := Scalar.addi v2 c255_i32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c256_i32 : BitVec 32 := 256#32
  let c0_i32_1 : BitVec 32 := 0#32
  let v10 : BitVec 1 := Scalar.cmpi .sgt c256_i32 c0_i32_1
  let v11 : BitVec 32 := Scalar.extui v10
  let c0_i32_2 : BitVec 32 := 0#32
  let v12 : BitVec 1 := Scalar.cmpi .slt c256_i32 c0_i32_2
  let v13 : BitVec 32 := Scalar.extui v12
  let v14 : BitVec 32 := Scalar.subi v11 v13
  let v15 : BitVec 1 := Scalar.cmpi .ne v9 v14
  let v16 : BitVec 32 := Scalar.remsi v3 c256_i32
  let c0_i32_3 : BitVec 32 := 0#32
  let v17 : BitVec 1 := Scalar.cmpi .ne v16 c0_i32_3
  let v18 : BitVec 1 := Scalar.andi v15 v17
  let v4 : BitVec 32 := Scalar.divsi v3 c256_i32
  let c1_i32 : BitVec 32 := 1#32
  let v19 : BitVec 32 := Scalar.subi v4 c1_i32
  let v20 : BitVec 32 := Scalar.select v18 v19 v4
  let c0_i32_14 : BitVec 32 := 0#32
  let v39 : BitVec 1 := Scalar.cmpi .sgt v20 c0_i32_14
  let v40 : BitVec 32 := Scalar.extui v39
  let c0_i32_15 : BitVec 32 := 0#32
  let v41 : BitVec 1 := Scalar.cmpi .slt v20 c0_i32_15
  let v42 : BitVec 32 := Scalar.extui v41
  let v43 : BitVec 32 := Scalar.subi v40 v42
  let c2_i32 : BitVec 32 := 2#32
  let c0_i32_16 : BitVec 32 := 0#32
  let v44 : BitVec 1 := Scalar.cmpi .sgt c2_i32 c0_i32_16
  let v45 : BitVec 32 := Scalar.extui v44
  let c0_i32_17 : BitVec 32 := 0#32
  let v46 : BitVec 1 := Scalar.cmpi .slt c2_i32 c0_i32_17
  let v47 : BitVec 32 := Scalar.extui v46
  let v48 : BitVec 32 := Scalar.subi v45 v47
  let v49 : BitVec 1 := Scalar.cmpi .ne v43 v48
  let v50 : BitVec 32 := Scalar.remsi v20 c2_i32
  let c0_i32_18 : BitVec 32 := 0#32
  let v51 : BitVec 1 := Scalar.cmpi .ne v50 c0_i32_18
  let v52 : BitVec 1 := Scalar.andi v49 v51
  let v38 : BitVec 32 := Scalar.divsi v20 c2_i32
  let c1_i32_19 : BitVec 32 := 1#32
  let v53 : BitVec 32 := Scalar.subi v38 c1_i32_19
  let v54 : BitVec 32 := Scalar.select v52 v53 v38
  let v55 : BitVec 32 := Scalar.subi v54 c0_i32_21
  let c1_i32_22 : BitVec 32 := 1#32
  let v57 : BitVec 32 := Scalar.divsi v55 c1_i32_22
  let v58 : BitVec 32 := Scalar.muli v57 c1_i32_22
  let v59 : BitVec 32 := Scalar.addi c0_i32_21 v58
  let c1_i32_24 : BitVec 32 := 1#32
  let arg14 : BitVec 32 := Scf.iv v59 c1_i32_24 k0_t4
  let v73 : BitVec 32 := Scalar.muli c2_i32_33 arg14
  let c256_i32_34 : BitVec 32 := 256#32
  let v74 : BitVec 32 := Scalar.muli v73 c256_i32_34
  v74
def k0_off32 (v2 : BitVec 32) (k0_t4 : Fin (k0_t4_loop v2).trips) : Fin 2 → Nat :=
  let c2_i32_33 : BitVec 32 := 2#32
  let c0_i32_21 : BitVec 32 := 0#32
  let c255_i32 : BitVec 32 := 255#32
  let v3 : BitVec 32 := Scalar.addi v2 c255_i32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c256_i32 : BitVec 32 := 256#32
  let c0_i32_1 : BitVec 32 := 0#32
  let v10 : BitVec 1 := Scalar.cmpi .sgt c256_i32 c0_i32_1
  let v11 : BitVec 32 := Scalar.extui v10
  let c0_i32_2 : BitVec 32 := 0#32
  let v12 : BitVec 1 := Scalar.cmpi .slt c256_i32 c0_i32_2
  let v13 : BitVec 32 := Scalar.extui v12
  let v14 : BitVec 32 := Scalar.subi v11 v13
  let v15 : BitVec 1 := Scalar.cmpi .ne v9 v14
  let v16 : BitVec 32 := Scalar.remsi v3 c256_i32
  let c0_i32_3 : BitVec 32 := 0#32
  let v17 : BitVec 1 := Scalar.cmpi .ne v16 c0_i32_3
  let v18 : BitVec 1 := Scalar.andi v15 v17
  let v4 : BitVec 32 := Scalar.divsi v3 c256_i32
  let c1_i32 : BitVec 32 := 1#32
  let v19 : BitVec 32 := Scalar.subi v4 c1_i32
  let v20 : BitVec 32 := Scalar.select v18 v19 v4
  let c0_i32_14 : BitVec 32 := 0#32
  let v39 : BitVec 1 := Scalar.cmpi .sgt v20 c0_i32_14
  let v40 : BitVec 32 := Scalar.extui v39
  let c0_i32_15 : BitVec 32 := 0#32
  let v41 : BitVec 1 := Scalar.cmpi .slt v20 c0_i32_15
  let v42 : BitVec 32 := Scalar.extui v41
  let v43 : BitVec 32 := Scalar.subi v40 v42
  let c2_i32 : BitVec 32 := 2#32
  let c0_i32_16 : BitVec 32 := 0#32
  let v44 : BitVec 1 := Scalar.cmpi .sgt c2_i32 c0_i32_16
  let v45 : BitVec 32 := Scalar.extui v44
  let c0_i32_17 : BitVec 32 := 0#32
  let v46 : BitVec 1 := Scalar.cmpi .slt c2_i32 c0_i32_17
  let v47 : BitVec 32 := Scalar.extui v46
  let v48 : BitVec 32 := Scalar.subi v45 v47
  let v49 : BitVec 1 := Scalar.cmpi .ne v43 v48
  let v50 : BitVec 32 := Scalar.remsi v20 c2_i32
  let c0_i32_18 : BitVec 32 := 0#32
  let v51 : BitVec 1 := Scalar.cmpi .ne v50 c0_i32_18
  let v52 : BitVec 1 := Scalar.andi v49 v51
  let v38 : BitVec 32 := Scalar.divsi v20 c2_i32
  let c1_i32_19 : BitVec 32 := 1#32
  let v53 : BitVec 32 := Scalar.subi v38 c1_i32_19
  let v54 : BitVec 32 := Scalar.select v52 v53 v38
  let v55 : BitVec 32 := Scalar.subi v54 c0_i32_21
  let c1_i32_22 : BitVec 32 := 1#32
  let v57 : BitVec 32 := Scalar.divsi v55 c1_i32_22
  let v58 : BitVec 32 := Scalar.muli v57 c1_i32_22
  let v59 : BitVec 32 := Scalar.addi c0_i32_21 v58
  let c1_i32_24 : BitVec 32 := 1#32
  let arg14 : BitVec 32 := Scf.iv v59 c1_i32_24 k0_t4
  let v73 : BitVec 32 := Scalar.muli c2_i32_33 arg14
  let c256_i32_34 : BitVec 32 := 256#32
  let v74 : BitVec 32 := Scalar.muli v73 c256_i32_34
  let v75 : BitVec 32 := v74
  let v76 : Index := Scalar.indexCast v75
  let c0 : Index := 0#32
  ![v76.toNat, 0]
def k0_mult6 (v2 : BitVec 32) (k0_t4 : Fin (k0_t4_loop v2).trips) : BitVec 32 :=
  let c2_i32_47 : BitVec 32 := 2#32
  let c0_i32_21 : BitVec 32 := 0#32
  let c255_i32 : BitVec 32 := 255#32
  let v3 : BitVec 32 := Scalar.addi v2 c255_i32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c256_i32 : BitVec 32 := 256#32
  let c0_i32_1 : BitVec 32 := 0#32
  let v10 : BitVec 1 := Scalar.cmpi .sgt c256_i32 c0_i32_1
  let v11 : BitVec 32 := Scalar.extui v10
  let c0_i32_2 : BitVec 32 := 0#32
  let v12 : BitVec 1 := Scalar.cmpi .slt c256_i32 c0_i32_2
  let v13 : BitVec 32 := Scalar.extui v12
  let v14 : BitVec 32 := Scalar.subi v11 v13
  let v15 : BitVec 1 := Scalar.cmpi .ne v9 v14
  let v16 : BitVec 32 := Scalar.remsi v3 c256_i32
  let c0_i32_3 : BitVec 32 := 0#32
  let v17 : BitVec 1 := Scalar.cmpi .ne v16 c0_i32_3
  let v18 : BitVec 1 := Scalar.andi v15 v17
  let v4 : BitVec 32 := Scalar.divsi v3 c256_i32
  let c1_i32 : BitVec 32 := 1#32
  let v19 : BitVec 32 := Scalar.subi v4 c1_i32
  let v20 : BitVec 32 := Scalar.select v18 v19 v4
  let c0_i32_14 : BitVec 32 := 0#32
  let v39 : BitVec 1 := Scalar.cmpi .sgt v20 c0_i32_14
  let v40 : BitVec 32 := Scalar.extui v39
  let c0_i32_15 : BitVec 32 := 0#32
  let v41 : BitVec 1 := Scalar.cmpi .slt v20 c0_i32_15
  let v42 : BitVec 32 := Scalar.extui v41
  let v43 : BitVec 32 := Scalar.subi v40 v42
  let c2_i32 : BitVec 32 := 2#32
  let c0_i32_16 : BitVec 32 := 0#32
  let v44 : BitVec 1 := Scalar.cmpi .sgt c2_i32 c0_i32_16
  let v45 : BitVec 32 := Scalar.extui v44
  let c0_i32_17 : BitVec 32 := 0#32
  let v46 : BitVec 1 := Scalar.cmpi .slt c2_i32 c0_i32_17
  let v47 : BitVec 32 := Scalar.extui v46
  let v48 : BitVec 32 := Scalar.subi v45 v47
  let v49 : BitVec 1 := Scalar.cmpi .ne v43 v48
  let v50 : BitVec 32 := Scalar.remsi v20 c2_i32
  let c0_i32_18 : BitVec 32 := 0#32
  let v51 : BitVec 1 := Scalar.cmpi .ne v50 c0_i32_18
  let v52 : BitVec 1 := Scalar.andi v49 v51
  let v38 : BitVec 32 := Scalar.divsi v20 c2_i32
  let c1_i32_19 : BitVec 32 := 1#32
  let v53 : BitVec 32 := Scalar.subi v38 c1_i32_19
  let v54 : BitVec 32 := Scalar.select v52 v53 v38
  let v55 : BitVec 32 := Scalar.subi v54 c0_i32_21
  let c1_i32_22 : BitVec 32 := 1#32
  let v57 : BitVec 32 := Scalar.divsi v55 c1_i32_22
  let v58 : BitVec 32 := Scalar.muli v57 c1_i32_22
  let v59 : BitVec 32 := Scalar.addi c0_i32_21 v58
  let c1_i32_24 : BitVec 32 := 1#32
  let arg14 : BitVec 32 := Scf.iv v59 c1_i32_24 k0_t4
  let v95 : BitVec 32 := Scalar.muli c2_i32_47 arg14
  let c1_i32_48 : BitVec 32 := 1#32
  let v96 : BitVec 32 := Scalar.addi v95 c1_i32_48
  let c256_i32_49 : BitVec 32 := 256#32
  let v97 : BitVec 32 := Scalar.muli v96 c256_i32_49
  v97
def k0_off33 (v2 : BitVec 32) (k0_t4 : Fin (k0_t4_loop v2).trips) : Fin 2 → Nat :=
  let c2_i32_47 : BitVec 32 := 2#32
  let c0_i32_21 : BitVec 32 := 0#32
  let c255_i32 : BitVec 32 := 255#32
  let v3 : BitVec 32 := Scalar.addi v2 c255_i32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c256_i32 : BitVec 32 := 256#32
  let c0_i32_1 : BitVec 32 := 0#32
  let v10 : BitVec 1 := Scalar.cmpi .sgt c256_i32 c0_i32_1
  let v11 : BitVec 32 := Scalar.extui v10
  let c0_i32_2 : BitVec 32 := 0#32
  let v12 : BitVec 1 := Scalar.cmpi .slt c256_i32 c0_i32_2
  let v13 : BitVec 32 := Scalar.extui v12
  let v14 : BitVec 32 := Scalar.subi v11 v13
  let v15 : BitVec 1 := Scalar.cmpi .ne v9 v14
  let v16 : BitVec 32 := Scalar.remsi v3 c256_i32
  let c0_i32_3 : BitVec 32 := 0#32
  let v17 : BitVec 1 := Scalar.cmpi .ne v16 c0_i32_3
  let v18 : BitVec 1 := Scalar.andi v15 v17
  let v4 : BitVec 32 := Scalar.divsi v3 c256_i32
  let c1_i32 : BitVec 32 := 1#32
  let v19 : BitVec 32 := Scalar.subi v4 c1_i32
  let v20 : BitVec 32 := Scalar.select v18 v19 v4
  let c0_i32_14 : BitVec 32 := 0#32
  let v39 : BitVec 1 := Scalar.cmpi .sgt v20 c0_i32_14
  let v40 : BitVec 32 := Scalar.extui v39
  let c0_i32_15 : BitVec 32 := 0#32
  let v41 : BitVec 1 := Scalar.cmpi .slt v20 c0_i32_15
  let v42 : BitVec 32 := Scalar.extui v41
  let v43 : BitVec 32 := Scalar.subi v40 v42
  let c2_i32 : BitVec 32 := 2#32
  let c0_i32_16 : BitVec 32 := 0#32
  let v44 : BitVec 1 := Scalar.cmpi .sgt c2_i32 c0_i32_16
  let v45 : BitVec 32 := Scalar.extui v44
  let c0_i32_17 : BitVec 32 := 0#32
  let v46 : BitVec 1 := Scalar.cmpi .slt c2_i32 c0_i32_17
  let v47 : BitVec 32 := Scalar.extui v46
  let v48 : BitVec 32 := Scalar.subi v45 v47
  let v49 : BitVec 1 := Scalar.cmpi .ne v43 v48
  let v50 : BitVec 32 := Scalar.remsi v20 c2_i32
  let c0_i32_18 : BitVec 32 := 0#32
  let v51 : BitVec 1 := Scalar.cmpi .ne v50 c0_i32_18
  let v52 : BitVec 1 := Scalar.andi v49 v51
  let v38 : BitVec 32 := Scalar.divsi v20 c2_i32
  let c1_i32_19 : BitVec 32 := 1#32
  let v53 : BitVec 32 := Scalar.subi v38 c1_i32_19
  let v54 : BitVec 32 := Scalar.select v52 v53 v38
  let v55 : BitVec 32 := Scalar.subi v54 c0_i32_21
  let c1_i32_22 : BitVec 32 := 1#32
  let v57 : BitVec 32 := Scalar.divsi v55 c1_i32_22
  let v58 : BitVec 32 := Scalar.muli v57 c1_i32_22
  let v59 : BitVec 32 := Scalar.addi c0_i32_21 v58
  let c1_i32_24 : BitVec 32 := 1#32
  let arg14 : BitVec 32 := Scf.iv v59 c1_i32_24 k0_t4
  let v95 : BitVec 32 := Scalar.muli c2_i32_47 arg14
  let c1_i32_48 : BitVec 32 := 1#32
  let v96 : BitVec 32 := Scalar.addi v95 c1_i32_48
  let c256_i32_49 : BitVec 32 := 256#32
  let v97 : BitVec 32 := Scalar.muli v96 c256_i32_49
  let v98 : BitVec 32 := v97
  let v99 : Index := Scalar.indexCast v98
  let c0_50 : Index := 0#32
  ![v99.toNat, 0]
def k0_mult7 (v2 : BitVec 32) : BitVec 32 :=
  let c255_i32 : BitVec 32 := 255#32
  let v3 : BitVec 32 := Scalar.addi v2 c255_i32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c256_i32 : BitVec 32 := 256#32
  let c0_i32_1 : BitVec 32 := 0#32
  let v10 : BitVec 1 := Scalar.cmpi .sgt c256_i32 c0_i32_1
  let v11 : BitVec 32 := Scalar.extui v10
  let c0_i32_2 : BitVec 32 := 0#32
  let v12 : BitVec 1 := Scalar.cmpi .slt c256_i32 c0_i32_2
  let v13 : BitVec 32 := Scalar.extui v12
  let v14 : BitVec 32 := Scalar.subi v11 v13
  let v15 : BitVec 1 := Scalar.cmpi .ne v9 v14
  let v16 : BitVec 32 := Scalar.remsi v3 c256_i32
  let c0_i32_3 : BitVec 32 := 0#32
  let v17 : BitVec 1 := Scalar.cmpi .ne v16 c0_i32_3
  let v18 : BitVec 1 := Scalar.andi v15 v17
  let v4 : BitVec 32 := Scalar.divsi v3 c256_i32
  let c1_i32 : BitVec 32 := 1#32
  let v19 : BitVec 32 := Scalar.subi v4 c1_i32
  let v20 : BitVec 32 := Scalar.select v18 v19 v4
  let c1_i32_33 : BitVec 32 := 1#32
  let v73 : BitVec 32 := Scalar.subi v20 c1_i32_33
  let c256_i32_34 : BitVec 32 := 256#32
  let v74 : BitVec 32 := Scalar.muli v73 c256_i32_34
  v74
def k0_cond12 (v2 : BitVec 32) : BitVec 1 :=
  let c255_i32 : BitVec 32 := 255#32
  let v3 : BitVec 32 := Scalar.addi v2 c255_i32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c256_i32 : BitVec 32 := 256#32
  let c0_i32_1 : BitVec 32 := 0#32
  let v10 : BitVec 1 := Scalar.cmpi .sgt c256_i32 c0_i32_1
  let v11 : BitVec 32 := Scalar.extui v10
  let c0_i32_2 : BitVec 32 := 0#32
  let v12 : BitVec 1 := Scalar.cmpi .slt c256_i32 c0_i32_2
  let v13 : BitVec 32 := Scalar.extui v12
  let v14 : BitVec 32 := Scalar.subi v11 v13
  let v15 : BitVec 1 := Scalar.cmpi .ne v9 v14
  let v16 : BitVec 32 := Scalar.remsi v3 c256_i32
  let c0_i32_3 : BitVec 32 := 0#32
  let v17 : BitVec 1 := Scalar.cmpi .ne v16 c0_i32_3
  let v18 : BitVec 1 := Scalar.andi v15 v17
  let v4 : BitVec 32 := Scalar.divsi v3 c256_i32
  let c1_i32 : BitVec 32 := 1#32
  let v19 : BitVec 32 := Scalar.subi v4 c1_i32
  let v20 : BitVec 32 := Scalar.select v18 v19 v4
  let c2_i32_25 : BitVec 32 := 2#32
  let c0_i32_26 : BitVec 32 := 0#32
  let v60 : BitVec 1 := Scalar.cmpi .eq c2_i32_25 c0_i32_26
  let c1_i32_27 : BitVec 32 := 1#32
  let v61 : BitVec 32 := Scalar.select v60 c1_i32_27 c2_i32_25
  let v62 : BitVec 32 := Scalar.remsi v20 v61
  let c0_i32_29 : BitVec 32 := 0#32
  let v64 : BitVec 1 := Scalar.cmpi .slt v62 c0_i32_29
  let c0_i32_30 : BitVec 32 := 0#32
  let v65 : BitVec 1 := Scalar.cmpi .slt v61 c0_i32_30
  let v66 : BitVec 1 := Scalar.xori v64 v65
  let c0_i32_28 : BitVec 32 := 0#32
  let v63 : BitVec 1 := Scalar.cmpi .ne v62 c0_i32_28
  let v67 : BitVec 1 := Scalar.andi v66 v63
  let v68 : BitVec 32 := Scalar.addi v62 v61
  let v69 : BitVec 32 := Scalar.select v67 v68 v62
  let c1_i32_31 : BitVec 32 := 1#32
  let v70 : BitVec 1 := Scalar.cmpi .eq v69 c1_i32_31
  let v71 : BitVec 32 := Scalar.extui v70
  let c0_i32_32 : BitVec 32 := 0#32
  let v72 : BitVec 1 := Scalar.cmpi .ne v71 c0_i32_32
  v72

def k0_off34 (v2 : BitVec 32) : Fin 2 → Nat :=
  let c255_i32 : BitVec 32 := 255#32
  let v3 : BitVec 32 := Scalar.addi v2 c255_i32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c256_i32 : BitVec 32 := 256#32
  let c0_i32_1 : BitVec 32 := 0#32
  let v10 : BitVec 1 := Scalar.cmpi .sgt c256_i32 c0_i32_1
  let v11 : BitVec 32 := Scalar.extui v10
  let c0_i32_2 : BitVec 32 := 0#32
  let v12 : BitVec 1 := Scalar.cmpi .slt c256_i32 c0_i32_2
  let v13 : BitVec 32 := Scalar.extui v12
  let v14 : BitVec 32 := Scalar.subi v11 v13
  let v15 : BitVec 1 := Scalar.cmpi .ne v9 v14
  let v16 : BitVec 32 := Scalar.remsi v3 c256_i32
  let c0_i32_3 : BitVec 32 := 0#32
  let v17 : BitVec 1 := Scalar.cmpi .ne v16 c0_i32_3
  let v18 : BitVec 1 := Scalar.andi v15 v17
  let v4 : BitVec 32 := Scalar.divsi v3 c256_i32
  let c1_i32 : BitVec 32 := 1#32
  let v19 : BitVec 32 := Scalar.subi v4 c1_i32
  let v20 : BitVec 32 := Scalar.select v18 v19 v4
  let c1_i32_33 : BitVec 32 := 1#32
  let v73 : BitVec 32 := Scalar.subi v20 c1_i32_33
  let c256_i32_34 : BitVec 32 := 256#32
  let v74 : BitVec 32 := Scalar.muli v73 c256_i32_34
  let v75 : BitVec 32 := v74
  let v76 : Index := Scalar.indexCast v75
  let c0 : Index := 0#32
  ![v76.toNat, 0]
def k0_cond13 (i : grid0.Coords) : BitVec 1 :=
  let arg2 : BitVec 32 := BitVec.ofNat 32 (i 2).val
  let c0_i32_11 : BitVec 32 := 0#32
  let v32 : BitVec 1 := Scalar.cmpi .sgt arg2 c0_i32_11
  let v33 : BitVec 32 := Scalar.extui v32
  let c0_i32_12 : BitVec 32 := 0#32
  let v34 : BitVec 1 := Scalar.cmpi .ne v33 c0_i32_12
  v34

@[reducible] def k0_t5_loop (v2 : BitVec 32) : Scf.Loop 32 :=
  let c0_i32_21 : BitVec 32 := 0#32
  let c255_i32 : BitVec 32 := 255#32
  let v3 : BitVec 32 := Scalar.addi v2 c255_i32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c256_i32 : BitVec 32 := 256#32
  let c0_i32_1 : BitVec 32 := 0#32
  let v10 : BitVec 1 := Scalar.cmpi .sgt c256_i32 c0_i32_1
  let v11 : BitVec 32 := Scalar.extui v10
  let c0_i32_2 : BitVec 32 := 0#32
  let v12 : BitVec 1 := Scalar.cmpi .slt c256_i32 c0_i32_2
  let v13 : BitVec 32 := Scalar.extui v12
  let v14 : BitVec 32 := Scalar.subi v11 v13
  let v15 : BitVec 1 := Scalar.cmpi .ne v9 v14
  let v16 : BitVec 32 := Scalar.remsi v3 c256_i32
  let c0_i32_3 : BitVec 32 := 0#32
  let v17 : BitVec 1 := Scalar.cmpi .ne v16 c0_i32_3
  let v18 : BitVec 1 := Scalar.andi v15 v17
  let v4 : BitVec 32 := Scalar.divsi v3 c256_i32
  let c1_i32 : BitVec 32 := 1#32
  let v19 : BitVec 32 := Scalar.subi v4 c1_i32
  let v20 : BitVec 32 := Scalar.select v18 v19 v4
  let c0_i32_14 : BitVec 32 := 0#32
  let v39 : BitVec 1 := Scalar.cmpi .sgt v20 c0_i32_14
  let v40 : BitVec 32 := Scalar.extui v39
  let c0_i32_15 : BitVec 32 := 0#32
  let v41 : BitVec 1 := Scalar.cmpi .slt v20 c0_i32_15
  let v42 : BitVec 32 := Scalar.extui v41
  let v43 : BitVec 32 := Scalar.subi v40 v42
  let c2_i32 : BitVec 32 := 2#32
  let c0_i32_16 : BitVec 32 := 0#32
  let v44 : BitVec 1 := Scalar.cmpi .sgt c2_i32 c0_i32_16
  let v45 : BitVec 32 := Scalar.extui v44
  let c0_i32_17 : BitVec 32 := 0#32
  let v46 : BitVec 1 := Scalar.cmpi .slt c2_i32 c0_i32_17
  let v47 : BitVec 32 := Scalar.extui v46
  let v48 : BitVec 32 := Scalar.subi v45 v47
  let v49 : BitVec 1 := Scalar.cmpi .ne v43 v48
  let v50 : BitVec 32 := Scalar.remsi v20 c2_i32
  let c0_i32_18 : BitVec 32 := 0#32
  let v51 : BitVec 1 := Scalar.cmpi .ne v50 c0_i32_18
  let v52 : BitVec 1 := Scalar.andi v49 v51
  let v38 : BitVec 32 := Scalar.divsi v20 c2_i32
  let c1_i32_19 : BitVec 32 := 1#32
  let v53 : BitVec 32 := Scalar.subi v38 c1_i32_19
  let v54 : BitVec 32 := Scalar.select v52 v53 v38
  let v55 : BitVec 32 := Scalar.subi v54 c0_i32_21
  let c1_i32_22 : BitVec 32 := 1#32
  let v57 : BitVec 32 := Scalar.divsi v55 c1_i32_22
  let v58 : BitVec 32 := Scalar.muli v57 c1_i32_22
  let v59 : BitVec 32 := Scalar.addi c0_i32_21 v58
  let c1_i32_23 : BitVec 32 := 1#32
  ⟨c0_i32_21, v59, c1_i32_23⟩
def k0_mult8 (v2 : BitVec 32) (k0_t5 : Fin (k0_t5_loop v2).trips) : BitVec 32 :=
  let c2_i32_33 : BitVec 32 := 2#32
  let c0_i32_21 : BitVec 32 := 0#32
  let c1_i32_23 : BitVec 32 := 1#32
  let arg14 : BitVec 32 := Scf.iv c0_i32_21 c1_i32_23 k0_t5
  let v73 : BitVec 32 := Scalar.muli c2_i32_33 arg14
  let c256_i32_34 : BitVec 32 := 256#32
  let v74 : BitVec 32 := Scalar.muli v73 c256_i32_34
  v74
def k0_off35 (v2 : BitVec 32) (k0_t5 : Fin (k0_t5_loop v2).trips) : Fin 2 → Nat :=
  let c2_i32_33 : BitVec 32 := 2#32
  let c0_i32_21 : BitVec 32 := 0#32
  let c1_i32_23 : BitVec 32 := 1#32
  let arg14 : BitVec 32 := Scf.iv c0_i32_21 c1_i32_23 k0_t5
  let v73 : BitVec 32 := Scalar.muli c2_i32_33 arg14
  let c256_i32_34 : BitVec 32 := 256#32
  let v74 : BitVec 32 := Scalar.muli v73 c256_i32_34
  let v75 : BitVec 32 := v74
  let v76 : Index := Scalar.indexCast v75
  let c0 : Index := 0#32
  ![v76.toNat, 0]
def k0_mult9 (v2 : BitVec 32) (k0_t5 : Fin (k0_t5_loop v2).trips) : BitVec 32 :=
  let c2_i32_48 : BitVec 32 := 2#32
  let c0_i32_21 : BitVec 32 := 0#32
  let c1_i32_23 : BitVec 32 := 1#32
  let arg14 : BitVec 32 := Scf.iv c0_i32_21 c1_i32_23 k0_t5
  let v98 : BitVec 32 := Scalar.muli c2_i32_48 arg14
  let c1_i32_49 : BitVec 32 := 1#32
  let v99 : BitVec 32 := Scalar.addi v98 c1_i32_49
  let c256_i32_50 : BitVec 32 := 256#32
  let v100 : BitVec 32 := Scalar.muli v99 c256_i32_50
  v100
def k0_off36 (v2 : BitVec 32) (k0_t5 : Fin (k0_t5_loop v2).trips) : Fin 2 → Nat :=
  let c2_i32_48 : BitVec 32 := 2#32
  let c0_i32_21 : BitVec 32 := 0#32
  let c1_i32_23 : BitVec 32 := 1#32
  let arg14 : BitVec 32 := Scf.iv c0_i32_21 c1_i32_23 k0_t5
  let v98 : BitVec 32 := Scalar.muli c2_i32_48 arg14
  let c1_i32_49 : BitVec 32 := 1#32
  let v99 : BitVec 32 := Scalar.addi v98 c1_i32_49
  let c256_i32_50 : BitVec 32 := 256#32
  let v100 : BitVec 32 := Scalar.muli v99 c256_i32_50
  let v101 : BitVec 32 := v100
  let v102 : Index := Scalar.indexCast v101
  let c0_51 : Index := 0#32
  ![v102.toNat, 0]
@[reducible] def k0_t6_loop (v2 : BitVec 32) : Scf.Loop 32 :=
  let c0_i32_21 : BitVec 32 := 0#32
  let c255_i32 : BitVec 32 := 255#32
  let v3 : BitVec 32 := Scalar.addi v2 c255_i32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c256_i32 : BitVec 32 := 256#32
  let c0_i32_1 : BitVec 32 := 0#32
  let v10 : BitVec 1 := Scalar.cmpi .sgt c256_i32 c0_i32_1
  let v11 : BitVec 32 := Scalar.extui v10
  let c0_i32_2 : BitVec 32 := 0#32
  let v12 : BitVec 1 := Scalar.cmpi .slt c256_i32 c0_i32_2
  let v13 : BitVec 32 := Scalar.extui v12
  let v14 : BitVec 32 := Scalar.subi v11 v13
  let v15 : BitVec 1 := Scalar.cmpi .ne v9 v14
  let v16 : BitVec 32 := Scalar.remsi v3 c256_i32
  let c0_i32_3 : BitVec 32 := 0#32
  let v17 : BitVec 1 := Scalar.cmpi .ne v16 c0_i32_3
  let v18 : BitVec 1 := Scalar.andi v15 v17
  let v4 : BitVec 32 := Scalar.divsi v3 c256_i32
  let c1_i32 : BitVec 32 := 1#32
  let v19 : BitVec 32 := Scalar.subi v4 c1_i32
  let v20 : BitVec 32 := Scalar.select v18 v19 v4
  let c0_i32_14 : BitVec 32 := 0#32
  let v39 : BitVec 1 := Scalar.cmpi .sgt v20 c0_i32_14
  let v40 : BitVec 32 := Scalar.extui v39
  let c0_i32_15 : BitVec 32 := 0#32
  let v41 : BitVec 1 := Scalar.cmpi .slt v20 c0_i32_15
  let v42 : BitVec 32 := Scalar.extui v41
  let v43 : BitVec 32 := Scalar.subi v40 v42
  let c2_i32 : BitVec 32 := 2#32
  let c0_i32_16 : BitVec 32 := 0#32
  let v44 : BitVec 1 := Scalar.cmpi .sgt c2_i32 c0_i32_16
  let v45 : BitVec 32 := Scalar.extui v44
  let c0_i32_17 : BitVec 32 := 0#32
  let v46 : BitVec 1 := Scalar.cmpi .slt c2_i32 c0_i32_17
  let v47 : BitVec 32 := Scalar.extui v46
  let v48 : BitVec 32 := Scalar.subi v45 v47
  let v49 : BitVec 1 := Scalar.cmpi .ne v43 v48
  let v50 : BitVec 32 := Scalar.remsi v20 c2_i32
  let c0_i32_18 : BitVec 32 := 0#32
  let v51 : BitVec 1 := Scalar.cmpi .ne v50 c0_i32_18
  let v52 : BitVec 1 := Scalar.andi v49 v51
  let v38 : BitVec 32 := Scalar.divsi v20 c2_i32
  let c1_i32_19 : BitVec 32 := 1#32
  let v53 : BitVec 32 := Scalar.subi v38 c1_i32_19
  let v54 : BitVec 32 := Scalar.select v52 v53 v38
  let v55 : BitVec 32 := Scalar.subi v54 c0_i32_21
  let c1_i32_22 : BitVec 32 := 1#32
  let v57 : BitVec 32 := Scalar.divsi v55 c1_i32_22
  let v58 : BitVec 32 := Scalar.muli v57 c1_i32_22
  let v59 : BitVec 32 := Scalar.addi c0_i32_21 v58
  let v56 : BitVec 32 := Scalar.addi c0_i32_21 v55
  let c1_i32_24 : BitVec 32 := 1#32
  ⟨v59, v56, c1_i32_24⟩
def k0_mult10 (v2 : BitVec 32) (k0_t6 : Fin (k0_t6_loop v2).trips) : BitVec 32 :=
  let c2_i32_33 : BitVec 32 := 2#32
  let c0_i32_21 : BitVec 32 := 0#32
  let c255_i32 : BitVec 32 := 255#32
  let v3 : BitVec 32 := Scalar.addi v2 c255_i32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c256_i32 : BitVec 32 := 256#32
  let c0_i32_1 : BitVec 32 := 0#32
  let v10 : BitVec 1 := Scalar.cmpi .sgt c256_i32 c0_i32_1
  let v11 : BitVec 32 := Scalar.extui v10
  let c0_i32_2 : BitVec 32 := 0#32
  let v12 : BitVec 1 := Scalar.cmpi .slt c256_i32 c0_i32_2
  let v13 : BitVec 32 := Scalar.extui v12
  let v14 : BitVec 32 := Scalar.subi v11 v13
  let v15 : BitVec 1 := Scalar.cmpi .ne v9 v14
  let v16 : BitVec 32 := Scalar.remsi v3 c256_i32
  let c0_i32_3 : BitVec 32 := 0#32
  let v17 : BitVec 1 := Scalar.cmpi .ne v16 c0_i32_3
  let v18 : BitVec 1 := Scalar.andi v15 v17
  let v4 : BitVec 32 := Scalar.divsi v3 c256_i32
  let c1_i32 : BitVec 32 := 1#32
  let v19 : BitVec 32 := Scalar.subi v4 c1_i32
  let v20 : BitVec 32 := Scalar.select v18 v19 v4
  let c0_i32_14 : BitVec 32 := 0#32
  let v39 : BitVec 1 := Scalar.cmpi .sgt v20 c0_i32_14
  let v40 : BitVec 32 := Scalar.extui v39
  let c0_i32_15 : BitVec 32 := 0#32
  let v41 : BitVec 1 := Scalar.cmpi .slt v20 c0_i32_15
  let v42 : BitVec 32 := Scalar.extui v41
  let v43 : BitVec 32 := Scalar.subi v40 v42
  let c2_i32 : BitVec 32 := 2#32
  let c0_i32_16 : BitVec 32 := 0#32
  let v44 : BitVec 1 := Scalar.cmpi .sgt c2_i32 c0_i32_16
  let v45 : BitVec 32 := Scalar.extui v44
  let c0_i32_17 : BitVec 32 := 0#32
  let v46 : BitVec 1 := Scalar.cmpi .slt c2_i32 c0_i32_17
  let v47 : BitVec 32 := Scalar.extui v46
  let v48 : BitVec 32 := Scalar.subi v45 v47
  let v49 : BitVec 1 := Scalar.cmpi .ne v43 v48
  let v50 : BitVec 32 := Scalar.remsi v20 c2_i32
  let c0_i32_18 : BitVec 32 := 0#32
  let v51 : BitVec 1 := Scalar.cmpi .ne v50 c0_i32_18
  let v52 : BitVec 1 := Scalar.andi v49 v51
  let v38 : BitVec 32 := Scalar.divsi v20 c2_i32
  let c1_i32_19 : BitVec 32 := 1#32
  let v53 : BitVec 32 := Scalar.subi v38 c1_i32_19
  let v54 : BitVec 32 := Scalar.select v52 v53 v38
  let v55 : BitVec 32 := Scalar.subi v54 c0_i32_21
  let c1_i32_22 : BitVec 32 := 1#32
  let v57 : BitVec 32 := Scalar.divsi v55 c1_i32_22
  let v58 : BitVec 32 := Scalar.muli v57 c1_i32_22
  let v59 : BitVec 32 := Scalar.addi c0_i32_21 v58
  let c1_i32_24 : BitVec 32 := 1#32
  let arg14 : BitVec 32 := Scf.iv v59 c1_i32_24 k0_t6
  let v73 : BitVec 32 := Scalar.muli c2_i32_33 arg14
  let c256_i32_34 : BitVec 32 := 256#32
  let v74 : BitVec 32 := Scalar.muli v73 c256_i32_34
  v74
def k0_off37 (v2 : BitVec 32) (k0_t6 : Fin (k0_t6_loop v2).trips) : Fin 2 → Nat :=
  let c2_i32_33 : BitVec 32 := 2#32
  let c0_i32_21 : BitVec 32 := 0#32
  let c255_i32 : BitVec 32 := 255#32
  let v3 : BitVec 32 := Scalar.addi v2 c255_i32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c256_i32 : BitVec 32 := 256#32
  let c0_i32_1 : BitVec 32 := 0#32
  let v10 : BitVec 1 := Scalar.cmpi .sgt c256_i32 c0_i32_1
  let v11 : BitVec 32 := Scalar.extui v10
  let c0_i32_2 : BitVec 32 := 0#32
  let v12 : BitVec 1 := Scalar.cmpi .slt c256_i32 c0_i32_2
  let v13 : BitVec 32 := Scalar.extui v12
  let v14 : BitVec 32 := Scalar.subi v11 v13
  let v15 : BitVec 1 := Scalar.cmpi .ne v9 v14
  let v16 : BitVec 32 := Scalar.remsi v3 c256_i32
  let c0_i32_3 : BitVec 32 := 0#32
  let v17 : BitVec 1 := Scalar.cmpi .ne v16 c0_i32_3
  let v18 : BitVec 1 := Scalar.andi v15 v17
  let v4 : BitVec 32 := Scalar.divsi v3 c256_i32
  let c1_i32 : BitVec 32 := 1#32
  let v19 : BitVec 32 := Scalar.subi v4 c1_i32
  let v20 : BitVec 32 := Scalar.select v18 v19 v4
  let c0_i32_14 : BitVec 32 := 0#32
  let v39 : BitVec 1 := Scalar.cmpi .sgt v20 c0_i32_14
  let v40 : BitVec 32 := Scalar.extui v39
  let c0_i32_15 : BitVec 32 := 0#32
  let v41 : BitVec 1 := Scalar.cmpi .slt v20 c0_i32_15
  let v42 : BitVec 32 := Scalar.extui v41
  let v43 : BitVec 32 := Scalar.subi v40 v42
  let c2_i32 : BitVec 32 := 2#32
  let c0_i32_16 : BitVec 32 := 0#32
  let v44 : BitVec 1 := Scalar.cmpi .sgt c2_i32 c0_i32_16
  let v45 : BitVec 32 := Scalar.extui v44
  let c0_i32_17 : BitVec 32 := 0#32
  let v46 : BitVec 1 := Scalar.cmpi .slt c2_i32 c0_i32_17
  let v47 : BitVec 32 := Scalar.extui v46
  let v48 : BitVec 32 := Scalar.subi v45 v47
  let v49 : BitVec 1 := Scalar.cmpi .ne v43 v48
  let v50 : BitVec 32 := Scalar.remsi v20 c2_i32
  let c0_i32_18 : BitVec 32 := 0#32
  let v51 : BitVec 1 := Scalar.cmpi .ne v50 c0_i32_18
  let v52 : BitVec 1 := Scalar.andi v49 v51
  let v38 : BitVec 32 := Scalar.divsi v20 c2_i32
  let c1_i32_19 : BitVec 32 := 1#32
  let v53 : BitVec 32 := Scalar.subi v38 c1_i32_19
  let v54 : BitVec 32 := Scalar.select v52 v53 v38
  let v55 : BitVec 32 := Scalar.subi v54 c0_i32_21
  let c1_i32_22 : BitVec 32 := 1#32
  let v57 : BitVec 32 := Scalar.divsi v55 c1_i32_22
  let v58 : BitVec 32 := Scalar.muli v57 c1_i32_22
  let v59 : BitVec 32 := Scalar.addi c0_i32_21 v58
  let c1_i32_24 : BitVec 32 := 1#32
  let arg14 : BitVec 32 := Scf.iv v59 c1_i32_24 k0_t6
  let v73 : BitVec 32 := Scalar.muli c2_i32_33 arg14
  let c256_i32_34 : BitVec 32 := 256#32
  let v74 : BitVec 32 := Scalar.muli v73 c256_i32_34
  let v75 : BitVec 32 := v74
  let v76 : Index := Scalar.indexCast v75
  let c0 : Index := 0#32
  ![v76.toNat, 0]
def k0_mult11 (v2 : BitVec 32) (k0_t6 : Fin (k0_t6_loop v2).trips) : BitVec 32 :=
  let c2_i32_48 : BitVec 32 := 2#32
  let c0_i32_21 : BitVec 32 := 0#32
  let c255_i32 : BitVec 32 := 255#32
  let v3 : BitVec 32 := Scalar.addi v2 c255_i32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c256_i32 : BitVec 32 := 256#32
  let c0_i32_1 : BitVec 32 := 0#32
  let v10 : BitVec 1 := Scalar.cmpi .sgt c256_i32 c0_i32_1
  let v11 : BitVec 32 := Scalar.extui v10
  let c0_i32_2 : BitVec 32 := 0#32
  let v12 : BitVec 1 := Scalar.cmpi .slt c256_i32 c0_i32_2
  let v13 : BitVec 32 := Scalar.extui v12
  let v14 : BitVec 32 := Scalar.subi v11 v13
  let v15 : BitVec 1 := Scalar.cmpi .ne v9 v14
  let v16 : BitVec 32 := Scalar.remsi v3 c256_i32
  let c0_i32_3 : BitVec 32 := 0#32
  let v17 : BitVec 1 := Scalar.cmpi .ne v16 c0_i32_3
  let v18 : BitVec 1 := Scalar.andi v15 v17
  let v4 : BitVec 32 := Scalar.divsi v3 c256_i32
  let c1_i32 : BitVec 32 := 1#32
  let v19 : BitVec 32 := Scalar.subi v4 c1_i32
  let v20 : BitVec 32 := Scalar.select v18 v19 v4
  let c0_i32_14 : BitVec 32 := 0#32
  let v39 : BitVec 1 := Scalar.cmpi .sgt v20 c0_i32_14
  let v40 : BitVec 32 := Scalar.extui v39
  let c0_i32_15 : BitVec 32 := 0#32
  let v41 : BitVec 1 := Scalar.cmpi .slt v20 c0_i32_15
  let v42 : BitVec 32 := Scalar.extui v41
  let v43 : BitVec 32 := Scalar.subi v40 v42
  let c2_i32 : BitVec 32 := 2#32
  let c0_i32_16 : BitVec 32 := 0#32
  let v44 : BitVec 1 := Scalar.cmpi .sgt c2_i32 c0_i32_16
  let v45 : BitVec 32 := Scalar.extui v44
  let c0_i32_17 : BitVec 32 := 0#32
  let v46 : BitVec 1 := Scalar.cmpi .slt c2_i32 c0_i32_17
  let v47 : BitVec 32 := Scalar.extui v46
  let v48 : BitVec 32 := Scalar.subi v45 v47
  let v49 : BitVec 1 := Scalar.cmpi .ne v43 v48
  let v50 : BitVec 32 := Scalar.remsi v20 c2_i32
  let c0_i32_18 : BitVec 32 := 0#32
  let v51 : BitVec 1 := Scalar.cmpi .ne v50 c0_i32_18
  let v52 : BitVec 1 := Scalar.andi v49 v51
  let v38 : BitVec 32 := Scalar.divsi v20 c2_i32
  let c1_i32_19 : BitVec 32 := 1#32
  let v53 : BitVec 32 := Scalar.subi v38 c1_i32_19
  let v54 : BitVec 32 := Scalar.select v52 v53 v38
  let v55 : BitVec 32 := Scalar.subi v54 c0_i32_21
  let c1_i32_22 : BitVec 32 := 1#32
  let v57 : BitVec 32 := Scalar.divsi v55 c1_i32_22
  let v58 : BitVec 32 := Scalar.muli v57 c1_i32_22
  let v59 : BitVec 32 := Scalar.addi c0_i32_21 v58
  let c1_i32_24 : BitVec 32 := 1#32
  let arg14 : BitVec 32 := Scf.iv v59 c1_i32_24 k0_t6
  let v98 : BitVec 32 := Scalar.muli c2_i32_48 arg14
  let c1_i32_49 : BitVec 32 := 1#32
  let v99 : BitVec 32 := Scalar.addi v98 c1_i32_49
  let c256_i32_50 : BitVec 32 := 256#32
  let v100 : BitVec 32 := Scalar.muli v99 c256_i32_50
  v100
def k0_off38 (v2 : BitVec 32) (k0_t6 : Fin (k0_t6_loop v2).trips) : Fin 2 → Nat :=
  let c2_i32_48 : BitVec 32 := 2#32
  let c0_i32_21 : BitVec 32 := 0#32
  let c255_i32 : BitVec 32 := 255#32
  let v3 : BitVec 32 := Scalar.addi v2 c255_i32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c256_i32 : BitVec 32 := 256#32
  let c0_i32_1 : BitVec 32 := 0#32
  let v10 : BitVec 1 := Scalar.cmpi .sgt c256_i32 c0_i32_1
  let v11 : BitVec 32 := Scalar.extui v10
  let c0_i32_2 : BitVec 32 := 0#32
  let v12 : BitVec 1 := Scalar.cmpi .slt c256_i32 c0_i32_2
  let v13 : BitVec 32 := Scalar.extui v12
  let v14 : BitVec 32 := Scalar.subi v11 v13
  let v15 : BitVec 1 := Scalar.cmpi .ne v9 v14
  let v16 : BitVec 32 := Scalar.remsi v3 c256_i32
  let c0_i32_3 : BitVec 32 := 0#32
  let v17 : BitVec 1 := Scalar.cmpi .ne v16 c0_i32_3
  let v18 : BitVec 1 := Scalar.andi v15 v17
  let v4 : BitVec 32 := Scalar.divsi v3 c256_i32
  let c1_i32 : BitVec 32 := 1#32
  let v19 : BitVec 32 := Scalar.subi v4 c1_i32
  let v20 : BitVec 32 := Scalar.select v18 v19 v4
  let c0_i32_14 : BitVec 32 := 0#32
  let v39 : BitVec 1 := Scalar.cmpi .sgt v20 c0_i32_14
  let v40 : BitVec 32 := Scalar.extui v39
  let c0_i32_15 : BitVec 32 := 0#32
  let v41 : BitVec 1 := Scalar.cmpi .slt v20 c0_i32_15
  let v42 : BitVec 32 := Scalar.extui v41
  let v43 : BitVec 32 := Scalar.subi v40 v42
  let c2_i32 : BitVec 32 := 2#32
  let c0_i32_16 : BitVec 32 := 0#32
  let v44 : BitVec 1 := Scalar.cmpi .sgt c2_i32 c0_i32_16
  let v45 : BitVec 32 := Scalar.extui v44
  let c0_i32_17 : BitVec 32 := 0#32
  let v46 : BitVec 1 := Scalar.cmpi .slt c2_i32 c0_i32_17
  let v47 : BitVec 32 := Scalar.extui v46
  let v48 : BitVec 32 := Scalar.subi v45 v47
  let v49 : BitVec 1 := Scalar.cmpi .ne v43 v48
  let v50 : BitVec 32 := Scalar.remsi v20 c2_i32
  let c0_i32_18 : BitVec 32 := 0#32
  let v51 : BitVec 1 := Scalar.cmpi .ne v50 c0_i32_18
  let v52 : BitVec 1 := Scalar.andi v49 v51
  let v38 : BitVec 32 := Scalar.divsi v20 c2_i32
  let c1_i32_19 : BitVec 32 := 1#32
  let v53 : BitVec 32 := Scalar.subi v38 c1_i32_19
  let v54 : BitVec 32 := Scalar.select v52 v53 v38
  let v55 : BitVec 32 := Scalar.subi v54 c0_i32_21
  let c1_i32_22 : BitVec 32 := 1#32
  let v57 : BitVec 32 := Scalar.divsi v55 c1_i32_22
  let v58 : BitVec 32 := Scalar.muli v57 c1_i32_22
  let v59 : BitVec 32 := Scalar.addi c0_i32_21 v58
  let c1_i32_24 : BitVec 32 := 1#32
  let arg14 : BitVec 32 := Scf.iv v59 c1_i32_24 k0_t6
  let v98 : BitVec 32 := Scalar.muli c2_i32_48 arg14
  let c1_i32_49 : BitVec 32 := 1#32
  let v99 : BitVec 32 := Scalar.addi v98 c1_i32_49
  let c256_i32_50 : BitVec 32 := 256#32
  let v100 : BitVec 32 := Scalar.muli v99 c256_i32_50
  let v101 : BitVec 32 := v100
  let v102 : Index := Scalar.indexCast v101
  let c0_51 : Index := 0#32
  ![v102.toNat, 0]
def k0_mult12 (v2 : BitVec 32) : BitVec 32 :=
  let c255_i32 : BitVec 32 := 255#32
  let v3 : BitVec 32 := Scalar.addi v2 c255_i32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c256_i32 : BitVec 32 := 256#32
  let c0_i32_1 : BitVec 32 := 0#32
  let v10 : BitVec 1 := Scalar.cmpi .sgt c256_i32 c0_i32_1
  let v11 : BitVec 32 := Scalar.extui v10
  let c0_i32_2 : BitVec 32 := 0#32
  let v12 : BitVec 1 := Scalar.cmpi .slt c256_i32 c0_i32_2
  let v13 : BitVec 32 := Scalar.extui v12
  let v14 : BitVec 32 := Scalar.subi v11 v13
  let v15 : BitVec 1 := Scalar.cmpi .ne v9 v14
  let v16 : BitVec 32 := Scalar.remsi v3 c256_i32
  let c0_i32_3 : BitVec 32 := 0#32
  let v17 : BitVec 1 := Scalar.cmpi .ne v16 c0_i32_3
  let v18 : BitVec 1 := Scalar.andi v15 v17
  let v4 : BitVec 32 := Scalar.divsi v3 c256_i32
  let c1_i32 : BitVec 32 := 1#32
  let v19 : BitVec 32 := Scalar.subi v4 c1_i32
  let v20 : BitVec 32 := Scalar.select v18 v19 v4
  let c1_i32_33 : BitVec 32 := 1#32
  let v73 : BitVec 32 := Scalar.subi v20 c1_i32_33
  let c256_i32_34 : BitVec 32 := 256#32
  let v74 : BitVec 32 := Scalar.muli v73 c256_i32_34
  v74
def k0_cond14 (v2 : BitVec 32) : BitVec 1 :=
  let c255_i32 : BitVec 32 := 255#32
  let v3 : BitVec 32 := Scalar.addi v2 c255_i32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c256_i32 : BitVec 32 := 256#32
  let c0_i32_1 : BitVec 32 := 0#32
  let v10 : BitVec 1 := Scalar.cmpi .sgt c256_i32 c0_i32_1
  let v11 : BitVec 32 := Scalar.extui v10
  let c0_i32_2 : BitVec 32 := 0#32
  let v12 : BitVec 1 := Scalar.cmpi .slt c256_i32 c0_i32_2
  let v13 : BitVec 32 := Scalar.extui v12
  let v14 : BitVec 32 := Scalar.subi v11 v13
  let v15 : BitVec 1 := Scalar.cmpi .ne v9 v14
  let v16 : BitVec 32 := Scalar.remsi v3 c256_i32
  let c0_i32_3 : BitVec 32 := 0#32
  let v17 : BitVec 1 := Scalar.cmpi .ne v16 c0_i32_3
  let v18 : BitVec 1 := Scalar.andi v15 v17
  let v4 : BitVec 32 := Scalar.divsi v3 c256_i32
  let c1_i32 : BitVec 32 := 1#32
  let v19 : BitVec 32 := Scalar.subi v4 c1_i32
  let v20 : BitVec 32 := Scalar.select v18 v19 v4
  let c2_i32_25 : BitVec 32 := 2#32
  let c0_i32_26 : BitVec 32 := 0#32
  let v60 : BitVec 1 := Scalar.cmpi .eq c2_i32_25 c0_i32_26
  let c1_i32_27 : BitVec 32 := 1#32
  let v61 : BitVec 32 := Scalar.select v60 c1_i32_27 c2_i32_25
  let v62 : BitVec 32 := Scalar.remsi v20 v61
  let c0_i32_29 : BitVec 32 := 0#32
  let v64 : BitVec 1 := Scalar.cmpi .slt v62 c0_i32_29
  let c0_i32_30 : BitVec 32 := 0#32
  let v65 : BitVec 1 := Scalar.cmpi .slt v61 c0_i32_30
  let v66 : BitVec 1 := Scalar.xori v64 v65
  let c0_i32_28 : BitVec 32 := 0#32
  let v63 : BitVec 1 := Scalar.cmpi .ne v62 c0_i32_28
  let v67 : BitVec 1 := Scalar.andi v66 v63
  let v68 : BitVec 32 := Scalar.addi v62 v61
  let v69 : BitVec 32 := Scalar.select v67 v68 v62
  let c1_i32_31 : BitVec 32 := 1#32
  let v70 : BitVec 1 := Scalar.cmpi .eq v69 c1_i32_31
  let v71 : BitVec 32 := Scalar.extui v70
  let c0_i32_32 : BitVec 32 := 0#32
  let v72 : BitVec 1 := Scalar.cmpi .ne v71 c0_i32_32
  v72

def k0_off39 (v2 : BitVec 32) : Fin 2 → Nat :=
  let c255_i32 : BitVec 32 := 255#32
  let v3 : BitVec 32 := Scalar.addi v2 c255_i32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c256_i32 : BitVec 32 := 256#32
  let c0_i32_1 : BitVec 32 := 0#32
  let v10 : BitVec 1 := Scalar.cmpi .sgt c256_i32 c0_i32_1
  let v11 : BitVec 32 := Scalar.extui v10
  let c0_i32_2 : BitVec 32 := 0#32
  let v12 : BitVec 1 := Scalar.cmpi .slt c256_i32 c0_i32_2
  let v13 : BitVec 32 := Scalar.extui v12
  let v14 : BitVec 32 := Scalar.subi v11 v13
  let v15 : BitVec 1 := Scalar.cmpi .ne v9 v14
  let v16 : BitVec 32 := Scalar.remsi v3 c256_i32
  let c0_i32_3 : BitVec 32 := 0#32
  let v17 : BitVec 1 := Scalar.cmpi .ne v16 c0_i32_3
  let v18 : BitVec 1 := Scalar.andi v15 v17
  let v4 : BitVec 32 := Scalar.divsi v3 c256_i32
  let c1_i32 : BitVec 32 := 1#32
  let v19 : BitVec 32 := Scalar.subi v4 c1_i32
  let v20 : BitVec 32 := Scalar.select v18 v19 v4
  let c1_i32_33 : BitVec 32 := 1#32
  let v73 : BitVec 32 := Scalar.subi v20 c1_i32_33
  let c256_i32_34 : BitVec 32 := 256#32
  let v74 : BitVec 32 := Scalar.muli v73 c256_i32_34
  let v75 : BitVec 32 := v74
  let v76 : Index := Scalar.indexCast v75
  let c0 : Index := 0#32
  ![v76.toNat, 0]
def k0_cond15 (i : grid0.Coords) : BitVec 1 :=
  let arg2 : BitVec 32 := BitVec.ofNat 32 (i 2).val
  let c6_i32 : BitVec 32 := 6#32
  let v35 : BitVec 1 := Scalar.cmpi .eq arg2 c6_i32
  let v36 : BitVec 32 := Scalar.extui v35
  let c0_i32_13 : BitVec 32 := 0#32
  let v37 : BitVec 1 := Scalar.cmpi .ne v36 c0_i32_13
  v37

@[reducible] def k0_t7_loop (v2 : BitVec 32) : Scf.Loop 32 :=
  let c0_i32_15 : BitVec 32 := 0#32
  let c255_i32 : BitVec 32 := 255#32
  let v3 : BitVec 32 := Scalar.addi v2 c255_i32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c256_i32 : BitVec 32 := 256#32
  let c0_i32_1 : BitVec 32 := 0#32
  let v10 : BitVec 1 := Scalar.cmpi .sgt c256_i32 c0_i32_1
  let v11 : BitVec 32 := Scalar.extui v10
  let c0_i32_2 : BitVec 32 := 0#32
  let v12 : BitVec 1 := Scalar.cmpi .slt c256_i32 c0_i32_2
  let v13 : BitVec 32 := Scalar.extui v12
  let v14 : BitVec 32 := Scalar.subi v11 v13
  let v15 : BitVec 1 := Scalar.cmpi .ne v9 v14
  let v16 : BitVec 32 := Scalar.remsi v3 c256_i32
  let c0_i32_3 : BitVec 32 := 0#32
  let v17 : BitVec 1 := Scalar.cmpi .ne v16 c0_i32_3
  let v18 : BitVec 1 := Scalar.andi v15 v17
  let v4 : BitVec 32 := Scalar.divsi v3 c256_i32
  let c1_i32 : BitVec 32 := 1#32
  let v19 : BitVec 32 := Scalar.subi v4 c1_i32
  let v20 : BitVec 32 := Scalar.select v18 v19 v4
  let v38 : BitVec 32 := Scalar.subi v20 c0_i32_15
  let c1_i32_16 : BitVec 32 := 1#32
  let v40 : BitVec 32 := Scalar.divsi v38 c1_i32_16
  let v41 : BitVec 32 := Scalar.muli v40 c1_i32_16
  let v42 : BitVec 32 := Scalar.addi c0_i32_15 v41
  let c1_i32_17 : BitVec 32 := 1#32
  ⟨c0_i32_15, v42, c1_i32_17⟩
def k0_mult13 (v2 : BitVec 32) (k0_t7 : Fin (k0_t7_loop v2).trips) : BitVec 32 :=
  let c0_i32_15 : BitVec 32 := 0#32
  let c1_i32_17 : BitVec 32 := 1#32
  let arg14 : BitVec 32 := Scf.iv c0_i32_15 c1_i32_17 k0_t7
  let c256_i32_19 : BitVec 32 := 256#32
  let v43 : BitVec 32 := Scalar.muli arg14 c256_i32_19
  v43
def k0_off40 (v2 : BitVec 32) (k0_t7 : Fin (k0_t7_loop v2).trips) : Fin 2 → Nat :=
  let c0_i32_15 : BitVec 32 := 0#32
  let c1_i32_17 : BitVec 32 := 1#32
  let arg14 : BitVec 32 := Scf.iv c0_i32_15 c1_i32_17 k0_t7
  let c256_i32_19 : BitVec 32 := 256#32
  let v43 : BitVec 32 := Scalar.muli arg14 c256_i32_19
  let v44 : BitVec 32 := v43
  let v45 : Index := Scalar.indexCast v44
  let c0 : Index := 0#32
  ![v45.toNat, 0]
def k0_off41 (i : grid0.Coords) : Fin 3 → Nat :=
  let arg0 : BitVec 32 := BitVec.ofNat 32 (i 0).val
  let v48 : Index := Scalar.indexCast arg0
  let arg1 : BitVec 32 := BitVec.ofNat 32 (i 1).val
  let v49 : Index := Scalar.indexCast arg1
  let c0_20 : Index := 0#32
  ![v48.toNat, v49.toNat, 0]
def k0_off42 (i : grid0.Coords) : Fin 3 → Nat :=
  let arg0 : BitVec 32 := BitVec.ofNat 32 (i 0).val
  let v54 : Index := Scalar.indexCast arg0
  let arg1 : BitVec 32 := BitVec.ofNat 32 (i 1).val
  let v55 : Index := Scalar.indexCast arg1
  let c1 : Index := 1#32
  ![v54.toNat, v55.toNat, 1]
def k0_off43 (i : grid0.Coords) : Fin 3 → Nat :=
  let arg0 : BitVec 32 := BitVec.ofNat 32 (i 0).val
  let v62 : Index := Scalar.indexCast arg0
  let arg1 : BitVec 32 := BitVec.ofNat 32 (i 1).val
  let v63 : Index := Scalar.indexCast arg1
  let c1_25 : Index := 1#32
  ![v62.toNat, v63.toNat, 1]
def k0_off44 (i : grid0.Coords) : Fin 3 → Nat :=
  let arg0 : BitVec 32 := BitVec.ofNat 32 (i 0).val
  let v68 : Index := Scalar.indexCast arg0
  let arg1 : BitVec 32 := BitVec.ofNat 32 (i 1).val
  let v69 : Index := Scalar.indexCast arg1
  let c2 : Index := 2#32
  ![v68.toNat, v69.toNat, 2]
def k0_off45 (i : grid0.Coords) : Fin 3 → Nat :=
  let arg0 : BitVec 32 := BitVec.ofNat 32 (i 0).val
  let v76 : Index := Scalar.indexCast arg0
  let arg1 : BitVec 32 := BitVec.ofNat 32 (i 1).val
  let v77 : Index := Scalar.indexCast arg1
  let c2_30 : Index := 2#32
  ![v76.toNat, v77.toNat, 2]
def k0_off46 (i : grid0.Coords) : Fin 3 → Nat :=
  let arg0 : BitVec 32 := BitVec.ofNat 32 (i 0).val
  let v82 : Index := Scalar.indexCast arg0
  let arg1 : BitVec 32 := BitVec.ofNat 32 (i 1).val
  let v83 : Index := Scalar.indexCast arg1
  let c3 : Index := 3#32
  ![v82.toNat, v83.toNat, 3]
def k0_off47 (i : grid0.Coords) : Fin 3 → Nat :=
  let arg0 : BitVec 32 := BitVec.ofNat 32 (i 0).val
  let v90 : Index := Scalar.indexCast arg0
  let arg1 : BitVec 32 := BitVec.ofNat 32 (i 1).val
  let v91 : Index := Scalar.indexCast arg1
  let c3_35 : Index := 3#32
  ![v90.toNat, v91.toNat, 3]
def k0_off48 (i : grid0.Coords) : Fin 3 → Nat :=
  let arg0 : BitVec 32 := BitVec.ofNat 32 (i 0).val
  let v96 : Index := Scalar.indexCast arg0
  let arg1 : BitVec 32 := BitVec.ofNat 32 (i 1).val
  let v97 : Index := Scalar.indexCast arg1
  let c4_38 : Index := 4#32
  ![v96.toNat, v97.toNat, 4]
@[reducible] def k0_t8_loop (v2 : BitVec 32) : Scf.Loop 32 :=
  let c0_i32_15 : BitVec 32 := 0#32
  let c255_i32 : BitVec 32 := 255#32
  let v3 : BitVec 32 := Scalar.addi v2 c255_i32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c256_i32 : BitVec 32 := 256#32
  let c0_i32_1 : BitVec 32 := 0#32
  let v10 : BitVec 1 := Scalar.cmpi .sgt c256_i32 c0_i32_1
  let v11 : BitVec 32 := Scalar.extui v10
  let c0_i32_2 : BitVec 32 := 0#32
  let v12 : BitVec 1 := Scalar.cmpi .slt c256_i32 c0_i32_2
  let v13 : BitVec 32 := Scalar.extui v12
  let v14 : BitVec 32 := Scalar.subi v11 v13
  let v15 : BitVec 1 := Scalar.cmpi .ne v9 v14
  let v16 : BitVec 32 := Scalar.remsi v3 c256_i32
  let c0_i32_3 : BitVec 32 := 0#32
  let v17 : BitVec 1 := Scalar.cmpi .ne v16 c0_i32_3
  let v18 : BitVec 1 := Scalar.andi v15 v17
  let v4 : BitVec 32 := Scalar.divsi v3 c256_i32
  let c1_i32 : BitVec 32 := 1#32
  let v19 : BitVec 32 := Scalar.subi v4 c1_i32
  let v20 : BitVec 32 := Scalar.select v18 v19 v4
  let v38 : BitVec 32 := Scalar.subi v20 c0_i32_15
  let c1_i32_16 : BitVec 32 := 1#32
  let v40 : BitVec 32 := Scalar.divsi v38 c1_i32_16
  let v41 : BitVec 32 := Scalar.muli v40 c1_i32_16
  let v42 : BitVec 32 := Scalar.addi c0_i32_15 v41
  let v39 : BitVec 32 := Scalar.addi c0_i32_15 v38
  let c1_i32_18 : BitVec 32 := 1#32
  ⟨v42, v39, c1_i32_18⟩
def k0_mult14 (v2 : BitVec 32) (k0_t8 : Fin (k0_t8_loop v2).trips) : BitVec 32 :=
  let c0_i32_15 : BitVec 32 := 0#32
  let c255_i32 : BitVec 32 := 255#32
  let v3 : BitVec 32 := Scalar.addi v2 c255_i32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c256_i32 : BitVec 32 := 256#32
  let c0_i32_1 : BitVec 32 := 0#32
  let v10 : BitVec 1 := Scalar.cmpi .sgt c256_i32 c0_i32_1
  let v11 : BitVec 32 := Scalar.extui v10
  let c0_i32_2 : BitVec 32 := 0#32
  let v12 : BitVec 1 := Scalar.cmpi .slt c256_i32 c0_i32_2
  let v13 : BitVec 32 := Scalar.extui v12
  let v14 : BitVec 32 := Scalar.subi v11 v13
  let v15 : BitVec 1 := Scalar.cmpi .ne v9 v14
  let v16 : BitVec 32 := Scalar.remsi v3 c256_i32
  let c0_i32_3 : BitVec 32 := 0#32
  let v17 : BitVec 1 := Scalar.cmpi .ne v16 c0_i32_3
  let v18 : BitVec 1 := Scalar.andi v15 v17
  let v4 : BitVec 32 := Scalar.divsi v3 c256_i32
  let c1_i32 : BitVec 32 := 1#32
  let v19 : BitVec 32 := Scalar.subi v4 c1_i32
  let v20 : BitVec 32 := Scalar.select v18 v19 v4
  let v38 : BitVec 32 := Scalar.subi v20 c0_i32_15
  let c1_i32_16 : BitVec 32 := 1#32
  let v40 : BitVec 32 := Scalar.divsi v38 c1_i32_16
  let v41 : BitVec 32 := Scalar.muli v40 c1_i32_16
  let v42 : BitVec 32 := Scalar.addi c0_i32_15 v41
  let c1_i32_18 : BitVec 32 := 1#32
  let arg14 : BitVec 32 := Scf.iv v42 c1_i32_18 k0_t8
  let c256_i32_19 : BitVec 32 := 256#32
  let v43 : BitVec 32 := Scalar.muli arg14 c256_i32_19
  v43
def k0_off49 (v2 : BitVec 32) (k0_t8 : Fin (k0_t8_loop v2).trips) : Fin 2 → Nat :=
  let c0_i32_15 : BitVec 32 := 0#32
  let c255_i32 : BitVec 32 := 255#32
  let v3 : BitVec 32 := Scalar.addi v2 c255_i32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c256_i32 : BitVec 32 := 256#32
  let c0_i32_1 : BitVec 32 := 0#32
  let v10 : BitVec 1 := Scalar.cmpi .sgt c256_i32 c0_i32_1
  let v11 : BitVec 32 := Scalar.extui v10
  let c0_i32_2 : BitVec 32 := 0#32
  let v12 : BitVec 1 := Scalar.cmpi .slt c256_i32 c0_i32_2
  let v13 : BitVec 32 := Scalar.extui v12
  let v14 : BitVec 32 := Scalar.subi v11 v13
  let v15 : BitVec 1 := Scalar.cmpi .ne v9 v14
  let v16 : BitVec 32 := Scalar.remsi v3 c256_i32
  let c0_i32_3 : BitVec 32 := 0#32
  let v17 : BitVec 1 := Scalar.cmpi .ne v16 c0_i32_3
  let v18 : BitVec 1 := Scalar.andi v15 v17
  let v4 : BitVec 32 := Scalar.divsi v3 c256_i32
  let c1_i32 : BitVec 32 := 1#32
  let v19 : BitVec 32 := Scalar.subi v4 c1_i32
  let v20 : BitVec 32 := Scalar.select v18 v19 v4
  let v38 : BitVec 32 := Scalar.subi v20 c0_i32_15
  let c1_i32_16 : BitVec 32 := 1#32
  let v40 : BitVec 32 := Scalar.divsi v38 c1_i32_16
  let v41 : BitVec 32 := Scalar.muli v40 c1_i32_16
  let v42 : BitVec 32 := Scalar.addi c0_i32_15 v41
  let c1_i32_18 : BitVec 32 := 1#32
  let arg14 : BitVec 32 := Scf.iv v42 c1_i32_18 k0_t8
  let c256_i32_19 : BitVec 32 := 256#32
  let v43 : BitVec 32 := Scalar.muli arg14 c256_i32_19
  let v44 : BitVec 32 := v43
  let v45 : Index := Scalar.indexCast v44
  let c0 : Index := 0#32
  ![v45.toNat, 0]

def k0_chk1_0 (i : grid0.Coords) (v2 : BitVec 32) : Prop :=
  (∀ (k0_h2 : k0_cond2 i = 1#1), (k0_t1_loop v2).OK) ∧
  (∀ k0_t1 : Fin (k0_t1_loop v2).trips, ∀ (k0_h2 : k0_cond2 i = 1#1), 256 ∣ (k0_mult1 v2 k0_t1).toNat) ∧
  (∀ k0_t1 : Fin (k0_t1_loop v2).trips, ∀ (k0_h2 : k0_cond2 i = 1#1), ∀ a, (k0_off2 v2 k0_t1) a + S256x1024.size a ≤ S2048x1024.size a) ∧
  (∀ k0_t1 : Fin (k0_t1_loop v2).trips, ∀ (k0_h2 : k0_cond2 i = 1#1), ∀ a, (k0_off15 v2 k0_t1) a + S256x1024.size a ≤ S2048x1024.size a) ∧
  (∀ k0_t1 : Fin (k0_t1_loop v2).trips, ∀ (k0_h2 : k0_cond2 i = 1#1), ∀ (hinb : ∀ a, (k0_off15 v2 k0_t1) a + S256x1024.size a ≤ S2048x1024.size a), (Rect.unit (s := S2048x1024) (k0_off15 v2 k0_t1) S256x1024.size hinb).PackedRows (EltTy.packing .bf16)) ∧
  (∀ (k0_h2 : k0_cond2 i = 1#1), (k0_t2_loop v2).OK) ∧
  (∀ k0_t2 : Fin (k0_t2_loop v2).trips, ∀ (k0_h2 : k0_cond2 i = 1#1), 256 ∣ (k0_mult2 v2 k0_t2).toNat) ∧
  (∀ k0_t2 : Fin (k0_t2_loop v2).trips, ∀ (k0_h2 : k0_cond2 i = 1#1), ∀ a, (k0_off16 v2 k0_t2) a + S256x1024.size a ≤ S2048x1024.size a) ∧
  (∀ k0_t2 : Fin (k0_t2_loop v2).trips, ∀ (k0_h2 : k0_cond2 i = 1#1), ∀ a, (k0_off29 v2 k0_t2) a + S256x1024.size a ≤ S2048x1024.size a) ∧
  (∀ k0_t2 : Fin (k0_t2_loop v2).trips, ∀ (k0_h2 : k0_cond2 i = 1#1), ∀ (hinb : ∀ a, (k0_off29 v2 k0_t2) a + S256x1024.size a ≤ S2048x1024.size a), (Rect.unit (s := S2048x1024) (k0_off29 v2 k0_t2) S256x1024.size hinb).PackedRows (EltTy.packing .bf16)) ∧
  (∀ (k0_h11 : k0_cond11 i = 1#1), (k0_t3_loop v2).OK) ∧
  (∀ k0_t3 : Fin (k0_t3_loop v2).trips, ∀ (k0_h11 : k0_cond11 i = 1#1), 256 ∣ (k0_mult3 v2 k0_t3).toNat) ∧
  (∀ k0_t3 : Fin (k0_t3_loop v2).trips, ∀ (k0_h11 : k0_cond11 i = 1#1), ∀ a, (k0_off30 v2 k0_t3) a + S256x1024.size a ≤ S2048x1024.size a) ∧
  (∀ k0_t3 : Fin (k0_t3_loop v2).trips, ∀ (k0_h11 : k0_cond11 i = 1#1), 256 ∣ (k0_mult4 v2 k0_t3).toNat) ∧
  (∀ k0_t3 : Fin (k0_t3_loop v2).trips, ∀ (k0_h11 : k0_cond11 i = 1#1), ∀ a, (k0_off31 v2 k0_t3) a + S256x1024.size a ≤ S2048x1024.size a) ∧
  (∀ (k0_h11 : k0_cond11 i = 1#1), (k0_t4_loop v2).OK) ∧
  (∀ k0_t4 : Fin (k0_t4_loop v2).trips, ∀ (k0_h11 : k0_cond11 i = 1#1), 256 ∣ (k0_mult5 v2 k0_t4).toNat) ∧
  (∀ k0_t4 : Fin (k0_t4_loop v2).trips, ∀ (k0_h11 : k0_cond11 i = 1#1), ∀ a, (k0_off32 v2 k0_t4) a + S256x1024.size a ≤ S2048x1024.size a) ∧
  (∀ k0_t4 : Fin (k0_t4_loop v2).trips, ∀ (k0_h11 : k0_cond11 i = 1#1), 256 ∣ (k0_mult6 v2 k0_t4).toNat) ∧
  (∀ k0_t4 : Fin (k0_t4_loop v2).trips, ∀ (k0_h11 : k0_cond11 i = 1#1), ∀ a, (k0_off33 v2 k0_t4) a + S256x1024.size a ≤ S2048x1024.size a) ∧
  (∀ (k0_h11 : k0_cond11 i = 1#1), ∀ (k0_h12 : k0_cond12 v2 = 1#1), 256 ∣ (k0_mult7 v2).toNat) ∧
  (∀ (k0_h11 : k0_cond11 i = 1#1), ∀ (k0_h12 : k0_cond12 v2 = 1#1), ∀ a, (k0_off34 v2) a + S256x1024.size a ≤ S2048x1024.size a) ∧
  (∀ (k0_h13 : k0_cond13 i = 1#1), (k0_t5_loop v2).OK) ∧
  (∀ k0_t5 : Fin (k0_t5_loop v2).trips, ∀ (k0_h13 : k0_cond13 i = 1#1), 256 ∣ (k0_mult8 v2 k0_t5).toNat) ∧
  (∀ k0_t5 : Fin (k0_t5_loop v2).trips, ∀ (k0_h13 : k0_cond13 i = 1#1), ∀ a, (k0_off35 v2 k0_t5) a + S256x1024.size a ≤ S2048x1024.size a) ∧
  (∀ k0_t5 : Fin (k0_t5_loop v2).trips, ∀ (k0_h13 : k0_cond13 i = 1#1), 256 ∣ (k0_mult9 v2 k0_t5).toNat) ∧
  (∀ k0_t5 : Fin (k0_t5_loop v2).trips, ∀ (k0_h13 : k0_cond13 i = 1#1), ∀ a, (k0_off36 v2 k0_t5) a + S256x1024.size a ≤ S2048x1024.size a) ∧
  (∀ (k0_h13 : k0_cond13 i = 1#1), (k0_t6_loop v2).OK) ∧
  (∀ k0_t6 : Fin (k0_t6_loop v2).trips, ∀ (k0_h13 : k0_cond13 i = 1#1), 256 ∣ (k0_mult10 v2 k0_t6).toNat) ∧
  (∀ k0_t6 : Fin (k0_t6_loop v2).trips, ∀ (k0_h13 : k0_cond13 i = 1#1), ∀ a, (k0_off37 v2 k0_t6) a + S256x1024.size a ≤ S2048x1024.size a) ∧
  (∀ k0_t6 : Fin (k0_t6_loop v2).trips, ∀ (k0_h13 : k0_cond13 i = 1#1), 256 ∣ (k0_mult11 v2 k0_t6).toNat) ∧
  (∀ k0_t6 : Fin (k0_t6_loop v2).trips, ∀ (k0_h13 : k0_cond13 i = 1#1), ∀ a, (k0_off38 v2 k0_t6) a + S256x1024.size a ≤ S2048x1024.size a)
def k0_chk1_1 (i : grid0.Coords) (v2 : BitVec 32) : Prop :=
  (∀ (k0_h13 : k0_cond13 i = 1#1), ∀ (k0_h14 : k0_cond14 v2 = 1#1), 256 ∣ (k0_mult12 v2).toNat) ∧
  (∀ (k0_h13 : k0_cond13 i = 1#1), ∀ (k0_h14 : k0_cond14 v2 = 1#1), ∀ a, (k0_off39 v2) a + S256x1024.size a ≤ S2048x1024.size a) ∧
  (∀ (k0_h15 : k0_cond15 i = 1#1), (k0_t7_loop v2).OK) ∧
  (∀ k0_t7 : Fin (k0_t7_loop v2).trips, ∀ (k0_h15 : k0_cond15 i = 1#1), 256 ∣ (k0_mult13 v2 k0_t7).toNat) ∧
  (∀ k0_t7 : Fin (k0_t7_loop v2).trips, ∀ (k0_h15 : k0_cond15 i = 1#1), ∀ a, (k0_off40 v2 k0_t7) a + S256x1024.size a ≤ S2048x1024.size a) ∧
  (∀ (k0_h15 : k0_cond15 i = 1#1), (k0_t8_loop v2).OK) ∧
  (∀ k0_t8 : Fin (k0_t8_loop v2).trips, ∀ (k0_h15 : k0_cond15 i = 1#1), 256 ∣ (k0_mult14 v2 k0_t8).toNat) ∧
  (∀ k0_t8 : Fin (k0_t8_loop v2).trips, ∀ (k0_h15 : k0_cond15 i = 1#1), ∀ a, (k0_off49 v2 k0_t8) a + S256x1024.size a ≤ S2048x1024.size a)
def k0_chk1 (i : grid0.Coords) (v2 : BitVec 32) : Prop :=
  k0_chk1_0 i v2 ∧
  k0_chk1_1 i v2
theorem k0_t1_ok : ∀ (i : grid0.Coords) (v2 : BitVec 32) (k0_hw1 : k0_chk1 i v2), ∀ (k0_h2 : k0_cond2 i = 1#1), (k0_t1_loop v2).OK := fun i v2 k0_hw1 k0_h2 => k0_hw1.1.1 k0_h2
theorem k0_mult1_dvd : ∀ (i : grid0.Coords) (v2 : BitVec 32) (k0_hw1 : k0_chk1 i v2) (k0_t1 : Fin (k0_t1_loop v2).trips), ∀ (k0_h2 : k0_cond2 i = 1#1), 256 ∣ (k0_mult1 v2 k0_t1).toNat := fun i v2 k0_hw1 k0_t1 k0_h2 => k0_hw1.1.2.1 k0_t1 k0_h2
theorem k0_off2_inb : ∀ (i : grid0.Coords) (v2 : BitVec 32) (k0_hw1 : k0_chk1 i v2) (k0_t1 : Fin (k0_t1_loop v2).trips), ∀ (k0_h2 : k0_cond2 i = 1#1), ∀ a, (k0_off2 v2 k0_t1) a + S256x1024.size a ≤ S2048x1024.size a := fun i v2 k0_hw1 k0_t1 k0_h2 => k0_hw1.1.2.2.1 k0_t1 k0_h2
theorem k0_off15_inb : ∀ (i : grid0.Coords) (v2 : BitVec 32) (k0_hw1 : k0_chk1 i v2) (k0_t1 : Fin (k0_t1_loop v2).trips), ∀ (k0_h2 : k0_cond2 i = 1#1), ∀ a, (k0_off15 v2 k0_t1) a + S256x1024.size a ≤ S2048x1024.size a := fun i v2 k0_hw1 k0_t1 k0_h2 => k0_hw1.1.2.2.2.1 k0_t1 k0_h2
theorem k0_off15_packedbf16 : ∀ (i : grid0.Coords) (v2 : BitVec 32) (k0_hw1 : k0_chk1 i v2) (k0_t1 : Fin (k0_t1_loop v2).trips), ∀ (k0_h2 : k0_cond2 i = 1#1), (Rect.unit (s := S2048x1024) (k0_off15 v2 k0_t1) S256x1024.size (k0_off15_inb i v2 k0_hw1 k0_t1 k0_h2)).PackedRows (EltTy.packing .bf16) := fun i v2 k0_hw1 k0_t1 k0_h2 => k0_hw1.1.2.2.2.2.1 k0_t1 k0_h2 (k0_off15_inb i v2 k0_hw1 k0_t1 k0_h2)
theorem k0_t2_ok : ∀ (i : grid0.Coords) (v2 : BitVec 32) (k0_hw1 : k0_chk1 i v2), ∀ (k0_h2 : k0_cond2 i = 1#1), (k0_t2_loop v2).OK := fun i v2 k0_hw1 k0_h2 => k0_hw1.1.2.2.2.2.2.1 k0_h2
theorem k0_mult2_dvd : ∀ (i : grid0.Coords) (v2 : BitVec 32) (k0_hw1 : k0_chk1 i v2) (k0_t2 : Fin (k0_t2_loop v2).trips), ∀ (k0_h2 : k0_cond2 i = 1#1), 256 ∣ (k0_mult2 v2 k0_t2).toNat := fun i v2 k0_hw1 k0_t2 k0_h2 => k0_hw1.1.2.2.2.2.2.2.1 k0_t2 k0_h2
theorem k0_off16_inb : ∀ (i : grid0.Coords) (v2 : BitVec 32) (k0_hw1 : k0_chk1 i v2) (k0_t2 : Fin (k0_t2_loop v2).trips), ∀ (k0_h2 : k0_cond2 i = 1#1), ∀ a, (k0_off16 v2 k0_t2) a + S256x1024.size a ≤ S2048x1024.size a := fun i v2 k0_hw1 k0_t2 k0_h2 => k0_hw1.1.2.2.2.2.2.2.2.1 k0_t2 k0_h2
theorem k0_off29_inb : ∀ (i : grid0.Coords) (v2 : BitVec 32) (k0_hw1 : k0_chk1 i v2) (k0_t2 : Fin (k0_t2_loop v2).trips), ∀ (k0_h2 : k0_cond2 i = 1#1), ∀ a, (k0_off29 v2 k0_t2) a + S256x1024.size a ≤ S2048x1024.size a := fun i v2 k0_hw1 k0_t2 k0_h2 => k0_hw1.1.2.2.2.2.2.2.2.2.1 k0_t2 k0_h2
theorem k0_off29_packedbf16 : ∀ (i : grid0.Coords) (v2 : BitVec 32) (k0_hw1 : k0_chk1 i v2) (k0_t2 : Fin (k0_t2_loop v2).trips), ∀ (k0_h2 : k0_cond2 i = 1#1), (Rect.unit (s := S2048x1024) (k0_off29 v2 k0_t2) S256x1024.size (k0_off29_inb i v2 k0_hw1 k0_t2 k0_h2)).PackedRows (EltTy.packing .bf16) := fun i v2 k0_hw1 k0_t2 k0_h2 => k0_hw1.1.2.2.2.2.2.2.2.2.2.1 k0_t2 k0_h2 (k0_off29_inb i v2 k0_hw1 k0_t2 k0_h2)
theorem k0_t3_ok : ∀ (i : grid0.Coords) (v2 : BitVec 32) (k0_hw1 : k0_chk1 i v2), ∀ (k0_h11 : k0_cond11 i = 1#1), (k0_t3_loop v2).OK := fun i v2 k0_hw1 k0_h11 => k0_hw1.1.2.2.2.2.2.2.2.2.2.2.1 k0_h11
theorem k0_mult3_dvd : ∀ (i : grid0.Coords) (v2 : BitVec 32) (k0_hw1 : k0_chk1 i v2) (k0_t3 : Fin (k0_t3_loop v2).trips), ∀ (k0_h11 : k0_cond11 i = 1#1), 256 ∣ (k0_mult3 v2 k0_t3).toNat := fun i v2 k0_hw1 k0_t3 k0_h11 => k0_hw1.1.2.2.2.2.2.2.2.2.2.2.2.1 k0_t3 k0_h11
theorem k0_off30_inb : ∀ (i : grid0.Coords) (v2 : BitVec 32) (k0_hw1 : k0_chk1 i v2) (k0_t3 : Fin (k0_t3_loop v2).trips), ∀ (k0_h11 : k0_cond11 i = 1#1), ∀ a, (k0_off30 v2 k0_t3) a + S256x1024.size a ≤ S2048x1024.size a := fun i v2 k0_hw1 k0_t3 k0_h11 => k0_hw1.1.2.2.2.2.2.2.2.2.2.2.2.2.1 k0_t3 k0_h11
theorem k0_mult4_dvd : ∀ (i : grid0.Coords) (v2 : BitVec 32) (k0_hw1 : k0_chk1 i v2) (k0_t3 : Fin (k0_t3_loop v2).trips), ∀ (k0_h11 : k0_cond11 i = 1#1), 256 ∣ (k0_mult4 v2 k0_t3).toNat := fun i v2 k0_hw1 k0_t3 k0_h11 => k0_hw1.1.2.2.2.2.2.2.2.2.2.2.2.2.2.1 k0_t3 k0_h11
theorem k0_off31_inb : ∀ (i : grid0.Coords) (v2 : BitVec 32) (k0_hw1 : k0_chk1 i v2) (k0_t3 : Fin (k0_t3_loop v2).trips), ∀ (k0_h11 : k0_cond11 i = 1#1), ∀ a, (k0_off31 v2 k0_t3) a + S256x1024.size a ≤ S2048x1024.size a := fun i v2 k0_hw1 k0_t3 k0_h11 => k0_hw1.1.2.2.2.2.2.2.2.2.2.2.2.2.2.2.1 k0_t3 k0_h11
theorem k0_t4_ok : ∀ (i : grid0.Coords) (v2 : BitVec 32) (k0_hw1 : k0_chk1 i v2), ∀ (k0_h11 : k0_cond11 i = 1#1), (k0_t4_loop v2).OK := fun i v2 k0_hw1 k0_h11 => k0_hw1.1.2.2.2.2.2.2.2.2.2.2.2.2.2.2.2.1 k0_h11
theorem k0_mult5_dvd : ∀ (i : grid0.Coords) (v2 : BitVec 32) (k0_hw1 : k0_chk1 i v2) (k0_t4 : Fin (k0_t4_loop v2).trips), ∀ (k0_h11 : k0_cond11 i = 1#1), 256 ∣ (k0_mult5 v2 k0_t4).toNat := fun i v2 k0_hw1 k0_t4 k0_h11 => k0_hw1.1.2.2.2.2.2.2.2.2.2.2.2.2.2.2.2.2.1 k0_t4 k0_h11
theorem k0_off32_inb : ∀ (i : grid0.Coords) (v2 : BitVec 32) (k0_hw1 : k0_chk1 i v2) (k0_t4 : Fin (k0_t4_loop v2).trips), ∀ (k0_h11 : k0_cond11 i = 1#1), ∀ a, (k0_off32 v2 k0_t4) a + S256x1024.size a ≤ S2048x1024.size a := fun i v2 k0_hw1 k0_t4 k0_h11 => k0_hw1.1.2.2.2.2.2.2.2.2.2.2.2.2.2.2.2.2.2.1 k0_t4 k0_h11
theorem k0_mult6_dvd : ∀ (i : grid0.Coords) (v2 : BitVec 32) (k0_hw1 : k0_chk1 i v2) (k0_t4 : Fin (k0_t4_loop v2).trips), ∀ (k0_h11 : k0_cond11 i = 1#1), 256 ∣ (k0_mult6 v2 k0_t4).toNat := fun i v2 k0_hw1 k0_t4 k0_h11 => k0_hw1.1.2.2.2.2.2.2.2.2.2.2.2.2.2.2.2.2.2.2.1 k0_t4 k0_h11
theorem k0_off33_inb : ∀ (i : grid0.Coords) (v2 : BitVec 32) (k0_hw1 : k0_chk1 i v2) (k0_t4 : Fin (k0_t4_loop v2).trips), ∀ (k0_h11 : k0_cond11 i = 1#1), ∀ a, (k0_off33 v2 k0_t4) a + S256x1024.size a ≤ S2048x1024.size a := fun i v2 k0_hw1 k0_t4 k0_h11 => k0_hw1.1.2.2.2.2.2.2.2.2.2.2.2.2.2.2.2.2.2.2.2.1 k0_t4 k0_h11
theorem k0_mult7_dvd : ∀ (i : grid0.Coords) (v2 : BitVec 32) (k0_hw1 : k0_chk1 i v2), ∀ (k0_h11 : k0_cond11 i = 1#1), ∀ (k0_h12 : k0_cond12 v2 = 1#1), 256 ∣ (k0_mult7 v2).toNat := fun i v2 k0_hw1 k0_h11 k0_h12 => k0_hw1.1.2.2.2.2.2.2.2.2.2.2.2.2.2.2.2.2.2.2.2.2.1 k0_h11 k0_h12
theorem k0_off34_inb : ∀ (i : grid0.Coords) (v2 : BitVec 32) (k0_hw1 : k0_chk1 i v2), ∀ (k0_h11 : k0_cond11 i = 1#1), ∀ (k0_h12 : k0_cond12 v2 = 1#1), ∀ a, (k0_off34 v2) a + S256x1024.size a ≤ S2048x1024.size a := fun i v2 k0_hw1 k0_h11 k0_h12 => k0_hw1.1.2.2.2.2.2.2.2.2.2.2.2.2.2.2.2.2.2.2.2.2.2.1 k0_h11 k0_h12
theorem k0_t5_ok : ∀ (i : grid0.Coords) (v2 : BitVec 32) (k0_hw1 : k0_chk1 i v2), ∀ (k0_h13 : k0_cond13 i = 1#1), (k0_t5_loop v2).OK := fun i v2 k0_hw1 k0_h13 => k0_hw1.1.2.2.2.2.2.2.2.2.2.2.2.2.2.2.2.2.2.2.2.2.2.2.1 k0_h13
theorem k0_mult8_dvd : ∀ (i : grid0.Coords) (v2 : BitVec 32) (k0_hw1 : k0_chk1 i v2) (k0_t5 : Fin (k0_t5_loop v2).trips), ∀ (k0_h13 : k0_cond13 i = 1#1), 256 ∣ (k0_mult8 v2 k0_t5).toNat := fun i v2 k0_hw1 k0_t5 k0_h13 => k0_hw1.1.2.2.2.2.2.2.2.2.2.2.2.2.2.2.2.2.2.2.2.2.2.2.2.1 k0_t5 k0_h13
theorem k0_off35_inb : ∀ (i : grid0.Coords) (v2 : BitVec 32) (k0_hw1 : k0_chk1 i v2) (k0_t5 : Fin (k0_t5_loop v2).trips), ∀ (k0_h13 : k0_cond13 i = 1#1), ∀ a, (k0_off35 v2 k0_t5) a + S256x1024.size a ≤ S2048x1024.size a := fun i v2 k0_hw1 k0_t5 k0_h13 => k0_hw1.1.2.2.2.2.2.2.2.2.2.2.2.2.2.2.2.2.2.2.2.2.2.2.2.2.1 k0_t5 k0_h13
theorem k0_mult9_dvd : ∀ (i : grid0.Coords) (v2 : BitVec 32) (k0_hw1 : k0_chk1 i v2) (k0_t5 : Fin (k0_t5_loop v2).trips), ∀ (k0_h13 : k0_cond13 i = 1#1), 256 ∣ (k0_mult9 v2 k0_t5).toNat := fun i v2 k0_hw1 k0_t5 k0_h13 => k0_hw1.1.2.2.2.2.2.2.2.2.2.2.2.2.2.2.2.2.2.2.2.2.2.2.2.2.2.1 k0_t5 k0_h13
theorem k0_off36_inb : ∀ (i : grid0.Coords) (v2 : BitVec 32) (k0_hw1 : k0_chk1 i v2) (k0_t5 : Fin (k0_t5_loop v2).trips), ∀ (k0_h13 : k0_cond13 i = 1#1), ∀ a, (k0_off36 v2 k0_t5) a + S256x1024.size a ≤ S2048x1024.size a := fun i v2 k0_hw1 k0_t5 k0_h13 => k0_hw1.1.2.2.2.2.2.2.2.2.2.2.2.2.2.2.2.2.2.2.2.2.2.2.2.2.2.2.1 k0_t5 k0_h13
theorem k0_t6_ok : ∀ (i : grid0.Coords) (v2 : BitVec 32) (k0_hw1 : k0_chk1 i v2), ∀ (k0_h13 : k0_cond13 i = 1#1), (k0_t6_loop v2).OK := fun i v2 k0_hw1 k0_h13 => k0_hw1.1.2.2.2.2.2.2.2.2.2.2.2.2.2.2.2.2.2.2.2.2.2.2.2.2.2.2.2.1 k0_h13
theorem k0_mult10_dvd : ∀ (i : grid0.Coords) (v2 : BitVec 32) (k0_hw1 : k0_chk1 i v2) (k0_t6 : Fin (k0_t6_loop v2).trips), ∀ (k0_h13 : k0_cond13 i = 1#1), 256 ∣ (k0_mult10 v2 k0_t6).toNat := fun i v2 k0_hw1 k0_t6 k0_h13 => k0_hw1.1.2.2.2.2.2.2.2.2.2.2.2.2.2.2.2.2.2.2.2.2.2.2.2.2.2.2.2.2.1 k0_t6 k0_h13
theorem k0_off37_inb : ∀ (i : grid0.Coords) (v2 : BitVec 32) (k0_hw1 : k0_chk1 i v2) (k0_t6 : Fin (k0_t6_loop v2).trips), ∀ (k0_h13 : k0_cond13 i = 1#1), ∀ a, (k0_off37 v2 k0_t6) a + S256x1024.size a ≤ S2048x1024.size a := fun i v2 k0_hw1 k0_t6 k0_h13 => k0_hw1.1.2.2.2.2.2.2.2.2.2.2.2.2.2.2.2.2.2.2.2.2.2.2.2.2.2.2.2.2.2.1 k0_t6 k0_h13
theorem k0_mult11_dvd : ∀ (i : grid0.Coords) (v2 : BitVec 32) (k0_hw1 : k0_chk1 i v2) (k0_t6 : Fin (k0_t6_loop v2).trips), ∀ (k0_h13 : k0_cond13 i = 1#1), 256 ∣ (k0_mult11 v2 k0_t6).toNat := fun i v2 k0_hw1 k0_t6 k0_h13 => k0_hw1.1.2.2.2.2.2.2.2.2.2.2.2.2.2.2.2.2.2.2.2.2.2.2.2.2.2.2.2.2.2.2.1 k0_t6 k0_h13
theorem k0_off38_inb : ∀ (i : grid0.Coords) (v2 : BitVec 32) (k0_hw1 : k0_chk1 i v2) (k0_t6 : Fin (k0_t6_loop v2).trips), ∀ (k0_h13 : k0_cond13 i = 1#1), ∀ a, (k0_off38 v2 k0_t6) a + S256x1024.size a ≤ S2048x1024.size a := fun i v2 k0_hw1 k0_t6 k0_h13 => k0_hw1.1.2.2.2.2.2.2.2.2.2.2.2.2.2.2.2.2.2.2.2.2.2.2.2.2.2.2.2.2.2.2.2 k0_t6 k0_h13
theorem k0_mult12_dvd : ∀ (i : grid0.Coords) (v2 : BitVec 32) (k0_hw1 : k0_chk1 i v2), ∀ (k0_h13 : k0_cond13 i = 1#1), ∀ (k0_h14 : k0_cond14 v2 = 1#1), 256 ∣ (k0_mult12 v2).toNat := fun i v2 k0_hw1 k0_h13 k0_h14 => k0_hw1.2.1 k0_h13 k0_h14
theorem k0_off39_inb : ∀ (i : grid0.Coords) (v2 : BitVec 32) (k0_hw1 : k0_chk1 i v2), ∀ (k0_h13 : k0_cond13 i = 1#1), ∀ (k0_h14 : k0_cond14 v2 = 1#1), ∀ a, (k0_off39 v2) a + S256x1024.size a ≤ S2048x1024.size a := fun i v2 k0_hw1 k0_h13 k0_h14 => k0_hw1.2.2.1 k0_h13 k0_h14
theorem k0_t7_ok : ∀ (i : grid0.Coords) (v2 : BitVec 32) (k0_hw1 : k0_chk1 i v2), ∀ (k0_h15 : k0_cond15 i = 1#1), (k0_t7_loop v2).OK := fun i v2 k0_hw1 k0_h15 => k0_hw1.2.2.2.1 k0_h15
theorem k0_mult13_dvd : ∀ (i : grid0.Coords) (v2 : BitVec 32) (k0_hw1 : k0_chk1 i v2) (k0_t7 : Fin (k0_t7_loop v2).trips), ∀ (k0_h15 : k0_cond15 i = 1#1), 256 ∣ (k0_mult13 v2 k0_t7).toNat := fun i v2 k0_hw1 k0_t7 k0_h15 => k0_hw1.2.2.2.2.1 k0_t7 k0_h15
theorem k0_off40_inb : ∀ (i : grid0.Coords) (v2 : BitVec 32) (k0_hw1 : k0_chk1 i v2) (k0_t7 : Fin (k0_t7_loop v2).trips), ∀ (k0_h15 : k0_cond15 i = 1#1), ∀ a, (k0_off40 v2 k0_t7) a + S256x1024.size a ≤ S2048x1024.size a := fun i v2 k0_hw1 k0_t7 k0_h15 => k0_hw1.2.2.2.2.2.1 k0_t7 k0_h15
theorem k0_t8_ok : ∀ (i : grid0.Coords) (v2 : BitVec 32) (k0_hw1 : k0_chk1 i v2), ∀ (k0_h15 : k0_cond15 i = 1#1), (k0_t8_loop v2).OK := fun i v2 k0_hw1 k0_h15 => k0_hw1.2.2.2.2.2.2.1 k0_h15
theorem k0_mult14_dvd : ∀ (i : grid0.Coords) (v2 : BitVec 32) (k0_hw1 : k0_chk1 i v2) (k0_t8 : Fin (k0_t8_loop v2).trips), ∀ (k0_h15 : k0_cond15 i = 1#1), 256 ∣ (k0_mult14 v2 k0_t8).toNat := fun i v2 k0_hw1 k0_t8 k0_h15 => k0_hw1.2.2.2.2.2.2.2.1 k0_t8 k0_h15
theorem k0_off49_inb : ∀ (i : grid0.Coords) (v2 : BitVec 32) (k0_hw1 : k0_chk1 i v2) (k0_t8 : Fin (k0_t8_loop v2).trips), ∀ (k0_h15 : k0_cond15 i = 1#1), ∀ a, (k0_off49 v2 k0_t8) a + S256x1024.size a ≤ S2048x1024.size a := fun i v2 k0_hw1 k0_t8 k0_h15 => k0_hw1.2.2.2.2.2.2.2.2 k0_t8 k0_h15

def k0_off50 (i : grid0.Coords) : Fin 3 → Nat :=
  let arg0 : BitVec 32 := BitVec.ofNat 32 (i 0).val
  let v48 : Index := Scalar.indexCast arg0
  let arg1 : BitVec 32 := BitVec.ofNat 32 (i 1).val
  let v49 : Index := Scalar.indexCast arg1
  let c0_20 : Index := 0#32
  ![v48.toNat, v49.toNat, 0]
def k0_off51 (i : grid0.Coords) : Fin 3 → Nat :=
  let arg0 : BitVec 32 := BitVec.ofNat 32 (i 0).val
  let v54 : Index := Scalar.indexCast arg0
  let arg1 : BitVec 32 := BitVec.ofNat 32 (i 1).val
  let v55 : Index := Scalar.indexCast arg1
  let c1 : Index := 1#32
  ![v54.toNat, v55.toNat, 1]
def k0_off52 (i : grid0.Coords) : Fin 3 → Nat :=
  let arg0 : BitVec 32 := BitVec.ofNat 32 (i 0).val
  let v62 : Index := Scalar.indexCast arg0
  let arg1 : BitVec 32 := BitVec.ofNat 32 (i 1).val
  let v63 : Index := Scalar.indexCast arg1
  let c1_25 : Index := 1#32
  ![v62.toNat, v63.toNat, 1]
def k0_off53 (i : grid0.Coords) : Fin 3 → Nat :=
  let arg0 : BitVec 32 := BitVec.ofNat 32 (i 0).val
  let v68 : Index := Scalar.indexCast arg0
  let arg1 : BitVec 32 := BitVec.ofNat 32 (i 1).val
  let v69 : Index := Scalar.indexCast arg1
  let c2 : Index := 2#32
  ![v68.toNat, v69.toNat, 2]
def k0_off54 (i : grid0.Coords) : Fin 3 → Nat :=
  let arg0 : BitVec 32 := BitVec.ofNat 32 (i 0).val
  let v76 : Index := Scalar.indexCast arg0
  let arg1 : BitVec 32 := BitVec.ofNat 32 (i 1).val
  let v77 : Index := Scalar.indexCast arg1
  let c2_30 : Index := 2#32
  ![v76.toNat, v77.toNat, 2]
def k0_off55 (i : grid0.Coords) : Fin 3 → Nat :=
  let arg0 : BitVec 32 := BitVec.ofNat 32 (i 0).val
  let v82 : Index := Scalar.indexCast arg0
  let arg1 : BitVec 32 := BitVec.ofNat 32 (i 1).val
  let v83 : Index := Scalar.indexCast arg1
  let c3 : Index := 3#32
  ![v82.toNat, v83.toNat, 3]
def k0_off56 (i : grid0.Coords) : Fin 3 → Nat :=
  let arg0 : BitVec 32 := BitVec.ofNat 32 (i 0).val
  let v90 : Index := Scalar.indexCast arg0
  let arg1 : BitVec 32 := BitVec.ofNat 32 (i 1).val
  let v91 : Index := Scalar.indexCast arg1
  let c3_35 : Index := 3#32
  ![v90.toNat, v91.toNat, 3]
def k0_off57 (i : grid0.Coords) : Fin 3 → Nat :=
  let arg0 : BitVec 32 := BitVec.ofNat 32 (i 0).val
  let v96 : Index := Scalar.indexCast arg0
  let arg1 : BitVec 32 := BitVec.ofNat 32 (i 1).val
  let v97 : Index := Scalar.indexCast arg1
  let c4_38 : Index := 4#32
  ![v96.toNat, v97.toNat, 4]
def k0_cond1 (i : grid0.Coords) : BitVec 1 :=
  let arg1 : BitVec 32 := BitVec.ofNat 32 (i 1).val
  let c0_i32_4 : BitVec 32 := 0#32
  let v21 : BitVec 1 := Scalar.cmpi .eq arg1 c0_i32_4
  let arg2 : BitVec 32 := BitVec.ofNat 32 (i 2).val
  let c0_i32_5 : BitVec 32 := 0#32
  let v22 : BitVec 1 := Scalar.cmpi .eq arg2 c0_i32_5
  let v23 : BitVec 1 := Scalar.andi v21 v22
  let v24 : BitVec 32 := Scalar.extui v23
  let c0_i32_6 : BitVec 32 := 0#32
  let v25 : BitVec 1 := Scalar.cmpi .ne v24 c0_i32_6
  v25

def k0_cond16 (v2 : BitVec 32) (k0_t7 : Fin (k0_t7_loop v2).trips) (v50 : BitVec 32) (v56 : BitVec 32) : BitVec 1 :=
  let c0_i32_15 : BitVec 32 := 0#32
  let c1_i32_17 : BitVec 32 := 1#32
  let arg14 : BitVec 32 := Scf.iv c0_i32_15 c1_i32_17 k0_t7
  let c1_i32_21 : BitVec 32 := 1#32
  let v51 : BitVec 32 := Scalar.addi arg14 c1_i32_21
  let c256_i32_22 : BitVec 32 := 256#32
  let v52 : BitVec 32 := Scalar.muli v51 c256_i32_22
  let v53 : BitVec 1 := Scalar.cmpi .slt v50 v52
  let c256_i32_23 : BitVec 32 := 256#32
  let v57 : BitVec 32 := Scalar.muli arg14 c256_i32_23
  let v58 : BitVec 1 := Scalar.cmpi .sgt v56 v57
  let v59 : BitVec 1 := Scalar.andi v53 v58
  let v60 : BitVec 32 := Scalar.extui v59
  let c0_i32_24 : BitVec 32 := 0#32
  let v61 : BitVec 1 := Scalar.cmpi .ne v60 c0_i32_24
  v61

def k0_cond17 (v2 : BitVec 32) (k0_t7 : Fin (k0_t7_loop v2).trips) (v64 : BitVec 32) (v70 : BitVec 32) : BitVec 1 :=
  let c0_i32_15 : BitVec 32 := 0#32
  let c1_i32_17 : BitVec 32 := 1#32
  let arg14 : BitVec 32 := Scf.iv c0_i32_15 c1_i32_17 k0_t7
  let c1_i32_26 : BitVec 32 := 1#32
  let v65 : BitVec 32 := Scalar.addi arg14 c1_i32_26
  let c256_i32_27 : BitVec 32 := 256#32
  let v66 : BitVec 32 := Scalar.muli v65 c256_i32_27
  let v67 : BitVec 1 := Scalar.cmpi .slt v64 v66
  let c256_i32_28 : BitVec 32 := 256#32
  let v71 : BitVec 32 := Scalar.muli arg14 c256_i32_28
  let v72 : BitVec 1 := Scalar.cmpi .sgt v70 v71
  let v73 : BitVec 1 := Scalar.andi v67 v72
  let v74 : BitVec 32 := Scalar.extui v73
  let c0_i32_29 : BitVec 32 := 0#32
  let v75 : BitVec 1 := Scalar.cmpi .ne v74 c0_i32_29
  v75

def k0_cond18 (v2 : BitVec 32) (k0_t7 : Fin (k0_t7_loop v2).trips) (v78 : BitVec 32) (v84 : BitVec 32) : BitVec 1 :=
  let c0_i32_15 : BitVec 32 := 0#32
  let c1_i32_17 : BitVec 32 := 1#32
  let arg14 : BitVec 32 := Scf.iv c0_i32_15 c1_i32_17 k0_t7
  let c1_i32_31 : BitVec 32 := 1#32
  let v79 : BitVec 32 := Scalar.addi arg14 c1_i32_31
  let c256_i32_32 : BitVec 32 := 256#32
  let v80 : BitVec 32 := Scalar.muli v79 c256_i32_32
  let v81 : BitVec 1 := Scalar.cmpi .slt v78 v80
  let c256_i32_33 : BitVec 32 := 256#32
  let v85 : BitVec 32 := Scalar.muli arg14 c256_i32_33
  let v86 : BitVec 1 := Scalar.cmpi .sgt v84 v85
  let v87 : BitVec 1 := Scalar.andi v81 v86
  let v88 : BitVec 32 := Scalar.extui v87
  let c0_i32_34 : BitVec 32 := 0#32
  let v89 : BitVec 1 := Scalar.cmpi .ne v88 c0_i32_34
  v89

def k0_cond19 (v2 : BitVec 32) (k0_t7 : Fin (k0_t7_loop v2).trips) (v92 : BitVec 32) (v98 : BitVec 32) : BitVec 1 :=
  let c0_i32_15 : BitVec 32 := 0#32
  let c1_i32_17 : BitVec 32 := 1#32
  let arg14 : BitVec 32 := Scf.iv c0_i32_15 c1_i32_17 k0_t7
  let c1_i32_36 : BitVec 32 := 1#32
  let v93 : BitVec 32 := Scalar.addi arg14 c1_i32_36
  let c256_i32_37 : BitVec 32 := 256#32
  let v94 : BitVec 32 := Scalar.muli v93 c256_i32_37
  let v95 : BitVec 1 := Scalar.cmpi .slt v92 v94
  let c256_i32_39 : BitVec 32 := 256#32
  let v99 : BitVec 32 := Scalar.muli arg14 c256_i32_39
  let v100 : BitVec 1 := Scalar.cmpi .sgt v98 v99
  let v101 : BitVec 1 := Scalar.andi v95 v100
  let v102 : BitVec 32 := Scalar.extui v101
  let c0_i32_40 : BitVec 32 := 0#32
  let v103 : BitVec 1 := Scalar.cmpi .ne v102 c0_i32_40
  v103

def k0_cond20 (v2 : BitVec 32) (k0_t8 : Fin (k0_t8_loop v2).trips) (v50 : BitVec 32) (v56 : BitVec 32) : BitVec 1 :=
  let c0_i32_15 : BitVec 32 := 0#32
  let c255_i32 : BitVec 32 := 255#32
  let v3 : BitVec 32 := Scalar.addi v2 c255_i32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c256_i32 : BitVec 32 := 256#32
  let c0_i32_1 : BitVec 32 := 0#32
  let v10 : BitVec 1 := Scalar.cmpi .sgt c256_i32 c0_i32_1
  let v11 : BitVec 32 := Scalar.extui v10
  let c0_i32_2 : BitVec 32 := 0#32
  let v12 : BitVec 1 := Scalar.cmpi .slt c256_i32 c0_i32_2
  let v13 : BitVec 32 := Scalar.extui v12
  let v14 : BitVec 32 := Scalar.subi v11 v13
  let v15 : BitVec 1 := Scalar.cmpi .ne v9 v14
  let v16 : BitVec 32 := Scalar.remsi v3 c256_i32
  let c0_i32_3 : BitVec 32 := 0#32
  let v17 : BitVec 1 := Scalar.cmpi .ne v16 c0_i32_3
  let v18 : BitVec 1 := Scalar.andi v15 v17
  let v4 : BitVec 32 := Scalar.divsi v3 c256_i32
  let c1_i32 : BitVec 32 := 1#32
  let v19 : BitVec 32 := Scalar.subi v4 c1_i32
  let v20 : BitVec 32 := Scalar.select v18 v19 v4
  let v38 : BitVec 32 := Scalar.subi v20 c0_i32_15
  let c1_i32_16 : BitVec 32 := 1#32
  let v40 : BitVec 32 := Scalar.divsi v38 c1_i32_16
  let v41 : BitVec 32 := Scalar.muli v40 c1_i32_16
  let v42 : BitVec 32 := Scalar.addi c0_i32_15 v41
  let c1_i32_18 : BitVec 32 := 1#32
  let arg14 : BitVec 32 := Scf.iv v42 c1_i32_18 k0_t8
  let c1_i32_21 : BitVec 32 := 1#32
  let v51 : BitVec 32 := Scalar.addi arg14 c1_i32_21
  let c256_i32_22 : BitVec 32 := 256#32
  let v52 : BitVec 32 := Scalar.muli v51 c256_i32_22
  let v53 : BitVec 1 := Scalar.cmpi .slt v50 v52
  let c256_i32_23 : BitVec 32 := 256#32
  let v57 : BitVec 32 := Scalar.muli arg14 c256_i32_23
  let v58 : BitVec 1 := Scalar.cmpi .sgt v56 v57
  let v59 : BitVec 1 := Scalar.andi v53 v58
  let v60 : BitVec 32 := Scalar.extui v59
  let c0_i32_24 : BitVec 32 := 0#32
  let v61 : BitVec 1 := Scalar.cmpi .ne v60 c0_i32_24
  v61

def k0_cond21 (v2 : BitVec 32) (k0_t8 : Fin (k0_t8_loop v2).trips) (v64 : BitVec 32) (v70 : BitVec 32) : BitVec 1 :=
  let c0_i32_15 : BitVec 32 := 0#32
  let c255_i32 : BitVec 32 := 255#32
  let v3 : BitVec 32 := Scalar.addi v2 c255_i32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c256_i32 : BitVec 32 := 256#32
  let c0_i32_1 : BitVec 32 := 0#32
  let v10 : BitVec 1 := Scalar.cmpi .sgt c256_i32 c0_i32_1
  let v11 : BitVec 32 := Scalar.extui v10
  let c0_i32_2 : BitVec 32 := 0#32
  let v12 : BitVec 1 := Scalar.cmpi .slt c256_i32 c0_i32_2
  let v13 : BitVec 32 := Scalar.extui v12
  let v14 : BitVec 32 := Scalar.subi v11 v13
  let v15 : BitVec 1 := Scalar.cmpi .ne v9 v14
  let v16 : BitVec 32 := Scalar.remsi v3 c256_i32
  let c0_i32_3 : BitVec 32 := 0#32
  let v17 : BitVec 1 := Scalar.cmpi .ne v16 c0_i32_3
  let v18 : BitVec 1 := Scalar.andi v15 v17
  let v4 : BitVec 32 := Scalar.divsi v3 c256_i32
  let c1_i32 : BitVec 32 := 1#32
  let v19 : BitVec 32 := Scalar.subi v4 c1_i32
  let v20 : BitVec 32 := Scalar.select v18 v19 v4
  let v38 : BitVec 32 := Scalar.subi v20 c0_i32_15
  let c1_i32_16 : BitVec 32 := 1#32
  let v40 : BitVec 32 := Scalar.divsi v38 c1_i32_16
  let v41 : BitVec 32 := Scalar.muli v40 c1_i32_16
  let v42 : BitVec 32 := Scalar.addi c0_i32_15 v41
  let c1_i32_18 : BitVec 32 := 1#32
  let arg14 : BitVec 32 := Scf.iv v42 c1_i32_18 k0_t8
  let c1_i32_26 : BitVec 32 := 1#32
  let v65 : BitVec 32 := Scalar.addi arg14 c1_i32_26
  let c256_i32_27 : BitVec 32 := 256#32
  let v66 : BitVec 32 := Scalar.muli v65 c256_i32_27
  let v67 : BitVec 1 := Scalar.cmpi .slt v64 v66
  let c256_i32_28 : BitVec 32 := 256#32
  let v71 : BitVec 32 := Scalar.muli arg14 c256_i32_28
  let v72 : BitVec 1 := Scalar.cmpi .sgt v70 v71
  let v73 : BitVec 1 := Scalar.andi v67 v72
  let v74 : BitVec 32 := Scalar.extui v73
  let c0_i32_29 : BitVec 32 := 0#32
  let v75 : BitVec 1 := Scalar.cmpi .ne v74 c0_i32_29
  v75

def k0_cond22 (v2 : BitVec 32) (k0_t8 : Fin (k0_t8_loop v2).trips) (v78 : BitVec 32) (v84 : BitVec 32) : BitVec 1 :=
  let c0_i32_15 : BitVec 32 := 0#32
  let c255_i32 : BitVec 32 := 255#32
  let v3 : BitVec 32 := Scalar.addi v2 c255_i32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c256_i32 : BitVec 32 := 256#32
  let c0_i32_1 : BitVec 32 := 0#32
  let v10 : BitVec 1 := Scalar.cmpi .sgt c256_i32 c0_i32_1
  let v11 : BitVec 32 := Scalar.extui v10
  let c0_i32_2 : BitVec 32 := 0#32
  let v12 : BitVec 1 := Scalar.cmpi .slt c256_i32 c0_i32_2
  let v13 : BitVec 32 := Scalar.extui v12
  let v14 : BitVec 32 := Scalar.subi v11 v13
  let v15 : BitVec 1 := Scalar.cmpi .ne v9 v14
  let v16 : BitVec 32 := Scalar.remsi v3 c256_i32
  let c0_i32_3 : BitVec 32 := 0#32
  let v17 : BitVec 1 := Scalar.cmpi .ne v16 c0_i32_3
  let v18 : BitVec 1 := Scalar.andi v15 v17
  let v4 : BitVec 32 := Scalar.divsi v3 c256_i32
  let c1_i32 : BitVec 32 := 1#32
  let v19 : BitVec 32 := Scalar.subi v4 c1_i32
  let v20 : BitVec 32 := Scalar.select v18 v19 v4
  let v38 : BitVec 32 := Scalar.subi v20 c0_i32_15
  let c1_i32_16 : BitVec 32 := 1#32
  let v40 : BitVec 32 := Scalar.divsi v38 c1_i32_16
  let v41 : BitVec 32 := Scalar.muli v40 c1_i32_16
  let v42 : BitVec 32 := Scalar.addi c0_i32_15 v41
  let c1_i32_18 : BitVec 32 := 1#32
  let arg14 : BitVec 32 := Scf.iv v42 c1_i32_18 k0_t8
  let c1_i32_31 : BitVec 32 := 1#32
  let v79 : BitVec 32 := Scalar.addi arg14 c1_i32_31
  let c256_i32_32 : BitVec 32 := 256#32
  let v80 : BitVec 32 := Scalar.muli v79 c256_i32_32
  let v81 : BitVec 1 := Scalar.cmpi .slt v78 v80
  let c256_i32_33 : BitVec 32 := 256#32
  let v85 : BitVec 32 := Scalar.muli arg14 c256_i32_33
  let v86 : BitVec 1 := Scalar.cmpi .sgt v84 v85
  let v87 : BitVec 1 := Scalar.andi v81 v86
  let v88 : BitVec 32 := Scalar.extui v87
  let c0_i32_34 : BitVec 32 := 0#32
  let v89 : BitVec 1 := Scalar.cmpi .ne v88 c0_i32_34
  v89

def k0_cond23 (v2 : BitVec 32) (k0_t8 : Fin (k0_t8_loop v2).trips) (v92 : BitVec 32) (v98 : BitVec 32) : BitVec 1 :=
  let c0_i32_15 : BitVec 32 := 0#32
  let c255_i32 : BitVec 32 := 255#32
  let v3 : BitVec 32 := Scalar.addi v2 c255_i32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c256_i32 : BitVec 32 := 256#32
  let c0_i32_1 : BitVec 32 := 0#32
  let v10 : BitVec 1 := Scalar.cmpi .sgt c256_i32 c0_i32_1
  let v11 : BitVec 32 := Scalar.extui v10
  let c0_i32_2 : BitVec 32 := 0#32
  let v12 : BitVec 1 := Scalar.cmpi .slt c256_i32 c0_i32_2
  let v13 : BitVec 32 := Scalar.extui v12
  let v14 : BitVec 32 := Scalar.subi v11 v13
  let v15 : BitVec 1 := Scalar.cmpi .ne v9 v14
  let v16 : BitVec 32 := Scalar.remsi v3 c256_i32
  let c0_i32_3 : BitVec 32 := 0#32
  let v17 : BitVec 1 := Scalar.cmpi .ne v16 c0_i32_3
  let v18 : BitVec 1 := Scalar.andi v15 v17
  let v4 : BitVec 32 := Scalar.divsi v3 c256_i32
  let c1_i32 : BitVec 32 := 1#32
  let v19 : BitVec 32 := Scalar.subi v4 c1_i32
  let v20 : BitVec 32 := Scalar.select v18 v19 v4
  let v38 : BitVec 32 := Scalar.subi v20 c0_i32_15
  let c1_i32_16 : BitVec 32 := 1#32
  let v40 : BitVec 32 := Scalar.divsi v38 c1_i32_16
  let v41 : BitVec 32 := Scalar.muli v40 c1_i32_16
  let v42 : BitVec 32 := Scalar.addi c0_i32_15 v41
  let c1_i32_18 : BitVec 32 := 1#32
  let arg14 : BitVec 32 := Scf.iv v42 c1_i32_18 k0_t8
  let c1_i32_36 : BitVec 32 := 1#32
  let v93 : BitVec 32 := Scalar.addi arg14 c1_i32_36
  let c256_i32_37 : BitVec 32 := 256#32
  let v94 : BitVec 32 := Scalar.muli v93 c256_i32_37
  let v95 : BitVec 1 := Scalar.cmpi .slt v92 v94
  let c256_i32_39 : BitVec 32 := 256#32
  let v99 : BitVec 32 := Scalar.muli arg14 c256_i32_39
  let v100 : BitVec 1 := Scalar.cmpi .sgt v98 v99
  let v101 : BitVec 1 := Scalar.andi v95 v100
  let v102 : BitVec 32 := Scalar.extui v101
  let c0_i32_40 : BitVec 32 := 0#32
  let v103 : BitVec 1 := Scalar.cmpi .ne v102 c0_i32_40
  v103

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c7_i32 : BitVec 32 := 7#32
  let v0 : BitVec 32 := Scalar.addi arg2 c7_i32
  let c0_i32 : BitVec 32 := 0#32
  let c0_i32_0 : BitVec 32 := 0#32
  ![arg1.toNat, c0_i32.toNat, v0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x1x1x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x2048x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x2048x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S1x1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, true]

abbrev stage0_6 : Fin 2 → Memref sig .tc .vmem S1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, true]

abbrev stage0_7 : Fin 2 → Memref sig .tc .vmem S2048x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]
-- ==== MoeRefIdeal.lean ====
abbrev S32768x1024 : Shape := ⟨2, ![32768, 1024]⟩
abbrev S32768x8 : Shape := ⟨2, ![32768, 8]⟩
abbrev S8x1024x7168 : Shape := ⟨3, ![8, 1024, 7168]⟩
abbrev S8x3584x1024 : Shape := ⟨3, ![8, 3584, 1024]⟩
abbrev S32768x2 : Shape := ⟨2, ![32768, 2]⟩
abbrev S_ : Shape := ⟨0, ![]⟩
abbrev S32768 : Shape := ⟨1, ![32768]⟩
abbrev S32768x1 : Shape := ⟨2, ![32768, 1]⟩
abbrev S32768x2x1 : Shape := ⟨3, ![32768, 2, 1]⟩
abbrev S8 : Shape := ⟨1, ![8]⟩
abbrev S1x1x8 : Shape := ⟨3, ![1, 1, 8]⟩
abbrev S32768x2x8 : Shape := ⟨3, ![32768, 2, 8]⟩
abbrev S8x7168x32768 : Shape := ⟨3, ![8, 7168, 32768]⟩
abbrev S8x32768x7168 : Shape := ⟨3, ![8, 32768, 7168]⟩
abbrev S8x32768x3584 : Shape := ⟨3, ![8, 32768, 3584]⟩
abbrev S8x32768x1024 : Shape := ⟨3, ![8, 32768, 1024]⟩
abbrev S8x32768 : Shape := ⟨2, ![8, 32768]⟩
abbrev S8x32768x1 : Shape := ⟨3, ![8, 32768, 1]⟩

abbrev nBuf : Space → Nat
  | .hbm => 56
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S32768x8, .f32⟩
  | .hbm, ⟨2, _⟩ => ⟨S8x1024x7168, .f32⟩
  | .hbm, ⟨3, _⟩ => ⟨S8x3584x1024, .f32⟩
  | .hbm, ⟨4, _⟩ => ⟨S32768x2, .f32⟩
  | .hbm, ⟨5, _⟩ => ⟨S32768x2, .i32⟩
  | .hbm, ⟨6, _⟩ => ⟨S_, .f32⟩
  | .hbm, ⟨7, _⟩ => ⟨S32768, .f32⟩
  | .hbm, ⟨8, _⟩ => ⟨S_, .f32⟩
  | .hbm, ⟨9, _⟩ => ⟨S32768, .f32⟩
  | .hbm, ⟨10, _⟩ => ⟨S32768, .f32⟩
  | .hbm, ⟨11, _⟩ => ⟨S32768x1, .f32⟩
  | .hbm, ⟨12, _⟩ => ⟨S32768x2, .f32⟩
  | .hbm, ⟨13, _⟩ => ⟨S32768x2, .f32⟩
  | .hbm, ⟨14, _⟩ => ⟨S32768x2, .f32⟩
  | .hbm, ⟨15, _⟩ => ⟨S_, .f32⟩
  | .hbm, ⟨16, _⟩ => ⟨S32768, .f32⟩
  | .hbm, ⟨17, _⟩ => ⟨S32768x1, .f32⟩
  | .hbm, ⟨18, _⟩ => ⟨S32768x2, .f32⟩
  | .hbm, ⟨19, _⟩ => ⟨S32768x2, .f32⟩
  | .hbm, ⟨20, _⟩ => ⟨S32768x2x1, .i32⟩
  | .hbm, ⟨21, _⟩ => ⟨S8, .i32⟩
  | .hbm, ⟨22, _⟩ => ⟨S1x1x8, .i32⟩
  | .hbm, ⟨23, _⟩ => ⟨S32768x2x8, .i32⟩
  | .hbm, ⟨24, _⟩ => ⟨S32768x2x8, .i32⟩
  | .hbm, ⟨25, _⟩ => ⟨S32768x2x8, .i1⟩
  | .hbm, ⟨26, _⟩ => ⟨S32768x2x1, .f32⟩
  | .hbm, ⟨27, _⟩ => ⟨S_, .f32⟩
  | .hbm, ⟨28, _⟩ => ⟨S_, .f32⟩
  | .hbm, ⟨29, _⟩ => ⟨S32768x2x8, .f32⟩
  | .hbm, ⟨30, _⟩ => ⟨S32768x2x8, .f32⟩
  | .hbm, ⟨31, _⟩ => ⟨S32768x2x8, .f32⟩
  | .hbm, ⟨32, _⟩ => ⟨S_, .f32⟩
  | .hbm, ⟨33, _⟩ => ⟨S32768x8, .f32⟩
  | .hbm, ⟨34, _⟩ => ⟨S32768x1024, .f32⟩
  | .hbm, ⟨35, _⟩ => ⟨S8x7168x32768, .f32⟩
  | .hbm, ⟨36, _⟩ => ⟨S8x32768x7168, .f32⟩
  | .hbm, ⟨37, _⟩ => ⟨S8x32768x3584, .f32⟩
  | .hbm, ⟨38, _⟩ => ⟨S8x32768x3584, .f32⟩
  | .hbm, ⟨39, _⟩ => ⟨S8x32768x3584, .f32⟩
  | .hbm, ⟨40, _⟩ => ⟨S8x32768x3584, .f32⟩
  | .hbm, ⟨41, _⟩ => ⟨S_, .f32⟩
  | .hbm, ⟨42, _⟩ => ⟨S8x32768x3584, .f32⟩
  | .hbm, ⟨43, _⟩ => ⟨S8x32768x3584, .f32⟩
  | .hbm, ⟨44, _⟩ => ⟨S_, .f32⟩
  | .hbm, ⟨45, _⟩ => ⟨S8x32768x3584, .f32⟩
  | .hbm, ⟨46, _⟩ => ⟨S8x32768x3584, .f32⟩
  | .hbm, ⟨47, _⟩ => ⟨S8x32768x3584, .f32⟩
  | .hbm, ⟨48, _⟩ => ⟨S8x32768x3584, .f32⟩
  | .hbm, ⟨49, _⟩ => ⟨S8x32768x1024, .f32⟩
  | .hbm, ⟨50, _⟩ => ⟨S8x32768, .f32⟩
  | .hbm, ⟨51, _⟩ => ⟨S8x32768x1, .f32⟩
  | .hbm, ⟨52, _⟩ => ⟨S8x32768x1024, .f32⟩
  | .hbm, ⟨53, _⟩ => ⟨S8x32768x1024, .f32⟩
  | .hbm, ⟨54, _⟩ => ⟨S_, .f32⟩
  | .hbm, ⟨55, _⟩ => ⟨S32768x1024, .f32⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_values : Ref sig .tc := ⟨.hbm, 4, rfl⟩
abbrev main_indices : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_call1_v0 : Ref sig .tc := ⟨.hbm, 39, rfl⟩
abbrev main_call1_v1 : Ref sig .tc := ⟨.hbm, 40, rfl⟩
abbrev main_call1_cst : Ref sig .tc := ⟨.hbm, 41, rfl⟩
abbrev main_call1_v2 : Ref sig .tc := ⟨.hbm, 42, rfl⟩
abbrev main_call1_v3 : Ref sig .tc := ⟨.hbm, 43, rfl⟩
abbrev main_call1_cst_0 : Ref sig .tc := ⟨.hbm, 44, rfl⟩
abbrev main_call1_v4 : Ref sig .tc := ⟨.hbm, 45, rfl⟩
abbrev main_call1_v5 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_4 : Ref sig .tc := ⟨.hbm, 54, rfl⟩
abbrev main_v32 : Ref sig .tc := ⟨.hbm, 55, rfl⟩

abbrev nD : Nat := 1
abbrev τ : Topo := Topo.v7x

variable {F : FTy → Type} [FloatOps F]
-- ==== Out.lean ====
abbrev S2x16384x1024 : Shape := ⟨3, ![2, 16384, 1024]⟩
abbrev S32768x1024 : Shape := ⟨2, ![32768, 1024]⟩
abbrev S1024 : Shape := ⟨1, ![1024]⟩
abbrev S2x1x1024 : Shape := ⟨3, ![2, 1, 1024]⟩
abbrev S2x1024 : Shape := ⟨2, ![2, 1024]⟩
abbrev S_ : Shape := ⟨0, ![]⟩
abbrev S1x1024 : Shape := ⟨2, ![1, 1024]⟩
abbrev S2x8x1024 : Shape := ⟨3, ![2, 8, 1024]⟩
abbrev S1x1024x1024 : Shape := ⟨3, ![1, 1024, 1024]⟩
abbrev S1x8x1024 : Shape := ⟨3, ![1, 8, 1024]⟩
abbrev S1024x1024 : Shape := ⟨2, ![1024, 1024]⟩
abbrev S1x1x1024 : Shape := ⟨3, ![1, 1, 1024]⟩
abbrev S1024x1 : Shape := ⟨2, ![1024, 1]⟩

abbrev nBuf : Space → Nat
  | .hbm => 30
  | .vmem => 9
  | .smem => 0
  | _ => 0

abbrev bufTy : (tb : Table) → Fin (tcTables nBuf tb) → BufTy
  | .hbm, ⟨0, _⟩ => ⟨S2x16384x1024, .f32⟩
  | .hbm, ⟨1, _⟩ => ⟨S32768x1024, .f32⟩
  | .hbm, ⟨2, _⟩ => ⟨S1024, .f32⟩
  | .hbm, ⟨3, _⟩ => ⟨S2x1x1024, .f32⟩
  | .hbm, ⟨4, _⟩ => ⟨S2x1x1024, .f32⟩
  | .hbm, ⟨5, _⟩ => ⟨S2x1x1024, .f32⟩
  | .hbm, ⟨6, _⟩ => ⟨S1024, .f32⟩
  | .hbm, ⟨7, _⟩ => ⟨S2x1024, .f32⟩
  | .hbm, ⟨8, _⟩ => ⟨S_, .f32⟩
  | .hbm, ⟨9, _⟩ => ⟨S2x1024, .f32⟩
  | .hbm, ⟨10, _⟩ => ⟨S2x1024, .f32⟩
  | .hbm, ⟨11, _⟩ => ⟨S1x1024, .f32⟩
  | .hbm, ⟨12, _⟩ => ⟨S2x1024, .f32⟩
  | .hbm, ⟨13, _⟩ => ⟨S2x1024, .f32⟩
  | .hbm, ⟨14, _⟩ => ⟨S2x1024, .f32⟩
  | .hbm, ⟨15, _⟩ => ⟨S2x1024, .f32⟩
  | .hbm, ⟨16, _⟩ => ⟨S_, .f32⟩
  | .hbm, ⟨17, _⟩ => ⟨S2x1024, .f32⟩
  | .hbm, ⟨18, _⟩ => ⟨S2x1x1024, .f32⟩
  | .hbm, ⟨19, _⟩ => ⟨S2x1x1024, .f32⟩
  | .hbm, ⟨20, _⟩ => ⟨S2x1x1024, .f32⟩
  | .hbm, ⟨21, _⟩ => ⟨S2x1x1024, .f32⟩
  | .hbm, ⟨22, _⟩ => ⟨S2x1x1024, .f32⟩
  | .hbm, ⟨23, _⟩ => ⟨S2x1x1024, .f32⟩
  | .hbm, ⟨24, _⟩ => ⟨S2x1x1024, .f32⟩
  | .hbm, ⟨25, _⟩ => ⟨S2x1x1024, .f32⟩
  | .hbm, ⟨26, _⟩ => ⟨S2x8x1024, .f32⟩
  | .hbm, ⟨27, _⟩ => ⟨S2x16384x1024, .f32⟩
  | .hbm, ⟨28, _⟩ => ⟨S1x1024, .f32⟩
  | .hbm, ⟨29, _⟩ => ⟨S2x16384x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x1024, .f32⟩
  | .local _ .vmem, ⟨7, _⟩ => ⟨S1x1024x1024, .f32⟩
  | .local _ .vmem, ⟨8, _⟩ => ⟨S1x1024x1024, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== OutRefIdeal.lean ====
abbrev S2x16384x1024 : Shape := ⟨3, ![2, 16384, 1024]⟩
abbrev S32768x1024 : Shape := ⟨2, ![32768, 1024]⟩
abbrev S1024 : Shape := ⟨1, ![1024]⟩
abbrev S2x1x1024 : Shape := ⟨3, ![2, 1, 1024]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩

abbrev nBuf : Space → Nat
  | .hbm => 27
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S32768x1024, .f32⟩
  | .hbm, ⟨2, _⟩ => ⟨S1024, .f32⟩
  | .hbm, ⟨3, _⟩ => ⟨S2x1x1024, .f32⟩
  | .hbm, ⟨4, _⟩ => ⟨S2x1x1024, .f32⟩
  | .hbm, ⟨5, _⟩ => ⟨S2x1x1024, .f32⟩
  | .hbm, ⟨6, _⟩ => ⟨S1024, .f32⟩
  | .hbm, ⟨7, _⟩ => ⟨S2x16384x1024, .f32⟩
  | .hbm, ⟨8, _⟩ => ⟨S2x16384x1024, .f32⟩
  | .hbm, ⟨9, _⟩ => ⟨S2x16384x1024, .f32⟩
  | .hbm, ⟨10, _⟩ => ⟨S2x16384x1024, .f32⟩
  | .hbm, ⟨11, _⟩ => ⟨S2x16384x1024, .f32⟩
  | .hbm, ⟨12, _⟩ => ⟨S_, .f32⟩
  | .hbm, ⟨13, _⟩ => ⟨S2x16384, .f32⟩
  | .hbm, ⟨14, _⟩ => ⟨S2x16384x1, .f32⟩
  | .hbm, ⟨15, _⟩ => ⟨S_, .f32⟩
  | .hbm, ⟨16, _⟩ => ⟨S2x16384x1, .f32⟩
  | .hbm, ⟨17, _⟩ => ⟨S2x16384x1, .f32⟩
  | .hbm, ⟨18, _⟩ => ⟨S_, .f32⟩
  | .hbm, ⟨19, _⟩ => ⟨S2x16384x1, .f32⟩
  | .hbm, ⟨20, _⟩ => ⟨S2x16384x1, .f32⟩
  | .hbm, ⟨21, _⟩ => ⟨S2x16384x1, .f32⟩
  | .hbm, ⟨22, _⟩ => ⟨S2x16384x1024, .f32⟩
  | .hbm, ⟨23, _⟩ => ⟨S2x16384x1024, .f32⟩
  | .hbm, ⟨24, _⟩ => ⟨S1x1x1024, .f32⟩
  | .hbm, ⟨25, _⟩ => ⟨S2x16384x1024, .f32⟩
  | .hbm, ⟨26, _⟩ => ⟨S2x16384x1024, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩

abbrev nD : Nat := 1
abbrev τ : Topo := Topo.v7x

variable {F : FTy → Type} [FloatOps F]
-- ==== Route.lean ====
abbrev S2x16384x1024 : Shape := ⟨3, ![2, 16384, 1024]⟩
abbrev S1024 : Shape := ⟨1, ![1024]⟩
abbrev S2x1x1024 : Shape := ⟨3, ![2, 1, 1024]⟩
abbrev S1024x8 : Shape := ⟨2, ![1024, 8]⟩
abbrev S2x1024 : Shape := ⟨2, ![2, 1024]⟩
abbrev S_ : Shape := ⟨0, ![]⟩
abbrev S1x1024 : Shape := ⟨2, ![1, 1024]⟩
abbrev S2x8x1024 : Shape := ⟨3, ![2, 8, 1024]⟩
abbrev S2x16384x8 : Shape := ⟨3, ![2, 16384, 8]⟩
abbrev S1x1024x1024 : Shape := ⟨3, ![1, 1024, 1024]⟩
abbrev S1x8x1024 : Shape := ⟨3, ![1, 8, 1024]⟩
abbrev S1x1024x8 : Shape := ⟨3, ![1, 1024, 8]⟩
abbrev S1024x1024 : Shape := ⟨2, ![1024, 1024]⟩
abbrev S1024x1 : Shape := ⟨2, ![1024, 1]⟩
abbrev S1x1x1024 : Shape := ⟨3, ![1, 1, 1024]⟩

abbrev nBuf : Space → Nat
  | .hbm => 28
  | .vmem => 9
  | .smem => 0
  | _ => 0

abbrev bufTy : (tb : Table) → Fin (tcTables nBuf tb) → BufTy
  | .hbm, ⟨0, _⟩ => ⟨S2x16384x1024, .f32⟩
  | .hbm, ⟨1, _⟩ => ⟨S1024, .f32⟩
  | .hbm, ⟨2, _⟩ => ⟨S2x1x1024, .f32⟩
  | .hbm, ⟨3, _⟩ => ⟨S2x1x1024, .f32⟩
  | .hbm, ⟨4, _⟩ => ⟨S2x1x1024, .f32⟩
  | .hbm, ⟨5, _⟩ => ⟨S1024x8, .f32⟩
  | .hbm, ⟨6, _⟩ => ⟨S2x1024, .f32⟩
  | .hbm, ⟨7, _⟩ => ⟨S_, .f32⟩
  | .hbm, ⟨8, _⟩ => ⟨S2x1024, .f32⟩
  | .hbm, ⟨9, _⟩ => ⟨S2x1024, .f32⟩
  | .hbm, ⟨10, _⟩ => ⟨S1x1024, .f32⟩
  | .hbm, ⟨11, _⟩ => ⟨S2x1024, .f32⟩
  | .hbm, ⟨12, _⟩ => ⟨S2x1024, .f32⟩
  | .hbm, ⟨13, _⟩ => ⟨S2x1024, .f32⟩
  | .hbm, ⟨14, _⟩ => ⟨S2x1024, .f32⟩
  | .hbm, ⟨15, _⟩ => ⟨S_, .f32⟩
  | .hbm, ⟨16, _⟩ => ⟨S2x1024, .f32⟩
  | .hbm, ⟨17, _⟩ => ⟨S2x1x1024, .f32⟩
  | .hbm, ⟨18, _⟩ => ⟨S2x1x1024, .f32⟩
  | .hbm, ⟨19, _⟩ => ⟨S2x1x1024, .f32⟩
  | .hbm, ⟨20, _⟩ => ⟨S2x1x1024, .f32⟩
  | .hbm, ⟨21, _⟩ => ⟨S2x1x1024, .f32⟩
  | .hbm, ⟨22, _⟩ => ⟨S2x1x1024, .f32⟩
  | .hbm, ⟨23, _⟩ => ⟨S2x1x1024, .f32⟩
  | .hbm, ⟨24, _⟩ => ⟨S2x1x1024, .f32⟩
  | .hbm, ⟨25, _⟩ => ⟨S2x8x1024, .f32⟩
  | .hbm, ⟨26, _⟩ => ⟨S2x16384x1024, .bf16⟩
  | .hbm, ⟨27, _⟩ => ⟨S2x16384x8, .f32⟩
  | .local _ .vmem, ⟨0, _⟩ => ⟨S1x1024x1024, .f32⟩
  | .local _ .vmem, ⟨1, _⟩ => ⟨S1x1024x1024, .f32⟩
  | .local _ .vmem, ⟨2, _⟩ => ⟨S1x8x1024, .f32⟩
  | .local _ .vmem, ⟨3, _⟩ => ⟨S1x8x1024, .f32⟩
  | .local _ .vmem, ⟨4, _⟩ => ⟨S1024x8, .f32⟩
  | .local _ .vmem, ⟨5, _⟩ => ⟨S1x1024x1024, .bf16⟩
  | .local _ .vmem, ⟨6, _⟩ => ⟨S1x1024x1024, .bf16⟩
  | .local _ .vmem, ⟨7, _⟩ => ⟨S1x1024x8, .f32⟩
  | .local _ .vmem, ⟨8, _⟩ => ⟨S1x1024x8, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18_0 : Ref sig .tc := ⟨.hbm, 26, rfl⟩
abbrev main_v18_1 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x8 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== RouteRefIdeal.lean ====
abbrev S2x16384x1024 : Shape := ⟨3, ![2, 16384, 1024]⟩
abbrev S1024 : Shape := ⟨1, ![1024]⟩
abbrev S2x1x1024 : Shape := ⟨3, ![2, 1, 1024]⟩
abbrev S1024x8 : Shape := ⟨2, ![1024, 8]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S2x16384x8 : Shape := ⟨3, ![2, 16384, 8]⟩

abbrev nBuf : Space → Nat
  | .hbm => 31
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S1024, .f32⟩
  | .hbm, ⟨2, _⟩ => ⟨S2x1x1024, .f32⟩
  | .hbm, ⟨3, _⟩ => ⟨S2x1x1024, .f32⟩
  | .hbm, ⟨4, _⟩ => ⟨S2x1x1024, .f32⟩
  | .hbm, ⟨5, _⟩ => ⟨S1024x8, .f32⟩
  | .hbm, ⟨6, _⟩ => ⟨S2x16384x1024, .f32⟩
  | .hbm, ⟨7, _⟩ => ⟨S_, .f32⟩
  | .hbm, ⟨8, _⟩ => ⟨S2x16384, .f32⟩
  | .hbm, ⟨9, _⟩ => ⟨S2x16384x1, .f32⟩
  | .hbm, ⟨10, _⟩ => ⟨S_, .f32⟩
  | .hbm, ⟨11, _⟩ => ⟨S2x16384x1, .f32⟩
  | .hbm, ⟨12, _⟩ => ⟨S2x16384x1, .f32⟩
  | .hbm, ⟨13, _⟩ => ⟨S_, .f32⟩
  | .hbm, ⟨14, _⟩ => ⟨S2x16384x1, .f32⟩
  | .hbm, ⟨15, _⟩ => ⟨S2x16384x1, .f32⟩
  | .hbm, ⟨16, _⟩ => ⟨S2x16384x1, .f32⟩
  | .hbm, ⟨17, _⟩ => ⟨S2x16384x1024, .f32⟩
  | .hbm, ⟨18, _⟩ => ⟨S2x16384x1024, .f32⟩
  | .hbm, ⟨19, _⟩ => ⟨S1x1x1024, .f32⟩
  | .hbm, ⟨20, _⟩ => ⟨S2x16384x1024, .f32⟩
  | .hbm, ⟨21, _⟩ => ⟨S2x16384x1024, .f32⟩
  | .hbm, ⟨22, _⟩ => ⟨S_, .f32⟩
  | .hbm, ⟨23, _⟩ => ⟨S2x1x1024, .f32⟩
  | .hbm, ⟨24, _⟩ => ⟨S2x1x1024, .f32⟩
  | .hbm, ⟨25, _⟩ => ⟨S2x16384x1024, .f32⟩
  | .hbm, ⟨26, _⟩ => ⟨S2x16384x1024, .f32⟩
  | .hbm, ⟨27, _⟩ => ⟨S2x16384x1024, .f32⟩
  | .hbm, ⟨28, _⟩ => ⟨S2x16384x1024, .f32⟩
  | .hbm, ⟨29, _⟩ => ⟨S2x16384x1024, .bf16⟩
  | .hbm, ⟨30, _⟩ => ⟨S2x16384x8, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩

abbrev nD : Nat := 1
abbrev τ : Topo := Topo.v7x

variable {F : FTy → Type} [FloatOps F]
-- ==== Proj.lean ====
abbrev S2x16384x1024 : Shape := ⟨3, ![2, 16384, 1024]⟩
abbrev S1024 : Shape := ⟨1, ![1024]⟩
abbrev S2x1x1024 : Shape := ⟨3, ![2, 1, 1024]⟩
abbrev S1024x5120 : Shape := ⟨2, ![1024, 5120]⟩
abbrev S2x1024 : Shape := ⟨2, ![2, 1024]⟩
abbrev S_ : Shape := ⟨0, ![]⟩
abbrev S1x1024 : Shape := ⟨2, ![1, 1024]⟩
abbrev S2x8x1024 : Shape := ⟨3, ![2, 8, 1024]⟩
abbrev S2x16384x5120 : Shape := ⟨3, ![2, 16384, 5120]⟩
abbrev S1x1024x1024 : Shape := ⟨3, ![1, 1024, 1024]⟩
abbrev S1x8x1024 : Shape := ⟨3, ![1, 8, 1024]⟩
abbrev S1024x512 : Shape := ⟨2, ![1024, 512]⟩
abbrev S1x1024x512 : Shape := ⟨3, ![1, 1024, 512]⟩
abbrev S1024x1024 : Shape := ⟨2, ![1024, 1024]⟩
abbrev S1024x1 : Shape := ⟨2, ![1024, 1]⟩
abbrev S1x1x1024 : Shape := ⟨3, ![1, 1, 1024]⟩

abbrev nBuf : Space → Nat
  | .hbm => 28
  | .vmem => 9
  | .smem => 0
  | _ => 0

abbrev bufTy : (tb : Table) → Fin (tcTables nBuf tb) → BufTy
  | .hbm, ⟨0, _⟩ => ⟨S2x16384x1024, .f32⟩
  | .hbm, ⟨1, _⟩ => ⟨S1024, .f32⟩
  | .hbm, ⟨2, _⟩ => ⟨S2x1x1024, .f32⟩
  | .hbm, ⟨3, _⟩ => ⟨S2x1x1024, .f32⟩
  | .hbm, ⟨4, _⟩ => ⟨S2x1x1024, .f32⟩
  | .hbm, ⟨5, _⟩ => ⟨S1024x5120, .f32⟩
  | .hbm, ⟨6, _⟩ => ⟨S2x1024, .f32⟩
  | .hbm, ⟨7, _⟩ => ⟨S_, .f32⟩
  | .hbm, ⟨8, _⟩ => ⟨S2x1024, .f32⟩
  | .hbm, ⟨9, _⟩ => ⟨S2x1024, .f32⟩
  | .hbm, ⟨10, _⟩ => ⟨S1x1024, .f32⟩
  | .hbm, ⟨11, _⟩ => ⟨S2x1024, .f32⟩
  | .hbm, ⟨12, _⟩ => ⟨S2x1024, .f32⟩
  | .hbm, ⟨13, _⟩ => ⟨S2x1024, .f32⟩
  | .hbm, ⟨14, _⟩ => ⟨S2x1024, .f32⟩
  | .hbm, ⟨15, _⟩ => ⟨S_, .f32⟩
  | .hbm, ⟨16, _⟩ => ⟨S2x1024, .f32⟩
  | .hbm, ⟨17, _⟩ => ⟨S2x1x1024, .f32⟩
  | .hbm, ⟨18, _⟩ => ⟨S2x1x1024, .f32⟩
  | .hbm, ⟨19, _⟩ => ⟨S2x1x1024, .f32⟩
  | .hbm, ⟨20, _⟩ => ⟨S2x1x1024, .f32⟩
  | .hbm, ⟨21, _⟩ => ⟨S2x1x1024, .f32⟩
  | .hbm, ⟨22, _⟩ => ⟨S2x1x1024, .f32⟩
  | .hbm, ⟨23, _⟩ => ⟨S2x1x1024, .f32⟩
  | .hbm, ⟨24, _⟩ => ⟨S2x1x1024, .f32⟩
  | .hbm, ⟨25, _⟩ => ⟨S2x8x1024, .f32⟩
  | .hbm, ⟨26, _⟩ => ⟨S1024x5120, .bf16⟩
  | .hbm, ⟨27, _⟩ => ⟨S2x16384x5120, .f32⟩
  | .local _ .vmem, ⟨0, _⟩ => ⟨S1x1024x1024, .f32⟩
  | .local _ .vmem, ⟨1, _⟩ => ⟨S1x1024x1024, .f32⟩
  | .local _ .vmem, ⟨2, _⟩ => ⟨S1x8x1024, .f32⟩
  | .local _ .vmem, ⟨3, _⟩ => ⟨S1x8x1024, .f32⟩
  | .local _ .vmem, ⟨4, _⟩ => ⟨S1024x512, .bf16⟩
  | .local _ .vmem, ⟨5, _⟩ => ⟨S1024x512, .bf16⟩
  | .local _ .vmem, ⟨6, _⟩ => ⟨S1x1024x512, .f32⟩
  | .local _ .vmem, ⟨7, _⟩ => ⟨S1x1024x512, .f32⟩
  | .local _ .vmem, ⟨8, _⟩ => ⟨S1024x1024, .bf16⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 16, 10], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S1x1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ProjRefIdeal.lean ====
abbrev S2x16384x1024 : Shape := ⟨3, ![2, 16384, 1024]⟩
abbrev S1024 : Shape := ⟨1, ![1024]⟩
abbrev S2x1x1024 : Shape := ⟨3, ![2, 1, 1024]⟩
abbrev S1024x5120 : Shape := ⟨2, ![1024, 5120]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S2x16384x5120 : Shape := ⟨3, ![2, 16384, 5120]⟩

abbrev nBuf : Space → Nat
  | .hbm => 30
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S1024, .f32⟩
  | .hbm, ⟨2, _⟩ => ⟨S2x1x1024, .f32⟩
  | .hbm, ⟨3, _⟩ => ⟨S2x1x1024, .f32⟩
  | .hbm, ⟨4, _⟩ => ⟨S2x1x1024, .f32⟩
  | .hbm, ⟨5, _⟩ => ⟨S1024x5120, .f32⟩
  | .hbm, ⟨6, _⟩ => ⟨S2x16384x1024, .f32⟩
  | .hbm, ⟨7, _⟩ => ⟨S_, .f32⟩
  | .hbm, ⟨8, _⟩ => ⟨S2x16384, .f32⟩
  | .hbm, ⟨9, _⟩ => ⟨S2x16384x1, .f32⟩
  | .hbm, ⟨10, _⟩ => ⟨S_, .f32⟩
  | .hbm, ⟨11, _⟩ => ⟨S2x16384x1, .f32⟩
  | .hbm, ⟨12, _⟩ => ⟨S2x16384x1, .f32⟩
  | .hbm, ⟨13, _⟩ => ⟨S_, .f32⟩
  | .hbm, ⟨14, _⟩ => ⟨S2x16384x1, .f32⟩
  | .hbm, ⟨15, _⟩ => ⟨S2x16384x1, .f32⟩
  | .hbm, ⟨16, _⟩ => ⟨S2x16384x1, .f32⟩
  | .hbm, ⟨17, _⟩ => ⟨S2x16384x1024, .f32⟩
  | .hbm, ⟨18, _⟩ => ⟨S2x16384x1024, .f32⟩
  | .hbm, ⟨19, _⟩ => ⟨S1x1x1024, .f32⟩
  | .hbm, ⟨20, _⟩ => ⟨S2x16384x1024, .f32⟩
  | .hbm, ⟨21, _⟩ => ⟨S2x16384x1024, .f32⟩
  | .hbm, ⟨22, _⟩ => ⟨S_, .f32⟩
  | .hbm, ⟨23, _⟩ => ⟨S2x1x1024, .f32⟩
  | .hbm, ⟨24, _⟩ => ⟨S2x1x1024, .f32⟩
  | .hbm, ⟨25, _⟩ => ⟨S2x16384x1024, .f32⟩
  | .hbm, ⟨26, _⟩ => ⟨S2x16384x1024, .f32⟩
  | .hbm, ⟨27, _⟩ => ⟨S2x16384x1024, .f32⟩
  | .hbm, ⟨28, _⟩ => ⟨S2x16384x1024, .f32⟩
  | .hbm, ⟨29, _⟩ => ⟨S2x16384x5120, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩

abbrev nD : Nat := 1
abbrev τ : Topo := Topo.v7x

variable {F : FTy → Type} [FloatOps F]
-- ==== Mix.lean ====
abbrev S2x16384x1024 : Shape := ⟨3, ![2, 16384, 1024]⟩
abbrev S1024 : Shape := ⟨1, ![1024]⟩
abbrev S2x1x1024 : Shape := ⟨3, ![2, 1, 1024]⟩
abbrev S1024x1024 : Shape := ⟨2, ![1024, 1024]⟩
abbrev S2x1024 : Shape := ⟨2, ![2, 1024]⟩
abbrev S_ : Shape := ⟨0, ![]⟩
abbrev S1x1024 : Shape := ⟨2, ![1, 1024]⟩
abbrev S2x8x1024 : Shape := ⟨3, ![2, 8, 1024]⟩
abbrev S1x1024x1024 : Shape := ⟨3, ![1, 1024, 1024]⟩
abbrev S1x8x1024 : Shape := ⟨3, ![1, 8, 1024]⟩
abbrev S1x1x1024 : Shape := ⟨3, ![1, 1, 1024]⟩

abbrev nBuf : Space → Nat
  | .hbm => 31
  | .vmem => 11
  | .smem => 0
  | _ => 0

abbrev bufTy : (tb : Table) → Fin (tcTables nBuf tb) → BufTy
  | .hbm, ⟨0, _⟩ => ⟨S2x16384x1024, .f32⟩
  | .hbm, ⟨1, _⟩ => ⟨S2x16384x1024, .f32⟩
  | .hbm, ⟨2, _⟩ => ⟨S1024, .f32⟩
  | .hbm, ⟨3, _⟩ => ⟨S2x1x1024, .f32⟩
  | .hbm, ⟨4, _⟩ => ⟨S2x1x1024, .f32⟩
  | .hbm, ⟨5, _⟩ => ⟨S2x1x1024, .f32⟩
  | .hbm, ⟨6, _⟩ => ⟨S1024x1024, .f32⟩
  | .hbm, ⟨7, _⟩ => ⟨S1024, .f32⟩
  | .hbm, ⟨8, _⟩ => ⟨S2x1024, .f32⟩
  | .hbm, ⟨9, _⟩ => ⟨S_, .f32⟩
  | .hbm, ⟨10, _⟩ => ⟨S2x1024, .f32⟩
  | .hbm, ⟨11, _⟩ => ⟨S2x1024, .f32⟩
  | .hbm, ⟨12, _⟩ => ⟨S1x1024, .f32⟩
  | .hbm, ⟨13, _⟩ => ⟨S2x1024, .f32⟩
  | .hbm, ⟨14, _⟩ => ⟨S2x1024, .f32⟩
  | .hbm, ⟨15, _⟩ => ⟨S2x1024, .f32⟩
  | .hbm, ⟨16, _⟩ => ⟨S2x1024, .f32⟩
  | .hbm, ⟨17, _⟩ => ⟨S_, .f32⟩
  | .hbm, ⟨18, _⟩ => ⟨S2x1024, .f32⟩
  | .hbm, ⟨19, _⟩ => ⟨S2x1x1024, .f32⟩
  | .hbm, ⟨20, _⟩ => ⟨S2x1x1024, .f32⟩
  | .hbm, ⟨21, _⟩ => ⟨S2x1x1024, .f32⟩
  | .hbm, ⟨22, _⟩ => ⟨S2x1x1024, .f32⟩
  | .hbm, ⟨23, _⟩ => ⟨S2x1x1024, .f32⟩
  | .hbm, ⟨24, _⟩ => ⟨S2x1x1024, .f32⟩
  | .hbm, ⟨25, _⟩ => ⟨S2x1x1024, .f32⟩
  | .hbm, ⟨26, _⟩ => ⟨S2x1x1024, .f32⟩
  | .hbm, ⟨27, _⟩ => ⟨S2x8x1024, .f32⟩
  | .hbm, ⟨28, _⟩ => ⟨S1024x1024, .bf16⟩
  | .hbm, ⟨29, _⟩ => ⟨S1x1024, .f32⟩
  | .hbm, ⟨30, _⟩ => ⟨S2x16384x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x8x1024, .f32⟩
  | .local _ .vmem, ⟨3, _⟩ => ⟨S1x8x1024, .f32⟩
  | .local _ .vmem, ⟨4, _⟩ => ⟨S1024x1024, .bf16⟩
  | .local _ .vmem, ⟨5, _⟩ => ⟨S1x1024, .f32⟩
  | .local _ .vmem, ⟨6, _⟩ => ⟨S1x1024x1024, .f32⟩
  | .local _ .vmem, ⟨7, _⟩ => ⟨S1x1024x1024, .f32⟩
  | .local _ .vmem, ⟨8, _⟩ => ⟨S1x1024x1024, .f32⟩
  | .local _ .vmem, ⟨9, _⟩ => ⟨S1x1024x1024, .f32⟩
  | .local _ .vmem, ⟨10, _⟩ => ⟨S1024x1024, .bf16⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![2, 16, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, true]

abbrev stage0_4 : Fin 2 → Memref sig .tc .vmem S1x1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== MixRefIdeal.lean ====
abbrev S2x16384x1024 : Shape := ⟨3, ![2, 16384, 1024]⟩
abbrev S1024 : Shape := ⟨1, ![1024]⟩
abbrev S2x1x1024 : Shape := ⟨3, ![2, 1, 1024]⟩
abbrev S1024x1024 : Shape := ⟨2, ![1024, 1024]⟩
abbrev S1x1x1024 : Shape := ⟨3, ![1, 1, 1024]⟩

abbrev nBuf : Space → Nat
  | .hbm => 15
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S2x16384x1024, .f32⟩
  | .hbm, ⟨2, _⟩ => ⟨S1024, .f32⟩
  | .hbm, ⟨3, _⟩ => ⟨S2x1x1024, .f32⟩
  | .hbm, ⟨4, _⟩ => ⟨S2x1x1024, .f32⟩
  | .hbm, ⟨5, _⟩ => ⟨S2x1x1024, .f32⟩
  | .hbm, ⟨6, _⟩ => ⟨S1024x1024, .f32⟩
  | .hbm, ⟨7, _⟩ => ⟨S1024, .f32⟩
  | .hbm, ⟨8, _⟩ => ⟨S2x16384x1024, .f32⟩
  | .hbm, ⟨9, _⟩ => ⟨S1x1x1024, .f32⟩
  | .hbm, ⟨10, _⟩ => ⟨S2x16384x1024, .f32⟩
  | .hbm, ⟨11, _⟩ => ⟨S2x16384x1024, .f32⟩
  | .hbm, ⟨12, _⟩ => ⟨S2x16384x1024, .f32⟩
  | .hbm, ⟨13, _⟩ => ⟨S2x16384x1024, .f32⟩
  | .hbm, ⟨14, _⟩ => ⟨S2x16384x1024, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩

abbrev nD : Nat := 1
abbrev τ : Topo := Topo.v7x

variable {F : FTy → Type} [FloatOps F]
-- ==== Conv.lean ====
abbrev S2x16384x1024 : Shape := ⟨3, ![2, 16384, 1024]⟩
abbrev S1024 : Shape := ⟨1, ![1024]⟩
abbrev S2x1x1024 : Shape := ⟨3, ![2, 1, 1024]⟩
abbrev S1024x3072 : Shape := ⟨2, ![1024, 3072]⟩
abbrev S3072 : Shape := ⟨1, ![3072]⟩
abbrev S3x3072 : Shape := ⟨2, ![3, 3072]⟩
abbrev S2x1024 : Shape := ⟨2, ![2, 1024]⟩
abbrev S_ : Shape := ⟨0, ![]⟩
abbrev S1x1024 : Shape := ⟨2, ![1, 1024]⟩
abbrev S2x8x1024 : Shape := ⟨3, ![2, 8, 1024]⟩
abbrev S1x3072 : Shape := ⟨2, ![1, 3072]⟩
abbrev S4x3072 : Shape := ⟨2, ![4, 3072]⟩
abbrev S8x3072 : Shape := ⟨2, ![8, 3072]⟩
abbrev S2x16384x3072 : Shape := ⟨3, ![2, 16384, 3072]⟩
abbrev S1x1024x1024 : Shape := ⟨3, ![1, 1024, 1024]⟩
abbrev S1x16x1024 : Shape := ⟨3, ![1, 16, 1024]⟩
abbrev S1x8x1024 : Shape := ⟨3, ![1, 8, 1024]⟩
abbrev S1024x512 : Shape := ⟨2, ![1024, 512]⟩
abbrev S1x512 : Shape := ⟨2, ![1, 512]⟩
abbrev S8x512 : Shape := ⟨2, ![8, 512]⟩
abbrev S1x1024x512 : Shape := ⟨3, ![1, 1024, 512]⟩
abbrev S1056x1024 : Shape := ⟨2, ![1056, 1024]⟩
abbrev S1056x512 : Shape := ⟨2, ![1056, 512]⟩
abbrev S16x1024 : Shape := ⟨2, ![16, 1024]⟩
abbrev S16 : Shape := ⟨1, ![16]⟩
abbrev S16x1 : Shape := ⟨2, ![16, 1]⟩
abbrev S1x1x1024 : Shape := ⟨3, ![1, 1, 1024]⟩
abbrev S1024x1024 : Shape := ⟨2, ![1024, 1024]⟩
abbrev S1024x1 : Shape := ⟨2, ![1024, 1]⟩

abbrev nBuf : Space → Nat
  | .hbm => 36
  | .vmem => 18
  | .smem => 0
  | _ => 0

abbrev bufTy : (tb : Table) → Fin (tcTables nBuf tb) → BufTy
  | .hbm, ⟨0, _⟩ => ⟨S2x16384x1024, .f32⟩
  | .hbm, ⟨1, _⟩ => ⟨S1024, .f32⟩
  | .hbm, ⟨2, _⟩ => ⟨S2x1x1024, .f32⟩
  | .hbm, ⟨3, _⟩ => ⟨S2x1x1024, .f32⟩
  | .hbm, ⟨4, _⟩ => ⟨S2x1x1024, .f32⟩
  | .hbm, ⟨5, _⟩ => ⟨S1024x3072, .f32⟩
  | .hbm, ⟨6, _⟩ => ⟨S3072, .f32⟩
  | .hbm, ⟨7, _⟩ => ⟨S3x3072, .f32⟩
  | .hbm, ⟨8, _⟩ => ⟨S3072, .f32⟩
  | .hbm, ⟨9, _⟩ => ⟨S2x1024, .f32⟩
  | .hbm, ⟨10, _⟩ => ⟨S_, .f32⟩
  | .hbm, ⟨11, _⟩ => ⟨S2x1024, .f32⟩
  | .hbm, ⟨12, _⟩ => ⟨S2x1024, .f32⟩
  | .hbm, ⟨13, _⟩ => ⟨S1x1024, .f32⟩
  | .hbm, ⟨14, _⟩ => ⟨S2x1024, .f32⟩
  | .hbm, ⟨15, _⟩ => ⟨S2x1024, .f32⟩
  | .hbm, ⟨16, _⟩ => ⟨S2x1024, .f32⟩
  | .hbm, ⟨17, _⟩ => ⟨S2x1024, .f32⟩
  | .hbm, ⟨18, _⟩ => ⟨S_, .f32⟩
  | .hbm, ⟨19, _⟩ => ⟨S2x1024, .f32⟩
  | .hbm, ⟨20, _⟩ => ⟨S2x1x1024, .f32⟩
  | .hbm, ⟨21, _⟩ => ⟨S2x1x1024, .f32⟩
  | .hbm, ⟨22, _⟩ => ⟨S2x1x1024, .f32⟩
  | .hbm, ⟨23, _⟩ => ⟨S2x1x1024, .f32⟩
  | .hbm, ⟨24, _⟩ => ⟨S2x1x1024, .f32⟩
  | .hbm, ⟨25, _⟩ => ⟨S2x1x1024, .f32⟩
  | .hbm, ⟨26, _⟩ => ⟨S2x1x1024, .f32⟩
  | .hbm, ⟨27, _⟩ => ⟨S2x1x1024, .f32⟩
  | .hbm, ⟨28, _⟩ => ⟨S2x8x1024, .f32⟩
  | .hbm, ⟨29, _⟩ => ⟨S1x3072, .f32⟩
  | .hbm, ⟨30, _⟩ => ⟨S_, .f32⟩
  | .hbm, ⟨31, _⟩ => ⟨S4x3072, .f32⟩
  | .hbm, ⟨32, _⟩ => ⟨S8x3072, .f32⟩
  | .hbm, ⟨33, _⟩ => ⟨S1024x3072, .bf16⟩
  | .hbm, ⟨34, _⟩ => ⟨S1x3072, .f32⟩
  | .hbm, ⟨35, _⟩ => ⟨S2x16384x3072, .f32⟩
  | .local _ .vmem, ⟨0, _⟩ => ⟨S1x1024x1024, .f32⟩
  | .local _ .vmem, ⟨1, _⟩ => ⟨S1x1024x1024, .f32⟩
  | .local _ .vmem, ⟨2, _⟩ => ⟨S1x16x1024, .f32⟩
  | .local _ .vmem, ⟨3, _⟩ => ⟨S1x16x1024, .f32⟩
  | .local _ .vmem, ⟨4, _⟩ => ⟨S1x16x1024, .f32⟩
  | .local _ .vmem, ⟨5, _⟩ => ⟨S1x16x1024, .f32⟩
  | .local _ .vmem, ⟨6, _⟩ => ⟨S1x8x1024, .f32⟩
  | .local _ .vmem, ⟨7, _⟩ => ⟨S1x8x1024, .f32⟩
  | .local _ .vmem, ⟨8, _⟩ => ⟨S1024x512, .bf16⟩
  | .local _ .vmem, ⟨9, _⟩ => ⟨S1024x512, .bf16⟩
  | .local _ .vmem, ⟨10, _⟩ => ⟨S1x512, .f32⟩
  | .local _ .vmem, ⟨11, _⟩ => ⟨S1x512, .f32⟩
  | .local _ .vmem, ⟨12, _⟩ => ⟨S8x512, .f32⟩
  | .local _ .vmem, ⟨13, _⟩ => ⟨S8x512, .f32⟩
  | .local _ .vmem, ⟨14, _⟩ => ⟨S1x1024x512, .f32⟩
  | .local _ .vmem, ⟨15, _⟩ => ⟨S1x1024x512, .f32⟩
  | .local _ .vmem, ⟨16, _⟩ => ⟨S1056x1024, .bf16⟩
  | .local _ .vmem, ⟨17, _⟩ => ⟨S1056x512, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_1 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![2, 16, 6], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S8x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 2 → Memref sig .tc .vmem S1x1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== ConvRefIdeal.lean ====
abbrev S2x16384x1024 : Shape := ⟨3, ![2, 16384, 1024]⟩
abbrev S1024 : Shape := ⟨1, ![1024]⟩
abbrev S2x1x1024 : Shape := ⟨3, ![2, 1, 1024]⟩
abbrev S1024x3072 : Shape := ⟨2, ![1024, 3072]⟩
abbrev S3072 : Shape := ⟨1, ![3072]⟩
abbrev S3x3072 : Shape := ⟨2, ![3, 3072]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S2x16384x3072 : Shape := ⟨3, ![2, 16384, 3072]⟩
abbrev S1x1x3072 : Shape := ⟨3, ![1, 1, 3072]⟩
abbrev S2x16383x3072 : Shape := ⟨3, ![2, 16383, 3072]⟩
abbrev S1x3072 : Shape := ⟨2, ![1, 3072]⟩

abbrev nBuf : Space → Nat
  | .hbm => 64
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S1024, .f32⟩
  | .hbm, ⟨2, _⟩ => ⟨S2x1x1024, .f32⟩
  | .hbm, ⟨3, _⟩ => ⟨S2x1x1024, .f32⟩
  | .hbm, ⟨4, _⟩ => ⟨S2x1x1024, .f32⟩
  | .hbm, ⟨5, _⟩ => ⟨S1024x3072, .f32⟩
  | .hbm, ⟨6, _⟩ => ⟨S3072, .f32⟩
  | .hbm, ⟨7, _⟩ => ⟨S3x3072, .f32⟩
  | .hbm, ⟨8, _⟩ => ⟨S3072, .f32⟩
  | .hbm, ⟨9, _⟩ => ⟨S2x16384x1024, .f32⟩
  | .hbm, ⟨10, _⟩ => ⟨S_, .f32⟩
  | .hbm, ⟨11, _⟩ => ⟨S2x16384, .f32⟩
  | .hbm, ⟨12, _⟩ => ⟨S2x16384x1, .f32⟩
  | .hbm, ⟨13, _⟩ => ⟨S_, .f32⟩
  | .hbm, ⟨14, _⟩ => ⟨S2x16384x1, .f32⟩
  | .hbm, ⟨15, _⟩ => ⟨S2x16384x1, .f32⟩
  | .hbm, ⟨16, _⟩ => ⟨S_, .f32⟩
  | .hbm, ⟨17, _⟩ => ⟨S2x16384x1, .f32⟩
  | .hbm, ⟨18, _⟩ => ⟨S2x16384x1, .f32⟩
  | .hbm, ⟨19, _⟩ => ⟨S2x16384x1, .f32⟩
  | .hbm, ⟨20, _⟩ => ⟨S2x16384x1024, .f32⟩
  | .hbm, ⟨21, _⟩ => ⟨S2x16384x1024, .f32⟩
  | .hbm, ⟨22, _⟩ => ⟨S1x1x1024, .f32⟩
  | .hbm, ⟨23, _⟩ => ⟨S2x16384x1024, .f32⟩
  | .hbm, ⟨24, _⟩ => ⟨S2x16384x1024, .f32⟩
  | .hbm, ⟨25, _⟩ => ⟨S_, .f32⟩
  | .hbm, ⟨26, _⟩ => ⟨S2x1x1024, .f32⟩
  | .hbm, ⟨27, _⟩ => ⟨S2x1x1024, .f32⟩
  | .hbm, ⟨28, _⟩ => ⟨S2x16384x1024, .f32⟩
  | .hbm, ⟨29, _⟩ => ⟨S2x16384x1024, .f32⟩
  | .hbm, ⟨30, _⟩ => ⟨S2x16384x1024, .f32⟩
  | .hbm, ⟨31, _⟩ => ⟨S2x16384x1024, .f32⟩
  | .hbm, ⟨32, _⟩ => ⟨S2x16384x3072, .f32⟩
  | .hbm, ⟨33, _⟩ => ⟨S1x1x3072, .f32⟩
  | .hbm, ⟨34, _⟩ => ⟨S2x16384x3072, .f32⟩
  | .hbm, ⟨35, _⟩ => ⟨S2x16384x3072, .f32⟩
  | .hbm, ⟨36, _⟩ => ⟨S2x16383x3072, .f32⟩
  | .hbm, ⟨37, _⟩ => ⟨S_, .i32⟩
  | .hbm, ⟨38, _⟩ => ⟨S_, .f32⟩
  | .hbm, ⟨39, _⟩ => ⟨S2x16384x3072, .f32⟩
  | .hbm, ⟨40, _⟩ => ⟨S2x16383x3072, .f32⟩
  | .hbm, ⟨41, _⟩ => ⟨S_, .i32⟩
  | .hbm, ⟨42, _⟩ => ⟨S_, .f32⟩
  | .hbm, ⟨43, _⟩ => ⟨S2x16384x3072, .f32⟩
  | .hbm, ⟨44, _⟩ => ⟨S1x3072, .f32⟩
  | .hbm, ⟨45, _⟩ => ⟨S3072, .f32⟩
  | .hbm, ⟨46, _⟩ => ⟨S1x1x3072, .f32⟩
  | .hbm, ⟨47, _⟩ => ⟨S2x16384x3072, .f32⟩
  | .hbm, ⟨48, _⟩ => ⟨S2x16384x3072, .f32⟩
  | .hbm, ⟨49, _⟩ => ⟨S1x3072, .f32⟩
  | .hbm, ⟨50, _⟩ => ⟨S3072, .f32⟩
  | .hbm, ⟨51, _⟩ => ⟨S1x1x3072, .f32⟩
  | .hbm, ⟨52, _⟩ => ⟨S2x16384x3072, .f32⟩
  | .hbm, ⟨53, _⟩ => ⟨S2x16384x3072, .f32⟩
  | .hbm, ⟨54, _⟩ => ⟨S2x16384x3072, .f32⟩
  | .hbm, ⟨55, _⟩ => ⟨S1x3072, .f32⟩
  | .hbm, ⟨56, _⟩ => ⟨S3072, .f32⟩
  | .hbm, ⟨57, _⟩ => ⟨S1x1x3072, .f32⟩
  | .hbm, ⟨58, _⟩ => ⟨S2x16384x3072, .f32⟩
  | .hbm, ⟨59, _⟩ => ⟨S2x16384x3072, .f32⟩
  | .hbm, ⟨60, _⟩ => ⟨S2x16384x3072, .f32⟩
  | .hbm, ⟨61, _⟩ => ⟨S1x1x3072, .f32⟩
  | .hbm, ⟨62, _⟩ => ⟨S2x16384x3072, .f32⟩
  | .hbm, ⟨63, _⟩ => ⟨S2x16384x3072, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c : Ref sig .tc := ⟨.hbm, 37, rfl⟩
abbrev main_call0_v0 : Ref sig .tc := ⟨.hbm, 38, rfl⟩
abbrev main_v24 : Ref sig .tc := ⟨.hbm, 39, rfl⟩
abbrev main_v25 : Ref sig .tc := ⟨.hbm, 40, rfl⟩
abbrev main_c_3 : Ref sig .tc := ⟨.hbm, 41, rfl⟩
abbrev main_call1_v0 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩

abbrev nD : Nat := 1
abbrev τ : Topo := Topo.v7x

variable {F : FTy → Type} [FloatOps F]
-- ==== Proof.Out.Ref.lean ====
/-
  The plain program of the last gated add: its result as a term over its arguments.
-/
module

public import proofs.«01_k».proof.Proof.Gen.OutRefIdeal.Run
public import Idealize.ShloMosaic.Lib.Pointwise

@[expose] public section

set_option maxRecDepth 16384

noncomputable section

namespace Cert.Proof.Out

open Idealize.ShloMosaic Idealize.ShloMosaic.TcCoe
open Cert.OutRefIdeal Cert.OutRefIdeal.Gen

variable {F : FTy → Type} [FloatOps F]

/-- The stream plus the gate times the rows, normalized, times the gain. -/
def refT (s : Vec F S2x16384x1024 .f32) (y : Vec F S32768x1024 .f32) (gt : Vec F S2x1x1024 .f32) (fg : Vec F S1024 .f32) : Vec F S2x16384x1024 .f32 :=
  mulf (mulf (addf s (mulf (broadcastInDim S2x16384x1024 ![0, 1, 2] bcast_S2x1x1024_S2x16384x1024_0_1_2 gt) (shapeCast _ y shapeCasts_S32768x1024_S2x16384x1024))) (broadcastInDim S2x16384x1024 ![0, 1, 2] bcast_S2x16384x1_S2x16384x1024_0_1_2 (Host.rsqrt (addf (Host.divf (broadcastInDim S2x16384x1 ![0, 1] bcast_S2x16384_S2x16384x1_0_1 (Host.reduceAdd (mulf (addf s (mulf (broadcastInDim S2x16384x1024 ![0, 1, 2] bcast_S2x1x1024_S2x16384x1024_0_1_2 gt) (shapeCast _ y shapeCasts_S32768x1024_S2x16384x1024))) (addf s (mulf (broadcastInDim S2x16384x1024 ![0, 1, 2] bcast_S2x1x1024_S2x16384x1024_0_1_2 gt) (shapeCast _ y shapeCasts_S32768x1024_S2x16384x1024)))) (constant S_ .f32 0x00000000#32) reducesTo_S2x16384x1024_S2x16384_d2 h_S_)) (broadcastInDim S2x16384x1 ![] bcast_S_S2x16384x1 (constant S_ .f32 0x44800000#32))) (broadcastInDim S2x16384x1 ![] bcast_S_S2x16384x1 (constant S_ .f32 0x358637BD#32)))))) (broadcastInDim S2x16384x1024 ![0, 1, 2] bcast_S1x1x1024_S2x16384x1024_0_1_2 (broadcastInDim S1x1x1024 ![2] bcast_S1024_S1x1x1024_2 fg))

end Cert.Proof.Out
-- ==== Proof.Ffn.Blocks.lean ====
/-
  The dense feed-forward kernel read at an index. The kernel walks (batch, row tile, column tile of the hidden axis);
  at the first column tile it normalizes the row tile into a scratch and clears the accumulator, at each tile it adds
  the tile's share of the down projection, at the last one it writes the gated residual. Here: which array elements
  the blocks of a point hold, and what the scratch, the accumulator and the output hold after it.
-/
module

public import proofs.«01_k».proof.Proof.Gen.FfnIdeal.Value
public import Idealize.ShloMosaic.Lib.Pointwise
public import Idealize.ShloMosaic.Lib.Pipeline.ValueKit
public import Idealize.ShloMosaic.Lib.Pipeline.ValueKit.Held
public import Idealize.ShloMosaic.Lib.Pipeline.ReadBack
public import Idealize.ShloMosaic.Lib.StableHlo.RunRead

@[expose] public section

set_option maxRecDepth 16384

noncomputable section

namespace Cert.Proof.Ffn

open Idealize.ShloMosaic Idealize.ShloMosaic.TcCoe
open Cert.FfnIdeal Cert.FfnIdeal.Gen
open scoped BigOperators

/-! ## The mathematics -/

/-- `x · rsqrt(mean x² + ε)` at one place of a row. -/
def rms (X : Fin 1024 → EReal) (d : Fin 1024) : EReal :=
  X d * Ideal.rsqrt (Ideal.div (∑ k, X k * X k) (Ideal.ofBits FTy.f32 1149239296#32) + Ideal.ofBits FTy.f32 897988541#32)

/-- One hidden unit: `silu(h · w_gate) · (h · w_up)`. -/
def unit (h : Fin 1024 → EReal) (wg wu : Fin 1024 → EReal) : EReal :=
  (∑ d, h d * wg d) * Ideal.logistic (∑ d, h d * wg d) * ∑ d, h d * wu d

variable (m : (ℓ : Loc nD τ sig) → Buf (Elt Ideal) ℓ) (c : Dev nD)

abbrev X : Vec Ideal S2x16384x1024 .f32 := m ((c : Thread nD τ).loc main_arg0)
abbrev G : Vec Ideal S1024 .f32 := m ((c : Thread nD τ).loc main_arg1)
abbrev SH : Vec Ideal S2x1x1024 .f32 := m ((c : Thread nD τ).loc main_arg2)
abbrev SC : Vec Ideal S2x1x1024 .f32 := m ((c : Thread nD τ).loc main_arg3)
abbrev GT : Vec Ideal S2x1x1024 .f32 := m ((c : Thread nD τ).loc main_arg4)
abbrev W13 : Vec Ideal S1024x5632 .f32 := m ((c : Thread nD τ).loc main_arg5)
abbrev W2 : Vec Ideal S2816x1024 .f32 := m ((c : Thread nD τ).loc main_arg6)

/-- The normalized and modulated row `l` of batch `b`, in the kernel's association. -/
def hid (b : Fin 2) (l : Fin 16384) (d : Fin 1024) : EReal :=
  rms (fun k => X m c (ix3 b l k)) d * (G m c (ix1 d) * (1 + SC m c (ix3 b 0 d))) + SH m c (ix3 b 0 d)

/-- The gate's column and the up projection's column of hidden unit `f`. -/
abbrev gcol (f : Fin 2816) : Fin 5632 := ⟨f.val, by omega⟩
abbrev ucol (f : Fin 2816) : Fin 5632 := ⟨2816 + f.val, by omega⟩

/-- Hidden unit `f` of row `l`. -/
def act (b : Fin 2) (l : Fin 16384) (f : Fin 2816) : EReal :=
  unit (hid m c b l) (fun d => W13 m c (ix2 d (gcol f))) (fun d => W13 m c (ix2 d (ucol f)))

/-! ## Points and blocks -/

theorem lt352 (t : Fin cfg0.N) : t.val < 352 := lt_of_lt_of_eq t.isLt N_0

/-- A point's batch, its rows, its hidden units. -/
abbrev bOf (t : Fin cfg0.N) : Fin 2 := ⟨t.val / 176, by have := lt352 t; omega⟩
abbrev rowOf (t : Fin cfg0.N) (r : Fin 1024) : Fin 16384 := ⟨1024 * (t.val / 11 % 16) + r.val, by omega⟩
abbrev fOf (t : Fin cfg0.N) (k : Fin 256) : Fin 2816 := ⟨256 * (t.val % 11) + k.val, by omega⟩

theorem idx : ∀ t : Fin cfg0.N, win0_0.index t = ![t.val / 176, t.val / 11 % 16, 0] ∧ win0_1.index t = ![t.val / 176, 0, 0]
    ∧ win0_2.index t = ![0, t.val % 11] ∧ win0_3.index t = ![0, t.val % 11 + 11] ∧ win0_4.index t = ![t.val % 11, 0]
    ∧ win0_5.index t = ![t.val / 176, t.val / 11 % 16, 0] :=
  (by decide +kernel : ∀ t : Fin grid0.N, _)

theorem blk0 (t : Fin cfg0.N) (r d : Fin 1024) :
    (iblk m c 0 t : Vec Ideal S1x1024x1024 .f32) (ix3 0 r d) = X m c (ix3 (bOf t) (rowOf t r) d) := by
  blk_ext [iblk, V, idx t]

theorem blk1 (t : Fin cfg0.N) (r : Fin 8) (d : Fin 1024) :
    (iblk m c 1 t : Vec Ideal S1x8x1024 .f32) (ix3 0 r d) = (V m c main_v17 : Vec Ideal S2x8x1024 .f32) (ix3 (bOf t) r d) := by
  blk_ext [iblk, idx t]

/-- Row 0 of the packed vector block: the norm's weight times one plus the scale. -/
theorem vec0 (b : Fin 2) (d : Fin 1024) :
    (V m c main_v17 : Vec Ideal S2x8x1024 .f32) (ix3 b 0 d) = G m c (ix1 d) * (1 + SC m c (ix3 b 0 d)) := by
  simp only [V]
  after_reads_simp
  rw [concatenate_cons_apply]
  simp only [Matrix.cons_val_zero]
  after_reads_simp
  pointwise

/-- Row 1 of the packed vector block: the shift. -/
theorem vec1 (b : Fin 2) (d : Fin 1024) :
    (V m c main_v17 : Vec Ideal S2x8x1024 .f32) (ix3 b 1 d) = SH m c (ix3 b 0 d) := by
  simp only [V]
  after_reads_simp
  rw [concatenate_cons_apply]
  simp only [Matrix.cons_val_one, Matrix.cons_val_zero]
  after_reads_simp
  pointwise

/-- Row 2 of the packed vector block: the gate. -/
theorem vec2 (b : Fin 2) (d : Fin 1024) :
    (V m c main_v17 : Vec Ideal S2x8x1024 .f32) (ix3 b 2 d) = GT m c (ix3 b 0 d) := by
  simp only [V]
  after_reads_simp
  rw [concatenate_cons_apply]
  simp only [Matrix.cons_val]
  after_reads_simp
  pointwise

theorem blk2 (t : Fin cfg0.N) (d : Fin 1024) (k : Fin 256) :
    (iblk m c 2 t : Vec Ideal S1024x256 .bf16) (ix2 d k) = W13 m c (ix2 d (gcol (fOf t k))) := by
  unfold iblk
  entry_read
  pointwise
  blk_ext [idx t]

theorem blk3 (t : Fin cfg0.N) (d : Fin 1024) (k : Fin 256) :
    (iblk m c 3 t : Vec Ideal S1024x256 .bf16) (ix2 d k) = W13 m c (ix2 d (ucol (fOf t k))) := by
  unfold iblk
  entry_read
  pointwise
  blk_ext [idx t]

theorem blk4 (t : Fin cfg0.N) (d : Fin 1024) (k : Fin 256) :
    (iblk m c 4 t : Vec Ideal S256x1024 .bf16) (ix2 k d) = W2 m c (ix2 (fOf t k) d) := by
  unfold iblk
  entry_read
  pointwise
  blk_ext [idx t]

end Cert.Proof.Ffn
-- ==== Proof.Out.Value.lean ====
/-
  The last gated add: the stream plus the gate times the mixture's rows, normalized and scaled by the output gain. One
  grid point per (batch, row tile); each writes its own block. Here: the kernel's result array index by index, and the
  plain program's, which agree.
-/
module

public import proofs.«01_k».proof.Proof.Gen.Out.Frame
public import proofs.«01_k».proof.Proof.Gen.OutIdeal.Value
public import proofs.«01_k».proof.Proof.Out.Ref
public import proofs.«01_k».proof.Proof.Ffn.Blocks

@[expose] public section

set_option maxRecDepth 16384

noncomputable section

namespace Cert.Proof.Out

open Idealize.ShloMosaic Idealize.ShloMosaic.TcCoe
open Cert.OutIdeal Cert.OutIdeal.Gen
open Cert.Proof.Ffn (rms)
open scoped BigOperators

variable (m : (ℓ : Loc nD τ sig) → Buf (Elt Ideal) ℓ) (c : Dev nD)

abbrev S : Vec Ideal S2x16384x1024 .f32 := m ((c : Thread nD τ).loc main_arg0)
abbrev Y : Vec Ideal S32768x1024 .f32 := m ((c : Thread nD τ).loc main_arg1)
abbrev GT : Vec Ideal S2x1x1024 .f32 := m ((c : Thread nD τ).loc main_arg5)
abbrev FG : Vec Ideal S1024 .f32 := m ((c : Thread nD τ).loc main_arg6)

/-- The row of the flattened stream that holds row `l` of batch `b`. -/
abbrev flat (b : Fin 2) (l : Fin 16384) : Fin 32768 := ⟨b.val * 16384 + l.val, by omega⟩

/-- The stream after the gated add. -/
def z (b : Fin 2) (l : Fin 16384) (d : Fin 1024) : EReal :=
  S m c (ix3 b l d) + GT m c (ix3 b 0 d) * Y m c (ix2 (flat b l) d)

/-- The model's output at one index. -/
def outL (b : Fin 2) (l : Fin 16384) (d : Fin 1024) : EReal :=
  rms (fun k => z m c b l k) d * FG m c (ix1 d)

/-! ## Points and blocks -/

theorem lt32 (t : Fin cfg0.N) : t.val < 32 := lt_of_lt_of_eq t.isLt N_0

/-- A point's batch and its rows. -/
abbrev bOf (t : Fin cfg0.N) : Fin 2 := ⟨t.val / 16, by have := lt32 t; omega⟩
abbrev rowOf (t : Fin cfg0.N) (r : Fin 1024) : Fin 16384 := ⟨1024 * (t.val % 16) + r.val, by omega⟩

theorem idx : ∀ t : Fin cfg0.N, win0_0.index t = ![t.val / 16, t.val % 16, 0] ∧ win0_1.index t = ![t.val / 16, t.val % 16, 0]
    ∧ win0_2.index t = ![t.val / 16, 0, 0] ∧ win0_3.index t = ![0, 0] ∧ win0_4.index t = ![t.val / 16, t.val % 16, 0] :=
  (by decide +kernel : ∀ t : Fin grid0.N, _)

theorem flush : ∀ t : Fin cfg0.N, (cfg0.win 4).flush t = true :=
  (by decide +kernel : ∀ t : Fin grid0.N, win0_4.flush t = true)

theorem blk0 (t : Fin cfg0.N) (r d : Fin 1024) :
    (iblk m c 0 t : Vec Ideal S1x1024x1024 .f32) (ix3 0 r d) = S m c (ix3 (bOf t) (rowOf t r) d) := by
  blk_ext [iblk, V, idx t]

theorem blk1 (t : Fin cfg0.N) (r d : Fin 1024) :
    (iblk m c 1 t : Vec Ideal S1x1024x1024 .f32) (ix3 0 r d) = (V m c main_v18 : Vec Ideal S2x16384x1024 .f32) (ix3 (bOf t) (rowOf t r) d) := by
  blk_ext [iblk, idx t]

/-- The mixture's rows, split into the two batches. -/
theorem rows (b : Fin 2) (l : Fin 16384) (d : Fin 1024) :
    (V m c main_v18 : Vec Ideal S2x16384x1024 .f32) (ix3 b l d) = Y m c (ix2 (flat b l) d) := by
  simp only [V]
  after_reads_simp
  pointwise

theorem blk2 (t : Fin cfg0.N) (r : Fin 8) (d : Fin 1024) :
    (iblk m c 2 t : Vec Ideal S1x8x1024 .f32) (ix3 0 r d) = (V m c main_v17 : Vec Ideal S2x8x1024 .f32) (ix3 (bOf t) r d) := by
  blk_ext [iblk, idx t]

/-- Row 2 of the packed vector block: the gate. -/
theorem vec2 (b : Fin 2) (d : Fin 1024) :
    (V m c main_v17 : Vec Ideal S2x8x1024 .f32) (ix3 b 2 d) = GT m c (ix3 b 0 d) := by
  simp only [V]
  after_reads_simp
  rw [concatenate_cons_apply]
  simp only [Matrix.cons_val]
  after_reads_simp
  pointwise

theorem blk3 (t : Fin cfg0.N) (d : Fin 1024) :
    (iblk m c 3 t : Vec Ideal S1x1024 .f32) (ix2 0 d) = (V m c main_v19 : Vec Ideal S1x1024 .f32) (ix2 0 d) := by
  blk_ext [iblk, idx t]

/-- The output gain as one row. -/
theorem gain (d : Fin 1024) : (V m c main_v19 : Vec Ideal S1x1024 .f32) (ix2 0 d) = FG m c (ix1 d) := by
  simp only [V]
  after_reads_simp
  pointwise

/-! ## The result -/

theorem pay1_apply (s : Vec Ideal S1x1024x1024 .f32) (g : Vec Ideal S1x1x1024 .f32) (y : Vec Ideal S1x1024x1024 .f32)
    (fg : Vec Ideal S1x1024 .f32) (r d : Fin 1024) :
    k0_pay1 (F := Ideal) s g y fg (ix3 0 r d)
      = rms (fun k => s (ix3 0 r k) + g (ix3 0 0 k) * y (ix3 0 r k)) d * fg (ix2 0 d) := by
  unfold rms
  pointwise [k0_pay1]

/-- What a point leaves in its output block. -/
theorem out_at (t : Fin cfg0.N) (r d : Fin 1024) :
    out0_4 (iblk m c 0 t) (iblk m c 1 t) (iblk m c 2 t) (iblk m c 3 t) (ix3 0 r d) = outL m c (bOf t) (rowOf t r) d := by
  unfold out0_4
  frame_out
  rw [pay1_apply]
  have e0 : ∀ k, iblk m c 0 t (ix3 0 r k) = _ := fun k => blk0 m c t r k
  have e1 : ∀ k, iblk m c 1 t (ix3 0 r k) = _ := fun k => (blk1 m c t r k).trans (rows m c _ _ k)
  have e2 : ∀ k, iblk m c 2 t (ix3 0 2 k) = _ := fun k => (blk2 m c t 2 k).trans (vec2 m c _ k)
  have e3 : iblk m c 3 t (ix2 0 d) = _ := (blk3 m c t d).trans (gain m c d)
  unfold outL z
  pointwise
  simp only [e0, e1, e2, e3]

/-- The result array. -/
def resultT : Vec Ideal S2x16384x1024 .f32 := fun i => outL m c (i 0) (i 1) (i 2)

/-- What a point writes back is its block of the result. -/
theorem flushed_eq (t : Fin cfg0.N) :
    (dats m 0 c).flushed 4 t = ((cfg0.win 4).blk t).view.read (Elt Ideal) (resultT m c) := by
  rw [Cert.OutIdeal.Value.flushed4]
  have h := (idx t).2.2.2.2
  funext (y : S1x1024x1024.Idx)
  have hy0 : (y 0).val < 1 := (y 0).isLt
  have ey : (cfg0.win 4).xinj (grid0.coords t) y = ix3 0 (y 1) (y 2) := by
    funext a; apply Fin.ext
    match a with
    | ⟨0, _⟩ => show (y 0).val = 0; omega
    | ⟨1, _⟩ => rfl
    | ⟨2, _⟩ => rfl
  have em : ((cfg0.win 4).blk t).view.emb y = (ix3 (bOf t) (rowOf t (y 1)) (y 2) : S2x16384x1024.Idx) := by
    funext a; apply Fin.ext
    match a with
    | ⟨0, _⟩ => show win0_4.index t 0 * 1 + 1 * (y 0).val = t.val / 16; rw [h]; show t.val / 16 * 1 + _ = _; omega
    | ⟨1, _⟩ => show win0_4.index t 1 * 1024 + 1 * (y 1).val = 1024 * (t.val % 16) + (y 1).val; rw [h]; show t.val % 16 * 1024 + _ = _; omega
    | ⟨2, _⟩ => show win0_4.index t 2 * 1024 + 1 * (y 2).val = (y 2).val; rw [h]; show 0 * 1024 + _ = _; omega
  refine (congrArg (out0_4 _ _ _ _) ey).trans ((out_at m c t _ _).trans ?_)
  exact (congrArg (resultT m c) em).symm

/-- Every index is in its point's block. -/
theorem covered (i : S2x16384x1024.Idx) :
    ∃ t : Fin cfg0.N, (cfg0.win 4).flush t = true ∧ i ∈ ((cfg0.win 4).blk t).view.set := by
  have hi0 : (i 0).val < 2 := (i 0).isLt
  have hi1 : (i 1).val < 16384 := (i 1).isLt
  have hi2 : (i 2).val < 1024 := (i 2).isLt
  let t : Fin cfg0.N := ⟨16 * (i 0).val + (i 1).val / 1024, lt_of_lt_of_eq (by omega) N_0.symm⟩
  have h := (idx t).2.2.2.2
  have q0 : t.val / 16 = (i 0).val := by show (16 * (i 0).val + (i 1).val / 1024) / 16 = _; omega
  have q1 : t.val % 16 = (i 1).val / 1024 := by show (16 * (i 0).val + (i 1).val / 1024) % 16 = _; omega
  rw [q0, q1] at h
  refine ⟨t, flush t, ?_⟩
  refine (Finset.ext_iff.mp (View.set_slice_whole main_v20 (win0_4.rect t)) i).mpr (Rect.mem_set_unit.mpr ?_)
  intro a
  match a with
  | ⟨0, _⟩ =>
    show win0_4.index t 0 * 1 ≤ (i 0).val ∧ (i 0).val < win0_4.index t 0 * 1 + 1
    rw [h]; show (i 0).val * 1 ≤ (i 0).val ∧ (i 0).val < (i 0).val * 1 + 1; omega
  | ⟨1, _⟩ =>
    show win0_4.index t 1 * 1024 ≤ (i 1).val ∧ (i 1).val < win0_4.index t 1 * 1024 + 1024
    rw [h]; show (i 1).val / 1024 * 1024 ≤ (i 1).val ∧ (i 1).val < (i 1).val / 1024 * 1024 + 1024; omega
  | ⟨2, _⟩ =>
    show win0_4.index t 2 * 1024 ≤ (i 2).val ∧ (i 2).val < win0_4.index t 2 * 1024 + 1024
    rw [h]; show 0 * 1024 ≤ (i 2).val ∧ (i 2).val < 0 * 1024 + 1024; omega

/-- The array after the run. -/
theorem final : (dats m 0 c).arrAt 4 cfg0.N = resultT m c :=
  (dats m 0 c).arrAt_eq_of_cover 4 _ (fun t _ => flushed_eq m c t) (fun i => covered i)

/-! ## The plain program -/

/-- The plain program's term at one index, over the kernel's arguments. -/
theorem ref_at (b : Fin 2) (l : Fin 16384) (d : Fin 1024) :
    refT (S m c) (Y m c) (GT m c) (FG m c) (ix3 b l d) = outL m c b l d := by
  unfold outL rms z
  pointwise [refT]

/-- The two result arrays agree. -/
theorem result_eq : refT (S m c) (Y m c) (GT m c) (FG m c) = resultT m c := by
  funext j
  idx_vars j
  exact ref_at m c _ _ _

/-- The two arrays agree when the arguments do. -/
theorem agree (m' : (ℓ : Loc Cert.OutRefIdeal.nD Cert.OutRefIdeal.τ Cert.OutRefIdeal.sig) → Buf (Elt Ideal) ℓ) (c : Dev Cert.OutRefIdeal.nD)
    (h0 : m' ((c : Thread Cert.OutRefIdeal.nD Cert.OutRefIdeal.τ).loc Cert.OutRefIdeal.main_arg0) = S m c)
    (h1 : m' ((c : Thread Cert.OutRefIdeal.nD Cert.OutRefIdeal.τ).loc Cert.OutRefIdeal.main_arg1) = Y m c)
    (h5 : m' ((c : Thread Cert.OutRefIdeal.nD Cert.OutRefIdeal.τ).loc Cert.OutRefIdeal.main_arg5) = GT m c)
    (h6 : m' ((c : Thread Cert.OutRefIdeal.nD Cert.OutRefIdeal.τ).loc Cert.OutRefIdeal.main_arg6) = FG m c) :
    (refT (m' ((c : Thread Cert.OutRefIdeal.nD Cert.OutRefIdeal.τ).loc Cert.OutRefIdeal.main_arg0)) (m' ((c : Thread Cert.OutRefIdeal.nD Cert.OutRefIdeal.τ).loc Cert.OutRefIdeal.main_arg1)) (m' ((c : Thread Cert.OutRefIdeal.nD Cert.OutRefIdeal.τ).loc Cert.OutRefIdeal.main_arg5)) (m' ((c : Thread Cert.OutRefIdeal.nD Cert.OutRefIdeal.τ).loc Cert.OutRefIdeal.main_arg6)) : Vec Ideal S2x16384x1024 .f32)
      = (dats m 0 c).arrAt 4 cfg0.N := by
  rw [h0, h1, h5, h6]
  exact (result_eq m c).trans (final m c).symm

end Cert.Proof.Out
-- ==== Proof.Route.Ref.lean ====
/-
  The plain program of the norm before the experts and the router: its result as a term over its arguments.
-/
module

public import proofs.«01_k».proof.Proof.Gen.RouteRefIdeal.Run
public import Idealize.ShloMosaic.Lib.Pointwise

@[expose] public section

set_option maxRecDepth 16384

noncomputable section

namespace Cert.Proof.Route

open Idealize.ShloMosaic Idealize.ShloMosaic.TcCoe
open Cert.RouteRefIdeal Cert.RouteRefIdeal.Gen

variable {F : FTy → Type} [FloatOps F]

/-- The normalized and modulated rows. -/
def normT (x : Vec F S2x16384x1024 .f32) (g : Vec F S1024 .f32) (sh sc : Vec F S2x1x1024 .f32) : Vec F S2x16384x1024 .bf16 :=
  truncf .bf16 (addf (mulf (mulf (mulf x (broadcastInDim S2x16384x1024 ![0, 1, 2] bcast_S2x16384x1_S2x16384x1024_0_1_2 (Host.rsqrt (addf (Host.divf (broadcastInDim S2x16384x1 ![0, 1] bcast_S2x16384_S2x16384x1_0_1 (Host.reduceAdd (mulf x x) (constant S_ .f32 0x00000000#32) reducesTo_S2x16384x1024_S2x16384_d2 h_S_)) (broadcastInDim S2x16384x1 ![] bcast_S_S2x16384x1 (constant S_ .f32 0x44800000#32))) (broadcastInDim S2x16384x1 ![] bcast_S_S2x16384x1 (constant S_ .f32 0x358637BD#32)))))) (broadcastInDim S2x16384x1024 ![0, 1, 2] bcast_S1x1x1024_S2x16384x1024_0_1_2 (broadcastInDim S1x1x1024 ![2] bcast_S1024_S1x1x1024_2 g))) (broadcastInDim S2x16384x1024 ![0, 1, 2] bcast_S2x1x1024_S2x16384x1024_0_1_2 (addf (broadcastInDim S2x1x1024 ![] bcast_S_S2x1x1024 (constant S_ .f32 0x3F800000#32)) sc))) (broadcastInDim S2x16384x1024 ![0, 1, 2] bcast_S2x1x1024_S2x16384x1024_0_1_2 sh)) bitsLt_bf16_f32

/-- The router's logits. -/
def logitsT (x : Vec F S2x16384x1024 .f32) (g : Vec F S1024 .f32) (sh sc : Vec F S2x1x1024 .f32) (w : Vec F S1024x8 .f32) : Vec F S2x16384x8 .f32 :=
  Host.dotGeneral dot_S2x16384x1024_S1024x8_S2x16384x8_2_0_01_1_n_n none (addf (mulf (mulf (mulf x (broadcastInDim S2x16384x1024 ![0, 1, 2] bcast_S2x16384x1_S2x16384x1024_0_1_2 (Host.rsqrt (addf (Host.divf (broadcastInDim S2x16384x1 ![0, 1] bcast_S2x16384_S2x16384x1_0_1 (Host.reduceAdd (mulf x x) (constant S_ .f32 0x00000000#32) reducesTo_S2x16384x1024_S2x16384_d2 h_S_)) (broadcastInDim S2x16384x1 ![] bcast_S_S2x16384x1 (constant S_ .f32 0x44800000#32))) (broadcastInDim S2x16384x1 ![] bcast_S_S2x16384x1 (constant S_ .f32 0x358637BD#32)))))) (broadcastInDim S2x16384x1024 ![0, 1, 2] bcast_S1x1x1024_S2x16384x1024_0_1_2 (broadcastInDim S1x1x1024 ![2] bcast_S1024_S1x1x1024_2 g))) (broadcastInDim S2x16384x1024 ![0, 1, 2] bcast_S2x1x1024_S2x16384x1024_0_1_2 (addf (broadcastInDim S2x1x1024 ![] bcast_S_S2x1x1024 (constant S_ .f32 0x3F800000#32)) sc))) (broadcastInDim S2x16384x1024 ![0, 1, 2] bcast_S2x1x1024_S2x16384x1024_0_1_2 sh)) w

end Cert.Proof.Route
-- ==== Proof.Route.Value.lean ====
/-
  The norm before the experts and the router's logits. One grid point per (batch, row tile), each writes its own block of
  both results. Here: the two result arrays index by index, and the plain program's, which agree.
-/
module

public import proofs.«01_k».proof.Proof.Gen.Route.Frame
public import proofs.«01_k».proof.Proof.Gen.RouteIdeal.Value
public import proofs.«01_k».proof.Proof.Route.Ref
public import proofs.«01_k».proof.Proof.Ffn.Blocks

@[expose] public section

set_option maxRecDepth 16384

noncomputable section

namespace Cert.Proof.Route

open Idealize.ShloMosaic Idealize.ShloMosaic.TcCoe
open Cert.RouteIdeal Cert.RouteIdeal.Gen
open Cert.Proof.Ffn (rms)
open scoped BigOperators

variable (m : (ℓ : Loc nD τ sig) → Buf (Elt Ideal) ℓ) (c : Dev nD)

abbrev X : Vec Ideal S2x16384x1024 .f32 := m ((c : Thread nD τ).loc main_arg0)
abbrev G : Vec Ideal S1024 .f32 := m ((c : Thread nD τ).loc main_arg1)
abbrev SH : Vec Ideal S2x1x1024 .f32 := m ((c : Thread nD τ).loc main_arg2)
abbrev SC : Vec Ideal S2x1x1024 .f32 := m ((c : Thread nD τ).loc main_arg3)
abbrev W : Vec Ideal S1024x8 .f32 := m ((c : Thread nD τ).loc main_arg5)

/-- The normalized and modulated row `l` of batch `b`, in the kernel's association. -/
def hid (b : Fin 2) (l : Fin 16384) (d : Fin 1024) : EReal :=
  rms (fun k => X m c (ix3 b l k)) d * (G m c (ix1 d) * (1 + SC m c (ix3 b 0 d))) + SH m c (ix3 b 0 d)

/-! ## Points and blocks -/

theorem lt32 (t : Fin cfg0.N) : t.val < 32 := lt_of_lt_of_eq t.isLt N_0

/-- A point's batch and its rows. -/
abbrev bOf (t : Fin cfg0.N) : Fin 2 := ⟨t.val / 16, by have := lt32 t; omega⟩
abbrev rowOf (t : Fin cfg0.N) (r : Fin 1024) : Fin 16384 := ⟨1024 * (t.val % 16) + r.val, by omega⟩

theorem idx : ∀ t : Fin cfg0.N, win0_0.index t = ![t.val / 16, t.val % 16, 0] ∧ win0_1.index t = ![t.val / 16, 0, 0]
    ∧ win0_2.index t = ![0, 0] ∧ win0_3.index t = ![t.val / 16, t.val % 16, 0] ∧ win0_4.index t = ![t.val / 16, t.val % 16, 0] :=
  (by decide +kernel : ∀ t : Fin grid0.N, _)

theorem flush3 : ∀ t : Fin cfg0.N, (cfg0.win 3).flush t = true :=
  (by decide +kernel : ∀ t : Fin grid0.N, win0_3.flush t = true)

theorem flush4 : ∀ t : Fin cfg0.N, (cfg0.win 4).flush t = true :=
  (by decide +kernel : ∀ t : Fin grid0.N, win0_4.flush t = true)

theorem blk0 (t : Fin cfg0.N) (r d : Fin 1024) :
    (iblk m c 0 t : Vec Ideal S1x1024x1024 .f32) (ix3 0 r d) = X m c (ix3 (bOf t) (rowOf t r) d) := by
  blk_ext [iblk, V, idx t]

theorem blk1 (t : Fin cfg0.N) (r : Fin 8) (d : Fin 1024) :
    (iblk m c 1 t : Vec Ideal S1x8x1024 .f32) (ix3 0 r d) = (V m c main_v17 : Vec Ideal S2x8x1024 .f32) (ix3 (bOf t) r d) := by
  blk_ext [iblk, idx t]

/-- Row 0 of the packed vector block: the norm's weight times one plus the scale. -/
theorem vec0 (b : Fin 2) (d : Fin 1024) :
    (V m c main_v17 : Vec Ideal S2x8x1024 .f32) (ix3 b 0 d) = G m c (ix1 d) * (1 + SC m c (ix3 b 0 d)) := by
  simp only [V]
  after_reads_simp
  rw [concatenate_cons_apply]
  simp only [Matrix.cons_val_zero]
  after_reads_simp
  pointwise

/-- Row 1 of the packed vector block: the shift. -/
theorem vec1 (b : Fin 2) (d : Fin 1024) :
    (V m c main_v17 : Vec Ideal S2x8x1024 .f32) (ix3 b 1 d) = SH m c (ix3 b 0 d) := by
  simp only [V]
  after_reads_simp
  rw [concatenate_cons_apply]
  simp only [Matrix.cons_val_one, Matrix.cons_val_zero]
  after_reads_simp
  pointwise

theorem blk2 (t : Fin cfg0.N) (d : Fin 1024) (e : Fin 8) :
    (iblk m c 2 t : Vec Ideal S1024x8 .f32) (ix2 d e) = W m c (ix2 d e) := by
  blk_ext [iblk, V, idx t]

/-! ## The results -/

theorem pay1_apply (x : Vec Ideal S1x1024x1024 .f32) (a s : Vec Ideal S1x1x1024 .f32) (r d : Fin 1024) :
    k0_pay1 (F := Ideal) x a s (ix2 r d) = rms (fun k => x (ix3 0 r k)) d * a (ix3 0 0 d) + s (ix3 0 0 d) := by
  unfold rms
  pointwise [k0_pay1]

theorem pay2_apply (x : Vec Ideal S1x1024x1024 .f32) (a s : Vec Ideal S1x1x1024 .f32) (r d : Fin 1024) :
    k0_pay2 (F := Ideal) x a s (ix3 0 r d) = rms (fun k => x (ix3 0 r k)) d * a (ix3 0 0 d) + s (ix3 0 0 d) := by
  unfold rms
  pointwise [k0_pay2, k0_pay1]

theorem pay3_apply (x : Vec Ideal S1x1024x1024 .f32) (a s : Vec Ideal S1x1x1024 .f32) (w : Vec Ideal S1024x8 .f32) (r : Fin 1024) (e : Fin 8) :
    k0_pay3 (F := Ideal) x a s w (ix3 0 r e)
      = ∑ d, (rms (fun k => x (ix3 0 r k)) d * a (ix3 0 0 d) + s (ix3 0 0 d)) * w (ix2 d e) := by
  unfold rms
  pointwise [k0_pay3, k0_pay1]

/-- What a point leaves in its block of normalized rows. -/
theorem out3_at (t : Fin cfg0.N) (r d : Fin 1024) :
    out0_3 (iblk m c 0 t) (iblk m c 1 t) (iblk m c 2 t) (ix3 0 r d) = hid m c (bOf t) (rowOf t r) d := by
  unfold out0_3
  frame_out
  rw [pay2_apply]
  have e0 : ∀ k, iblk m c 0 t (ix3 0 r k) = _ := fun k => blk0 m c t r k
  have e1 : ∀ k, iblk m c 1 t (ix3 0 0 k) = _ := fun k => (blk1 m c t 0 k).trans (vec0 m c _ k)
  have e2 : ∀ k, iblk m c 1 t (ix3 0 1 k) = _ := fun k => (blk1 m c t 1 k).trans (vec1 m c _ k)
  unfold hid
  pointwise
  simp only [e0, e1, e2]

/-- What a point leaves in its block of logits. -/
theorem out4_at (t : Fin cfg0.N) (r : Fin 1024) (e : Fin 8) :
    out0_4 (iblk m c 0 t) (iblk m c 1 t) (iblk m c 2 t) (ix3 0 r e)
      = ∑ d, hid m c (bOf t) (rowOf t r) d * W m c (ix2 d e) := by
  unfold out0_4
  frame_out
  rw [pay3_apply]
  have e0 : ∀ k, iblk m c 0 t (ix3 0 r k) = _ := fun k => blk0 m c t r k
  have e1 : ∀ k, iblk m c 1 t (ix3 0 0 k) = _ := fun k => (blk1 m c t 0 k).trans (vec0 m c _ k)
  have e2 : ∀ k, iblk m c 1 t (ix3 0 1 k) = _ := fun k => (blk1 m c t 1 k).trans (vec1 m c _ k)
  have e3 : ∀ k, iblk m c 2 t (ix2 k e) = _ := fun k => blk2 m c t k e
  unfold hid
  pointwise
  simp only [e0, e1, e2, e3]

/-- The result arrays. -/
def rowsT : Vec Ideal S2x16384x1024 .bf16 := fun i => hid m c (i 0) (i 1) (i 2)
def scoresT : Vec Ideal S2x16384x8 .f32 := fun i => ∑ d, hid m c (i 0) (i 1) d * W m c (ix2 d (i 2))

/-- What a point writes back is its block of the result. -/
theorem flushed3_eq (t : Fin cfg0.N) :
    (dats m 0 c).flushed 3 t = ((cfg0.win 3).blk t).view.read (Elt Ideal) (rowsT m c) := by
  rw [Cert.RouteIdeal.Value.flushed3]
  have h := (idx t).2.2.2.1
  funext (y : S1x1024x1024.Idx)
  have hy0 : (y 0).val < 1 := (y 0).isLt
  have ey : (cfg0.win 3).xinj (grid0.coords t) y = ix3 0 (y 1) (y 2) := by
    funext a; apply Fin.ext
    match a with
    | ⟨0, _⟩ => show (y 0).val = 0; omega
    | ⟨1, _⟩ => rfl
    | ⟨2, _⟩ => rfl
  have em : ((cfg0.win 3).blk t).view.emb y = (ix3 (bOf t) (rowOf t (y 1)) (y 2) : S2x16384x1024.Idx) := by
    funext a; apply Fin.ext
    match a with
    | ⟨0, _⟩ => show win0_3.index t 0 * 1 + 1 * (y 0).val = t.val / 16; rw [h]; show t.val / 16 * 1 + _ = _; omega
    | ⟨1, _⟩ => show win0_3.index t 1 * 1024 + 1 * (y 1).val = 1024 * (t.val % 16) + (y 1).val; rw [h]; show t.val % 16 * 1024 + _ = _; omega
    | ⟨2, _⟩ => show win0_3.index t 2 * 1024 + 1 * (y 2).val = (y 2).val; rw [h]; show 0 * 1024 + _ = _; omega
  refine (congrArg (out0_3 _ _ _) ey).trans ((out3_at m c t _ _).trans ?_)
  exact (congrArg (rowsT m c) em).symm

/-- Every index is in its point's block. -/
theorem covered3 (i : S2x16384x1024.Idx) :
    ∃ t : Fin cfg0.N, (cfg0.win 3).flush t = true ∧ i ∈ ((cfg0.win 3).blk t).view.set := by
  have hi0 : (i 0).val < 2 := (i 0).isLt
  have hi1 : (i 1).val < 16384 := (i 1).isLt
  have hi2 : (i 2).val < 1024 := (i 2).isLt
  let t : Fin cfg0.N := ⟨16 * (i 0).val + (i 1).val / 1024, lt_of_lt_of_eq (by omega) N_0.symm⟩
  have h := (idx t).2.2.2.1
  have q0 : t.val / 16 = (i 0).val := by show (16 * (i 0).val + (i 1).val / 1024) / 16 = _; omega
  have q1 : t.val % 16 = (i 1).val / 1024 := by show (16 * (i 0).val + (i 1).val / 1024) % 16 = _; omega
  rw [q0, q1] at h
  refine ⟨t, flush3 t, ?_⟩
  refine (Finset.ext_iff.mp (View.set_slice_whole main_v18_0 (win0_3.rect t)) i).mpr (Rect.mem_set_unit.mpr ?_)
  intro a
  match a with
  | ⟨0, _⟩ =>
    show win0_3.index t 0 * 1 ≤ (i 0).val ∧ (i 0).val < win0_3.index t 0 * 1 + 1
    rw [h]; show (i 0).val * 1 ≤ (i 0).val ∧ (i 0).val < (i 0).val * 1 + 1; omega
  | ⟨1, _⟩ =>
    show win0_3.index t 1 * 1024 ≤ (i 1).val ∧ (i 1).val < win0_3.index t 1 * 1024 + 1024
    rw [h]; show (i 1).val / 1024 * 1024 ≤ (i 1).val ∧ (i 1).val < (i 1).val / 1024 * 1024 + 1024; omega
  | ⟨2, _⟩ =>
    show win0_3.index t 2 * 1024 ≤ (i 2).val ∧ (i 2).val < win0_3.index t 2 * 1024 + 1024
    rw [h]; show 0 * 1024 ≤ (i 2).val ∧ (i 2).val < 0 * 1024 + 1024; omega

/-- The array after the run. -/
theorem final3 : (dats m 0 c).arrAt 3 cfg0.N = rowsT m c :=
  (dats m 0 c).arrAt_eq_of_cover 3 _ (fun t _ => flushed3_eq m c t) (fun i => covered3 i)

/-- What a point writes back is its block of the result. -/
theorem flushed4_eq (t : Fin cfg0.N) :
    (dats m 0 c).flushed 4 t = ((cfg0.win 4).blk t).view.read (Elt Ideal) (scoresT m c) := by
  rw [Cert.RouteIdeal.Value.flushed4]
  have h := (idx t).2.2.2.2
  funext (y : S1x1024x8.Idx)
  have hy0 : (y 0).val < 1 := (y 0).isLt
  have ey : (cfg0.win 4).xinj (grid0.coords t) y = ix3 0 (y 1) (y 2) := by
    funext a; apply Fin.ext
    match a with
    | ⟨0, _⟩ => show (y 0).val = 0; omega
    | ⟨1, _⟩ => rfl
    | ⟨2, _⟩ => rfl
  have em : ((cfg0.win 4).blk t).view.emb y = (ix3 (bOf t) (rowOf t (y 1)) (y 2) : S2x16384x8.Idx) := by
    funext a; apply Fin.ext
    match a with
    | ⟨0, _⟩ => show win0_4.index t 0 * 1 + 1 * (y 0).val = t.val / 16; rw [h]; show t.val / 16 * 1 + _ = _; omega
    | ⟨1, _⟩ => show win0_4.index t 1 * 1024 + 1 * (y 1).val = 1024 * (t.val % 16) + (y 1).val; rw [h]; show t.val % 16 * 1024 + _ = _; omega
    | ⟨2, _⟩ => show win0_4.index t 2 * 8 + 1 * (y 2).val = (y 2).val; rw [h]; show 0 * 8 + _ = _; omega
  refine (congrArg (out0_4 _ _ _) ey).trans ((out4_at m c t _ _).trans ?_)
  exact (congrArg (scoresT m c) em).symm

/-- Every index is in its point's block. -/
theorem covered4 (i : S2x16384x8.Idx) :
    ∃ t : Fin cfg0.N, (cfg0.win 4).flush t = true ∧ i ∈ ((cfg0.win 4).blk t).view.set := by
  have hi0 : (i 0).val < 2 := (i 0).isLt
  have hi1 : (i 1).val < 16384 := (i 1).isLt
  have hi2 : (i 2).val < 8 := (i 2).isLt
  let t : Fin cfg0.N := ⟨16 * (i 0).val + (i 1).val / 1024, lt_of_lt_of_eq (by omega) N_0.symm⟩
  have h := (idx t).2.2.2.2
  have q0 : t.val / 16 = (i 0).val := by show (16 * (i 0).val + (i 1).val / 1024) / 16 = _; omega
  have q1 : t.val % 16 = (i 1).val / 1024 := by show (16 * (i 0).val + (i 1).val / 1024) % 16 = _; omega
  rw [q0, q1] at h
  refine ⟨t, flush4 t, ?_⟩
  refine (Finset.ext_iff.mp (View.set_slice_whole main_v18_1 (win0_4.rect t)) i).mpr (Rect.mem_set_unit.mpr ?_)
  intro a
  match a with
  | ⟨0, _⟩ =>
    show win0_4.index t 0 * 1 ≤ (i 0).val ∧ (i 0).val < win0_4.index t 0 * 1 + 1
    rw [h]; show (i 0).val * 1 ≤ (i 0).val ∧ (i 0).val < (i 0).val * 1 + 1; omega
  | ⟨1, _⟩ =>
    show win0_4.index t 1 * 1024 ≤ (i 1).val ∧ (i 1).val < win0_4.index t 1 * 1024 + 1024
    rw [h]; show (i 1).val / 1024 * 1024 ≤ (i 1).val ∧ (i 1).val < (i 1).val / 1024 * 1024 + 1024; omega
  | ⟨2, _⟩ =>
    show win0_4.index t 2 * 8 ≤ (i 2).val ∧ (i 2).val < win0_4.index t 2 * 8 + 8
    rw [h]; show 0 * 8 ≤ (i 2).val ∧ (i 2).val < 0 * 8 + 8; omega

/-- The array after the run. -/
theorem final4 : (dats m 0 c).arrAt 4 cfg0.N = scoresT m c :=
  (dats m 0 c).arrAt_eq_of_cover 4 _ (fun t _ => flushed4_eq m c t) (fun i => covered4 i)

/-! ## The plain program -/

/-- The plain program's rows are the kernel's. -/
theorem rows_eq : normT (X m c) (G m c) (SH m c) (SC m c) = rowsT m c := by
  funext j
  idx_vars j
  unfold rowsT hid rms
  pointwise [normT]
  simp only [mul_assoc]

/-- The plain program's logits are the kernel's. -/
theorem scores_eq : logitsT (X m c) (G m c) (SH m c) (SC m c) (W m c) = scoresT m c := by
  funext j
  idx_vars j
  unfold scoresT hid rms
  pointwise [logitsT]
  simp only [mul_assoc]

/-- The two arrays agree when the arguments do. -/
theorem agree_rows (m' : (ℓ : Loc Cert.RouteRefIdeal.nD Cert.RouteRefIdeal.τ Cert.RouteRefIdeal.sig) → Buf (Elt Ideal) ℓ) (c : Dev Cert.RouteRefIdeal.nD)
    (h0 : m' ((c : Thread Cert.RouteRefIdeal.nD Cert.RouteRefIdeal.τ).loc Cert.RouteRefIdeal.main_arg0) = X m c)
    (h1 : m' ((c : Thread Cert.RouteRefIdeal.nD Cert.RouteRefIdeal.τ).loc Cert.RouteRefIdeal.main_arg1) = G m c)
    (h2 : m' ((c : Thread Cert.RouteRefIdeal.nD Cert.RouteRefIdeal.τ).loc Cert.RouteRefIdeal.main_arg2) = SH m c)
    (h3 : m' ((c : Thread Cert.RouteRefIdeal.nD Cert.RouteRefIdeal.τ).loc Cert.RouteRefIdeal.main_arg3) = SC m c) :
    (normT (m' ((c : Thread Cert.RouteRefIdeal.nD Cert.RouteRefIdeal.τ).loc Cert.RouteRefIdeal.main_arg0)) (m' ((c : Thread Cert.RouteRefIdeal.nD Cert.RouteRefIdeal.τ).loc Cert.RouteRefIdeal.main_arg1)) (m' ((c : Thread Cert.RouteRefIdeal.nD Cert.RouteRefIdeal.τ).loc Cert.RouteRefIdeal.main_arg2)) (m' ((c : Thread Cert.RouteRefIdeal.nD Cert.RouteRefIdeal.τ).loc Cert.RouteRefIdeal.main_arg3)) : Vec Ideal S2x16384x1024 .bf16)
      = (dats m 0 c).arrAt 3 cfg0.N := by
  rw [h0, h1, h2, h3]
  exact (rows_eq m c).trans (final3 m c).symm

/-- The two arrays agree when the arguments do. -/
theorem agree_scores (m' : (ℓ : Loc Cert.RouteRefIdeal.nD Cert.RouteRefIdeal.τ Cert.RouteRefIdeal.sig) → Buf (Elt Ideal) ℓ) (c : Dev Cert.RouteRefIdeal.nD)
    (h0 : m' ((c : Thread Cert.RouteRefIdeal.nD Cert.RouteRefIdeal.τ).loc Cert.RouteRefIdeal.main_arg0) = X m c)
    (h1 : m' ((c : Thread Cert.RouteRefIdeal.nD Cert.RouteRefIdeal.τ).loc Cert.RouteRefIdeal.main_arg1) = G m c)
    (h2 : m' ((c : Thread Cert.RouteRefIdeal.nD Cert.RouteRefIdeal.τ).loc Cert.RouteRefIdeal.main_arg2) = SH m c)
    (h3 : m' ((c : Thread Cert.RouteRefIdeal.nD Cert.RouteRefIdeal.τ).loc Cert.RouteRefIdeal.main_arg3) = SC m c)
    (h5 : m' ((c : Thread Cert.RouteRefIdeal.nD Cert.RouteRefIdeal.τ).loc Cert.RouteRefIdeal.main_arg5) = W m c) :
    (logitsT (m' ((c : Thread Cert.RouteRefIdeal.nD Cert.RouteRefIdeal.τ).loc Cert.RouteRefIdeal.main_arg0)) (m' ((c : Thread Cert.RouteRefIdeal.nD Cert.RouteRefIdeal.τ).loc Cert.RouteRefIdeal.main_arg1)) (m' ((c : Thread Cert.RouteRefIdeal.nD Cert.RouteRefIdeal.τ).loc Cert.RouteRefIdeal.main_arg2)) (m' ((c : Thread Cert.RouteRefIdeal.nD Cert.RouteRefIdeal.τ).loc Cert.RouteRefIdeal.main_arg3)) (m' ((c : Thread Cert.RouteRefIdeal.nD Cert.RouteRefIdeal.τ).loc Cert.RouteRefIdeal.main_arg5)) : Vec Ideal S2x16384x8 .f32)
      = (dats m 0 c).arrAt 4 cfg0.N := by
  rw [h0, h1, h2, h3, h5]
  exact (scores_eq m c).trans (final4 m c).symm

end Cert.Proof.Route
-- ==== Proof.Proj.Ref.lean ====
/-
  The plain program of the normalized input projection: its result as a term over its arguments.
-/
module

public import proofs.«01_k».proof.Proof.Gen.ProjRefIdeal.Run
public import Idealize.ShloMosaic.Lib.Pointwise

@[expose] public section

set_option maxRecDepth 16384

noncomputable section

namespace Cert.Proof.Proj

open Idealize.ShloMosaic Idealize.ShloMosaic.TcCoe
open Cert.ProjRefIdeal Cert.ProjRefIdeal.Gen

variable {F : FTy → Type} [FloatOps F]

/-- The normalized and modulated rows times the weight. -/
def refT (x : Vec F S2x16384x1024 .f32) (g : Vec F S1024 .f32) (sh sc : Vec F S2x1x1024 .f32) (w : Vec F S1024x5120 .f32) : Vec F S2x16384x5120 .f32 :=
  Host.dotGeneral dot_S2x16384x1024_S1024x5120_S2x16384x5120_2_0_01_1_n_n none (addf (mulf (mulf (mulf x (broadcastInDim S2x16384x1024 ![0, 1, 2] bcast_S2x16384x1_S2x16384x1024_0_1_2 (Host.rsqrt (addf (Host.divf (broadcastInDim S2x16384x1 ![0, 1] bcast_S2x16384_S2x16384x1_0_1 (Host.reduceAdd (mulf x x) (constant S_ .f32 0x00000000#32) reducesTo_S2x16384x1024_S2x16384_d2 h_S_)) (broadcastInDim S2x16384x1 ![] bcast_S_S2x16384x1 (constant S_ .f32 0x44800000#32))) (broadcastInDim S2x16384x1 ![] bcast_S_S2x16384x1 (constant S_ .f32 0x358637BD#32)))))) (broadcastInDim S2x16384x1024 ![0, 1, 2] bcast_S1x1x1024_S2x16384x1024_0_1_2 (broadcastInDim S1x1x1024 ![2] bcast_S1024_S1x1x1024_2 g))) (broadcastInDim S2x16384x1024 ![0, 1, 2] bcast_S2x1x1024_S2x16384x1024_0_1_2 (addf (broadcastInDim S2x1x1024 ![] bcast_S_S2x1x1024 (constant S_ .f32 0x3F800000#32)) sc))) (broadcastInDim S2x16384x1024 ![0, 1, 2] bcast_S2x1x1024_S2x16384x1024_0_1_2 sh)) w

end Cert.Proof.Proj
-- ==== Proof.Proj.Value.lean ====
/-
  The normalized input projection: at the first column tile of a row tile the rows are normalized and modulated into a
  scratch, and every column tile multiplies them by its columns of the weight. Here: the result array index by index,
  and the plain program's, which agree.
-/
module

public import proofs.«01_k».proof.Proof.Gen.Proj.Frame
public import proofs.«01_k».proof.Proof.Gen.ProjIdeal.Value
public import proofs.«01_k».proof.Proof.Proj.Ref
public import proofs.«01_k».proof.Proof.Ffn.Blocks

@[expose] public section

set_option maxRecDepth 16384

noncomputable section

namespace Cert.Proof.Proj

open Idealize.ShloMosaic Idealize.ShloMosaic.TcCoe
open Cert.ProjIdeal Cert.ProjIdeal.Gen
open Cert.Proof.Ffn (rms)
open scoped BigOperators

variable (m : (ℓ : Loc nD τ sig) → Buf (Elt Ideal) ℓ) (c : Dev nD)

abbrev X : Vec Ideal S2x16384x1024 .f32 := m ((c : Thread nD τ).loc main_arg0)
abbrev G : Vec Ideal S1024 .f32 := m ((c : Thread nD τ).loc main_arg1)
abbrev SH : Vec Ideal S2x1x1024 .f32 := m ((c : Thread nD τ).loc main_arg2)
abbrev SC : Vec Ideal S2x1x1024 .f32 := m ((c : Thread nD τ).loc main_arg3)
abbrev W : Vec Ideal S1024x5120 .f32 := m ((c : Thread nD τ).loc main_arg5)

/-- The normalized and modulated row `l` of batch `b`, in the kernel's association. -/
def hid (b : Fin 2) (l : Fin 16384) (d : Fin 1024) : EReal :=
  rms (fun k => X m c (ix3 b l k)) d * (G m c (ix1 d) * (1 + SC m c (ix3 b 0 d))) + SH m c (ix3 b 0 d)

/-- One element of the projection. -/
def projL (b : Fin 2) (l : Fin 16384) (f : Fin 5120) : EReal := ∑ d, hid m c b l d * W m c (ix2 d f)

/-! ## Points and blocks -/

theorem lt320 (t : Fin cfg0.N) : t.val < 320 := lt_of_lt_of_eq t.isLt N_0

/-- A point's batch, its rows, its columns. -/
abbrev bOf (t : Fin cfg0.N) : Fin 2 := ⟨t.val / 160, by have := lt320 t; omega⟩
abbrev rowOf (t : Fin cfg0.N) (r : Fin 1024) : Fin 16384 := ⟨1024 * (t.val / 10 % 16) + r.val, by omega⟩
abbrev colOf (t : Fin cfg0.N) (k : Fin 512) : Fin 5120 := ⟨512 * (t.val % 10) + k.val, by omega⟩

theorem idx : ∀ t : Fin cfg0.N, win0_0.index t = ![t.val / 160, t.val / 10 % 16, 0] ∧ win0_1.index t = ![t.val / 160, 0, 0]
    ∧ win0_2.index t = ![0, t.val % 10] :=
  (by decide +kernel : ∀ t : Fin grid0.N, _)

theorem blk0 (t : Fin cfg0.N) (r d : Fin 1024) :
    (iblk m c 0 t : Vec Ideal S1x1024x1024 .f32) (ix3 0 r d) = X m c (ix3 (bOf t) (rowOf t r) d) := by
  blk_ext [iblk, V, idx t]

theorem blk1 (t : Fin cfg0.N) (r : Fin 8) (d : Fin 1024) :
    (iblk m c 1 t : Vec Ideal S1x8x1024 .f32) (ix3 0 r d) = (V m c main_v17 : Vec Ideal S2x8x1024 .f32) (ix3 (bOf t) r d) := by
  blk_ext [iblk, idx t]

/-- Row 0 of the packed vector block: the norm's weight times one plus the scale. -/
theorem vec0 (b : Fin 2) (d : Fin 1024) :
    (V m c main_v17 : Vec Ideal S2x8x1024 .f32) (ix3 b 0 d) = G m c (ix1 d) * (1 + SC m c (ix3 b 0 d)) := by
  simp only [V]
  after_reads_simp
  rw [concatenate_cons_apply]
  simp only [Matrix.cons_val_zero]
  after_reads_simp
  pointwise

/-- Row 1 of the packed vector block: the shift. -/
theorem vec1 (b : Fin 2) (d : Fin 1024) :
    (V m c main_v17 : Vec Ideal S2x8x1024 .f32) (ix3 b 1 d) = SH m c (ix3 b 0 d) := by
  simp only [V]
  after_reads_simp
  rw [concatenate_cons_apply]
  simp only [Matrix.cons_val_one, Matrix.cons_val_zero]
  after_reads_simp
  pointwise

theorem blk2 (t : Fin cfg0.N) (d : Fin 1024) (k : Fin 512) :
    (iblk m c 2 t : Vec Ideal S1024x512 .bf16) (ix2 d k) = W m c (ix2 d (colOf t k)) := by
  unfold iblk
  entry_read
  pointwise
  blk_ext [idx t]

/-! ## The scratch and the output block -/

theorem pay1_apply (x : Vec Ideal S1x1024x1024 .f32) (a s : Vec Ideal S1x1x1024 .f32) (r d : Fin 1024) :
    k0_pay1 (F := Ideal) x a s (ix2 r d) = rms (fun k => x (ix3 0 r k)) d * a (ix3 0 0 d) + s (ix3 0 0 d) := by
  unfold rms
  pointwise [k0_pay1]

theorem pay2_apply (h : Vec Ideal S1024x1024 .bf16) (w : Vec Ideal S1024x512 .bf16) (r : Fin 1024) (k : Fin 512) :
    k0_pay2 (F := Ideal) h w (ix3 0 r k) = ∑ d, h (ix2 r d) * w (ix2 d k) := by
  pointwise [k0_pay2]

/-- What a run's first point writes into the scratch of normalized rows. -/
theorem xn_first (t : Fin cfg0.N) (h0 : t.val % 10 = 0) (r d : Fin 1024) :
    (outsAt0 m c t.val t.isLt).2 (ix2 r d) = hid m c (bOf t) (rowOf t r) d := by
  rw [outsAt0_A m c t h0]
  dsimp only
  frame_out
  rw [pay1_apply]
  have e0 : ∀ k, iblk m c 0 t (ix3 0 r k) = X m c (ix3 (bOf t) (rowOf t r) k) := fun k => blk0 m c t r k
  have e1 := (blk1 m c t 0 d).trans (vec0 m c (bOf t) d)
  have e2 := (blk1 m c t 1 d).trans (vec1 m c (bOf t) d)
  unfold hid
  pointwise
  simp only [e0, e1, e2]

/-- Every later point keeps them. -/
theorem xn_keep (t : Fin cfg0.N) (h0 : ¬t.val % 10 = 0) (j : S1024x1024.Idx) :
    (outsAt0 m c t.val t.isLt).2 j
      = (outsAt0 m c (t.val - 1) (Nat.lt_of_le_of_lt (Nat.sub_le _ _) t.isLt)).2 j := by
  rw [outsAt0_B m c t h0]
  rfl

/-- The scratch after any point holds the point's normalized rows. -/
theorem xn_at (t : Fin cfg0.N) (r d : Fin 1024) :
    (outsAt0 m c t.val t.isLt).2 (ix2 r d) = hid m c (bOf t) (rowOf t r) d := by
  rw [Pipeline.eq_of_write_hold_apply (fun n hn => (outsAt0 m c n hn).2) 10
    (fun t j => hid m c (bOf t) (rowOf t (j 0)) (j 1))
    (fun t h j => by idx_vars j; exact xn_first m c t h _ _) (fun t h j => xn_keep m c t h j) t (ix2 r d)]
  have hb : bOf ⟨10 * (t.val / 10), Pipeline.run_start_lt t⟩ = bOf t := Fin.ext (by simp only; omega)
  have hr : rowOf ⟨10 * (t.val / 10), Pipeline.run_start_lt t⟩ r = rowOf t r := Fin.ext (by simp only; omega)
  show hid m c (bOf ⟨10 * (t.val / 10), _⟩) (rowOf ⟨10 * (t.val / 10), _⟩ r) d = _
  rw [hb, hr]

/-- A product's block, at the point's blocks and rows. -/
theorem pay2_tile (t : Fin cfg0.N) (h : Vec Ideal S1024x1024 .bf16) (r : Fin 1024) (k : Fin 512)
    (hh : ∀ d, h (ix2 r d) = hid m c (bOf t) (rowOf t r) d) :
    k0_pay2 (F := Ideal) h (iblk m c 2 t) (ix3 0 r k) = projL m c (bOf t) (rowOf t r) (colOf t k) := by
  refine (pay2_apply h _ r k).trans ?_
  have e2 : ∀ d, iblk m c 2 t (ix2 d k) = _ := fun d => blk2 m c t d k
  simp only [e2, hh]
  rfl

/-- What a point leaves in its output block. -/
theorem out_at (t : Fin cfg0.N) (r : Fin 1024) (k : Fin 512) :
    (outsAt0 m c t.val t.isLt).1 (ix3 0 r k) = projL m c (bOf t) (rowOf t r) (colOf t k) := by
  by_cases h0 : t.val % 10 = 0
  · have hx : ∀ d, (outsAt0 m c t.val t.isLt).2 (ix2 r d) = _ := fun d => xn_at m c t r d
    rw [outsAt0_A m c t h0] at hx ⊢
    dsimp only at hx ⊢
    revert hx
    frame_out
    intro hx
    exact pay2_tile m c t _ r k hx
  · have hx : ∀ d, (outsAt0 m c (t.val - 1) (Nat.lt_of_le_of_lt (Nat.sub_le _ _) t.isLt)).2 (ix2 r d) = _ :=
      fun d => (xn_keep m c t h0 (ix2 r d)).symm.trans (xn_at m c t r d)
    rw [outsAt0_B m c t h0]
    dsimp only
    frame_out
    simp only [read_unread_whole]
    exact pay2_tile m c t _ r k hx

/-! ## The result -/

theorem result_at (b : Fin 2) (l : Fin 16384) (f : Fin 5120) :
    (Cert.ProjIdeal.Value.G3 m c : Vec Ideal S2x16384x5120 .f32) (ix3 b l f) = projL m c b l f := by
  have hN := N_0
  have hp : Cert.ProjIdeal.Value.pt3Of (ix3 b l f) = 160 * b.val + 10 * (l.val / 1024) + f.val / 512 := by
    simp [Cert.ProjIdeal.Value.pt3Of, Cert.ProjIdeal.Value.run3Of]
  have hlt : Cert.ProjIdeal.Value.pt3Of (ix3 b l f) < cfg0.N := by
    have e : cfg0.N = 320 := hN
    rw [hp, e]; have := b.isLt; have := l.isLt; have := f.isLt; omega
  unfold Cert.ProjIdeal.Value.G3
  rw [dif_pos hlt, ← Cert.ProjIdeal.Value.outsAt0_sweep]
  have hloc : Cert.ProjIdeal.Value.loc3Of (ix3 b l f)
      = ix3 0 ⟨l.val % 1024, Nat.mod_lt _ (by decide)⟩ ⟨f.val % 512, Nat.mod_lt _ (by decide)⟩ := by
    funext a; apply Fin.ext
    match a with
    | ⟨0, _⟩ => exact Nat.mod_one _
    | ⟨1, _⟩ => rfl
    | ⟨2, _⟩ => rfl
  rw [hloc]
  refine (out_at m c ⟨_, hlt⟩ _ _).trans ?_
  have hb : bOf ⟨_, hlt⟩ = b := Fin.ext (by simp only [hp]; have := l.isLt; have := f.isLt; omega)
  have hr : rowOf ⟨_, hlt⟩ ⟨l.val % 1024, Nat.mod_lt _ (by decide)⟩ = l :=
    Fin.ext (by simp only [hp]; have := l.isLt; have := f.isLt; omega)
  have hc : colOf ⟨_, hlt⟩ ⟨f.val % 512, Nat.mod_lt _ (by decide)⟩ = f :=
    Fin.ext (by simp only [hp]; have := l.isLt; have := f.isLt; omega)
  rw [hb, hr, hc]

/-- The plain program's result is the kernel's. -/
theorem result_eq : refT (X m c) (G m c) (SH m c) (SC m c) (W m c) = Cert.ProjIdeal.Value.G3 m c := by
  funext j
  idx_vars j
  refine Eq.trans ?_ (result_at m c _ _ _).symm
  unfold projL hid rms
  pointwise [refT]
  simp only [mul_assoc]

/-- The two arrays agree when the arguments do. -/
theorem agree (m' : (ℓ : Loc Cert.ProjRefIdeal.nD Cert.ProjRefIdeal.τ Cert.ProjRefIdeal.sig) → Buf (Elt Ideal) ℓ) (c : Dev Cert.ProjRefIdeal.nD)
    (h0 : m' ((c : Thread Cert.ProjRefIdeal.nD Cert.ProjRefIdeal.τ).loc Cert.ProjRefIdeal.main_arg0) = X m c)
    (h1 : m' ((c : Thread Cert.ProjRefIdeal.nD Cert.ProjRefIdeal.τ).loc Cert.ProjRefIdeal.main_arg1) = G m c)
    (h2 : m' ((c : Thread Cert.ProjRefIdeal.nD Cert.ProjRefIdeal.τ).loc Cert.ProjRefIdeal.main_arg2) = SH m c)
    (h3 : m' ((c : Thread Cert.ProjRefIdeal.nD Cert.ProjRefIdeal.τ).loc Cert.ProjRefIdeal.main_arg3) = SC m c)
    (h5 : m' ((c : Thread Cert.ProjRefIdeal.nD Cert.ProjRefIdeal.τ).loc Cert.ProjRefIdeal.main_arg5) = W m c) :
    (refT (m' ((c : Thread Cert.ProjRefIdeal.nD Cert.ProjRefIdeal.τ).loc Cert.ProjRefIdeal.main_arg0)) (m' ((c : Thread Cert.ProjRefIdeal.nD Cert.ProjRefIdeal.τ).loc Cert.ProjRefIdeal.main_arg1)) (m' ((c : Thread Cert.ProjRefIdeal.nD Cert.ProjRefIdeal.τ).loc Cert.ProjRefIdeal.main_arg2)) (m' ((c : Thread Cert.ProjRefIdeal.nD Cert.ProjRefIdeal.τ).loc Cert.ProjRefIdeal.main_arg3)) (m' ((c : Thread Cert.ProjRefIdeal.nD Cert.ProjRefIdeal.τ).loc Cert.ProjRefIdeal.main_arg5)) : Vec Ideal S2x16384x5120 .f32)
      = Cert.ProjIdeal.Value.G3 m c := by
  rw [h0, h1, h2, h3, h5]
  exact result_eq m c

end Cert.Proof.Proj
-- ==== Proof.Mix.Ref.lean ====
/-
  The plain program of the gated output projection: its result as a term over its arguments.
-/
module

public import proofs.«01_k».proof.Proof.Gen.MixRefIdeal.Run
public import Idealize.ShloMosaic.Lib.Pointwise

@[expose] public section

set_option maxRecDepth 16384

noncomputable section

namespace Cert.Proof.Mix

open Idealize.ShloMosaic Idealize.ShloMosaic.TcCoe
open Cert.MixRefIdeal Cert.MixRefIdeal.Gen

variable {F : FTy → Type} [FloatOps F]

/-- The residual plus the gate times the projection with its bias. -/
def refT (y x : Vec F S2x16384x1024 .f32) (gt : Vec F S2x1x1024 .f32) (w : Vec F S1024x1024 .f32) (b : Vec F S1024 .f32) : Vec F S2x16384x1024 .f32 :=
  addf x (mulf (broadcastInDim S2x16384x1024 ![0, 1, 2] bcast_S2x1x1024_S2x16384x1024_0_1_2 gt) (addf (Host.dotGeneral dot_S2x16384x1024_S1024x1024_S2x16384x1024_2_0_01_1_n_n none y w) (broadcastInDim S2x16384x1024 ![0, 1, 2] bcast_S1x1x1024_S2x16384x1024_0_1_2 (broadcastInDim S1x1x1024 ![2] bcast_S1024_S1x1x1024_2 b))))

end Cert.Proof.Mix
-- ==== Proof.Mix.Value.lean ====
/-
  The gated output projection: the residual plus the gate times the rows' projection with its bias. One grid point per
  (batch, row tile), each writes its own block. Here: the result array index by index, and the plain program's, which
  agree.
-/
module

public import proofs.«01_k».proof.Proof.Gen.Mix.Frame
public import proofs.«01_k».proof.Proof.Gen.MixIdeal.Value
public import proofs.«01_k».proof.Proof.Mix.Ref
public import proofs.«01_k».proof.Proof.Ffn.Blocks

@[expose] public section

set_option maxRecDepth 16384

noncomputable section

namespace Cert.Proof.Mix

open Idealize.ShloMosaic Idealize.ShloMosaic.TcCoe
open Cert.MixIdeal Cert.MixIdeal.Gen
open scoped BigOperators

variable (m : (ℓ : Loc nD τ sig) → Buf (Elt Ideal) ℓ) (c : Dev nD)

abbrev Y : Vec Ideal S2x16384x1024 .f32 := m ((c : Thread nD τ).loc main_arg0)
abbrev X : Vec Ideal S2x16384x1024 .f32 := m ((c : Thread nD τ).loc main_arg1)
abbrev GT : Vec Ideal S2x1x1024 .f32 := m ((c : Thread nD τ).loc main_arg5)
abbrev W : Vec Ideal S1024x1024 .f32 := m ((c : Thread nD τ).loc main_arg6)
abbrev B : Vec Ideal S1024 .f32 := m ((c : Thread nD τ).loc main_arg7)

/-- The stream after the mixer, at one index. -/
def mixL (b : Fin 2) (l : Fin 16384) (d : Fin 1024) : EReal :=
  X m c (ix3 b l d) + GT m c (ix3 b 0 d) * ((∑ k, Y m c (ix3 b l k) * W m c (ix2 k d)) + B m c (ix1 d))

/-! ## Points and blocks -/

theorem lt32 (t : Fin cfg0.N) : t.val < 32 := lt_of_lt_of_eq t.isLt N_0

/-- A point's batch and its rows. -/
abbrev bOf (t : Fin cfg0.N) : Fin 2 := ⟨t.val / 16, by have := lt32 t; omega⟩
abbrev rowOf (t : Fin cfg0.N) (r : Fin 1024) : Fin 16384 := ⟨1024 * (t.val % 16) + r.val, by omega⟩

theorem idx : ∀ t : Fin cfg0.N, win0_0.index t = ![t.val / 16, t.val % 16, 0] ∧ win0_1.index t = ![t.val / 16, 0, 0]
    ∧ win0_2.index t = ![0, 0] ∧ win0_3.index t = ![0, 0] ∧ win0_4.index t = ![t.val / 16, t.val % 16, 0]
    ∧ win0_5.index t = ![t.val / 16, t.val % 16, 0] :=
  (by decide +kernel : ∀ t : Fin grid0.N, _)

theorem flush : ∀ t : Fin cfg0.N, (cfg0.win 5).flush t = true :=
  (by decide +kernel : ∀ t : Fin grid0.N, win0_5.flush t = true)

theorem blk0 (t : Fin cfg0.N) (r d : Fin 1024) :
    (iblk m c 0 t : Vec Ideal S1x1024x1024 .f32) (ix3 0 r d) = Y m c (ix3 (bOf t) (rowOf t r) d) := by
  blk_ext [iblk, V, idx t]

theorem blk1 (t : Fin cfg0.N) (r : Fin 8) (d : Fin 1024) :
    (iblk m c 1 t : Vec Ideal S1x8x1024 .f32) (ix3 0 r d) = (V m c main_v17 : Vec Ideal S2x8x1024 .f32) (ix3 (bOf t) r d) := by
  blk_ext [iblk, idx t]

/-- Row 2 of the packed vector block: the gate. -/
theorem vec2 (b : Fin 2) (d : Fin 1024) :
    (V m c main_v17 : Vec Ideal S2x8x1024 .f32) (ix3 b 2 d) = GT m c (ix3 b 0 d) := by
  simp only [V]
  after_reads_simp
  rw [concatenate_cons_apply]
  simp only [Matrix.cons_val]
  after_reads_simp
  pointwise

theorem blk2 (t : Fin cfg0.N) (d k : Fin 1024) :
    (iblk m c 2 t : Vec Ideal S1024x1024 .bf16) (ix2 d k) = (V m c main_v18 : Vec Ideal S1024x1024 .bf16) (ix2 d k) := by
  blk_ext [iblk, idx t]

/-- The weight, rounded. -/
theorem weight (d k : Fin 1024) : (V m c main_v18 : Vec Ideal S1024x1024 .bf16) (ix2 d k) = W m c (ix2 d k) := by
  simp only [V]
  after_reads_simp
  pointwise

theorem blk3 (t : Fin cfg0.N) (d : Fin 1024) :
    (iblk m c 3 t : Vec Ideal S1x1024 .f32) (ix2 0 d) = (V m c main_v19 : Vec Ideal S1x1024 .f32) (ix2 0 d) := by
  blk_ext [iblk, idx t]

/-- The bias as one row. -/
theorem bias (d : Fin 1024) : (V m c main_v19 : Vec Ideal S1x1024 .f32) (ix2 0 d) = B m c (ix1 d) := by
  simp only [V]
  after_reads_simp
  pointwise

theorem blk4 (t : Fin cfg0.N) (r d : Fin 1024) :
    (iblk m c 4 t : Vec Ideal S1x1024x1024 .f32) (ix3 0 r d) = X m c (ix3 (bOf t) (rowOf t r) d) := by
  blk_ext [iblk, V, idx t]

/-! ## The result -/

theorem pay1_apply (y : Vec Ideal S1x1024x1024 .f32) (r d : Fin 1024) :
    k0_pay1 (F := Ideal) y (ix2 r d) = y (ix3 0 r d) := by
  pointwise [k0_pay1]

theorem pay2_apply (h w : Vec Ideal S1024x1024 .bf16) (b : Vec Ideal S1x1024 .f32) (x : Vec Ideal S1x1024x1024 .f32)
    (g : Vec Ideal S1x1x1024 .f32) (r d : Fin 1024) :
    k0_pay2 (F := Ideal) h w b x g (ix3 0 r d)
      = x (ix3 0 r d) + g (ix3 0 0 d) * ((∑ k, h (ix2 r k) * w (ix2 k d)) + b (ix2 0 d)) := by
  pointwise [k0_pay2]

/-- What a point leaves in its output block. -/
theorem out_at (t : Fin cfg0.N) (r d : Fin 1024) :
    outsAt0 m c t (ix3 0 r d) = mixL m c (bOf t) (rowOf t r) d := by
  unfold outsAt0
  frame_out
  rw [pay2_apply]
  have e0 : ∀ k, iblk m c 0 t (ix3 0 r k) = _ := fun k => blk0 m c t r k
  have e1 : iblk m c 1 t (ix3 0 2 d) = _ := (blk1 m c t 2 d).trans (vec2 m c _ d)
  have e2 : ∀ k, iblk m c 2 t (ix2 k d) = _ := fun k => (blk2 m c t k d).trans (weight m c k d)
  have e3 : iblk m c 3 t (ix2 0 d) = _ := (blk3 m c t d).trans (bias m c d)
  have e4 : iblk m c 4 t (ix3 0 r d) = _ := blk4 m c t r d
  unfold mixL
  simp only [pay1_apply]
  pointwise
  simp only [e0, e1, e2, e3, e4]

/-- The result array. -/
def resultT : Vec Ideal S2x16384x1024 .f32 := fun i => mixL m c (i 0) (i 1) (i 2)

/-- What a point writes back is its block of the result. -/
theorem flushed_eq (t : Fin cfg0.N) :
    (dats m 0 c).flushed 5 t = ((cfg0.win 5).blk t).view.read (Elt Ideal) (resultT m c) := by
  rw [Cert.MixIdeal.Value.flushed5]
  have h := (idx t).2.2.2.2.2
  funext (y : S1x1024x1024.Idx)
  have hy0 : (y 0).val < 1 := (y 0).isLt
  have ey : (cfg0.win 5).xinj (grid0.coords t) y = ix3 0 (y 1) (y 2) := by
    funext a; apply Fin.ext
    match a with
    | ⟨0, _⟩ => show (y 0).val = 0; omega
    | ⟨1, _⟩ => rfl
    | ⟨2, _⟩ => rfl
  have em : ((cfg0.win 5).blk t).view.emb y = (ix3 (bOf t) (rowOf t (y 1)) (y 2) : S2x16384x1024.Idx) := by
    funext a; apply Fin.ext
    match a with
    | ⟨0, _⟩ => show win0_5.index t 0 * 1 + 1 * (y 0).val = t.val / 16; rw [h]; show t.val / 16 * 1 + _ = _; omega
    | ⟨1, _⟩ => show win0_5.index t 1 * 1024 + 1 * (y 1).val = 1024 * (t.val % 16) + (y 1).val; rw [h]; show t.val % 16 * 1024 + _ = _; omega
    | ⟨2, _⟩ => show win0_5.index t 2 * 1024 + 1 * (y 2).val = (y 2).val; rw [h]; show 0 * 1024 + _ = _; omega
  refine (congrArg (outsAt0 m c t) ey).trans ((out_at m c t _ _).trans ?_)
  exact (congrArg (resultT m c) em).symm

/-- Every index is in its point's block. -/
theorem covered (i : S2x16384x1024.Idx) :
    ∃ t : Fin cfg0.N, (cfg0.win 5).flush t = true ∧ i ∈ ((cfg0.win 5).blk t).view.set := by
  have hi0 : (i 0).val < 2 := (i 0).isLt
  have hi1 : (i 1).val < 16384 := (i 1).isLt
  have hi2 : (i 2).val < 1024 := (i 2).isLt
  let t : Fin cfg0.N := ⟨16 * (i 0).val + (i 1).val / 1024, lt_of_lt_of_eq (by omega) N_0.symm⟩
  have h := (idx t).2.2.2.2.2
  have q0 : t.val / 16 = (i 0).val := by show (16 * (i 0).val + (i 1).val / 1024) / 16 = _; omega
  have q1 : t.val % 16 = (i 1).val / 1024 := by show (16 * (i 0).val + (i 1).val / 1024) % 16 = _; omega
  rw [q0, q1] at h
  refine ⟨t, flush t, ?_⟩
  refine (Finset.ext_iff.mp (View.set_slice_whole main_v20 (win0_5.rect t)) i).mpr (Rect.mem_set_unit.mpr ?_)
  intro a
  match a with
  | ⟨0, _⟩ =>
    show win0_5.index t 0 * 1 ≤ (i 0).val ∧ (i 0).val < win0_5.index t 0 * 1 + 1
    rw [h]; show (i 0).val * 1 ≤ (i 0).val ∧ (i 0).val < (i 0).val * 1 + 1; omega
  | ⟨1, _⟩ =>
    show win0_5.index t 1 * 1024 ≤ (i 1).val ∧ (i 1).val < win0_5.index t 1 * 1024 + 1024
    rw [h]; show (i 1).val / 1024 * 1024 ≤ (i 1).val ∧ (i 1).val < (i 1).val / 1024 * 1024 + 1024; omega
  | ⟨2, _⟩ =>
    show win0_5.index t 2 * 1024 ≤ (i 2).val ∧ (i 2).val < win0_5.index t 2 * 1024 + 1024
    rw [h]; show 0 * 1024 ≤ (i 2).val ∧ (i 2).val < 0 * 1024 + 1024; omega

/-- The array after the run. -/
theorem final : (dats m 0 c).arrAt 5 cfg0.N = resultT m c :=
  (dats m 0 c).arrAt_eq_of_cover 5 _ (fun t _ => flushed_eq m c t) (fun i => covered i)

/-! ## The plain program -/

/-- The plain program's result is the kernel's. -/
theorem result_eq : refT (Y m c) (X m c) (GT m c) (W m c) (B m c) = resultT m c := by
  funext j
  idx_vars j
  unfold resultT mixL
  pointwise [refT]

/-- The two arrays agree when the arguments do. -/
theorem agree (m' : (ℓ : Loc Cert.MixRefIdeal.nD Cert.MixRefIdeal.τ Cert.MixRefIdeal.sig) → Buf (Elt Ideal) ℓ) (c : Dev Cert.MixRefIdeal.nD)
    (h0 : m' ((c : Thread Cert.MixRefIdeal.nD Cert.MixRefIdeal.τ).loc Cert.MixRefIdeal.main_arg0) = Y m c)
    (h1 : m' ((c : Thread Cert.MixRefIdeal.nD Cert.MixRefIdeal.τ).loc Cert.MixRefIdeal.main_arg1) = X m c)
    (h5 : m' ((c : Thread Cert.MixRefIdeal.nD Cert.MixRefIdeal.τ).loc Cert.MixRefIdeal.main_arg5) = GT m c)
    (h6 : m' ((c : Thread Cert.MixRefIdeal.nD Cert.MixRefIdeal.τ).loc Cert.MixRefIdeal.main_arg6) = W m c)
    (h7 : m' ((c : Thread Cert.MixRefIdeal.nD Cert.MixRefIdeal.τ).loc Cert.MixRefIdeal.main_arg7) = B m c) :
    (refT (m' ((c : Thread Cert.MixRefIdeal.nD Cert.MixRefIdeal.τ).loc Cert.MixRefIdeal.main_arg0)) (m' ((c : Thread Cert.MixRefIdeal.nD Cert.MixRefIdeal.τ).loc Cert.MixRefIdeal.main_arg1)) (m' ((c : Thread Cert.MixRefIdeal.nD Cert.MixRefIdeal.τ).loc Cert.MixRefIdeal.main_arg5)) (m' ((c : Thread Cert.MixRefIdeal.nD Cert.MixRefIdeal.τ).loc Cert.MixRefIdeal.main_arg6)) (m' ((c : Thread Cert.MixRefIdeal.nD Cert.MixRefIdeal.τ).loc Cert.MixRefIdeal.main_arg7)) : Vec Ideal S2x16384x1024 .f32)
      = (dats m 0 c).arrAt 5 cfg0.N := by
  rw [h0, h1, h5, h6, h7]
  exact (result_eq m c).trans (final m c).symm

end Cert.Proof.Mix
-- ==== Proof.Conv.Ref.lean ====
/-
  The plain program of the input projection with its width-3 convolution: its result as a term over its arguments, in two steps.
-/
module

public import proofs.«01_k».proof.Proof.Gen.ConvRefIdeal.Run
public import Idealize.ShloMosaic.Lib.Pointwise

@[expose] public section

set_option maxRecDepth 16384

noncomputable section

namespace Cert.Proof.Conv

open Idealize.ShloMosaic Idealize.ShloMosaic.TcCoe
open Cert.ConvRefIdeal Cert.ConvRefIdeal.Gen

variable {F : FTy → Type} [FloatOps F]

/-- The normalized and modulated rows times the weight, plus the bias. -/
def projT (x : Vec F S2x16384x1024 .f32) (g : Vec F S1024 .f32) (sh sc : Vec F S2x1x1024 .f32) (w : Vec F S1024x3072 .f32) (b : Vec F S3072 .f32) : Vec F S2x16384x3072 .f32 :=
  addf (Host.dotGeneral dot_S2x16384x1024_S1024x3072_S2x16384x3072_2_0_01_1_n_n none (addf (mulf (mulf (mulf x (broadcastInDim S2x16384x1024 ![0, 1, 2] bcast_S2x16384x1_S2x16384x1024_0_1_2 (Host.rsqrt (addf (Host.divf (broadcastInDim S2x16384x1 ![0, 1] bcast_S2x16384_S2x16384x1_0_1 (Host.reduceAdd (mulf x x) (constant S_ .f32 0x00000000#32) reducesTo_S2x16384x1024_S2x16384_d2 h_S_)) (broadcastInDim S2x16384x1 ![] bcast_S_S2x16384x1 (constant S_ .f32 0x44800000#32))) (broadcastInDim S2x16384x1 ![] bcast_S_S2x16384x1 (constant S_ .f32 0x358637BD#32)))))) (broadcastInDim S2x16384x1024 ![0, 1, 2] bcast_S1x1x1024_S2x16384x1024_0_1_2 (broadcastInDim S1x1x1024 ![2] bcast_S1024_S1x1x1024_2 g))) (broadcastInDim S2x16384x1024 ![0, 1, 2] bcast_S2x1x1024_S2x16384x1024_0_1_2 (addf (broadcastInDim S2x1x1024 ![] bcast_S_S2x1x1024 (constant S_ .f32 0x3F800000#32)) sc))) (broadcastInDim S2x16384x1024 ![0, 1, 2] bcast_S2x1x1024_S2x16384x1024_0_1_2 sh)) w) (broadcastInDim S2x16384x3072 ![0, 1, 2] bcast_S1x1x3072_S2x16384x3072_0_1_2 (broadcastInDim S1x1x3072 ![2] bcast_S3072_S1x1x3072_2 b))

/-- The row before, the row, the row after, each times its tap, plus the bias. -/
def convT (p : Vec F S2x16384x3072 .f32) (cw : Vec F S3x3072 .f32) (cb : Vec F S3072 .f32) : Vec F S2x16384x3072 .f32 :=
  addf (addf (addf (mulf (pad S2x16384x3072 ![0, 1, 0] ![0, 0, 0] ![0, 0, 0] (extractStridedSlice S2x16383x3072 ![0, 0, 0] p slices_S2x16384x3072_S2x16383x3072_0_0_0) (sitofp .f32 (constantI S_ 32 0#32)) pads_S2x16383x3072_S2x16384x3072_000_100_000 h_S_) (broadcastInDim S2x16384x3072 ![0, 1, 2] bcast_S1x1x3072_S2x16384x3072_0_1_2 (broadcastInDim S1x1x3072 ![2] bcast_S3072_S1x1x3072_2 (shapeCast _ (extractStridedSlice S1x3072 ![0, 0] cw slices_S3x3072_S1x3072_0_0) shapeCasts_S1x3072_S3072)))) (mulf p (broadcastInDim S2x16384x3072 ![0, 1, 2] bcast_S1x1x3072_S2x16384x3072_0_1_2 (broadcastInDim S1x1x3072 ![2] bcast_S3072_S1x1x3072_2 (shapeCast _ (extractStridedSlice S1x3072 ![1, 0] cw slices_S3x3072_S1x3072_1_0) shapeCasts_S1x3072_S3072))))) (mulf (pad S2x16384x3072 ![0, 0, 0] ![0, 1, 0] ![0, 0, 0] (extractStridedSlice S2x16383x3072 ![0, 1, 0] p slices_S2x16384x3072_S2x16383x3072_0_1_0) (sitofp .f32 (constantI S_ 32 0#32)) pads_S2x16383x3072_S2x16384x3072_000_010_000 h_S_) (broadcastInDim S2x16384x3072 ![0, 1, 2] bcast_S1x1x3072_S2x16384x3072_0_1_2 (broadcastInDim S1x1x3072 ![2] bcast_S3072_S1x1x3072_2 (shapeCast _ (extractStridedSlice S1x3072 ![2, 0] cw slices_S3x3072_S1x3072_2_0) shapeCasts_S1x3072_S3072))))) (broadcastInDim S2x16384x3072 ![0, 1, 2] bcast_S1x1x3072_S2x16384x3072_0_1_2 (broadcastInDim S1x1x3072 ![2] bcast_S3072_S1x1x3072_2 cb))

/-- The plain program's result is these two steps. -/
theorem res_eq (m : (ℓ : Loc nD τ sig) → Buf (Elt F) ℓ) (c : Dev nD) :
    Cert.ConvRefIdeal.Value.res_out0 m c = convT (projT (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6))) (m ((c.tc : Thread nD τ).loc main_arg7)) (m ((c.tc : Thread nD τ).loc main_arg8)) := rfl

end Cert.Proof.Conv
-- ==== Proof.Conv.Value.lean ====
/-
  The Hyena mixer's input projection with its width-3 convolution. A row tile's rows and the rows just above and below
  it are normalized and modulated into a scratch at the first column tile; every column tile multiplies all of them by
  its columns of the weight, adds the bias, and combines each row with its two neighbours. Here: the result array index
  by index, and the plain program's, which agree.
-/
module

public import proofs.«01_k».proof.Proof.Gen.Conv.Frame
public import proofs.«01_k».proof.Proof.Gen.ConvIdeal.Value
public import proofs.«01_k».proof.Proof.Conv.Ref
public import proofs.«01_k».proof.Proof.Ffn.Blocks

@[expose] public section

set_option maxRecDepth 16384

noncomputable section

namespace Cert.Proof.Conv

open Idealize.ShloMosaic Idealize.ShloMosaic.TcCoe
open Cert.ConvIdeal Cert.ConvIdeal.Gen
open Cert.Proof.Ffn (rms)
open scoped BigOperators

variable (m : (ℓ : Loc nD τ sig) → Buf (Elt Ideal) ℓ) (c : Dev nD)

abbrev X : Vec Ideal S2x16384x1024 .f32 := m ((c : Thread nD τ).loc main_arg0)
abbrev G : Vec Ideal S1024 .f32 := m ((c : Thread nD τ).loc main_arg1)
abbrev SH : Vec Ideal S2x1x1024 .f32 := m ((c : Thread nD τ).loc main_arg2)
abbrev SC : Vec Ideal S2x1x1024 .f32 := m ((c : Thread nD τ).loc main_arg3)
abbrev W : Vec Ideal S1024x3072 .f32 := m ((c : Thread nD τ).loc main_arg5)
abbrev BI : Vec Ideal S3072 .f32 := m ((c : Thread nD τ).loc main_arg6)
abbrev CW : Vec Ideal S3x3072 .f32 := m ((c : Thread nD τ).loc main_arg7)
abbrev CB : Vec Ideal S3072 .f32 := m ((c : Thread nD τ).loc main_arg8)

/-- The normalized and modulated row `l` of batch `b`, in the kernel's association. -/
def hid (b : Fin 2) (l : Fin 16384) (d : Fin 1024) : EReal :=
  rms (fun k => X m c (ix3 b l k)) d * (G m c (ix1 d) * (1 + SC m c (ix3 b 0 d))) + SH m c (ix3 b 0 d)

/-- One element of the projection with its bias. -/
def projL (b : Fin 2) (l : Fin 16384) (f : Fin 3072) : EReal := (∑ d, hid m c b l d * W m c (ix2 d f)) + BI m c (ix1 f)

/-- One element of the result: the projection's row and its two neighbours, a neighbour outside the sequence being zero. -/
def convL (b : Fin 2) (l : Fin 16384) (f : Fin 3072) : EReal :=
  (if h : l.val = 0 then 0 else projL m c b ⟨l.val - 1, by omega⟩ f) * CW m c (ix2 0 f) + projL m c b l f * CW m c (ix2 1 f)
    + (if h : l.val = 16383 then 0 else projL m c b ⟨l.val + 1, by omega⟩ f) * CW m c (ix2 2 f) + CB m c (ix1 f)

/-! ## Points and blocks -/

theorem lt192 (t : Fin cfg0.N) : t.val < 192 := lt_of_lt_of_eq t.isLt N_0

/-- A point's batch, its row tile, its rows, its columns. -/
abbrev bOf (t : Fin cfg0.N) : Fin 2 := ⟨t.val / 96, by have := lt192 t; omega⟩
abbrev rowOf (t : Fin cfg0.N) (r : Fin 1024) : Fin 16384 := ⟨1024 * (t.val / 6 % 16) + r.val, by omega⟩
abbrev colOf (t : Fin cfg0.N) (k : Fin 512) : Fin 3072 := ⟨512 * (t.val % 6) + k.val, by omega⟩

/-- The rows of the window above a tile and of the window below it; at the sequence's ends the tile's own. -/
abbrev upOf (t : Fin cfg0.N) (r : Fin 16) : Fin 16384 := ⟨16 * (64 * (t.val / 6 % 16) - 1) + r.val, by omega⟩
abbrev dnOf (t : Fin cfg0.N) (r : Fin 16) : Fin 16384 := ⟨16 * (min (64 * (t.val / 6 % 16) + 64) 1023) + r.val, by omega⟩

theorem idx : ∀ t : Fin cfg0.N, win0_0.index t = ![t.val / 96, t.val / 6 % 16, 0]
    ∧ win0_1.index t = ![t.val / 96, 64 * (t.val / 6 % 16) - 1, 0]
    ∧ win0_2.index t = ![t.val / 96, min (64 * (t.val / 6 % 16) + 64) 1023, 0]
    ∧ win0_3.index t = ![t.val / 96, 0, 0] ∧ win0_4.index t = ![0, t.val % 6] ∧ win0_5.index t = ![0, t.val % 6]
    ∧ win0_6.index t = ![0, t.val % 6] :=
  (by decide +kernel : ∀ t : Fin grid0.N, _)

theorem blk0 (t : Fin cfg0.N) (r d : Fin 1024) :
    (iblk m c 0 t : Vec Ideal S1x1024x1024 .f32) (ix3 0 r d) = X m c (ix3 (bOf t) (rowOf t r) d) := by
  blk_ext [iblk, V, idx t]

theorem blk1 (t : Fin cfg0.N) (r : Fin 16) (d : Fin 1024) :
    (iblk m c 1 t : Vec Ideal S1x16x1024 .f32) (ix3 0 r d) = X m c (ix3 (bOf t) (upOf t r) d) := by
  blk_ext [iblk, V, idx t]

theorem blk2 (t : Fin cfg0.N) (r : Fin 16) (d : Fin 1024) :
    (iblk m c 2 t : Vec Ideal S1x16x1024 .f32) (ix3 0 r d) = X m c (ix3 (bOf t) (dnOf t r) d) := by
  blk_ext [iblk, V, idx t]

theorem blk3 (t : Fin cfg0.N) (r : Fin 8) (d : Fin 1024) :
    (iblk m c 3 t : Vec Ideal S1x8x1024 .f32) (ix3 0 r d) = (V m c main_v17 : Vec Ideal S2x8x1024 .f32) (ix3 (bOf t) r d) := by
  blk_ext [iblk, idx t]

/-- Row 0 of the packed vector block: the norm's weight times one plus the scale. -/
theorem vec0 (b : Fin 2) (d : Fin 1024) :
    (V m c main_v17 : Vec Ideal S2x8x1024 .f32) (ix3 b 0 d) = G m c (ix1 d) * (1 + SC m c (ix3 b 0 d)) := by
  simp only [V]
  after_reads_simp
  rw [concatenate_cons_apply]
  simp only [Matrix.cons_val_zero]
  after_reads_simp
  pointwise

/-- Row 1 of the packed vector block: the shift. -/
theorem vec1 (b : Fin 2) (d : Fin 1024) :
    (V m c main_v17 : Vec Ideal S2x8x1024 .f32) (ix3 b 1 d) = SH m c (ix3 b 0 d) := by
  simp only [V]
  after_reads_simp
  rw [concatenate_cons_apply]
  simp only [Matrix.cons_val_one, Matrix.cons_val_zero]
  after_reads_simp
  pointwise

theorem blk4 (t : Fin cfg0.N) (d : Fin 1024) (k : Fin 512) :
    (iblk m c 4 t : Vec Ideal S1024x512 .bf16) (ix2 d k) = W m c (ix2 d (colOf t k)) := by
  unfold iblk
  entry_read
  pointwise
  blk_ext [idx t]

theorem blk5 (t : Fin cfg0.N) (k : Fin 512) :
    (iblk m c 5 t : Vec Ideal S1x512 .f32) (ix2 0 k) = (V m c main_v22 : Vec Ideal S1x3072 .f32) (ix2 0 (colOf t k)) := by
  blk_ext [iblk, idx t]

theorem blk6 (t : Fin cfg0.N) (r : Fin 8) (k : Fin 512) :
    (iblk m c 6 t : Vec Ideal S8x512 .f32) (ix2 r k) = (V m c main_v20 : Vec Ideal S8x3072 .f32) (ix2 r (colOf t k)) := by
  blk_ext [iblk, idx t]

theorem bias_at (f : Fin 3072) : (V m c main_v22 : Vec Ideal S1x3072 .f32) (ix2 0 f) = BI m c (ix1 f) := by
  simp only [V]
  after_reads_simp
  pointwise

/-- Rows 0, 1, 2 of the packed taps: the taps; row 3: the convolution's bias. -/
theorem taps_at (f : Fin 3072) : (V m c main_v20 : Vec Ideal S8x3072 .f32) (ix2 0 f) = CW m c (ix2 0 f)
    ∧ (V m c main_v20 : Vec Ideal S8x3072 .f32) (ix2 1 f) = CW m c (ix2 1 f)
    ∧ (V m c main_v20 : Vec Ideal S8x3072 .f32) (ix2 2 f) = CW m c (ix2 2 f)
    ∧ (V m c main_v20 : Vec Ideal S8x3072 .f32) (ix2 3 f) = CB m c (ix1 f) := by
  simp only [V]
  after_reads_simp
  refine ⟨?_, ?_, ?_, ?_⟩ <;>
  · rw [concatenate_cons_apply]
    simp only [Matrix.cons_val_one, Matrix.cons_val_zero]
    after_reads_simp
    pointwise

/-! ## The scratch and the output block -/

theorem pay2_apply (x : Vec Ideal S1x16x1024 .f32) (a s : Vec Ideal S1x1x1024 .f32) (r : Fin 16) (d : Fin 1024) :
    k0_pay2 (F := Ideal) x a s (ix2 r d) = rms (fun k => x (ix3 0 r k)) d * a (ix3 0 0 d) + s (ix3 0 0 d) := by
  unfold rms
  pointwise [k0_pay2]

theorem pay5_apply (x : Vec Ideal S1x16x1024 .f32) (a s : Vec Ideal S1x1x1024 .f32) (r : Fin 16) (d : Fin 1024) :
    k0_pay5 (F := Ideal) x a s (ix2 r d) = rms (fun k => x (ix3 0 r k)) d * a (ix3 0 0 d) + s (ix3 0 0 d) := by
  unfold rms
  pointwise [k0_pay5]

theorem pay4_apply (x : Vec Ideal S1x1024x1024 .f32) (a s : Vec Ideal S1x1x1024 .f32) (r d : Fin 1024) :
    k0_pay4 (F := Ideal) (k0_pay3 (F := Ideal) x) a s (ix2 r d) = rms (fun k => x (ix3 0 r k)) d * a (ix3 0 0 d) + s (ix3 0 0 d) := by
  unfold rms
  pointwise [k0_pay4, k0_pay3]

theorem pay6_apply (h : Vec Ideal S1056x1024 .bf16) (w : Vec Ideal S1024x512 .bf16) (b : Vec Ideal S1x512 .f32) (r : Fin 1056) (k : Fin 512) :
    k0_pay6 (F := Ideal) h w b (ix2 r k) = (∑ d, h (ix2 r d) * w (ix2 d k)) + b (ix2 0 k) := by
  pointwise [k0_pay6]

theorem cmp_row : ∀ r : Fin 1024, IntOp.cmpi .eq (BitVec.ofNat 32 r.val) 0#32 = (if r.val = 0 then 1#1 else 0#1)
    ∧ IntOp.cmpi .eq (BitVec.ofNat 32 r.val) 1023#32 = (if r.val = 1023 then 1#1 else 0#1) := by
  decide +kernel

theorem cmp_tile : ∀ q : Fin 16, Scalar.cmpi .eq (BitVec.ofNat 32 q.val) 0#32 = (if q.val = 0 then 1#1 else 0#1)
    ∧ Scalar.cmpi .eq (BitVec.ofNat 32 q.val) 15#32 = (if q.val = 15 then 1#1 else 0#1) := by
  decide +kernel

/-- The row before: zero above the sequence's first row. -/
theorem pay7_apply (i : grid0.Coords) (x : Vec Ideal S1024x512 .f32) (r : Fin 1024) (k : Fin 512) :
    k0_pay7 (F := Ideal) i x (ix2 r k) = if r.val = 0 ∧ (i 1).val = 0 then 0 else x (ix2 r k) := by
  pointwise [k0_pay7]
  rw [(cmp_row r).1, (cmp_tile (i 1)).1]
  by_cases h : r.val = 0 <;> by_cases h' : (i 1).val = 0 <;> simp [h, h', Scalar.select, IntOp.andi]

/-- The row after: zero below the sequence's last row. -/
theorem pay8_apply (i : grid0.Coords) (x : Vec Ideal S1024x512 .f32) (r : Fin 1024) (k : Fin 512) :
    k0_pay8 (F := Ideal) i x (ix2 r k) = if r.val = 1023 ∧ (i 1).val = 15 then 0 else x (ix2 r k) := by
  pointwise [k0_pay8]
  rw [(cmp_row r).2, (cmp_tile (i 1)).2]
  by_cases h : r.val = 1023 <;> by_cases h' : (i 1).val = 15 <;> simp [h, h', Scalar.select, IntOp.andi]

theorem pay1_apply (u v : FVec Ideal S1024x512 .f32) (a : Vec Ideal S1x512 .f32) (x : Vec Ideal S1024x512 .f32) (b e g : Vec Ideal S1x512 .f32)
    (r : Fin 1024) (k : Fin 512) :
    k0_pay1 (F := Ideal) u v a x b e g (ix3 0 r k)
      = u (ix2 r k) * a (ix2 0 k) + x (ix2 r k) * b (ix2 0 k) + v (ix2 r k) * e (ix2 0 k) + g (ix2 0 k) := by
  pointwise [k0_pay1]

/-- The row of the sequence that the scratch's row `r` holds: 16 rows above the tile, the tile, 16 rows below. -/
def srcRow (t : Fin cfg0.N) (r : Fin 1056) : Fin 16384 :=
  ⟨if r.val < 16 then 16 * (64 * (t.val / 6 % 16) - 1) + r.val
    else if r.val < 1040 then 1024 * (t.val / 6 % 16) + (r.val - 16)
    else 16 * (min (64 * (t.val / 6 % 16) + 64) 1023) + (r.val - 1040), by have := r.isLt; split_ifs <;> omega⟩

theorem mod_row (t : Fin cfg0.N) (d : Fin 1024) :
    View.ld (iblk m c 3 t : Vec Ideal S1x8x1024 .f32) (Rect.unit ![0, 0, 0] ![1, 1, 1024] inb_S1x8x1024_S1x1x1024_0_0_0) (ix3 0 0 d)
        = G m c (ix1 d) * (1 + SC m c (ix3 (bOf t) 0 d))
      ∧ View.ld (iblk m c 3 t : Vec Ideal S1x8x1024 .f32) (Rect.unit ![0, 1, 0] ![1, 1, 1024] inb_S1x8x1024_S1x1x1024_0_1_0) (ix3 0 0 d)
        = SH m c (ix3 (bOf t) 0 d) := by
  have e1 := (blk3 m c t 0 d).trans (vec0 m c (bOf t) d)
  have e2 := (blk3 m c t 1 d).trans (vec1 m c (bOf t) d)
  constructor
  · pointwise
    exact e1
  · pointwise
    exact e2

/-- The three stores into the scratch, the last first. -/
abbrev pcs (t : Fin cfg0.N) : List (View.Piece (Elt Ideal) S1056x1024 .bf16) :=
  [⟨Rect.unit (s := S1056x1024) ![1040, 0] ![16, 1024] inb_S1056x1024_S16x1024_1040_0, k0_pay5 (F := Ideal) (iblk m c 2 t) (View.ld (iblk m c 3 t) (Rect.unit ![0, 0, 0] ![1, 1, 1024] inb_S1x8x1024_S1x1x1024_0_0_0)) (View.ld (iblk m c 3 t) (Rect.unit ![0, 1, 0] ![1, 1, 1024] inb_S1x8x1024_S1x1x1024_0_1_0))⟩,
    ⟨Rect.unit (s := S1056x1024) ![16, 0] ![1024, 1024] inb_S1056x1024_S1024x1024_16_0, k0_pay4 (F := Ideal) (k0_pay3 (F := Ideal) (iblk m c 0 t)) (View.ld (iblk m c 3 t) (Rect.unit ![0, 0, 0] ![1, 1, 1024] inb_S1x8x1024_S1x1x1024_0_0_0)) (View.ld (iblk m c 3 t) (Rect.unit ![0, 1, 0] ![1, 1, 1024] inb_S1x8x1024_S1x1x1024_0_1_0))⟩,
    ⟨Rect.unit (s := S1056x1024) ![0, 0] ![16, 1024] inb_S1056x1024_S16x1024_0_0, k0_pay2 (F := Ideal) (iblk m c 1 t) (View.ld (iblk m c 3 t) (Rect.unit ![0, 0, 0] ![1, 1, 1024] inb_S1x8x1024_S1x1x1024_0_0_0)) (View.ld (iblk m c 3 t) (Rect.unit ![0, 1, 0] ![1, 1, 1024] inb_S1x8x1024_S1x1x1024_0_1_0))⟩]

/-- What they leave: the normalized rows. -/
theorem pcs_at (t : Fin cfg0.N) (r : Fin 1056) (d : Fin 1024) :
    View.canon (pcs m c t) (ix2 r d) = hid m c (bOf t) (srcRow t r) d := by
  refine View.canon_apply_of_pieces (Val := Elt Ideal) (e := .bf16) (fun y : S1056x1024.Idx => hid m c (bOf t) (srcRow t (y 0)) (y 1)) _ ?_ _ ?_
  · simp only [List.mem_cons, List.not_mem_nil, or_false, forall_eq_or_imp, forall_eq]
    refine ⟨fun x => ?_, fun x => ?_, fun x => ?_⟩
    · obtain ⟨r, d, rfl⟩ : ∃ (r : Fin 16) (d : Fin 1024), x = ix2 r d := ⟨x 0, x 1, by funext a; match a with | ⟨0, _⟩ => rfl | ⟨1, _⟩ => rfl⟩
      have hr : srcRow t ((Rect.unit (s := S1056x1024) ![1040, 0] ![16, 1024] inb_S1056x1024_S16x1024_1040_0).emb (ix2 r d) 0) = dnOf t r := by
        apply Fin.ext
        have e : ((Rect.unit (s := S1056x1024) ![1040, 0] ![16, 1024] inb_S1056x1024_S16x1024_1040_0).emb (ix2 r d) 0).val = 1040 + r.val :=
          Rect.idx_unit_val _ _ _ _ _
        simp only [srcRow, e]
        rw [if_neg (by omega), if_neg (by omega)]
        simp
      have hd : (Rect.unit (s := S1056x1024) ![1040, 0] ![16, 1024] inb_S1056x1024_S16x1024_1040_0).emb (ix2 r d) 1 = d :=
        Fin.ext ((Rect.idx_unit_val _ _ _ _ _).trans (Nat.zero_add _))
      show k0_pay5 (F := Ideal) _ _ _ (ix2 r d) = hid m c (bOf t) (srcRow t _) _
      rw [hr, hd]
      refine (pay5_apply _ _ _ r d).trans ?_
      rw [(mod_row m c t d).1, (mod_row m c t d).2]
      have e0 : ∀ k, iblk m c 2 t (ix3 0 r k) = X m c (ix3 (bOf t) (dnOf t r) k) := fun k => blk2 m c t r k
      simp only [e0]
      rfl
    · obtain ⟨r, d, rfl⟩ : ∃ (r : Fin 1024) (d : Fin 1024), x = ix2 r d := ⟨x 0, x 1, by funext a; match a with | ⟨0, _⟩ => rfl | ⟨1, _⟩ => rfl⟩
      have hr : srcRow t ((Rect.unit (s := S1056x1024) ![16, 0] ![1024, 1024] inb_S1056x1024_S1024x1024_16_0).emb (ix2 r d) 0) = rowOf t r := by
        apply Fin.ext
        have e : ((Rect.unit (s := S1056x1024) ![16, 0] ![1024, 1024] inb_S1056x1024_S1024x1024_16_0).emb (ix2 r d) 0).val = 16 + r.val :=
          Rect.idx_unit_val _ _ _ _ _
        simp only [srcRow, e]
        rw [if_neg (by omega), if_pos (by omega)]
        simp
      have hd : (Rect.unit (s := S1056x1024) ![16, 0] ![1024, 1024] inb_S1056x1024_S1024x1024_16_0).emb (ix2 r d) 1 = d :=
        Fin.ext ((Rect.idx_unit_val _ _ _ _ _).trans (Nat.zero_add _))
      show k0_pay4 (F := Ideal) _ _ _ (ix2 r d) = hid m c (bOf t) (srcRow t _) _
      rw [hr, hd]
      refine (pay4_apply _ _ _ r d).trans ?_
      rw [(mod_row m c t d).1, (mod_row m c t d).2]
      have e0 : ∀ k, iblk m c 0 t (ix3 0 r k) = X m c (ix3 (bOf t) (rowOf t r) k) := fun k => blk0 m c t r k
      simp only [e0]
      rfl
    · obtain ⟨r, d, rfl⟩ : ∃ (r : Fin 16) (d : Fin 1024), x = ix2 r d := ⟨x 0, x 1, by funext a; match a with | ⟨0, _⟩ => rfl | ⟨1, _⟩ => rfl⟩
      have hr : srcRow t ((Rect.unit (s := S1056x1024) ![0, 0] ![16, 1024] inb_S1056x1024_S16x1024_0_0).emb (ix2 r d) 0) = upOf t r := by
        apply Fin.ext
        have e : ((Rect.unit (s := S1056x1024) ![0, 0] ![16, 1024] inb_S1056x1024_S16x1024_0_0).emb (ix2 r d) 0).val = 0 + r.val :=
          Rect.idx_unit_val _ _ _ _ _
        simp only [srcRow, e]
        rw [if_pos (by omega)]
        simp
      have hd : (Rect.unit (s := S1056x1024) ![0, 0] ![16, 1024] inb_S1056x1024_S16x1024_0_0).emb (ix2 r d) 1 = d :=
        Fin.ext ((Rect.idx_unit_val _ _ _ _ _).trans (Nat.zero_add _))
      show k0_pay2 (F := Ideal) _ _ _ (ix2 r d) = hid m c (bOf t) (srcRow t _) _
      rw [hr, hd]
      refine (pay2_apply _ _ _ r d).trans ?_
      rw [(mod_row m c t d).1, (mod_row m c t d).2]
      have e0 : ∀ k, iblk m c 1 t (ix3 0 r k) = X m c (ix3 (bOf t) (upOf t r) k) := fun k => blk1 m c t r k
      simp only [e0]
      rfl
  · exact View.cover_of_tiledBy _ ![16, 1024] (by sl_kernel_rfl) _

/-- What a run's first point writes into the scratch. -/
theorem xn_first (t : Fin cfg0.N) (h0 : t.val % 6 = 0) (r : Fin 1056) (d : Fin 1024) :
    (outsAt0 m c t.val t.isLt).2 (ix2 r d) = hid m c (bOf t) (srcRow t r) d := by
  rw [outsAt0_A m c t h0]
  dsimp only
  frame_out
  exact pcs_at m c t r d

/-- Every later point keeps them. -/
theorem xn_keep (t : Fin cfg0.N) (h0 : ¬t.val % 6 = 0) (j : S1056x1024.Idx) :
    (outsAt0 m c t.val t.isLt).2 j
      = (outsAt0 m c (t.val - 1) (Nat.lt_of_le_of_lt (Nat.sub_le _ _) t.isLt)).2 j := by
  rw [outsAt0_B m c t h0]
  rfl

/-- The scratch after any point holds the point's normalized rows. -/
theorem xn_at (t : Fin cfg0.N) (r : Fin 1056) (d : Fin 1024) :
    (outsAt0 m c t.val t.isLt).2 (ix2 r d) = hid m c (bOf t) (srcRow t r) d := by
  rw [Pipeline.eq_of_write_hold_apply (fun n hn => (outsAt0 m c n hn).2) 6
    (fun t j => hid m c (bOf t) (srcRow t (j 0)) (j 1))
    (fun t h j => by idx_vars j; exact xn_first m c t h _ _) (fun t h j => xn_keep m c t h j) t (ix2 r d)]
  have hb : bOf ⟨6 * (t.val / 6), Pipeline.run_start_lt t⟩ = bOf t := Fin.ext (by simp only; omega)
  have hq : (6 * (t.val / 6)) / 6 = t.val / 6 := by omega
  have hr : srcRow ⟨6 * (t.val / 6), Pipeline.run_start_lt t⟩ r = srcRow t r := Fin.ext (by simp only [srcRow, hq])
  show hid m c (bOf ⟨6 * (t.val / 6), _⟩) (srcRow ⟨6 * (t.val / 6), _⟩ r) d = _
  rw [hb, hr]

/-- What a load of the rows `o, o + 1, …` of the scratch of projected rows reads. -/
abbrev rows (z : Vec Ideal S1056x512 .f32) (o : ℕ) (inb : ∀ a, (![o, 0] : Fin 2 → ℕ) a + (![1024, 512] : Fin 2 → ℕ) a ≤ S1056x512.size a) :
    Vec Ideal S1024x512 .f32 :=
  (View.whole cc0_scratch1).readCov (Val := Elt Ideal) [⟨Rect.unit (s := S1056x512) ![0, 0] ![1056, 512] inb_S1056x512_S1056x512_0_0, z⟩]
    (Rect.unit (s := S1056x512) ![o, 0] ![1024, 512] inb).toLoadRect

theorem rd (z : Vec Ideal S1056x512 .f32) (o : ℕ) (ho : o ≤ 32) (inb : ∀ a, (![o, 0] : Fin 2 → ℕ) a + (![1024, 512] : Fin 2 → ℕ) a ≤ S1056x512.size a)
    (r : Fin 1024) (k : Fin 512) : rows z o inb (ix2 r k) = z (ix2 ⟨o + r.val, by omega⟩ k) := by
  unfold rows
  rw [View.readCov_eq_canon']
  have hz : View.canon [(⟨Rect.unit ![0, 0] ![1056, 512] inb_S1056x512_S1056x512_0_0, z⟩ : View.Piece (Elt Ideal) S1056x512 .f32)] = z :=
    View.canon_unit_zero (by decide) inb_S1056x512_S1056x512_0_0 z
  show View.canon _ ((Rect.unit (s := S1056x512) ![o, 0] ![1024, 512] inb).idx (ix2 r k)) = _
  rw [hz]
  refine congrArg z (funext fun a => Fin.ext ((Rect.idx_unit_val _ _ _ _ _).trans ?_))
  match a with
  | ⟨0, _⟩ => rfl
  | ⟨1, _⟩ => exact Nat.zero_add _

theorem coord_tile : ∀ t : Fin cfg0.N, ((grid0.coords t) 1).val = t.val / 6 % 16 :=
  (by decide +kernel : ∀ t : Fin grid0.N, _)

theorem tap_row (t : Fin cfg0.N) (k : Fin 512) :
    View.ld (iblk m c 6 t : Vec Ideal S8x512 .f32) (Rect.unit ![0, 0] ![1, 512] inb_S8x512_S1x512_0_0) (ix2 0 k) = CW m c (ix2 0 (colOf t k))
      ∧ View.ld (iblk m c 6 t : Vec Ideal S8x512 .f32) (Rect.unit ![1, 0] ![1, 512] inb_S8x512_S1x512_1_0) (ix2 0 k) = CW m c (ix2 1 (colOf t k))
      ∧ View.ld (iblk m c 6 t : Vec Ideal S8x512 .f32) (Rect.unit ![2, 0] ![1, 512] inb_S8x512_S1x512_2_0) (ix2 0 k) = CW m c (ix2 2 (colOf t k))
      ∧ View.ld (iblk m c 6 t : Vec Ideal S8x512 .f32) (Rect.unit ![3, 0] ![1, 512] inb_S8x512_S1x512_3_0) (ix2 0 k) = CB m c (ix1 (colOf t k)) := by
  obtain ⟨a0, a1, a2, a3⟩ := taps_at m c (colOf t k)
  have e0 := (blk6 m c t 0 k).trans a0
  have e1 := (blk6 m c t 1 k).trans a1
  have e2 := (blk6 m c t 2 k).trans a2
  have e3 := (blk6 m c t 3 k).trans a3
  refine ⟨?_, ?_, ?_, ?_⟩
  · pointwise
    exact e0
  · pointwise
    exact e1
  · pointwise
    exact e2
  · pointwise
    exact e3

/-- The projected rows of a point. -/
theorem acc_at (t : Fin cfg0.N) (h : Vec Ideal S1056x1024 .bf16) (hh : ∀ r d, h (ix2 r d) = hid m c (bOf t) (srcRow t r) d)
    (r : Fin 1056) (k : Fin 512) :
    k0_pay6 (F := Ideal) h (iblk m c 4 t) (iblk m c 5 t) (ix2 r k) = projL m c (bOf t) (srcRow t r) (colOf t k) := by
  refine (pay6_apply h _ _ r k).trans ?_
  have e4 : ∀ d, iblk m c 4 t (ix2 d k) = W m c (ix2 d (colOf t k)) := fun d => blk4 m c t d k
  have e5 : iblk m c 5 t (ix2 0 k) = BI m c (ix1 (colOf t k)) := (blk5 m c t k).trans (bias_at m c _)
  simp only [e4, hh]
  rw [e5]
  rfl

/-- The combined rows of a point, from its projected rows. -/
theorem out_tile (t : Fin cfg0.N) (z : Vec Ideal S1056x512 .f32)
    (hz : ∀ r k, z (ix2 r k) = projL m c (bOf t) (srcRow t r) (colOf t k)) (r : Fin 1024) (k : Fin 512) :
    k0_pay1 (F := Ideal)
      (k0_pay7 (F := Ideal) (grid0.coords t) (rows z 15 inb_S1056x512_S1024x512_15_0))
      (k0_pay8 (F := Ideal) (grid0.coords t) (rows z 17 inb_S1056x512_S1024x512_17_0))
      (View.ld (iblk m c 6 t) (Rect.unit ![0, 0] ![1, 512] inb_S8x512_S1x512_0_0))
      (rows z 16 inb_S1056x512_S1024x512_16_0)
      (View.ld (iblk m c 6 t) (Rect.unit ![1, 0] ![1, 512] inb_S8x512_S1x512_1_0))
      (View.ld (iblk m c 6 t) (Rect.unit ![2, 0] ![1, 512] inb_S8x512_S1x512_2_0))
      (View.ld (iblk m c 6 t) (Rect.unit ![3, 0] ![1, 512] inb_S8x512_S1x512_3_0)) (ix3 0 r k)
    = convL m c (bOf t) (rowOf t r) (colOf t k) := by
  obtain ⟨a0, a1, a2, a3⟩ := tap_row m c t k
  have hq := coord_tile t
  refine (pay1_apply _ _ _ _ _ _ _ r k).trans ?_
  rw [a0, a1, a2, a3, pay7_apply, pay8_apply, rd z 15 (by decide), rd z 16 (by decide), rd z 17 (by decide), hq, hz, hz, hz]
  have s16 : srcRow t ⟨16 + r.val, by omega⟩ = rowOf t r := Fin.ext (by
    simp only [srcRow]; rw [if_neg (by omega), if_pos (by omega)]; omega)
  have hup : (if r.val = 0 ∧ t.val / 6 % 16 = 0 then (0 : EReal) else projL m c (bOf t) (srcRow t ⟨15 + r.val, by omega⟩) (colOf t k))
      = if h : (rowOf t r).val = 0 then 0 else projL m c (bOf t) ⟨(rowOf t r).val - 1, by omega⟩ (colOf t k) := by
    by_cases h : (rowOf t r).val = 0
    · rw [dif_pos h, if_pos (by simp only at h; omega)]
    · rw [dif_neg h, if_neg (by simp only at h; omega)]
      congr 1
      apply Fin.ext
      simp only at h
      simp only [srcRow]
      split_ifs <;> omega
  have hdn : (if r.val = 1023 ∧ t.val / 6 % 16 = 15 then (0 : EReal) else projL m c (bOf t) (srcRow t ⟨17 + r.val, by omega⟩) (colOf t k))
      = if h : (rowOf t r).val = 16383 then 0 else projL m c (bOf t) ⟨(rowOf t r).val + 1, by omega⟩ (colOf t k) := by
    by_cases h : (rowOf t r).val = 16383
    · rw [dif_pos h, if_pos (by simp only at h; omega)]
    · rw [dif_neg h, if_neg (by simp only at h; omega)]
      congr 1
      apply Fin.ext
      simp only at h
      simp only [srcRow]
      split_ifs <;> omega
  rw [hup, hdn, s16]
  rfl

/-- What a point leaves in its output block. -/
theorem out_at (t : Fin cfg0.N) (r : Fin 1024) (k : Fin 512) :
    (outsAt0 m c t.val t.isLt).1 (ix3 0 r k) = convL m c (bOf t) (rowOf t r) (colOf t k) := by
  by_cases h0 : t.val % 6 = 0
  · rw [outsAt0_A m c t h0]
    dsimp only
    frame_out
    refine out_tile m c t _ (fun r k => acc_at m c t _ (fun r d => ?_) r k) r k
    refine Eq.trans ?_ (pcs_at m c t r d)
    rw [View.readCov_eq_canon']
    refine congrArg (View.canon (pcs m c t)) (funext fun a => Fin.ext ((Rect.idx_unit_val _ _ _ _ _).trans ?_))
    match a with
    | ⟨0, _⟩ => exact Nat.zero_add _
    | ⟨1, _⟩ => exact Nat.zero_add _
  · have hx : ∀ r d, (outsAt0 m c (t.val - 1) (Nat.lt_of_le_of_lt (Nat.sub_le _ _) t.isLt)).2 (ix2 r d) = _ :=
      fun r d => (xn_keep m c t h0 (ix2 r d)).symm.trans (xn_at m c t r d)
    rw [outsAt0_B m c t h0]
    dsimp only
    frame_out
    simp only [read_unread_whole]
    exact out_tile m c t _ (fun r k => acc_at m c t _ hx r k) r k

/-! ## The result -/

theorem result_at (b : Fin 2) (l : Fin 16384) (f : Fin 3072) :
    (Cert.ConvIdeal.Value.G7 m c : Vec Ideal S2x16384x3072 .f32) (ix3 b l f) = convL m c b l f := by
  have hN := N_0
  have hp : Cert.ConvIdeal.Value.pt7Of (ix3 b l f) = 96 * b.val + 6 * (l.val / 1024) + f.val / 512 := by
    simp [Cert.ConvIdeal.Value.pt7Of, Cert.ConvIdeal.Value.run7Of]
  have hlt : Cert.ConvIdeal.Value.pt7Of (ix3 b l f) < cfg0.N := by
    have e : cfg0.N = 192 := hN
    rw [hp, e]; have := b.isLt; have := l.isLt; have := f.isLt; omega
  unfold Cert.ConvIdeal.Value.G7
  rw [dif_pos hlt, ← Cert.ConvIdeal.Value.outsAt0_sweep]
  have hloc : Cert.ConvIdeal.Value.loc7Of (ix3 b l f)
      = ix3 0 ⟨l.val % 1024, Nat.mod_lt _ (by decide)⟩ ⟨f.val % 512, Nat.mod_lt _ (by decide)⟩ := by
    funext a; apply Fin.ext
    match a with
    | ⟨0, _⟩ => exact Nat.mod_one _
    | ⟨1, _⟩ => rfl
    | ⟨2, _⟩ => rfl
  rw [hloc]
  refine (out_at m c ⟨_, hlt⟩ _ _).trans ?_
  have hb : bOf ⟨_, hlt⟩ = b := Fin.ext (by simp only [hp]; have := l.isLt; have := f.isLt; omega)
  have hr : rowOf ⟨_, hlt⟩ ⟨l.val % 1024, Nat.mod_lt _ (by decide)⟩ = l :=
    Fin.ext (by simp only [hp]; have := l.isLt; have := f.isLt; omega)
  have hc : colOf ⟨_, hlt⟩ ⟨f.val % 512, Nat.mod_lt _ (by decide)⟩ = f :=
    Fin.ext (by simp only [hp]; have := l.isLt; have := f.isLt; omega)
  rw [hb, hr, hc]

/-- The plain program's projection at an index. -/
theorem projT_at (b : Fin 2) (l : Fin 16384) (f : Fin 3072) :
    projT (X m c) (G m c) (SH m c) (SC m c) (W m c) (BI m c) (ix3 b l f) = projL m c b l f := by
  unfold projL hid rms
  pointwise [projT]
  simp only [mul_assoc]

/-- The plain convolution at an index. -/
theorem convT_at (p : Vec Ideal S2x16384x3072 .f32) (cw : Vec Ideal S3x3072 .f32) (cb : Vec Ideal S3072 .f32)
    (b : Fin 2) (l : Fin 16384) (f : Fin 3072) :
    convT p cw cb (ix3 b l f)
      = (if h : l.val = 0 then 0 else p (ix3 b ⟨l.val - 1, by omega⟩ f)) * cw (ix2 0 f) + p (ix3 b l f) * cw (ix2 1 f)
        + (if h : l.val = 16383 then 0 else p (ix3 b ⟨l.val + 1, by omega⟩ f)) * cw (ix2 2 f) + cb (ix1 f) := by
  pointwise [convT]
  have z : (FloatOps.sitofp (F := Ideal) FTy.f32 (0#32 : BitVec 32) : EReal) = 0 := by
    simp [FloatOps.sitofp]
  have e1 : (if h : 1 ≤ l.val ∧ l.val - 1 < 16383 then p (ix3 b ⟨l.val - 1, by omega⟩ f) else (FloatOps.sitofp (F := Ideal) FTy.f32 (0#32 : BitVec 32) : EReal))
      = if h : l.val = 0 then 0 else p (ix3 b ⟨l.val - 1, by omega⟩ f) := by
    by_cases h : l.val = 0
    · rw [dif_pos h, dif_neg (by omega), z]
    · rw [dif_neg h, dif_pos (by omega)]
  have e2 : (if h : l.val < 16383 then p (ix3 b ⟨1 + l.val, by omega⟩ f) else (FloatOps.sitofp (F := Ideal) FTy.f32 (0#32 : BitVec 32) : EReal))
      = if h : l.val = 16383 then 0 else p (ix3 b ⟨l.val + 1, by omega⟩ f) := by
    by_cases h : l.val = 16383
    · rw [dif_pos h, dif_neg (by omega), z]
    · rw [dif_neg h, dif_pos (by omega)]
      simp only [Nat.add_comm 1]
  rw [e1, e2]

/-- The plain program's result is the kernel's. -/
theorem result_eq : convT (projT (X m c) (G m c) (SH m c) (SC m c) (W m c) (BI m c)) (CW m c) (CB m c) = Cert.ConvIdeal.Value.G7 m c := by
  funext j
  idx_vars j
  refine (convT_at _ _ _ _ _ _).trans (Eq.trans ?_ (result_at m c _ _ _).symm)
  simp only [projT_at]
  rfl

/-- The two arrays agree when the arguments do. -/
theorem agree (m' : (ℓ : Loc Cert.ConvRefIdeal.nD Cert.ConvRefIdeal.τ Cert.ConvRefIdeal.sig) → Buf (Elt Ideal) ℓ) (c : Dev Cert.ConvRefIdeal.nD)
    (h0 : m' ((c : Thread Cert.ConvRefIdeal.nD Cert.ConvRefIdeal.τ).loc Cert.ConvRefIdeal.main_arg0) = X m c)
    (h1 : m' ((c : Thread Cert.ConvRefIdeal.nD Cert.ConvRefIdeal.τ).loc Cert.ConvRefIdeal.main_arg1) = G m c)
    (h2 : m' ((c : Thread Cert.ConvRefIdeal.nD Cert.ConvRefIdeal.τ).loc Cert.ConvRefIdeal.main_arg2) = SH m c)
    (h3 : m' ((c : Thread Cert.ConvRefIdeal.nD Cert.ConvRefIdeal.τ).loc Cert.ConvRefIdeal.main_arg3) = SC m c)
    (h5 : m' ((c : Thread Cert.ConvRefIdeal.nD Cert.ConvRefIdeal.τ).loc Cert.ConvRefIdeal.main_arg5) = W m c)
    (h6 : m' ((c : Thread Cert.ConvRefIdeal.nD Cert.ConvRefIdeal.τ).loc Cert.ConvRefIdeal.main_arg6) = BI m c)
    (h7 : m' ((c : Thread Cert.ConvRefIdeal.nD Cert.ConvRefIdeal.τ).loc Cert.ConvRefIdeal.main_arg7) = CW m c)
    (h8 : m' ((c : Thread Cert.ConvRefIdeal.nD Cert.ConvRefIdeal.τ).loc Cert.ConvRefIdeal.main_arg8) = CB m c) :
    (convT (projT (m' ((c : Thread Cert.ConvRefIdeal.nD Cert.ConvRefIdeal.τ).loc Cert.ConvRefIdeal.main_arg0)) (m' ((c : Thread Cert.ConvRefIdeal.nD Cert.ConvRefIdeal.τ).loc Cert.ConvRefIdeal.main_arg1)) (m' ((c : Thread Cert.ConvRefIdeal.nD Cert.ConvRefIdeal.τ).loc Cert.ConvRefIdeal.main_arg2)) (m' ((c : Thread Cert.ConvRefIdeal.nD Cert.ConvRefIdeal.τ).loc Cert.ConvRefIdeal.main_arg3)) (m' ((c : Thread Cert.ConvRefIdeal.nD Cert.ConvRefIdeal.τ).loc Cert.ConvRefIdeal.main_arg5)) (m' ((c : Thread Cert.ConvRefIdeal.nD Cert.ConvRefIdeal.τ).loc Cert.ConvRefIdeal.main_arg6))) (m' ((c : Thread Cert.ConvRefIdeal.nD Cert.ConvRefIdeal.τ).loc Cert.ConvRefIdeal.main_arg7)) (m' ((c : Thread Cert.ConvRefIdeal.nD Cert.ConvRefIdeal.τ).loc Cert.ConvRefIdeal.main_arg8)) : Vec Ideal S2x16384x3072 .f32)
      = Cert.ConvIdeal.Value.G7 m c := by
  rw [h0, h1, h2, h3, h5, h6, h7, h8]
  exact result_eq m c

end Cert.Proof.Conv
-- ==== Proof.Ffn.Sweep.lean ====
/-
  What the dense feed-forward kernel's scratches and output hold after a grid point, index by index: the normalized
  rows written at a run's first point and held through it, the down projection accumulated tile by tile, and the gated
  residual written at the run's last point.
-/
module

public import proofs.«01_k».proof.Proof.Ffn.Blocks

@[expose] public section

set_option maxRecDepth 16384

noncomputable section

namespace Cert.Proof.Ffn

open Idealize.ShloMosaic Idealize.ShloMosaic.TcCoe
open Cert.FfnIdeal Cert.FfnIdeal.Gen
open scoped BigOperators

/-! ## The stored payloads at an index -/

theorem pay1_apply (x : Vec Ideal S1x1024x1024 .f32) (a s : Vec Ideal S1x1x1024 .f32) (r d : Fin 1024) :
    k0_pay1 (F := Ideal) x a s (ix2 r d) = rms (fun k => x (ix3 0 r k)) d * a (ix3 0 0 d) + s (ix3 0 0 d) := by
  unfold rms
  pointwise [k0_pay1]

theorem pay2_apply (r d : Fin 1024) : k0_pay2 (F := Ideal) (ix2 r d) = 0 := by
  pointwise [k0_pay2]

theorem pay3_apply (h : Vec Ideal S1024x1024 .bf16) (wg wu : Vec Ideal S1024x256 .bf16) (acc : Vec Ideal S1024x1024 .f32)
    (w2 : Vec Ideal S256x1024 .bf16) (r d : Fin 1024) :
    k0_pay3 (F := Ideal) h wg wu acc w2 (ix2 r d) = acc (ix2 r d)
      + ∑ k, unit (fun d => h (ix2 r d)) (fun d => wg (ix2 d k)) (fun d => wu (ix2 d k)) * w2 (ix2 k d) := by
  unfold unit
  pointwise [k0_pay3]

theorem pay4_apply (x : Vec Ideal S1x1024x1024 .f32) (g : Vec Ideal S1x1x1024 .f32) (acc : Vec Ideal S1024x1024 .f32) (r d : Fin 1024) :
    k0_pay4 (F := Ideal) x g acc (ix3 0 r d) = x (ix3 0 r d) + g (ix3 0 0 d) * acc (ix2 r d) := by
  pointwise [k0_pay4]

variable (m : (ℓ : Loc nD τ sig) → Buf (Elt Ideal) ℓ) (c : Dev nD)

/-! ## The normalized rows -/

/-- What a run's first point writes into the scratch of normalized rows. -/
theorem xn_first (t : Fin cfg0.N) (h0 : t.val % 11 = 0) (r d : Fin 1024) :
    (outsAt0 m c t.val t.isLt).2.1 (ix2 r d) = hid m c (bOf t) (rowOf t r) d := by
  rw [outsAt0_A m c t h0 (by omega)]
  dsimp only
  frame_out
  rw [pay1_apply]
  have e0 : ∀ k, iblk m c 0 t (ix3 0 r k) = X m c (ix3 (bOf t) (rowOf t r) k) := fun k => blk0 m c t r k
  have e1 := (blk1 m c t 0 d).trans (vec0 m c (bOf t) d)
  have e2 := (blk1 m c t 1 d).trans (vec1 m c (bOf t) d)
  unfold hid
  pointwise
  simp only [e0, e1, e2]

/-- Every later point keeps them. -/
theorem xn_keep (t : Fin cfg0.N) (h0 : ¬t.val % 11 = 0) (j : S1024x1024.Idx) :
    (outsAt0 m c t.val t.isLt).2.1 j
      = (outsAt0 m c (t.val - 1) (Nat.lt_of_le_of_lt (Nat.sub_le _ _) t.isLt)).2.1 j := by
  by_cases h1 : t.val % 11 = 10
  · rw [outsAt0_C m c t h0 h1]
    rfl
  · rw [outsAt0_B m c t h0 h1]
    rfl

/-- The scratch after any point holds the point's normalized rows. -/
theorem xn_at (t : Fin cfg0.N) (r d : Fin 1024) :
    (outsAt0 m c t.val t.isLt).2.1 (ix2 r d) = hid m c (bOf t) (rowOf t r) d := by
  rw [Pipeline.eq_of_write_hold_apply (fun n hn => (outsAt0 m c n hn).2.1) 11
    (fun t j => hid m c (bOf t) (rowOf t (j 0)) (j 1))
    (fun t h j => by idx_vars j; exact xn_first m c t h _ _) (fun t h j => xn_keep m c t h j) t (ix2 r d)]
  have hb : bOf ⟨11 * (t.val / 11), Pipeline.run_start_lt t⟩ = bOf t := Fin.ext (by simp only; omega)
  have hr : rowOf ⟨11 * (t.val / 11), Pipeline.run_start_lt t⟩ r = rowOf t r := Fin.ext (by simp only; omega)
  show hid m c (bOf ⟨11 * (t.val / 11), _⟩) (rowOf ⟨11 * (t.val / 11), _⟩ r) d = _
  rw [hb, hr]

/-! ## The accumulator -/

/-- A point's share of the down projection. -/
def tile (t : Fin cfg0.N) (j : S1024x1024.Idx) : EReal :=
  ∑ k : Fin 256, act m c (bOf t) (rowOf t (j 0)) (fOf t k) * W2 m c (ix2 (fOf t k) (j 1))

/-- The payload that adds a tile, at the point's blocks and rows. -/
theorem pay3_tile (t : Fin cfg0.N) (h : Vec Ideal S1024x1024 .bf16) (acc : Vec Ideal S1024x1024 .f32) (r d : Fin 1024)
    (hh : ∀ k, h (ix2 r k) = hid m c (bOf t) (rowOf t r) k) :
    k0_pay3 (F := Ideal) h (iblk m c 2 t) (iblk m c 3 t) acc (iblk m c 4 t) (ix2 r d) = acc (ix2 r d) + tile m c t (ix2 r d) := by
  refine (pay3_apply h _ _ acc _ r d).trans ?_
  have e2 : ∀ d k, iblk m c 2 t (ix2 d k) = _ := fun d k => blk2 m c t d k
  have e3 : ∀ d k, iblk m c 3 t (ix2 d k) = _ := fun d k => blk3 m c t d k
  have e4 : ∀ k, iblk m c 4 t (ix2 k d) = _ := fun k => blk4 m c t d k
  simp only [e2, e3, e4, hh]
  rfl

theorem acc_first (t : Fin cfg0.N) (h0 : t.val % 11 = 0) (j : S1024x1024.Idx) :
    (outsAt0 m c t.val t.isLt).2.2 j = 0 + tile m c t j := by
  have hx : ∀ r k, (outsAt0 m c t.val t.isLt).2.1 (ix2 r k) = _ := fun r k => xn_first m c t h0 r k
  rw [outsAt0_A m c t h0 (by omega)] at hx ⊢
  dsimp only at hx ⊢
  idx_vars j
  specialize hx j0
  revert hx
  frame_out
  intro hx
  rw [pay3_tile m c t _ _ _ _ hx, pay2_apply]

theorem acc_next (t : Fin cfg0.N) (h0 : ¬t.val % 11 = 0) (j : S1024x1024.Idx) :
    (outsAt0 m c t.val t.isLt).2.2 j
      = (outsAt0 m c (t.val - 1) (Nat.lt_of_le_of_lt (Nat.sub_le _ _) t.isLt)).2.2 j + tile m c t j := by
  have hx : ∀ r k, (outsAt0 m c (t.val - 1) (Nat.lt_of_le_of_lt (Nat.sub_le _ _) t.isLt)).2.1 (ix2 r k) = _ :=
    fun r k => (xn_keep m c t h0 (ix2 r k)).symm.trans (xn_at m c t r k)
  idx_vars j
  by_cases h1 : t.val % 11 = 10
  · rw [outsAt0_C m c t h0 h1]
    dsimp only
    frame_out
    simp only [read_unread_whole]
    exact pay3_tile m c t _ _ _ _ (hx _)
  · rw [outsAt0_B m c t h0 h1]
    dsimp only
    frame_out
    simp only [read_unread_whole]
    exact pay3_tile m c t _ _ _ _ (hx _)

/-- The accumulator at a run's last point: the whole down projection of the point's rows. -/
theorem acc_last (t : Fin cfg0.N) (h1 : t.val % 11 = 10) (r d : Fin 1024) :
    (outsAt0 m c t.val t.isLt).2.2 (ix2 r d)
      = ∑ f : Fin 2816, act m c (bOf t) (rowOf t r) f * W2 m c (ix2 f d) := by
  rw [Pipeline.eq_sum_fin_of_reset_step_apply_of_flush (fun n hn => (outsAt0 m c n hn).2.2) 11 (fun _ => 0) (tile m c)
    (fun t h j => acc_first m c t h j) (fun t h j => acc_next m c t h j) t h1 (ix2 r d)]
  rw [zero_add]
  have key : ∀ t' : Fin cfg0.N, t'.val / 11 = t.val / 11 → ∀ (k : Fin 256) (f : Fin 2816), 256 * (t'.val % 11) + k.val = f.val →
      act m c (bOf t') (rowOf t' r) (fOf t' k) * W2 m c (ix2 (fOf t' k) d)
        = act m c (bOf t) (rowOf t r) f * W2 m c (ix2 f d) := fun t' e k f hf => by
    have hb : bOf t' = bOf t := Fin.ext (by simp only; omega)
    have hr : rowOf t' r = rowOf t r := Fin.ext (by simp only; omega)
    have hk : fOf t' k = f := Fin.ext hf
    rw [hb, hr, hk]
  refine Fin.sum_mul_add_congr (S := 11) (n := 256) fun s k hl => key _ ?_ k _ ?_
  · have := s.isLt; simp only; omega
  · have := s.isLt; simp only; omega

/-- The output block at a run's last point. -/
theorem out_last (t : Fin cfg0.N) (h1 : t.val % 11 = 10) (r d : Fin 1024) :
    (outsAt0 m c t.val t.isLt).1 (ix3 0 r d)
      = X m c (ix3 (bOf t) (rowOf t r) d) + GT m c (ix3 (bOf t) 0 d)
          * ∑ f : Fin 2816, act m c (bOf t) (rowOf t r) f * W2 m c (ix2 f d) := by
  have hacc := acc_last m c t h1 r d
  rw [outsAt0_C m c t (by omega) h1] at hacc ⊢
  dsimp only at hacc ⊢
  revert hacc
  frame_out
  intro hacc
  rw [pay4_apply, hacc]
  have e0 : iblk m c 0 t (ix3 0 r d) = X m c (ix3 (bOf t) (rowOf t r) d) := blk0 m c t r d
  have e2 := (blk1 m c t 2 d).trans (vec2 m c (bOf t) d)
  pointwise
  simp only [e0, e2]

end Cert.Proof.Ffn
-- ==== Proof.Ffn.Value.lean ====
/-
  The dense feed-forward kernel's result array, index by index, and the plain program's: both are the residual plus the
  gate times the down projection of `silu(h · w_gate) · (h · w_up)`, `h` the normalized and modulated row.
-/
module

public import proofs.«01_k».proof.Proof.Ffn.Sweep
public import proofs.«01_k».proof.Proof.Gen.FfnRefIdeal.Run

@[expose] public section

set_option maxRecDepth 16384

noncomputable section

namespace Cert.Proof.Ffn

open Idealize.ShloMosaic Idealize.ShloMosaic.TcCoe
open Cert.FfnIdeal Cert.FfnIdeal.Gen
open scoped BigOperators

variable (m : (ℓ : Loc nD τ sig) → Buf (Elt Ideal) ℓ) (c : Dev nD)

/-- The layer at one index. -/
def layer (b : Fin 2) (l : Fin 16384) (d : Fin 1024) : EReal :=
  X m c (ix3 b l d) + GT m c (ix3 b 0 d) * ∑ f : Fin 2816, act m c b l f * W2 m c (ix2 f d)

theorem result_at (b : Fin 2) (l : Fin 16384) (d : Fin 1024) :
    (Cert.FfnIdeal.Value.G5 m c : Vec Ideal S2x16384x1024 .f32) (ix3 b l d) = layer m c b l d := by
  have hN := N_0
  have hp : Cert.FfnIdeal.Value.pt5Of (ix3 b l d) = 176 * b.val + 11 * (l.val / 1024) + 10 := by
    simp [Cert.FfnIdeal.Value.pt5Of, Cert.FfnIdeal.Value.run5Of]
    omega
  have hlt : Cert.FfnIdeal.Value.pt5Of (ix3 b l d) < cfg0.N := by
    have e : cfg0.N = 352 := hN
    rw [hp, e]; have := b.isLt; have := l.isLt; omega
  unfold Cert.FfnIdeal.Value.G5
  rw [dif_pos hlt, ← Cert.FfnIdeal.Value.outsAt0_sweep]
  have hloc : Cert.FfnIdeal.Value.loc5Of (ix3 b l d) = ix3 0 ⟨l.val % 1024, Nat.mod_lt _ (by decide)⟩ d := by
    funext a; apply Fin.ext
    match a with
    | ⟨0, _⟩ => exact Nat.mod_one _
    | ⟨1, _⟩ => rfl
    | ⟨2, _⟩ => exact Nat.mod_eq_of_lt d.isLt
  rw [hloc]
  have hm : (⟨_, hlt⟩ : Fin cfg0.N).val % 11 = 10 := by simp only [hp]; omega
  refine (out_last m c ⟨_, hlt⟩ hm _ d).trans ?_
  have hb : bOf ⟨_, hlt⟩ = b := Fin.ext (by simp only [hp]; have := l.isLt; omega)
  have hr : rowOf ⟨_, hlt⟩ ⟨l.val % 1024, Nat.mod_lt _ (by decide)⟩ = l :=
    Fin.ext (by simp only [hp]; have := l.isLt; omega)
  rw [hb, hr]
  rfl

/-- The plain program's result at one index, its arguments those of the kernel's launch. -/
theorem ref_at (m' : (ℓ : Loc Cert.FfnRefIdeal.nD Cert.FfnRefIdeal.τ Cert.FfnRefIdeal.sig) → Buf (Elt Ideal) ℓ)
    (c : Dev Cert.FfnRefIdeal.nD)
    (h0 : m' ((c : Thread Cert.FfnRefIdeal.nD Cert.FfnRefIdeal.τ).loc Cert.FfnRefIdeal.main_arg0) = X m c)
    (h1 : m' ((c : Thread Cert.FfnRefIdeal.nD Cert.FfnRefIdeal.τ).loc Cert.FfnRefIdeal.main_arg1) = G m c)
    (h2 : m' ((c : Thread Cert.FfnRefIdeal.nD Cert.FfnRefIdeal.τ).loc Cert.FfnRefIdeal.main_arg2) = SH m c)
    (h3 : m' ((c : Thread Cert.FfnRefIdeal.nD Cert.FfnRefIdeal.τ).loc Cert.FfnRefIdeal.main_arg3) = SC m c)
    (h4 : m' ((c : Thread Cert.FfnRefIdeal.nD Cert.FfnRefIdeal.τ).loc Cert.FfnRefIdeal.main_arg4) = GT m c)
    (h5 : m' ((c : Thread Cert.FfnRefIdeal.nD Cert.FfnRefIdeal.τ).loc Cert.FfnRefIdeal.main_arg5) = W13 m c)
    (h6 : m' ((c : Thread Cert.FfnRefIdeal.nD Cert.FfnRefIdeal.τ).loc Cert.FfnRefIdeal.main_arg6) = W2 m c)
    (b : Fin 2) (l : Fin 16384) (d : Fin 1024) :
    (Cert.FfnRefIdeal.Value.res_main_v27 m' c : Vec Ideal S2x16384x1024 .f32) (ix3 b l d) = layer m c b l d := by
  pointwise [Cert.FfnRefIdeal.Value.res_main_v27]
  simp only [h0, h1, h2, h3, h4, h5, h6, layer, act, unit, hid, rms, Ideal.logistic, mul_assoc]

/-- The two result arrays agree. -/
theorem result_eq (m' : (ℓ : Loc Cert.FfnRefIdeal.nD Cert.FfnRefIdeal.τ Cert.FfnRefIdeal.sig) → Buf (Elt Ideal) ℓ)
    (c : Dev Cert.FfnRefIdeal.nD)
    (h0 : m' ((c : Thread Cert.FfnRefIdeal.nD Cert.FfnRefIdeal.τ).loc Cert.FfnRefIdeal.main_arg0) = X m c)
    (h1 : m' ((c : Thread Cert.FfnRefIdeal.nD Cert.FfnRefIdeal.τ).loc Cert.FfnRefIdeal.main_arg1) = G m c)
    (h2 : m' ((c : Thread Cert.FfnRefIdeal.nD Cert.FfnRefIdeal.τ).loc Cert.FfnRefIdeal.main_arg2) = SH m c)
    (h3 : m' ((c : Thread Cert.FfnRefIdeal.nD Cert.FfnRefIdeal.τ).loc Cert.FfnRefIdeal.main_arg3) = SC m c)
    (h4 : m' ((c : Thread Cert.FfnRefIdeal.nD Cert.FfnRefIdeal.τ).loc Cert.FfnRefIdeal.main_arg4) = GT m c)
    (h5 : m' ((c : Thread Cert.FfnRefIdeal.nD Cert.FfnRefIdeal.τ).loc Cert.FfnRefIdeal.main_arg5) = W13 m c)
    (h6 : m' ((c : Thread Cert.FfnRefIdeal.nD Cert.FfnRefIdeal.τ).loc Cert.FfnRefIdeal.main_arg6) = W2 m c) :
    (Cert.FfnRefIdeal.Value.res_main_v27 m' c : Vec Ideal S2x16384x1024 .f32) = Cert.FfnIdeal.Value.G5 m c := by
  funext j
  idx_vars j
  exact (ref_at m m' c h0 h1 h2 h3 h4 h5 h6 _ _ _).trans (result_at m c _ _ _).symm

end Cert.Proof.Ffn
-- ==== Proof.Moe.Kit.lean ====
module

public import proofs.«01_k».proof.Proof.Gen.MoeIdeal.Launch
public import proofs.«01_k».proof.Proof.Gen.MoeIdeal.Skeleton
public import Idealize.ShloMosaic.Lib.Pipeline.Kit
public import Idealize.ShloMosaic.Lib.Pipeline.FrameBody
public import Idealize.ShloMosaic.Lib.Tactic
public import Idealize.ShloMosaic.Lib.WordCmp

/-! What the run of the expert layer's region is stated over: when its windows move, what the
    buffers hold at its entry, its table, and the conditions of its body as facts of the point. -/

@[expose] public section

set_option maxRecDepth 16384

noncomputable section

namespace Cert.MoeIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MoeIdeal.Gen

variable {F : FTy → Type} [FloatOps F]

local notation "𝕄" => MT nD τ sig Unit (Elt F) ℕ (UR sig nD τ) ℕ

/-- At which points each window is fetched, and at which the output is written back. -/
theorem fetch0_0 (a : (pcfg0 (F := F)).Adm) : ∀ t : Fin (cfg0 a).N, ((cfg0 a).win 0).fetch t = true ↔ t.val % 56 = 0 :=
  (fun t => Pipeline.Window.fetchOf_reads cc0_transform_0 reads0_0 hreads0_0 0 (by decide) (by decide) (Pipeline.Window.sep_of_coord cc0_transform_0 0 0 (fun _ => rfl) (by decide)) (P := 56) (by decide) t : ∀ t : Fin grid0.N, Pipeline.Window.fetchOf grid0 false cc0_transform_0 t = true ↔ t.val % 56 = 0)
theorem fetch0_1 (a : (pcfg0 (F := F)).Adm) : ∀ t : Fin (cfg0 a).N, ((cfg0 a).win 1).fetch t = true ↔ t.val % 7 = 0 :=
  (fun t => Pipeline.Window.fetchOf_reads cc0_transform_1 reads0_1 hreads0_1 1 (by decide) (by decide) (Pipeline.Window.sep_of_coord cc0_transform_1 1 1 (fun _ => rfl) (by decide)) (P := 7) (by decide) t : ∀ t : Fin grid0.N, Pipeline.Window.fetchOf grid0 false cc0_transform_1 t = true ↔ t.val % 7 = 0)
theorem fetch0_2 (a : (pcfg0 (F := F)).Adm) : ∀ t : Fin (cfg0 a).N, ((cfg0 a).win 2).fetch t = true ↔ t.val % 7 = 0 :=
  (fun t => Pipeline.Window.fetchOf_reads cc0_transform_2 reads0_2 hreads0_2 1 (by decide) (by decide) (Pipeline.Window.sep_of_coord cc0_transform_2 1 1 (fun _ => rfl) (by decide)) (P := 7) (by decide) t : ∀ t : Fin grid0.N, Pipeline.Window.fetchOf grid0 false cc0_transform_2 t = true ↔ t.val % 7 = 0)
theorem fetch0_3 (a : (pcfg0 (F := F)).Adm) : ∀ t : Fin (cfg0 a).N, ((cfg0 a).win 3).fetch t = true ↔ t.val % 7 = 0 :=
  (fun t => Pipeline.Window.fetchOf_reads cc0_transform_3 reads0_3 hreads0_3 1 (by decide) (by decide) (Pipeline.Window.sep_of_coord cc0_transform_3 1 1 (fun _ => rfl) (by decide)) (P := 7) (by decide) t : ∀ t : Fin grid0.N, Pipeline.Window.fetchOf grid0 false cc0_transform_3 t = true ↔ t.val % 7 = 0)
theorem fetch0_4 (a : (pcfg0 (F := F)).Adm) : ∀ t : Fin (cfg0 a).N, ((cfg0 a).win 4).fetch t = true :=
  (fun t => (Pipeline.Window.fetchOf_reads cc0_transform_4 reads0_4 hreads0_4 2 (by decide) (by decide) (Pipeline.Window.sep_of_coord cc0_transform_4 2 2 (fun _ => rfl) (by decide)) (P := 1) (by decide) t).mpr (Nat.mod_one _) : ∀ t : Fin grid0.N, Pipeline.Window.fetchOf grid0 false cc0_transform_4 t = true)
theorem fetch0_5 (a : (pcfg0 (F := F)).Adm) : ∀ t : Fin (cfg0 a).N, ((cfg0 a).win 5).fetch t = true :=
  (by decide +kernel : ∀ t : Fin grid0.N, Pipeline.Window.fetchOf grid0 false cc0_transform_5 t = true)
theorem fetch0_6 (a : (pcfg0 (F := F)).Adm) : ∀ t : Fin (cfg0 a).N, ((cfg0 a).win 6).fetch t = true :=
  (fun t => (Pipeline.Window.fetchOf_reads cc0_transform_6 reads0_6 hreads0_6 2 (by decide) (by decide) (Pipeline.Window.sep_of_coord cc0_transform_6 2 1 (fun _ => rfl) (by decide)) (P := 1) (by decide) t).mpr (Nat.mod_one _) : ∀ t : Fin grid0.N, Pipeline.Window.fetchOf grid0 false cc0_transform_6 t = true)
theorem flush0_7 (a : (pcfg0 (F := F)).Adm) : ∀ t : Fin (cfg0 a).N, ((cfg0 a).win 7).flush t = true ↔ t.val % 56 = 55 :=
  (fun t => Pipeline.Window.flushOf_reads cc0_transform_7 reads0_7 hreads0_7 0 (by decide) (by decide) (Pipeline.Window.sep_of_coord cc0_transform_7 0 0 (fun _ => rfl) (by decide)) (P := 56) (m := 55) (by decide) rfl t : ∀ t : Fin grid0.N, Pipeline.Window.flushOf grid0 true cc0_transform_7 t = true ↔ t.val % 56 = 55)

/-- Each window's staging memref at a point, and the body the pipeline runs there. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)

abbrev bodyAt0 (a : (pcfg0 (F := F)).Adm) (t : Fin (cfg0 a).N) : Prog (TpuEff nD τ sig (Elt F) Λ₀ .tc) PUnit :=
  cc0_moe (grid0.coords t) (Memref.whole main_v33) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (Memref.whole cc0_scratch0) (Memref.isWhole_whole _) (Memref.whole cc0_scratch1) (Memref.isWhole_whole _)

variable (m : (ℓ : Loc nD τ sig) → Buf (Elt F) ℓ) (ρ : Dev nD → PrngReg)

/-- What a buffer of the core holds once the host operations have run. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor

set_option maxHeartbeats 800000 in
/-- The program is the host operations and then the one region. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2, hostOps0_3, hostOps0_4, hostOps0_5, hostOps0_6, hostOps0_7, hostOps0_8] (by simp only [List.Forall]; exact ⟨hostOps0_sub, hostOps0_1_sub, hostOps0_2_sub, hostOps0_3_sub, hostOps0_4_sub, hostOps0_5_sub, hostOps0_6_sub, hostOps0_7_sub, hostOps0_8_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh⟩) main_chain

/-- The host operations leave the four arguments as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The table of counts as the region finds it. -/
def tbl : pre0.Contents (Elt F) := fun j => V m (0 : Dev nD) (pre0.ref j)
theorem V_pre (c : Dev nD) (j : Fin 1) : V m c (pre0.ref j) = tbl m j := by
  obtain rfl : c = 0 := Subsingleton.elim _ _; rfl
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

abbrev tbM0_0 : Memref sig .tc .smem S16x8x5 .i32 := Memref.whole main_v33
abbrev htbM0_0 : tbM0_0.IsWhole := Memref.isWhole_whole _

abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-- Each window's block at a point. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- An input's staging buffer holds its block at every point. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- The post of a run, read at the four arguments. -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(Pipeline.RDat.FramePost.arr_in h c 0 rfl).trans ((hA c 0).trans (V_main_arg0 m c)),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c)⟩) h

/-! ### The conditions of the body, as facts of the point -/

theorem hcond1 (t : Fin grid0.N) : k0_cond1 (grid0.coords t) = 1#1 ↔ t.val % 56 = 0 := by
  have ht : t.val < 896 := Nat.lt_of_lt_of_eq t.isLt N_0
  have e0 : (grid0.coords t 0).val = t.val / 56 % 16 := Pipeline.Grid.coords_val t 0 (by decide) rfl
  have e1 : (grid0.coords t 1).val = t.val / 7 % 8 := Pipeline.Grid.coords_val t 1 (by decide) rfl
  have e2 : (grid0.coords t 2).val = t.val / 1 % 7 := Pipeline.Grid.coords_val t 2 (by decide) rfl
  simp only [k0_cond1, e0, e1, e2]
  word_cmp

theorem hcond2 (t : Fin grid0.N) : k0_cond2 (grid0.coords t) = 1#1 ↔ t.val % 7 = 0 := by
  have ht : t.val < 896 := Nat.lt_of_lt_of_eq t.isLt N_0
  have e0 : (grid0.coords t 0).val = t.val / 56 % 16 := Pipeline.Grid.coords_val t 0 (by decide) rfl
  have e1 : (grid0.coords t 1).val = t.val / 7 % 8 := Pipeline.Grid.coords_val t 1 (by decide) rfl
  have e2 : (grid0.coords t 2).val = t.val / 1 % 7 := Pipeline.Grid.coords_val t 2 (by decide) rfl
  simp only [k0_cond2, e0, e1, e2]
  word_cmp

theorem hcond11 (t : Fin grid0.N) : k0_cond11 (grid0.coords t) = 1#1 ↔ t.val % 7 = 0 := by
  have ht : t.val < 896 := Nat.lt_of_lt_of_eq t.isLt N_0
  have e0 : (grid0.coords t 0).val = t.val / 56 % 16 := Pipeline.Grid.coords_val t 0 (by decide) rfl
  have e1 : (grid0.coords t 1).val = t.val / 7 % 8 := Pipeline.Grid.coords_val t 1 (by decide) rfl
  have e2 : (grid0.coords t 2).val = t.val / 1 % 7 := Pipeline.Grid.coords_val t 2 (by decide) rfl
  simp only [k0_cond11, e0, e1, e2]
  word_cmp

theorem hcond13 : ∀ t : Fin grid0.N, k0_cond13 (grid0.coords t) = 1#1 ↔ 1 ≤ t.val % 7 := by decide +kernel

theorem hcond15 (t : Fin grid0.N) : k0_cond15 (grid0.coords t) = 1#1 ↔ t.val % 7 = 6 := by
  have ht : t.val < 896 := Nat.lt_of_lt_of_eq t.isLt N_0
  have e0 : (grid0.coords t 0).val = t.val / 56 % 16 := Pipeline.Grid.coords_val t 0 (by decide) rfl
  have e1 : (grid0.coords t 1).val = t.val / 7 % 8 := Pipeline.Grid.coords_val t 1 (by decide) rfl
  have e2 : (grid0.coords t 2).val = t.val / 1 % 7 := Pipeline.Grid.coords_val t 2 (by decide) rfl
  simp only [k0_cond15, e0, e1, e2]
  word_cmp

theorem liveAt0_0 (hO : Ok m) : ∀ t : Fin (cfgM m hO).N, (cfgM m hO).idle 0 (grid0.coords t) = false :=
  (fun _ => rfl : ∀ t : Fin grid0.N, idle0 0 (grid0.coords t) = false)
theorem liveAt0_1 (hO : Ok m) : ∀ t : Fin (cfgM m hO).N, (cfgM m hO).idle 1 (grid0.coords t) = false :=
  (fun _ => rfl : ∀ t : Fin grid0.N, idle0 1 (grid0.coords t) = false)
theorem liveAt0_2 (hO : Ok m) : ∀ t : Fin (cfgM m hO).N, (cfgM m hO).idle 2 (grid0.coords t) = false :=
  (fun _ => rfl : ∀ t : Fin grid0.N, idle0 2 (grid0.coords t) = false)
theorem liveAt0_3 (hO : Ok m) : ∀ t : Fin (cfgM m hO).N, (cfgM m hO).idle 3 (grid0.coords t) = false :=
  (fun _ => rfl : ∀ t : Fin grid0.N, idle0 3 (grid0.coords t) = false)
theorem liveAt0_4 (hO : Ok m) : ∀ t : Fin (cfgM m hO).N, (cfgM m hO).idle 4 (grid0.coords t) = false :=
  (fun _ => rfl : ∀ t : Fin grid0.N, idle0 4 (grid0.coords t) = false)
theorem liveAt0_5 (hO : Ok m) : ∀ t : Fin (cfgM m hO).N, (cfgM m hO).idle 5 (grid0.coords t) = false :=
  (fun _ => rfl : ∀ t : Fin grid0.N, idle0 5 (grid0.coords t) = false)
theorem liveAt0_6 (hO : Ok m) : ∀ t : Fin (cfgM m hO).N, (cfgM m hO).idle 6 (grid0.coords t) = false :=
  (fun _ => rfl : ∀ t : Fin grid0.N, idle0 6 (grid0.coords t) = false)

abbrev ms0_0 (hO : Ok m) (t : Fin (cfgM m hO).N) : Memref sig .tc .vmem S2048x1024 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1x1x2048 .i32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1x2048x1 .i32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x1x2048x1 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x1024x512 .bf16 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x1024x512 .bf16 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x512x1024 .bf16 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S2048x1024 .f32 := spec0_7.stage ((cfgM m hO).slots t 7)
abbrev hs0_7 (hO : Ok m) (t : Fin (cfgM m hO).N) : (ms0_7 m hO t).IsWhole := hstage0_7 (((cfgM m hO).slots t 7).cast nbuf0_7)
abbrev scM0_0 : Memref sig .tc .vmem S2048x1024 .bf16 := Memref.whole cc0_scratch0
abbrev scM0_1 : Memref sig .tc .vmem S2048x1024 .f32 := Memref.whole cc0_scratch1
abbrev VS0_0 : View sig .tc .vmem S2048x1024 .bf16 := scM0_0.view
abbrev VS0_1 : View sig .tc .vmem S2048x1024 .f32 := scM0_1.view

/-- The scratch buffers held at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.MoeIdeal.Hand
-- ==== Proof.Moe.Sums.lean ====
module

public import Idealize.ShloMosaic.Lib.Routing.Ops
public import Idealize.ShloMosaic.Lib.SortFacts

/-! Integer sums, running sums and a top-two read at an index, at any extents. -/

@[expose] public section

namespace Cert.MoeIdeal.Hand

open Idealize.ShloMosaic Idealize.ShloMosaic.ValueIdx Idealize.ShloMosaic.Routing

/-- A fold of word addition is the sum. -/
theorem fold_addi {ι : Type} (S : Finset ι) (v : BitVec 32) (f : ι → BitVec 32) :
    S.fold IntOp.addi v f = v + ∑ i ∈ S, f i := by
  classical
  induction S using Finset.induction_on with
  | empty => simp
  | insert a S ha ih =>
    rw [Finset.fold_insert ha, ih, Finset.sum_insert ha]
    show f a + (v + _) = _
    rw [← add_assoc, add_comm (f a) v, add_assoc]

/-- An integer sum along one axis, read at an index. -/
theorem reduce_addi_single {s t u : Shape} {a : Fin s.rank} (x : s.Idx → BitVec 32) (init : u.Idx → BitVec 32)
    (h' : s.ReducesTo [a] t) (h : s.Reduces [a] t) (hu : 0 < u.numel) (j : t.Idx) :
    Host.reduce IntOp.addi x init h' hu j = init (Shape.Idx.first hu) + ∑ k : Fin (s.size a), x (h.lift j k) := by
  rw [Host.reduce_eq_fold_single _ x init h' h hu j, fold_addi]
  rfl

/-- A sum of words that hold naturals holds the sum of the naturals. -/
theorem sum_ofNat {ι : Type} (S : Finset ι) (f : ι → ℕ) :
    (∑ i ∈ S, BitVec.ofNat 32 (f i)) = BitVec.ofNat 32 (∑ i ∈ S, f i) := by
  classical
  induction S using Finset.induction_on with
  | empty => rfl
  | insert a S ha ih => rw [Finset.sum_insert ha, Finset.sum_insert ha, ih, BitVec.ofNat_add]

theorem numel3 (N : Nat) : (shape3 1 N 1).numel = N := by
  show ∏ a : Fin 3, (![1, N, 1] : Fin 3 → Nat) a = N
  rw [Fin.prod_univ_three]
  show 1 * N * 1 = N
  omega

/-- Position `n` of a `[1, N, 1]` box is its index `(0, n, 0)`. -/
theorem symm3 {N : Nat} (n : Fin (shape3 1 N 1).numel) :
    (shape3 1 N 1).rowMajor.symm n = ix3 (0 : Fin 1) (n.cast (numel3 N)) (0 : Fin 1) :=
  ((shape3 1 N 1).rowMajor.symm_apply_eq).2 (Fin.ext (by
    rw [Shape.rowMajor_val_three]
    show n.val = (0 * N + n.val) * 1 + 0
    omega))

/-- jnp's `cumsum` along the middle axis of a box, as it prints: where entry `(p, i, q)` holds `f i`, entry
    `(p, j, q)` of the result holds `f 0 + … + f j`. -/
theorem cumsum3 {A N C Nm1 : Nat} (hN : Nm1 + 1 = N) (x : IVec (shape3 A N C) 32) (p : Fin A) (q : Fin C) (f : Nat → Nat)
    (hx : ∀ i : Fin N, x (ix3 p i q) = BitVec.ofNat 32 (f i.val)) (init : IVec shape0 32) (hinit : init ix0 = 0#32)
    (h : (shape3 A N C).ReduceWindows (![1, N, 1] : Fin 3 → Nat) ![1, 1, 1] ![0, Nm1, 0] ![0, 0, 0] (shape3 A N C))
    (hu : 0 < shape0.numel) (j : Fin N) :
    Host.reduceWindow IntOp.addi ![1, N, 1] ![1, 1, 1] ![0, Nm1, 0] ![0, 0, 0] x init h hu (ix3 p j q)
      = BitVec.ofNat 32 ((List.range (j.val + 1)).map f).sum := by
  subst hN
  have hv : init (Shape.Idx.first hu) = BitVec.ofNat 32 0 := (congrArg init (eq_ix0 _)).trans hinit
  have hj := j.isLt
  unfold Host.reduceWindow
  refine (foldl_addi_ofNat _ _ (fun n => if Nm1 ≤ j.val + n.val then f (j.val + n.val - Nm1) else 0) (fun n _ => ?_) _ 0 hv).trans ?_
  · have hw0 : ((shape3 1 (Nm1 + 1) 1).rowMajor.symm n 0).val = 0 := by rw [symm3]; rfl
    have hw : ((shape3 1 (Nm1 + 1) 1).rowMajor.symm n 1).val = n.val := by rw [symm3]; rfl
    have hw2 : ((shape3 1 (Nm1 + 1) 1).rowMajor.symm n 2).val = 0 := by rw [symm3]; rfl
    have hn : n.val < Nm1 + 1 := (n.cast (numel3 _)).isLt
    have hp := p.isLt
    have hq := q.isLt
    dsimp only
    split
    · next hin =>
      have h1 := hin 1
      change Nm1 ≤ j.val * 1 + ((shape3 1 (Nm1 + 1) 1).rowMajor.symm n 1).val
        ∧ j.val * 1 + ((shape3 1 (Nm1 + 1) 1).rowMajor.symm n 1).val - Nm1 < Nm1 + 1 at h1
      rw [hw] at h1
      rw [if_pos (by omega)]
      refine (congrArg x (funext fun a => Fin.ext ?_)).trans (hx ⟨j.val + n.val - Nm1, by omega⟩)
      match a with
      | ⟨0, _⟩ =>
        show p.val * 1 + ((shape3 1 (Nm1 + 1) 1).rowMajor.symm n 0).val - 0 = p.val
        rw [hw0]; omega
      | ⟨1, _⟩ =>
        show j.val * 1 + ((shape3 1 (Nm1 + 1) 1).rowMajor.symm n 1).val - Nm1 = j.val + n.val - Nm1
        rw [hw, Nat.mul_one]
      | ⟨2, _⟩ =>
        show q.val * 1 + ((shape3 1 (Nm1 + 1) 1).rowMajor.symm n 2).val - 0 = q.val
        rw [hw2]; omega
    · next hin =>
      rw [if_neg fun hle => hin fun a => by
        match a with
        | ⟨0, _⟩ =>
          show 0 ≤ p.val * 1 + ((shape3 1 (Nm1 + 1) 1).rowMajor.symm n 0).val
            ∧ p.val * 1 + ((shape3 1 (Nm1 + 1) 1).rowMajor.symm n 0).val - 0 < A
          rw [hw0]
          omega
        | ⟨1, _⟩ =>
          show Nm1 ≤ j.val * 1 + ((shape3 1 (Nm1 + 1) 1).rowMajor.symm n 1).val
            ∧ j.val * 1 + ((shape3 1 (Nm1 + 1) 1).rowMajor.symm n 1).val - Nm1 < Nm1 + 1
          rw [hw]
          omega
        | ⟨2, _⟩ =>
          show 0 ≤ q.val * 1 + ((shape3 1 (Nm1 + 1) 1).rowMajor.symm n 2).val
            ∧ q.val * 1 + ((shape3 1 (Nm1 + 1) 1).rowMajor.symm n 2).val - 0 < C
          rw [hw2]
          omega]
      exact hv
  · rw [Nat.zero_add, map_finRange_val _ (fun w => if Nm1 ≤ j.val + w then f (j.val + w - Nm1) else 0)]
    exact congrArg (BitVec.ofNat 32) ((congrArg (fun M => ((List.range M).map fun w => if Nm1 ≤ j.val + w then f (j.val + w - Nm1) else 0).sum)
      (numel3 (Nm1 + 1))).trans (sum_window f Nm1 j.val (by omega)))

/-! ### The places of the greatest entries of a row -/

/-- The column at which the `k`-th greatest entry of row `i` stands, equal entries in the order of their columns. -/
def pick {α : Type} {n w : ℕ} (gt : α → α → BitVec 1) (x : (shape2 n w).Idx → α) (i : Fin n) (k : Fin w) : Fin w :=
  sortedFrom (fun a b => gt (x (ix2 i a)) (x (ix2 i b)) == 1#1) k

/-- Two places in the order have different columns. -/
theorem pick_inj {α : Type} {n w : ℕ} (gt : α → α → BitVec 1) (x : (shape2 n w).Idx → α) (i : Fin n) :
    Function.Injective (pick gt x i) := sortedFrom_injective _

theorem along_ix2 {n w : ℕ} (i : Fin n) (k c : Fin w) :
    Shape.Idx.along (s := shape2 n w) (ix2 i k) (1 : Fin 2) c = ix2 i c := by
  funext a
  match a with
  | ⟨0, _⟩ => exact Function.update_of_ne (fun e => absurd (congrArg Fin.val e) (Nat.zero_ne_one)) _ _
  | ⟨1, _⟩ => exact Function.update_self _ _ _

/-- A stable sort of the rows of a matrix with a second one carried, read at an index. -/
theorem sort2_rows {α β : Type} {n w : ℕ} (cmp : α × β → α × β → BitVec 1) (x : (shape2 n w).Idx → α)
    (y : (shape2 n w).Idx → β) (i : Fin n) (k : Fin w) :
    (Host.sort2 (shape2 n w) 1 cmp x y).2 (ix2 i k)
      = y (ix2 i (sortedFrom (fun a b => cmp (x (ix2 i a), y (ix2 i a)) (x (ix2 i b), y (ix2 i b)) == 1#1) k)) := by
  unfold Host.sort2
  rw [dif_pos (show 1 < (shape2 n w).rank from Nat.lt_succ_self 1)]
  show y (Shape.Idx.along (s := shape2 n w) (ix2 i k) (1 : Fin 2) _) = _
  refine (congrArg y (along_ix2 i k _)).trans ?_
  refine congrArg (fun g : Fin w → Fin w → Bool => y (ix2 i (sortedFrom g k))) ?_
  funext a b
  have hp : ∀ c : Fin w, ((x (Shape.Idx.along (s := shape2 n w) (ix2 i k) (1 : Fin 2) c),
      y (Shape.Idx.along (s := shape2 n w) (ix2 i k) (1 : Fin 2) c)) : α × β) = (x (ix2 i c), y (ix2 i c)) :=
    fun c => by rw [along_ix2]
  exact congrArg₂ (fun p q : α × β => (cmp p q == 1#1)) (hp a) (hp b)

/-- The columns that a top-`m` of a row's `w` entries returns. -/
theorem topK_snd {α : Type} {n w m : ℕ} (hm : m ≤ w) (gt : α → α → BitVec 1) (x : (shape2 n w).Idx → α)
    (h : (shape2 n w).Slices (fun _ => 0) (shape2 n m)) (i : Fin n) (k : Fin m) :
    (Host.topK (shape2 n m) 1 gt x h).2 (ix2 i k) = BitVec.ofNat 32 (pick gt x i ⟨k.val, by have := k.isLt; omega⟩).val := by
  have hk : k.val < w := by have := k.isLt; omega
  have hj : (fun a : Fin 2 => (⟨0 + ((ix2 i k : (shape2 n m).Idx) (a.cast h.1.symm)).val,
      Nat.lt_of_lt_of_le (Nat.add_lt_add_left ((ix2 i k : (shape2 n m).Idx) _).isLt _) (h.2 a)⟩ : Fin ((shape2 n w).size a)))
      = (ix2 i ⟨k.val, hk⟩ : (shape2 n w).Idx) := by
    funext a
    match a with
    | ⟨0, _⟩ => exact Fin.ext (Nat.zero_add _)
    | ⟨1, _⟩ => exact Fin.ext (Nat.zero_add _)
  unfold Host.topK extractStridedSlice
  refine (congrArg (Host.sort2 (shape2 n w) 1 (fun l r => gt l.1 r.1) x
    (fun i => if hd : 1 < (shape2 n w).rank then iotaInDim (shape2 n w) 32 ⟨1, hd⟩ i else 0#32)).2 hj).trans ?_
  rw [sort2_rows]
  rfl

end Cert.MoeIdeal.Hand
-- ==== Proof.Moe.Host.lean ====
module

public import proofs.«01_k».proof.Proof.Moe.Kit
public import proofs.«01_k».proof.Proof.Moe.Sums
public import Idealize.ShloMosaic.Lib.StableHlo.RunRead

/-! What the host operations before the region compute from the logits: which experts a row takes, each
    row's place among the rows of its slab that take the expert, and the table of counts. -/

@[expose] public section

set_option maxRecDepth 16384
set_option maxHeartbeats 163840

noncomputable section

namespace Cert.MoeIdeal.Hand

open Idealize.ShloMosaic Idealize.ShloMosaic.TcCoe Idealize.ShloMosaic.ValueIdx Idealize.ShloMosaic.Tactic
open Cert.MoeIdeal.Gen

variable {F : FTy → Type} [FloatOps F]

/-- The two experts of each row, as words. -/
def idxOf (l : Vec F S32768x8 .f32) : IVec S32768x2 32 :=
  (Host.topK S32768x2 1 (FloatOps.cmpfTotal .gt) l sliceFits_S32768x8_S32768x2).2

/-- One where the row's `k`-th expert is `e`, zero elsewhere. -/
def hotOf (l : Vec F S32768x8 .f32) : Vec F S32768x2x8 .f32 :=
  uitofp .f32 (cmpi .eq
    (broadcastInDim S32768x2x8 ![0, 1, 2] bcast_S32768x2x1_S32768x2x8_0_1_2
      (broadcastInDim S32768x2x1 ![0, 1] bcast_S32768x2_S32768x2x1_0_1 (idxOf l)))
    (broadcastInDim S32768x2x8 ![0, 1, 2] bcast_S1x1x8_S32768x2x8_0_1_2 (iotaInDim S1x1x8 32 2)))

/-- One where the row takes the expert, zero elsewhere. -/
def selOf (l : Vec F S32768x8 .f32) : IVec S16x2048x8 32 :=
  shapeCast S16x2048x8 (Host.reduce IntOp.addi (fptosi 32 (hotOf l)) (constantI S_ 32 0#32) reducesTo_S32768x2x8_S32768x8_d1 h_S_)
    shapeCasts_S32768x8_S16x2048x8

/-- A row's place among the rows of its slab that take the expert; -1 where it does not take it. -/
def rankOf (s : IVec S16x2048x8 32) : IVec S16x8x2048 32 :=
  transpose S16x8x2048 [0, 2, 1]
    (select (cmpi .sgt s (broadcastInDim S16x2048x8 ![] bcast_S_S16x2048x8 (constantI S_ 32 0#32)))
      (subi (Host.reduceWindow IntOp.addi ![1, 2048, 1] ![1, 1, 1] ![0, 2047, 0] ![0, 0, 0] s
          (broadcastInDim S_ ![] bcast_S_S_ (constantI S_ 32 0#32)) reduceWindows_S16x2048x8_S16x2048x8_w1s1p0_0_w2048s1p2047_0_w1s1p0_0 h_S_) s)
      (broadcastInDim S16x2048x8 ![] bcast_S_S16x2048x8 (constantI S_ 32 4294967295#32)))
    transposes_S16x2048x8_S16x8x2048_0_2_1

/-- A row of zeros above four rows of running counts. -/
def stackOf (z : IVec S16x1x8 32) (r : IVec S16x4x8 32) : IVec S16x5x8 32 :=
  concatenate S16x5x8 1 [⟨S16x1x8, z⟩, ⟨S16x4x8, r⟩] concatenates_S16x1x8_S16x4x8_S16x5x8_d1

/-- How many rows of the slab take the expert before each multiple of 512. -/
def tableOf (s : IVec S16x2048x8 32) : IVec S16x8x5 32 :=
  transpose S16x8x5 [0, 2, 1]
    (stackOf (broadcastInDim S16x1x8 ![] bcast_S_S16x1x8 (constantI S_ 32 0#32))
      (Host.reduceWindow IntOp.addi ![1, 4, 1] ![1, 1, 1] ![0, 3, 0] ![0, 0, 0]
        (Host.reduce IntOp.addi (shapeCast S16x4x512x8 s shapeCasts_S16x2048x8_S16x4x512x8) (constantI S_ 32 0#32) reducesTo_S16x4x512x8_S16x4x8_d2 h_S_)
        (broadcastInDim S_ ![] bcast_S_S_ (constantI S_ 32 0#32)) reduceWindows_S16x4x8_S16x4x8_w1s1p0_0_w4s1p3_0_w1s1p0_0 h_S_))
    transposes_S16x5x8_S16x8x5_0_2_1

variable (m : (ℓ : Loc nD τ sig) → Buf (Elt F) ℓ) (c : Dev nD)

/-- The logits. -/
abbrev LG : Vec F S32768x8 .f32 := m ((c : Thread nD τ).loc main_arg1)

theorem V_sel : (V m c main_v16 : IVec S16x2048x8 32) = selOf (LG m c) := by
  simp only [V]
  after_reads_simp
  try simp only [StableHlo.TRef.ofBuf_toBuf]
  try simp -implicitDefEqProofs only [StableHlo.TRef.toBuf, StableHlo.TRef.ofBuf, cast_cast, cast_eq]
  rfl

theorem V_table : (V m c main_v33 : IVec S16x8x5 32) = tableOf (selOf (LG m c)) := by
  simp only [V]
  after_reads_simp
  try simp only [StableHlo.TRef.ofBuf_toBuf]
  try simp -implicitDefEqProofs only [StableHlo.TRef.toBuf, StableHlo.TRef.ofBuf, cast_cast, cast_eq]
  refine (congrArg (transpose S16x8x5 [0, 2, 1] · transposes_S16x5x8_S16x8x5_0_2_1) (?_ : stackOf _ _ = _))
  after_reads_simp
  try simp only [StableHlo.TRef.ofBuf_toBuf]
  try simp -implicitDefEqProofs only [StableHlo.TRef.toBuf, StableHlo.TRef.ofBuf, cast_cast, cast_eq]
  rfl

theorem V_rank : (V m c main_v27 : IVec S16x8x2048 32) = rankOf (selOf (LG m c)) := by
  simp only [V]
  after_reads_simp
  try simp only [StableHlo.TRef.ofBuf_toBuf]
  try simp -implicitDefEqProofs only [StableHlo.TRef.toBuf, StableHlo.TRef.ofBuf, cast_cast, cast_eq]
  rfl

theorem V_rrow : (V m c main_v36 : IVec S16x8x1x2048 32)
    = broadcastInDim S16x8x1x2048 ![0, 1, 3] bcast_S16x8x2048_S16x8x1x2048_0_1_3 (rankOf (selOf (LG m c))) := by
  simp only [V]
  after_reads_simp
  try simp only [StableHlo.TRef.ofBuf_toBuf]
  try simp -implicitDefEqProofs only [StableHlo.TRef.toBuf, StableHlo.TRef.ofBuf, cast_cast, cast_eq]
  rfl

theorem V_rcol : (V m c main_v37 : IVec S16x8x2048x1 32)
    = broadcastInDim S16x8x2048x1 ![0, 1, 2] bcast_S16x8x2048_S16x8x2048x1_0_1_2 (rankOf (selOf (LG m c))) := by
  simp only [V]
  after_reads_simp
  try simp only [StableHlo.TRef.ofBuf_toBuf]
  try simp -implicitDefEqProofs only [StableHlo.TRef.toBuf, StableHlo.TRef.ofBuf, cast_cast, cast_eq]
  rfl

end Cert.MoeIdeal.Hand
-- ==== Proof.Moe.Counts.lean ====
module

public import proofs.«01_k».proof.Proof.Moe.Host
public import Idealize.ShloMosaic.Lib.Routing.BitFacts
public import Idealize.ShloMosaic.Lib.Pointwise

/-! The routing words as counts: `took l n e` says that row `n` takes expert `e`, `before l s e r` how many of
    the first `r` rows of slab `s` do. -/

@[expose] public section

set_option maxRecDepth 16384
set_option maxHeartbeats 4000000

noncomputable section

namespace Cert.MoeIdeal.Hand

open Idealize.ShloMosaic hiding ix1 ix2 ix3 ix4
open Idealize.ShloMosaic.TcCoe Idealize.ShloMosaic.ValueIdx Idealize.ShloMosaic.Tactic
open Cert.MoeIdeal.Gen

variable {F : FTy → Type} [FloatOps F]

/-- The row's `k`-th expert. -/
def choice (l : Vec F S32768x8 .f32) (n : Fin 32768) (k : Fin 2) : Fin 8 :=
  pick (FloatOps.cmpfTotal .gt) (l : (Routing.shape2 32768 8).Idx → F .f32) n ⟨k.val, by have := k.isLt; omega⟩

theorem choice_ne (l : Vec F S32768x8 .f32) (n : Fin 32768) : choice l n 0 ≠ choice l n 1 := fun h =>
  absurd (congrArg Fin.val (pick_inj _ _ _ h)) (by decide)

/-- Row `n` takes expert `e`. -/
def took (l : Vec F S32768x8 .f32) (n : Fin 32768) (e : Fin 8) : Prop := choice l n 0 = e ∨ choice l n 1 = e

instance (l : Vec F S32768x8 .f32) (n : Fin 32768) (e : Fin 8) : Decidable (took l n e) := by
  unfold took; infer_instance

theorem idxOf_at (l : Vec F S32768x8 .f32) (n : Fin 32768) (k : Fin 2) :
    idxOf l (ix2 n k) = BitVec.ofNat 32 (choice l n k).val := by
  have h := topK_snd (n := 32768) (w := 8) (m := 2) (by decide) (FloatOps.cmpfTotal (F := F) (φ := .f32) .gt) l
    sliceFits_S32768x8_S32768x2 n k
  unfold idxOf choice
  exact h

theorem ofNat_eq_iff {a b : ℕ} (ha : a < 8) (hb : b < 8) : BitVec.ofNat 32 a = BitVec.ofNat 32 b ↔ a = b := by
  constructor
  · intro h
    have := congrArg BitVec.toNat h
    simp only [BitVec.toNat_ofNat] at this
    omega
  · exact fun h => h ▸ rfl

/-- A one-bit word cast to a float and back is the word. -/
def CastOk (F : FTy → Type) [FloatOps F] : Prop :=
  ∀ b : BitVec 1, (FloatOps.fptosi 32 (FloatOps.uitofp .f32 b : F .f32) : BitVec 32) = b.setWidth 32

theorem idxOf_hot (l : Vec F S32768x8 .f32) (n : Fin 32768) (k : Fin 2) (e : Fin 8) :
    (broadcastInDim S32768x2x8 ![0, 1, 2] bcast_S32768x2x1_S32768x2x8_0_1_2
      (broadcastInDim S32768x2x1 ![0, 1] bcast_S32768x2_S32768x2x1_0_1 (idxOf l))) (ix3 n k e) = idxOf l (ix2 n k) := by
  refine (broadcastInDim_apply _ _ _ _ (ix3 n k (0 : Fin 1)) fun a => ?_).trans (broadcastInDim_apply _ _ _ _ (ix2 n k) fun a => ?_)
  · match a with
    | ⟨0, _⟩ => rfl
    | ⟨1, _⟩ => rfl
    | ⟨2, _⟩ => rfl
  · match a with
    | ⟨0, _⟩ => rfl
    | ⟨1, _⟩ => rfl

theorem iota_hot (n : Fin 32768) (k : Fin 2) (e : Fin 8) :
    (broadcastInDim S32768x2x8 ![0, 1, 2] bcast_S1x1x8_S32768x2x8_0_1_2 (iotaInDim S1x1x8 32 2)) (ix3 n k e)
      = BitVec.ofNat 32 e.val := by
  refine (broadcastInDim_apply _ _ _ _ (ix3 (0 : Fin 1) (0 : Fin 1) e) fun a => ?_).trans rfl
  match a with
  | ⟨0, _⟩ => rfl
  | ⟨1, _⟩ => rfl
  | ⟨2, _⟩ => rfl

theorem hot_word (hc : CastOk F) (l : Vec F S32768x8 .f32) (n : Fin 32768) (k : Fin 2) (e : Fin 8) :
    (fptosi 32 (hotOf l) : IVec S32768x2x8 32) (ix3 n k e) = BitVec.ofNat 32 (if choice l n k = e then 1 else 0) := by
  refine (hc _).trans ?_
  show BitVec.setWidth 32 (IntOp.cmpi .eq _ _) = _
  rw [idxOf_hot, iota_hot, idxOf_at]
  by_cases h : choice l n k = e
  · rw [h, if_pos rfl]; simp [IntOp.cmpi]
  · rw [if_neg h]
    have : ¬ BitVec.ofNat 32 (choice l n k).val = BitVec.ofNat 32 e.val := fun q =>
      h (Fin.ext ((ofNat_eq_iff (choice l n k).isLt e.isLt).mp q))
    show BitVec.setWidth 32 (BitVec.ofBool (BitVec.ofNat 32 (choice l n k).val == BitVec.ofNat 32 e.val)) = _
    rw [show (BitVec.ofNat 32 (choice l n k).val == BitVec.ofNat 32 e.val) = false from beq_false_of_ne this]
    rfl

/-- The `r`-th row of slab `s`. -/
def rowAt (s : Fin 16) (r : ℕ) : Fin 32768 := ⟨(2048 * s.val + r) % 32768, Nat.mod_lt _ (by decide)⟩

/-- The `r`-th row of slab `s` takes expert `e`. -/
def tookAt (l : Vec F S32768x8 .f32) (s : Fin 16) (e : Fin 8) (r : ℕ) : Prop := took l (rowAt s r) e

instance (l : Vec F S32768x8 .f32) (s : Fin 16) (e : Fin 8) : DecidablePred (tookAt l s e) := fun r => by
  unfold tookAt; infer_instance

/-- How many of the first `r` rows of slab `s` take expert `e`. -/
def before (l : Vec F S32768x8 .f32) (s : Fin 16) (e : Fin 8) (r : ℕ) : ℕ := Nat.count (tookAt l s e) r

theorem before_le (l : Vec F S32768x8 .f32) (s : Fin 16) (e : Fin 8) (r : ℕ) : before l s e r ≤ r := Nat.count_le _

theorem sel_word (hc : CastOk F) (l : Vec F S32768x8 .f32) (s : Fin 16) (r : Fin 2048) (e : Fin 8) :
    selOf l (ix3 s r e) = BitVec.ofNat 32 (if tookAt l s e r.val then 1 else 0) := by
  have h : selOf l (ix3 s r e) = (Host.reduce IntOp.addi (fptosi 32 (hotOf l)) (constantI S_ 32 0#32)
      reducesTo_S32768x2x8_S32768x8_d1 h_S_) (ix2 (rowAt s r.val) e) := by
    unfold selOf
    refine shapeCast_apply _ _ _ _ ?_
    rw [Shape.rowMajor_val_three, Shape.rowMajor_val_two]
    show (2048 * s.val + r.val) % 32768 * 8 + e.val = (s.val * 2048 + r.val) * 8 + e.val
    have := s.isLt; have := r.isLt
    omega
  have hR : S32768x2x8.Reduces [1] S32768x8 :=
    ⟨reducesTo_S32768x2x8_S32768x8_d1.1, Nat.succ_pos 1, reducesTo_S32768x2x8_S32768x8_d1.2⟩
  have hl : ∀ k : Fin 2, hR.lift (ix2 (rowAt s r.val) e) k = ix3 (rowAt s r.val) k e := fun k => by
    funext a
    match a with
    | ⟨0, _⟩ => rfl
    | ⟨1, _⟩ => rfl
    | ⟨2, _⟩ => rfl
  rw [h, reduce_addi_single _ _ reducesTo_S32768x2x8_S32768x8_d1 hR]
  show (0#32 : BitVec 32) + ∑ k : Fin 2, (fptosi 32 (hotOf l) : IVec S32768x2x8 32) (hR.lift _ k) = _
  rw [Fin.sum_univ_two, hl, hl, hot_word hc, hot_word hc]
  have hne := choice_ne l (rowAt s r.val)
  unfold tookAt took
  by_cases h0 : choice l (rowAt s r.val) 0 = e
  · have h1 : ¬ choice l (rowAt s r.val) 1 = e := fun q => hne (h0.trans q.symm)
    simp [h0, h1]
  · by_cases h1 : choice l (rowAt s r.val) 1 = e <;> simp [h0, h1]

theorem running (l : Vec F S32768x8 .f32) (s : Fin 16) (e : Fin 8) (n : ℕ) :
    ((List.range n).map fun r => if tookAt l s e r then 1 else 0).sum = before l s e n :=
  Routing.sum_map_ite _ _

/-- A row's place: how many rows of its slab before it take the expert. -/
theorem rank_word (hc : CastOk F) (l : Vec F S32768x8 .f32) (s : Fin 16) (e : Fin 8) (r : Fin 2048) :
    rankOf (selOf l) (ix3 s e r) = if tookAt l s e r.val then BitVec.ofNat 32 (before l s e r.val) else 4294967295#32 := by
  have hs := sel_word hc l s r e
  have hcum := cumsum3 (A := 16) (N := 2048) (C := 8) (Nm1 := 2047) rfl (selOf l) s e
    (fun r => if tookAt l s e r then 1 else 0) (fun i => sel_word hc l s i e)
    (broadcastInDim S_ ![] bcast_S_S_ (constantI S_ 32 0#32)) rfl
    reduceWindows_S16x2048x8_S16x2048x8_w1s1p0_0_w2048s1p2047_0_w1s1p0_0 h_S_ r
  rw [running] at hcum
  have ht : rankOf (selOf l) (ix3 s e r) = Scalar.select (IntOp.cmpi .sgt (selOf l (ix3 s r e)) 0#32)
      (IntOp.subi (Host.reduceWindow IntOp.addi ![1, 2048, 1] ![1, 1, 1] ![0, 2047, 0] ![0, 0, 0] (selOf l)
          (broadcastInDim S_ ![] bcast_S_S_ (constantI S_ 32 0#32)) reduceWindows_S16x2048x8_S16x2048x8_w1s1p0_0_w2048s1p2047_0_w1s1p0_0 h_S_ (ix3 s r e))
        (selOf l (ix3 s r e))) 4294967295#32 := by
    unfold rankOf
    refine (transpose_apply _ _ _ _ (ix3 s r e) fun a => ?_).trans rfl
    match a with
    | ⟨0, _⟩ => rfl
    | ⟨1, _⟩ => rfl
    | ⟨2, _⟩ => rfl
  rw [ht, hs, hcum]
  by_cases h : tookAt l s e r.val
  · rw [if_pos h, if_pos h]
    have hb : before l s e (r.val + 1) = before l s e r.val + 1 := by
      unfold before; rw [Nat.count_succ, if_pos h]
    rw [hb, BitVec.ofNat_add]
    show (BitVec.ofNat 32 (before l s e r.val) + 1#32) - 1#32 = _
    exact BitVec.add_sub_cancel _ _
  · rw [if_neg h, if_neg h]
    rfl

theorem count_sum (p : ℕ → Prop) [DecidablePred p] (n : ℕ) :
    (∑ k ∈ Finset.range n, if p k then 1 else 0) = Nat.count p n := by
  rw [← Finset.card_filter, Nat.count_eq_card_filter_range]

/-- How many of the 512 rows from `512 q` on take the expert. -/
theorem slab_word (hc : CastOk F) (l : Vec F S32768x8 .f32) (s : Fin 16) (q : Fin 4) (e : Fin 8) :
    (Host.reduce IntOp.addi (shapeCast S16x4x512x8 (selOf l) shapeCasts_S16x2048x8_S16x4x512x8) (constantI S_ 32 0#32)
      reducesTo_S16x4x512x8_S16x4x8_d2 h_S_) (ix3 s q e)
      = BitVec.ofNat 32 (Nat.count (fun r => tookAt l s e (512 * q.val + r)) 512) := by
  have hR : S16x4x512x8.Reduces [2] S16x4x8 :=
    ⟨reducesTo_S16x4x512x8_S16x4x8_d2.1, Nat.succ_pos 2, reducesTo_S16x4x512x8_S16x4x8_d2.2⟩
  have hl : ∀ k : Fin 512, (shapeCast S16x4x512x8 (selOf l) shapeCasts_S16x2048x8_S16x4x512x8 : IVec S16x4x512x8 32) (hR.lift (ix3 s q e) k)
      = BitVec.ofNat 32 (if tookAt l s e (512 * q.val + k.val) then 1 else 0) := fun k => by
    have h4 : hR.lift (ix3 s q e) k = ix4 s q k e := by
      funext a
      match a with
      | ⟨0, _⟩ => rfl
      | ⟨1, _⟩ => rfl
      | ⟨2, _⟩ => rfl
      | ⟨3, _⟩ => rfl
    rw [h4]
    refine (shapeCast_apply _ _ _ (ix3 s ⟨512 * q.val + k.val, by have := q.isLt; have := k.isLt; omega⟩ e) ?_).trans
      (sel_word hc l s _ e)
    rw [Shape.rowMajor_val_three, Shape.rowMajor_val_four]
    show (s.val * 2048 + (512 * q.val + k.val)) * 8 + e.val = ((s.val * 4 + q.val) * 512 + k.val) * 8 + e.val
    ring
  rw [reduce_addi_single _ _ reducesTo_S16x4x512x8_S16x4x8_d2 hR]
  refine (congrArg (fun z : BitVec 32 => 0#32 + z) ((Finset.sum_congr rfl fun k _ => hl k).trans (sum_ofNat _ _))).trans ?_
  refine (BitVec.zero_add _).trans (congrArg (BitVec.ofNat 32) ?_)
  exact (Fin.sum_univ_eq_sum_range (fun r => if tookAt l s e (512 * q.val + r) then 1 else 0) 512).trans
    (count_sum _ _)

theorem slabs (l : Vec F S32768x8 .f32) (s : Fin 16) (e : Fin 8) (n : ℕ) :
    ((List.range n).map fun q => Nat.count (fun r => tookAt l s e (512 * q + r)) 512).sum = before l s e (512 * n) := by
  induction n with
  | zero => rfl
  | succ n ih =>
    rw [List.range_succ, List.map_append, List.sum_append, ih]
    unfold before
    rw [Nat.mul_succ, Nat.count_add]
    simp

/-- The table's words: how many rows take the expert before each multiple of 512. -/
theorem table_word (hc : CastOk F) (l : Vec F S32768x8 .f32) (s : Fin 16) (e : Fin 8) (j : Fin 5) :
    tableOf (selOf l) (ix3 s e j) = BitVec.ofNat 32 (before l s e (512 * j.val)) := by
  unfold tableOf
  refine (transpose_apply _ _ _ _ (ix3 s j e) fun a => ?_).trans ?_
  · match a with
    | ⟨0, _⟩ => rfl
    | ⟨1, _⟩ => rfl
    | ⟨2, _⟩ => rfl
  by_cases hj : j.val = 0
  · obtain rfl : j = 0 := Fin.ext hj
    exact rfl
  · have hq : j.val - 1 < 4 := by have := j.isLt; omega
    have hcum := cumsum3 (A := 16) (N := 4) (C := 8) (Nm1 := 3) rfl
      (Host.reduce IntOp.addi (shapeCast S16x4x512x8 (selOf l) shapeCasts_S16x2048x8_S16x4x512x8) (constantI S_ 32 0#32)
        reducesTo_S16x4x512x8_S16x4x8_d2 h_S_) s e
      (fun q => Nat.count (fun r => tookAt l s e (512 * q + r)) 512) (fun i => slab_word hc l s i e)
      (broadcastInDim S_ ![] bcast_S_S_ (constantI S_ 32 0#32)) rfl
      reduceWindows_S16x4x8_S16x4x8_w1s1p0_0_w4s1p3_0_w1s1p0_0 h_S_ ⟨j.val - 1, hq⟩
    rw [slabs, show (⟨j.val - 1, hq⟩ : Fin 4).val + 1 = j.val from by show j.val - 1 + 1 = j.val; omega] at hcum
    refine Eq.trans ?_ hcum
    unfold stackOf
    refine concatenate_pair_apply_right (s₁ := S16x1x8) (s₂ := S16x4x8) _ _ _ _ (ix3 s j e) rfl rfl (ix3 s (⟨j.val - 1, hq⟩ : Fin 4) e : S16x4x8.Idx) (fun b hb => ?_) ?_
    · match b, hb with
      | ⟨0, _⟩, _ => rfl
      | ⟨1, _⟩, hb => exact absurd rfl hb
      | ⟨2, _⟩, _ => rfl
    · show j.val - 1 + 1 = j.val
      omega

end Cert.MoeIdeal.Hand
-- ==== Proof.Moe.Loops.lean ====
module

public import proofs.«01_k».proof.Proof.Gen.MoeIdeal.Launch
public import proofs.«01_k».proof.Proof.Gen.MoeIdeal.Skeleton
public import proofs.«01_k».proof.Proof.Gen.MoeIdeal.Loops
public import Idealize.ShloMosaic.Lib.LoopRemainder

@[expose] public section

set_option maxRecDepth 8192
set_option maxHeartbeats 4000000

noncomputable section

namespace Cert.MoeIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.MoeIdeal.Gen

variable {F : FTy → Type} [FloatOps F]

local notation "𝕄" => MT nD τ sig Unit (Elt F) ℕ (UR sig nD τ) ℕ

variable (𝒱 : Variants) (c : Dev nD) (bd : Option 𝒱.V) (i : grid0.Coords)
  (arg3 : Memref sig .tc .smem S16x8x5 .i32) (harg3 : arg3.IsWhole) (arg4 : Memref sig .tc .vmem S2048x1024 .bf16) (harg4 : arg4.IsWhole)
  (arg5 : Memref sig .tc .vmem S1x1x1x2048 .i32) (harg5 : arg5.IsWhole) (arg6 : Memref sig .tc .vmem S1x1x2048x1 .i32) (harg6 : arg6.IsWhole)
  (arg7 : Memref sig .tc .vmem S1x1x2048x1 .f32) (harg7 : arg7.IsWhole) (arg8 : Memref sig .tc .vmem S1x1024x512 .bf16) (harg8 : arg8.IsWhole)
  (arg9 : Memref sig .tc .vmem S1x1024x512 .bf16) (harg9 : arg9.IsWhole) (arg10 : Memref sig .tc .vmem S1x512x1024 .bf16) (harg10 : arg10.IsWhole)
  (arg11 : Memref sig .tc .vmem S2048x1024 .f32) (harg11 : arg11.IsWhole) (arg12 : Memref sig .tc .vmem S2048x1024 .bf16) (harg12 : arg12.IsWhole)
  (arg13 : Memref sig .tc .vmem S2048x1024 .f32) (harg13 : arg13.IsWhole)

/-- A value taken through the first `k` of `n` steps, one per trip of a loop. -/
def iter {α : Type} {n : ℕ} (step : Fin n → α → α) (a : α) : ℕ → α
  | 0 => a
  | k + 1 => if h : k < n then step ⟨k, h⟩ (iter step a k) else iter step a k

theorem iter_succ {α : Type} {n : ℕ} (step : Fin n → α → α) (a : α) (k : Fin n) :
    iter step a (k.val + 1) = step k (iter step a k.val) := dif_pos k.isLt

/-- A memref's buffer held whole at contents `f`. -/
abbrev pt {sp : Space} {S : Shape} {e : EltTy} (M : Memref sig .tc sp S e) (f : BufTy.Contents (Elt F) M.view.ty) : sProp 𝕄 :=
  (M.view.loc (c : Thread nD τ) ↦[M.view.set]{fullShare} f)

/-- The prefetched table's buffer, held for reading at half a share. -/
abbrev ptT {sp : Space} {S : Shape} {e : EltTy} (M : Memref sig .tc sp S e) (f : Buf (Elt F) (M.view.loc (c : Thread nD τ))) : sProp 𝕄 :=
  (M.view.loc (c : Thread nD τ) ↦{fullShare.right} f)

/-! ### The compaction loop -/

/-- One trip, as a function of the contents it finds in what it writes. -/
@[irreducible] def trip_t1 (v2 : Elt F .i32) (k0_hw1 : k0_chk1 i v2) (k0_h2 : k0_cond2 i = 1#1) (arg0 arg1 : BitVec 32)
    (X3 : Buf (Elt F) (arg3.view.loc (c : Thread nD τ))) (X4 : BufTy.Contents (Elt F) arg4.view.ty) (X5 : BufTy.Contents (Elt F) arg5.view.ty) (k : Fin (k0_t1_loop v2).trips) :
    Σ' (N12 : BufTy.Contents (Elt F) arg12.view.ty → BufTy.Contents (Elt F) arg13.view.ty → BufTy.Contents (Elt F) arg12.view.ty), { N13 : BufTy.Contents (Elt F) arg12.view.ty → BufTy.Contents (Elt F) arg13.view.ty → BufTy.Contents (Elt F) arg13.view.ty //
      ∀ (E : Set ℕ) (f12 : BufTy.Contents (Elt F) arg12.view.ty) (f13 : BufTy.Contents (Elt F) arg13.view.ty),
      iprop(ptT c arg3 X3 ∗ pt c arg4 X4 ∗ pt c arg5 X5 ∗ pt c arg12 f12 ∗ pt c arg13 f13)
      ⊢ wp frame (wpE (defs₀ (F := F)) 𝒱 (c : Thread nD τ) bd) E (k0_t1_body (F := F) i arg3 harg3 arg4 harg4 arg5 harg5 arg6 harg6 arg7 harg7 arg8 harg8 arg9 harg9 arg10 harg10 arg11 harg11 arg12 harg12 arg13 harg13 arg0 arg1 v2 k0_hw1 k0_h2 k PUnit.unit)
          (fun _ => iprop(ptT c arg3 X3 ∗ pt c arg4 X4 ∗ pt c arg5 X5 ∗ pt c arg12 (N12 f12 f13) ∗ pt c arg13 (N13 f12 f13))) } := by
  have hk0 : ∀ a b, k0_chk2 i v2 k a b := fun a b h2 _ => k0_off15_inb i v2 k0_hw1 k h2
  have hk1 : ∀ a b, k0_chk3 i v2 k a b := fun a b h2 _ => k0_off15_inb i v2 k0_hw1 k h2
  have hk2 : ∀ a b, k0_chk4 i v2 k a b := fun a b h2 _ => k0_off15_inb i v2 k0_hw1 k h2
  have hk3 : ∀ a b, k0_chk5 i v2 k a b := fun a b h2 _ => k0_off15_inb i v2 k0_hw1 k h2
  refine ⟨?_, ?_, fun E f12 f13 => ?run⟩
  case run =>
    unfold k0_t1_body
    iintro ⟨H3, H4, H5, H12, H13⟩
    sl_exec
    sl_step
    sl_close

/-- What the loop's first `k` trips leave, from the contents at its entry. -/
def after_t1 (v2 : Elt F .i32) (k0_hw1 : k0_chk1 i v2) (k0_h2 : k0_cond2 i = 1#1) (arg0 arg1 : BitVec 32)
    (X3 : Buf (Elt F) (arg3.view.loc (c : Thread nD τ))) (X4 : BufTy.Contents (Elt F) arg4.view.ty) (X5 : BufTy.Contents (Elt F) arg5.view.ty) (G12 : BufTy.Contents (Elt F) arg12.view.ty) (G13 : BufTy.Contents (Elt F) arg13.view.ty) (k : ℕ) : BufTy.Contents (Elt F) arg12.view.ty × BufTy.Contents (Elt F) arg13.view.ty :=
  iter (n := (k0_t1_loop v2).trips) (fun k s => ((trip_t1 𝒱 c bd i arg3 harg3 arg4 harg4 arg5 harg5 arg6 harg6 arg7 harg7 arg8 harg8 arg9 harg9 arg10 harg10 arg11 harg11 arg12 harg12 arg13 harg13 v2 k0_hw1 k0_h2 arg0 arg1 X3 X4 X5 k).1 s.1 s.2, (trip_t1 𝒱 c bd i arg3 harg3 arg4 harg4 arg5 harg5 arg6 harg6 arg7 harg7 arg8 harg8 arg9 harg9 arg10 harg10 arg11 harg11 arg12 harg12 arg13 harg13 v2 k0_hw1 k0_h2 arg0 arg1 X3 X4 X5 k).2.1 s.1 s.2)) (G12, G13) k

set_option warn.classDefReducibility false in
/-- The loop by its invariant. -/
@[sl_loop] def inv_t1 (E : Set ℕ) (v2 : Elt F .i32) (k0_hw1 : k0_chk1 i v2) (k0_h2 : k0_cond2 i = 1#1) (arg0 arg1 : BitVec 32)
    (X3 : Buf (Elt F) (arg3.view.loc (c : Thread nD τ))) (X4 : BufTy.Contents (Elt F) arg4.view.ty) (X5 : BufTy.Contents (Elt F) arg5.view.ty) (G12 : BufTy.Contents (Elt F) arg12.view.ty) (G13 : BufTy.Contents (Elt F) arg13.view.ty) :
    LoopInvTy_k0_t1 (F := F) Unit ℕ (UR sig nD τ) ℕ 𝒱 c bd E i arg3 harg3 arg4 harg4 arg5 harg5 arg6 harg6 arg7 harg7 arg8 harg8 arg9 harg9 arg10 harg10 arg11 harg11 arg12 harg12 arg13 harg13 arg0 arg1 v2 k0_hw1 k0_h2 where
  inv k _ := iprop(ptT c arg3 X3 ∗ pt c arg4 X4 ∗ pt c arg5 X5 ∗ (∃ f, pt c arg12 f ∗ ⌜f = (after_t1 𝒱 c bd i arg3 harg3 arg4 harg4 arg5 harg5 arg6 harg6 arg7 harg7 arg8 harg8 arg9 harg9 arg10 harg10 arg11 harg11 arg12 harg12 arg13 harg13 v2 k0_hw1 k0_h2 arg0 arg1 X3 X4 X5 G12 G13 k).1⌝) ∗ (∃ f, pt c arg13 f ∗ ⌜f = (after_t1 𝒱 c bd i arg3 harg3 arg4 harg4 arg5 harg5 arg6 harg6 arg7 harg7 arg8 harg8 arg9 harg9 arg10 harg10 arg11 harg11 arg12 harg12 arg13 harg13 v2 k0_hw1 k0_h2 arg0 arg1 X3 X4 X5 G12 G13 k).2⌝))
  step k acc := by
    iintro ⟨H3, H4, H5, ⟨%f12, H12, %h12⟩, ⟨%f13, H13, %h13⟩⟩
    iapply (wp_wand_r Idealize.ShloMosaic.frame (wpE (defs₀ (F := F)) 𝒱 (c : Thread nD τ) bd) E)
    isplitl [H3 H4 H5 H12 H13]
    · iapply ((trip_t1 𝒱 c bd i arg3 harg3 arg4 harg4 arg5 harg5 arg6 harg6 arg7 harg7 arg8 harg8 arg9 harg9 arg10 harg10 arg11 harg11 arg12 harg12 arg13 harg13 v2 k0_hw1 k0_h2 arg0 arg1 X3 X4 X5 k).2.2 E f12 f13)
      isplitl [H3]; · iexact H3
      isplitl [H4]; · iexact H4
      isplitl [H5]; · iexact H5
      isplitl [H12]; · iexact H12
      iexact H13
    · iintro %_ ⟨H3, H4, H5, H12, H13⟩
      isplitl [H3]; · iexact H3
      isplitl [H4]; · iexact H4
      isplitl [H5]; · iexact H5
      isplitl [H12]
      · iexists _; isplitl [H12]; · iexact H12
        ipureintro; subst h12 h13; unfold after_t1; rw [iter_succ]
      iexists _; isplitl [H13]; · iexact H13
      ipureintro; subst h12 h13; unfold after_t1; rw [iter_succ]

/-! ### The feed-forward loop at the first tile of the hidden axis -/

/-- One trip, as a function of the contents it finds in what it writes. -/
@[irreducible] def trip_t3 (v2 : Elt F .i32) (k0_hw1 : k0_chk1 i v2) (k0_h11 : k0_cond11 i = 1#1)
    (X8 : BufTy.Contents (Elt F) arg8.view.ty) (X9 : BufTy.Contents (Elt F) arg9.view.ty) (X10 : BufTy.Contents (Elt F) arg10.view.ty) (X12 : BufTy.Contents (Elt F) arg12.view.ty) (k : Fin (k0_t3_loop v2).trips) :
    { N13 : BufTy.Contents (Elt F) arg13.view.ty → BufTy.Contents (Elt F) arg13.view.ty //
      ∀ (E : Set ℕ) (f13 : BufTy.Contents (Elt F) arg13.view.ty),
      iprop(pt c arg8 X8 ∗ pt c arg9 X9 ∗ pt c arg10 X10 ∗ pt c arg12 X12 ∗ pt c arg13 f13)
      ⊢ wp frame (wpE (defs₀ (F := F)) 𝒱 (c : Thread nD τ) bd) E (k0_t3_body (F := F) i arg3 harg3 arg4 harg4 arg5 harg5 arg6 harg6 arg7 harg7 arg8 harg8 arg9 harg9 arg10 harg10 arg11 harg11 arg12 harg12 arg13 harg13 v2 k0_hw1 k0_h11 k PUnit.unit)
          (fun _ => iprop(pt c arg8 X8 ∗ pt c arg9 X9 ∗ pt c arg10 X10 ∗ pt c arg12 X12 ∗ pt c arg13 (N13 f13))) } := by
  refine ⟨?_, fun E f13 => ?run⟩
  case run =>
    unfold k0_t3_body
    iintro ⟨H8, H9, H10, H12, H13⟩
    sl_exec
    sl_step
    sl_close

/-- What the loop's first `k` trips leave, from the contents at its entry. -/
def after_t3 (v2 : Elt F .i32) (k0_hw1 : k0_chk1 i v2) (k0_h11 : k0_cond11 i = 1#1)
    (X8 : BufTy.Contents (Elt F) arg8.view.ty) (X9 : BufTy.Contents (Elt F) arg9.view.ty) (X10 : BufTy.Contents (Elt F) arg10.view.ty) (X12 : BufTy.Contents (Elt F) arg12.view.ty) (G13 : BufTy.Contents (Elt F) arg13.view.ty) (k : ℕ) : BufTy.Contents (Elt F) arg13.view.ty :=
  iter (n := (k0_t3_loop v2).trips) (fun k s => (trip_t3 𝒱 c bd i arg3 harg3 arg4 harg4 arg5 harg5 arg6 harg6 arg7 harg7 arg8 harg8 arg9 harg9 arg10 harg10 arg11 harg11 arg12 harg12 arg13 harg13 v2 k0_hw1 k0_h11 X8 X9 X10 X12 k).1 s) G13 k

set_option warn.classDefReducibility false in
/-- The loop by its invariant. -/
@[sl_loop] def inv_t3 (E : Set ℕ) (v2 : Elt F .i32) (k0_hw1 : k0_chk1 i v2) (k0_h11 : k0_cond11 i = 1#1)
    (X8 : BufTy.Contents (Elt F) arg8.view.ty) (X9 : BufTy.Contents (Elt F) arg9.view.ty) (X10 : BufTy.Contents (Elt F) arg10.view.ty) (X12 : BufTy.Contents (Elt F) arg12.view.ty) (G13 : BufTy.Contents (Elt F) arg13.view.ty) :
    LoopInvTy_k0_t3 (F := F) Unit ℕ (UR sig nD τ) ℕ 𝒱 c bd E i arg3 harg3 arg4 harg4 arg5 harg5 arg6 harg6 arg7 harg7 arg8 harg8 arg9 harg9 arg10 harg10 arg11 harg11 arg12 harg12 arg13 harg13 v2 k0_hw1 k0_h11 where
  inv k _ := iprop(pt c arg8 X8 ∗ pt c arg9 X9 ∗ pt c arg10 X10 ∗ pt c arg12 X12 ∗ (∃ f, pt c arg13 f ∗ ⌜f = (after_t3 𝒱 c bd i arg3 harg3 arg4 harg4 arg5 harg5 arg6 harg6 arg7 harg7 arg8 harg8 arg9 harg9 arg10 harg10 arg11 harg11 arg12 harg12 arg13 harg13 v2 k0_hw1 k0_h11 X8 X9 X10 X12 G13 k)⌝))
  step k acc := by
    iintro ⟨H8, H9, H10, H12, ⟨%f13, H13, %h13⟩⟩
    iapply (wp_wand_r Idealize.ShloMosaic.frame (wpE (defs₀ (F := F)) 𝒱 (c : Thread nD τ) bd) E)
    isplitl [H8 H9 H10 H12 H13]
    · iapply ((trip_t3 𝒱 c bd i arg3 harg3 arg4 harg4 arg5 harg5 arg6 harg6 arg7 harg7 arg8 harg8 arg9 harg9 arg10 harg10 arg11 harg11 arg12 harg12 arg13 harg13 v2 k0_hw1 k0_h11 X8 X9 X10 X12 k).2 E f13)
      isplitl [H8]; · iexact H8
      isplitl [H9]; · iexact H9
      isplitl [H10]; · iexact H10
      isplitl [H12]; · iexact H12
      iexact H13
    · iintro %_ ⟨H8, H9, H10, H12, H13⟩
      isplitl [H8]; · iexact H8
      isplitl [H9]; · iexact H9
      isplitl [H10]; · iexact H10
      isplitl [H12]; · iexact H12
      iexists _; isplitl [H13]; · iexact H13
      ipureintro; subst h13; exact (iter_succ _ _ k).symm

/-! ### The feed-forward loop at a later tile of the hidden axis -/

/-- One trip, as a function of the contents it finds in what it writes. -/
@[irreducible] def trip_t5 (v2 : Elt F .i32) (k0_hw1 : k0_chk1 i v2) (k0_h13 : k0_cond13 i = 1#1)
    (X8 : BufTy.Contents (Elt F) arg8.view.ty) (X9 : BufTy.Contents (Elt F) arg9.view.ty) (X10 : BufTy.Contents (Elt F) arg10.view.ty) (X12 : BufTy.Contents (Elt F) arg12.view.ty) (k : Fin (k0_t5_loop v2).trips) :
    { N13 : BufTy.Contents (Elt F) arg13.view.ty → BufTy.Contents (Elt F) arg13.view.ty //
      ∀ (E : Set ℕ) (f13 : BufTy.Contents (Elt F) arg13.view.ty),
      iprop(pt c arg8 X8 ∗ pt c arg9 X9 ∗ pt c arg10 X10 ∗ pt c arg12 X12 ∗ pt c arg13 f13)
      ⊢ wp frame (wpE (defs₀ (F := F)) 𝒱 (c : Thread nD τ) bd) E (k0_t5_body (F := F) i arg3 harg3 arg4 harg4 arg5 harg5 arg6 harg6 arg7 harg7 arg8 harg8 arg9 harg9 arg10 harg10 arg11 harg11 arg12 harg12 arg13 harg13 v2 k0_hw1 k0_h13 k PUnit.unit)
          (fun _ => iprop(pt c arg8 X8 ∗ pt c arg9 X9 ∗ pt c arg10 X10 ∗ pt c arg12 X12 ∗ pt c arg13 (N13 f13))) } := by
  refine ⟨?_, fun E f13 => ?run⟩
  case run =>
    unfold k0_t5_body
    iintro ⟨H8, H9, H10, H12, H13⟩
    sl_exec
    sl_step
    sl_close

/-- What the loop's first `k` trips leave, from the contents at its entry. -/
def after_t5 (v2 : Elt F .i32) (k0_hw1 : k0_chk1 i v2) (k0_h13 : k0_cond13 i = 1#1)
    (X8 : BufTy.Contents (Elt F) arg8.view.ty) (X9 : BufTy.Contents (Elt F) arg9.view.ty) (X10 : BufTy.Contents (Elt F) arg10.view.ty) (X12 : BufTy.Contents (Elt F) arg12.view.ty) (G13 : BufTy.Contents (Elt F) arg13.view.ty) (k : ℕ) : BufTy.Contents (Elt F) arg13.view.ty :=
  iter (n := (k0_t5_loop v2).trips) (fun k s => (trip_t5 𝒱 c bd i arg3 harg3 arg4 harg4 arg5 harg5 arg6 harg6 arg7 harg7 arg8 harg8 arg9 harg9 arg10 harg10 arg11 harg11 arg12 harg12 arg13 harg13 v2 k0_hw1 k0_h13 X8 X9 X10 X12 k).1 s) G13 k

set_option warn.classDefReducibility false in
/-- The loop by its invariant. -/
@[sl_loop] def inv_t5 (E : Set ℕ) (v2 : Elt F .i32) (k0_hw1 : k0_chk1 i v2) (k0_h13 : k0_cond13 i = 1#1)
    (X8 : BufTy.Contents (Elt F) arg8.view.ty) (X9 : BufTy.Contents (Elt F) arg9.view.ty) (X10 : BufTy.Contents (Elt F) arg10.view.ty) (X12 : BufTy.Contents (Elt F) arg12.view.ty) (G13 : BufTy.Contents (Elt F) arg13.view.ty) :
    LoopInvTy_k0_t5 (F := F) Unit ℕ (UR sig nD τ) ℕ 𝒱 c bd E i arg3 harg3 arg4 harg4 arg5 harg5 arg6 harg6 arg7 harg7 arg8 harg8 arg9 harg9 arg10 harg10 arg11 harg11 arg12 harg12 arg13 harg13 v2 k0_hw1 k0_h13 where
  inv k _ := iprop(pt c arg8 X8 ∗ pt c arg9 X9 ∗ pt c arg10 X10 ∗ pt c arg12 X12 ∗ (∃ f, pt c arg13 f ∗ ⌜f = (after_t5 𝒱 c bd i arg3 harg3 arg4 harg4 arg5 harg5 arg6 harg6 arg7 harg7 arg8 harg8 arg9 harg9 arg10 harg10 arg11 harg11 arg12 harg12 arg13 harg13 v2 k0_hw1 k0_h13 X8 X9 X10 X12 G13 k)⌝))
  step k acc := by
    iintro ⟨H8, H9, H10, H12, ⟨%f13, H13, %h13⟩⟩
    iapply (wp_wand_r Idealize.ShloMosaic.frame (wpE (defs₀ (F := F)) 𝒱 (c : Thread nD τ) bd) E)
    isplitl [H8 H9 H10 H12 H13]
    · iapply ((trip_t5 𝒱 c bd i arg3 harg3 arg4 harg4 arg5 harg5 arg6 harg6 arg7 harg7 arg8 harg8 arg9 harg9 arg10 harg10 arg11 harg11 arg12 harg12 arg13 harg13 v2 k0_hw1 k0_h13 X8 X9 X10 X12 k).2 E f13)
      isplitl [H8]; · iexact H8
      isplitl [H9]; · iexact H9
      isplitl [H10]; · iexact H10
      isplitl [H12]; · iexact H12
      iexact H13
    · iintro %_ ⟨H8, H9, H10, H12, H13⟩
      isplitl [H8]; · iexact H8
      isplitl [H9]; · iexact H9
      isplitl [H10]; · iexact H10
      isplitl [H12]; · iexact H12
      iexists _; isplitl [H13]; · iexact H13
      ipureintro; subst h13; exact (iter_succ _ _ k).symm

/-! ### The scatter loop -/

/-- One trip, as a function of the contents it finds in what it writes. -/
@[irreducible] def trip_t7 (v2 : Elt F .i32) (k0_hw1 : k0_chk1 i v2) (k0_h15 : k0_cond15 i = 1#1) (arg0 arg1 : BitVec 32)
    (X3 : Buf (Elt F) (arg3.view.loc (c : Thread nD τ))) (X6 : BufTy.Contents (Elt F) arg6.view.ty) (X7 : BufTy.Contents (Elt F) arg7.view.ty) (X13 : BufTy.Contents (Elt F) arg13.view.ty) (k : Fin (k0_t7_loop v2).trips) :
    { N11 : BufTy.Contents (Elt F) arg11.view.ty → BufTy.Contents (Elt F) arg11.view.ty //
      ∀ (E : Set ℕ) (f11 : BufTy.Contents (Elt F) arg11.view.ty),
      iprop(ptT c arg3 X3 ∗ pt c arg6 X6 ∗ pt c arg7 X7 ∗ pt c arg13 X13 ∗ pt c arg11 f11)
      ⊢ wp frame (wpE (defs₀ (F := F)) 𝒱 (c : Thread nD τ) bd) E (k0_t7_body (F := F) i arg3 harg3 arg4 harg4 arg5 harg5 arg6 harg6 arg7 harg7 arg8 harg8 arg9 harg9 arg10 harg10 arg11 harg11 arg12 harg12 arg13 harg13 arg0 arg1 v2 k0_hw1 k0_h15 k PUnit.unit)
          (fun _ => iprop(ptT c arg3 X3 ∗ pt c arg6 X6 ∗ pt c arg7 X7 ∗ pt c arg13 X13 ∗ pt c arg11 (N11 f11))) } := by
  refine ⟨?_, fun E f11 => ?run⟩
  case run =>
    unfold k0_t7_body
    iintro ⟨H3, H6, H7, H13, H11⟩
    sl_exec
    sl_step
    sl_close

/-- What the loop's first `k` trips leave, from the contents at its entry. -/
def after_t7 (v2 : Elt F .i32) (k0_hw1 : k0_chk1 i v2) (k0_h15 : k0_cond15 i = 1#1) (arg0 arg1 : BitVec 32)
    (X3 : Buf (Elt F) (arg3.view.loc (c : Thread nD τ))) (X6 : BufTy.Contents (Elt F) arg6.view.ty) (X7 : BufTy.Contents (Elt F) arg7.view.ty) (X13 : BufTy.Contents (Elt F) arg13.view.ty) (G11 : BufTy.Contents (Elt F) arg11.view.ty) (k : ℕ) : BufTy.Contents (Elt F) arg11.view.ty :=
  iter (n := (k0_t7_loop v2).trips) (fun k s => (trip_t7 𝒱 c bd i arg3 harg3 arg4 harg4 arg5 harg5 arg6 harg6 arg7 harg7 arg8 harg8 arg9 harg9 arg10 harg10 arg11 harg11 arg12 harg12 arg13 harg13 v2 k0_hw1 k0_h15 arg0 arg1 X3 X6 X7 X13 k).1 s) G11 k

set_option warn.classDefReducibility false in
/-- The loop by its invariant. -/
@[sl_loop] def inv_t7 (E : Set ℕ) (v2 : Elt F .i32) (k0_hw1 : k0_chk1 i v2) (k0_h15 : k0_cond15 i = 1#1) (arg0 arg1 : BitVec 32)
    (X3 : Buf (Elt F) (arg3.view.loc (c : Thread nD τ))) (X6 : BufTy.Contents (Elt F) arg6.view.ty) (X7 : BufTy.Contents (Elt F) arg7.view.ty) (X13 : BufTy.Contents (Elt F) arg13.view.ty) (G11 : BufTy.Contents (Elt F) arg11.view.ty) :
    LoopInvTy_k0_t7 (F := F) Unit ℕ (UR sig nD τ) ℕ 𝒱 c bd E i arg3 harg3 arg4 harg4 arg5 harg5 arg6 harg6 arg7 harg7 arg8 harg8 arg9 harg9 arg10 harg10 arg11 harg11 arg12 harg12 arg13 harg13 arg0 arg1 v2 k0_hw1 k0_h15 where
  inv k _ := iprop(ptT c arg3 X3 ∗ pt c arg6 X6 ∗ pt c arg7 X7 ∗ pt c arg13 X13 ∗ (∃ f, pt c arg11 f ∗ ⌜f = (after_t7 𝒱 c bd i arg3 harg3 arg4 harg4 arg5 harg5 arg6 harg6 arg7 harg7 arg8 harg8 arg9 harg9 arg10 harg10 arg11 harg11 arg12 harg12 arg13 harg13 v2 k0_hw1 k0_h15 arg0 arg1 X3 X6 X7 X13 G11 k)⌝))
  step k acc := by
    iintro ⟨H3, H6, H7, H13, ⟨%f11, H11, %h11⟩⟩
    iapply (wp_wand_r Idealize.ShloMosaic.frame (wpE (defs₀ (F := F)) 𝒱 (c : Thread nD τ) bd) E)
    isplitl [H3 H6 H7 H13 H11]
    · iapply ((trip_t7 𝒱 c bd i arg3 harg3 arg4 harg4 arg5 harg5 arg6 harg6 arg7 harg7 arg8 harg8 arg9 harg9 arg10 harg10 arg11 harg11 arg12 harg12 arg13 harg13 v2 k0_hw1 k0_h15 arg0 arg1 X3 X6 X7 X13 k).2 E f11)
      isplitl [H3]; · iexact H3
      isplitl [H6]; · iexact H6
      isplitl [H7]; · iexact H7
      isplitl [H13]; · iexact H13
      iexact H11
    · iintro %_ ⟨H3, H6, H7, H13, H11⟩
      isplitl [H3]; · iexact H3
      isplitl [H6]; · iexact H6
      isplitl [H7]; · iexact H7
      isplitl [H13]; · iexact H13
      iexists _; isplitl [H11]; · iexact H11
      ipureintro; subst h11; exact (iter_succ _ _ k).symm

end Cert.MoeIdeal.Hand
-- ==== Proof.Moe.Words.lean ====
module

public import proofs.«01_k».proof.MoeIdeal

/-! The words of the expert kernel's loops at a count of at most 2048 rows: how many tiles it walks, where
    each tile lies, and that every one lies inside its buffer. -/

@[expose] public section

set_option maxRecDepth 16384
set_option maxHeartbeats 4000000

namespace Cert.MoeIdeal.Hand

open Idealize.ShloMosaic Idealize.ShloMosaic.TcCoe

theorem word_0 : ∀ v : Fin 2049, ((k0_t1_loop (BitVec.ofNat 32 v.val)).OK) := by decide +kernel

theorem word_1 : ∀ v : Fin 2049, (∀ k0_t1 : Fin (k0_t1_loop (BitVec.ofNat 32 v.val)).trips, 256 ∣ (k0_mult1 (BitVec.ofNat 32 v.val) k0_t1).toNat) := by decide +kernel

theorem word_2 : ∀ v : Fin 2049, (∀ k0_t1 : Fin (k0_t1_loop (BitVec.ofNat 32 v.val)).trips, ∀ a, (k0_off2 (BitVec.ofNat 32 v.val) k0_t1) a + S256x1024.size a ≤ S2048x1024.size a) := by decide +kernel

theorem word_3 : ∀ v : Fin 2049, (∀ k0_t1 : Fin (k0_t1_loop (BitVec.ofNat 32 v.val)).trips, ∀ a, (k0_off15 (BitVec.ofNat 32 v.val) k0_t1) a + S256x1024.size a ≤ S2048x1024.size a) := by decide +kernel

theorem word_5 : ∀ v : Fin 2049, ((k0_t2_loop (BitVec.ofNat 32 v.val)).OK) := by decide +kernel

theorem word_6 : ∀ v : Fin 2049, (∀ k0_t2 : Fin (k0_t2_loop (BitVec.ofNat 32 v.val)).trips, 256 ∣ (k0_mult2 (BitVec.ofNat 32 v.val) k0_t2).toNat) := by decide +kernel

theorem word_7 : ∀ v : Fin 2049, (∀ k0_t2 : Fin (k0_t2_loop (BitVec.ofNat 32 v.val)).trips, ∀ a, (k0_off16 (BitVec.ofNat 32 v.val) k0_t2) a + S256x1024.size a ≤ S2048x1024.size a) := by decide +kernel

theorem word_8 : ∀ v : Fin 2049, (∀ k0_t2 : Fin (k0_t2_loop (BitVec.ofNat 32 v.val)).trips, ∀ a, (k0_off29 (BitVec.ofNat 32 v.val) k0_t2) a + S256x1024.size a ≤ S2048x1024.size a) := by decide +kernel

theorem word_10 : ∀ v : Fin 2049, ((k0_t3_loop (BitVec.ofNat 32 v.val)).OK) := by decide +kernel

theorem word_11 : ∀ v : Fin 2049, (∀ k0_t3 : Fin (k0_t3_loop (BitVec.ofNat 32 v.val)).trips, 256 ∣ (k0_mult3 (BitVec.ofNat 32 v.val) k0_t3).toNat) := by decide +kernel

theorem word_12 : ∀ v : Fin 2049, (∀ k0_t3 : Fin (k0_t3_loop (BitVec.ofNat 32 v.val)).trips, ∀ a, (k0_off30 (BitVec.ofNat 32 v.val) k0_t3) a + S256x1024.size a ≤ S2048x1024.size a) := by decide +kernel

theorem word_13 : ∀ v : Fin 2049, (∀ k0_t3 : Fin (k0_t3_loop (BitVec.ofNat 32 v.val)).trips, 256 ∣ (k0_mult4 (BitVec.ofNat 32 v.val) k0_t3).toNat) := by decide +kernel

theorem word_14 : ∀ v : Fin 2049, (∀ k0_t3 : Fin (k0_t3_loop (BitVec.ofNat 32 v.val)).trips, ∀ a, (k0_off31 (BitVec.ofNat 32 v.val) k0_t3) a + S256x1024.size a ≤ S2048x1024.size a) := by decide +kernel

theorem word_15 : ∀ v : Fin 2049, ((k0_t4_loop (BitVec.ofNat 32 v.val)).OK) := by decide +kernel

theorem word_16 : ∀ v : Fin 2049, (∀ k0_t4 : Fin (k0_t4_loop (BitVec.ofNat 32 v.val)).trips, 256 ∣ (k0_mult5 (BitVec.ofNat 32 v.val) k0_t4).toNat) := by decide +kernel

theorem word_17 : ∀ v : Fin 2049, (∀ k0_t4 : Fin (k0_t4_loop (BitVec.ofNat 32 v.val)).trips, ∀ a, (k0_off32 (BitVec.ofNat 32 v.val) k0_t4) a + S256x1024.size a ≤ S2048x1024.size a) := by decide +kernel

theorem word_18 : ∀ v : Fin 2049, (∀ k0_t4 : Fin (k0_t4_loop (BitVec.ofNat 32 v.val)).trips, 256 ∣ (k0_mult6 (BitVec.ofNat 32 v.val) k0_t4).toNat) := by decide +kernel

theorem word_19 : ∀ v : Fin 2049, (∀ k0_t4 : Fin (k0_t4_loop (BitVec.ofNat 32 v.val)).trips, ∀ a, (k0_off33 (BitVec.ofNat 32 v.val) k0_t4) a + S256x1024.size a ≤ S2048x1024.size a) := by decide +kernel

theorem word_20 : ∀ v : Fin 2049, (∀ (k0_h12 : k0_cond12 (BitVec.ofNat 32 v.val) = 1#1), 256 ∣ (k0_mult7 (BitVec.ofNat 32 v.val)).toNat) := by decide +kernel

theorem word_21 : ∀ v : Fin 2049, (∀ (k0_h12 : k0_cond12 (BitVec.ofNat 32 v.val) = 1#1), ∀ a, (k0_off34 (BitVec.ofNat 32 v.val)) a + S256x1024.size a ≤ S2048x1024.size a) := by decide +kernel

theorem word_22 : ∀ v : Fin 2049, ((k0_t5_loop (BitVec.ofNat 32 v.val)).OK) := by decide +kernel

theorem word_23 : ∀ v : Fin 2049, (∀ k0_t5 : Fin (k0_t5_loop (BitVec.ofNat 32 v.val)).trips, 256 ∣ (k0_mult8 (BitVec.ofNat 32 v.val) k0_t5).toNat) := by decide +kernel

theorem word_24 : ∀ v : Fin 2049, (∀ k0_t5 : Fin (k0_t5_loop (BitVec.ofNat 32 v.val)).trips, ∀ a, (k0_off35 (BitVec.ofNat 32 v.val) k0_t5) a + S256x1024.size a ≤ S2048x1024.size a) := by decide +kernel

theorem word_25 : ∀ v : Fin 2049, (∀ k0_t5 : Fin (k0_t5_loop (BitVec.ofNat 32 v.val)).trips, 256 ∣ (k0_mult9 (BitVec.ofNat 32 v.val) k0_t5).toNat) := by decide +kernel

theorem word_26 : ∀ v : Fin 2049, (∀ k0_t5 : Fin (k0_t5_loop (BitVec.ofNat 32 v.val)).trips, ∀ a, (k0_off36 (BitVec.ofNat 32 v.val) k0_t5) a + S256x1024.size a ≤ S2048x1024.size a) := by decide +kernel

theorem word_27 : ∀ v : Fin 2049, ((k0_t6_loop (BitVec.ofNat 32 v.val)).OK) := by decide +kernel

theorem word_28 : ∀ v : Fin 2049, (∀ k0_t6 : Fin (k0_t6_loop (BitVec.ofNat 32 v.val)).trips, 256 ∣ (k0_mult10 (BitVec.ofNat 32 v.val) k0_t6).toNat) := by decide +kernel

theorem word_29 : ∀ v : Fin 2049, (∀ k0_t6 : Fin (k0_t6_loop (BitVec.ofNat 32 v.val)).trips, ∀ a, (k0_off37 (BitVec.ofNat 32 v.val) k0_t6) a + S256x1024.size a ≤ S2048x1024.size a) := by decide +kernel

theorem word_30 : ∀ v : Fin 2049, (∀ k0_t6 : Fin (k0_t6_loop (BitVec.ofNat 32 v.val)).trips, 256 ∣ (k0_mult11 (BitVec.ofNat 32 v.val) k0_t6).toNat) := by decide +kernel

theorem word_31 : ∀ v : Fin 2049, (∀ k0_t6 : Fin (k0_t6_loop (BitVec.ofNat 32 v.val)).trips, ∀ a, (k0_off38 (BitVec.ofNat 32 v.val) k0_t6) a + S256x1024.size a ≤ S2048x1024.size a) := by decide +kernel

theorem word_32 : ∀ v : Fin 2049, (∀ (k0_h14 : k0_cond14 (BitVec.ofNat 32 v.val) = 1#1), 256 ∣ (k0_mult12 (BitVec.ofNat 32 v.val)).toNat) := by decide +kernel

theorem word_33 : ∀ v : Fin 2049, (∀ (k0_h14 : k0_cond14 (BitVec.ofNat 32 v.val) = 1#1), ∀ a, (k0_off39 (BitVec.ofNat 32 v.val)) a + S256x1024.size a ≤ S2048x1024.size a) := by decide +kernel

theorem word_34 : ∀ v : Fin 2049, ((k0_t7_loop (BitVec.ofNat 32 v.val)).OK) := by decide +kernel

theorem word_35 : ∀ v : Fin 2049, (∀ k0_t7 : Fin (k0_t7_loop (BitVec.ofNat 32 v.val)).trips, 256 ∣ (k0_mult13 (BitVec.ofNat 32 v.val) k0_t7).toNat) := by decide +kernel

theorem word_36 : ∀ v : Fin 2049, (∀ k0_t7 : Fin (k0_t7_loop (BitVec.ofNat 32 v.val)).trips, ∀ a, (k0_off40 (BitVec.ofNat 32 v.val) k0_t7) a + S256x1024.size a ≤ S2048x1024.size a) := by decide +kernel

theorem word_37 : ∀ v : Fin 2049, ((k0_t8_loop (BitVec.ofNat 32 v.val)).OK) := by decide +kernel

theorem word_38 : ∀ v : Fin 2049, (∀ k0_t8 : Fin (k0_t8_loop (BitVec.ofNat 32 v.val)).trips, 256 ∣ (k0_mult14 (BitVec.ofNat 32 v.val) k0_t8).toNat) := by decide +kernel

theorem word_39 : ∀ v : Fin 2049, (∀ k0_t8 : Fin (k0_t8_loop (BitVec.ofNat 32 v.val)).trips, ∀ a, (k0_off49 (BitVec.ofNat 32 v.val) k0_t8) a + S256x1024.size a ≤ S2048x1024.size a) := by decide +kernel

end Cert.MoeIdeal.Hand
-- ==== Proof.Moe.Tiles.lean ====
module

public import proofs.«01_k».proof.Proof.Moe.Words

/-! The words of the expert kernel's loops at a count of at most 2048 rows: the side conditions the body
    assumes, the trip counts and the offsets of the tiles. -/

@[expose] public section

set_option maxRecDepth 16384
set_option maxHeartbeats 4000000

namespace Cert.MoeIdeal.Hand

open Idealize.ShloMosaic Idealize.ShloMosaic.TcCoe

/-- The number of tiles of 256 rows that cover `v` rows. -/
def nTiles (v : BitVec 32) : ℕ := (v.toNat + 255) / 256

theorem packed15 (v : BitVec 32) (k : Fin (k0_t1_loop v).trips) (h256 : 256 ∣ (k0_mult1 v k).toNat)
    (hinb : ∀ a, (k0_off15 v k) a + S256x1024.size a ≤ S2048x1024.size a) :
    (Rect.unit (s := S2048x1024) (k0_off15 v k) S256x1024.size hinb).PackedRows (EltTy.packing .bf16) := by
  have h2 : 2 ≤ S2048x1024.rank := by decide
  have ha : EltTy.packing .bf16 ∣ 256 := by decide
  have hb : EltTy.packing .bf16 ∣ (k0_off15 v k) 0 := ha.trans h256
  exact Or.inr ⟨h2, rfl, Or.inl ⟨hb, ha⟩⟩

theorem packed29 (v : BitVec 32) (k : Fin (k0_t2_loop v).trips) (h256 : 256 ∣ (k0_mult2 v k).toNat)
    (hinb : ∀ a, (k0_off29 v k) a + S256x1024.size a ≤ S2048x1024.size a) :
    (Rect.unit (s := S2048x1024) (k0_off29 v k) S256x1024.size hinb).PackedRows (EltTy.packing .bf16) := by
  have h2 : 2 ≤ S2048x1024.rank := by decide
  have ha : EltTy.packing .bf16 ∣ 256 := by decide
  have hb : EltTy.packing .bf16 ∣ (k0_off29 v k) 0 := ha.trans h256
  exact Or.inr ⟨h2, rfl, Or.inl ⟨hb, ha⟩⟩

/-- What the body assumes of a count holds of every count of at most 2048 rows. -/
theorem chk1_of (i : grid0.Coords) (v2 : BitVec 32) (h : v2.toNat ≤ 2048) : k0_chk1 i v2 := by
  obtain ⟨v, rfl⟩ : ∃ v : Fin 2049, v2 = BitVec.ofNat 32 v.val := ⟨⟨v2.toNat, by omega⟩, by simp⟩
  exact ⟨⟨fun _ => word_0 v,
    fun k _ => word_1 v k,
    fun k _ => word_2 v k,
    fun k _ => word_3 v k,
    fun k _ hinb => packed15 _ k (word_1 v k) hinb,
    fun _ => word_5 v,
    fun k _ => word_6 v k,
    fun k _ => word_7 v k,
    fun k _ => word_8 v k,
    fun k _ hinb => packed29 _ k (word_6 v k) hinb,
    fun _ => word_10 v,
    fun k _ => word_11 v k,
    fun k _ => word_12 v k,
    fun k _ => word_13 v k,
    fun k _ => word_14 v k,
    fun _ => word_15 v,
    fun k _ => word_16 v k,
    fun k _ => word_17 v k,
    fun k _ => word_18 v k,
    fun k _ => word_19 v k,
    fun _ h => word_20 v h,
    fun _ h => word_21 v h,
    fun _ => word_22 v,
    fun k _ => word_23 v k,
    fun k _ => word_24 v k,
    fun k _ => word_25 v k,
    fun k _ => word_26 v k,
    fun _ => word_27 v,
    fun k _ => word_28 v k,
    fun k _ => word_29 v k,
    fun k _ => word_30 v k,
    fun k _ => word_31 v k⟩,
   ⟨fun _ h => word_32 v h,
    fun _ h => word_33 v h,
    fun _ => word_34 v,
    fun k _ => word_35 v k,
    fun k _ => word_36 v k,
    fun _ => word_37 v,
    fun k _ => word_38 v k,
    fun k _ => word_39 v k⟩⟩

theorem trips1_fin : ∀ v : Fin 2049, (k0_t1_loop (BitVec.ofNat 32 v.val)).trips = (v.val + 255) / 256 := by decide +kernel
theorem trips3_fin : ∀ v : Fin 2049, (k0_t3_loop (BitVec.ofNat 32 v.val)).trips = (v.val + 255) / 256 / 2 := by decide +kernel
theorem cond12_fin : ∀ v : Fin 2049, (k0_cond12 (BitVec.ofNat 32 v.val) = 1#1) ↔ (v.val + 255) / 256 % 2 = 1 := by decide +kernel
theorem off34_fin : ∀ v : Fin 2049, 1 ≤ v.val → (k0_off34 (BitVec.ofNat 32 v.val)) 0 = 256 * ((v.val + 255) / 256 - 1) := by decide +kernel

section
variable (v : BitVec 32) (h : v.toNat ≤ 2048)
include h
theorem nTiles_le : nTiles v ≤ 8 := by unfold nTiles; omega

theorem trips1 : (k0_t1_loop v).trips = nTiles v := by
  have := trips1_fin ⟨v.toNat, by omega⟩; simpa [nTiles] using this
theorem trips7 : (k0_t7_loop v).trips = nTiles v := trips1 v h
theorem trips3 : (k0_t3_loop v).trips = nTiles v / 2 := by
  have := trips3_fin ⟨v.toNat, by omega⟩; simpa [nTiles] using this
theorem trips5 : (k0_t5_loop v).trips = nTiles v / 2 := trips3 v h
theorem cond12_iff : k0_cond12 v = 1#1 ↔ nTiles v % 2 = 1 := by
  have := cond12_fin ⟨v.toNat, by omega⟩; simpa [nTiles] using this
theorem cond14_iff : k0_cond14 v = 1#1 ↔ nTiles v % 2 = 1 := cond12_iff v h

theorem off34_eq (hc : nTiles v % 2 = 1) : k0_off34 v = ![256 * (nTiles v - 1), 0] := by
  have e : (k0_off34 v) 0 = 256 * (nTiles v - 1) := by
    have := off34_fin ⟨v.toNat, by omega⟩ (by unfold nTiles at hc; show 1 ≤ v.toNat; omega); simpa [nTiles] using this
  funext a; fin_cases a
  · exact e
  · rfl
theorem off39_eq (hc : nTiles v % 2 = 1) : k0_off39 v = ![256 * (nTiles v - 1), 0] := off34_eq v h hc

theorem iv_eq : ∀ k : ℕ, k < 8 → (Scalar.muli (Scf.iv 0#32 1#32 k) 256#32).toNat = 256 * k := by decide
theorem off2_eq (k : Fin (k0_t1_loop v).trips) : k0_off2 v k = ![256 * k.val, 0] := by
  have hk : k.val < 8 := lt_of_lt_of_le k.isLt ((trips1 v h).trans_le (nTiles_le v h))
  funext a; fin_cases a
  · exact iv_eq v h k.val hk
  · rfl
theorem off5_eq (k : Fin (k0_t1_loop v).trips) : k0_off5 v k = ![256 * k.val, 0] := off2_eq v h k
theorem off8_eq (k : Fin (k0_t1_loop v).trips) : k0_off8 v k = ![256 * k.val, 0] := off2_eq v h k
theorem off11_eq (k : Fin (k0_t1_loop v).trips) : k0_off11 v k = ![256 * k.val, 0] := off2_eq v h k
theorem off14_eq (k : Fin (k0_t1_loop v).trips) : k0_off14 v k = ![256 * k.val, 0] := off2_eq v h k
theorem off15_eq (k : Fin (k0_t1_loop v).trips) : k0_off15 v k = ![256 * k.val, 0] := off2_eq v h k
theorem off40_eq (k : Fin (k0_t7_loop v).trips) : k0_off40 v k = ![256 * k.val, 0] := off2_eq v h k
theorem iv_eq2 : ∀ k : ℕ, k < 4 → (Scalar.muli (Scalar.muli 2#32 (Scf.iv 0#32 1#32 k)) 256#32).toNat = 512 * k := by decide
theorem iv_eq3 : ∀ k : ℕ, k < 4 → (Scalar.muli (Scalar.addi (Scalar.muli 2#32 (Scf.iv 0#32 1#32 k)) 1#32) 256#32).toNat = 512 * k + 256 := by decide
theorem off30_eq (k : Fin (k0_t3_loop v).trips) : k0_off30 v k = ![256 * (2 * k.val), 0] := by
  have hk : k.val < 4 := lt_of_lt_of_le k.isLt ((trips3 v h).trans_le (by have := nTiles_le v h; omega))
  funext a; fin_cases a
  · exact (iv_eq2 v h k.val hk).trans (by show 512 * k.val = 256 * (2 * k.val); omega)
  · rfl
theorem off31_eq (k : Fin (k0_t3_loop v).trips) : k0_off31 v k = ![256 * (2 * k.val + 1), 0] := by
  have hk : k.val < 4 := lt_of_lt_of_le k.isLt ((trips3 v h).trans_le (by have := nTiles_le v h; omega))
  funext a; fin_cases a
  · exact (iv_eq3 v h k.val hk).trans (by show 512 * k.val + 256 = 256 * (2 * k.val + 1); omega)
  · rfl
theorem off35_eq (k : Fin (k0_t5_loop v).trips) : k0_off35 v k = ![256 * (2 * k.val), 0] := off30_eq v h k
theorem off36_eq (k : Fin (k0_t5_loop v).trips) : k0_off36 v k = ![256 * (2 * k.val + 1), 0] := off31_eq v h k
end

end Cert.MoeIdeal.Hand
-- ==== Proof.Moe.Spec.lean ====
module

public import proofs.«01_k».proof.Proof.Gen.MoeIdeal.Skeleton
public import Idealize.ShloMosaic.Lib.VecWindow
public import Idealize.ShloMosaic.Lib.ValueIdxCore

/-! The expert kernel's arithmetic, tile by tile, as functions of the arrays alone: the rows an expert
    takes gathered into tiles of 256, each tile's feed-forward, and each tile added back where its rows
    came from. -/

@[expose] public section

set_option maxRecDepth 16384
set_option maxHeartbeats 4000000

noncomputable section

namespace Cert.MoeIdeal.Hand

open Idealize.ShloMosaic Idealize.ShloMosaic.TcCoe Idealize.ShloMosaic.ValueIdx
open Cert.MoeIdeal.Gen

variable {F : FTy → Type} [FloatOps F]

/-! ### Tiles and slabs of an array -/

/-- The `k`-th tile of 256 rows. -/
def winT {α : Type} (k : ℕ) (x : S2048x1024.Idx → α) : S256x1024.Idx → α :=
  fun y => x (ix2 ⟨(256 * k + (y 0).val) % 2048, Nat.mod_lt _ (by decide)⟩ (y 1))

/-- The `j`-th slab of 512 rows. -/
def winS {α : Type} (j : ℕ) (x : S2048x1024.Idx → α) : S512x1024.Idx → α :=
  fun y => x (ix2 ⟨(512 * j + (y 0).val) % 2048, Nat.mod_lt _ (by decide)⟩ (y 1))

/-- The `j`-th slab of 512 entries of a row. -/
def winR {α : Type} (j : ℕ) (x : S1x1x1x2048.Idx → α) : S1x1x1x512.Idx → α :=
  fun y => x (ix4 0 0 0 ⟨(512 * j + (y 3).val) % 2048, Nat.mod_lt _ (by decide)⟩)

/-- The `j`-th slab of 512 entries of a column. -/
def winC {α : Type} (j : ℕ) (x : S1x1x2048x1.Idx → α) : S1x1x512x1.Idx → α :=
  fun y => x (ix4 0 0 ⟨(512 * j + (y 2).val) % 2048, Nat.mod_lt _ (by decide)⟩ 0)

/-- The array with its `k`-th tile of 256 rows replaced. -/
def putT {α : Type} (k : ℕ) (w : S256x1024.Idx → α) (x : S2048x1024.Idx → α) : S2048x1024.Idx → α :=
  fun y => if h : 256 * k ≤ (y 0).val ∧ (y 0).val < 256 * k + 256 then w (ix2 ⟨(y 0).val - 256 * k, by omega⟩ (y 1)) else x y

/-- The array with its `j`-th slab of 512 rows replaced. -/
def putS {α : Type} (j : ℕ) (w : S512x1024.Idx → α) (x : S2048x1024.Idx → α) : S2048x1024.Idx → α :=
  fun y => if h : 512 * j ≤ (y 0).val ∧ (y 0).val < 512 * j + 512 then w (ix2 ⟨(y 0).val - 512 * j, by omega⟩ (y 1)) else x y

theorem winT_putT {α : Type} (k : ℕ) (hk : k < 8) (w : S256x1024.Idx → α) (x : S2048x1024.Idx → α) : winT k (putT k w x) = w := by
  funext y
  have hy : (y 0).val < 256 := (y 0).isLt
  have e : (256 * k + (y 0).val) % 2048 = 256 * k + (y 0).val := Nat.mod_eq_of_lt (by omega)
  unfold winT putT
  rw [dif_pos (by show 256 * k ≤ (256 * k + (y 0).val) % 2048 ∧ (256 * k + (y 0).val) % 2048 < 256 * k + 256; omega)]
  exact congrArg w (by
    funext a; fin_cases a
    · apply Fin.ext; show (256 * k + (y 0).val) % 2048 - 256 * k = (y 0).val; omega
    · rfl)

theorem winT_putT_ne {α : Type} (k k' : ℕ) (hk : k < 8) (hne : k ≠ k') (w : S256x1024.Idx → α) (x : S2048x1024.Idx → α) :
    winT k (putT k' w x) = winT k x := by
  funext y
  have hy : (y 0).val < 256 := (y 0).isLt
  have e : (256 * k + (y 0).val) % 2048 = 256 * k + (y 0).val := Nat.mod_eq_of_lt (by omega)
  unfold winT putT
  rw [dif_neg (by show ¬ (256 * k' ≤ (256 * k + (y 0).val) % 2048 ∧ (256 * k + (y 0).val) % 2048 < 256 * k' + 256); omega)]

theorem put_eq_putT {α : Type} (k : ℕ) (w : S256x1024.Idx → α) (x : S2048x1024.Idx → α) :
    VecWindow.put x ![256 * k, 0] ![256, 1024] w = putT k w x := by
  funext y
  have h1 : (y 1).val < 1024 := (y 1).isLt
  by_cases h : 256 * k ≤ (y 0).val ∧ (y 0).val < 256 * k + 256
  · have ha : ∀ a, (![256 * k, 0] : Fin 2 → ℕ) a ≤ (y a).val ∧ (y a).val < (![256 * k, 0] : Fin 2 → ℕ) a + (![256, 1024] : Fin 2 → ℕ) a := by
      intro a; fin_cases a
      · exact h
      · exact ⟨Nat.zero_le _, by show (y 1).val < 0 + 1024; omega⟩
    unfold putT
    rw [dif_pos h]
    refine (dif_pos ha).trans (congrArg w ?_)
    funext a; fin_cases a
    · rfl
    · apply Fin.ext; show (y 1).val - 0 = (y 1).val; omega
  · unfold putT
    rw [dif_neg h]
    exact dif_neg fun ha => h (ha 0)

theorem put_eq_putS {α : Type} (j : ℕ) (w : S512x1024.Idx → α) (x : S2048x1024.Idx → α) :
    VecWindow.put x ![512 * j, 0] ![512, 1024] w = putS j w x := by
  funext y
  have h1 : (y 1).val < 1024 := (y 1).isLt
  by_cases h : 512 * j ≤ (y 0).val ∧ (y 0).val < 512 * j + 512
  · have ha : ∀ a, (![512 * j, 0] : Fin 2 → ℕ) a ≤ (y a).val ∧ (y a).val < (![512 * j, 0] : Fin 2 → ℕ) a + (![512, 1024] : Fin 2 → ℕ) a := by
      intro a; fin_cases a
      · exact h
      · exact ⟨Nat.zero_le _, by show (y 1).val < 0 + 1024; omega⟩
    unfold putS
    rw [dif_pos h]
    refine (dif_pos ha).trans (congrArg w ?_)
    funext a; fin_cases a
    · rfl
    · apply Fin.ext; show (y 1).val - 0 = (y 1).val; omega
  · unfold putS
    rw [dif_neg h]
    exact dif_neg fun ha => h (ha 0)

theorem window_eq_winT {α : Type} (k : ℕ) (x : S2048x1024.Idx → α) (inb : ∀ a, (![256 * k, 0] : Fin 2 → ℕ) a + (![256, 1024] : Fin 2 → ℕ) a ≤ S2048x1024.size a) :
    VecWindow.window x ![256 * k, 0] ![256, 1024] inb = winT k x := by
  funext y
  have hy : (y 0).val < 256 := (y 0).isLt
  have hi : 256 * k + 256 ≤ 2048 := inb 0
  refine congrArg x ?_
  funext a; fin_cases a
  · apply Fin.ext; show 256 * k + 1 * (y 0).val = (256 * k + (y 0).val) % 2048; rw [Nat.mod_eq_of_lt (by omega)]; omega
  · apply Fin.ext; show 0 + 1 * (y 1).val = (y 1).val; omega

theorem window_eq_winS {α : Type} (j : ℕ) (x : S2048x1024.Idx → α) (inb : ∀ a, (![512 * j, 0] : Fin 2 → ℕ) a + (![512, 1024] : Fin 2 → ℕ) a ≤ S2048x1024.size a) :
    VecWindow.window x ![512 * j, 0] ![512, 1024] inb = winS j x := by
  funext y
  have hy : (y 0).val < 512 := (y 0).isLt
  have hi : 512 * j + 512 ≤ 2048 := inb 0
  refine congrArg x ?_
  funext a; fin_cases a
  · apply Fin.ext; show 512 * j + 1 * (y 0).val = (512 * j + (y 0).val) % 2048; rw [Nat.mod_eq_of_lt (by omega)]; omega
  · apply Fin.ext; show 0 + 1 * (y 1).val = (y 1).val; omega

theorem window_eq_winR {α : Type} (j : ℕ) (x : S1x1x1x2048.Idx → α) (inb : ∀ a, (![0, 0, 0, 512 * j] : Fin 4 → ℕ) a + (![1, 1, 1, 512] : Fin 4 → ℕ) a ≤ S1x1x1x2048.size a) :
    VecWindow.window x ![0, 0, 0, 512 * j] ![1, 1, 1, 512] inb = winR j x := by
  funext y
  have hy : (y 3).val < 512 := (y 3).isLt
  have h0 : (y 0).val < 1 := (y 0).isLt
  have h1 : (y 1).val < 1 := (y 1).isLt
  have h2 : (y 2).val < 1 := (y 2).isLt
  have hi : 512 * j + 512 ≤ 2048 := inb 3
  refine congrArg x ?_
  funext a; fin_cases a
  · apply Fin.ext; show 0 + 1 * (y 0).val = 0; omega
  · apply Fin.ext; show 0 + 1 * (y 1).val = 0; omega
  · apply Fin.ext; show 0 + 1 * (y 2).val = 0; omega
  · apply Fin.ext; show 512 * j + 1 * (y 3).val = (512 * j + (y 3).val) % 2048; rw [Nat.mod_eq_of_lt (by omega)]; omega

theorem window_eq_winC {α : Type} (j : ℕ) (x : S1x1x2048x1.Idx → α) (inb : ∀ a, (![0, 0, 512 * j, 0] : Fin 4 → ℕ) a + (![1, 1, 512, 1] : Fin 4 → ℕ) a ≤ S1x1x2048x1.size a) :
    VecWindow.window x ![0, 0, 512 * j, 0] ![1, 1, 512, 1] inb = winC j x := by
  funext y
  have hy : (y 2).val < 512 := (y 2).isLt
  have h0 : (y 0).val < 1 := (y 0).isLt
  have h1 : (y 1).val < 1 := (y 1).isLt
  have h2 : (y 3).val < 1 := (y 3).isLt
  have hi : 512 * j + 512 ≤ 2048 := inb 2
  refine congrArg x ?_
  funext a; fin_cases a
  · apply Fin.ext; show 0 + 1 * (y 0).val = 0; omega
  · apply Fin.ext; show 0 + 1 * (y 1).val = 0; omega
  · apply Fin.ext; show 512 * j + 1 * (y 2).val = (512 * j + (y 2).val) % 2048; rw [Nat.mod_eq_of_lt (by omega)]; omega
  · apply Fin.ext; show 0 + 1 * (y 3).val = 0; omega

/-! ### One tile of one expert -/

/-- The word of the table for a block, an expert and a boundary of its slabs. -/
def tw (T : Vec F S16x8x5 .i32) (i : grid0.Coords) (j : Fin 5) : BitVec 32 :=
  T (ix3 ⟨(i 0).val, (i 0).isLt⟩ ⟨(i 1).val, (i 1).isLt⟩ j)

/-- Whether a slab whose first and one-past-last ranks are `a` and `b` has a row in tile `k`. -/
def slabHits (k : ℕ) (a b : BitVec 32) : BitVec 1 :=
  Scalar.cmpi .ne (Scalar.extui (Scalar.andi
    (Scalar.cmpi .slt a (Scalar.muli (Scalar.addi (Scf.iv 0#32 1#32 k) 1#32) 256#32))
    (Scalar.cmpi .sgt b (Scalar.muli (Scf.iv 0#32 1#32 k) 256#32)))) 0#32

/-- One slab's rows added into a gathered tile, if the slab has a row in it. -/
def gatherStep (T : Vec F S16x8x5 .i32) (i : grid0.Coords) (rr : Vec F S1x1x1x2048 .i32) (x : Vec F S2048x1024 .bf16) (k : ℕ)
    (j : Fin 4) (acc : Vec F S256x1024 .f32) : Vec F S256x1024 .f32 :=
  if slabHits k (tw T i j.castSucc) (tw T i j.succ) = 1#1 then k0_pay29 (Scf.iv 0#32 1#32 k) (winR j.val rr) acc (winS j.val x) else acc

/-- The `k`-th tile of the rows an expert takes, gathered slab by slab. -/
def gatherAcc (T : Vec F S16x8x5 .i32) (i : grid0.Coords) (rr : Vec F S1x1x1x2048 .i32) (x : Vec F S2048x1024 .bf16) (k : ℕ) : Vec F S256x1024 .f32 :=
  gatherStep T i rr x k 3 (gatherStep T i rr x k 2 (gatherStep T i rr x k 1 (gatherStep T i rr x k 0 k0_pay8)))

/-- The same tile as it is kept. -/
def gatherT (T : Vec F S16x8x5 .i32) (i : grid0.Coords) (rr : Vec F S1x1x1x2048 .i32) (x : Vec F S2048x1024 .bf16) (k : ℕ) : Vec F S256x1024 .bf16 :=
  k0_pay31 (gatherAcc T i rr x k)

/-- One slab of the output with a tile's rows added back, if the slab has a row in the tile. -/
def scatterStep (T : Vec F S16x8x5 .i32) (i : grid0.Coords) (rc : Vec F S1x1x2048x1 .i32) (gc : Vec F S1x1x2048x1 .f32) (y : Vec F S256x1024 .f32) (k : ℕ)
    (j : Fin 4) (o : Vec F S2048x1024 .f32) : Vec F S2048x1024 .f32 :=
  if slabHits k (tw T i j.castSucc) (tw T i j.succ) = 1#1 then
    putS j.val (k0_pay4 (Scf.iv 0#32 1#32 k) (k0_pay22 y) (winC j.val rc) (winS j.val o) (winC j.val gc)) o else o

/-- The output with a tile's rows added back, slab by slab. -/
def scatterT (T : Vec F S16x8x5 .i32) (i : grid0.Coords) (rc : Vec F S1x1x2048x1 .i32) (gc : Vec F S1x1x2048x1 .f32) (y : Vec F S256x1024 .f32) (k : ℕ)
    (o : Vec F S2048x1024 .f32) : Vec F S2048x1024 .f32 :=
  scatterStep T i rc gc y k 3 (scatterStep T i rc gc y k 2 (scatterStep T i rc gc y k 1 (scatterStep T i rc gc y k 0 o)))

/-- The output with the first `n` tiles added back in turn. -/
def scatterAll (T : Vec F S16x8x5 .i32) (i : grid0.Coords) (rc : Vec F S1x1x2048x1 .i32) (gc : Vec F S1x1x2048x1 .f32) (y : ℕ → Vec F S256x1024 .f32)
    (o : Vec F S2048x1024 .f32) : ℕ → Vec F S2048x1024 .f32
  | 0 => o
  | k + 1 => scatterT T i rc gc (y k) k (scatterAll T i rc gc y o k)

/-! ### Tiles written one after another -/

/-- A tile written at each step. -/
theorem tiles_single {α : Type} (n : ℕ) (hn : n ≤ 8) (w : ℕ → S256x1024.Idx → α) (g : ℕ → S2048x1024.Idx → α)
    (hg : ∀ k, k < n → g (k + 1) = putT k (w k) (g k)) : ∀ m, m ≤ n → ∀ k, k < m → winT k (g m) = w k := by
  intro m
  induction m with
  | zero => intro _ k hk; omega
  | succ m ih =>
    intro hm k hk
    rw [hg m (by omega)]
    by_cases e : k = m
    · subst e; exact winT_putT k (by omega) _ _
    · rw [winT_putT_ne k m (by omega) e]; exact ih (by omega) k (by omega)

/-- Two tiles rewritten at each step, each from what it held. -/
theorem tiles_pair {α : Type} (n : ℕ) (hn : n ≤ 4) (A : ℕ → (S256x1024.Idx → α) → S256x1024.Idx → α) (g : ℕ → S2048x1024.Idx → α)
    (hg : ∀ k, k < n → g (k + 1) = putT (2 * k + 1) (A (2 * k + 1) (winT (2 * k + 1) (putT (2 * k) (A (2 * k) (winT (2 * k) (g k))) (g k))))
      (putT (2 * k) (A (2 * k) (winT (2 * k) (g k))) (g k))) :
    ∀ m, m ≤ n → ∀ k, k < 8 → winT k (g m) = if k < 2 * m then A k (winT k (g 0)) else winT k (g 0) := by
  intro m
  induction m with
  | zero => intro _ k hk; rw [if_neg (by omega)]
  | succ m ih =>
    intro hm k hk
    rw [hg m (by omega)]
    by_cases e1 : k = 2 * m + 1
    · subst e1
      rw [winT_putT _ hk, winT_putT_ne _ _ hk (by omega), if_pos (by omega), ih (by omega) _ hk, if_neg (by omega)]
    · rw [winT_putT_ne _ _ hk e1]
      by_cases e2 : k = 2 * m
      · subst e2
        rw [winT_putT _ hk, if_pos (by omega), ih (by omega) _ hk, if_neg (by omega)]
      · rw [winT_putT_ne _ _ hk e2, ih (by omega) _ hk]
        by_cases e3 : k < 2 * m
        · rw [if_pos e3, if_pos (by omega)]
        · rw [if_neg e3, if_neg (by omega)]

end Cert.MoeIdeal.Hand
-- ==== Proof.Moe.Trips.lean ====
module

public import proofs.«01_k».proof.Proof.Moe.Loops
public import proofs.«01_k».proof.Proof.Moe.Tiles
public import proofs.«01_k».proof.Proof.Moe.Spec

/-! What the trips of the expert kernel's loops leave, tile by tile. -/

@[expose] public section

set_option maxRecDepth 16384
set_option maxHeartbeats 4000000

noncomputable section

namespace Cert.MoeIdeal.Hand

open Idealize.ShloMosaic Idealize.ShloMosaic.TcCoe Idealize.ShloMosaic.ValueIdx
open Cert.MoeIdeal.Gen

variable {F : FTy → Type} [FloatOps F]

section
variable {sp : Space} {e : EltTy}

theorem read_tile (M : Memref sig .tc sp S2048x1024 e) (f : BufTy.Contents (Elt F) M.view.ty) (k : ℕ) {off : Fin 2 → ℕ} (h : off = ![256 * k, 0])
    (inb : ∀ a, off a + S256x1024.size a ≤ S2048x1024.size a) :
    M.view.readAt (Elt F) (Rect.unit (s := S2048x1024) off S256x1024.size inb).toLoadRect f = winT k (M.view.read (Elt F) f) := by
  subst h
  rw [View.readAt_unit M.view f inb rfl inb]
  exact window_eq_winT k _ inb

theorem write_tile (M : Memref sig .tc sp S2048x1024 e) (f : BufTy.Contents (Elt F) M.view.ty) (k : ℕ) {off : Fin 2 → ℕ} (h : off = ![256 * k, 0])
    (inb : ∀ a, off a + S256x1024.size a ≤ S2048x1024.size a) (w : S256x1024.Idx → Elt F e) (L : List (View.Piece (Elt F) S2048x1024 e)) :
    M.view.read (Elt F) (M.view.writes (Elt F) f (⟨Rect.unit (s := S2048x1024) off S256x1024.size inb, w⟩ :: L)) = putT k w (M.view.read (Elt F) (M.view.writes (Elt F) f L)) := by
  rw [View.read_writes_cons_put M.view f inb w L h]
  exact put_eq_putT k w _

theorem read_slab (M : Memref sig .tc sp S2048x1024 e) (f : BufTy.Contents (Elt F) M.view.ty) (j : ℕ) {off : Fin 2 → ℕ} (h : off = ![512 * j, 0])
    (inb : ∀ a, off a + S512x1024.size a ≤ S2048x1024.size a) :
    M.view.readAt (Elt F) (Rect.unit (s := S2048x1024) off S512x1024.size inb).toLoadRect f = winS j (M.view.read (Elt F) f) := by
  subst h
  rw [View.readAt_unit M.view f inb rfl inb]
  exact window_eq_winS j _ inb

theorem write_slab (M : Memref sig .tc sp S2048x1024 e) (f : BufTy.Contents (Elt F) M.view.ty) (j : ℕ) {off : Fin 2 → ℕ} (h : off = ![512 * j, 0])
    (inb : ∀ a, off a + S512x1024.size a ≤ S2048x1024.size a) (w : S512x1024.Idx → Elt F e) (L : List (View.Piece (Elt F) S2048x1024 e)) :
    M.view.read (Elt F) (M.view.writes (Elt F) f (⟨Rect.unit (s := S2048x1024) off S512x1024.size inb, w⟩ :: L)) = putS j w (M.view.read (Elt F) (M.view.writes (Elt F) f L)) := by
  rw [View.read_writes_cons_put M.view f inb w L h]
  exact put_eq_putS j w _

theorem read_rowSlab (M : Memref sig .tc sp S1x1x1x2048 e) (f : BufTy.Contents (Elt F) M.view.ty) (j : ℕ) {off : Fin 4 → ℕ} (h : off = ![0, 0, 0, 512 * j])
    (inb : ∀ a, off a + S1x1x1x512.size a ≤ S1x1x1x2048.size a) :
    M.view.readAt (Elt F) (Rect.unit (s := S1x1x1x2048) off S1x1x1x512.size inb).toLoadRect f = winR j (M.view.read (Elt F) f) := by
  subst h
  rw [View.readAt_unit M.view f inb rfl inb]
  exact window_eq_winR j _ inb

theorem read_colSlab (M : Memref sig .tc sp S1x1x2048x1 e) (f : BufTy.Contents (Elt F) M.view.ty) (j : ℕ) {off : Fin 4 → ℕ} (h : off = ![0, 0, 512 * j, 0])
    (inb : ∀ a, off a + S1x1x512x1.size a ≤ S1x1x2048x1.size a) :
    M.view.readAt (Elt F) (Rect.unit (s := S1x1x2048x1) off S1x1x512x1.size inb).toLoadRect f = winC j (M.view.read (Elt F) f) := by
  subst h
  rw [View.readAt_unit M.view f inb rfl inb]
  exact window_eq_winC j _ inb

end

variable (𝒱 : Variants) (c : Dev nD) (bd : Option 𝒱.V) (i : grid0.Coords)
  (arg3 : Memref sig .tc .smem S16x8x5 .i32) (harg3 : arg3.IsWhole) (arg4 : Memref sig .tc .vmem S2048x1024 .bf16) (harg4 : arg4.IsWhole)
  (arg5 : Memref sig .tc .vmem S1x1x1x2048 .i32) (harg5 : arg5.IsWhole) (arg6 : Memref sig .tc .vmem S1x1x2048x1 .i32) (harg6 : arg6.IsWhole)
  (arg7 : Memref sig .tc .vmem S1x1x2048x1 .f32) (harg7 : arg7.IsWhole) (arg8 : Memref sig .tc .vmem S1x1024x512 .bf16) (harg8 : arg8.IsWhole)
  (arg9 : Memref sig .tc .vmem S1x1024x512 .bf16) (harg9 : arg9.IsWhole) (arg10 : Memref sig .tc .vmem S1x512x1024 .bf16) (harg10 : arg10.IsWhole)
  (arg11 : Memref sig .tc .vmem S2048x1024 .f32) (harg11 : arg11.IsWhole) (arg12 : Memref sig .tc .vmem S2048x1024 .bf16) (harg12 : arg12.IsWhole)
  (arg13 : Memref sig .tc .vmem S2048x1024 .f32) (harg13 : arg13.IsWhole)

theorem read_all3 {sp : Space} {S : Shape} {e : EltTy} (M : Memref sig .tc sp S e) (f : BufTy.Contents (Elt F) M.view.ty) {off : Fin S.rank → ℕ}
    (inb : ∀ a, off a + S.size a ≤ S.size a) :
    M.view.readAt (Elt F) (Rect.unit (s := S) off S.size inb).toLoadRect f = M.view.read (Elt F) f :=
  View.readAt_full M.view f inb

/-- A tile's first feed-forward part. -/
def ffnNew (X8 X9 : Vec F S1x1024x512 .bf16) (X10 : Vec F S1x512x1024 .bf16) (x : Vec F S256x1024 .bf16) : Vec F S256x1024 .f32 :=
  k0_pay37 x X8 X9 X10

/-- A tile's next feed-forward part, added to what it holds. -/
def ffnAdd (X8 X9 : Vec F S1x1024x512 .bf16) (X10 : Vec F S1x512x1024 .bf16) (x : Vec F S256x1024 .bf16) (y : Vec F S256x1024 .f32) : Vec F S256x1024 .f32 :=
  k0_pay3 x X8 X9 X10 y

theorem t3_step (v2 : Elt F .i32) (hv : BitVec.toNat v2 ≤ 2048) (k0_hw1 : k0_chk1 i v2) (k0_h11 : k0_cond11 i = 1#1) (X8 : BufTy.Contents (Elt F) arg8.view.ty) (X9 : BufTy.Contents (Elt F) arg9.view.ty)
    (X10 : BufTy.Contents (Elt F) arg10.view.ty) (X12 : BufTy.Contents (Elt F) arg12.view.ty) (k : Fin (k0_t3_loop v2).trips) (f : BufTy.Contents (Elt F) arg13.view.ty) :
    arg13.view.read (Elt F) ((trip_t3 𝒱 c bd i arg3 harg3 arg4 harg4 arg5 harg5 arg6 harg6 arg7 harg7 arg8 harg8 arg9 harg9 arg10 harg10 arg11 harg11 arg12 harg12 arg13 harg13 v2 k0_hw1 k0_h11 X8 X9 X10 X12 k).1 f)
      = putT (2 * k.val + 1) (ffnNew (arg8.view.read (Elt F) X8) (arg9.view.read (Elt F) X9) (arg10.view.read (Elt F) X10) (winT (2 * k.val + 1) (arg12.view.read (Elt F) X12)))
        (putT (2 * k.val) (ffnNew (arg8.view.read (Elt F) X8) (arg9.view.read (Elt F) X9) (arg10.view.read (Elt F) X10) (winT (2 * k.val) (arg12.view.read (Elt F) X12))) (arg13.view.read (Elt F) f)) := by
  unfold trip_t3
  dsimp only
  unfold trip_t3.sl.r trip_t3.sl.r_1
  have e8 := read_all3 arg8 X8 inb_S1x1024x512_S1x1024x512_0_0_0
  have e9 := read_all3 arg9 X9 inb_S1x1024x512_S1x1024x512_0_0_0
  have e10 := read_all3 arg10 X10 inb_S1x512x1024_S1x512x1024_0_0_0
  have a0 := read_tile arg12 X12 (2 * k.val) (off30_eq v2 hv k) (k0_off30_inb i v2 k0_hw1 k k0_h11)
  have a1 := read_tile arg12 X12 (2 * k.val + 1) (off31_eq v2 hv k) (k0_off31_inb i v2 k0_hw1 k k0_h11)
  refine (write_tile arg13 f (2 * k.val + 1) (off31_eq v2 hv k) _ _ _).trans ?_
  rw [write_tile arg13 f (2 * k.val) (off30_eq v2 hv k) _ _ _, View.writes_nil]
  refine congrArg₂ (putT _) ?_ (congrArg₂ (putT _) ?_ rfl)
  · rw [← e8, ← e9, ← e10, ← a1]; rfl
  · rw [← e8, ← e9, ← e10, ← a0]; rfl

theorem t5_step (v2 : Elt F .i32) (hv : BitVec.toNat v2 ≤ 2048) (k0_hw1 : k0_chk1 i v2) (k0_h13 : k0_cond13 i = 1#1) (X8 : BufTy.Contents (Elt F) arg8.view.ty) (X9 : BufTy.Contents (Elt F) arg9.view.ty)
    (X10 : BufTy.Contents (Elt F) arg10.view.ty) (X12 : BufTy.Contents (Elt F) arg12.view.ty) (k : Fin (k0_t5_loop v2).trips) (f : BufTy.Contents (Elt F) arg13.view.ty) :
    arg13.view.read (Elt F) ((trip_t5 𝒱 c bd i arg3 harg3 arg4 harg4 arg5 harg5 arg6 harg6 arg7 harg7 arg8 harg8 arg9 harg9 arg10 harg10 arg11 harg11 arg12 harg12 arg13 harg13 v2 k0_hw1 k0_h13 X8 X9 X10 X12 k).1 f)
      = putT (2 * k.val + 1) (ffnAdd (arg8.view.read (Elt F) X8) (arg9.view.read (Elt F) X9) (arg10.view.read (Elt F) X10) (winT (2 * k.val + 1) (arg12.view.read (Elt F) X12))
            (winT (2 * k.val + 1) (putT (2 * k.val) (ffnAdd (arg8.view.read (Elt F) X8) (arg9.view.read (Elt F) X9) (arg10.view.read (Elt F) X10) (winT (2 * k.val) (arg12.view.read (Elt F) X12)) (winT (2 * k.val) (arg13.view.read (Elt F) f))) (arg13.view.read (Elt F) f))))
        (putT (2 * k.val) (ffnAdd (arg8.view.read (Elt F) X8) (arg9.view.read (Elt F) X9) (arg10.view.read (Elt F) X10) (winT (2 * k.val) (arg12.view.read (Elt F) X12)) (winT (2 * k.val) (arg13.view.read (Elt F) f))) (arg13.view.read (Elt F) f)) := by
  unfold trip_t5
  dsimp only
  unfold trip_t5.sl.r trip_t5.sl.r_1 trip_t5.sl.cst_55
  have e8 := read_all3 arg8 X8 inb_S1x1024x512_S1x1024x512_0_0_0
  have e9 := read_all3 arg9 X9 inb_S1x1024x512_S1x1024x512_0_0_0
  have e10 := read_all3 arg10 X10 inb_S1x512x1024_S1x512x1024_0_0_0
  have a0 := read_tile arg12 X12 (2 * k.val) (off35_eq v2 hv k) (k0_off35_inb i v2 k0_hw1 k k0_h13)
  have a1 := read_tile arg12 X12 (2 * k.val + 1) (off36_eq v2 hv k) (k0_off36_inb i v2 k0_hw1 k k0_h13)
  have b0 := read_tile arg13 f (2 * k.val) (off35_eq v2 hv k) (k0_off35_inb i v2 k0_hw1 k k0_h13)
  have hin : arg13.view.read (Elt F) (arg13.view.writes (Elt F) f (trip_t5.sl.H13_1 i arg8 arg9 arg10 arg12 arg13 v2 k0_hw1 k0_h13 X8 X9 X10 X12 k f))
      = (putT (2 * k.val) (ffnAdd (arg8.view.read (Elt F) X8) (arg9.view.read (Elt F) X9) (arg10.view.read (Elt F) X10) (winT (2 * k.val) (arg12.view.read (Elt F) X12)) (winT (2 * k.val) (arg13.view.read (Elt F) f))) (arg13.view.read (Elt F) f)) := by
    unfold trip_t5.sl.H13_1
    refine (write_tile arg13 f (2 * k.val) (off35_eq v2 hv k) _ _ _).trans ?_
    rw [View.writes_nil]
    refine congrArg₂ (putT _) ?_ rfl
    rw [← e8, ← e9, ← e10, ← a0, ← b0]; rfl
  have b1 := read_tile arg13 (arg13.view.writes (Elt F) f (trip_t5.sl.H13_1 i arg8 arg9 arg10 arg12 arg13 v2 k0_hw1 k0_h13 X8 X9 X10 X12 k f)) (2 * k.val + 1) (off36_eq v2 hv k) (k0_off36_inb i v2 k0_hw1 k k0_h13)
  refine (write_tile arg13 f (2 * k.val + 1) (off36_eq v2 hv k) _ _ _).trans ?_
  rw [← hin]
  refine congrArg₂ (putT _) ?_ rfl
  rw [← e8, ← e9, ← e10, ← a1, ← b1]; rfl

theorem putT_putT {α : Type} (k : ℕ) (w w' : S256x1024.Idx → α) (x : S2048x1024.Idx → α) : putT k w' (putT k w x) = putT k w' x := by
  funext y
  unfold putT
  by_cases h : 256 * k ≤ (y 0).val ∧ (y 0).val < 256 * k + 256
  · rw [dif_pos h, dif_pos h]
  · rw [dif_neg h, dif_neg h, dif_neg h]

theorem gstep {sp : Space} {e : EltTy} (M : Memref sig .tc sp S2048x1024 e) (P P' : S2048x1024.Idx → Elt F e) (cnd cnd' : Prop) [Decidable cnd] [Decidable cnd'] (hcc : cnd ↔ cnd')
    (G : BufTy.Contents (Elt F) M.view.ty) (hG : M.view.read (Elt F) G = P) (W : cnd → BufTy.Contents (Elt F) M.view.ty)
    (hW : M.view.read (Elt F) G = P → ∀ h, M.view.read (Elt F) (W h) = P') : M.view.read (Elt F) (dite cnd W (fun _ => G)) = if cnd' then P' else P := by
  by_cases h : cnd
  · rw [dif_pos h, if_pos (hcc.mp h)]; exact hW hG h
  · rw [dif_neg h, if_neg fun h' => h (hcc.mpr h')]; exact hG

theorem gstepT {sp : Space} {e : EltTy} (M : Memref sig .tc sp S2048x1024 e) (k : ℕ) (f0 : S2048x1024.Idx → Elt F e) (a a' : S256x1024.Idx → Elt F e) (cnd cnd' : Prop) [Decidable cnd] [Decidable cnd'] (hcc : cnd ↔ cnd')
    (G : BufTy.Contents (Elt F) M.view.ty) (hG : M.view.read (Elt F) G = putT k a f0) (W : cnd → BufTy.Contents (Elt F) M.view.ty)
    (hW : M.view.read (Elt F) G = putT k a f0 → ∀ h, M.view.read (Elt F) (W h) = putT k a' f0) : M.view.read (Elt F) (dite cnd W (fun _ => G)) = putT k (if cnd' then a' else a) f0 := by
  rw [gstep M _ (putT k a' f0) cnd cnd' hcc G hG W hW]
  by_cases h : cnd'
  · rw [if_pos h, if_pos h]
  · rw [if_neg h, if_neg h]

theorem word_at (X3 : Buf (Elt F) (arg3.view.loc (c : Thread nD τ))) (j : Fin 5) {off : Fin 3 → ℕ} (h : off = ![(i 0).val, (i 1).val, j.val])
    (inb : ∀ a, off a + S1x1x1.size a ≤ S16x8x5.size a) (z : (Rect.unit (s := S16x8x5) off S1x1x1.size inb).toLoadRect.shape.Idx) :
    arg3.view.readAt (Elt F) (Rect.unit (s := S16x8x5) off S1x1x1.size inb).toLoadRect X3 z = tw (arg3.view.read (Elt F) X3) i j := by
  subst h
  refine congrArg (arg3.view.read (Elt F) X3) ?_
  have h0 : (z 0).val < 1 := (z 0).isLt
  have h1 : (z 1).val < 1 := (z 1).isLt
  have h2 : (z 2).val < 1 := (z 2).isLt
  funext a; fin_cases a
  · apply Fin.ext; show (i 0).val + 1 * (z 0).val = (i 0).val; omega
  · apply Fin.ext; show (i 1).val + 1 * (z 1).val = (i 1).val; omega
  · apply Fin.ext; show j.val + 1 * (z 2).val = j.val; omega

theorem coords_eq (j : ℕ) (hj : j < 5) : (![(Scalar.indexCast (BitVec.ofNat 32 (i 0).val)).toNat, (Scalar.indexCast (BitVec.ofNat 32 (i 1).val)).toNat, j] : Fin 3 → ℕ) = ![(i 0).val, (i 1).val, j] := by
  have h0 : (i 0).val < 16 := (i 0).isLt
  have h1 : (i 1).val < 8 := (i 1).isLt
  funext a; fin_cases a
  · show (BitVec.ofNat 32 (i 0).val).toNat = (i 0).val
    rw [BitVec.toNat_ofNat]; exact Nat.mod_eq_of_lt (by omega)
  · show (BitVec.ofNat 32 (i 1).val).toNat = (i 1).val
    rw [BitVec.toNat_ofNat]; exact Nat.mod_eq_of_lt (by omega)
  · rfl

theorem pay9_eq (v2 : Elt F .i32) (k : Fin (k0_t1_loop v2).trips) (r : Vec F S1x1x1x512 .i32) (a : Vec F S256x1024 .f32) (x : Vec F S512x1024 .bf16) :
    k0_pay9 v2 0#32 1#32 k r a x = k0_pay29 (Scf.iv 0#32 1#32 k) r a x := rfl
theorem pay10_eq (v2 : Elt F .i32) (k : Fin (k0_t1_loop v2).trips) (r : Vec F S1x1x1x512 .i32) (a : Vec F S256x1024 .f32) (x : Vec F S512x1024 .bf16) :
    k0_pay10 v2 0#32 1#32 k r a x = k0_pay29 (Scf.iv 0#32 1#32 k) r a x := rfl
theorem pay30_eq (w : BitVec 32) (r : Vec F S1x1x1x512 .i32) (a : Vec F S256x1024 .f32) (x : Vec F S512x1024 .bf16) :
    k0_pay30 w r a x = k0_pay29 w r a x := rfl
theorem pay23_eq (v2 : Elt F .i32) (k : Fin (k0_t7_loop v2).trips) (y : Vec F S256x1024 .f32) (r : Vec F S1x1x512x1 .i32) (o : Vec F S512x1024 .f32) (g : Vec F S1x1x512x1 .f32) :
    k0_pay23 v2 0#32 1#32 k y r o g = k0_pay4 (Scf.iv 0#32 1#32 k) (k0_pay22 y) r o g := rfl
theorem pay24_eq (v2 : Elt F .i32) (k : Fin (k0_t7_loop v2).trips) (y : Vec F S256x1024 .f32) (r : Vec F S1x1x512x1 .i32) (o : Vec F S512x1024 .f32) (g : Vec F S1x1x512x1 .f32) :
    k0_pay24 v2 0#32 1#32 k y r o g = k0_pay4 (Scf.iv 0#32 1#32 k) (k0_pay22 y) r o g := rfl
theorem pay5_eq (w : BitVec 32) (y : FVec F S256x1024 .bf16) (r : Vec F S1x1x512x1 .i32) (o : Vec F S512x1024 .f32) (g : Vec F S1x1x512x1 .f32) :
    k0_pay5 w y r o g = k0_pay4 w y r o g := rfl

theorem t1_step (v2 : Elt F .i32) (hv : BitVec.toNat v2 ≤ 2048) (k0_hw1 : k0_chk1 i v2) (k0_h2 : k0_cond2 i = 1#1) (arg0 arg1 : BitVec 32)
    (X3 : Buf (Elt F) (arg3.view.loc (c : Thread nD τ))) (X4 : BufTy.Contents (Elt F) arg4.view.ty) (X5 : BufTy.Contents (Elt F) arg5.view.ty)
    (k : Fin (k0_t1_loop v2).trips) (f12 : BufTy.Contents (Elt F) arg12.view.ty) (f13 : BufTy.Contents (Elt F) arg13.view.ty) :
    arg13.view.read (Elt F) ((trip_t1 𝒱 c bd i arg3 harg3 arg4 harg4 arg5 harg5 arg6 harg6 arg7 harg7 arg8 harg8 arg9 harg9 arg10 harg10 arg11 harg11 arg12 harg12 arg13 harg13 v2 k0_hw1 k0_h2 arg0 arg1 X3 X4 X5 k).2.1 f12 f13)
      = putT k.val (gatherAcc (arg3.view.read (Elt F) X3) i (arg5.view.read (Elt F) X5) (arg4.view.read (Elt F) X4) k.val) (arg13.view.read (Elt F) f13) := by
  have hk : k.val < 8 := lt_of_lt_of_le k.isLt ((trips1 v2 hv).trans_le (nTiles_le v2 hv))
  unfold trip_t1
  dsimp only
  refine gstepT arg13 k.val _ _ _ _ _ ?c3 _ (gstepT arg13 k.val _ _ _ _ _ ?c2 _ (gstepT arg13 k.val _ _ _ _ _ ?c1 _ (gstepT arg13 k.val _ _ _ _ _ ?c0 _ ?base _ ?w0) _ ?w1) _ ?w2) _ ?w3
  case c0 => exact Iff.of_eq (congrArg (· = 1#1) (congrArg₂ (slabHits k.val) (word_at c i arg3 X3 0 (coords_eq i 0 (by omega)) _ _) (word_at c i arg3 X3 1 (coords_eq i 1 (by omega)) _ _)))
  case c1 => exact Iff.of_eq (congrArg (· = 1#1) (congrArg₂ (slabHits k.val) (word_at c i arg3 X3 1 (coords_eq i 1 (by omega)) _ _) (word_at c i arg3 X3 2 (coords_eq i 2 (by omega)) _ _)))
  case c2 => exact Iff.of_eq (congrArg (· = 1#1) (congrArg₂ (slabHits k.val) (word_at c i arg3 X3 2 (coords_eq i 2 (by omega)) _ _) (word_at c i arg3 X3 3 (coords_eq i 3 (by omega)) _ _)))
  case c3 => exact Iff.of_eq (congrArg (· = 1#1) (congrArg₂ (slabHits k.val) (word_at c i arg3 X3 3 (coords_eq i 3 (by omega)) _ _) (word_at c i arg3 X3 4 (coords_eq i 4 (by omega)) _ _)))
  case base =>
    unfold trip_t1.sl.H13_1
    refine (write_tile arg13 f13 k.val (off2_eq v2 hv k) _ _ _).trans ?_
    rw [View.writes_nil]
  case w0 =>
    intro hG hc
    refine (write_tile arg13 _ k.val (off5_eq v2 hv k) _ _ _).trans ?_
    rw [hG, putT_putT, pay9_eq]
    refine congrArg₂ (putT _) ?_ rfl
    refine congr (congr (congr (congrArg k0_pay29 rfl) (read_rowSlab arg5 X5 0 rfl _)) ?_) (read_slab arg4 X4 0 rfl _)
    exact (read_tile arg13 _ k.val (off5_eq v2 hv k) _).trans ((congrArg (winT k.val) hG).trans (winT_putT k.val hk _ _))
  case w1 =>
    intro hG hc
    refine (write_tile arg13 _ k.val (off8_eq v2 hv k) _ _ _).trans ?_
    rw [View.writes_nil, hG, putT_putT, pay10_eq]
    refine congrArg₂ (putT _) ?_ rfl
    refine congr (congr (congr (congrArg k0_pay29 rfl) (read_rowSlab arg5 X5 1 rfl _)) ?_) (read_slab arg4 X4 1 rfl _)
    exact (read_tile arg13 _ k.val (off8_eq v2 hv k) _).trans ((congrArg (winT k.val) hG).trans (winT_putT k.val hk _ _))
  case w2 =>
    intro hG hc
    refine (write_tile arg13 _ k.val (off11_eq v2 hv k) _ _ _).trans ?_
    rw [View.writes_nil, hG, putT_putT]
    refine congrArg₂ (putT _) ?_ rfl
    refine congr (congr (congr (congrArg k0_pay29 rfl) (read_rowSlab arg5 X5 2 rfl _)) ?_) (read_slab arg4 X4 2 rfl _)
    exact (read_tile arg13 _ k.val (off11_eq v2 hv k) _).trans ((congrArg (winT k.val) hG).trans (winT_putT k.val hk _ _))
  case w3 =>
    intro hG hc
    refine (write_tile arg13 _ k.val (off14_eq v2 hv k) _ _ _).trans ?_
    rw [View.writes_nil, hG, putT_putT, pay30_eq]
    refine congrArg₂ (putT _) ?_ rfl
    refine congr (congr (congr (congrArg k0_pay29 rfl) (read_rowSlab arg5 X5 3 rfl _)) ?_) (read_slab arg4 X4 3 rfl _)
    exact (read_tile arg13 _ k.val (off14_eq v2 hv k) _).trans ((congrArg (winT k.val) hG).trans (winT_putT k.val hk _ _))

theorem t1_step12 (v2 : Elt F .i32) (hv : BitVec.toNat v2 ≤ 2048) (k0_hw1 : k0_chk1 i v2) (k0_h2 : k0_cond2 i = 1#1) (arg0 arg1 : BitVec 32)
    (X3 : Buf (Elt F) (arg3.view.loc (c : Thread nD τ))) (X4 : BufTy.Contents (Elt F) arg4.view.ty) (X5 : BufTy.Contents (Elt F) arg5.view.ty)
    (k : Fin (k0_t1_loop v2).trips) (f12 : BufTy.Contents (Elt F) arg12.view.ty) (f13 : BufTy.Contents (Elt F) arg13.view.ty) :
    arg12.view.read (Elt F) ((trip_t1 𝒱 c bd i arg3 harg3 arg4 harg4 arg5 harg5 arg6 harg6 arg7 harg7 arg8 harg8 arg9 harg9 arg10 harg10 arg11 harg11 arg12 harg12 arg13 harg13 v2 k0_hw1 k0_h2 arg0 arg1 X3 X4 X5 k).1 f12 f13)
      = putT k.val (gatherT (arg3.view.read (Elt F) X3) i (arg5.view.read (Elt F) X5) (arg4.view.read (Elt F) X4) k.val) (arg12.view.read (Elt F) f12) := by
  have hk : k.val < 8 := lt_of_lt_of_le k.isLt ((trips1 v2 hv).trans_le (nTiles_le v2 hv))
  have hG := t1_step 𝒱 c bd i arg3 harg3 arg4 harg4 arg5 harg5 arg6 harg6 arg7 harg7 arg8 harg8 arg9 harg9 arg10 harg10 arg11 harg11 arg12 harg12 arg13 harg13 v2 hv k0_hw1 k0_h2 arg0 arg1 X3 X4 X5 k f12 f13
  unfold trip_t1 at hG ⊢
  dsimp only at hG ⊢
  refine (write_tile arg12 _ k.val (off15_eq v2 hv k) _ _ _).trans ?_
  rw [View.writes_nil]
  refine congrArg₂ (putT _) (congrArg k0_pay31 ?_) rfl
  exact (read_tile arg13 _ k.val (off15_eq v2 hv k) _).trans ((congrArg (winT k.val) hG).trans (winT_putT k.val hk _ _))

theorem t7_step (v2 : Elt F .i32) (hv : BitVec.toNat v2 ≤ 2048) (k0_hw1 : k0_chk1 i v2) (k0_h15 : k0_cond15 i = 1#1) (arg0 arg1 : BitVec 32)
    (X3 : Buf (Elt F) (arg3.view.loc (c : Thread nD τ))) (X6 : BufTy.Contents (Elt F) arg6.view.ty) (X7 : BufTy.Contents (Elt F) arg7.view.ty) (X13 : BufTy.Contents (Elt F) arg13.view.ty)
    (k : Fin (k0_t7_loop v2).trips) (f11 : BufTy.Contents (Elt F) arg11.view.ty) :
    arg11.view.read (Elt F) ((trip_t7 𝒱 c bd i arg3 harg3 arg4 harg4 arg5 harg5 arg6 harg6 arg7 harg7 arg8 harg8 arg9 harg9 arg10 harg10 arg11 harg11 arg12 harg12 arg13 harg13 v2 k0_hw1 k0_h15 arg0 arg1 X3 X6 X7 X13 k).1 f11)
      = scatterT (arg3.view.read (Elt F) X3) i (arg6.view.read (Elt F) X6) (arg7.view.read (Elt F) X7) (winT k.val (arg13.view.read (Elt F) X13)) k.val (arg11.view.read (Elt F) f11) := by
  have hk : k.val < 8 := lt_of_lt_of_le k.isLt ((trips7 v2 hv).trans_le (nTiles_le v2 hv))
  have ey := read_tile arg13 X13 k.val (off40_eq v2 hv k) (k0_off40_inb i v2 k0_hw1 k k0_h15)
  unfold trip_t7
  dsimp only
  refine gstep arg11 _ _ _ _ ?c3 _ (gstep arg11 _ _ _ _ ?c2 _ (gstep arg11 _ _ _ _ ?c1 _ (gstep arg11 _ _ _ _ ?c0 _ rfl _ ?w0) _ ?w1) _ ?w2) _ ?w3
  case c0 => exact Iff.of_eq (congrArg (· = 1#1) (congrArg₂ (slabHits k.val) (word_at c i arg3 X3 0 (coords_eq i 0 (by omega)) _ _) (word_at c i arg3 X3 1 (coords_eq i 1 (by omega)) _ _)))
  case c1 => exact Iff.of_eq (congrArg (· = 1#1) (congrArg₂ (slabHits k.val) (word_at c i arg3 X3 1 (coords_eq i 1 (by omega)) _ _) (word_at c i arg3 X3 2 (coords_eq i 2 (by omega)) _ _)))
  case c2 => exact Iff.of_eq (congrArg (· = 1#1) (congrArg₂ (slabHits k.val) (word_at c i arg3 X3 2 (coords_eq i 2 (by omega)) _ _) (word_at c i arg3 X3 3 (coords_eq i 3 (by omega)) _ _)))
  case c3 => exact Iff.of_eq (congrArg (· = 1#1) (congrArg₂ (slabHits k.val) (word_at c i arg3 X3 3 (coords_eq i 3 (by omega)) _ _) (word_at c i arg3 X3 4 (coords_eq i 4 (by omega)) _ _)))
  case w0 =>
    intro hG hc
    refine (write_slab arg11 _ 0 rfl _ _ _).trans ?_
    rw [View.writes_nil, hG, pay23_eq]
    refine congrArg₂ (putS _) ?_ rfl
    refine congr (congr (congr (congr (congrArg k0_pay4 rfl) (congrArg k0_pay22 ey)) (read_colSlab arg6 X6 0 rfl _)) ?_) (read_colSlab arg7 X7 0 rfl _)
    exact (read_slab arg11 _ 0 rfl _).trans (congrArg (winS 0) hG)
  case w1 =>
    intro hG hc
    refine (write_slab arg11 _ 1 rfl _ _ _).trans ?_
    rw [View.writes_nil, hG, pay24_eq]
    refine congrArg₂ (putS _) ?_ rfl
    refine congr (congr (congr (congr (congrArg k0_pay4 rfl) (congrArg k0_pay22 ey)) (read_colSlab arg6 X6 1 rfl _)) ?_) (read_colSlab arg7 X7 1 rfl _)
    exact (read_slab arg11 _ 1 rfl _).trans (congrArg (winS 1) hG)
  case w2 =>
    intro hG hc
    refine (write_slab arg11 _ 2 rfl _ _ _).trans ?_
    rw [View.writes_nil, hG]
    refine congrArg₂ (putS _) ?_ rfl
    refine congr (congr (congr (congr (congrArg k0_pay4 rfl) (congrArg k0_pay22 ey)) (read_colSlab arg6 X6 2 rfl _)) ?_) (read_colSlab arg7 X7 2 rfl _)
    exact (read_slab arg11 _ 2 rfl _).trans (congrArg (winS 2) hG)
  case w3 =>
    intro hG hc
    refine (write_slab arg11 _ 3 rfl _ _ _).trans ?_
    rw [View.writes_nil, hG, pay5_eq]
    refine congrArg₂ (putS _) ?_ rfl
    refine congr (congr (congr (congr (congrArg k0_pay4 rfl) (congrArg k0_pay22 ey)) (read_colSlab arg6 X6 3 rfl _)) ?_) (read_colSlab arg7 X7 3 rfl _)
    exact (read_slab arg11 _ 3 rfl _).trans (congrArg (winS 3) hG)

end Cert.MoeIdeal.Hand
-- ==== Proof.Moe.Body.lean ====
module

public import proofs.«01_k».proof.Proof.Moe.Trips

/-! The expert kernel's body, in the four places of an expert's sweep over its tiles of the hidden width. -/

@[expose] public section

set_option maxRecDepth 8192
set_option maxHeartbeats 4000000

noncomputable section

namespace Cert.MoeIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.MoeIdeal.Gen

variable {F : FTy → Type} [FloatOps F]

local notation "𝕄" => MT nD τ sig Unit (Elt F) ℕ (UR sig nD τ) ℕ

variable (𝒱 : Variants) (c : Dev nD) (bd : Option 𝒱.V) (i : grid0.Coords)
  (arg3 : Memref sig .tc .smem S16x8x5 .i32) (harg3 : arg3.IsWhole) (arg4 : Memref sig .tc .vmem S2048x1024 .bf16) (harg4 : arg4.IsWhole)
  (arg5 : Memref sig .tc .vmem S1x1x1x2048 .i32) (harg5 : arg5.IsWhole) (arg6 : Memref sig .tc .vmem S1x1x2048x1 .i32) (harg6 : arg6.IsWhole)
  (arg7 : Memref sig .tc .vmem S1x1x2048x1 .f32) (harg7 : arg7.IsWhole) (arg8 : Memref sig .tc .vmem S1x1024x512 .bf16) (harg8 : arg8.IsWhole)
  (arg9 : Memref sig .tc .vmem S1x1024x512 .bf16) (harg9 : arg9.IsWhole) (arg10 : Memref sig .tc .vmem S1x512x1024 .bf16) (harg10 : arg10.IsWhole)
  (arg11 : Memref sig .tc .vmem S2048x1024 .f32) (harg11 : arg11.IsWhole) (arg12 : Memref sig .tc .vmem S2048x1024 .bf16) (harg12 : arg12.IsWhole)
  (arg13 : Memref sig .tc .vmem S2048x1024 .f32) (harg13 : arg13.IsWhole)

/-- The first expert's first part: the output cleared, the rows gathered, the feed-forward begun. -/
@[irreducible] def bodyA (X3 : Buf (Elt F) (arg3.view.loc (c : Thread nD τ))) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty)
    (hw : ∀ z, k0_chk1 i (arg3.view.readAt (Elt F) (Rect.unit (s := S16x8x5) (k0_off1 i) S1x1x1.size (k0_off1_inb i)).toLoadRect X3 z)) (hc1 : k0_cond1 i = 1#1) (hc2 : k0_cond2 i = 1#1) (hc11 : k0_cond11 i = 1#1) (hc13 : ¬ k0_cond13 i = 1#1) (hc15 : ¬ k0_cond15 i = 1#1) :
    Σ' (N11 : BufTy.Contents (Elt F) arg11.view.ty → BufTy.Contents (Elt F) arg12.view.ty → BufTy.Contents (Elt F) arg13.view.ty → BufTy.Contents (Elt F) arg11.view.ty),
    Σ' (N12 : BufTy.Contents (Elt F) arg11.view.ty → BufTy.Contents (Elt F) arg12.view.ty → BufTy.Contents (Elt F) arg13.view.ty → BufTy.Contents (Elt F) arg12.view.ty),
    { N13 : BufTy.Contents (Elt F) arg11.view.ty → BufTy.Contents (Elt F) arg12.view.ty → BufTy.Contents (Elt F) arg13.view.ty → BufTy.Contents (Elt F) arg13.view.ty // ∀ (E : Set ℕ) (f11 : BufTy.Contents (Elt F) arg11.view.ty) (f12 : BufTy.Contents (Elt F) arg12.view.ty) (f13 : BufTy.Contents (Elt F) arg13.view.ty),
      iprop(ptT c arg3 X3 ∗ pt c arg4 X4 ∗ pt c arg5 X5 ∗ pt c arg6 X6 ∗ pt c arg7 X7 ∗ pt c arg8 X8 ∗ pt c arg9 X9 ∗ pt c arg10 X10 ∗ pt c arg11 f11 ∗ pt c arg12 f12 ∗ pt c arg13 f13)
      ⊢ wp frame (wpE (defs₀ (F := F)) 𝒱 (c : Thread nD τ) bd) E (cc0_moe (F := F) i arg3 harg3 arg4 harg4 arg5 harg5 arg6 harg6 arg7 harg7 arg8 harg8 arg9 harg9 arg10 harg10 arg11 harg11 arg12 harg12 arg13 harg13)
          (fun _ => iprop(ptT c arg3 X3 ∗ pt c arg4 X4 ∗ pt c arg5 X5 ∗ pt c arg6 X6 ∗ pt c arg7 X7 ∗ pt c arg8 X8 ∗ pt c arg9 X9 ∗ pt c arg10 X10 ∗ pt c arg11 (N11 f11 f12 f13) ∗ pt c arg12 (N12 f11 f12 f13) ∗ pt c arg13 (N13 f11 f12 f13))) } := by
  refine ⟨?_, ?_, ?_, fun E f11 f12 f13 => ?run⟩
  case run =>
    simp only [cc0_moe_eq_skeleton]
    unfold cc0_moe_skel
    iintro ⟨H3, H4, H5, H6, H7, H8, H9, H10, H11, H12, H13⟩
    sl_exec (disch := first | sl_exact hc1 | sl_exact hc2 | sl_exact hc11 | sl_exact hc13 | sl_exact hc15)
    sl_step
    sl_close

/-- A later expert's first part: the rows gathered, the feed-forward begun. -/
@[irreducible] def bodyB (X3 : Buf (Elt F) (arg3.view.loc (c : Thread nD τ))) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty)
    (hw : ∀ z, k0_chk1 i (arg3.view.readAt (Elt F) (Rect.unit (s := S16x8x5) (k0_off1 i) S1x1x1.size (k0_off1_inb i)).toLoadRect X3 z)) (hc1 : ¬ k0_cond1 i = 1#1) (hc2 : k0_cond2 i = 1#1) (hc11 : k0_cond11 i = 1#1) (hc13 : ¬ k0_cond13 i = 1#1) (hc15 : ¬ k0_cond15 i = 1#1) :
    Σ' (N12 : BufTy.Contents (Elt F) arg11.view.ty → BufTy.Contents (Elt F) arg12.view.ty → BufTy.Contents (Elt F) arg13.view.ty → BufTy.Contents (Elt F) arg12.view.ty),
    { N13 : BufTy.Contents (Elt F) arg11.view.ty → BufTy.Contents (Elt F) arg12.view.ty → BufTy.Contents (Elt F) arg13.view.ty → BufTy.Contents (Elt F) arg13.view.ty // ∀ (E : Set ℕ) (f11 : BufTy.Contents (Elt F) arg11.view.ty) (f12 : BufTy.Contents (Elt F) arg12.view.ty) (f13 : BufTy.Contents (Elt F) arg13.view.ty),
      iprop(ptT c arg3 X3 ∗ pt c arg4 X4 ∗ pt c arg5 X5 ∗ pt c arg6 X6 ∗ pt c arg7 X7 ∗ pt c arg8 X8 ∗ pt c arg9 X9 ∗ pt c arg10 X10 ∗ pt c arg11 f11 ∗ pt c arg12 f12 ∗ pt c arg13 f13)
      ⊢ wp frame (wpE (defs₀ (F := F)) 𝒱 (c : Thread nD τ) bd) E (cc0_moe (F := F) i arg3 harg3 arg4 harg4 arg5 harg5 arg6 harg6 arg7 harg7 arg8 harg8 arg9 harg9 arg10 harg10 arg11 harg11 arg12 harg12 arg13 harg13)
          (fun _ => iprop(ptT c arg3 X3 ∗ pt c arg4 X4 ∗ pt c arg5 X5 ∗ pt c arg6 X6 ∗ pt c arg7 X7 ∗ pt c arg8 X8 ∗ pt c arg9 X9 ∗ pt c arg10 X10 ∗ pt c arg11 f11 ∗ pt c arg12 (N12 f11 f12 f13) ∗ pt c arg13 (N13 f11 f12 f13))) } := by
  refine ⟨?_, ?_, fun E f11 f12 f13 => ?run⟩
  case run =>
    simp only [cc0_moe_eq_skeleton]
    unfold cc0_moe_skel
    iintro ⟨H3, H4, H5, H6, H7, H8, H9, H10, H11, H12, H13⟩
    sl_exec (disch := first | sl_exact hc1 | sl_exact hc2 | sl_exact hc11 | sl_exact hc13 | sl_exact hc15)
    sl_step
    sl_close

/-- A middle part: the feed-forward continued. -/
@[irreducible] def bodyC (X3 : Buf (Elt F) (arg3.view.loc (c : Thread nD τ))) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty)
    (hw : ∀ z, k0_chk1 i (arg3.view.readAt (Elt F) (Rect.unit (s := S16x8x5) (k0_off1 i) S1x1x1.size (k0_off1_inb i)).toLoadRect X3 z)) (hc1 : ¬ k0_cond1 i = 1#1) (hc2 : ¬ k0_cond2 i = 1#1) (hc11 : ¬ k0_cond11 i = 1#1) (hc13 : k0_cond13 i = 1#1) (hc15 : ¬ k0_cond15 i = 1#1) :
    { N13 : BufTy.Contents (Elt F) arg11.view.ty → BufTy.Contents (Elt F) arg12.view.ty → BufTy.Contents (Elt F) arg13.view.ty → BufTy.Contents (Elt F) arg13.view.ty // ∀ (E : Set ℕ) (f11 : BufTy.Contents (Elt F) arg11.view.ty) (f12 : BufTy.Contents (Elt F) arg12.view.ty) (f13 : BufTy.Contents (Elt F) arg13.view.ty),
      iprop(ptT c arg3 X3 ∗ pt c arg4 X4 ∗ pt c arg5 X5 ∗ pt c arg6 X6 ∗ pt c arg7 X7 ∗ pt c arg8 X8 ∗ pt c arg9 X9 ∗ pt c arg10 X10 ∗ pt c arg11 f11 ∗ pt c arg12 f12 ∗ pt c arg13 f13)
      ⊢ wp frame (wpE (defs₀ (F := F)) 𝒱 (c : Thread nD τ) bd) E (cc0_moe (F := F) i arg3 harg3 arg4 harg4 arg5 harg5 arg6 harg6 arg7 harg7 arg8 harg8 arg9 harg9 arg10 harg10 arg11 harg11 arg12 harg12 arg13 harg13)
          (fun _ => iprop(ptT c arg3 X3 ∗ pt c arg4 X4 ∗ pt c arg5 X5 ∗ pt c arg6 X6 ∗ pt c arg7 X7 ∗ pt c arg8 X8 ∗ pt c arg9 X9 ∗ pt c arg10 X10 ∗ pt c arg11 f11 ∗ pt c arg12 f12 ∗ pt c arg13 (N13 f11 f12 f13))) } := by
  refine ⟨?_, fun E f11 f12 f13 => ?run⟩
  case run =>
    simp only [cc0_moe_eq_skeleton]
    unfold cc0_moe_skel
    iintro ⟨H3, H4, H5, H6, H7, H8, H9, H10, H11, H12, H13⟩
    sl_exec (disch := first | sl_exact hc1 | sl_exact hc2 | sl_exact hc11 | sl_exact hc13 | sl_exact hc15)
    sl_step
    sl_close

/-- The last part: the feed-forward finished and the rows added back. -/
@[irreducible] def bodyD (X3 : Buf (Elt F) (arg3.view.loc (c : Thread nD τ))) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty)
    (hw : ∀ z, k0_chk1 i (arg3.view.readAt (Elt F) (Rect.unit (s := S16x8x5) (k0_off1 i) S1x1x1.size (k0_off1_inb i)).toLoadRect X3 z)) (hc1 : ¬ k0_cond1 i = 1#1) (hc2 : ¬ k0_cond2 i = 1#1) (hc11 : ¬ k0_cond11 i = 1#1) (hc13 : k0_cond13 i = 1#1) (hc15 : k0_cond15 i = 1#1) :
    Σ' (N11 : BufTy.Contents (Elt F) arg11.view.ty → BufTy.Contents (Elt F) arg12.view.ty → BufTy.Contents (Elt F) arg13.view.ty → BufTy.Contents (Elt F) arg11.view.ty),
    { N13 : BufTy.Contents (Elt F) arg11.view.ty → BufTy.Contents (Elt F) arg12.view.ty → BufTy.Contents (Elt F) arg13.view.ty → BufTy.Contents (Elt F) arg13.view.ty // ∀ (E : Set ℕ) (f11 : BufTy.Contents (Elt F) arg11.view.ty) (f12 : BufTy.Contents (Elt F) arg12.view.ty) (f13 : BufTy.Contents (Elt F) arg13.view.ty),
      iprop(ptT c arg3 X3 ∗ pt c arg4 X4 ∗ pt c arg5 X5 ∗ pt c arg6 X6 ∗ pt c arg7 X7 ∗ pt c arg8 X8 ∗ pt c arg9 X9 ∗ pt c arg10 X10 ∗ pt c arg11 f11 ∗ pt c arg12 f12 ∗ pt c arg13 f13)
      ⊢ wp frame (wpE (defs₀ (F := F)) 𝒱 (c : Thread nD τ) bd) E (cc0_moe (F := F) i arg3 harg3 arg4 harg4 arg5 harg5 arg6 harg6 arg7 harg7 arg8 harg8 arg9 harg9 arg10 harg10 arg11 harg11 arg12 harg12 arg13 harg13)
          (fun _ => iprop(ptT c arg3 X3 ∗ pt c arg4 X4 ∗ pt c arg5 X5 ∗ pt c arg6 X6 ∗ pt c arg7 X7 ∗ pt c arg8 X8 ∗ pt c arg9 X9 ∗ pt c arg10 X10 ∗ pt c arg11 (N11 f11 f12 f13) ∗ pt c arg12 f12 ∗ pt c arg13 (N13 f11 f12 f13))) } := by
  refine ⟨?_, ?_, fun E f11 f12 f13 => ?run⟩
  case run =>
    simp only [cc0_moe_eq_skeleton]
    unfold cc0_moe_skel
    iintro ⟨H3, H4, H5, H6, H7, H8, H9, H10, H11, H12, H13⟩
    sl_exec (disch := first | sl_exact hc1 | sl_exact hc2 | sl_exact hc11 | sl_exact hc13 | sl_exact hc15)
    sl_step
    sl_close

end Cert.MoeIdeal.Hand
-- ==== Proof.Moe.BodyLoops.lean ====
module

public import proofs.«01_k».proof.Proof.Moe.Body

/-! What the expert kernel's loops leave, tile by tile. -/

@[expose] public section

set_option maxRecDepth 8192
set_option maxHeartbeats 4000000

noncomputable section

namespace Cert.MoeIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx
open Cert.MoeIdeal.Gen

variable {F : FTy → Type} [FloatOps F]

local notation "𝕄" => MT nD τ sig Unit (Elt F) ℕ (UR sig nD τ) ℕ

variable (𝒱 : Variants) (c : Dev nD) (bd : Option 𝒱.V) (i : grid0.Coords)
  (arg3 : Memref sig .tc .smem S16x8x5 .i32) (harg3 : arg3.IsWhole) (arg4 : Memref sig .tc .vmem S2048x1024 .bf16) (harg4 : arg4.IsWhole)
  (arg5 : Memref sig .tc .vmem S1x1x1x2048 .i32) (harg5 : arg5.IsWhole) (arg6 : Memref sig .tc .vmem S1x1x2048x1 .i32) (harg6 : arg6.IsWhole)
  (arg7 : Memref sig .tc .vmem S1x1x2048x1 .f32) (harg7 : arg7.IsWhole) (arg8 : Memref sig .tc .vmem S1x1024x512 .bf16) (harg8 : arg8.IsWhole)
  (arg9 : Memref sig .tc .vmem S1x1024x512 .bf16) (harg9 : arg9.IsWhole) (arg10 : Memref sig .tc .vmem S1x512x1024 .bf16) (harg10 : arg10.IsWhole)
  (arg11 : Memref sig .tc .vmem S2048x1024 .f32) (harg11 : arg11.IsWhole) (arg12 : Memref sig .tc .vmem S2048x1024 .bf16) (harg12 : arg12.IsWhole)
  (arg13 : Memref sig .tc .vmem S2048x1024 .f32) (harg13 : arg13.IsWhole)

/-! ### The loops -/

theorem after1 (v2 : Elt F .i32) (hv : BitVec.toNat v2 ≤ 2048) (k0_hw1 : k0_chk1 i v2) (k0_h2 : k0_cond2 i = 1#1) (arg0 arg1 : BitVec 32) (X3 : Buf (Elt F) (arg3.view.loc (c : Thread nD τ))) (X4 : BufTy.Contents (Elt F) arg4.view.ty) (X5 : BufTy.Contents (Elt F) arg5.view.ty) (f12 : BufTy.Contents (Elt F) arg12.view.ty) (f13 : BufTy.Contents (Elt F) arg13.view.ty) :
    ∀ k, k < nTiles v2 → winT k (arg12.view.read (Elt F) (after_t1 𝒱 c bd i arg3 harg3 arg4 harg4 arg5 harg5 arg6 harg6 arg7 harg7 arg8 harg8 arg9 harg9 arg10 harg10 arg11 harg11 arg12 harg12 arg13 harg13 v2 k0_hw1 k0_h2 arg0 arg1 X3 X4 X5 f12 f13 (k0_t1_loop v2).trips).1)
      = gatherT (arg3.view.read (Elt F) X3) i (arg5.view.read (Elt F) X5) (arg4.view.read (Elt F) X4) k := by
  have ht := trips1 v2 hv
  have := tiles_single (nTiles v2) (nTiles_le v2 hv) (fun k => gatherT (arg3.view.read (Elt F) X3) i (arg5.view.read (Elt F) X5) (arg4.view.read (Elt F) X4) k)
    (fun k => arg12.view.read (Elt F) (after_t1 𝒱 c bd i arg3 harg3 arg4 harg4 arg5 harg5 arg6 harg6 arg7 harg7 arg8 harg8 arg9 harg9 arg10 harg10 arg11 harg11 arg12 harg12 arg13 harg13 v2 k0_hw1 k0_h2 arg0 arg1 X3 X4 X5 f12 f13 k).1)
    (fun k hk => by
      have e := iter_succ (n := (k0_t1_loop v2).trips) (fun k s => ((trip_t1 𝒱 c bd i arg3 harg3 arg4 harg4 arg5 harg5 arg6 harg6 arg7 harg7 arg8 harg8 arg9 harg9 arg10 harg10 arg11 harg11 arg12 harg12 arg13 harg13 v2 k0_hw1 k0_h2 arg0 arg1 X3 X4 X5 k).1 s.1 s.2, (trip_t1 𝒱 c bd i arg3 harg3 arg4 harg4 arg5 harg5 arg6 harg6 arg7 harg7 arg8 harg8 arg9 harg9 arg10 harg10 arg11 harg11 arg12 harg12 arg13 harg13 v2 k0_hw1 k0_h2 arg0 arg1 X3 X4 X5 k).2.1 s.1 s.2)) (f12, f13) ⟨k, ht ▸ hk⟩
      refine (congrArg (fun s => arg12.view.read (Elt F) (Prod.fst s)) e).trans ?_
      exact t1_step12 𝒱 c bd i arg3 harg3 arg4 harg4 arg5 harg5 arg6 harg6 arg7 harg7 arg8 harg8 arg9 harg9 arg10 harg10 arg11 harg11 arg12 harg12 arg13 harg13 v2 hv k0_hw1 k0_h2 arg0 arg1 X3 X4 X5 ⟨k, ht ▸ hk⟩ _ _)
    (nTiles v2) le_rfl
  intro k hk
  have h := this k hk
  rw [ht]
  exact h

theorem after3 (v2 : Elt F .i32) (hv : BitVec.toNat v2 ≤ 2048) (k0_hw1 : k0_chk1 i v2) (k0_h11 : k0_cond11 i = 1#1) (X8 : BufTy.Contents (Elt F) arg8.view.ty) (X9 : BufTy.Contents (Elt F) arg9.view.ty) (X10 : BufTy.Contents (Elt F) arg10.view.ty) (X12 : BufTy.Contents (Elt F) arg12.view.ty) (f13 : BufTy.Contents (Elt F) arg13.view.ty) :
    ∀ k, k < 2 * (nTiles v2 / 2) → winT k (arg13.view.read (Elt F) (after_t3 𝒱 c bd i arg3 harg3 arg4 harg4 arg5 harg5 arg6 harg6 arg7 harg7 arg8 harg8 arg9 harg9 arg10 harg10 arg11 harg11 arg12 harg12 arg13 harg13 v2 k0_hw1 k0_h11 X8 X9 X10 X12 f13 (k0_t3_loop v2).trips))
      = ffnNew (arg8.view.read (Elt F) X8) (arg9.view.read (Elt F) X9) (arg10.view.read (Elt F) X10) (winT k (arg12.view.read (Elt F) X12)) := by
  have ht := trips3 v2 hv
  have hn := nTiles_le v2 hv
  have := tiles_pair (nTiles v2 / 2) (by omega) (fun k _ => ffnNew (arg8.view.read (Elt F) X8) (arg9.view.read (Elt F) X9) (arg10.view.read (Elt F) X10) (winT k (arg12.view.read (Elt F) X12)))
    (fun k => arg13.view.read (Elt F) (after_t3 𝒱 c bd i arg3 harg3 arg4 harg4 arg5 harg5 arg6 harg6 arg7 harg7 arg8 harg8 arg9 harg9 arg10 harg10 arg11 harg11 arg12 harg12 arg13 harg13 v2 k0_hw1 k0_h11 X8 X9 X10 X12 f13 k))
    (fun k hk => by
      have e := iter_succ (n := (k0_t3_loop v2).trips) (fun k s => (trip_t3 𝒱 c bd i arg3 harg3 arg4 harg4 arg5 harg5 arg6 harg6 arg7 harg7 arg8 harg8 arg9 harg9 arg10 harg10 arg11 harg11 arg12 harg12 arg13 harg13 v2 k0_hw1 k0_h11 X8 X9 X10 X12 k).1 s) f13 ⟨k, ht ▸ hk⟩
      refine (congrArg (arg13.view.read (Elt F)) e).trans ?_
      exact t3_step 𝒱 c bd i arg3 harg3 arg4 harg4 arg5 harg5 arg6 harg6 arg7 harg7 arg8 harg8 arg9 harg9 arg10 harg10 arg11 harg11 arg12 harg12 arg13 harg13 v2 hv k0_hw1 k0_h11 X8 X9 X10 X12 ⟨k, ht ▸ hk⟩ _)
    (nTiles v2 / 2) le_rfl
  intro k hk
  have h := this k (by omega)
  rw [if_pos hk] at h
  rw [ht]
  exact h

theorem after5 (v2 : Elt F .i32) (hv : BitVec.toNat v2 ≤ 2048) (k0_hw1 : k0_chk1 i v2) (k0_h13 : k0_cond13 i = 1#1) (X8 : BufTy.Contents (Elt F) arg8.view.ty) (X9 : BufTy.Contents (Elt F) arg9.view.ty) (X10 : BufTy.Contents (Elt F) arg10.view.ty) (X12 : BufTy.Contents (Elt F) arg12.view.ty) (f13 : BufTy.Contents (Elt F) arg13.view.ty) :
    ∀ k, k < 8 → winT k (arg13.view.read (Elt F) (after_t5 𝒱 c bd i arg3 harg3 arg4 harg4 arg5 harg5 arg6 harg6 arg7 harg7 arg8 harg8 arg9 harg9 arg10 harg10 arg11 harg11 arg12 harg12 arg13 harg13 v2 k0_hw1 k0_h13 X8 X9 X10 X12 f13 (k0_t5_loop v2).trips))
      = if k < 2 * (nTiles v2 / 2) then ffnAdd (arg8.view.read (Elt F) X8) (arg9.view.read (Elt F) X9) (arg10.view.read (Elt F) X10) (winT k (arg12.view.read (Elt F) X12)) (winT k (arg13.view.read (Elt F) f13)) else winT k (arg13.view.read (Elt F) f13) := by
  have ht := trips5 v2 hv
  have hn := nTiles_le v2 hv
  have := tiles_pair (nTiles v2 / 2) (by omega) (fun k y => ffnAdd (arg8.view.read (Elt F) X8) (arg9.view.read (Elt F) X9) (arg10.view.read (Elt F) X10) (winT k (arg12.view.read (Elt F) X12)) y)
    (fun k => arg13.view.read (Elt F) (after_t5 𝒱 c bd i arg3 harg3 arg4 harg4 arg5 harg5 arg6 harg6 arg7 harg7 arg8 harg8 arg9 harg9 arg10 harg10 arg11 harg11 arg12 harg12 arg13 harg13 v2 k0_hw1 k0_h13 X8 X9 X10 X12 f13 k))
    (fun k hk => by
      have e := iter_succ (n := (k0_t5_loop v2).trips) (fun k s => (trip_t5 𝒱 c bd i arg3 harg3 arg4 harg4 arg5 harg5 arg6 harg6 arg7 harg7 arg8 harg8 arg9 harg9 arg10 harg10 arg11 harg11 arg12 harg12 arg13 harg13 v2 k0_hw1 k0_h13 X8 X9 X10 X12 k).1 s) f13 ⟨k, ht ▸ hk⟩
      refine (congrArg (arg13.view.read (Elt F)) e).trans ?_
      exact t5_step 𝒱 c bd i arg3 harg3 arg4 harg4 arg5 harg5 arg6 harg6 arg7 harg7 arg8 harg8 arg9 harg9 arg10 harg10 arg11 harg11 arg12 harg12 arg13 harg13 v2 hv k0_hw1 k0_h13 X8 X9 X10 X12 ⟨k, ht ▸ hk⟩ _)
    (nTiles v2 / 2) le_rfl
  intro k hk
  have h := this k hk
  rw [ht]
  exact h

theorem scatterAll_congr (T : Vec F S16x8x5 .i32) (rc : Vec F S1x1x2048x1 .i32) (gc : Vec F S1x1x2048x1 .f32) (y y' : ℕ → Vec F S256x1024 .f32) (o : Vec F S2048x1024 .f32) (n : ℕ)
    (h : ∀ k, k < n → y k = y' k) : scatterAll T i rc gc y o n = scatterAll T i rc gc y' o n := by
  induction n with
  | zero => rfl
  | succ n ih =>
    show scatterT T i rc gc (y n) n (scatterAll T i rc gc y o n) = scatterT T i rc gc (y' n) n (scatterAll T i rc gc y' o n)
    rw [ih fun k hk => h k (by omega), h n (by omega)]

theorem after7 (v2 : Elt F .i32) (hv : BitVec.toNat v2 ≤ 2048) (k0_hw1 : k0_chk1 i v2) (k0_h15 : k0_cond15 i = 1#1) (arg0 arg1 : BitVec 32) (X3 : Buf (Elt F) (arg3.view.loc (c : Thread nD τ))) (X6 : BufTy.Contents (Elt F) arg6.view.ty) (X7 : BufTy.Contents (Elt F) arg7.view.ty) (X13 : BufTy.Contents (Elt F) arg13.view.ty) (f11 : BufTy.Contents (Elt F) arg11.view.ty) :
    arg11.view.read (Elt F) (after_t7 𝒱 c bd i arg3 harg3 arg4 harg4 arg5 harg5 arg6 harg6 arg7 harg7 arg8 harg8 arg9 harg9 arg10 harg10 arg11 harg11 arg12 harg12 arg13 harg13 v2 k0_hw1 k0_h15 arg0 arg1 X3 X6 X7 X13 f11 (k0_t7_loop v2).trips)
      = scatterAll (arg3.view.read (Elt F) X3) i (arg6.view.read (Elt F) X6) (arg7.view.read (Elt F) X7) (fun k => winT k (arg13.view.read (Elt F) X13)) (arg11.view.read (Elt F) f11) (nTiles v2) := by
  have ht := trips7 v2 hv
  rw [ht]
  have : ∀ m, m ≤ nTiles v2 → arg11.view.read (Elt F) (after_t7 𝒱 c bd i arg3 harg3 arg4 harg4 arg5 harg5 arg6 harg6 arg7 harg7 arg8 harg8 arg9 harg9 arg10 harg10 arg11 harg11 arg12 harg12 arg13 harg13 v2 k0_hw1 k0_h15 arg0 arg1 X3 X6 X7 X13 f11 m)
      = scatterAll (arg3.view.read (Elt F) X3) i (arg6.view.read (Elt F) X6) (arg7.view.read (Elt F) X7) (fun k => winT k (arg13.view.read (Elt F) X13)) (arg11.view.read (Elt F) f11) m := by
    intro m
    induction m with
    | zero => intro _; rfl
    | succ m ih =>
      intro hm
      have e := iter_succ (n := (k0_t7_loop v2).trips) (fun k s => (trip_t7 𝒱 c bd i arg3 harg3 arg4 harg4 arg5 harg5 arg6 harg6 arg7 harg7 arg8 harg8 arg9 harg9 arg10 harg10 arg11 harg11 arg12 harg12 arg13 harg13 v2 k0_hw1 k0_h15 arg0 arg1 X3 X6 X7 X13 k).1 s) f11 ⟨m, ht ▸ (show m < nTiles v2 by omega)⟩
      refine (congrArg (arg11.view.read (Elt F)) e).trans ?_
      refine (t7_step 𝒱 c bd i arg3 harg3 arg4 harg4 arg5 harg5 arg6 harg6 arg7 harg7 arg8 harg8 arg9 harg9 arg10 harg10 arg11 harg11 arg12 harg12 arg13 harg13 v2 hv k0_hw1 k0_h15 arg0 arg1 X3 X6 X7 X13 ⟨m, ht ▸ (show m < nTiles v2 by omega)⟩ _).trans ?_
      exact congrArg (scatterT (arg3.view.read (Elt F) X3) i (arg6.view.read (Elt F) X6) (arg7.view.read (Elt F) X7) (winT m (arg13.view.read (Elt F) X13)) m) (ih (by omega))
  exact this _ le_rfl

theorem finish (n : ℕ) (hn : n ≤ 8) (cnd : Prop) [Decidable cnd] (hcn : cnd ↔ n % 2 = 1) (G : BufTy.Contents (Elt F) arg13.view.ty) (W : cnd → BufTy.Contents (Elt F) arg13.view.ty) (w : Vec F S256x1024 .f32) (A : ℕ → Vec F S256x1024 .f32)
    (hW : ∀ h, n % 2 = 1 → arg13.view.read (Elt F) (W h) = putT (n - 1) w (arg13.view.read (Elt F) G)) (hG : ∀ k, k < 2 * (n / 2) → winT k (arg13.view.read (Elt F) G) = A k) (hw : n % 2 = 1 → w = A (n - 1)) :
    ∀ k, k < n → winT k (arg13.view.read (Elt F) (dite cnd W (fun _ => G))) = A k := by
  intro k hk
  by_cases h : cnd
  · have ho := hcn.mp h
    rw [dif_pos h, hW h ho]
    by_cases e : k = n - 1
    · subst e; rw [winT_putT _ (by omega), hw ho]
    · rw [winT_putT_ne _ _ (by omega) e]; exact hG k (by omega)
  · rw [dif_neg h]
    exact hG k (by have : ¬ n % 2 = 1 := fun h' => h (hcn.mpr h'); omega)

theorem new_all (v2 : Elt F .i32) (hv : BitVec.toNat v2 ≤ 2048) (k0_hw1 : k0_chk1 i v2) (k0_h11 : k0_cond11 i = 1#1) (X8 : BufTy.Contents (Elt F) arg8.view.ty) (X9 : BufTy.Contents (Elt F) arg9.view.ty) (X10 : BufTy.Contents (Elt F) arg10.view.ty) (X12 : BufTy.Contents (Elt F) arg12.view.ty) (f13 : BufTy.Contents (Elt F) arg13.view.ty) :
    ∀ k, k < nTiles v2 → winT k (arg13.view.read (Elt F) (if hc : k0_cond12 v2 = 1#1 then
        arg13.view.writes (Elt F) (after_t3 𝒱 c bd i arg3 harg3 arg4 harg4 arg5 harg5 arg6 harg6 arg7 harg7 arg8 harg8 arg9 harg9 arg10 harg10 arg11 harg11 arg12 harg12 arg13 harg13 v2 k0_hw1 k0_h11 X8 X9 X10 X12 f13 (k0_t3_loop v2).trips) [⟨Rect.unit (s := S2048x1024) (k0_off34 v2) S256x1024.size (k0_off34_inb i v2 k0_hw1 k0_h11 hc),
          k0_pay37 (arg12.view.readAt (Elt F) (Rect.unit (s := S2048x1024) (k0_off34 v2) S256x1024.size (k0_off34_inb i v2 k0_hw1 k0_h11 hc)).toLoadRect X12) (arg8.view.readAt (Elt F) (Rect.unit (s := S1x1024x512) ![0, 0, 0] S1x1024x512.size inb_S1x1024x512_S1x1024x512_0_0_0).toLoadRect X8) (arg9.view.readAt (Elt F) (Rect.unit (s := S1x1024x512) ![0, 0, 0] S1x1024x512.size inb_S1x1024x512_S1x1024x512_0_0_0).toLoadRect X9) (arg10.view.readAt (Elt F) (Rect.unit (s := S1x512x1024) ![0, 0, 0] S1x512x1024.size inb_S1x512x1024_S1x512x1024_0_0_0).toLoadRect X10)⟩]
        else (after_t3 𝒱 c bd i arg3 harg3 arg4 harg4 arg5 harg5 arg6 harg6 arg7 harg7 arg8 harg8 arg9 harg9 arg10 harg10 arg11 harg11 arg12 harg12 arg13 harg13 v2 k0_hw1 k0_h11 X8 X9 X10 X12 f13 (k0_t3_loop v2).trips))) = ffnNew (arg8.view.read (Elt F) X8) (arg9.view.read (Elt F) X9) (arg10.view.read (Elt F) X10) (winT k (arg12.view.read (Elt F) X12)) := by
  have hn := nTiles_le v2 hv
  refine finish arg13 (nTiles v2) hn _ (cond12_iff v2 hv) _ _ (ffnNew (arg8.view.read (Elt F) X8) (arg9.view.read (Elt F) X9) (arg10.view.read (Elt F) X10) (winT (nTiles v2 - 1) (arg12.view.read (Elt F) X12))) _ ?_
    (after3 𝒱 c bd i arg3 harg3 arg4 harg4 arg5 harg5 arg6 harg6 arg7 harg7 arg8 harg8 arg9 harg9 arg10 harg10 arg11 harg11 arg12 harg12 arg13 harg13 v2 hv k0_hw1 k0_h11 X8 X9 X10 X12 f13) fun _ => rfl
  intro hc ho
  refine (write_tile arg13 _ (nTiles v2 - 1) (off34_eq v2 hv ho) _ _ _).trans ?_
  rw [View.writes_nil]
  refine congrArg₂ (putT _) ?_ rfl
  rw [read_tile arg12 X12 (nTiles v2 - 1) (off34_eq v2 hv ho), read_all3 arg8 X8, read_all3 arg9 X9, read_all3 arg10 X10]
  rfl

theorem add_all (v2 : Elt F .i32) (hv : BitVec.toNat v2 ≤ 2048) (k0_hw1 : k0_chk1 i v2) (k0_h13 : k0_cond13 i = 1#1) (X8 : BufTy.Contents (Elt F) arg8.view.ty) (X9 : BufTy.Contents (Elt F) arg9.view.ty) (X10 : BufTy.Contents (Elt F) arg10.view.ty) (X12 : BufTy.Contents (Elt F) arg12.view.ty) (f13 : BufTy.Contents (Elt F) arg13.view.ty) :
    ∀ k, k < nTiles v2 → winT k (arg13.view.read (Elt F) (if hc : k0_cond14 v2 = 1#1 then
        arg13.view.writes (Elt F) (after_t5 𝒱 c bd i arg3 harg3 arg4 harg4 arg5 harg5 arg6 harg6 arg7 harg7 arg8 harg8 arg9 harg9 arg10 harg10 arg11 harg11 arg12 harg12 arg13 harg13 v2 k0_hw1 k0_h13 X8 X9 X10 X12 f13 (k0_t5_loop v2).trips) [⟨Rect.unit (s := S2048x1024) (k0_off39 v2) S256x1024.size (k0_off39_inb i v2 k0_hw1 k0_h13 hc),
          k0_pay3 (arg12.view.readAt (Elt F) (Rect.unit (s := S2048x1024) (k0_off39 v2) S256x1024.size (k0_off39_inb i v2 k0_hw1 k0_h13 hc)).toLoadRect X12) (arg8.view.readAt (Elt F) (Rect.unit (s := S1x1024x512) ![0, 0, 0] S1x1024x512.size inb_S1x1024x512_S1x1024x512_0_0_0).toLoadRect X8) (arg9.view.readAt (Elt F) (Rect.unit (s := S1x1024x512) ![0, 0, 0] S1x1024x512.size inb_S1x1024x512_S1x1024x512_0_0_0).toLoadRect X9) (arg10.view.readAt (Elt F) (Rect.unit (s := S1x512x1024) ![0, 0, 0] S1x512x1024.size inb_S1x512x1024_S1x512x1024_0_0_0).toLoadRect X10) (arg13.view.readAt (Elt F) (Rect.unit (s := S2048x1024) (k0_off39 v2) S256x1024.size (k0_off39_inb i v2 k0_hw1 k0_h13 hc)).toLoadRect (after_t5 𝒱 c bd i arg3 harg3 arg4 harg4 arg5 harg5 arg6 harg6 arg7 harg7 arg8 harg8 arg9 harg9 arg10 harg10 arg11 harg11 arg12 harg12 arg13 harg13 v2 k0_hw1 k0_h13 X8 X9 X10 X12 f13 (k0_t5_loop v2).trips))⟩]
        else (after_t5 𝒱 c bd i arg3 harg3 arg4 harg4 arg5 harg5 arg6 harg6 arg7 harg7 arg8 harg8 arg9 harg9 arg10 harg10 arg11 harg11 arg12 harg12 arg13 harg13 v2 k0_hw1 k0_h13 X8 X9 X10 X12 f13 (k0_t5_loop v2).trips))) = ffnAdd (arg8.view.read (Elt F) X8) (arg9.view.read (Elt F) X9) (arg10.view.read (Elt F) X10) (winT k (arg12.view.read (Elt F) X12)) (winT k (arg13.view.read (Elt F) f13)) := by
  have hn := nTiles_le v2 hv
  have h5 := after5 𝒱 c bd i arg3 harg3 arg4 harg4 arg5 harg5 arg6 harg6 arg7 harg7 arg8 harg8 arg9 harg9 arg10 harg10 arg11 harg11 arg12 harg12 arg13 harg13 v2 hv k0_hw1 k0_h13 X8 X9 X10 X12 f13
  refine finish arg13 (nTiles v2) hn _ (cond14_iff v2 hv) _ _ (ffnAdd (arg8.view.read (Elt F) X8) (arg9.view.read (Elt F) X9) (arg10.view.read (Elt F) X10) (winT (nTiles v2 - 1) (arg12.view.read (Elt F) X12)) (winT (nTiles v2 - 1) (arg13.view.read (Elt F) (after_t5 𝒱 c bd i arg3 harg3 arg4 harg4 arg5 harg5 arg6 harg6 arg7 harg7 arg8 harg8 arg9 harg9 arg10 harg10 arg11 harg11 arg12 harg12 arg13 harg13 v2 k0_hw1 k0_h13 X8 X9 X10 X12 f13 (k0_t5_loop v2).trips)))) _ ?_ ?_ ?_
  · intro hc ho
    refine (write_tile arg13 _ (nTiles v2 - 1) (off39_eq v2 hv ho) _ _ _).trans ?_
    rw [View.writes_nil]
    refine congrArg₂ (putT _) ?_ rfl
    rw [read_tile arg12 X12 (nTiles v2 - 1) (off39_eq v2 hv ho), read_tile arg13 _ (nTiles v2 - 1) (off39_eq v2 hv ho), read_all3 arg8 X8, read_all3 arg9 X9, read_all3 arg10 X10]
    rfl
  · intro k hk
    rw [h5 k (by omega), if_pos hk]
  · intro ho
    rw [h5 (nTiles v2 - 1) (by omega), if_neg (by omega)]

end Cert.MoeIdeal.Hand
-- ==== Proof.Moe.BodyRead.lean ====
module

public import proofs.«01_k».proof.Proof.Moe.BodyLoops

/-! What each run of the expert kernel's body leaves, tile by tile. -/

@[expose] public section

set_option maxRecDepth 8192
set_option maxHeartbeats 4000000

noncomputable section

namespace Cert.MoeIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx
open Cert.MoeIdeal.Gen

variable {F : FTy → Type} [FloatOps F]

local notation "𝕄" => MT nD τ sig Unit (Elt F) ℕ (UR sig nD τ) ℕ

variable (𝒱 : Variants) (c : Dev nD) (bd : Option 𝒱.V) (i : grid0.Coords)
  (arg3 : Memref sig .tc .smem S16x8x5 .i32) (harg3 : arg3.IsWhole) (arg4 : Memref sig .tc .vmem S2048x1024 .bf16) (harg4 : arg4.IsWhole)
  (arg5 : Memref sig .tc .vmem S1x1x1x2048 .i32) (harg5 : arg5.IsWhole) (arg6 : Memref sig .tc .vmem S1x1x2048x1 .i32) (harg6 : arg6.IsWhole)
  (arg7 : Memref sig .tc .vmem S1x1x2048x1 .f32) (harg7 : arg7.IsWhole) (arg8 : Memref sig .tc .vmem S1x1024x512 .bf16) (harg8 : arg8.IsWhole)
  (arg9 : Memref sig .tc .vmem S1x1024x512 .bf16) (harg9 : arg9.IsWhole) (arg10 : Memref sig .tc .vmem S1x512x1024 .bf16) (harg10 : arg10.IsWhole)
  (arg11 : Memref sig .tc .vmem S2048x1024 .f32) (harg11 : arg11.IsWhole) (arg12 : Memref sig .tc .vmem S2048x1024 .bf16) (harg12 : arg12.IsWhole)
  (arg13 : Memref sig .tc .vmem S2048x1024 .f32) (harg13 : arg13.IsWhole)

/-! ### The body -/

theorem readA11 (X3 : Buf (Elt F) (arg3.view.loc (c : Thread nD τ))) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (hv : BitVec.toNat (tw (arg3.view.read (Elt F) X3) i 4) ≤ 2048) (hw : ∀ z, k0_chk1 i (arg3.view.readAt (Elt F) (Rect.unit (s := S16x8x5) (k0_off1 i) S1x1x1.size (k0_off1_inb i)).toLoadRect X3 z)) (hc1 : k0_cond1 i = 1#1) (hc2 : k0_cond2 i = 1#1) (hc11 : k0_cond11 i = 1#1) (hc13 : ¬ k0_cond13 i = 1#1) (hc15 : ¬ k0_cond15 i = 1#1) (f11 : BufTy.Contents (Elt F) arg11.view.ty) (f12 : BufTy.Contents (Elt F) arg12.view.ty) (f13 : BufTy.Contents (Elt F) arg13.view.ty) :
    (arg11.view.read (Elt F) ((bodyA 𝒱 c bd i arg3 harg3 arg4 harg4 arg5 harg5 arg6 harg6 arg7 harg7 arg8 harg8 arg9 harg9 arg10 harg10 arg11 harg11 arg12 harg12 arg13 harg13 X3 X4 X5 X6 X7 X8 X9 X10 hw hc1 hc2 hc11 hc13 hc15).1 f11 f12 f13)) = k0_pay28 := by
  have ew : ∀ z, arg3.view.readAt (Elt F) (Rect.unit (s := S16x8x5) (k0_off1 i) S1x1x1.size (k0_off1_inb i)).toLoadRect X3 z = tw (arg3.view.read (Elt F) X3) i 4 := fun z => word_at c i arg3 X3 4 (coords_eq i 4 (by omega)) (k0_off1_inb i) z
  have hz : 0 < (Rect.unit (s := S16x8x5) (k0_off1 i) S1x1x1.size (k0_off1_inb i)).toLoadRect.shape.numel := (by decide : 0 < S1x1x1.numel)
  have hv' := fun z => (congrArg BitVec.toNat (ew z)).trans_le hv
  unfold bodyA
  dsimp only
  unfold bodyA.sl.H11_1
  rw [View.read_writes_full]

theorem readA12 (X3 : Buf (Elt F) (arg3.view.loc (c : Thread nD τ))) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (hv : BitVec.toNat (tw (arg3.view.read (Elt F) X3) i 4) ≤ 2048) (hw : ∀ z, k0_chk1 i (arg3.view.readAt (Elt F) (Rect.unit (s := S16x8x5) (k0_off1 i) S1x1x1.size (k0_off1_inb i)).toLoadRect X3 z)) (hc1 : k0_cond1 i = 1#1) (hc2 : k0_cond2 i = 1#1) (hc11 : k0_cond11 i = 1#1) (hc13 : ¬ k0_cond13 i = 1#1) (hc15 : ¬ k0_cond15 i = 1#1) (f11 : BufTy.Contents (Elt F) arg11.view.ty) (f12 : BufTy.Contents (Elt F) arg12.view.ty) (f13 : BufTy.Contents (Elt F) arg13.view.ty) :
    ∀ k, k < nTiles (tw (arg3.view.read (Elt F) X3) i 4) → winT k (arg12.view.read (Elt F) ((bodyA 𝒱 c bd i arg3 harg3 arg4 harg4 arg5 harg5 arg6 harg6 arg7 harg7 arg8 harg8 arg9 harg9 arg10 harg10 arg11 harg11 arg12 harg12 arg13 harg13 X3 X4 X5 X6 X7 X8 X9 X10 hw hc1 hc2 hc11 hc13 hc15).2.1 f11 f12 f13)) = gatherT (arg3.view.read (Elt F) X3) i (arg5.view.read (Elt F) X5) (arg4.view.read (Elt F) X4) k := by
  have ew : ∀ z, arg3.view.readAt (Elt F) (Rect.unit (s := S16x8x5) (k0_off1 i) S1x1x1.size (k0_off1_inb i)).toLoadRect X3 z = tw (arg3.view.read (Elt F) X3) i 4 := fun z => word_at c i arg3 X3 4 (coords_eq i 4 (by omega)) (k0_off1_inb i) z
  have hz : 0 < (Rect.unit (s := S16x8x5) (k0_off1 i) S1x1x1.size (k0_off1_inb i)).toLoadRect.shape.numel := (by decide : 0 < S1x1x1.numel)
  have hv' := fun z => (congrArg BitVec.toNat (ew z)).trans_le hv
  unfold bodyA
  dsimp only
  unfold bodyA.sl.r
  generalize hN : Scf.trips _ _ _ = N
  have hN' : N = (k0_t1_loop (arg3.view.readAt (Elt F) (Rect.unit (s := S16x8x5) (k0_off1 i) S1x1x1.size (k0_off1_inb i)).toLoadRect X3 (Shape.Idx.first hz))).trips := by rw [← hN]
  subst hN'
  exact fun k hk => after1 𝒱 c bd i arg3 harg3 arg4 harg4 arg5 harg5 arg6 harg6 arg7 harg7 arg8 harg8 arg9 harg9 arg10 harg10 arg11 harg11 arg12 harg12 arg13 harg13 _ (hv' _) (hw _) hc2 _ _ X3 X4 X5 f12 f13 k (lt_of_lt_of_eq hk (congrArg nTiles (ew _).symm))

theorem readA13 (X3 : Buf (Elt F) (arg3.view.loc (c : Thread nD τ))) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (hv : BitVec.toNat (tw (arg3.view.read (Elt F) X3) i 4) ≤ 2048) (hw : ∀ z, k0_chk1 i (arg3.view.readAt (Elt F) (Rect.unit (s := S16x8x5) (k0_off1 i) S1x1x1.size (k0_off1_inb i)).toLoadRect X3 z)) (hc1 : k0_cond1 i = 1#1) (hc2 : k0_cond2 i = 1#1) (hc11 : k0_cond11 i = 1#1) (hc13 : ¬ k0_cond13 i = 1#1) (hc15 : ¬ k0_cond15 i = 1#1) (f11 : BufTy.Contents (Elt F) arg11.view.ty) (f12 : BufTy.Contents (Elt F) arg12.view.ty) (f13 : BufTy.Contents (Elt F) arg13.view.ty) :
    ∀ k, k < nTiles (tw (arg3.view.read (Elt F) X3) i 4) → winT k (arg13.view.read (Elt F) ((bodyA 𝒱 c bd i arg3 harg3 arg4 harg4 arg5 harg5 arg6 harg6 arg7 harg7 arg8 harg8 arg9 harg9 arg10 harg10 arg11 harg11 arg12 harg12 arg13 harg13 X3 X4 X5 X6 X7 X8 X9 X10 hw hc1 hc2 hc11 hc13 hc15).2.2.1 f11 f12 f13)) = ffnNew (arg8.view.read (Elt F) X8) (arg9.view.read (Elt F) X9) (arg10.view.read (Elt F) X10) (gatherT (arg3.view.read (Elt F) X3) i (arg5.view.read (Elt F) X5) (arg4.view.read (Elt F) X4) k) := by
  have ew : ∀ z, arg3.view.readAt (Elt F) (Rect.unit (s := S16x8x5) (k0_off1 i) S1x1x1.size (k0_off1_inb i)).toLoadRect X3 z = tw (arg3.view.read (Elt F) X3) i 4 := fun z => word_at c i arg3 X3 4 (coords_eq i 4 (by omega)) (k0_off1_inb i) z
  have hz : 0 < (Rect.unit (s := S16x8x5) (k0_off1 i) S1x1x1.size (k0_off1_inb i)).toLoadRect.shape.numel := (by decide : 0 < S1x1x1.numel)
  have hv' := fun z => (congrArg BitVec.toNat (ew z)).trans_le hv
  intro k hk
  have h12 := readA12 𝒱 c bd i arg3 harg3 arg4 harg4 arg5 harg5 arg6 harg6 arg7 harg7 arg8 harg8 arg9 harg9 arg10 harg10 arg11 harg11 arg12 harg12 arg13 harg13 X3 X4 X5 X6 X7 X8 X9 X10 hv hw hc1 hc2 hc11 hc13 hc15 f11 f12 f13 k hk
  rw [← h12]
  unfold bodyA
  dsimp only
  unfold bodyA.sl.v77 bodyA.sl.r
  generalize hN : Scf.trips _ _ _ = N
  generalize hM : Scf.trips _ _ _ = M
  have hN' : N = (k0_t1_loop (arg3.view.readAt (Elt F) (Rect.unit (s := S16x8x5) (k0_off1 i) S1x1x1.size (k0_off1_inb i)).toLoadRect X3 (Shape.Idx.first hz))).trips := by rw [← hN]
  have hM' : M = (k0_t3_loop (arg3.view.readAt (Elt F) (Rect.unit (s := S16x8x5) (k0_off1 i) S1x1x1.size (k0_off1_inb i)).toLoadRect X3 (Shape.Idx.first hz))).trips := by rw [← hM]
  subst hN' hM'
  exact new_all 𝒱 c bd i arg3 harg3 arg4 harg4 arg5 harg5 arg6 harg6 arg7 harg7 arg8 harg8 arg9 harg9 arg10 harg10 arg11 harg11 arg12 harg12 arg13 harg13 _ (hv' _) (hw _) hc11 X8 X9 X10 _ _ k (lt_of_lt_of_eq hk (congrArg nTiles (ew _).symm))

theorem readB12 (X3 : Buf (Elt F) (arg3.view.loc (c : Thread nD τ))) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (hv : BitVec.toNat (tw (arg3.view.read (Elt F) X3) i 4) ≤ 2048) (hw : ∀ z, k0_chk1 i (arg3.view.readAt (Elt F) (Rect.unit (s := S16x8x5) (k0_off1 i) S1x1x1.size (k0_off1_inb i)).toLoadRect X3 z)) (hc1 : ¬ k0_cond1 i = 1#1) (hc2 : k0_cond2 i = 1#1) (hc11 : k0_cond11 i = 1#1) (hc13 : ¬ k0_cond13 i = 1#1) (hc15 : ¬ k0_cond15 i = 1#1) (f11 : BufTy.Contents (Elt F) arg11.view.ty) (f12 : BufTy.Contents (Elt F) arg12.view.ty) (f13 : BufTy.Contents (Elt F) arg13.view.ty) :
    ∀ k, k < nTiles (tw (arg3.view.read (Elt F) X3) i 4) → winT k (arg12.view.read (Elt F) ((bodyB 𝒱 c bd i arg3 harg3 arg4 harg4 arg5 harg5 arg6 harg6 arg7 harg7 arg8 harg8 arg9 harg9 arg10 harg10 arg11 harg11 arg12 harg12 arg13 harg13 X3 X4 X5 X6 X7 X8 X9 X10 hw hc1 hc2 hc11 hc13 hc15).1 f11 f12 f13)) = gatherT (arg3.view.read (Elt F) X3) i (arg5.view.read (Elt F) X5) (arg4.view.read (Elt F) X4) k := by
  have ew : ∀ z, arg3.view.readAt (Elt F) (Rect.unit (s := S16x8x5) (k0_off1 i) S1x1x1.size (k0_off1_inb i)).toLoadRect X3 z = tw (arg3.view.read (Elt F) X3) i 4 := fun z => word_at c i arg3 X3 4 (coords_eq i 4 (by omega)) (k0_off1_inb i) z
  have hz : 0 < (Rect.unit (s := S16x8x5) (k0_off1 i) S1x1x1.size (k0_off1_inb i)).toLoadRect.shape.numel := (by decide : 0 < S1x1x1.numel)
  have hv' := fun z => (congrArg BitVec.toNat (ew z)).trans_le hv
  unfold bodyB
  dsimp only
  unfold bodyB.sl.r
  generalize hN : Scf.trips _ _ _ = N
  have hN' : N = (k0_t1_loop (arg3.view.readAt (Elt F) (Rect.unit (s := S16x8x5) (k0_off1 i) S1x1x1.size (k0_off1_inb i)).toLoadRect X3 (Shape.Idx.first hz))).trips := by rw [← hN]
  subst hN'
  exact fun k hk => after1 𝒱 c bd i arg3 harg3 arg4 harg4 arg5 harg5 arg6 harg6 arg7 harg7 arg8 harg8 arg9 harg9 arg10 harg10 arg11 harg11 arg12 harg12 arg13 harg13 _ (hv' _) (hw _) hc2 _ _ X3 X4 X5 f12 f13 k (lt_of_lt_of_eq hk (congrArg nTiles (ew _).symm))

theorem readB13 (X3 : Buf (Elt F) (arg3.view.loc (c : Thread nD τ))) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (hv : BitVec.toNat (tw (arg3.view.read (Elt F) X3) i 4) ≤ 2048) (hw : ∀ z, k0_chk1 i (arg3.view.readAt (Elt F) (Rect.unit (s := S16x8x5) (k0_off1 i) S1x1x1.size (k0_off1_inb i)).toLoadRect X3 z)) (hc1 : ¬ k0_cond1 i = 1#1) (hc2 : k0_cond2 i = 1#1) (hc11 : k0_cond11 i = 1#1) (hc13 : ¬ k0_cond13 i = 1#1) (hc15 : ¬ k0_cond15 i = 1#1) (f11 : BufTy.Contents (Elt F) arg11.view.ty) (f12 : BufTy.Contents (Elt F) arg12.view.ty) (f13 : BufTy.Contents (Elt F) arg13.view.ty) :
    ∀ k, k < nTiles (tw (arg3.view.read (Elt F) X3) i 4) → winT k (arg13.view.read (Elt F) ((bodyB 𝒱 c bd i arg3 harg3 arg4 harg4 arg5 harg5 arg6 harg6 arg7 harg7 arg8 harg8 arg9 harg9 arg10 harg10 arg11 harg11 arg12 harg12 arg13 harg13 X3 X4 X5 X6 X7 X8 X9 X10 hw hc1 hc2 hc11 hc13 hc15).2.1 f11 f12 f13)) = ffnNew (arg8.view.read (Elt F) X8) (arg9.view.read (Elt F) X9) (arg10.view.read (Elt F) X10) (gatherT (arg3.view.read (Elt F) X3) i (arg5.view.read (Elt F) X5) (arg4.view.read (Elt F) X4) k) := by
  have ew : ∀ z, arg3.view.readAt (Elt F) (Rect.unit (s := S16x8x5) (k0_off1 i) S1x1x1.size (k0_off1_inb i)).toLoadRect X3 z = tw (arg3.view.read (Elt F) X3) i 4 := fun z => word_at c i arg3 X3 4 (coords_eq i 4 (by omega)) (k0_off1_inb i) z
  have hz : 0 < (Rect.unit (s := S16x8x5) (k0_off1 i) S1x1x1.size (k0_off1_inb i)).toLoadRect.shape.numel := (by decide : 0 < S1x1x1.numel)
  have hv' := fun z => (congrArg BitVec.toNat (ew z)).trans_le hv
  intro k hk
  have h12 := readB12 𝒱 c bd i arg3 harg3 arg4 harg4 arg5 harg5 arg6 harg6 arg7 harg7 arg8 harg8 arg9 harg9 arg10 harg10 arg11 harg11 arg12 harg12 arg13 harg13 X3 X4 X5 X6 X7 X8 X9 X10 hv hw hc1 hc2 hc11 hc13 hc15 f11 f12 f13 k hk
  rw [← h12]
  unfold bodyB
  dsimp only
  unfold bodyB.sl.v77 bodyB.sl.r
  generalize hN : Scf.trips _ _ _ = N
  generalize hM : Scf.trips _ _ _ = M
  have hN' : N = (k0_t1_loop (arg3.view.readAt (Elt F) (Rect.unit (s := S16x8x5) (k0_off1 i) S1x1x1.size (k0_off1_inb i)).toLoadRect X3 (Shape.Idx.first hz))).trips := by rw [← hN]
  have hM' : M = (k0_t3_loop (arg3.view.readAt (Elt F) (Rect.unit (s := S16x8x5) (k0_off1 i) S1x1x1.size (k0_off1_inb i)).toLoadRect X3 (Shape.Idx.first hz))).trips := by rw [← hM]
  subst hN' hM'
  exact new_all 𝒱 c bd i arg3 harg3 arg4 harg4 arg5 harg5 arg6 harg6 arg7 harg7 arg8 harg8 arg9 harg9 arg10 harg10 arg11 harg11 arg12 harg12 arg13 harg13 _ (hv' _) (hw _) hc11 X8 X9 X10 _ _ k (lt_of_lt_of_eq hk (congrArg nTiles (ew _).symm))

theorem readC13 (X3 : Buf (Elt F) (arg3.view.loc (c : Thread nD τ))) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (hv : BitVec.toNat (tw (arg3.view.read (Elt F) X3) i 4) ≤ 2048) (hw : ∀ z, k0_chk1 i (arg3.view.readAt (Elt F) (Rect.unit (s := S16x8x5) (k0_off1 i) S1x1x1.size (k0_off1_inb i)).toLoadRect X3 z)) (hc1 : ¬ k0_cond1 i = 1#1) (hc2 : ¬ k0_cond2 i = 1#1) (hc11 : ¬ k0_cond11 i = 1#1) (hc13 : k0_cond13 i = 1#1) (hc15 : ¬ k0_cond15 i = 1#1) (f11 : BufTy.Contents (Elt F) arg11.view.ty) (f12 : BufTy.Contents (Elt F) arg12.view.ty) (f13 : BufTy.Contents (Elt F) arg13.view.ty) :
    ∀ k, k < nTiles (tw (arg3.view.read (Elt F) X3) i 4) → winT k (arg13.view.read (Elt F) ((bodyC 𝒱 c bd i arg3 harg3 arg4 harg4 arg5 harg5 arg6 harg6 arg7 harg7 arg8 harg8 arg9 harg9 arg10 harg10 arg11 harg11 arg12 harg12 arg13 harg13 X3 X4 X5 X6 X7 X8 X9 X10 hw hc1 hc2 hc11 hc13 hc15).1 f11 f12 f13)) = ffnAdd (arg8.view.read (Elt F) X8) (arg9.view.read (Elt F) X9) (arg10.view.read (Elt F) X10) (winT k (arg12.view.read (Elt F) f12)) (winT k (arg13.view.read (Elt F) f13)) := by
  have ew : ∀ z, arg3.view.readAt (Elt F) (Rect.unit (s := S16x8x5) (k0_off1 i) S1x1x1.size (k0_off1_inb i)).toLoadRect X3 z = tw (arg3.view.read (Elt F) X3) i 4 := fun z => word_at c i arg3 X3 4 (coords_eq i 4 (by omega)) (k0_off1_inb i) z
  have hz : 0 < (Rect.unit (s := S16x8x5) (k0_off1 i) S1x1x1.size (k0_off1_inb i)).toLoadRect.shape.numel := (by decide : 0 < S1x1x1.numel)
  have hv' := fun z => (congrArg BitVec.toNat (ew z)).trans_le hv
  intro k hk
  unfold bodyC
  dsimp only
  unfold bodyC.sl.r
  generalize hN : Scf.trips _ _ _ = N
  have hN' : N = (k0_t5_loop (arg3.view.readAt (Elt F) (Rect.unit (s := S16x8x5) (k0_off1 i) S1x1x1.size (k0_off1_inb i)).toLoadRect X3 (Shape.Idx.first hz))).trips := by rw [← hN]
  subst hN'
  exact add_all 𝒱 c bd i arg3 harg3 arg4 harg4 arg5 harg5 arg6 harg6 arg7 harg7 arg8 harg8 arg9 harg9 arg10 harg10 arg11 harg11 arg12 harg12 arg13 harg13 _ (hv' _) (hw _) hc13 X8 X9 X10 f12 f13 k (lt_of_lt_of_eq hk (congrArg nTiles (ew _).symm))

theorem readD13 (X3 : Buf (Elt F) (arg3.view.loc (c : Thread nD τ))) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (hv : BitVec.toNat (tw (arg3.view.read (Elt F) X3) i 4) ≤ 2048) (hw : ∀ z, k0_chk1 i (arg3.view.readAt (Elt F) (Rect.unit (s := S16x8x5) (k0_off1 i) S1x1x1.size (k0_off1_inb i)).toLoadRect X3 z)) (hc1 : ¬ k0_cond1 i = 1#1) (hc2 : ¬ k0_cond2 i = 1#1) (hc11 : ¬ k0_cond11 i = 1#1) (hc13 : k0_cond13 i = 1#1) (hc15 : k0_cond15 i = 1#1) (f11 : BufTy.Contents (Elt F) arg11.view.ty) (f12 : BufTy.Contents (Elt F) arg12.view.ty) (f13 : BufTy.Contents (Elt F) arg13.view.ty) :
    ∀ k, k < nTiles (tw (arg3.view.read (Elt F) X3) i 4) → winT k (arg13.view.read (Elt F) ((bodyD 𝒱 c bd i arg3 harg3 arg4 harg4 arg5 harg5 arg6 harg6 arg7 harg7 arg8 harg8 arg9 harg9 arg10 harg10 arg11 harg11 arg12 harg12 arg13 harg13 X3 X4 X5 X6 X7 X8 X9 X10 hw hc1 hc2 hc11 hc13 hc15).2.1 f11 f12 f13)) = ffnAdd (arg8.view.read (Elt F) X8) (arg9.view.read (Elt F) X9) (arg10.view.read (Elt F) X10) (winT k (arg12.view.read (Elt F) f12)) (winT k (arg13.view.read (Elt F) f13)) := by
  have ew : ∀ z, arg3.view.readAt (Elt F) (Rect.unit (s := S16x8x5) (k0_off1 i) S1x1x1.size (k0_off1_inb i)).toLoadRect X3 z = tw (arg3.view.read (Elt F) X3) i 4 := fun z => word_at c i arg3 X3 4 (coords_eq i 4 (by omega)) (k0_off1_inb i) z
  have hz : 0 < (Rect.unit (s := S16x8x5) (k0_off1 i) S1x1x1.size (k0_off1_inb i)).toLoadRect.shape.numel := (by decide : 0 < S1x1x1.numel)
  have hv' := fun z => (congrArg BitVec.toNat (ew z)).trans_le hv
  intro k hk
  unfold bodyD
  dsimp only
  unfold bodyD.sl.r
  generalize hN : Scf.trips _ _ _ = N
  have hN' : N = (k0_t5_loop (arg3.view.readAt (Elt F) (Rect.unit (s := S16x8x5) (k0_off1 i) S1x1x1.size (k0_off1_inb i)).toLoadRect X3 (Shape.Idx.first hz))).trips := by rw [← hN]
  subst hN'
  exact add_all 𝒱 c bd i arg3 harg3 arg4 harg4 arg5 harg5 arg6 harg6 arg7 harg7 arg8 harg8 arg9 harg9 arg10 harg10 arg11 harg11 arg12 harg12 arg13 harg13 _ (hv' _) (hw _) hc13 X8 X9 X10 f12 f13 k (lt_of_lt_of_eq hk (congrArg nTiles (ew _).symm))

theorem readD11 (X3 : Buf (Elt F) (arg3.view.loc (c : Thread nD τ))) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (hv : BitVec.toNat (tw (arg3.view.read (Elt F) X3) i 4) ≤ 2048) (hw : ∀ z, k0_chk1 i (arg3.view.readAt (Elt F) (Rect.unit (s := S16x8x5) (k0_off1 i) S1x1x1.size (k0_off1_inb i)).toLoadRect X3 z)) (hc1 : ¬ k0_cond1 i = 1#1) (hc2 : ¬ k0_cond2 i = 1#1) (hc11 : ¬ k0_cond11 i = 1#1) (hc13 : k0_cond13 i = 1#1) (hc15 : k0_cond15 i = 1#1) (f11 : BufTy.Contents (Elt F) arg11.view.ty) (f12 : BufTy.Contents (Elt F) arg12.view.ty) (f13 : BufTy.Contents (Elt F) arg13.view.ty) :
    (arg11.view.read (Elt F) ((bodyD 𝒱 c bd i arg3 harg3 arg4 harg4 arg5 harg5 arg6 harg6 arg7 harg7 arg8 harg8 arg9 harg9 arg10 harg10 arg11 harg11 arg12 harg12 arg13 harg13 X3 X4 X5 X6 X7 X8 X9 X10 hw hc1 hc2 hc11 hc13 hc15).1 f11 f12 f13)) = scatterAll (arg3.view.read (Elt F) X3) i (arg6.view.read (Elt F) X6) (arg7.view.read (Elt F) X7) (fun k => ffnAdd (arg8.view.read (Elt F) X8) (arg9.view.read (Elt F) X9) (arg10.view.read (Elt F) X10) (winT k (arg12.view.read (Elt F) f12)) (winT k (arg13.view.read (Elt F) f13))) (arg11.view.read (Elt F) f11) (nTiles (tw (arg3.view.read (Elt F) X3) i 4)) := by
  have ew : ∀ z, arg3.view.readAt (Elt F) (Rect.unit (s := S16x8x5) (k0_off1 i) S1x1x1.size (k0_off1_inb i)).toLoadRect X3 z = tw (arg3.view.read (Elt F) X3) i 4 := fun z => word_at c i arg3 X3 4 (coords_eq i 4 (by omega)) (k0_off1_inb i) z
  have hz : 0 < (Rect.unit (s := S16x8x5) (k0_off1 i) S1x1x1.size (k0_off1_inb i)).toLoadRect.shape.numel := (by decide : 0 < S1x1x1.numel)
  have hv' := fun z => (congrArg BitVec.toNat (ew z)).trans_le hv
  have h13 := readD13 𝒱 c bd i arg3 harg3 arg4 harg4 arg5 harg5 arg6 harg6 arg7 harg7 arg8 harg8 arg9 harg9 arg10 harg10 arg11 harg11 arg12 harg12 arg13 harg13 X3 X4 X5 X6 X7 X8 X9 X10 hv hw hc1 hc2 hc11 hc13 hc15 f11 f12 f13
  refine Eq.trans ?_ (scatterAll_congr i _ _ _ (fun k => winT k (arg13.view.read (Elt F) ((bodyD 𝒱 c bd i arg3 harg3 arg4 harg4 arg5 harg5 arg6 harg6 arg7 harg7 arg8 harg8 arg9 harg9 arg10 harg10 arg11 harg11 arg12 harg12 arg13 harg13 X3 X4 X5 X6 X7 X8 X9 X10 hw hc1 hc2 hc11 hc13 hc15).2.1 f11 f12 f13))) _ _ _ h13)
  unfold bodyD
  dsimp only
  unfold bodyD.sl.r
  generalize hN : Scf.trips _ _ _ = N
  generalize hM : Scf.trips _ _ _ = M
  have hM' : M = (k0_t7_loop (arg3.view.readAt (Elt F) (Rect.unit (s := S16x8x5) (k0_off1 i) S1x1x1.size (k0_off1_inb i)).toLoadRect X3 (Shape.Idx.first hz))).trips := by rw [← hM]
  clear hN hM
  subst hM'
  have h7 := fun Y => after7 𝒱 c bd i arg3 harg3 arg4 harg4 arg5 harg5 arg6 harg6 arg7 harg7 arg8 harg8 arg9 harg9 arg10 harg10 arg11 harg11 arg12 harg12 arg13 harg13 _ (hv' (Shape.Idx.first hz)) (hw (Shape.Idx.first hz)) hc15 (BitVec.ofNat 32 (i 0).val) (BitVec.ofNat 32 (i 1).val) X3 X6 X7 Y f11
  have e7 := congrArg nTiles (ew (Shape.Idx.first hz))
  rw [e7] at h7
  exact h7 _
end Cert.MoeIdeal.Hand
-- ==== Proof.Moe.Triples.lean ====
module

public import proofs.«01_k».proof.Proof.Moe.BodyRead
public import proofs.«01_k».proof.Proof.Moe.Tiles

/-! The four runs of the expert kernel's body as triples over the values its buffers hold. -/

@[expose] public section

set_option maxRecDepth 8192
set_option maxHeartbeats 4000000

noncomputable section

namespace Cert.MoeIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx
open Cert.MoeIdeal.Gen

variable {F : FTy → Type} [FloatOps F]

local notation "𝕄" => MT nD τ sig Unit (Elt F) ℕ (UR sig nD τ) ℕ

variable (𝒱 : Variants) (c : Dev nD) (bd : Option 𝒱.V) (i : grid0.Coords)
  (arg3 : Memref sig .tc .smem S16x8x5 .i32) (harg3 : arg3.IsWhole) (arg4 : Memref sig .tc .vmem S2048x1024 .bf16) (harg4 : arg4.IsWhole)
  (arg5 : Memref sig .tc .vmem S1x1x1x2048 .i32) (harg5 : arg5.IsWhole) (arg6 : Memref sig .tc .vmem S1x1x2048x1 .i32) (harg6 : arg6.IsWhole)
  (arg7 : Memref sig .tc .vmem S1x1x2048x1 .f32) (harg7 : arg7.IsWhole) (arg8 : Memref sig .tc .vmem S1x1024x512 .bf16) (harg8 : arg8.IsWhole)
  (arg9 : Memref sig .tc .vmem S1x1024x512 .bf16) (harg9 : arg9.IsWhole) (arg10 : Memref sig .tc .vmem S1x512x1024 .bf16) (harg10 : arg10.IsWhole)
  (arg11 : Memref sig .tc .vmem S2048x1024 .f32) (harg11 : arg11.IsWhole) (arg12 : Memref sig .tc .vmem S2048x1024 .bf16) (harg12 : arg12.IsWhole)
  (arg13 : Memref sig .tc .vmem S2048x1024 .f32) (harg13 : arg13.IsWhole)

/-- The two scratch buffers holding, in an expert's tiles, the gathered rows `xt` and the products `yt`. -/
def tilesAt (n : ℕ) (xt : ℕ → Vec F S256x1024 .bf16) (yt : ℕ → Vec F S256x1024 .f32) : sProp 𝕄 :=
  iprop(∃ d12 d13, owns (c : Thread nD τ) arg12 fullShare d12 ∗ owns (c : Thread nD τ) arg13 fullShare d13 ∗ ⌜∀ k, k < n → winT k d12 = xt k ∧ winT k d13 = yt k⌝)

/-- The first expert's first part. -/
theorem tripleA (X3 : Buf (Elt F) (arg3.view.loc (c : Thread nD τ))) (x4 : Vec F S2048x1024 .bf16) (x5 : Vec F S1x1x1x2048 .i32) (x6 : Vec F S1x1x2048x1 .i32) (x7 : Vec F S1x1x2048x1 .f32) (x8 : Vec F S1x1024x512 .bf16) (x9 : Vec F S1x1024x512 .bf16) (x10 : Vec F S1x512x1024 .bf16)
    (hv : BitVec.toNat (tw (arg3.view.read (Elt F) X3) i 4) ≤ 2048) (hc1 : k0_cond1 i = 1#1) (hc2 : k0_cond2 i = 1#1) (hc11 : k0_cond11 i = 1#1) (hc13 : ¬ k0_cond13 i = 1#1) (hc15 : ¬ k0_cond15 i = 1#1) (K : PUnit → sProp 𝕄) :
    iprop(ptT c arg3 X3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ (∃ d, owns (c : Thread nD τ) arg12 fullShare d) ∗ (∃ d, owns (c : Thread nD τ) arg13 fullShare d)
      ∗ (iprop(ptT c arg3 X3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare (k0_pay28 : Vec F S2048x1024 .f32) ∗ tilesAt c arg12 arg13 (nTiles (tw (arg3.view.read (Elt F) X3) i 4)) (gatherT (arg3.view.read (Elt F) X3) i x5 x4) (fun k => ffnNew x8 x9 x10 ((gatherT (arg3.view.read (Elt F) X3) i x5 x4) k))) -∗ K ⟨⟩))
      ⊢ wp frame (wpE (defs₀ (F := F)) 𝒱 (c : Thread nD τ) bd) Set.univ (cc0_moe (F := F) i arg3 harg3 arg4 harg4 arg5 harg5 arg6 harg6 arg7 harg7 arg8 harg8 arg9 harg9 arg10 harg10 arg11 harg11 arg12 harg12 arg13 harg13) K := by
  have ew : ∀ z, arg3.view.readAt (Elt F) (Rect.unit (s := S16x8x5) (k0_off1 i) S1x1x1.size (k0_off1_inb i)).toLoadRect X3 z = tw (arg3.view.read (Elt F) X3) i 4 := fun z => word_at c i arg3 X3 4 (coords_eq i 4 (by omega)) (k0_off1_inb i) z
  have hw : ∀ z, k0_chk1 i (arg3.view.readAt (Elt F) (Rect.unit (s := S16x8x5) (k0_off1 i) S1x1x1.size (k0_off1_inb i)).toLoadRect X3 z) := fun z => chk1_of i _ ((congrArg BitVec.toNat (ew z)).trans_le hv)
  unfold tilesAt owns
  iintro ⟨HT, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%d11, %f11, -, H11⟩, ⟨%d12, %f12, -, H12⟩, ⟨%d13, %f13, -, H13⟩, Hk⟩
  subst e4 e5 e6 e7 e8 e9 e10
  iapply (wp_wand_r frame (wpE (defs₀ (F := F)) 𝒱 (c : Thread nD τ) bd))
  isplitl [HT H4 H5 H6 H7 H8 H9 H10 H11 H12 H13]
  · iapply ((bodyA 𝒱 c bd i arg3 harg3 arg4 harg4 arg5 harg5 arg6 harg6 arg7 harg7 arg8 harg8 arg9 harg9 arg10 harg10 arg11 harg11 arg12 harg12 arg13 harg13 X3 f4 f5 f6 f7 f8 f9 f10 hw hc1 hc2 hc11 hc13 hc15).2.2.2 Set.univ f11 f12 f13)
    isplitl [HT]; · iexact HT
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  · iintro %a ⟨HT, H4, H5, H6, H7, H8, H9, H10, H11, H12, H13⟩
    iapply Hk
    isplitl [HT]; · iexact HT
    isplitl [H4]
    · iexists _; isplitr
      swap; · iexact H4
      ipureintro; rfl
    isplitl [H5]
    · iexists _; isplitr
      swap; · iexact H5
      ipureintro; rfl
    isplitl [H6]
    · iexists _; isplitr
      swap; · iexact H6
      ipureintro; rfl
    isplitl [H7]
    · iexists _; isplitr
      swap; · iexact H7
      ipureintro; rfl
    isplitl [H8]
    · iexists _; isplitr
      swap; · iexact H8
      ipureintro; rfl
    isplitl [H9]
    · iexists _; isplitr
      swap; · iexact H9
      ipureintro; rfl
    isplitl [H10]
    · iexists _; isplitr
      swap; · iexact H10
      ipureintro; rfl
    isplitl [H11]
    · iexists _; isplitr
      swap; · iexact H11
      ipureintro; exact readA11 𝒱 c bd i arg3 harg3 arg4 harg4 arg5 harg5 arg6 harg6 arg7 harg7 arg8 harg8 arg9 harg9 arg10 harg10 arg11 harg11 arg12 harg12 arg13 harg13 X3 f4 f5 f6 f7 f8 f9 f10 hv hw hc1 hc2 hc11 hc13 hc15 f11 f12 f13
    iexists _, _
    isplitl [H12]
    · iexists _; isplitr
      swap; · iexact H12
      ipureintro; rfl
    isplitl [H13]
    · iexists _; isplitr
      swap; · iexact H13
      ipureintro; rfl
    ipureintro; intro k hk; exact ⟨readA12 𝒱 c bd i arg3 harg3 arg4 harg4 arg5 harg5 arg6 harg6 arg7 harg7 arg8 harg8 arg9 harg9 arg10 harg10 arg11 harg11 arg12 harg12 arg13 harg13 X3 f4 f5 f6 f7 f8 f9 f10 hv hw hc1 hc2 hc11 hc13 hc15 f11 f12 f13 k hk, readA13 𝒱 c bd i arg3 harg3 arg4 harg4 arg5 harg5 arg6 harg6 arg7 harg7 arg8 harg8 arg9 harg9 arg10 harg10 arg11 harg11 arg12 harg12 arg13 harg13 X3 f4 f5 f6 f7 f8 f9 f10 hv hw hc1 hc2 hc11 hc13 hc15 f11 f12 f13 k hk⟩

/-- A later expert's first part. -/
theorem tripleB (X3 : Buf (Elt F) (arg3.view.loc (c : Thread nD τ))) (x4 : Vec F S2048x1024 .bf16) (x5 : Vec F S1x1x1x2048 .i32) (x6 : Vec F S1x1x2048x1 .i32) (x7 : Vec F S1x1x2048x1 .f32) (x8 : Vec F S1x1024x512 .bf16) (x9 : Vec F S1x1024x512 .bf16) (x10 : Vec F S1x512x1024 .bf16) (x11 : Vec F S2048x1024 .f32)
    (hv : BitVec.toNat (tw (arg3.view.read (Elt F) X3) i 4) ≤ 2048) (hc1 : ¬ k0_cond1 i = 1#1) (hc2 : k0_cond2 i = 1#1) (hc11 : k0_cond11 i = 1#1) (hc13 : ¬ k0_cond13 i = 1#1) (hc15 : ¬ k0_cond15 i = 1#1) (K : PUnit → sProp 𝕄) :
    iprop(ptT c arg3 X3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ (∃ d, owns (c : Thread nD τ) arg12 fullShare d) ∗ (∃ d, owns (c : Thread nD τ) arg13 fullShare d)
      ∗ (iprop(ptT c arg3 X3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ tilesAt c arg12 arg13 (nTiles (tw (arg3.view.read (Elt F) X3) i 4)) (gatherT (arg3.view.read (Elt F) X3) i x5 x4) (fun k => ffnNew x8 x9 x10 ((gatherT (arg3.view.read (Elt F) X3) i x5 x4) k))) -∗ K ⟨⟩))
      ⊢ wp frame (wpE (defs₀ (F := F)) 𝒱 (c : Thread nD τ) bd) Set.univ (cc0_moe (F := F) i arg3 harg3 arg4 harg4 arg5 harg5 arg6 harg6 arg7 harg7 arg8 harg8 arg9 harg9 arg10 harg10 arg11 harg11 arg12 harg12 arg13 harg13) K := by
  have ew : ∀ z, arg3.view.readAt (Elt F) (Rect.unit (s := S16x8x5) (k0_off1 i) S1x1x1.size (k0_off1_inb i)).toLoadRect X3 z = tw (arg3.view.read (Elt F) X3) i 4 := fun z => word_at c i arg3 X3 4 (coords_eq i 4 (by omega)) (k0_off1_inb i) z
  have hw : ∀ z, k0_chk1 i (arg3.view.readAt (Elt F) (Rect.unit (s := S16x8x5) (k0_off1 i) S1x1x1.size (k0_off1_inb i)).toLoadRect X3 z) := fun z => chk1_of i _ ((congrArg BitVec.toNat (ew z)).trans_le hv)
  unfold tilesAt owns
  iintro ⟨HT, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%d12, %f12, -, H12⟩, ⟨%d13, %f13, -, H13⟩, Hk⟩
  subst e4 e5 e6 e7 e8 e9 e10 e11
  iapply (wp_wand_r frame (wpE (defs₀ (F := F)) 𝒱 (c : Thread nD τ) bd))
  isplitl [HT H4 H5 H6 H7 H8 H9 H10 H11 H12 H13]
  · iapply ((bodyB 𝒱 c bd i arg3 harg3 arg4 harg4 arg5 harg5 arg6 harg6 arg7 harg7 arg8 harg8 arg9 harg9 arg10 harg10 arg11 harg11 arg12 harg12 arg13 harg13 X3 f4 f5 f6 f7 f8 f9 f10 hw hc1 hc2 hc11 hc13 hc15).2.2 Set.univ f11 f12 f13)
    isplitl [HT]; · iexact HT
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  · iintro %a ⟨HT, H4, H5, H6, H7, H8, H9, H10, H11, H12, H13⟩
    iapply Hk
    isplitl [HT]; · iexact HT
    isplitl [H4]
    · iexists _; isplitr
      swap; · iexact H4
      ipureintro; rfl
    isplitl [H5]
    · iexists _; isplitr
      swap; · iexact H5
      ipureintro; rfl
    isplitl [H6]
    · iexists _; isplitr
      swap; · iexact H6
      ipureintro; rfl
    isplitl [H7]
    · iexists _; isplitr
      swap; · iexact H7
      ipureintro; rfl
    isplitl [H8]
    · iexists _; isplitr
      swap; · iexact H8
      ipureintro; rfl
    isplitl [H9]
    · iexists _; isplitr
      swap; · iexact H9
      ipureintro; rfl
    isplitl [H10]
    · iexists _; isplitr
      swap; · iexact H10
      ipureintro; rfl
    isplitl [H11]
    · iexists _; isplitr
      swap; · iexact H11
      ipureintro; exact rfl
    iexists _, _
    isplitl [H12]
    · iexists _; isplitr
      swap; · iexact H12
      ipureintro; rfl
    isplitl [H13]
    · iexists _; isplitr
      swap; · iexact H13
      ipureintro; rfl
    ipureintro; intro k hk; exact ⟨readB12 𝒱 c bd i arg3 harg3 arg4 harg4 arg5 harg5 arg6 harg6 arg7 harg7 arg8 harg8 arg9 harg9 arg10 harg10 arg11 harg11 arg12 harg12 arg13 harg13 X3 f4 f5 f6 f7 f8 f9 f10 hv hw hc1 hc2 hc11 hc13 hc15 f11 f12 f13 k hk, readB13 𝒱 c bd i arg3 harg3 arg4 harg4 arg5 harg5 arg6 harg6 arg7 harg7 arg8 harg8 arg9 harg9 arg10 harg10 arg11 harg11 arg12 harg12 arg13 harg13 X3 f4 f5 f6 f7 f8 f9 f10 hv hw hc1 hc2 hc11 hc13 hc15 f11 f12 f13 k hk⟩

/-- A middle part. -/
theorem tripleC (X3 : Buf (Elt F) (arg3.view.loc (c : Thread nD τ))) (x4 : Vec F S2048x1024 .bf16) (x5 : Vec F S1x1x1x2048 .i32) (x6 : Vec F S1x1x2048x1 .i32) (x7 : Vec F S1x1x2048x1 .f32) (x8 : Vec F S1x1024x512 .bf16) (x9 : Vec F S1x1024x512 .bf16) (x10 : Vec F S1x512x1024 .bf16) (x11 : Vec F S2048x1024 .f32) (xt : ℕ → Vec F S256x1024 .bf16) (yt : ℕ → Vec F S256x1024 .f32)
    (hv : BitVec.toNat (tw (arg3.view.read (Elt F) X3) i 4) ≤ 2048) (hc1 : ¬ k0_cond1 i = 1#1) (hc2 : ¬ k0_cond2 i = 1#1) (hc11 : ¬ k0_cond11 i = 1#1) (hc13 : k0_cond13 i = 1#1) (hc15 : ¬ k0_cond15 i = 1#1) (K : PUnit → sProp 𝕄) :
    iprop(ptT c arg3 X3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ tilesAt c arg12 arg13 (nTiles (tw (arg3.view.read (Elt F) X3) i 4)) xt yt
      ∗ (iprop(ptT c arg3 X3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ tilesAt c arg12 arg13 (nTiles (tw (arg3.view.read (Elt F) X3) i 4)) xt (fun k => ffnAdd x8 x9 x10 (xt k) (yt k))) -∗ K ⟨⟩))
      ⊢ wp frame (wpE (defs₀ (F := F)) 𝒱 (c : Thread nD τ) bd) Set.univ (cc0_moe (F := F) i arg3 harg3 arg4 harg4 arg5 harg5 arg6 harg6 arg7 harg7 arg8 harg8 arg9 harg9 arg10 harg10 arg11 harg11 arg12 harg12 arg13 harg13) K := by
  have ew : ∀ z, arg3.view.readAt (Elt F) (Rect.unit (s := S16x8x5) (k0_off1 i) S1x1x1.size (k0_off1_inb i)).toLoadRect X3 z = tw (arg3.view.read (Elt F) X3) i 4 := fun z => word_at c i arg3 X3 4 (coords_eq i 4 (by omega)) (k0_off1_inb i) z
  have hw : ∀ z, k0_chk1 i (arg3.view.readAt (Elt F) (Rect.unit (s := S16x8x5) (k0_off1 i) S1x1x1.size (k0_off1_inb i)).toLoadRect X3 z) := fun z => chk1_of i _ ((congrArg BitVec.toNat (ew z)).trans_le hv)
  unfold tilesAt owns
  iintro ⟨HT, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%d12, %d13, ⟨%f12, %e12, H12⟩, ⟨%f13, %e13, H13⟩, %htl⟩, Hk⟩
  subst e4 e5 e6 e7 e8 e9 e10 e11 e12 e13
  iapply (wp_wand_r frame (wpE (defs₀ (F := F)) 𝒱 (c : Thread nD τ) bd))
  isplitl [HT H4 H5 H6 H7 H8 H9 H10 H11 H12 H13]
  · iapply ((bodyC 𝒱 c bd i arg3 harg3 arg4 harg4 arg5 harg5 arg6 harg6 arg7 harg7 arg8 harg8 arg9 harg9 arg10 harg10 arg11 harg11 arg12 harg12 arg13 harg13 X3 f4 f5 f6 f7 f8 f9 f10 hw hc1 hc2 hc11 hc13 hc15).2 Set.univ f11 f12 f13)
    isplitl [HT]; · iexact HT
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  · iintro %a ⟨HT, H4, H5, H6, H7, H8, H9, H10, H11, H12, H13⟩
    iapply Hk
    isplitl [HT]; · iexact HT
    isplitl [H4]
    · iexists _; isplitr
      swap; · iexact H4
      ipureintro; rfl
    isplitl [H5]
    · iexists _; isplitr
      swap; · iexact H5
      ipureintro; rfl
    isplitl [H6]
    · iexists _; isplitr
      swap; · iexact H6
      ipureintro; rfl
    isplitl [H7]
    · iexists _; isplitr
      swap; · iexact H7
      ipureintro; rfl
    isplitl [H8]
    · iexists _; isplitr
      swap; · iexact H8
      ipureintro; rfl
    isplitl [H9]
    · iexists _; isplitr
      swap; · iexact H9
      ipureintro; rfl
    isplitl [H10]
    · iexists _; isplitr
      swap; · iexact H10
      ipureintro; rfl
    isplitl [H11]
    · iexists _; isplitr
      swap; · iexact H11
      ipureintro; exact rfl
    iexists _, _
    isplitl [H12]
    · iexists _; isplitr
      swap; · iexact H12
      ipureintro; rfl
    isplitl [H13]
    · iexists _; isplitr
      swap; · iexact H13
      ipureintro; rfl
    ipureintro; intro k hk; exact ⟨(htl k hk).1, (readC13 𝒱 c bd i arg3 harg3 arg4 harg4 arg5 harg5 arg6 harg6 arg7 harg7 arg8 harg8 arg9 harg9 arg10 harg10 arg11 harg11 arg12 harg12 arg13 harg13 X3 f4 f5 f6 f7 f8 f9 f10 hv hw hc1 hc2 hc11 hc13 hc15 f11 f12 f13 k hk).trans (by rw [(htl k hk).1, (htl k hk).2])⟩

/-- The last part. -/
theorem tripleD (X3 : Buf (Elt F) (arg3.view.loc (c : Thread nD τ))) (x4 : Vec F S2048x1024 .bf16) (x5 : Vec F S1x1x1x2048 .i32) (x6 : Vec F S1x1x2048x1 .i32) (x7 : Vec F S1x1x2048x1 .f32) (x8 : Vec F S1x1024x512 .bf16) (x9 : Vec F S1x1024x512 .bf16) (x10 : Vec F S1x512x1024 .bf16) (x11 : Vec F S2048x1024 .f32) (xt : ℕ → Vec F S256x1024 .bf16) (yt : ℕ → Vec F S256x1024 .f32)
    (hv : BitVec.toNat (tw (arg3.view.read (Elt F) X3) i 4) ≤ 2048) (hc1 : ¬ k0_cond1 i = 1#1) (hc2 : ¬ k0_cond2 i = 1#1) (hc11 : ¬ k0_cond11 i = 1#1) (hc13 : k0_cond13 i = 1#1) (hc15 : k0_cond15 i = 1#1) (K : PUnit → sProp 𝕄) :
    iprop(ptT c arg3 X3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ tilesAt c arg12 arg13 (nTiles (tw (arg3.view.read (Elt F) X3) i 4)) xt yt
      ∗ (iprop(ptT c arg3 X3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare (scatterAll (arg3.view.read (Elt F) X3) i x6 x7 (fun k => ffnAdd x8 x9 x10 (xt k) (yt k)) x11 (nTiles (tw (arg3.view.read (Elt F) X3) i 4))) ∗ tilesAt c arg12 arg13 (nTiles (tw (arg3.view.read (Elt F) X3) i 4)) xt (fun k => ffnAdd x8 x9 x10 (xt k) (yt k))) -∗ K ⟨⟩))
      ⊢ wp frame (wpE (defs₀ (F := F)) 𝒱 (c : Thread nD τ) bd) Set.univ (cc0_moe (F := F) i arg3 harg3 arg4 harg4 arg5 harg5 arg6 harg6 arg7 harg7 arg8 harg8 arg9 harg9 arg10 harg10 arg11 harg11 arg12 harg12 arg13 harg13) K := by
  have ew : ∀ z, arg3.view.readAt (Elt F) (Rect.unit (s := S16x8x5) (k0_off1 i) S1x1x1.size (k0_off1_inb i)).toLoadRect X3 z = tw (arg3.view.read (Elt F) X3) i 4 := fun z => word_at c i arg3 X3 4 (coords_eq i 4 (by omega)) (k0_off1_inb i) z
  have hw : ∀ z, k0_chk1 i (arg3.view.readAt (Elt F) (Rect.unit (s := S16x8x5) (k0_off1 i) S1x1x1.size (k0_off1_inb i)).toLoadRect X3 z) := fun z => chk1_of i _ ((congrArg BitVec.toNat (ew z)).trans_le hv)
  unfold tilesAt owns
  iintro ⟨HT, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%d12, %d13, ⟨%f12, %e12, H12⟩, ⟨%f13, %e13, H13⟩, %htl⟩, Hk⟩
  subst e4 e5 e6 e7 e8 e9 e10 e11 e12 e13
  iapply (wp_wand_r frame (wpE (defs₀ (F := F)) 𝒱 (c : Thread nD τ) bd))
  isplitl [HT H4 H5 H6 H7 H8 H9 H10 H11 H12 H13]
  · iapply ((bodyD 𝒱 c bd i arg3 harg3 arg4 harg4 arg5 harg5 arg6 harg6 arg7 harg7 arg8 harg8 arg9 harg9 arg10 harg10 arg11 harg11 arg12 harg12 arg13 harg13 X3 f4 f5 f6 f7 f8 f9 f10 hw hc1 hc2 hc11 hc13 hc15).2.2 Set.univ f11 f12 f13)
    isplitl [HT]; · iexact HT
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  · iintro %a ⟨HT, H4, H5, H6, H7, H8, H9, H10, H11, H12, H13⟩
    iapply Hk
    isplitl [HT]; · iexact HT
    isplitl [H4]
    · iexists _; isplitr
      swap; · iexact H4
      ipureintro; rfl
    isplitl [H5]
    · iexists _; isplitr
      swap; · iexact H5
      ipureintro; rfl
    isplitl [H6]
    · iexists _; isplitr
      swap; · iexact H6
      ipureintro; rfl
    isplitl [H7]
    · iexists _; isplitr
      swap; · iexact H7
      ipureintro; rfl
    isplitl [H8]
    · iexists _; isplitr
      swap; · iexact H8
      ipureintro; rfl
    isplitl [H9]
    · iexists _; isplitr
      swap; · iexact H9
      ipureintro; rfl
    isplitl [H10]
    · iexists _; isplitr
      swap; · iexact H10
      ipureintro; rfl
    isplitl [H11]
    · iexists _; isplitr
      swap; · iexact H11
      ipureintro; exact (readD11 𝒱 c bd i arg3 harg3 arg4 harg4 arg5 harg5 arg6 harg6 arg7 harg7 arg8 harg8 arg9 harg9 arg10 harg10 arg11 harg11 arg12 harg12 arg13 harg13 X3 f4 f5 f6 f7 f8 f9 f10 hv hw hc1 hc2 hc11 hc13 hc15 f11 f12 f13).trans (scatterAll_congr i _ _ _ _ _ _ _ fun k hk => by rw [(htl k hk).1, (htl k hk).2])
    iexists _, _
    isplitl [H12]
    · iexists _; isplitr
      swap; · iexact H12
      ipureintro; rfl
    isplitl [H13]
    · iexists _; isplitr
      swap; · iexact H13
      ipureintro; rfl
    ipureintro; intro k hk; exact ⟨(htl k hk).1, (readD13 𝒱 c bd i arg3 harg3 arg4 harg4 arg5 harg5 arg6 harg6 arg7 harg7 arg8 harg8 arg9 harg9 arg10 harg10 arg11 harg11 arg12 harg12 arg13 harg13 X3 f4 f5 f6 f7 f8 f9 f10 hv hw hc1 hc2 hc11 hc13 hc15 f11 f12 f13 k hk).trans (by rw [(htl k hk).1, (htl k hk).2])⟩

end Cert.MoeIdeal.Hand
-- ==== Proof.Moe.Region.lean ====
module

public import proofs.«01_k».proof.Proof.Moe.Kit
public import proofs.«01_k».proof.Proof.Moe.Triples
public import Idealize.ShloMosaic.Lib.Pipeline.TableIdle
public import Idealize.ShloMosaic.Lib.Claim

/-! The run of the expert layer's region: what the scratch and the output block hold after each point,
    the body's obligation, the launch. -/

@[expose] public section

set_option maxRecDepth 16384

noncomputable section

namespace Cert.MoeIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.MoeIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The table as the body reads it. -/
abbrev tabT : Vec F S16x8x5 .i32 := tbM0_0.view.read (Elt F) (tbl m 0)

/-- No expert takes more rows of a slab than the slab has. -/
abbrev Small : Prop := ∀ i : grid0.Coords, BitVec.toNat (tw (tabT m) i 4) ≤ 2048

/-- The tiles of gathered rows after point `n`. -/
def xAt (hO : Ok m) (c : Dev nD) : (n : ℕ) → n < (cfgM m hO).N → ℕ → Vec F S256x1024 .bf16
  | 0, h => gatherT (tabT m) (grid0.coords ⟨0, h⟩) (iblk m hO c 1 ⟨0, h⟩) (iblk m hO c 0 ⟨0, h⟩)
  | n + 1, h => if (n + 1) % 7 = 0 then gatherT (tabT m) (grid0.coords ⟨n + 1, h⟩) (iblk m hO c 1 ⟨n + 1, h⟩) (iblk m hO c 0 ⟨n + 1, h⟩)
      else xAt hO c n (Nat.lt_of_succ_lt h)

/-- The tiles of products after point `n`. -/
def yAt (hO : Ok m) (c : Dev nD) : (n : ℕ) → n < (cfgM m hO).N → ℕ → Vec F S256x1024 .f32
  | 0, h => fun k => ffnNew (iblk m hO c 4 ⟨0, h⟩) (iblk m hO c 5 ⟨0, h⟩) (iblk m hO c 6 ⟨0, h⟩) (xAt m hO c 0 h k)
  | n + 1, h => fun k => if (n + 1) % 7 = 0 then ffnNew (iblk m hO c 4 ⟨n + 1, h⟩) (iblk m hO c 5 ⟨n + 1, h⟩) (iblk m hO c 6 ⟨n + 1, h⟩) (xAt m hO c (n + 1) h k)
      else ffnAdd (iblk m hO c 4 ⟨n + 1, h⟩) (iblk m hO c 5 ⟨n + 1, h⟩) (iblk m hO c 6 ⟨n + 1, h⟩) (xAt m hO c n (Nat.lt_of_succ_lt h) k) (yAt hO c n (Nat.lt_of_succ_lt h) k)

/-- The output's block after point `n`. -/
def oAt (hO : Ok m) (c : Dev nD) : (n : ℕ) → n < (cfgM m hO).N → Vec F S2048x1024 .f32
  | 0, h => k0_pay28
  | n + 1, h => if (n + 1) % 56 = 0 then k0_pay28 else if (n + 1) % 7 = 6 then
        scatterAll (tabT m) (grid0.coords ⟨n + 1, h⟩) (iblk m hO c 2 ⟨n + 1, h⟩) (iblk m hO c 3 ⟨n + 1, h⟩) (yAt m hO c (n + 1) h) (oAt hO c n (Nat.lt_of_succ_lt h))
          (nTiles (tw (tabT m) (grid0.coords ⟨n + 1, h⟩) 4))
      else oAt hO c n (Nat.lt_of_succ_lt h)

theorem xAt_new (hO : Ok m) (c : Dev nD) (t : Fin (cfgM m hO).N) (h : t.val % 7 = 0) :
    xAt m hO c t.val t.isLt = gatherT (tabT m) (grid0.coords t) (iblk m hO c 1 t) (iblk m hO c 0 t) := by
  obtain ⟨n, hn⟩ := t
  cases n with
  | zero => rfl
  | succ n => exact if_pos h

theorem xAt_old (hO : Ok m) (c : Dev nD) (t : Fin (cfgM m hO).N) (h : ¬ t.val % 7 = 0) :
    xAt m hO c t.val t.isLt = xAt m hO c (t.val - 1) (by omega) := by
  obtain ⟨n, hn⟩ := t
  cases n with
  | zero => exact absurd rfl h
  | succ n => exact if_neg h

theorem yAt_new (hO : Ok m) (c : Dev nD) (t : Fin (cfgM m hO).N) (h : t.val % 7 = 0) :
    yAt m hO c t.val t.isLt = fun k => ffnNew (iblk m hO c 4 t) (iblk m hO c 5 t) (iblk m hO c 6 t) (gatherT (tabT m) (grid0.coords t) (iblk m hO c 1 t) (iblk m hO c 0 t) k) := by
  rw [← xAt_new m hO c t h]
  obtain ⟨n, hn⟩ := t
  cases n with
  | zero => rfl
  | succ n => funext k; exact if_pos h

theorem yAt_old (hO : Ok m) (c : Dev nD) (t : Fin (cfgM m hO).N) (h : ¬ t.val % 7 = 0) :
    yAt m hO c t.val t.isLt = fun k => ffnAdd (iblk m hO c 4 t) (iblk m hO c 5 t) (iblk m hO c 6 t) (xAt m hO c (t.val - 1) (by omega) k) (yAt m hO c (t.val - 1) (by omega) k) := by
  obtain ⟨n, hn⟩ := t
  cases n with
  | zero => exact absurd rfl h
  | succ n => funext k; exact if_neg h

theorem oAt_new (hO : Ok m) (c : Dev nD) (t : Fin (cfgM m hO).N) (h : t.val % 56 = 0) : oAt m hO c t.val t.isLt = k0_pay28 := by
  obtain ⟨n, hn⟩ := t
  cases n with
  | zero => rfl
  | succ n => exact if_pos h

theorem oAt_old (hO : Ok m) (c : Dev nD) (t : Fin (cfgM m hO).N) (h : ¬ t.val % 56 = 0) (h6 : ¬ t.val % 7 = 6) :
    oAt m hO c t.val t.isLt = oAt m hO c (t.val - 1) (by omega) := by
  obtain ⟨n, hn⟩ := t
  cases n with
  | zero => exact absurd rfl h
  | succ n => exact (if_neg h).trans (if_neg h6)

theorem oAt_add (hO : Ok m) (c : Dev nD) (t : Fin (cfgM m hO).N) (h6 : t.val % 7 = 6) :
    oAt m hO c t.val t.isLt = scatterAll (tabT m) (grid0.coords t) (iblk m hO c 2 t) (iblk m hO c 3 t) (yAt m hO c t.val t.isLt) (oAt m hO c (t.val - 1) (by omega))
          (nTiles (tw (tabT m) (grid0.coords t) 4)) := by
  obtain ⟨n, hn⟩ := t
  cases n with
  | zero => exact absurd h6 (by decide : ¬ (0 % 7 = 6))
  | succ n => exact (if_neg (by show ¬ (n + 1) % 56 = 0; have : (n + 1) % 7 = 6 := h6; omega)).trans (if_pos h6)

/-- The count of tiles does not change within an expert's sweep. -/
theorem tw_prev (T : Vec F S16x8x5 .i32) (t t' : Fin grid0.N) (h : t.val = t'.val + 1) (h7 : ¬ t.val % 7 = 0) (j : Fin 5) :
    tw T (grid0.coords t) j = tw T (grid0.coords t') j := by
  have e0 : (grid0.coords t 0).val = t.val / 56 % 16 := Pipeline.Grid.coords_val t 0 (by decide) rfl
  have e1 : (grid0.coords t 1).val = t.val / 7 % 8 := Pipeline.Grid.coords_val t 1 (by decide) rfl
  have e0' : (grid0.coords t' 0).val = t'.val / 56 % 16 := Pipeline.Grid.coords_val t' 0 (by decide) rfl
  have e1' : (grid0.coords t' 1).val = t'.val / 7 % 8 := Pipeline.Grid.coords_val t' 1 (by decide) rfl
  have a0 : grid0.coords t 0 = grid0.coords t' 0 := Fin.ext (by omega)
  have a1 : grid0.coords t 1 = grid0.coords t' 1 := Fin.ext (by omega)
  unfold tw
  refine congrArg T ?_
  funext a; fin_cases a
  · exact Fin.ext (congrArg Fin.val a0)
  · exact Fin.ext (congrArg Fin.val a1)
  · rfl

/-- What the region holds beside its windows, before point `n`. -/
def PhiS (hO : Ok m) (c : Dev nD) : (n : ℕ) → n ≤ (cfgM m hO).N → sProp 𝕄
  | 0, _ => iprop(Pipeline.ΦA spec0 c ∗ Pipeline.ΦT pre0 (tbl m) c)
  | n + 1, hn => iprop((tilesAt c scM0_0 scM0_1 (nTiles (tw (tabT m) (grid0.coords ⟨n, hn⟩) 4)) (xAt m hO c n hn) (yAt m hO c n hn) ∗ (∃ r, prngReg c r)) ∗ Pipeline.ΦT pre0 (tbl m) c)

theorem PhiS_zero (hO : Ok m) (c : Dev nD) (n : ℕ) (h : n ≤ (cfgM m hO).N) (hz : n = 0) : PhiS m hO c n h = iprop(Pipeline.ΦA spec0 c ∗ Pipeline.ΦT pre0 (tbl m) c) := by
  subst hz; rfl

theorem PhiS_succ (hO : Ok m) (c : Dev nD) (n : ℕ) (hn : n < (cfgM m hO).N) :
    PhiS m hO c (n + 1) hn = iprop((tilesAt c scM0_0 scM0_1 (nTiles (tw (tabT m) (grid0.coords ⟨n, hn⟩) 4)) (xAt m hO c n hn) (yAt m hO c n hn) ∗ (∃ r, prngReg c r)) ∗ Pipeline.ΦT pre0 (tbl m) c) := rfl

theorem PhiS_prev (hO : Ok m) (c : Dev nD) (t : Fin (cfgM m hO).N) (h7 : ¬ t.val % 7 = 0) :
    PhiS m hO c t.val (Nat.le_of_lt t.isLt) = iprop((tilesAt c scM0_0 scM0_1 (nTiles (tw (tabT m) (grid0.coords t) 4)) (xAt m hO c (t.val - 1) (by omega)) (yAt m hO c (t.val - 1) (by omega)) ∗ (∃ r, prngReg c r)) ∗ Pipeline.ΦT pre0 (tbl m) c) := by
  obtain ⟨n, hn⟩ := t
  cases n with
  | zero => exact absurd rfl h7
  | succ n => rw [tw_prev (tabT m) ⟨n + 1, hn⟩ ⟨n, Nat.lt_of_succ_lt hn⟩ rfl h7 4]; rfl

/-- Before any point the scratch may be taken as holding anything. -/
theorem PhiS_any (hO : Ok m) (c : Dev nD) (n : ℕ) (h : n ≤ (cfgM m hO).N) :
    PhiS m hO c n h ⊢ iprop(((∃ d, owns (c : Thread nD τ) scM0_0 fullShare d) ∗ (∃ d, owns (c : Thread nD τ) scM0_1 fullShare d) ∗ (∃ r, prngReg c r)) ∗ Pipeline.ΦT pre0 (tbl m) c) := by
  by_cases hz : n = 0
  · rw [PhiS_zero m hO c n h hz, PhiA0_eq]
    iintro ⟨⟨⟨H0, H1⟩, Hg⟩, HT⟩
    isplitr [HT]
    · isplitl [H0]; · iexact H0
      isplitl [H1]; · iexact H1
      iexact Hg
    iexact HT
  · obtain ⟨k, rfl⟩ : ∃ k, n = k + 1 := ⟨n - 1, by omega⟩
    rw [PhiS_succ]
    unfold tilesAt
    iintro ⟨⟨⟨%d12, %d13, H0, H1, -⟩, Hg⟩, HT⟩
    isplitr [HT]
    · isplitl [H0]; · iexists _; iexact H0
      isplitl [H1]; · iexists _; iexact H1
      iexact Hg
    iexact HT

/-- What each buffer holds after each point, and what is held beside. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => oAt m hO c t.val t.isLt
  Φ t := PhiS m hO c t.val (Nat.le_of_lt_succ t.isLt)
  q w := Pipeline.shareOf spec0 w
  owed _ := 0

theorem A_eq (hO : Ok m) (c : Dev nD) (w : Fin (cfgM m hO).W) : (dats m hO 0 c).A w = V m c (Pipeline.arrRef spec0 w) := by
  dsimp only [dats]

theorem PhiS_castSucc (hO : Ok m) (c : Dev nD) (t : Fin (cfgM m hO).N) :
    (dats m hO 0 c).Φ t.castSucc = PhiS m hO c t.val (Nat.le_of_lt t.isLt) := by
  dsimp only [dats]; exact Pipeline.Dat.Φ_castSucc (PhiS m hO c) t

theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = iblk m hO c 6 t := by dsimp only [dats]; try rfl
theorem after0_7 (hO : Ok m) (c : Dev nD) (t : Fin (cfgM m hO).N) : (dats m hO 0 c).after 7 t = oAt m hO c t.val t.isLt := by dsimp only [dats]; try rfl

theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d

theorem idle0_7 (t : Fin grid0.N) : idle0 7 (grid0.coords t) = (!(decide (t.val % 56 = 0)) && !(decide (t.val % 7 = 6))) := by
  have e1 : (k0_cond1 (grid0.coords t) == 1#1) = decide (t.val % 56 = 0) := by
    rw [Bool.eq_iff_iff, beq_iff_eq, decide_eq_true_iff]; exact hcond1 t
  have e2 : (k0_cond15 (grid0.coords t) == 1#1) = decide (t.val % 7 = 6) := by
    rw [Bool.eq_iff_iff, beq_iff_eq, decide_eq_true_iff]; exact hcond15 t
  show (!(k0_cond1 (grid0.coords t) == 1#1) && !(k0_cond15 (grid0.coords t) == 1#1) && !(k0_cond15 (grid0.coords t) == 1#1) && !(k0_cond15 (grid0.coords t) == 1#1) && !(k0_cond15 (grid0.coords t) == 1#1) && !(k0_cond15 (grid0.coords t) == 1#1) && !(k0_cond15 (grid0.coords t) == 1#1) && !(k0_cond15 (grid0.coords t) == 1#1) && !(k0_cond15 (grid0.coords t) == 1#1)) = _
  rw [e1, e2]
  cases decide (t.val % 56 = 0) <;> cases decide (t.val % 7 = 6) <;> rfl

theorem idleAt0_7 (hO : Ok m) (t : Fin (cfgM m hO).N) (h : ¬ t.val % 56 = 0) (h6 : ¬ t.val % 7 = 6) : (cfgM m hO).idle 7 (grid0.coords t) = true :=
  (idle0_7 t).trans (by rw [decide_eq_false h, decide_eq_false h6]; rfl)

theorem liveAt0_7 (hO : Ok m) (t : Fin (cfgM m hO).N) (h : t.val % 56 = 0 ∨ t.val % 7 = 6) : (cfgM m hO).idle 7 (grid0.coords t) = false :=
  (idle0_7 t).trans (by rcases h with h | h <;> rw [decide_eq_true h] <;> simp)

/-- The output's buffer is fresh at a slab's first point. -/
theorem fresh0_7 (hO : Ok m) : ∀ n, n ≤ (cfgM m hO).N → (cfgM m hO).fresh 7 n = decide (n % 56 = 0) := by
  refine Pipeline.Cfg.fresh_tab (cfg := cfgM m hO) 7 (fun n => decide (n % 56 = 0)) rfl fun t => ?_
  have ef : ((cfgM m hO).win 7).flush t = decide (t.val % 56 = 55) := by
    rw [Bool.eq_iff_iff, decide_eq_true_iff]; exact flush0_7 (adm m hO) t
  have ei : (cfgM m hO).idle 7 ((cfgM m hO).grid.coords t) = _ := idle0_7 t
  rw [ef, ei]
  have ht := t.isLt
  by_cases h : t.val % 56 = 0
  · rw [decide_eq_true h, decide_eq_false (show ¬ (t.val + 1) % 56 = 0 by omega), decide_eq_false (show ¬ t.val % 56 = 55 by omega)]
    cases decide (t.val % 7 = 6) <;> rfl
  · rw [decide_eq_false h]
    by_cases h5 : t.val % 56 = 55
    · rw [decide_eq_true h5, decide_eq_true (show (t.val + 1) % 56 = 0 by omega)]; rfl
    · rw [decide_eq_false h5, decide_eq_false (show ¬ (t.val + 1) % 56 = 0 by omega)]
      cases decide (t.val % 7 = 6) <;> rfl

/-- Past a slab's first point the output's buffer holds what the point before left. -/
theorem before0_7 (hO : Ok m) (c : Dev nD) (t : Fin (cfgM m hO).N) (h : ¬ t.val % 56 = 0) (d) :
    (dats m hO 0 c).before 7 t d = oAt m hO c (t.val - 1) (by omega) := by
  have hp : t.val - 1 < (cfgM m hO).N := by omega
  rw [(dats m hO 0 c).before_out_traj 7 rfl (fun _ _ => rfl) (fun t hz hi _ => by
      have hid : (!(decide (t.val % 56 = 0)) && !(decide (t.val % 7 = 6))) = true := (idle0_7 t).symm.trans hi
      rw [Bool.and_eq_true, Bool.not_eq_true', Bool.not_eq_true', decide_eq_false_iff_not, decide_eq_false_iff_not] at hid
      exact ((after0_7 m hO c t).trans (oAt_old m hO c t hid.1 hid.2)).trans (after0_7 m hO c ⟨t.val - 1, by omega⟩).symm) t.val t rfl d,
    fresh0_7 m hO t.val (Nat.le_of_lt t.isLt), decide_eq_false h, if_neg Bool.false_ne_true]
  exact after0_7 m hO c ⟨t.val - 1, hp⟩

/-! ### The body's obligation -/

def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d)))

def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t
    ∗ (dats m hO 0 c).leavesExact 5 t
    ∗ (dats m hO 0 c).leavesExact 6 t
    ∗ (dats m hO 0 c).leavesExact 7 t)

theorem leaves0_0 (hO : Ok m) (c : Dev nD) (t : Fin (cfgM m hO).N) :
    (dats m hO 0 c).leavesExact 0 t = owns (c : Thread nD τ) (ms0_0 m hO t) fullShare (iblk m hO c 0 t) := by
  rw [← after0_0 m hO c t]; unfold Dat.leavesExact; rw [liveAt0_0 m hO t]; try rfl
theorem leaves0_1 (hO : Ok m) (c : Dev nD) (t : Fin (cfgM m hO).N) :
    (dats m hO 0 c).leavesExact 1 t = owns (c : Thread nD τ) (ms0_1 m hO t) fullShare (iblk m hO c 1 t) := by
  rw [← after0_1 m hO c t]; unfold Dat.leavesExact; rw [liveAt0_1 m hO t]; try rfl
theorem leaves0_2 (hO : Ok m) (c : Dev nD) (t : Fin (cfgM m hO).N) :
    (dats m hO 0 c).leavesExact 2 t = owns (c : Thread nD τ) (ms0_2 m hO t) fullShare (iblk m hO c 2 t) := by
  rw [← after0_2 m hO c t]; unfold Dat.leavesExact; rw [liveAt0_2 m hO t]; try rfl
theorem leaves0_3 (hO : Ok m) (c : Dev nD) (t : Fin (cfgM m hO).N) :
    (dats m hO 0 c).leavesExact 3 t = owns (c : Thread nD τ) (ms0_3 m hO t) fullShare (iblk m hO c 3 t) := by
  rw [← after0_3 m hO c t]; unfold Dat.leavesExact; rw [liveAt0_3 m hO t]; try rfl
theorem leaves0_4 (hO : Ok m) (c : Dev nD) (t : Fin (cfgM m hO).N) :
    (dats m hO 0 c).leavesExact 4 t = owns (c : Thread nD τ) (ms0_4 m hO t) fullShare (iblk m hO c 4 t) := by
  rw [← after0_4 m hO c t]; unfold Dat.leavesExact; rw [liveAt0_4 m hO t]; try rfl
theorem leaves0_5 (hO : Ok m) (c : Dev nD) (t : Fin (cfgM m hO).N) :
    (dats m hO 0 c).leavesExact 5 t = owns (c : Thread nD τ) (ms0_5 m hO t) fullShare (iblk m hO c 5 t) := by
  rw [← after0_5 m hO c t]; unfold Dat.leavesExact; rw [liveAt0_5 m hO t]; try rfl
theorem leaves0_6 (hO : Ok m) (c : Dev nD) (t : Fin (cfgM m hO).N) :
    (dats m hO 0 c).leavesExact 6 t = owns (c : Thread nD τ) (ms0_6 m hO t) fullShare (iblk m hO c 6 t) := by
  rw [← after0_6 m hO c t]; unfold Dat.leavesExact; rw [liveAt0_6 m hO t]; try rfl
theorem leaves0_7 (hO : Ok m) (c : Dev nD) (t : Fin (cfgM m hO).N) (h : t.val % 56 = 0 ∨ t.val % 7 = 6) :
    (dats m hO 0 c).leavesExact 7 t = owns (c : Thread nD τ) (ms0_7 m hO t) fullShare (oAt m hO c t.val t.isLt) := by
  rw [← after0_7 m hO c t]; unfold Dat.leavesExact; rw [liveAt0_7 m hO t h]; try rfl

theorem leaves0_7_idle (hO : Ok m) (c : Dev nD) (t : Fin (cfgM m hO).N) (h : ¬ t.val % 56 = 0) (h6 : ¬ t.val % 7 = 6) :
    (dats m hO 0 c).leavesExact 7 t = iprop(∃ d, owns (c : Thread nD τ) (ms0_7 m hO t) fullShare ((dats m hO 0 c).before 7 t d)) :=
  (dats m hO 0 c).leavesExact_idle 7 t (idleAt0_7 m hO t h h6) (by
    rw [Bool.eq_false_iff]; intro hf
    have h2 := (flush0_7 (adm m hO) t).mp hf
    omega)

theorem sound_body (hO : Ok m) (hS : Small m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6]
  rw [leaves0_0, leaves0_1, leaves0_2, leaves0_3, leaves0_4, leaves0_5, leaves0_6]
  rw [show (dats m hO 0 c).owesAt () t.succ = (dats m hO 0 c).owesAt () t.castSucc from rfl]
  rw [show (dats m hO 0 c).Φ t.succ = PhiS m hO c (t.val + 1) t.isLt from rfl, PhiS_succ, PhiT0_eq, PhiS_castSucc m hO c t]
  by_cases h7 : t.val % 7 = 0
  · have n13 : ¬ k0_cond13 (grid0.coords t) = 1#1 := fun h => by have := (hcond13 t).mp h; omega
    have n15 : ¬ k0_cond15 (grid0.coords t) = 1#1 := fun h => by have := (hcond15 t).mp h; omega
    refine (sep_mono_left (PhiS_any m hO c t.val (Nat.le_of_lt t.isLt))).trans ?_
    rw [PhiT0_eq]
    by_cases h56 : t.val % 56 = 0
    · rw [leaves0_7 m hO c t (.inl h56), oAt_new m hO c t h56, xAt_new m hO c t h7, yAt_new m hO c t h7]
      iintro ⟨⟨⟨HS0, HS1, Hg⟩, HT⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (tripleA Variants.none c none (grid0.coords t) tbM0_0 htbM0_0 (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scM0_0 (Memref.isWhole_whole _) scM0_1 (Memref.isWhole_whole _) (tbl m 0) (iblk m hO c 0 t) (iblk m hO c 1 t) (iblk m hO c 2 t) (iblk m hO c 3 t) (iblk m hO c 4 t) (iblk m hO c 5 t) (iblk m hO c 6 t) (hS _) ((hcond1 t).mpr h56) ((hcond2 t).mpr h7) ((hcond11 t).mpr h7) n13 n15 _)
      isplitl [HT]; · iexact HT
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexact HS0
      isplitl [HS1]; · iexact HS1
      iintro ⟨HT, H0, H1, H2, H3, H4, H5, H6, H7, HS⟩
      isplitl [HS Hg HT]
      · isplitl [HS Hg]
        · isplitl [HS]; · iexact HS
          iexact Hg
        iexact HT
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · rw [leaves0_7_idle m hO c t h56 (by omega), xAt_new m hO c t h7, yAt_new m hO c t h7]
      simp only [before0_7 m hO c t h56]
      iintro ⟨⟨⟨HS0, HS1, Hg⟩, HT⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (tripleB Variants.none c none (grid0.coords t) tbM0_0 htbM0_0 (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scM0_0 (Memref.isWhole_whole _) scM0_1 (Memref.isWhole_whole _) (tbl m 0) (iblk m hO c 0 t) (iblk m hO c 1 t) (iblk m hO c 2 t) (iblk m hO c 3 t) (iblk m hO c 4 t) (iblk m hO c 5 t) (iblk m hO c 6 t) (oAt m hO c (t.val - 1) (by omega)) (hS _) (fun h => h56 ((hcond1 t).mp h)) ((hcond2 t).mpr h7) ((hcond11 t).mpr h7) n13 n15 _)
      isplitl [HT]; · iexact HT
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      iintro ⟨HT, H0, H1, H2, H3, H4, H5, H6, H7, HS⟩
      isplitl [HS Hg HT]
      · isplitl [HS Hg]
        · isplitl [HS]; · iexact HS
          iexact Hg
        iexact HT
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists d7; iexact H7
  · have hz : t.val ≠ 0 := fun h => h7 (by rw [h])
    have h56 : ¬ t.val % 56 = 0 := by omega
    have n1 : ¬ k0_cond1 (grid0.coords t) = 1#1 := fun h => h56 ((hcond1 t).mp h)
    have n2 : ¬ k0_cond2 (grid0.coords t) = 1#1 := fun h => h7 ((hcond2 t).mp h)
    have n11 : ¬ k0_cond11 (grid0.coords t) = 1#1 := fun h => h7 ((hcond11 t).mp h)
    have p13 : k0_cond13 (grid0.coords t) = 1#1 := (hcond13 t).mpr (by omega)
    rw [PhiS_prev m hO c t h7, PhiT0_eq]
    by_cases h6 : t.val % 7 = 6
    · rw [leaves0_7 m hO c t (.inr h6), oAt_add m hO c t h6, xAt_old m hO c t h7, yAt_old m hO c t h7]
      simp only [before0_7 m hO c t h56]
      iintro ⟨⟨⟨HS, Hg⟩, HT⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (tripleD Variants.none c none (grid0.coords t) tbM0_0 htbM0_0 (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scM0_0 (Memref.isWhole_whole _) scM0_1 (Memref.isWhole_whole _) (tbl m 0) (iblk m hO c 0 t) (iblk m hO c 1 t) (iblk m hO c 2 t) (iblk m hO c 3 t) (iblk m hO c 4 t) (iblk m hO c 5 t) (iblk m hO c 6 t) (oAt m hO c (t.val - 1) (by omega)) (xAt m hO c (t.val - 1) (by omega)) (yAt m hO c (t.val - 1) (by omega)) (hS _) n1 n2 n11 p13 ((hcond15 t).mpr h6) _)
      isplitl [HT]; · iexact HT
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexact HS
      iintro ⟨HT, H0, H1, H2, H3, H4, H5, H6, H7, HS⟩
      isplitl [HS Hg HT]
      · isplitl [HS Hg]
        · isplitl [HS]; · iexact HS
          iexact Hg
        iexact HT
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · rw [leaves0_7_idle m hO c t h56 h6, xAt_old m hO c t h7, yAt_old m hO c t h7]
      simp only [before0_7 m hO c t h56]
      iintro ⟨⟨⟨HS, Hg⟩, HT⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (tripleC Variants.none c none (grid0.coords t) tbM0_0 htbM0_0 (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scM0_0 (Memref.isWhole_whole _) scM0_1 (Memref.isWhole_whole _) (tbl m 0) (iblk m hO c 0 t) (iblk m hO c 1 t) (iblk m hO c 2 t) (iblk m hO c 3 t) (iblk m hO c 4 t) (iblk m hO c 5 t) (iblk m hO c 6 t) (oAt m hO c (t.val - 1) (by omega)) (xAt m hO c (t.val - 1) (by omega)) (yAt m hO c (t.val - 1) (by omega)) (hS _) n1 n2 n11 p13 (fun h => h6 ((hcond15 t).mp h)) _)
      isplitl [HT]; · iexact HT
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexact HS
      iintro ⟨HT, H0, H1, H2, H3, H4, H5, H6, H7, HS⟩
      isplitl [HS Hg HT]
      · isplitl [HS Hg]
        · isplitl [HS]; · iexact HS
          iexact Hg
        iexact HT
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists d7; iexact H7

theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

theorem body_obligation (hO : Ok m) (hS : Small m) (c : Dev nD) : BodyObligation (dats (F := F) m hO 0 c) (defs₀ (F := F)) Variants.none () Set.univ := fun t => by
  rw [bigSep_W0, bigSep_W0, defs₀_row m hO]
  exact triple_restated (sound_body m hO hS c t) rfl .rfl fun _ => .rfl

theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 (Nat.zero_le _) from rfl, PhiS_zero m hO c 0 _ rfl]
  try exact Idealize.SL.BI.Entails.refl _

theorem hout (hO : Ok m) (c : Dev nD) : (dats m hO 0 c).Φ (Fin.last (cfgM m hO).N) ⊢ Pipeline.ΦA spec0 c := by
  rw [show (dats m hO 0 c).Φ (Fin.last (cfgM m hO).N) = PhiS m hO c (Fin.last (cfgM m hO).N).val (Nat.le_of_lt_succ (Fin.last (cfgM m hO).N).isLt) from rfl]
  refine (PhiS_any m hO c _ _).trans ?_
  rw [PhiA0_eq]
  iintro ⟨⟨HS0, HS1, Hg⟩, -⟩
  isplitl [HS0 HS1]
  · isplitl [HS0]; · iexact HS0
    iexact HS1
  iexact Hg

set_option backward.isDefEq.respectTransparency.types false in
/-- Every run ends with each array as the schedule says and every counter at zero. -/
theorem run_main_quiescent (hO : Ok m) (hS : Small m) : θ_run defs (onTc (τ := τ) (main (F := F))) (s₀ m ρ)
    (fun r => Pipeline.FramePost (Pipeline.pin pcfgs fun _ => adm m hO) (dats m hO) (0 : Fin 1) (V m) r ∧ r.2.sem = fun _ => 0) :=
  Pipeline.θ_run_frameP_track_shared (Q' := _) pcfgs (fun _ => adm m hO) (dats m hO) (0 : Fin 1) launch₀0 defs₀ Variants.none m ρ main
    (hbody := fun c => (body_obligation m hO hS c).loose) (hq := fun _ _ _ => rfl)
    (howed := fun _ _ => rfl) (V := V m) (hmain := hmain m Variants.none) (hA := A_eq m hO) (hpf := V_pre m) (hin := hin m hO) (hout := hout m hO)

end Cert.MoeIdeal.Hand
-- ==== Proof.Moe.Small.lean ====
/-
  The counts of the table stay within a slab's 2048 rows, at either reading of the floats.
-/
module

public import proofs.«01_k».proof.Proof.Moe.Counts
public import proofs.«01_k».proof.Proof.Moe.Region
public import Idealize.ShloMosaic.Lib.NatWords

@[expose] public section

noncomputable section

namespace Cert.MoeIdeal.Hand

open Idealize.ShloMosaic hiding ix1 ix2 ix3 ix4
open Idealize.ShloMosaic.TcCoe Idealize.ShloMosaic.ValueIdx
open Cert.MoeIdeal.Gen

/-- A mask bit turned into a float and back is the bit: at bit patterns. -/
theorem castOk_bits : CastOk Bits := fun b => by
  have h : b = 0#1 ∨ b = 1#1 := by
    revert b; decide
  rcases h with rfl | rfl
  · exact Bits.fptosi32_nat 0 (by decide)
  · exact Bits.fptosi32_nat 1 (by decide)

/-- And over the extended reals. -/
theorem castOk_ideal : CastOk Ideal := fun b => by
  show Ideal.fptosi 32 ((b.toNat : ℝ) : EReal) = _
  have h : b = 0#1 ∨ b = 1#1 := by
    revert b; decide
  rcases h with rfl | rfl
  · rw [Ideal.fptosi, Ideal.toIntClamped_coe]; norm_num
  · rw [Ideal.fptosi, Ideal.toIntClamped_coe]; norm_num

variable {F : FTy → Type} [FloatOps F]
variable (m : (ℓ : Loc nD τ sig) → Buf (Elt F) ℓ)

/-- A word of the table the body reads. -/
theorem tab_word (hc : CastOk F) (s : Fin 16) (e : Fin 8) (j : Fin 5) :
    tabT m (ix3 s e j) = BitVec.ofNat 32 (before (LG m 0) s e (512 * j.val)) := by
  refine Eq.trans ?_ (table_word hc (LG m 0) s e j)
  exact congrFun (V_table m 0) (ix3 s e j)

theorem small (hc : CastOk F) : Small m := fun i => by
  have h := before_le (LG m 0) (i 0) (i 1) 2048
  refine le_trans (le_of_eq (congrArg BitVec.toNat (tab_word m hc (i 0) (i 1) 4))) ?_
  rw [BitVec.toNat_ofNat]
  exact le_trans (Nat.mod_le _ _) h

end Cert.MoeIdeal.Hand

end
-- ==== Proof.Moe.Frame.lean ====
/-
  The run of the expert-mixture program ends, leaves its arguments alone and its counters at zero.
-/
module

public import proofs.«01_k».proof.Proof.Moe.Small
public import Idealize.ShloMosaic.Lib.Quiescent

@[expose] public section

noncomputable section

namespace Cert.MoeIdeal.Hand

open Idealize.ShloMosaic Idealize.ShloMosaic.TcCoe
open Idealize.SL Idealize.SL.Sem
open Cert.MoeIdeal.Gen

variable {F : FTy → Type} [FloatOps F]
variable (m : (ℓ : Loc nD τ sig) → Buf (Elt F) ℓ) (ρ : Dev nD → PrngReg)

/-- The program's condition on its table holds of every table. -/
theorem okM : Ok m := trivial

/-- What a run leaves, read at the result and at the four arguments. -/
theorem run_value (hc : CastOk F) :
    θ_run defs (onTc (τ := τ) (main (F := F))) ⟨m, fun _ => 0, ρ⟩ (fun r => (∀ c : Dev nD,
      r.2.mem ((c.tc : Thread nD τ).loc main_v38) = (dats m (okM m) 0 c).arrAt 7 (cfgM m (okM m)).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
      ⟨(h.1 c).1 7, ((h.1 c).1 0).trans (((dats m (okM m) 0 c).arrAt_in 0 rfl _).trans ((A_eq m (okM m) c 0).trans (V_main_arg0 m c))),
      ((h.1 c).2 main_arg1 (show main_arg1 ∈ Pipeline.restRefs sig spec0 from Pipeline.mem_restRefs_of main_arg1 (by decide) (by decide))).trans (V_main_arg1 m c),
      ((h.1 c).2 main_arg2 (show main_arg2 ∈ Pipeline.restRefs sig spec0 from Pipeline.mem_restRefs_of main_arg2 (by decide) (by decide))).trans (V_main_arg2 m c),
      ((h.1 c).2 main_arg3 (show main_arg3 ∈ Pipeline.restRefs sig spec0 from Pipeline.mem_restRefs_of main_arg3 (by decide) (by decide))).trans (V_main_arg3 m c)⟩, h.2⟩)
    (run_main_quiescent m ρ (okM m) (small m hc))

end Cert.MoeIdeal.Hand

end
-- ==== Proof.Moe.Same.lean ====
/-
  The expert program at bit patterns is the expert program of the ideal text read at bit patterns, so a run of the one is
  a run of the other.
-/
module

public import proofs.«01_k».proof.Defs
public import proofs.«01_k».proof.Proof.Gen.Moe
public import proofs.«01_k».proof.Proof.Moe.Frame

@[expose] public section

set_option maxRecDepth 100000
set_option maxHeartbeats 8000000

noncomputable section

namespace Cert.Proof.Moe

open Idealize.ShloMosaic Idealize.SL.Sem

/-- The kernel's body, -/
theorem body_eq : Cert.Moe.cc0_moe (F := Bits) = Cert.MoeIdeal.cc0_moe (F := Bits) := rfl

/-- the table of bodies, -/
theorem bodies_eq : Cert.Moe.defs₀ (F := Bits) = Cert.MoeIdeal.defs₀ (F := Bits) := by
  refine congrArg (Defs.onTc (nD := Cert.MoeIdeal.nD) (τ := Cert.MoeIdeal.τ) (sig := Cert.MoeIdeal.sig) (Λ := Cert.MoeIdeal.Λ₀) (Val := Elt Bits)) ?_
  funext l a
  match l, a with
  | ⟨0, _⟩, (t, s) => exact congrFun (congrFun (congrFun (congrFun (congrFun (congrFun (congrFun (congrFun (congrFun (congrFun (congrFun (congrFun (congrFun (congrFun (congrFun (congrFun (congrFun (congrFun (congrFun (congrFun (congrFun (congrFun (congrFun body_eq _) _) _) _) _) _) _) _) _) _) _) _) _) _) _) _) _) _) _) _) _) _) _

/-- the definitions, -/
theorem defs_eq : Cert.Moe.defs (F := Bits) = Cert.MoeIdeal.defs (F := Bits) :=
  congrArg (Pipeline.defs (nD := Cert.MoeIdeal.nD) (τ := Cert.MoeIdeal.τ) (Cert.MoeIdeal.pcfgs (F := Bits))) bodies_eq

/-- and the host function. -/
theorem main_eq : Cert.Moe.main (F := Bits) = Cert.MoeIdeal.main (F := Bits) := rfl

/-- A run of definitions and a host function equal to the ideal text's. -/
theorem run_same (m : (ℓ : Loc Cert.MoeIdeal.nD Cert.MoeIdeal.τ Cert.MoeIdeal.sig) → Buf (Elt Bits) ℓ) (ρ : Dev Cert.MoeIdeal.nD → PrngReg)
    (D) (hD : D = Cert.MoeIdeal.defs (F := Bits)) (M) (hM : M = Cert.MoeIdeal.main (F := Bits))
    (Q) (hQ : θ_run (Cert.MoeIdeal.defs (F := Bits)) (onTc (τ := Cert.MoeIdeal.τ) (Cert.MoeIdeal.main (F := Bits))) ⟨m, fun _ => 0, ρ⟩ Q) :
    θ_run D (onTc (τ := Cert.MoeIdeal.τ) M) ⟨m, fun _ => 0, ρ⟩ Q := by
  subst hD hM
  exact hQ

end Cert.Proof.Moe

end
-- ==== Proof.Moe.Apply.lean ====
/-
  The stored terms of the expert kernel over the extended reals, read at one index.
-/
module

public import proofs.«01_k».proof.Proof.Moe.Spec
public import Idealize.ShloMosaic.Lib.Pointwise

@[expose] public section

set_option maxRecDepth 16384

noncomputable section

namespace Cert.MoeIdeal.Hand

open Idealize.ShloMosaic Idealize.ShloMosaic.TcCoe
open Cert.MoeIdeal.Gen
open scoped BigOperators

/-- One hidden unit: `silu(x · w_gate) · (x · w_up)`. -/
def hidU (x : Fin 1024 → EReal) (wg wu : Fin 1024 → EReal) : EReal :=
  (∑ d, x d * wg d) * Ideal.logistic (∑ d, x d * wg d) * ∑ d, x d * wu d

theorem pay37_apply (x : Vec Ideal S256x1024 .bf16) (wg wu : Vec Ideal S1x1024x512 .bf16) (w2 : Vec Ideal S1x512x1024 .bf16) (r : Fin 256) (d : Fin 1024) :
    k0_pay37 (F := Ideal) x wg wu w2 (ix2 r d)
      = ∑ k : Fin 512, hidU (fun d => x (ix2 r d)) (fun d => wg (ix3 0 d k)) (fun d => wu (ix3 0 d k)) * w2 (ix3 0 k d) := by
  unfold hidU
  pointwise [k0_pay37]

theorem pay3_apply (x : Vec Ideal S256x1024 .bf16) (wg wu : Vec Ideal S1x1024x512 .bf16) (w2 : Vec Ideal S1x512x1024 .bf16)
    (y : Vec Ideal S256x1024 .f32) (r : Fin 256) (d : Fin 1024) :
    k0_pay3 (F := Ideal) x wg wu w2 y (ix2 r d) = y (ix2 r d)
      + ∑ k : Fin 512, hidU (fun d => x (ix2 r d)) (fun d => wg (ix3 0 d k)) (fun d => wu (ix3 0 d k)) * w2 (ix3 0 k d) := by
  unfold hidU
  pointwise [k0_pay3]

/-- A choice by an equality of words. -/
theorem select_eq {α : Type} (a b : BitVec 32) (x y : α) :
    Scalar.select (IntOp.cmpi CmpIPredicate.eq a b) x y = if a = b then x else y := by
  by_cases h : a = b
  · subst h; simp [Scalar.select, IntOp.cmpi]
  · have e : (a == b) = false := by simpa using h
    rw [if_neg h]
    show (if BitVec.ofBool (a == b) = 1#1 then x else y) = y
    rw [e]; rfl

theorem pay29_apply (v : BitVec 32) (rr : Vec Ideal S1x1x1x512 .i32) (acc : Vec Ideal S256x1024 .f32) (x : Vec Ideal S512x1024 .bf16) (r : Fin 256) (d : Fin 1024) :
    k0_pay29 (F := Ideal) v rr acc x (ix2 r d) = acc (ix2 r d)
      + ∑ k : Fin 512, if rr (ix4 0 0 0 k) = BitVec.ofNat 32 r.val + v * 256#32 then x (ix2 k d) else 0 := by
  pointwise [k0_pay29]
  simp only [select_eq]
  rfl

theorem pay4_apply (v : BitVec 32) (y : Vec Ideal S256x1024 .bf16) (rc : Vec Ideal S1x1x512x1 .i32) (o : Vec Ideal S512x1024 .f32)
    (gc : Vec Ideal S1x1x512x1 .f32) (r : Fin 512) (d : Fin 1024) :
    k0_pay4 (F := Ideal) v y rc o gc (ix2 r d) = o (ix2 r d)
      + gc (ix4 0 0 r 0) * ∑ k : Fin 256, if rc (ix4 0 0 r 0) = BitVec.ofNat 32 k.val + v * 256#32 then y (ix2 k d) else 0 := by
  pointwise [k0_pay4]
  simp only [select_eq]
  rfl

theorem pay8_apply (j : S256x1024.Idx) : k0_pay8 (F := Ideal) j = 0 := by
  idx_vars j
  pointwise [k0_pay8]

theorem pay28_apply (j : S2048x1024.Idx) : k0_pay28 (F := Ideal) j = 0 := by
  idx_vars j
  pointwise [k0_pay28]

theorem pay31_apply (x : Vec Ideal S256x1024 .f32) (j : S256x1024.Idx) : k0_pay31 (F := Ideal) x j = x j := by
  idx_vars j
  pointwise [k0_pay31]

theorem pay22_apply (x : Vec Ideal S256x1024 .f32) (j : S256x1024.Idx) : k0_pay22 (F := Ideal) x j = x j := rfl

theorem ix2_same {n m : ℕ} (a : Fin n) (b : Fin m) : ValueIdx.ix2 a b = ix2 a b := rfl

end Cert.MoeIdeal.Hand

end
-- ==== Proof.Moe.Ref.lean ====
/-
  The plain program's mixture of experts, index by index: every row's sum, over the experts, of the expert's weight for
  the row times the expert's output on it.
-/
module

public import proofs.«01_k».proof.Proof.Moe.Apply
public import proofs.«01_k».proof.Proof.Gen.MoeRefIdeal.Run

@[expose] public section

set_option maxRecDepth 16384

noncomputable section

namespace Cert.Proof.Moe

open Idealize.ShloMosaic Idealize.ShloMosaic.TcCoe
open Cert.MoeRefIdeal Cert.MoeRefIdeal.Gen
open scoped BigOperators

variable {F : FTy → Type} [FloatOps F]

/-- The softmax of a row's two largest logits. -/
def gatesR (l : Vec F S32768x8 .f32) : Vec F S32768x2 .f32 :=
  Host.divf (Host.exp (subf ((Host.topK S32768x2 1 (FloatOps.cmpfTotal .gt) l sliceFits_S32768x8_S32768x2).1) (broadcastInDim S32768x2 ![0, 1] bcast_S32768x1_S32768x2_0_1 (broadcastInDim S32768x1 ![0] bcast_S32768_S32768x1_0 (maximumf (broadcastInDim S32768 ![] bcast_S_S32768 (constant S_ .f32 0xFF800000#32)) (Host.reduce FloatOps.maximumf ((Host.topK S32768x2 1 (FloatOps.cmpfTotal .gt) l sliceFits_S32768x8_S32768x2).1) (constant S_ .f32 0xFF800000#32) reducesTo_S32768x2_S32768_d1 h_S_)))))) (broadcastInDim S32768x2 ![0, 1] bcast_S32768x1_S32768x2_0_1 (broadcastInDim S32768x1 ![0] bcast_S32768_S32768x1_0 (Host.reduceAdd (Host.exp (subf ((Host.topK S32768x2 1 (FloatOps.cmpfTotal .gt) l sliceFits_S32768x8_S32768x2).1) (broadcastInDim S32768x2 ![0, 1] bcast_S32768x1_S32768x2_0_1 (broadcastInDim S32768x1 ![0] bcast_S32768_S32768x1_0 (maximumf (broadcastInDim S32768 ![] bcast_S_S32768 (constant S_ .f32 0xFF800000#32)) (Host.reduce FloatOps.maximumf ((Host.topK S32768x2 1 (FloatOps.cmpfTotal .gt) l sliceFits_S32768x8_S32768x2).1) (constant S_ .f32 0xFF800000#32) reducesTo_S32768x2_S32768_d1 h_S_)))))) (constant S_ .f32 0x00000000#32) reducesTo_S32768x2_S32768_d1 h_S_)))

/-- A row's weight for each expert: its gate for the expert where it takes it, zero elsewhere. -/
def weightR (l : Vec F S32768x8 .f32) : Vec F S32768x8 .f32 :=
  Host.reduceAdd (select (cmpi .eq (broadcastInDim S32768x2x8 ![0, 1, 2] bcast_S32768x2x1_S32768x2x8_0_1_2 (broadcastInDim S32768x2x1 ![0, 1] bcast_S32768x2_S32768x2x1_0_1 ((Host.topK S32768x2 1 (FloatOps.cmpfTotal .gt) l sliceFits_S32768x8_S32768x2).2))) (broadcastInDim S32768x2x8 ![0, 1, 2] bcast_S1x1x8_S32768x2x8_0_1_2 (broadcastInDim S1x1x8 ![2] bcast_S8_S1x1x8_2 (iotaInDim S8 32 0)))) (broadcastInDim S32768x2x8 ![0, 1, 2] bcast_S32768x2x1_S32768x2x8_0_1_2 (broadcastInDim S32768x2x1 ![0, 1] bcast_S32768x2_S32768x2x1_0_1 (gatesR l))) (broadcastInDim S32768x2x8 ![] bcast_S_S32768x2x8 (id (constant S_ .f32 0x00000000#32)))) (constant S_ .f32 0x00000000#32) reducesTo_S32768x2x8_S32768x8_d1 h_S_

/-- The projections of every row by every expert's gate and up weights. -/
def projR (x : Vec F S32768x1024 .bf16) (w13 : Vec F S8x1024x7168 .f32) : Vec F S8x32768x7168 .f32 :=
  transpose S8x32768x7168 [0, 2, 1] (Host.dotGeneral dot_S8x1024x7168_S32768x1024_S8x7168x32768_1_1_02_0_n_n none w13 (extf .f32 x bitsLt_bf16_f32)) transposes_S8x7168x32768_S8x32768x7168_0_2_1

/-- The hidden units. -/
def actR (x : Vec F S32768x1024 .bf16) (w13 : Vec F S8x1024x7168 .f32) : Vec F S8x32768x3584 .f32 :=
  mulf (mulf (extractStridedSlice S8x32768x3584 ![0, 0, 0] (projR x w13) slices_S8x32768x7168_S8x32768x3584_0_0_0) (Host.divf (broadcastInDim S8x32768x3584 ![] bcast_S_S8x32768x3584 (constant S_ .f32 0x3F800000#32)) (addf (broadcastInDim S8x32768x3584 ![] bcast_S_S8x32768x3584 (constant S_ .f32 0x3F800000#32)) (Host.exp (Host.negf (extractStridedSlice S8x32768x3584 ![0, 0, 0] (projR x w13) slices_S8x32768x7168_S8x32768x3584_0_0_0)))))) (extractStridedSlice S8x32768x3584 ![0, 0, 3584] (projR x w13) slices_S8x32768x7168_S8x32768x3584_0_0_3584)

/-- The layer. -/
def layerR (x : Vec F S32768x1024 .bf16) (l : Vec F S32768x8 .f32) (w13 : Vec F S8x1024x7168 .f32) (w2 : Vec F S8x3584x1024 .f32) : Vec F S32768x1024 .f32 :=
  Host.reduceAdd (mulf (broadcastInDim S8x32768x1024 ![0, 1, 2] bcast_S8x32768x1_S8x32768x1024_0_1_2 (broadcastInDim S8x32768x1 ![0, 1] bcast_S8x32768_S8x32768x1_0_1 (transpose S8x32768 [1, 0] (weightR l) transposes_S32768x8_S8x32768_1_0))) (Host.dotGeneral dot_S8x32768x3584_S8x3584x1024_S8x32768x1024_2_1_1_2_0_0 none (actR x w13) w2)) (constant S_ .f32 0x00000000#32) reducesTo_S8x32768x1024_S32768x1024_d0 h_S_

abbrev gCol (f : Fin 3584) : Fin 7168 := ⟨f.val, by omega⟩
abbrev uCol (f : Fin 3584) : Fin 7168 := ⟨3584 + f.val, by omega⟩

theorem projR_at (x : Vec Ideal S32768x1024 .bf16) (w13 : Vec Ideal S8x1024x7168 .f32) (e : Fin 8) (n : Fin 32768) (f : Fin 7168) :
    projR x w13 (ix3 e n f) = ∑ q : Fin 1024, x (ix2 n q) * w13 (ix3 e q f) := by
  pointwise [projR]
  simp only [mul_comm]

theorem actR_at (x : Vec Ideal S32768x1024 .bf16) (w13 : Vec Ideal S8x1024x7168 .f32) (e : Fin 8) (n : Fin 32768) (f : Fin 3584) :
    actR x w13 (ix3 e n f) = MoeIdeal.Hand.hidU (fun q => x (ix2 n q)) (fun q => w13 (ix3 e q (gCol f))) (fun q => w13 (ix3 e q (uCol f))) := by
  unfold MoeIdeal.Hand.hidU
  pointwise [actR]
  simp only [Ideal.logistic, projR_at]

theorem layerR_at (x : Vec Ideal S32768x1024 .bf16) (l : Vec Ideal S32768x8 .f32) (w13 : Vec Ideal S8x1024x7168 .f32) (w2 : Vec Ideal S8x3584x1024 .f32)
    (n : Fin 32768) (d : Fin 1024) :
    layerR x l w13 w2 (ix2 n d) = ∑ e : Fin 8, weightR l (ix2 n e)
      * ∑ f : Fin 3584, MoeIdeal.Hand.hidU (fun q => x (ix2 n q)) (fun q => w13 (ix3 e q (gCol f))) (fun q => w13 (ix3 e q (uCol f))) * w2 (ix3 e f d) := by
  simp only [← actR_at]
  pointwise [layerR]

end Cert.Proof.Moe

end
-- ==== Proof.Moe.Compact.lean ====
/-
  The rows an expert takes, gathered and scattered back. A row's rank is the number of rows before it that take the
  expert, so the row of rank `ρ` stands at place `ρ % 256` of tile `ρ / 256`; the gather brings every row taken to its
  place and the scatter brings a tile's row back to where it came from.
-/
module

public import proofs.«01_k».proof.Proof.Moe.Apply
public import Idealize.ShloMosaic.Lib.Routing.BitFacts

@[expose] public section

set_option maxRecDepth 16384

noncomputable section

namespace Cert.MoeIdeal.Hand

open Idealize.ShloMosaic Idealize.ShloMosaic.TcCoe
open Cert.MoeIdeal.Gen
open scoped BigOperators

variable (p : ℕ → Prop) [DecidablePred p]

/-- A row's rank word: its rank if the row takes the expert, and all ones otherwise. -/
def rankW (t : ℕ) : BitVec 32 := if p t then BitVec.ofNat 32 (Nat.count p t) else 4294967295#32

theorem iv_word (k : ℕ) : Scf.iv 0#32 1#32 k = BitVec.ofNat 32 k := by
  unfold Scf.iv
  simp

theorem place_word (r k : ℕ) : BitVec.ofNat 32 r + Scf.iv 0#32 1#32 k * 256#32 = BitVec.ofNat 32 (256 * k + r) := by
  rw [iv_word]
  apply BitVec.eq_of_toNat_eq
  simp [BitVec.toNat_add, BitVec.toNat_mul]
  omega

theorem rankW_eq_iff (t n : ℕ) (ht : t ≤ 2048) (hn : n < 4096) : rankW p t = BitVec.ofNat 32 n ↔ p t ∧ Nat.count p t = n := by
  have hc : Nat.count p t ≤ t := Nat.count_le _
  unfold rankW
  by_cases h : p t
  · rw [if_pos h]
    constructor
    · intro e
      have e' := congrArg BitVec.toNat e
      rw [BitVec.toNat_ofNat, BitVec.toNat_ofNat, Nat.mod_eq_of_lt (by omega), Nat.mod_eq_of_lt (by omega)] at e'
      exact ⟨h, e'⟩
    · rintro ⟨-, e⟩
      rw [e]
  · rw [if_neg h]
    constructor
    · intro e
      have e' := congrArg BitVec.toNat e
      rw [BitVec.toNat_ofNat, BitVec.toNat_ofNat, Nat.mod_eq_of_lt (by omega), Nat.mod_eq_of_lt (by omega)] at e'
      omega
    · rintro ⟨h', -⟩
      exact absurd h' h

theorem slt_word (a b : ℕ) (ha : a < 4096) (hb : b < 4096) : Scalar.cmpi .slt (BitVec.ofNat 32 a) (BitVec.ofNat 32 b) = BitVec.ofBool (decide (a < b)) := by
  show BitVec.ofBool ((BitVec.ofNat 32 a).slt (BitVec.ofNat 32 b)) = _
  rw [Routing.slt_ofNat32 (by omega) (by omega)]

theorem sgt_word (a b : ℕ) (ha : a < 4096) (hb : b < 4096) : Scalar.cmpi .sgt (BitVec.ofNat 32 a) (BitVec.ofNat 32 b) = BitVec.ofBool (decide (b < a)) := by
  show BitVec.ofBool ((BitVec.ofNat 32 b).slt (BitVec.ofNat 32 a)) = _
  rw [Routing.slt_ofNat32 (by omega) (by omega)]

/-- A slab is looked at for a tile if its ranks, from `a` to below `b`, meet the tile's. -/
theorem slabHits_eq (k a b : ℕ) (hk : k < 8) (ha : a ≤ 2048) (hb : b ≤ 2048) :
    slabHits k (BitVec.ofNat 32 a) (BitVec.ofNat 32 b) = 1#1 ↔ a < 256 * (k + 1) ∧ 256 * k < b := by
  have e1 : Scalar.muli (Scalar.addi (Scf.iv 0#32 1#32 k) 1#32) 256#32 = BitVec.ofNat 32 (256 * (k + 1)) := by
    rw [iv_word]
    apply BitVec.eq_of_toNat_eq
    show ((BitVec.ofNat 32 k + 1#32) * 256#32).toNat = _
    simp [BitVec.toNat_add, BitVec.toNat_mul]
    omega
  have e2 : Scalar.muli (Scf.iv 0#32 1#32 k) 256#32 = BitVec.ofNat 32 (256 * k) := by
    rw [iv_word]
    apply BitVec.eq_of_toNat_eq
    show (BitVec.ofNat 32 k * 256#32).toNat = _
    simp [BitVec.toNat_mul]
    omega
  unfold slabHits
  rw [e1, e2, slt_word _ _ (by omega) (by omega), sgt_word _ _ (by omega) (by omega)]
  by_cases h1 : a < 256 * (k + 1) <;> by_cases h2 : 256 * k < b <;> simp [h1, h2] <;> decide

variable (T : Vec Ideal S16x8x5 .i32) (i : grid0.Coords)

/-- The table's words for a block and an expert are the counts at the slabs' bounds. -/
def TabOk : Prop := ∀ j : Fin 5, tw T i j = BitVec.ofNat 32 (Nat.count p (512 * j.val))

variable {p T i}

/-- A slab with a row of the tile's rank is looked at. -/
theorem hits_of (hT : TabOk p T i) (k t : ℕ) (j : Fin 4) (hk : k < 8) (hj : 512 * j.val ≤ t) (hj' : t < 512 * (j.val + 1)) (hp : p t)
    (h1 : 256 * k ≤ Nat.count p t) (h2 : Nat.count p t < 256 * (k + 1)) :
    slabHits k (tw T i j.castSucc) (tw T i j.succ) = 1#1 := by
  have hj4 := j.isLt
  have a1 : Nat.count p (512 * j.val) ≤ Nat.count p t := Nat.count_monotone p hj
  have a2 : Nat.count p t < Nat.count p (512 * (j.val + 1)) := Nat.count_strict_mono hp hj'
  have a3 : Nat.count p (512 * (j.val + 1)) ≤ 512 * (j.val + 1) := Nat.count_le _
  rw [hT, hT]
  refine (slabHits_eq k _ _ hk ?_ ?_).2 ⟨?_, ?_⟩
  · show Nat.count p (512 * j.val) ≤ 2048
    omega
  · show Nat.count p (512 * (j.val + 1)) ≤ 2048
    omega
  · show Nat.count p (512 * j.val) < _
    omega
  · show _ < Nat.count p (512 * (j.val + 1))
    omega

/-! ### The gather -/

variable {rr : Vec Ideal S1x1x1x2048 .i32} {x : Vec Ideal S2048x1024 .bf16}

/-- One slab's step: the slab's only row of the place's rank, if it has one. -/
theorem gatherStep_at (hT : TabOk p T i) (hr : ∀ t : Fin 2048, rr (ix4 0 0 0 t) = rankW p t.val) (k : ℕ) (hk : k < 8) (j : Fin 4)
    (acc : Vec Ideal S256x1024 .f32) (r : Fin 256) (d : Fin 1024) :
    gatherStep T i rr x k j acc (ix2 r d) = acc (ix2 r d)
      + ∑ q : Fin 512, if p (512 * j.val + q.val) ∧ Nat.count p (512 * j.val + q.val) = 256 * k + r.val
          then x (ix2 ⟨(512 * j.val + q.val) % 2048, Nat.mod_lt _ (by decide)⟩ d) else 0 := by
  have hj4 := j.isLt
  have hr4 := r.isLt
  unfold gatherStep
  by_cases h : slabHits k (tw T i j.castSucc) (tw T i j.succ) = 1#1
  · rw [if_pos h, pay29_apply]
    refine congrArg (acc (ix2 r d) + ·) (Finset.sum_congr rfl fun q _ => ?_)
    have hq := q.isLt
    have e1 : winR j.val rr (ix4 0 0 0 q) = rankW p (512 * j.val + q.val) := by
      refine (hr ⟨(512 * j.val + q.val) % 2048, Nat.mod_lt _ (by decide)⟩).trans ?_
      show rankW p ((512 * j.val + q.val) % 2048) = _
      rw [Nat.mod_eq_of_lt (by omega)]
    rw [e1, place_word]
    simp only [rankW_eq_iff p _ _ (show 512 * j.val + q.val ≤ 2048 by omega) (show 256 * k + r.val < 4096 by omega)]
    rfl
  · rw [if_neg h]
    refine (add_zero _).symm.trans (congrArg (acc (ix2 r d) + ·) (Finset.sum_eq_zero fun q _ => ?_).symm)
    have hq := q.isLt
    refine if_neg fun hh => h (hits_of hT k _ j hk (Nat.le_add_right _ _) ?_ hh.1 ?_ ?_)
    · omega
    · rw [hh.2]; omega
    · rw [hh.2]; omega

/-- The row of rank `ρ` stands at place `ρ % 256` of tile `ρ / 256`. -/
theorem gatherT_at (hT : TabOk p T i) (hr : ∀ t : Fin 2048, rr (ix4 0 0 0 t) = rankW p t.val) (t : Fin 2048) (hp : p t.val)
    (k : ℕ) (r : Fin 256) (hk : Nat.count p t.val = 256 * k + r.val) (d : Fin 1024) :
    gatherT T i rr x k (ix2 r d) = x (ix2 t d) := by
  have hc : Nat.count p t.val ≤ t.val := Nat.count_le _
  have ht := t.isLt
  have hk8 : k < 8 := by omega
  have only : ∀ (j : Fin 4) (q : Fin 512), (p (512 * j.val + q.val) ∧ Nat.count p (512 * j.val + q.val) = 256 * k + r.val)
      ↔ 512 * j.val + q.val = t.val := fun j q =>
    ⟨fun h => Nat.count_injective h.1 hp (h.2.trans hk.symm), fun h => by rw [h]; exact ⟨hp, hk⟩⟩
  have sum_j : ∀ j : Fin 4, (∑ q : Fin 512, if p (512 * j.val + q.val) ∧ Nat.count p (512 * j.val + q.val) = 256 * k + r.val
          then x (ix2 ⟨(512 * j.val + q.val) % 2048, Nat.mod_lt _ (by decide)⟩ d) else 0) = if t.val / 512 = j.val then x (ix2 t d) else 0 := fun j => by
    by_cases h : t.val / 512 = j.val
    · rw [if_pos h]
      refine (Finset.sum_eq_single (⟨t.val % 512, Nat.mod_lt _ (by decide)⟩ : Fin 512) (fun q _ hq => ?_) (fun h => absurd (Finset.mem_univ _) h)).trans ?_
      · refine if_neg fun hh => hq (Fin.ext ?_)
        have := (only j q).1 hh
        have := q.isLt
        show q.val = t.val % 512
        omega
      · have e : 512 * j.val + t.val % 512 = t.val := by omega
        refine (if_pos ((only j _).2 e)).trans (congrArg x ?_)
        refine congrArg (fun a : Fin 2048 => ix2 a d) (Fin.ext ?_)
        show (512 * j.val + t.val % 512) % 2048 = t.val
        omega
    · rw [if_neg h]
      refine Finset.sum_eq_zero fun q _ => if_neg fun hh => h ?_
      have := (only j q).1 hh
      have := q.isLt
      omega
  unfold gatherT gatherAcc
  rw [pay31_apply, gatherStep_at hT hr k hk8, gatherStep_at hT hr k hk8, gatherStep_at hT hr k hk8, gatherStep_at hT hr k hk8, pay8_apply,
    sum_j, sum_j, sum_j, sum_j]
  have h4 : t.val / 512 = 0 ∨ t.val / 512 = 1 ∨ t.val / 512 = 2 ∨ t.val / 512 = 3 := by omega
  rcases h4 with h | h | h | h <;> rw [h] <;> simp

/-! ### The scatter -/

variable {rc : Vec Ideal S1x1x2048x1 .i32} {gc : Vec Ideal S1x1x2048x1 .f32}

/-- What a tile gives a row: its own place of the tile if it stands in it. -/
def giveT (p : ℕ → Prop) [DecidablePred p] (gc : Vec Ideal S1x1x2048x1 .f32) (y : Vec Ideal S256x1024 .f32) (k : ℕ) (t : Fin 2048) (d : Fin 1024) : EReal :=
  if p t.val ∧ Nat.count p t.val / 256 = k then gc (ix4 0 0 t 0) * y (ix2 ⟨Nat.count p t.val % 256, Nat.mod_lt _ (by decide)⟩ d) else 0

/-- One slab's step, at a row. -/
theorem scatterStep_at (hT : TabOk p T i) (hr : ∀ t : Fin 2048, rc (ix4 0 0 t 0) = rankW p t.val) (y : Vec Ideal S256x1024 .f32) (k : ℕ) (hk : k < 8)
    (j : Fin 4) (o : Vec Ideal S2048x1024 .f32) (t : Fin 2048) (d : Fin 1024) :
    scatterStep T i rc gc y k j o (ix2 t d) = o (ix2 t d) + if t.val / 512 = j.val then giveT p gc y k t d else 0 := by
  have ht := t.isLt
  have hj4 := j.isLt
  have hc : Nat.count p t.val ≤ t.val := Nat.count_le _
  unfold scatterStep
  by_cases h : slabHits k (tw T i j.castSucc) (tw T i j.succ) = 1#1
  · rw [if_pos h]
    by_cases hj : t.val / 512 = j.val
    · rw [if_pos hj]
      have e0 : 512 * j.val ≤ (ix2 t d (0 : Fin 2)).val ∧ (ix2 t d (0 : Fin 2)).val < 512 * j.val + 512 := by
        show 512 * j.val ≤ t.val ∧ t.val < 512 * j.val + 512
        omega
      unfold putS
      rw [dif_pos e0]
      refine (pay4_apply _ _ _ _ _ (⟨t.val - 512 * j.val, by omega⟩ : Fin 512) d).trans ?_
      have et : (⟨(512 * j.val + (t.val - 512 * j.val)) % 2048, Nat.mod_lt _ (by decide)⟩ : Fin 2048) = t :=
        Fin.ext (by show (512 * j.val + (t.val - 512 * j.val)) % 2048 = t.val; omega)
      have e1 : winS j.val o (ix2 (⟨t.val - 512 * j.val, by omega⟩ : Fin 512) d) = o (ix2 t d) := congrArg (fun a : Fin 2048 => o (ix2 a d)) et
      have e2 : winC j.val rc (ix4 0 0 (⟨t.val - 512 * j.val, by omega⟩ : Fin 512) 0) = rankW p t.val :=
        (congrArg (fun a : Fin 2048 => rc (ix4 0 0 a 0)) et).trans (hr t)
      have e3 : winC j.val gc (ix4 0 0 (⟨t.val - 512 * j.val, by omega⟩ : Fin 512) 0) = gc (ix4 0 0 t 0) := congrArg (fun a : Fin 2048 => gc (ix4 0 0 a 0)) et
      rw [e1, e2, e3]
      refine congrArg (o (ix2 t d) + ·) ?_
      have e4 : ∀ q : Fin 256, (if rankW p t.val = BitVec.ofNat 32 q.val + Scf.iv 0#32 1#32 k * 256#32 then k0_pay22 y (ix2 q d) else 0)
          = if p t.val ∧ Nat.count p t.val = 256 * k + q.val then y (ix2 q d) else 0 := fun q => by
        have hq := q.isLt
        rw [place_word]
        simp only [rankW_eq_iff p t.val (256 * k + q.val) (by omega) (by omega)]
        rfl
      refine (congrArg (gc (ix4 0 0 t 0) * ·) (Finset.sum_congr rfl fun q _ => e4 q)).trans ?_
      unfold giveT
      by_cases hp : p t.val ∧ Nat.count p t.val / 256 = k
      · rw [if_pos hp]
        refine congrArg (gc (ix4 0 0 t 0) * ·) ?_
        refine (Finset.sum_eq_single (⟨Nat.count p t.val % 256, Nat.mod_lt _ (by decide)⟩ : Fin 256) (fun q _ hq => ?_) (fun h => absurd (Finset.mem_univ _) h)).trans ?_
        · refine if_neg fun hh => hq (Fin.ext ?_)
          have := q.isLt
          show q.val = Nat.count p t.val % 256
          omega
        · refine if_pos ⟨hp.1, ?_⟩
          show Nat.count p t.val = 256 * k + Nat.count p t.val % 256
          omega
      · rw [if_neg hp, Finset.sum_eq_zero fun q _ => ?_, mul_zero]
        refine if_neg fun hh => hp ⟨hh.1, ?_⟩
        have := q.isLt
        omega
    · rw [if_neg hj, add_zero]
      unfold putS
      refine dif_neg fun hh => hj ?_
      have : 512 * j.val ≤ t.val ∧ t.val < 512 * j.val + 512 := hh
      omega
  · rw [if_neg h]
    refine (add_zero _).symm.trans (congrArg (o (ix2 t d) + ·) ?_)
    by_cases hj : t.val / 512 = j.val
    · rw [if_pos hj]
      refine (if_neg fun hh => h (hits_of hT k t.val j hk ?_ ?_ hh.1 ?_ ?_)).symm <;> omega
    · rw [if_neg hj]

theorem scatterT_at (hT : TabOk p T i) (hr : ∀ t : Fin 2048, rc (ix4 0 0 t 0) = rankW p t.val) (y : Vec Ideal S256x1024 .f32) (k : ℕ) (hk : k < 8)
    (o : Vec Ideal S2048x1024 .f32) (t : Fin 2048) (d : Fin 1024) :
    scatterT T i rc gc y k o (ix2 t d) = o (ix2 t d) + giveT p gc y k t d := by
  have ht := t.isLt
  unfold scatterT
  rw [scatterStep_at hT hr y k hk, scatterStep_at hT hr y k hk, scatterStep_at hT hr y k hk, scatterStep_at hT hr y k hk]
  have h4 : t.val / 512 = 0 ∨ t.val / 512 = 1 ∨ t.val / 512 = 2 ∨ t.val / 512 = 3 := by omega
  rcases h4 with h | h | h | h <;> rw [h] <;> simp

/-- All tiles: a row taken gets its own place of its own tile. -/
theorem scatterAll_at (hT : TabOk p T i) (hr : ∀ t : Fin 2048, rc (ix4 0 0 t 0) = rankW p t.val) (y : ℕ → Vec Ideal S256x1024 .f32)
    (o : Vec Ideal S2048x1024 .f32) (n : ℕ) (hn : n ≤ 8) (t : Fin 2048) (d : Fin 1024) :
    scatterAll T i rc gc y o n (ix2 t d) = o (ix2 t d)
      + if Nat.count p t.val / 256 < n then giveT p gc (y (Nat.count p t.val / 256)) (Nat.count p t.val / 256) t d else 0 := by
  induction n with
  | zero => rw [if_neg (Nat.not_lt_zero _), add_zero]; rfl
  | succ n ih =>
    refine (scatterT_at hT hr (y n) n (by omega) _ t d).trans ?_
    rw [ih (by omega), add_assoc]
    refine congrArg (o (ix2 t d) + ·) ?_
    by_cases h1 : Nat.count p t.val / 256 < n
    · rw [if_pos h1, if_pos (by omega)]
      have e : giveT p gc (y n) n t d = 0 := if_neg fun hh => by omega
      rw [e, add_zero]
    · rw [if_neg h1, zero_add]
      by_cases h2 : Nat.count p t.val / 256 = n
      · rw [if_pos (by omega), h2]
      · rw [if_neg (by omega)]
        exact if_neg fun hh => h2 hh.2

end Cert.MoeIdeal.Hand

end
-- ==== Proof.Moe.Reads.lean ====
/-
  Which elements of the arguments the blocks of a grid point hold. A point is 56 times its slab of rows plus 7 times its
  expert plus its tile of hidden units.
-/
module

public import proofs.«01_k».proof.Proof.Moe.Compact
public import proofs.«01_k».proof.Proof.Moe.Small
public import Idealize.ShloMosaic.Lib.Pipeline.ValueKit
public import Idealize.ShloMosaic.Lib.Pipeline.ValueKit.Held
public import Idealize.ShloMosaic.Lib.Pipeline.ReadBack
public import Idealize.ShloMosaic.Lib.StableHlo.RunRead

@[expose] public section

set_option maxRecDepth 16384

noncomputable section

namespace Cert.MoeIdeal.Hand

open Idealize.ShloMosaic Idealize.ShloMosaic.TcCoe
open Cert.MoeIdeal.Gen
open scoped BigOperators

variable (m : (ℓ : Loc nD τ sig) → Buf (Elt Ideal) ℓ) (hO : Ok m) (c : Dev nD)

/-- The rows, the experts' gate and up weights side by side, and their down weights. -/
abbrev AX : Vec Ideal S32768x1024 .bf16 := m ((c : Thread nD τ).loc main_arg0)
abbrev W13 : Vec Ideal S8x1024x7168 .f32 := m ((c : Thread nD τ).loc main_arg2)
abbrev W2 : Vec Ideal S8x3584x1024 .f32 := m ((c : Thread nD τ).loc main_arg3)

theorem lt896 (t : Fin (cfgM m hO).N) : t.val < 896 := lt_of_lt_of_eq t.isLt N_0

/-- A point's slab and its expert. -/
abbrev sOf (n : ℕ) (h : n < 896) : Fin 16 := ⟨n / 56, by omega⟩
abbrev eOf (n : ℕ) : Fin 8 := ⟨n / 7 % 8, Nat.mod_lt _ (by decide)⟩

/-- A tile's hidden unit, as a column of the gate weights, a column of the up weights and a row of the down weights. -/
abbrev fRow (n : ℕ) (k : Fin 512) : Fin 3584 := ⟨512 * (n % 7) + k.val, by omega⟩
abbrev fGate (f : Fin 3584) : Fin 7168 := ⟨f.val, by omega⟩
abbrev fUp (f : Fin 3584) : Fin 7168 := ⟨3584 + f.val, by omega⟩

theorem idx : ∀ t : Fin grid0.N, cc0_transform_0 (grid0.coords t) = ![t.val / 56, 0] ∧ cc0_transform_1 (grid0.coords t) = ![t.val / 56, t.val / 7 % 8, 0, 0]
    ∧ cc0_transform_2 (grid0.coords t) = ![t.val / 56, t.val / 7 % 8, 0, 0] ∧ cc0_transform_3 (grid0.coords t) = ![t.val / 56, t.val / 7 % 8, 0, 0]
    ∧ cc0_transform_4 (grid0.coords t) = ![t.val / 7 % 8, 0, t.val % 7] ∧ cc0_transform_5 (grid0.coords t) = ![t.val / 7 % 8, 0, t.val % 7 + 7]
    ∧ cc0_transform_6 (grid0.coords t) = ![t.val / 7 % 8, t.val % 7, 0] ∧ cc0_transform_7 (grid0.coords t) = ![t.val / 56, 0] := by
  decide +kernel

theorem coord0 : ∀ t : Fin grid0.N, (grid0.coords t 0).val = t.val / 56 ∧ (grid0.coords t 1).val = t.val / 7 % 8 := by
  decide +kernel

theorem blk0 (t : Fin (cfgM m hO).N) (r : Fin 2048) (d : Fin 1024) :
    (iblk m hO c 0 t : Vec Ideal S2048x1024 .bf16) (ix2 r d) = AX m c (ix2 (rowAt (sOf t.val (lt896 m hO t)) r.val) d) := by
  have h := (idx t).1
  have ht := lt896 m hO t
  refine (congrArg (V m c main_arg0) (?_ : _ = ix2 (rowAt (sOf t.val ht) r.val) d)).trans (congrFun (V_main_arg0 m c) _)
  funext a
  apply Fin.ext
  match a with
  | ⟨0, _⟩ =>
    show cc0_transform_0 (grid0.coords t) 0 * 2048 + 1 * r.val = (2048 * (t.val / 56) + r.val) % 32768
    rw [h]; show t.val / 56 * 2048 + 1 * r.val = _
    have := r.isLt
    omega
  | ⟨1, _⟩ =>
    show cc0_transform_0 (grid0.coords t) 1 * 1024 + 1 * d.val = d.val
    rw [h]; show 0 * 1024 + 1 * d.val = _
    omega

/-- A slab's and an expert's block of the rank words, in a row and in a column. -/
theorem blk1 (t : Fin (cfgM m hO).N) (r : Fin 2048) :
    (iblk m hO c 1 t : Vec Ideal S1x1x1x2048 .i32) (ix4 0 0 0 r) = rankOf (selOf (LG m c)) (ix3 (sOf t.val (lt896 m hO t)) (eOf t.val) r) := by
  have h := (idx t).2.1
  have ht := lt896 m hO t
  refine ((congrArg (V m c main_v36) (?_ : _ = ix4 (sOf t.val ht) (eOf t.val) (0 : Fin 1) r)).trans (congrFun (V_rrow m c) _)).trans ?_
  · funext a
    apply Fin.ext
    match a with
    | ⟨0, _⟩ =>
      show cc0_transform_1 (grid0.coords t) 0 * 1 + 1 * 0 = t.val / 56
      rw [h]; show t.val / 56 * 1 + 1 * 0 = _; omega
    | ⟨1, _⟩ =>
      show cc0_transform_1 (grid0.coords t) 1 * 1 + 1 * 0 = t.val / 7 % 8
      rw [h]; show t.val / 7 % 8 * 1 + 1 * 0 = _; omega
    | ⟨2, _⟩ =>
      show cc0_transform_1 (grid0.coords t) 2 * 1 + 1 * 0 = 0
      rw [h]; rfl
    | ⟨3, _⟩ =>
      show cc0_transform_1 (grid0.coords t) 3 * 2048 + 1 * r.val = r.val
      rw [h]; show 0 * 2048 + 1 * r.val = _; omega
  · refine broadcastInDim_apply _ _ _ _ (ix3 (sOf t.val ht) (eOf t.val) r) fun a => ?_
    match a with
    | ⟨0, _⟩ => rfl
    | ⟨1, _⟩ => rfl
    | ⟨2, _⟩ => rfl

theorem blk2 (t : Fin (cfgM m hO).N) (r : Fin 2048) :
    (iblk m hO c 2 t : Vec Ideal S1x1x2048x1 .i32) (ix4 0 0 r 0) = rankOf (selOf (LG m c)) (ix3 (sOf t.val (lt896 m hO t)) (eOf t.val) r) := by
  have h := (idx t).2.2.1
  have ht := lt896 m hO t
  refine ((congrArg (V m c main_v37) (?_ : _ = ix4 (sOf t.val ht) (eOf t.val) r (0 : Fin 1))).trans (congrFun (V_rcol m c) _)).trans ?_
  · funext a
    apply Fin.ext
    match a with
    | ⟨0, _⟩ =>
      show cc0_transform_2 (grid0.coords t) 0 * 1 + 1 * 0 = t.val / 56
      rw [h]; show t.val / 56 * 1 + 1 * 0 = _; omega
    | ⟨1, _⟩ =>
      show cc0_transform_2 (grid0.coords t) 1 * 1 + 1 * 0 = t.val / 7 % 8
      rw [h]; show t.val / 7 % 8 * 1 + 1 * 0 = _; omega
    | ⟨2, _⟩ =>
      show cc0_transform_2 (grid0.coords t) 2 * 2048 + 1 * r.val = r.val
      rw [h]; show 0 * 2048 + 1 * r.val = _; omega
    | ⟨3, _⟩ =>
      show cc0_transform_2 (grid0.coords t) 3 * 1 + 1 * 0 = 0
      rw [h]; rfl
  · refine broadcastInDim_apply _ _ _ _ (ix3 (sOf t.val ht) (eOf t.val) r) fun a => ?_
    match a with
    | ⟨0, _⟩ => rfl
    | ⟨1, _⟩ => rfl
    | ⟨2, _⟩ => rfl

/-- The block of the gates. -/
theorem blk3 (t : Fin (cfgM m hO).N) (r : Fin 2048) :
    (iblk m hO c 3 t : Vec Ideal S1x1x2048x1 .f32) (ix4 0 0 r 0)
      = (V m c main_v35 : Vec Ideal S16x8x2048x1 .f32) (ix4 (sOf t.val (lt896 m hO t)) (eOf t.val) r (0 : Fin 1)) := by
  have h := (idx t).2.2.2.1
  have ht := lt896 m hO t
  refine congrArg (V m c main_v35) (?_ : _ = ix4 (sOf t.val ht) (eOf t.val) r (0 : Fin 1))
  funext a
  apply Fin.ext
  match a with
  | ⟨0, _⟩ =>
    show cc0_transform_3 (grid0.coords t) 0 * 1 + 1 * 0 = t.val / 56
    rw [h]; show t.val / 56 * 1 + 1 * 0 = _; omega
  | ⟨1, _⟩ =>
    show cc0_transform_3 (grid0.coords t) 1 * 1 + 1 * 0 = t.val / 7 % 8
    rw [h]; show t.val / 7 % 8 * 1 + 1 * 0 = _; omega
  | ⟨2, _⟩ =>
    show cc0_transform_3 (grid0.coords t) 2 * 2048 + 1 * r.val = r.val
    rw [h]; show 0 * 2048 + 1 * r.val = _; omega
  | ⟨3, _⟩ =>
    show cc0_transform_3 (grid0.coords t) 3 * 1 + 1 * 0 = 0
    rw [h]; rfl

theorem V_w13 : (V m c main_v0 : Vec Ideal S8x1024x7168 .bf16) = W13 m c := by
  simp only [V]
  after_reads_simp
  try simp only [StableHlo.TRef.ofBuf_toBuf]
  try simp -implicitDefEqProofs only [StableHlo.TRef.toBuf, StableHlo.TRef.ofBuf, cast_cast, cast_eq]
  rfl

theorem V_w2 : (V m c main_v1 : Vec Ideal S8x3584x1024 .bf16) = W2 m c := by
  simp only [V]
  after_reads_simp
  try simp only [StableHlo.TRef.ofBuf_toBuf]
  try simp -implicitDefEqProofs only [StableHlo.TRef.toBuf, StableHlo.TRef.ofBuf, cast_cast, cast_eq]
  rfl

/-- The blocks of the weights: gate, up and down. -/
theorem blk4 (t : Fin (cfgM m hO).N) (d : Fin 1024) (k : Fin 512) :
    (iblk m hO c 4 t : Vec Ideal S1x1024x512 .bf16) (ix3 0 d k) = W13 m c (ix3 (eOf t.val) d (fGate (fRow t.val k))) := by
  have h := (idx t).2.2.2.2.1
  refine (congrArg (V m c main_v0) (?_ : _ = ix3 (eOf t.val) d (fGate (fRow t.val k)))).trans (congrFun (V_w13 m c) _)
  funext a
  apply Fin.ext
  match a with
  | ⟨0, _⟩ =>
    show cc0_transform_4 (grid0.coords t) 0 * 1 + 1 * 0 = t.val / 7 % 8
    rw [h]; show t.val / 7 % 8 * 1 + 1 * 0 = _; omega
  | ⟨1, _⟩ =>
    show cc0_transform_4 (grid0.coords t) 1 * 1024 + 1 * d.val = d.val
    rw [h]; show 0 * 1024 + 1 * d.val = _; omega
  | ⟨2, _⟩ =>
    show cc0_transform_4 (grid0.coords t) 2 * 512 + 1 * k.val = 512 * (t.val % 7) + k.val
    rw [h]; show t.val % 7 * 512 + 1 * k.val = _; omega

theorem blk5 (t : Fin (cfgM m hO).N) (d : Fin 1024) (k : Fin 512) :
    (iblk m hO c 5 t : Vec Ideal S1x1024x512 .bf16) (ix3 0 d k) = W13 m c (ix3 (eOf t.val) d (fUp (fRow t.val k))) := by
  have h := (idx t).2.2.2.2.2.1
  refine (congrArg (V m c main_v0) (?_ : _ = ix3 (eOf t.val) d (fUp (fRow t.val k)))).trans (congrFun (V_w13 m c) _)
  funext a
  apply Fin.ext
  match a with
  | ⟨0, _⟩ =>
    show cc0_transform_5 (grid0.coords t) 0 * 1 + 1 * 0 = t.val / 7 % 8
    rw [h]; show t.val / 7 % 8 * 1 + 1 * 0 = _; omega
  | ⟨1, _⟩ =>
    show cc0_transform_5 (grid0.coords t) 1 * 1024 + 1 * d.val = d.val
    rw [h]; show 0 * 1024 + 1 * d.val = _; omega
  | ⟨2, _⟩ =>
    show cc0_transform_5 (grid0.coords t) 2 * 512 + 1 * k.val = 3584 + (512 * (t.val % 7) + k.val)
    rw [h]; show (t.val % 7 + 7) * 512 + 1 * k.val = _; omega

theorem blk6 (t : Fin (cfgM m hO).N) (k : Fin 512) (d : Fin 1024) :
    (iblk m hO c 6 t : Vec Ideal S1x512x1024 .bf16) (ix3 0 k d) = W2 m c (ix3 (eOf t.val) (fRow t.val k) d) := by
  have h := (idx t).2.2.2.2.2.2.1
  refine (congrArg (V m c main_v1) (?_ : _ = ix3 (eOf t.val) (fRow t.val k) d)).trans (congrFun (V_w2 m c) _)
  funext a
  apply Fin.ext
  match a with
  | ⟨0, _⟩ =>
    show cc0_transform_6 (grid0.coords t) 0 * 1 + 1 * 0 = t.val / 7 % 8
    rw [h]; show t.val / 7 % 8 * 1 + 1 * 0 = _; omega
  | ⟨1, _⟩ =>
    show cc0_transform_6 (grid0.coords t) 1 * 512 + 1 * k.val = 512 * (t.val % 7) + k.val
    rw [h]; show t.val % 7 * 512 + 1 * k.val = _; omega
  | ⟨2, _⟩ =>
    show cc0_transform_6 (grid0.coords t) 2 * 1024 + 1 * d.val = d.val
    rw [h]; show 0 * 1024 + 1 * d.val = _; omega

/-- The rows of a point's slab that take its expert. -/
abbrev takes (n : ℕ) (h : n < 896) : ℕ → Prop := tookAt (LG m c) (sOf n h) (eOf n)

theorem ranks1 (t : Fin (cfgM m hO).N) (r : Fin 2048) :
    (iblk m hO c 1 t : Vec Ideal S1x1x1x2048 .i32) (ix4 0 0 0 r) = rankW (takes m c t.val (lt896 m hO t)) r.val :=
  (blk1 m hO c t r).trans (rank_word castOk_ideal (LG m c) _ _ r)

theorem ranks2 (t : Fin (cfgM m hO).N) (r : Fin 2048) :
    (iblk m hO c 2 t : Vec Ideal S1x1x2048x1 .i32) (ix4 0 0 r 0) = rankW (takes m c t.val (lt896 m hO t)) r.val :=
  (blk2 m hO c t r).trans (rank_word castOk_ideal (LG m c) _ _ r)

theorem tabOk (t : Fin (cfgM m hO).N) : TabOk (takes m c t.val (lt896 m hO t)) (tabT m) (grid0.coords t) := fun j => by
  obtain rfl : c = 0 := Subsingleton.elim _ _
  have e0 : (grid0.coords t 0 : Fin 16) = sOf t.val (lt896 m hO t) := Fin.ext (coord0 t).1
  have e1 : (grid0.coords t 1 : Fin 8) = eOf t.val := Fin.ext (coord0 t).2
  refine (tab_word m castOk_ideal (grid0.coords t 0) (grid0.coords t 1) j).trans ?_
  exact congrArg₂ (fun (a : Fin 16) (b : Fin 8) => BitVec.ofNat 32 (before (LG m 0) a b (512 * j.val))) e0 e1

end Cert.MoeIdeal.Hand

end
-- ==== Proof.Moe.Sweep.lean ====
/-
  What the expert kernel's tiles and its output block hold along the grid: the gathered rows through an expert's points,
  the products added up over the tiles of hidden units, and the output added up over the experts.
-/
module

public import proofs.«01_k».proof.Proof.Moe.Reads

@[expose] public section

set_option maxRecDepth 16384

noncomputable section

namespace Cert.MoeIdeal.Hand

open Idealize.ShloMosaic Idealize.ShloMosaic.TcCoe
open Cert.MoeIdeal.Gen
open scoped BigOperators

variable (m : (ℓ : Loc nD τ sig) → Buf (Elt Ideal) ℓ) (hO : Ok m) (c : Dev nD)

/-- One hidden unit's share of an expert's output. -/
def share (X : Fin 1024 → EReal) (e : Fin 8) (d : Fin 1024) (f : Fin 3584) : EReal :=
  hidU X (fun q => W13 m c (ix3 e q (fGate f))) (fun q => W13 m c (ix3 e q (fUp f))) * W2 m c (ix3 e f d)

/-- An expert's output on a row. -/
def ffn (X : Fin 1024 → EReal) (e : Fin 8) (d : Fin 1024) : EReal := ∑ f : Fin 3584, share m c X e d f

/-- One tile of hidden units' share. -/
def tileF (X : Fin 1024 → EReal) (e : Fin 8) (d : Fin 1024) (n : ℕ) : EReal := ∑ k : Fin 512, share m c X e d (fRow n k)

theorem fRow_mod (n : ℕ) (k : Fin 512) : fRow n k = fRow (n % 7) k := Fin.ext (by show 512 * (n % 7) + k.val = 512 * (n % 7 % 7) + k.val; omega)

theorem tileF_mod (X : Fin 1024 → EReal) (e : Fin 8) (d : Fin 1024) (n : ℕ) : tileF m c X e d n = tileF m c X e d (n % 7) := by
  unfold tileF
  simp only [← fRow_mod]

/-- The seven tiles are the whole. -/
theorem tiles_ffn (X : Fin 1024 → EReal) (e : Fin 8) (d : Fin 1024) : ∑ n ∈ Finset.range 7, tileF m c X e d n = ffn m c X e d := by
  rw [Finset.sum_range]
  unfold tileF ffn
  refine Fin.sum_mul_add_congr (S := 7) (n := 512) fun s k hl => congrArg (share m c X e d) (Fin.ext ?_)
  have := s.isLt
  simp only
  omega

/-- A row's values. -/
abbrev rowX (s : Fin 16) (r : ℕ) : Fin 1024 → EReal := fun q => AX m c (ix2 (rowAt s r) q)

/-- The place of a rank in its tile. -/
abbrev pl (n : ℕ) : Fin 256 := ⟨n % 256, Nat.mod_lt _ (by decide)⟩

/-- The gathered rows hold, at a row's rank, the row. -/
theorem xAt_at (s : Fin 16) (e : Fin 8) (r : Fin 2048) (hr : tookAt (LG m c) s e r.val) (q : Fin 1024) :
    ∀ (n : ℕ) (hn : n < (cfgM m hO).N), n / 56 = s.val → n / 7 % 8 = e.val →
      xAt m hO c n hn (before (LG m c) s e r.val / 256) (ix2 (pl (before (LG m c) s e r.val)) q) = rowX m c s r.val q := by
  intro n
  induction n with
  | zero =>
    intro hn hs he
    have e0 : sOf 0 (lt896 m hO ⟨0, hn⟩) = s := Fin.ext hs
    have e1 : eOf 0 = e := Fin.ext he
    subst e0; subst e1
    refine (congrFun (congrFun (xAt_new m hO c ⟨0, hn⟩ rfl) _) _).trans ?_
    refine (gatherT_at (tabOk m hO c ⟨0, hn⟩) (ranks1 m hO c ⟨0, hn⟩) r hr _ _ ?_ q).trans (blk0 m hO c ⟨0, hn⟩ r q)
    exact (Nat.div_add_mod _ 256).symm
  | succ n ih =>
    intro hn hs he
    by_cases h7 : (n + 1) % 7 = 0
    · have e0 : sOf (n + 1) (lt896 m hO ⟨n + 1, hn⟩) = s := Fin.ext hs
      have e1 : eOf (n + 1) = e := Fin.ext he
      subst e0; subst e1
      refine (congrFun (congrFun (xAt_new m hO c ⟨n + 1, hn⟩ h7) _) _).trans ?_
      refine (gatherT_at (tabOk m hO c ⟨n + 1, hn⟩) (ranks1 m hO c ⟨n + 1, hn⟩) r hr _ _ ?_ q).trans (blk0 m hO c ⟨n + 1, hn⟩ r q)
      exact (Nat.div_add_mod _ 256).symm
    · refine (congrFun (congrFun (xAt_old m hO c ⟨n + 1, hn⟩ h7) _) _).trans (ih (Nat.lt_of_succ_lt hn) ?_ ?_)
      · omega
      · omega

/-- One tile's product at given blocks of the weights. -/
def tileP (X : Fin 1024 → EReal) (wg wu : Vec Ideal S1x1024x512 .bf16) (w2 : Vec Ideal S1x512x1024 .bf16) (d : Fin 1024) : EReal :=
  ∑ k : Fin 512, hidU X (fun q => wg (ix3 0 q k)) (fun q => wu (ix3 0 q k)) * w2 (ix3 0 k d)

theorem pays_share (t : Fin (cfgM m hO).N) (X : Fin 1024 → EReal) (d : Fin 1024) :
    tileP X (iblk m hO c 4 t) (iblk m hO c 5 t) (iblk m hO c 6 t) d = tileF m c X (eOf t.val) d t.val := by
  unfold tileF share tileP
  refine Finset.sum_congr rfl fun k _ => ?_
  have e4 := funext fun q => blk4 m hO c t q k
  have e5 := funext fun q => blk5 m hO c t q k
  refine congrArg₂ (· * ·) (congrArg₂ (hidU X) e4 e5) (blk6 m hO c t k d)

/-- The products at a row's rank, after a point: the tiles so far. -/
theorem yAt_at (s : Fin 16) (e : Fin 8) (r : Fin 2048) (hr : tookAt (LG m c) s e r.val) (d : Fin 1024) :
    ∀ (n : ℕ) (hn : n < (cfgM m hO).N), n / 56 = s.val → n / 7 % 8 = e.val →
      yAt m hO c n hn (before (LG m c) s e r.val / 256) (ix2 (pl (before (LG m c) s e r.val)) d)
        = ∑ j ∈ Finset.range (n % 7 + 1), tileF m c (rowX m c s r.val) e d j := by
  have first : ∀ (t : Fin (cfgM m hO).N), t.val % 7 = 0 → t.val / 56 = s.val → t.val / 7 % 8 = e.val →
      yAt m hO c t.val t.isLt (before (LG m c) s e r.val / 256) (ix2 (pl (before (LG m c) s e r.val)) d)
        = ∑ j ∈ Finset.range (t.val % 7 + 1), tileF m c (rowX m c s r.val) e d j := by
    intro t h7 hs he
    have hx := funext fun q => xAt_at m hO c s e r hr q t.val t.isLt hs he
    have e1 : eOf t.val = e := Fin.ext he
    rw [xAt_new m hO c t h7] at hx
    refine (congrFun (congrFun (yAt_new m hO c t h7) _) _).trans ?_
    refine (pay37_apply _ _ _ _ _ _).trans ?_
    refine (congrArg (fun X => tileP X (iblk m hO c 4 t) (iblk m hO c 5 t) (iblk m hO c 6 t) d) hx).trans ?_
    rw [pays_share, e1, tileF_mod, h7, Finset.sum_range_one]
  intro n
  induction n with
  | zero => exact fun hn hs he => first ⟨0, hn⟩ rfl hs he
  | succ n ih =>
    intro hn hs he
    by_cases h7 : (n + 1) % 7 = 0
    · exact first ⟨n + 1, hn⟩ h7 hs he
    · have hs' : n / 56 = s.val := by omega
      have he' : n / 7 % 8 = e.val := by omega
      have hx := funext fun q => xAt_at m hO c s e r hr q n (Nat.lt_of_succ_lt hn) hs' he'
      have hy := ih (Nat.lt_of_succ_lt hn) hs' he'
      have e1 : eOf (n + 1) = e := Fin.ext he
      refine (congrFun (congrFun (yAt_old m hO c ⟨n + 1, hn⟩ h7) _) _).trans ?_
      refine (pay3_apply _ _ _ _ _ _ _).trans ?_
      refine (congrArg₂ (· + ·) hy ((congrArg (fun X => tileP X (iblk m hO c 4 ⟨n + 1, hn⟩) (iblk m hO c 5 ⟨n + 1, hn⟩) (iblk m hO c 6 ⟨n + 1, hn⟩) d) hx).trans
          (pays_share m hO c ⟨n + 1, hn⟩ (rowX m c s r.val) d))).trans ?_
      show _ + tileF m c (rowX m c s r.val) (eOf (n + 1)) d (n + 1) = _
      rw [e1, tileF_mod, show (n + 1) % 7 = n % 7 + 1 by omega, Finset.sum_range_succ _ (n % 7 + 1)]

/-- The gate of a row for an expert. -/
abbrev gateAt (s : Fin 16) (e : Fin 8) (r : Fin 2048) : EReal := (V m c main_v35 : Vec Ideal S16x8x2048x1 .f32) (ix4 s e r (0 : Fin 1))

/-- What an expert gives a row. -/
def shareOf (s : Fin 16) (e : Fin 8) (r : Fin 2048) (d : Fin 1024) : EReal :=
  if tookAt (LG m c) s e r.val then gateAt m c s e r * ffn m c (rowX m c s r.val) e d else 0

/-- The step of an expert's last point. -/
theorem scatter_gives (t : Fin (cfgM m hO).N) (h6 : t.val % 7 = 6) (o : Vec Ideal S2048x1024 .f32) (r : Fin 2048) (d : Fin 1024) :
    scatterAll (tabT m) (grid0.coords t) (iblk m hO c 2 t) (iblk m hO c 3 t) (yAt m hO c t.val t.isLt) o (nTiles (tw (tabT m) (grid0.coords t) 4)) (ix2 r d)
      = o (ix2 r d) + shareOf m c (sOf t.val (lt896 m hO t)) (eOf t.val) r d := by
  have hT := tabOk m hO c t
  have hr := r.isLt
  have h2048 : before (LG m c) (sOf t.val (lt896 m hO t)) (eOf t.val) 2048 ≤ 2048 := before_le _ _ _ _
  have hn : nTiles (tw (tabT m) (grid0.coords t) 4) = (before (LG m c) (sOf t.val (lt896 m hO t)) (eOf t.val) 2048 + 255) / 256 := by
    rw [hT 4]
    show ((BitVec.ofNat 32 (before (LG m c) (sOf t.val (lt896 m hO t)) (eOf t.val) 2048)).toNat + 255) / 256 = _
    rw [BitVec.toNat_ofNat, Nat.mod_eq_of_lt (by omega)]
  refine (scatterAll_at hT (ranks2 m hO c t) (yAt m hO c t.val t.isLt) o _ (by omega) r d).trans (congrArg (o (ix2 r d) + ·) ?_)
  unfold shareOf giveT
  by_cases hp : tookAt (LG m c) (sOf t.val (lt896 m hO t)) (eOf t.val) r.val
  · have hlt : before (LG m c) (sOf t.val (lt896 m hO t)) (eOf t.val) r.val < before (LG m c) (sOf t.val (lt896 m hO t)) (eOf t.val) 2048 :=
      Nat.count_strict_mono hp hr
    rw [if_pos hp]
    refine (if_pos (show before (LG m c) (sOf t.val (lt896 m hO t)) (eOf t.val) r.val / 256 < _ by omega)).trans ?_
    refine (if_pos ⟨hp, rfl⟩).trans ?_
    refine congrArg₂ (· * ·) (blk3 m hO c t r) ?_
    refine (yAt_at m hO c _ _ r hp d t.val t.isLt rfl rfl).trans ?_
    rw [h6, tiles_ffn]
  · rw [if_neg hp]
    split
    · exact if_neg fun hh => hp hh.1
    · rfl

/-- The output block after a point: the experts so far. -/
theorem oAt_at (s : Fin 16) (r : Fin 2048) (d : Fin 1024) :
    ∀ (n : ℕ) (hn : n < (cfgM m hO).N), n / 56 = s.val →
      oAt m hO c n hn (ix2 r d) = ∑ j ∈ Finset.range ((n % 56 + 1) / 7), shareOf m c s (eOf (7 * j)) r d := by
  have first : ∀ (t : Fin (cfgM m hO).N), t.val % 56 = 0 →
      oAt m hO c t.val t.isLt (ix2 r d) = ∑ j ∈ Finset.range ((t.val % 56 + 1) / 7), shareOf m c s (eOf (7 * j)) r d := by
    intro t h
    rw [oAt_new m hO c t h, pay28_apply, h]
    rfl
  intro n
  induction n with
  | zero => exact fun hn _ => first ⟨0, hn⟩ rfl
  | succ n ih =>
    intro hn hs
    by_cases h56 : (n + 1) % 56 = 0
    · exact first ⟨n + 1, hn⟩ h56
    · have hs' : n / 56 = s.val := by omega
      have ho := ih (Nat.lt_of_succ_lt hn) hs'
      by_cases h6 : (n + 1) % 7 = 6
      · refine (congrFun (oAt_add m hO c ⟨n + 1, hn⟩ h6) _).trans ((scatter_gives m hO c ⟨n + 1, hn⟩ h6 _ r d).trans ?_)
        refine (congrArg (· + _) ho).trans ?_
        have e0 : sOf (n + 1) (lt896 m hO ⟨n + 1, hn⟩) = s := Fin.ext hs
        have e1 : eOf (n + 1) = eOf (7 * ((n + 1) % 56 / 7)) := Fin.ext (by show (n + 1) / 7 % 8 = 7 * ((n + 1) % 56 / 7) / 7 % 8; omega)
        show _ + shareOf m c (sOf (n + 1) (lt896 m hO ⟨n + 1, hn⟩)) (eOf (n + 1)) r d = _
        rw [e0, e1, show ((n + 1) % 56 + 1) / 7 = (n + 1) % 56 / 7 + 1 by omega, show (n % 56 + 1) / 7 = (n + 1) % 56 / 7 by omega,
          Finset.sum_range_succ]
      · refine (congrFun (oAt_old m hO c ⟨n + 1, hn⟩ h56 h6) _).trans (ho.trans ?_)
        rw [show ((n + 1) % 56 + 1) / 7 = (n % 56 + 1) / 7 by omega]

/-- The output block after a slab's last point: every expert's share. -/
theorem oAt_last (t : Fin (cfgM m hO).N) (h : t.val % 56 = 55) (r : Fin 2048) (d : Fin 1024) :
    oAt m hO c t.val t.isLt (ix2 r d) = ∑ e : Fin 8, shareOf m c (sOf t.val (lt896 m hO t)) e r d := by
  refine (oAt_at m hO c (sOf t.val (lt896 m hO t)) r d t.val t.isLt rfl).trans ?_
  rw [h, show (55 + 1) / 7 = 8 from rfl, Finset.sum_range]
  refine Finset.sum_congr rfl fun e _ => congrArg (fun a => shareOf m c (sOf t.val (lt896 m hO t)) a r d) (Fin.ext ?_)
  show 7 * e.val / 7 % 8 = e.val
  have := e.isLt
  omega

end Cert.MoeIdeal.Hand

end
-- ==== Proof.Moe.Final.lean ====
/-
  The expert kernel's result: every row is the sum, over the experts, of what each gives it.
-/
module

public import proofs.«01_k».proof.Proof.Moe.Sweep

@[expose] public section

set_option maxRecDepth 16384

noncomputable section

namespace Cert.MoeIdeal.Hand

open Idealize.ShloMosaic Idealize.ShloMosaic.TcCoe
open Cert.MoeIdeal.Gen
open scoped BigOperators

variable (m : (ℓ : Loc nD τ sig) → Buf (Elt Ideal) ℓ) (hO : Ok m) (c : Dev nD)

/-- A row's slab and its place in the slab. -/
abbrev slabOf (n : Fin 32768) : Fin 16 := ⟨n.val / 2048, by omega⟩
abbrev placeOf (n : Fin 32768) : Fin 2048 := ⟨n.val % 2048, Nat.mod_lt _ (by decide)⟩

/-- The result, row by row. -/
def resultT : Vec Ideal S32768x1024 .f32 := fun i =>
  ∑ e : Fin 8, shareOf m c (slabOf (i 0)) e (placeOf (i 0)) (i 1)

/-- Where an index of a point's output block lies in the array. -/
abbrev emb (t : Fin (cfgM m hO).N) (y : S2048x1024.Idx) : S32768x1024.Idx := (((cfgM m hO).win 7).blk t).view.emb y

theorem emb7 (t : Fin (cfgM m hO).N) (y : S2048x1024.Idx) :
    (emb m hO t y 0).val = t.val / 56 * 2048 + (y 0).val ∧ (emb m hO t y 1).val = (y 1).val := by
  have h := (idx t).2.2.2.2.2.2.2
  constructor
  · show cc0_transform_7 (grid0.coords t) 0 * 2048 + 1 * (y 0).val = _
    rw [h]; show t.val / 56 * 2048 + 1 * (y 0).val = _; omega
  · show cc0_transform_7 (grid0.coords t) 1 * 1024 + 1 * (y 1).val = _
    rw [h]; show 0 * 1024 + 1 * (y 1).val = _; omega

/-- What a slab's last point writes back is the slab's block of the result. -/
theorem flushed7_eq (t : Fin (cfgM m hO).N) (hf : ((cfgM m hO).win 7).flush t = true) :
    (dats m hO 0 c).flushed 7 t = (((cfgM m hO).win 7).blk t).view.read (Elt Ideal) (resultT m c) := by
  show ((cfgM m hO).win 7).cut (grid0.coords t) ((dats m hO 0 c).after 7 t) = _
  rw [after0_7]
  have hm : t.val % 56 = 55 := (flush0_7 (adm m hO) t).mp hf
  funext (y : S2048x1024.Idx)
  have hy0 : (y 0).val < 2048 := (y 0).isLt
  obtain ⟨h0, h1⟩ := emb7 m hO t y
  have ht := lt896 m hO t
  have ey : ((cfgM m hO).win 7).xinj (grid0.coords t) y = ix2 (y 0) (y 1) := by
    funext a
    match a with
    | ⟨0, _⟩ => rfl
    | ⟨1, _⟩ => rfl
  refine (congrArg (oAt m hO c t.val t.isLt) ey).trans ?_
  refine (oAt_last m hO c t hm (y 0) (y 1)).trans ?_
  show _ = ∑ e : Fin 8, shareOf m c (slabOf (emb m hO t y 0)) e (placeOf (emb m hO t y 0)) (emb m hO t y 1)
  have e0 : slabOf (emb m hO t y 0) = sOf t.val ht := Fin.ext (by
    show (emb m hO t y 0).val / 2048 = t.val / 56
    rw [h0]; omega)
  have e1 : placeOf (emb m hO t y 0) = y 0 := Fin.ext (by
    show (emb m hO t y 0).val % 2048 = (y 0).val
    rw [h0]; omega)
  have e2 : emb m hO t y 1 = y 1 := Fin.ext h1
  rw [e0, e1, e2]

/-- Every row is in its slab's block. -/
theorem covered7 (i : S32768x1024.Idx) :
    ∃ t : Fin (cfgM m hO).N, ((cfgM m hO).win 7).flush t = true ∧ i ∈ (((cfgM m hO).win 7).blk t).view.set := by
  have hi0 : (i 0).val < 32768 := (i 0).isLt
  have hi1 : (i 1).val < 1024 := (i 1).isLt
  let t : Fin (cfgM m hO).N := ⟨56 * ((i 0).val / 2048) + 55, lt_of_lt_of_eq (by omega) N_0.symm⟩
  have h := (idx t).2.2.2.2.2.2.2
  refine ⟨t, (flush0_7 (adm m hO) t).mpr (by show (56 * ((i 0).val / 2048) + 55) % 56 = 55; omega), ?_⟩
  refine (Finset.ext_iff.mp (View.set_slice_whole main_v38 (((cfgM m hO).win 7).rect t)) i).mpr (Rect.mem_set_unit.mpr ?_)
  have q : (56 * ((i 0).val / 2048) + 55) / 56 = (i 0).val / 2048 := by omega
  intro a
  match a with
  | ⟨0, _⟩ =>
    show cc0_transform_7 (grid0.coords t) 0 * 2048 ≤ (i 0).val ∧ (i 0).val < cc0_transform_7 (grid0.coords t) 0 * 2048 + 2048
    rw [h]
    show (56 * ((i 0).val / 2048) + 55) / 56 * 2048 ≤ (i 0).val ∧ (i 0).val < (56 * ((i 0).val / 2048) + 55) / 56 * 2048 + 2048
    omega
  | ⟨1, _⟩ =>
    show cc0_transform_7 (grid0.coords t) 1 * 1024 ≤ (i 1).val ∧ (i 1).val < cc0_transform_7 (grid0.coords t) 1 * 1024 + 1024
    rw [h]
    show 0 * 1024 ≤ (i 1).val ∧ (i 1).val < 0 * 1024 + 1024
    omega

/-- The array after the run. -/
theorem final7 : (dats m hO 0 c).arrAt 7 (cfgM m hO).N = resultT m c :=
  (dats m hO 0 c).arrAt_eq_of_cover 7 _ (fun t hf => flushed7_eq m hO c t hf) (fun i => covered7 m hO i)

end Cert.MoeIdeal.Hand

end
-- ==== Proof.Moe.Gate.lean ====
/-
  The gates the expert kernel multiplies by: a row's gate for an expert is the sum, over the row's two choices, of the
  choice's gate if the choice is the expert. The plain program's weight is the same sum.
-/
module

public import proofs.«01_k».proof.Proof.Moe.Ref
public import proofs.«01_k».proof.Proof.Moe.Final
public import Idealize.ShloMosaic.Lib.IdealHost

@[expose] public section

set_option maxRecDepth 16384

noncomputable section

namespace Cert.MoeIdeal.Hand

open Idealize.ShloMosaic hiding ix1 ix2 ix3 ix4
open Idealize.ShloMosaic.TcCoe Idealize.ShloMosaic.ValueIdx
open Cert.MoeIdeal.Gen
open scoped BigOperators

section

variable {F : FTy → Type} [FloatOps F]

/-- The softmax of a row's two largest logits. -/
def gatesOf (l : Vec F S32768x8 .f32) : Vec F S32768x2 .f32 :=
  Host.divf (Host.exp (subf ((Host.topK S32768x2 1 (FloatOps.cmpfTotal .gt) l sliceFits_S32768x8_S32768x2).1) (broadcastInDim S32768x2 ![0, 1] bcast_S32768x1_S32768x2_0_1 (broadcastInDim S32768x1 ![0] bcast_S32768_S32768x1_0 (maximumf (broadcastInDim S32768 ![] bcast_S_S32768 (constant S_ .f32 0xFF800000#32)) (Host.reduce FloatOps.maximumf ((Host.topK S32768x2 1 (FloatOps.cmpfTotal .gt) l sliceFits_S32768x8_S32768x2).1) (constant S_ .f32 0xFF800000#32) reducesTo_S32768x2_S32768_d1 h_S_)))))) (broadcastInDim S32768x2 ![0, 1] bcast_S32768x1_S32768x2_0_1 (broadcastInDim S32768x1 ![0] bcast_S32768_S32768x1_0 (Host.reduceAdd (Host.exp (subf ((Host.topK S32768x2 1 (FloatOps.cmpfTotal .gt) l sliceFits_S32768x8_S32768x2).1) (broadcastInDim S32768x2 ![0, 1] bcast_S32768x1_S32768x2_0_1 (broadcastInDim S32768x1 ![0] bcast_S32768_S32768x1_0 (maximumf (broadcastInDim S32768 ![] bcast_S_S32768 (constant S_ .f32 0xFF800000#32)) (Host.reduce FloatOps.maximumf ((Host.topK S32768x2 1 (FloatOps.cmpfTotal .gt) l sliceFits_S32768x8_S32768x2).1) (constant S_ .f32 0xFF800000#32) reducesTo_S32768x2_S32768_d1 h_S_)))))) (constant S_ .f32 0x00000000#32) reducesTo_S32768x2_S32768_d1 h_S_)))

/-- A row's gate for each expert. -/
def gateOf (l : Vec F S32768x8 .f32) : Vec F S32768x8 .f32 :=
  Host.reduceAdd (mulf (hotOf l) (broadcastInDim S32768x2x8 ![0, 1, 2] bcast_S32768x2x1_S32768x2x8_0_1_2
    (broadcastInDim S32768x2x1 ![0, 1] bcast_S32768x2_S32768x2x1_0_1 (gatesOf l))))
    (constant S_ .f32 0x00000000#32) reducesTo_S32768x2x8_S32768x8_d1 h_S_

variable (m : (ℓ : Loc nD τ sig) → Buf (Elt F) ℓ) (c : Dev nD)

theorem V_gcol : (V m c main_v35 : Vec F S16x8x2048x1 .f32)
    = broadcastInDim S16x8x2048x1 ![0, 1, 2] bcast_S16x8x2048_S16x8x2048x1_0_1_2
      (transpose S16x8x2048 [0, 2, 1] (shapeCast S16x2048x8 (gateOf (LG m c)) shapeCasts_S32768x8_S16x2048x8) transposes_S16x2048x8_S16x8x2048_0_2_1) := by
  simp only [V]
  after_reads_simp
  try simp only [StableHlo.TRef.ofBuf_toBuf]
  try simp -implicitDefEqProofs only [StableHlo.TRef.toBuf, StableHlo.TRef.ofBuf, cast_cast, cast_eq]
  rfl

end

variable (m : (ℓ : Loc nD τ sig) → Buf (Elt Ideal) ℓ) (c : Dev nD)

theorem gateAt_eq (s : Fin 16) (e : Fin 8) (r : Fin 2048) : gateAt m c s e r = gateOf (LG m c) (ix2 (rowAt s r.val) e) := by
  refine (congrFun (V_gcol m c) (ix4 s e r (0 : Fin 1))).trans ?_
  refine (broadcastInDim_apply _ _ _ _ (ix3 s e r) fun a => ?_).trans ?_
  · match a with
    | ⟨0, _⟩ => rfl
    | ⟨1, _⟩ => rfl
    | ⟨2, _⟩ => rfl
  refine (transpose_apply _ _ _ _ (ix3 s r e) fun a => ?_).trans ?_
  · match a with
    | ⟨0, _⟩ => rfl
    | ⟨1, _⟩ => rfl
    | ⟨2, _⟩ => rfl
  refine shapeCast_apply _ _ _ _ ?_
  rw [Shape.rowMajor_val_three, Shape.rowMajor_val_two]
  show (2048 * s.val + r.val) % 32768 * 8 + e.val = (s.val * 2048 + r.val) * 8 + e.val
  have := s.isLt; have := r.isLt
  omega

/-- The choice's gate if the choice is the expert. -/
def pickG (l : Vec Ideal S32768x8 .f32) (n : Fin 32768) (e : Fin 8) (k : Fin 2) : EReal :=
  if choice l n k = e then gatesOf l (ix2 n k) else 0

theorem word_eq_iff (l : Vec Ideal S32768x8 .f32) (n : Fin 32768) (k : Fin 2) (e : Fin 8) :
    idxOf l (ix2 n k) = BitVec.ofNat 32 e.val ↔ choice l n k = e := by
  rw [idxOf_at, ofNat_eq_iff (choice l n k).isLt e.isLt]
  exact Fin.val_inj

theorem wide_gates (l : Vec Ideal S32768x8 .f32) (n : Fin 32768) (k : Fin 2) (e : Fin 8) :
    (broadcastInDim S32768x2x8 ![0, 1, 2] bcast_S32768x2x1_S32768x2x8_0_1_2
      (broadcastInDim S32768x2x1 ![0, 1] bcast_S32768x2_S32768x2x1_0_1 (gatesOf l))) (ix3 n k e) = gatesOf l (ix2 n k) := by
  refine (broadcastInDim_apply _ _ _ _ (ix3 n k (0 : Fin 1)) fun a => ?_).trans (broadcastInDim_apply _ _ _ _ (ix2 n k) fun a => ?_)
  · match a with
    | ⟨0, _⟩ => rfl
    | ⟨1, _⟩ => rfl
    | ⟨2, _⟩ => rfl
  · match a with
    | ⟨0, _⟩ => rfl
    | ⟨1, _⟩ => rfl

theorem hot_real (l : Vec Ideal S32768x8 .f32) (n : Fin 32768) (k : Fin 2) (e : Fin 8) :
    hotOf l (ix3 n k e) = if choice l n k = e then (1 : EReal) else 0 := by
  show (((IntOp.cmpi .eq _ _ : BitVec 1).toNat : ℝ) : EReal) = _
  rw [idxOf_hot, iota_hot]
  by_cases h : choice l n k = e
  · rw [if_pos h, (word_eq_iff l n k e).2 h]
    simp [IntOp.cmpi]
  · rw [if_neg h]
    have hb : (idxOf l (ix2 n k) == BitVec.ofNat 32 e.val) = false := beq_false_of_ne fun q => h ((word_eq_iff l n k e).1 q)
    show (((BitVec.ofBool (idxOf l (ix2 n k) == BitVec.ofNat 32 e.val)).toNat : ℝ) : EReal) = 0
    rw [hb]
    simp

theorem lift_d1 (hR : S32768x2x8.Reduces [1] S32768x8) (n : Fin 32768) (e : Fin 8) (k : Fin 2) : hR.lift (ix2 n e) k = ix3 n k e := by
  funext a
  match a with
  | ⟨0, _⟩ => rfl
  | ⟨1, _⟩ => rfl
  | ⟨2, _⟩ => rfl

theorem red_d1 : S32768x2x8.Reduces [1] S32768x8 :=
  ⟨reducesTo_S32768x2x8_S32768x8_d1.1, Nat.succ_pos 1, reducesTo_S32768x2x8_S32768x8_d1.2⟩

theorem sum_d1 (x : Vec Ideal S32768x2x8 .f32) (n : Fin 32768) (e : Fin 8) :
    (Host.reduceAdd (F := Ideal) (φ := .f32) x (constant (F := Ideal) S_ .f32 0x00000000#32) reducesTo_S32768x2x8_S32768x8_d1 h_S_ : Vec Ideal S32768x8 .f32) (ix2 n e) = ∑ k : Fin 2, x (ix3 n k e) := by
  refine (Ideal.hostReduceAdd_single reducesTo_S32768x2x8_S32768x8_d1 red_d1 _ _ _).trans ?_
  have h0 : Ideal.ofBits .f32 0x00000000#32 = 0 := by simp
  refine (congrArg₂ (· + ·) h0 (Finset.sum_congr rfl fun k _ => congrArg x (lift_d1 red_d1 n e k))).trans (zero_add _)

/-- The kernel's gate. -/
theorem gateOf_at (l : Vec Ideal S32768x8 .f32) (n : Fin 32768) (e : Fin 8) : gateOf l (ix2 n e) = ∑ k : Fin 2, pickG l n e k := by
  refine (sum_d1 _ n e).trans (Finset.sum_congr rfl fun k _ => ?_)
  refine (congrArg₂ (· * ·) (hot_real l n k e) (wide_gates l n k e)).trans ?_
  unfold pickG
  by_cases h : choice l n k = e
  · rw [if_pos h, if_pos h, one_mul]
  · rw [if_neg h, if_neg h, zero_mul]

/-- The plain program's weight. -/
theorem weightR_at (l : Vec Ideal S32768x8 .f32) (n : Fin 32768) (e : Fin 8) : Cert.Proof.Moe.weightR l (ix2 n e) = ∑ k : Fin 2, pickG l n e k := by
  refine (sum_d1 _ n e).trans (Finset.sum_congr rfl fun k _ => ?_)
  have hi := idxOf_hot l n k e
  have hg := wide_gates l n k e
  refine (congrArg₂ (fun a b => Scalar.select (IntOp.cmpi CmpIPredicate.eq a (BitVec.ofNat 32 e.val)) b (Ideal.ofBits .f32 0#32)) hi hg).trans ?_
  refine (select_eq _ _ _ _).trans ?_
  unfold pickG
  simp only [word_eq_iff]
  by_cases h : choice l n k = e
  · rw [if_pos h, if_pos h]
  · rw [if_neg h, if_neg h]; simp

theorem weight_eq (s : Fin 16) (e : Fin 8) (r : Fin 2048) : gateAt m c s e r = Cert.Proof.Moe.weightR (LG m c) (ix2 (rowAt s r.val) e) := by
  rw [gateAt_eq, gateOf_at, weightR_at]

/-- A row not taken has weight zero. -/
theorem weight_zero (l : Vec Ideal S32768x8 .f32) (n : Fin 32768) (e : Fin 8) (h : ¬ took l n e) : Cert.Proof.Moe.weightR l (ix2 n e) = 0 := by
  rw [weightR_at, Fin.sum_univ_two]
  unfold pickG
  rw [if_neg fun q => h (Or.inl q), if_neg fun q => h (Or.inr q), add_zero]

/-- The two programs' results agree. -/
theorem result_layer : resultT m c = Cert.Proof.Moe.layerR (AX m c) (LG m c) (W13 m c) (W2 m c) := by
  funext i
  have hi : i = Idealize.ShloMosaic.ix2 (i 0) (i 1) := by
    funext a
    match a with
    | ⟨0, _⟩ => rfl
    | ⟨1, _⟩ => rfl
  refine Eq.trans ?_ ((congrArg (Cert.Proof.Moe.layerR (AX m c) (LG m c) (W13 m c) (W2 m c)) hi).trans (Cert.Proof.Moe.layerR_at _ _ _ _ _ _)).symm
  have hi0 : (i 0).val < 32768 := (i 0).isLt
  have hrow : rowAt (slabOf (i 0)) (placeOf (i 0)).val = i 0 := Fin.ext (by
    show (2048 * ((i 0).val / 2048) + (i 0).val % 2048) % 32768 = (i 0).val
    omega)
  refine Finset.sum_congr rfl fun e _ => ?_
  unfold shareOf
  have hw := weight_eq m c (slabOf (i 0)) e (placeOf (i 0))
  rw [hrow] at hw
  by_cases h : tookAt (LG m c) (slabOf (i 0)) e (placeOf (i 0)).val
  · rw [if_pos h, hw]
    refine congrArg (_ * ·) ?_
    unfold ffn share rowX
    rw [hrow]
  · rw [if_neg h]
    have h' : ¬ took (LG m c) (i 0) e := by
      unfold tookAt at h
      rwa [hrow] at h
    have hz : Cert.Proof.Moe.weightR (LG m c) (Idealize.ShloMosaic.ix2 (i 0) e) = 0 := weight_zero (LG m c) (i 0) e h'
    rw [hz, zero_mul]

end Cert.MoeIdeal.Hand

end
-- ==== Proof.lean ====
/-
  The proof of `Cert.Claim`. The frames of all calls but the mixture's are the generated ones; each
  call's value is shown in the modules of its own folder.
-/
module

public import proofs.«01_k».proof.Defs
public import proofs.«01_k».proof.Proof.Gen.Ffn.Frame
public import proofs.«01_k».proof.Proof.Gen.FfnIdeal.Value
public import proofs.«01_k».proof.Proof.Gen.FfnRefIdeal.Run
public import proofs.«01_k».proof.Proof.Out.Value
public import proofs.«01_k».proof.Proof.Route.Value
public import proofs.«01_k».proof.Proof.Proj.Value
public import proofs.«01_k».proof.Proof.Mix.Value
public import proofs.«01_k».proof.Proof.Conv.Value
public import proofs.«01_k».proof.Proof.Conv.Ref
public import proofs.«01_k».proof.Proof.Gen.Moe
public import proofs.«01_k».proof.Proof.Gen.Moe.Skeleton
public import proofs.«01_k».proof.Proof.Gen.Moe.Loops
public import proofs.«01_k».proof.Proof.Gen.Moe.Launch
public import proofs.«01_k».proof.Proof.Gen.MoeIdeal
public import proofs.«01_k».proof.Proof.Gen.MoeIdeal.Skeleton
public import proofs.«01_k».proof.Proof.Gen.MoeIdeal.Loops
public import proofs.«01_k».proof.Proof.Gen.MoeIdeal.Launch
public import proofs.«01_k».proof.Proof.Gen.MoeRefIdeal
public import proofs.«01_k».proof.Proof.Gen.MoeRefIdeal.Run
public import Idealize.ShloMosaic.Adequacy
public import Idealize.ShloMosaic.Init
public import Idealize.ShloMosaic.Lib.Quiescent
public import proofs.«01_k».proof.Proof.Ffn.Value
public import proofs.«01_k».proof.Proof.Moe.Frame
public import proofs.«01_k».proof.Proof.Moe.Same
public import proofs.«01_k».proof.Proof.Moe.Gate

@[expose] public section

noncomputable section

namespace Cert.Proof

open Idealize.ShloMosaic Idealize.SL.Sem

theorem quiescent_FfnRefIdeal : quiescent_FfnRefIdeal := fun m ρ _ =>
  (θ_run Cert.FfnRefIdeal.defs _ _).mono (fun r h => ⟨fun c => (h c).2, sem_eq_zero_of_no_sems (by decide) r.2⟩)
    (Cert.FfnRefIdeal.Value.run (F := Ideal) m ρ)

theorem algebraic_FfnIdeal_FfnRefIdeal : algebraic_FfnIdeal_FfnRefIdeal := by
  intro m ρ m' ρ' _ hagree
  refine ⟨_, Cert.FfnIdeal.Value.run (F := Ideal) m ρ, ?_⟩
  refine (θ_run Cert.FfnRefIdeal.defs _ _).mono (fun _ h c => ⟨?_, (h c).2⟩) (Cert.FfnRefIdeal.Value.run (F := Ideal) m' ρ')
  rw [(h c).1]
  obtain ⟨h0, h1, h2, h3, h4, h5, h6⟩ := hagree c
  exact Ffn.result_eq m m' c h0 h1 h2 h3 h4 h5 h6

/-- The mixture's run ends with its arguments as they were: at bit patterns, -/
theorem quiescent_Moe : quiescent_Moe := fun m ρ _ =>
  Moe.run_same m ρ Cert.Moe.defs Moe.defs_eq Cert.Moe.main Moe.main_eq _
    ((θ_run Cert.MoeIdeal.defs _ _).mono (fun _ h => ⟨fun c => (h.1 c).2, h.2⟩)
      (Cert.MoeIdeal.Hand.run_value (F := Bits) m ρ Cert.MoeIdeal.Hand.castOk_bits))

/-- and over the extended reals. -/
theorem quiescent_MoeIdeal : quiescent_MoeIdeal := fun m ρ _ =>
  (θ_run Cert.MoeIdeal.defs _ _).mono (fun _ h => ⟨fun c => (h.1 c).2, h.2⟩)
    (Cert.MoeIdeal.Hand.run_value (F := Ideal) m ρ Cert.MoeIdeal.Hand.castOk_ideal)

theorem quiescent_MoeRefIdeal : quiescent_MoeRefIdeal := fun m ρ _ =>
  (θ_run Cert.MoeRefIdeal.defs _ _).mono (fun r h => ⟨fun c => (h c).2, sem_eq_zero_of_no_sems (by decide) r.2⟩)
    (Cert.MoeRefIdeal.Value.run (F := Ideal) m ρ)

theorem Moe.layerR_congr {x x' : Vec Ideal Cert.MoeRefIdeal.S32768x1024 .bf16} {l l' : Vec Ideal Cert.MoeRefIdeal.S32768x8 .f32}
    {u u' : Vec Ideal Cert.MoeRefIdeal.S8x1024x7168 .f32} {w w' : Vec Ideal Cert.MoeRefIdeal.S8x3584x1024 .f32}
    (hx : x = x') (hl : l = l') (hu : u = u') (hw : w = w') : Moe.layerR x l u w = Moe.layerR x' l' u' w' := by
  rw [hx, hl, hu, hw]

/-- The mixture's kernel and the plain program leave the same result for the same arguments. -/
theorem algebraic_MoeIdeal_MoeRefIdeal : algebraic_MoeIdeal_MoeRefIdeal := by
  intro m ρ m' ρ' _ hagree
  refine ⟨_, (θ_run Cert.MoeIdeal.defs _ _).mono (fun _ h => h.1) (Cert.MoeIdeal.Hand.run_value (F := Ideal) m ρ Cert.MoeIdeal.Hand.castOk_ideal), ?_⟩
  refine (θ_run Cert.MoeRefIdeal.defs _ _).mono (fun _ h c => ⟨?_, (h c).2⟩) (Cert.MoeRefIdeal.Value.run (F := Ideal) m' ρ')
  rw [(h c).1]
  obtain ⟨h0, h1, h2, h3⟩ := hagree c
  refine Eq.trans ?_ ((Cert.MoeIdeal.Hand.final7 m (Cert.MoeIdeal.Hand.okM m) c).trans (Cert.MoeIdeal.Hand.result_layer m c)).symm
  refine Eq.trans (b := Moe.layerR (m' (c.tc.loc Cert.MoeRefIdeal.main_arg0)) (m' (c.tc.loc Cert.MoeRefIdeal.main_arg1))
    (m' (c.tc.loc Cert.MoeRefIdeal.main_arg2)) (m' (c.tc.loc Cert.MoeRefIdeal.main_arg3))) rfl ?_
  exact Moe.layerR_congr h0 h1 h2 h3

theorem quiescent_OutRefIdeal : quiescent_OutRefIdeal := fun m ρ _ =>
  (θ_run Cert.OutRefIdeal.defs _ _).mono (fun r h => ⟨fun c => (h c).2, sem_eq_zero_of_no_sems (by decide) r.2⟩)
    (Cert.OutRefIdeal.Value.run (F := Ideal) m ρ)

/-- The last gated add and the plain program leave the same result for the same arguments. -/
theorem algebraic_OutIdeal_OutRefIdeal : algebraic_OutIdeal_OutRefIdeal := by
  intro m ρ m' ρ' _ hagree
  refine ⟨_, Cert.OutIdeal.Value.run_blocks (F := Ideal) m ρ, ?_⟩
  refine (θ_run Cert.OutRefIdeal.defs _ _).mono (fun _ h c => ⟨?_, (h c).2⟩) (Cert.OutRefIdeal.Value.run (F := Ideal) m' ρ')
  rw [(h c).1]
  obtain ⟨h0, h1, h2, h3, h4, h5, h6⟩ := hagree c
  exact Out.agree m m' c h0 h1 h5 h6

theorem quiescent_ProjRefIdeal : quiescent_ProjRefIdeal := fun m ρ _ =>
  (θ_run Cert.ProjRefIdeal.defs _ _).mono (fun r h => ⟨fun c => (h c).2, sem_eq_zero_of_no_sems (by decide) r.2⟩)
    (Cert.ProjRefIdeal.Value.run (F := Ideal) m ρ)

/-- The input projection and the plain program leave the same result for the same arguments. -/
theorem algebraic_ProjIdeal_ProjRefIdeal : algebraic_ProjIdeal_ProjRefIdeal := by
  intro m ρ m' ρ' _ hagree
  refine ⟨_, Cert.ProjIdeal.Value.run (F := Ideal) m ρ, ?_⟩
  refine (θ_run Cert.ProjRefIdeal.defs _ _).mono (fun _ h c => ⟨?_, (h c).2⟩) (Cert.ProjRefIdeal.Value.run (F := Ideal) m' ρ')
  rw [(h c).1]
  obtain ⟨h0, h1, h2, h3, h4, h5⟩ := hagree c
  exact Proj.agree m m' c h0 h1 h2 h3 h5

theorem quiescent_MixRefIdeal : quiescent_MixRefIdeal := fun m ρ _ =>
  (θ_run Cert.MixRefIdeal.defs _ _).mono (fun r h => ⟨fun c => (h c).2, sem_eq_zero_of_no_sems (by decide) r.2⟩)
    (Cert.MixRefIdeal.Value.run (F := Ideal) m ρ)

/-- The output projection and the plain program leave the same result for the same arguments. -/
theorem algebraic_MixIdeal_MixRefIdeal : algebraic_MixIdeal_MixRefIdeal := by
  intro m ρ m' ρ' _ hagree
  refine ⟨_, Cert.MixIdeal.Value.run_blocks (F := Ideal) m ρ, ?_⟩
  refine (θ_run Cert.MixRefIdeal.defs _ _).mono (fun _ h c => ⟨?_, (h c).2⟩) (Cert.MixRefIdeal.Value.run (F := Ideal) m' ρ')
  rw [(h c).1]
  obtain ⟨h0, h1, h2, h3, h4, h5, h6, h7⟩ := hagree c
  exact Mix.agree m m' c h0 h1 h5 h6 h7

theorem quiescent_RouteRefIdeal : quiescent_RouteRefIdeal := fun m ρ _ =>
  (θ_run Cert.RouteRefIdeal.defs _ _).mono (fun r h => ⟨fun c => (h c).2.2, sem_eq_zero_of_no_sems (by decide) r.2⟩)
    (Cert.RouteRefIdeal.Value.run (F := Ideal) m ρ)

/-- The norm with its router and the plain program leave the same results for the same arguments. -/
theorem algebraic_RouteIdeal_RouteRefIdeal : algebraic_RouteIdeal_RouteRefIdeal := by
  intro m ρ m' ρ' _ hagree
  refine ⟨_, _, Cert.RouteIdeal.Value.run_blocks (F := Ideal) m ρ, ?_⟩
  refine (θ_run Cert.RouteRefIdeal.defs _ _).mono (fun _ h c => ⟨?_, ?_, (h c).2.2⟩) (Cert.RouteRefIdeal.Value.run (F := Ideal) m' ρ')
  · rw [(h c).1]
    obtain ⟨h0, h1, h2, h3, h4, h5⟩ := hagree c
    exact Route.agree_rows m m' c h0 h1 h2 h3
  · rw [(h c).2.1]
    obtain ⟨h0, h1, h2, h3, h4, h5⟩ := hagree c
    exact Route.agree_scores m m' c h0 h1 h2 h3 h5

theorem quiescent_ConvRefIdeal : quiescent_ConvRefIdeal := fun m ρ _ =>
  (θ_run Cert.ConvRefIdeal.defs _ _).mono (fun r h => ⟨fun c => (h c).2, sem_eq_zero_of_no_sems (by decide) r.2⟩)
    (Cert.ConvRefIdeal.Value.run (F := Ideal) m ρ)

/-- The input projection with its convolution and the plain program leave the same result for the same arguments. -/
theorem algebraic_ConvIdeal_ConvRefIdeal : algebraic_ConvIdeal_ConvRefIdeal := by
  intro m ρ m' ρ' _ hagree
  refine ⟨_, Cert.ConvIdeal.Value.run (F := Ideal) m ρ, ?_⟩
  refine (θ_run Cert.ConvRefIdeal.defs _ _).mono (fun _ h c => ⟨?_, (h c).2⟩) (Cert.ConvRefIdeal.Value.run (F := Ideal) m' ρ')
  rw [(h c).1]
  obtain ⟨h0, h1, h2, h3, h4, h5, h6, h7, h8⟩ := hagree c
  exact (Conv.res_eq m' c).trans (Conv.agree m m' c h0 h1 h2 h3 h5 h6 h7 h8)

theorem claim : Cert.Claim := ⟨Cert.Ffn.Gen.facts, Cert.FfnIdeal.Gen.facts, Cert.FfnRefIdeal.Gen.facts,
  Cert.Moe.Gen.facts, Cert.MoeIdeal.Gen.facts, Cert.MoeRefIdeal.Gen.facts,
  Cert.Out.Gen.facts, Cert.OutIdeal.Gen.facts, Cert.OutRefIdeal.Gen.facts,
  Cert.Route.Gen.facts, Cert.RouteIdeal.Gen.facts, Cert.RouteRefIdeal.Gen.facts,
  Cert.Proj.Gen.facts, Cert.ProjIdeal.Gen.facts, Cert.ProjRefIdeal.Gen.facts,
  Cert.Mix.Gen.facts, Cert.MixIdeal.Gen.facts, Cert.MixRefIdeal.Gen.facts,
  Cert.Conv.Gen.facts, Cert.ConvIdeal.Gen.facts, Cert.ConvRefIdeal.Gen.facts,
  fun m ρ _ => Cert.Ffn.Gen.frame m ρ, fun m ρ _ => Cert.FfnIdeal.Gen.frame m ρ, quiescent_FfnRefIdeal,
  quiescent_Moe, quiescent_MoeIdeal, quiescent_MoeRefIdeal,
  fun m ρ _ => Cert.Out.Gen.frame m ρ, fun m ρ _ => Cert.OutIdeal.Gen.frame m ρ, quiescent_OutRefIdeal,
  fun m ρ _ => Cert.Route.Gen.frame m ρ, fun m ρ _ => Cert.RouteIdeal.Gen.frame m ρ, quiescent_RouteRefIdeal,
  fun m ρ _ => Cert.Proj.Gen.frame m ρ, fun m ρ _ => Cert.ProjIdeal.Gen.frame m ρ, quiescent_ProjRefIdeal,
  fun m ρ _ => Cert.Mix.Gen.frame m ρ, fun m ρ _ => Cert.MixIdeal.Gen.frame m ρ, quiescent_MixRefIdeal,
  fun m ρ _ => Cert.Conv.Gen.frame m ρ, fun m ρ _ => Cert.ConvIdeal.Gen.frame m ρ, quiescent_ConvRefIdeal,
  (trivial : preserves_Ffn_FfnIdeal), algebraic_FfnIdeal_FfnRefIdeal,
  (trivial : preserves_Moe_MoeIdeal), algebraic_MoeIdeal_MoeRefIdeal,
  (trivial : preserves_Out_OutIdeal), algebraic_OutIdeal_OutRefIdeal,
  (trivial : preserves_Route_RouteIdeal), algebraic_RouteIdeal_RouteRefIdeal,
  (trivial : preserves_Proj_ProjIdeal), algebraic_ProjIdeal_ProjRefIdeal,
  (trivial : preserves_Mix_MixIdeal), algebraic_MixIdeal_MixRefIdeal,
  (trivial : preserves_Conv_ConvIdeal), algebraic_ConvIdeal_ConvRefIdeal⟩

end Cert.Proof

end
